-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxReferenceIdeal (m : (ℓ : Loc Cert.Mlp2DxReferenceIdeal.nD Cert.Mlp2DxReferenceIdeal.τ Cert.Mlp2DxReferenceIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwReferenceIdeal (m : (ℓ : Loc Cert.Mlp2DwReferenceIdeal.nD Cert.Mlp2DwReferenceIdeal.τ Cert.Mlp2DwReferenceIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxReferenceIdeal (m : (ℓ : Loc Cert.Mlp1DxReferenceIdeal.nD Cert.Mlp1DxReferenceIdeal.τ Cert.Mlp1DxReferenceIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwReferenceIdeal (m : (ℓ : Loc Cert.Mlp1DwReferenceIdeal.nD Cert.Mlp1DwReferenceIdeal.τ Cert.Mlp1DwReferenceIdeal.sig) → Buf (Elt Ideal) ℓ) : Prop :=
  True

def Pre_WInDx (m : (ℓ : Loc Cert.WInDx.nD Cert.WInDx.τ Cert.WInDx.sig) → Buf (Elt Bits) ℓ) : Prop :=
  True

def Pre_WInDxIdeal (m : (ℓ : Loc Cert.WInDxIdeal.nD Cert.WInDxIdeal.τ Cert.WInDxIdeal.sig) → Buf (Elt Ideal) ℓ) : Prop :=
  True

def Pre_WInDxReferenceIdeal (m : (ℓ : Loc Cert.WInDxReferenceIdeal.nD Cert.WInDxReferenceIdeal.τ Cert.WInDxReferenceIdeal.sig) → Buf (Elt Ideal) ℓ) : Prop :=
  True

def Pre_WInDw (m : (ℓ : Loc Cert.WInDw.nD Cert.WInDw.τ Cert.WInDw.sig) → Buf (Elt Bits) ℓ) : Prop :=
  True

def Pre_WInDwIdeal (m : (ℓ : Loc Cert.WInDwIdeal.nD Cert.WInDwIdeal.τ Cert.WInDwIdeal.sig) → Buf (Elt Ideal) ℓ) : Prop :=
  True

def Pre_WInDwReferenceIdeal (m : (ℓ : Loc Cert.WInDwReferenceIdeal.nD Cert.WInDwReferenceIdeal.τ Cert.WInDwReferenceIdeal.sig) → Buf (Elt Ideal) ℓ) : Prop :=
  True

def Pre_WOutDx (m : (ℓ : Loc Cert.WOutDx.nD Cert.WOutDx.τ Cert.WOutDx.sig) → Buf (Elt Bits) ℓ) : Prop :=
  True

def Pre_WOutDxIdeal (m : (ℓ : Loc Cert.WOutDxIdeal.nD Cert.WOutDxIdeal.τ Cert.WOutDxIdeal.sig) → Buf (Elt Ideal) ℓ) : Prop :=
  True

def Pre_WOutDxReferenceIdeal (m : (ℓ : Loc Cert.WOutDxReferenceIdeal.nD Cert.WOutDxReferenceIdeal.τ Cert.WOutDxReferenceIdeal.sig) → Buf (Elt Ideal) ℓ) : Prop :=
  True

def Pre_WOutDw (m : (ℓ : Loc Cert.WOutDw.nD Cert.WOutDw.τ Cert.WOutDw.sig) → Buf (Elt Bits) ℓ) : Prop :=
  True

def Pre_WOutDwIdeal (m : (ℓ : Loc Cert.WOutDwIdeal.nD Cert.WOutDwIdeal.τ Cert.WOutDwIdeal.sig) → Buf (Elt Ideal) ℓ) : Prop :=
  True

def Pre_WOutDwReferenceIdeal (m : (ℓ : Loc Cert.WOutDwReferenceIdeal.nD Cert.WOutDwReferenceIdeal.τ Cert.WOutDwReferenceIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwReferenceIdeal (m : (ℓ : Loc Cert.GluDwReferenceIdeal.nD Cert.GluDwReferenceIdeal.τ Cert.GluDwReferenceIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1ReferenceIdeal (m : (ℓ : Loc Cert.Mlp1ReferenceIdeal.nD Cert.Mlp1ReferenceIdeal.τ Cert.Mlp1ReferenceIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2ReferenceIdeal (m : (ℓ : Loc Cert.Mlp2ReferenceIdeal.nD Cert.Mlp2ReferenceIdeal.τ Cert.Mlp2ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdReferenceIdeal (m : (ℓ : Loc Cert.ConvBwdReferenceIdeal.nD Cert.ConvBwdReferenceIdeal.τ Cert.ConvBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2)
      ∧ r.2.mem ((c.tc : Thread Cert.Mlp2Dx.nD Cert.Mlp2Dx.τ).loc Cert.Mlp2Dx.main_arg3) = m ((c.tc : Thread Cert.Mlp2Dx.nD Cert.Mlp2Dx.τ).loc Cert.Mlp2Dx.main_arg3))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
      ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ r.2.sem = fun _ => 0)

def quiescent_Mlp2DxReferenceIdeal [hMlp2DxReferenceIdeal : Cert.Mlp2DxReferenceIdeal.Facts] : Prop :=
  ∀ (m : (ℓ : Loc Cert.Mlp2DxReferenceIdeal.nD Cert.Mlp2DxReferenceIdeal.τ Cert.Mlp2DxReferenceIdeal.sig) → Buf (Elt Ideal) ℓ) (g : Dev Cert.Mlp2DxReferenceIdeal.nD → PrngReg), Pre_Mlp2DxReferenceIdeal m →
    θ_run (Cert.Mlp2DxReferenceIdeal.defs (F := Ideal)) (onTc (τ := Cert.Mlp2DxReferenceIdeal.τ) (Cert.Mlp2DxReferenceIdeal.main (F := Ideal))) ⟨m, fun _ => 0, g⟩ (fun r => (∀ c : Dev Cert.Mlp2DxReferenceIdeal.nD,
      r.2.mem ((c.tc : Thread Cert.Mlp2DxReferenceIdeal.nD Cert.Mlp2DxReferenceIdeal.τ).loc Cert.Mlp2DxReferenceIdeal.main_arg0) = m ((c.tc : Thread Cert.Mlp2DxReferenceIdeal.nD Cert.Mlp2DxReferenceIdeal.τ).loc Cert.Mlp2DxReferenceIdeal.main_arg0)
      ∧ r.2.mem ((c.tc : Thread Cert.Mlp2DxReferenceIdeal.nD Cert.Mlp2DxReferenceIdeal.τ).loc Cert.Mlp2DxReferenceIdeal.main_arg1) = m ((c.tc : Thread Cert.Mlp2DxReferenceIdeal.nD Cert.Mlp2DxReferenceIdeal.τ).loc Cert.Mlp2DxReferenceIdeal.main_arg1)
      ∧ r.2.mem ((c.tc : Thread Cert.Mlp2DxReferenceIdeal.nD Cert.Mlp2DxReferenceIdeal.τ).loc Cert.Mlp2DxReferenceIdeal.main_arg2) = m ((c.tc : Thread Cert.Mlp2DxReferenceIdeal.nD Cert.Mlp2DxReferenceIdeal.τ).loc Cert.Mlp2DxReferenceIdeal.main_arg2)
      ∧ r.2.mem ((c.tc : Thread Cert.Mlp2DxReferenceIdeal.nD Cert.Mlp2DxReferenceIdeal.τ).loc Cert.Mlp2DxReferenceIdeal.main_arg3) = m ((c.tc : Thread Cert.Mlp2DxReferenceIdeal.nD Cert.Mlp2DxReferenceIdeal.τ).loc Cert.Mlp2DxReferenceIdeal.main_arg3))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1)
      ∧ r.2.mem ((c.tc : Thread Cert.Mlp2Dw.nD Cert.Mlp2Dw.τ).loc Cert.Mlp2Dw.main_arg2) = m ((c.tc : Thread Cert.Mlp2Dw.nD Cert.Mlp2Dw.τ).loc Cert.Mlp2Dw.main_arg2)
      ∧ r.2.mem ((c.tc : Thread Cert.Mlp2Dw.nD Cert.Mlp2Dw.τ).loc Cert.Mlp2Dw.main_arg3) = m ((c.tc : Thread Cert.Mlp2Dw.nD Cert.Mlp2Dw.τ).loc Cert.Mlp2Dw.main_arg3))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
      ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2)
      ∧ r.2.mem ((c.tc : Thread Cert.Mlp2DwIdeal.nD Cert.Mlp2DwIdeal.τ).loc Cert.Mlp2DwIdeal.main_arg3) = m ((c.tc : Thread Cert.Mlp2DwIdeal.nD Cert.Mlp2DwIdeal.τ).loc Cert.Mlp2DwIdeal.main_arg3))
      ∧ r.2.sem = fun _ => 0)

def quiescent_Mlp2DwReferenceIdeal [hMlp2DwReferenceIdeal : Cert.Mlp2DwReferenceIdeal.Facts] : Prop :=
  ∀ (m : (ℓ : Loc Cert.Mlp2DwReferenceIdeal.nD Cert.Mlp2DwReferenceIdeal.τ Cert.Mlp2DwReferenceIdeal.sig) → Buf (Elt Ideal) ℓ) (g : Dev Cert.Mlp2DwReferenceIdeal.nD → PrngReg), Pre_Mlp2DwReferenceIdeal m →
    θ_run (Cert.Mlp2DwReferenceIdeal.defs (F := Ideal)) (onTc (τ := Cert.Mlp2DwReferenceIdeal.τ) (Cert.Mlp2DwReferenceIdeal.main (F := Ideal))) ⟨m, fun _ => 0, g⟩ (fun r => (∀ c : Dev Cert.Mlp2DwReferenceIdeal.nD,
      r.2.mem ((c.tc : Thread Cert.Mlp2DwReferenceIdeal.nD Cert.Mlp2DwReferenceIdeal.τ).loc Cert.Mlp2DwReferenceIdeal.main_arg0) = m ((c.tc : Thread Cert.Mlp2DwReferenceIdeal.nD Cert.Mlp2DwReferenceIdeal.τ).loc Cert.Mlp2DwReferenceIdeal.main_arg0)
      ∧ r.2.mem ((c.tc : Thread Cert.Mlp2DwReferenceIdeal.nD Cert.Mlp2DwReferenceIdeal.τ).loc Cert.Mlp2DwReferenceIdeal.main_arg1) = m ((c.tc : Thread Cert.Mlp2DwReferenceIdeal.nD Cert.Mlp2DwReferenceIdeal.τ).loc Cert.Mlp2DwReferenceIdeal.main_arg1)
      ∧ r.2.mem ((c.tc : Thread Cert.Mlp2DwReferenceIdeal.nD Cert.Mlp2DwReferenceIdeal.τ).loc Cert.Mlp2DwReferenceIdeal.main_arg2) = m ((c.tc : Thread Cert.Mlp2DwReferenceIdeal.nD Cert.Mlp2DwReferenceIdeal.τ).loc Cert.Mlp2DwReferenceIdeal.main_arg2)
      ∧ r.2.mem ((c.tc : Thread Cert.Mlp2DwReferenceIdeal.nD Cert.Mlp2DwReferenceIdeal.τ).loc Cert.Mlp2DwReferenceIdeal.main_arg3) = m ((c.tc : Thread Cert.Mlp2DwReferenceIdeal.nD Cert.Mlp2DwReferenceIdeal.τ).loc Cert.Mlp2DwReferenceIdeal.main_arg3))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1)
      ∧ r.2.mem ((c.tc : Thread Cert.Mlp1Dx.nD Cert.Mlp1Dx.τ).loc Cert.Mlp1Dx.main_arg2) = m ((c.tc : Thread Cert.Mlp1Dx.nD Cert.Mlp1Dx.τ).loc Cert.Mlp1Dx.main_arg2))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
      ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ r.2.sem = fun _ => 0)

def quiescent_Mlp1DxReferenceIdeal [hMlp1DxReferenceIdeal : Cert.Mlp1DxReferenceIdeal.Facts] : Prop :=
  ∀ (m : (ℓ : Loc Cert.Mlp1DxReferenceIdeal.nD Cert.Mlp1DxReferenceIdeal.τ Cert.Mlp1DxReferenceIdeal.sig) → Buf (Elt Ideal) ℓ) (g : Dev Cert.Mlp1DxReferenceIdeal.nD → PrngReg), Pre_Mlp1DxReferenceIdeal m →
    θ_run (Cert.Mlp1DxReferenceIdeal.defs (F := Ideal)) (onTc (τ := Cert.Mlp1DxReferenceIdeal.τ) (Cert.Mlp1DxReferenceIdeal.main (F := Ideal))) ⟨m, fun _ => 0, g⟩ (fun r => (∀ c : Dev Cert.Mlp1DxReferenceIdeal.nD,
      r.2.mem ((c.tc : Thread Cert.Mlp1DxReferenceIdeal.nD Cert.Mlp1DxReferenceIdeal.τ).loc Cert.Mlp1DxReferenceIdeal.main_arg0) = m ((c.tc : Thread Cert.Mlp1DxReferenceIdeal.nD Cert.Mlp1DxReferenceIdeal.τ).loc Cert.Mlp1DxReferenceIdeal.main_arg0)
      ∧ r.2.mem ((c.tc : Thread Cert.Mlp1DxReferenceIdeal.nD Cert.Mlp1DxReferenceIdeal.τ).loc Cert.Mlp1DxReferenceIdeal.main_arg1) = m ((c.tc : Thread Cert.Mlp1DxReferenceIdeal.nD Cert.Mlp1DxReferenceIdeal.τ).loc Cert.Mlp1DxReferenceIdeal.main_arg1)
      ∧ r.2.mem ((c.tc : Thread Cert.Mlp1DxReferenceIdeal.nD Cert.Mlp1DxReferenceIdeal.τ).loc Cert.Mlp1DxReferenceIdeal.main_arg2) = m ((c.tc : Thread Cert.Mlp1DxReferenceIdeal.nD Cert.Mlp1DxReferenceIdeal.τ).loc Cert.Mlp1DxReferenceIdeal.main_arg2))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1)
      ∧ r.2.mem ((c.tc : Thread Cert.Mlp1Dw.nD Cert.Mlp1Dw.τ).loc Cert.Mlp1Dw.main_arg2) = m ((c.tc : Thread Cert.Mlp1Dw.nD Cert.Mlp1Dw.τ).loc Cert.Mlp1Dw.main_arg2))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
      ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ r.2.sem = fun _ => 0)

def quiescent_Mlp1DwReferenceIdeal [hMlp1DwReferenceIdeal : Cert.Mlp1DwReferenceIdeal.Facts] : Prop :=
  ∀ (m : (ℓ : Loc Cert.Mlp1DwReferenceIdeal.nD Cert.Mlp1DwReferenceIdeal.τ Cert.Mlp1DwReferenceIdeal.sig) → Buf (Elt Ideal) ℓ) (g : Dev Cert.Mlp1DwReferenceIdeal.nD → PrngReg), Pre_Mlp1DwReferenceIdeal m →
    θ_run (Cert.Mlp1DwReferenceIdeal.defs (F := Ideal)) (onTc (τ := Cert.Mlp1DwReferenceIdeal.τ) (Cert.Mlp1DwReferenceIdeal.main (F := Ideal))) ⟨m, fun _ => 0, g⟩ (fun r => (∀ c : Dev Cert.Mlp1DwReferenceIdeal.nD,
      r.2.mem ((c.tc : Thread Cert.Mlp1DwReferenceIdeal.nD Cert.Mlp1DwReferenceIdeal.τ).loc Cert.Mlp1DwReferenceIdeal.main_arg0) = m ((c.tc : Thread Cert.Mlp1DwReferenceIdeal.nD Cert.Mlp1DwReferenceIdeal.τ).loc Cert.Mlp1DwReferenceIdeal.main_arg0)
      ∧ r.2.mem ((c.tc : Thread Cert.Mlp1DwReferenceIdeal.nD Cert.Mlp1DwReferenceIdeal.τ).loc Cert.Mlp1DwReferenceIdeal.main_arg1) = m ((c.tc : Thread Cert.Mlp1DwReferenceIdeal.nD Cert.Mlp1DwReferenceIdeal.τ).loc Cert.Mlp1DwReferenceIdeal.main_arg1)
      ∧ r.2.mem ((c.tc : Thread Cert.Mlp1DwReferenceIdeal.nD Cert.Mlp1DwReferenceIdeal.τ).loc Cert.Mlp1DwReferenceIdeal.main_arg2) = m ((c.tc : Thread Cert.Mlp1DwReferenceIdeal.nD Cert.Mlp1DwReferenceIdeal.τ).loc Cert.Mlp1DwReferenceIdeal.main_arg2))
      ∧ r.2.sem = fun _ => 0)

def quiescent_WInDx [hWInDx : Cert.WInDx.Facts] : Prop :=
  ∀ (m : (ℓ : Loc Cert.WInDx.nD Cert.WInDx.τ Cert.WInDx.sig) → Buf (Elt Bits) ℓ) (g : Dev Cert.WInDx.nD → PrngReg), Pre_WInDx m →
    θ_run (Cert.WInDx.defs (F := Bits)) (onTc (τ := Cert.WInDx.τ) (Cert.WInDx.main (F := Bits))) ⟨m, fun _ => 0, g⟩ (fun r => (∀ c : Dev Cert.WInDx.nD,
      r.2.mem ((c.tc : Thread Cert.WInDx.nD Cert.WInDx.τ).loc Cert.WInDx.main_arg0) = m ((c.tc : Thread Cert.WInDx.nD Cert.WInDx.τ).loc Cert.WInDx.main_arg0)
      ∧ r.2.mem ((c.tc : Thread Cert.WInDx.nD Cert.WInDx.τ).loc Cert.WInDx.main_arg1) = m ((c.tc : Thread Cert.WInDx.nD Cert.WInDx.τ).loc Cert.WInDx.main_arg1)
      ∧ r.2.mem ((c.tc : Thread Cert.WInDx.nD Cert.WInDx.τ).loc Cert.WInDx.main_arg2) = m ((c.tc : Thread Cert.WInDx.nD Cert.WInDx.τ).loc Cert.WInDx.main_arg2))
      ∧ r.2.sem = fun _ => 0)

def quiescent_WInDxIdeal [hWInDxIdeal : Cert.WInDxIdeal.Facts] : Prop :=
  ∀ (m : (ℓ : Loc Cert.WInDxIdeal.nD Cert.WInDxIdeal.τ Cert.WInDxIdeal.sig) → Buf (Elt Ideal) ℓ) (g : Dev Cert.WInDxIdeal.nD → PrngReg), Pre_WInDxIdeal m →
    θ_run (Cert.WInDxIdeal.defs (F := Ideal)) (onTc (τ := Cert.WInDxIdeal.τ) (Cert.WInDxIdeal.main (F := Ideal))) ⟨m, fun _ => 0, g⟩ (fun r => (∀ c : Dev Cert.WInDxIdeal.nD,
      r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
      ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1)
      ∧ r.2.mem ((c.tc : Thread Cert.WInDxIdeal.nD Cert.WInDxIdeal.τ).loc Cert.WInDxIdeal.main_arg2) = m ((c.tc : Thread Cert.WInDxIdeal.nD Cert.WInDxIdeal.τ).loc Cert.WInDxIdeal.main_arg2))
      ∧ r.2.sem = fun _ => 0)

def quiescent_WInDxReferenceIdeal [hWInDxReferenceIdeal : Cert.WInDxReferenceIdeal.Facts] : Prop :=
  ∀ (m : (ℓ : Loc Cert.WInDxReferenceIdeal.nD Cert.WInDxReferenceIdeal.τ Cert.WInDxReferenceIdeal.sig) → Buf (Elt Ideal) ℓ) (g : Dev Cert.WInDxReferenceIdeal.nD → PrngReg), Pre_WInDxReferenceIdeal m →
    θ_run (Cert.WInDxReferenceIdeal.defs (F := Ideal)) (onTc (τ := Cert.WInDxReferenceIdeal.τ) (Cert.WInDxReferenceIdeal.main (F := Ideal))) ⟨m, fun _ => 0, g⟩ (fun r => (∀ c : Dev Cert.WInDxReferenceIdeal.nD,
      r.2.mem ((c.tc : Thread Cert.WInDxReferenceIdeal.nD Cert.WInDxReferenceIdeal.τ).loc Cert.WInDxReferenceIdeal.main_arg0) = m ((c.tc : Thread Cert.WInDxReferenceIdeal.nD Cert.WInDxReferenceIdeal.τ).loc Cert.WInDxReferenceIdeal.main_arg0)
      ∧ r.2.mem ((c.tc : Thread Cert.WInDxReferenceIdeal.nD Cert.WInDxReferenceIdeal.τ).loc Cert.WInDxReferenceIdeal.main_arg1) = m ((c.tc : Thread Cert.WInDxReferenceIdeal.nD Cert.WInDxReferenceIdeal.τ).loc Cert.WInDxReferenceIdeal.main_arg1)
      ∧ r.2.mem ((c.tc : Thread Cert.WInDxReferenceIdeal.nD Cert.WInDxReferenceIdeal.τ).loc Cert.WInDxReferenceIdeal.main_arg2) = m ((c.tc : Thread Cert.WInDxReferenceIdeal.nD Cert.WInDxReferenceIdeal.τ).loc Cert.WInDxReferenceIdeal.main_arg2))
      ∧ r.2.sem = fun _ => 0)

def quiescent_WInDw [hWInDw : Cert.WInDw.Facts] : Prop :=
  ∀ (m : (ℓ : Loc Cert.WInDw.nD Cert.WInDw.τ Cert.WInDw.sig) → Buf (Elt Bits) ℓ) (g : Dev Cert.WInDw.nD → PrngReg), Pre_WInDw m →
    θ_run (Cert.WInDw.defs (F := Bits)) (onTc (τ := Cert.WInDw.τ) (Cert.WInDw.main (F := Bits))) ⟨m, fun _ => 0, g⟩ (fun r => (∀ c : Dev Cert.WInDw.nD,
      r.2.mem ((c.tc : Thread Cert.WInDw.nD Cert.WInDw.τ).loc Cert.WInDw.main_arg0) = m ((c.tc : Thread Cert.WInDw.nD Cert.WInDw.τ).loc Cert.WInDw.main_arg0)
      ∧ r.2.mem ((c.tc : Thread Cert.WInDw.nD Cert.WInDw.τ).loc Cert.WInDw.main_arg1) = m ((c.tc : Thread Cert.WInDw.nD Cert.WInDw.τ).loc Cert.WInDw.main_arg1)
      ∧ r.2.mem ((c.tc : Thread Cert.WInDw.nD Cert.WInDw.τ).loc Cert.WInDw.main_arg2) = m ((c.tc : Thread Cert.WInDw.nD Cert.WInDw.τ).loc Cert.WInDw.main_arg2))
      ∧ r.2.sem = fun _ => 0)

def quiescent_WInDwIdeal [hWInDwIdeal : Cert.WInDwIdeal.Facts] : Prop :=
  ∀ (m : (ℓ : Loc Cert.WInDwIdeal.nD Cert.WInDwIdeal.τ Cert.WInDwIdeal.sig) → Buf (Elt Ideal) ℓ) (g : Dev Cert.WInDwIdeal.nD → PrngReg), Pre_WInDwIdeal m →
    θ_run (Cert.WInDwIdeal.defs (F := Ideal)) (onTc (τ := Cert.WInDwIdeal.τ) (Cert.WInDwIdeal.main (F := Ideal))) ⟨m, fun _ => 0, g⟩ (fun r => (∀ c : Dev Cert.WInDwIdeal.nD,
      r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
      ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1)
      ∧ r.2.mem ((c.tc : Thread Cert.WInDwIdeal.nD Cert.WInDwIdeal.τ).loc Cert.WInDwIdeal.main_arg2) = m ((c.tc : Thread Cert.WInDwIdeal.nD Cert.WInDwIdeal.τ).loc Cert.WInDwIdeal.main_arg2))
      ∧ r.2.sem = fun _ => 0)

def quiescent_WInDwReferenceIdeal [hWInDwReferenceIdeal : Cert.WInDwReferenceIdeal.Facts] : Prop :=
  ∀ (m : (ℓ : Loc Cert.WInDwReferenceIdeal.nD Cert.WInDwReferenceIdeal.τ Cert.WInDwReferenceIdeal.sig) → Buf (Elt Ideal) ℓ) (g : Dev Cert.WInDwReferenceIdeal.nD → PrngReg), Pre_WInDwReferenceIdeal m →
    θ_run (Cert.WInDwReferenceIdeal.defs (F := Ideal)) (onTc (τ := Cert.WInDwReferenceIdeal.τ) (Cert.WInDwReferenceIdeal.main (F := Ideal))) ⟨m, fun _ => 0, g⟩ (fun r => (∀ c : Dev Cert.WInDwReferenceIdeal.nD,
      r.2.mem ((c.tc : Thread Cert.WInDwReferenceIdeal.nD Cert.WInDwReferenceIdeal.τ).loc Cert.WInDwReferenceIdeal.main_arg0) = m ((c.tc : Thread Cert.WInDwReferenceIdeal.nD Cert.WInDwReferenceIdeal.τ).loc Cert.WInDwReferenceIdeal.main_arg0)
      ∧ r.2.mem ((c.tc : Thread Cert.WInDwReferenceIdeal.nD Cert.WInDwReferenceIdeal.τ).loc Cert.WInDwReferenceIdeal.main_arg1) = m ((c.tc : Thread Cert.WInDwReferenceIdeal.nD Cert.WInDwReferenceIdeal.τ).loc Cert.WInDwReferenceIdeal.main_arg1)
      ∧ r.2.mem ((c.tc : Thread Cert.WInDwReferenceIdeal.nD Cert.WInDwReferenceIdeal.τ).loc Cert.WInDwReferenceIdeal.main_arg2) = m ((c.tc : Thread Cert.WInDwReferenceIdeal.nD Cert.WInDwReferenceIdeal.τ).loc Cert.WInDwReferenceIdeal.main_arg2))
      ∧ r.2.sem = fun _ => 0)

def quiescent_WOutDx [hWOutDx : Cert.WOutDx.Facts] : Prop :=
  ∀ (m : (ℓ : Loc Cert.WOutDx.nD Cert.WOutDx.τ Cert.WOutDx.sig) → Buf (Elt Bits) ℓ) (g : Dev Cert.WOutDx.nD → PrngReg), Pre_WOutDx m →
    θ_run (Cert.WOutDx.defs (F := Bits)) (onTc (τ := Cert.WOutDx.τ) (Cert.WOutDx.main (F := Bits))) ⟨m, fun _ => 0, g⟩ (fun r => (∀ c : Dev Cert.WOutDx.nD,
      r.2.mem ((c.tc : Thread Cert.WOutDx.nD Cert.WOutDx.τ).loc Cert.WOutDx.main_arg0) = m ((c.tc : Thread Cert.WOutDx.nD Cert.WOutDx.τ).loc Cert.WOutDx.main_arg0)
      ∧ r.2.mem ((c.tc : Thread Cert.WOutDx.nD Cert.WOutDx.τ).loc Cert.WOutDx.main_arg1) = m ((c.tc : Thread Cert.WOutDx.nD Cert.WOutDx.τ).loc Cert.WOutDx.main_arg1)
      ∧ r.2.mem ((c.tc : Thread Cert.WOutDx.nD Cert.WOutDx.τ).loc Cert.WOutDx.main_arg2) = m ((c.tc : Thread Cert.WOutDx.nD Cert.WOutDx.τ).loc Cert.WOutDx.main_arg2))
      ∧ r.2.sem = fun _ => 0)

def quiescent_WOutDxIdeal [hWOutDxIdeal : Cert.WOutDxIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg), Pre_WOutDxIdeal m →
    θ_run (Cert.WOutDxIdeal.defs (F := Ideal)) (onTc (τ := Cert.WOutDxIdeal.τ) (Cert.WOutDxIdeal.main (F := Ideal))) ⟨m, fun _ => 0, g⟩ (fun r => (∀ c : Dev Cert.WOutDxIdeal.nD,
      r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
      ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1)
      ∧ r.2.mem ((c.tc : Thread Cert.WOutDxIdeal.nD Cert.WOutDxIdeal.τ).loc Cert.WOutDxIdeal.main_arg2) = m ((c.tc : Thread Cert.WOutDxIdeal.nD Cert.WOutDxIdeal.τ).loc Cert.WOutDxIdeal.main_arg2))
      ∧ r.2.sem = fun _ => 0)

def quiescent_WOutDxReferenceIdeal [hWOutDxReferenceIdeal : Cert.WOutDxReferenceIdeal.Facts] : Prop :=
  ∀ (m : (ℓ : Loc Cert.WOutDxReferenceIdeal.nD Cert.WOutDxReferenceIdeal.τ Cert.WOutDxReferenceIdeal.sig) → Buf (Elt Ideal) ℓ) (g : Dev Cert.WOutDxReferenceIdeal.nD → PrngReg), Pre_WOutDxReferenceIdeal m →
    θ_run (Cert.WOutDxReferenceIdeal.defs (F := Ideal)) (onTc (τ := Cert.WOutDxReferenceIdeal.τ) (Cert.WOutDxReferenceIdeal.main (F := Ideal))) ⟨m, fun _ => 0, g⟩ (fun r => (∀ c : Dev Cert.WOutDxReferenceIdeal.nD,
      r.2.mem ((c.tc : Thread Cert.WOutDxReferenceIdeal.nD Cert.WOutDxReferenceIdeal.τ).loc Cert.WOutDxReferenceIdeal.main_arg0) = m ((c.tc : Thread Cert.WOutDxReferenceIdeal.nD Cert.WOutDxReferenceIdeal.τ).loc Cert.WOutDxReferenceIdeal.main_arg0)
      ∧ r.2.mem ((c.tc : Thread Cert.WOutDxReferenceIdeal.nD Cert.WOutDxReferenceIdeal.τ).loc Cert.WOutDxReferenceIdeal.main_arg1) = m ((c.tc : Thread Cert.WOutDxReferenceIdeal.nD Cert.WOutDxReferenceIdeal.τ).loc Cert.WOutDxReferenceIdeal.main_arg1)
      ∧ r.2.mem ((c.tc : Thread Cert.WOutDxReferenceIdeal.nD Cert.WOutDxReferenceIdeal.τ).loc Cert.WOutDxReferenceIdeal.main_arg2) = m ((c.tc : Thread Cert.WOutDxReferenceIdeal.nD Cert.WOutDxReferenceIdeal.τ).loc Cert.WOutDxReferenceIdeal.main_arg2))
      ∧ r.2.sem = fun _ => 0)

def quiescent_WOutDw [hWOutDw : Cert.WOutDw.Facts] : Prop :=
  ∀ (m : (ℓ : Loc Cert.WOutDw.nD Cert.WOutDw.τ Cert.WOutDw.sig) → Buf (Elt Bits) ℓ) (g : Dev Cert.WOutDw.nD → PrngReg), Pre_WOutDw m →
    θ_run (Cert.WOutDw.defs (F := Bits)) (onTc (τ := Cert.WOutDw.τ) (Cert.WOutDw.main (F := Bits))) ⟨m, fun _ => 0, g⟩ (fun r => (∀ c : Dev Cert.WOutDw.nD,
      r.2.mem ((c.tc : Thread Cert.WOutDw.nD Cert.WOutDw.τ).loc Cert.WOutDw.main_arg0) = m ((c.tc : Thread Cert.WOutDw.nD Cert.WOutDw.τ).loc Cert.WOutDw.main_arg0)
      ∧ r.2.mem ((c.tc : Thread Cert.WOutDw.nD Cert.WOutDw.τ).loc Cert.WOutDw.main_arg1) = m ((c.tc : Thread Cert.WOutDw.nD Cert.WOutDw.τ).loc Cert.WOutDw.main_arg1)
      ∧ r.2.mem ((c.tc : Thread Cert.WOutDw.nD Cert.WOutDw.τ).loc Cert.WOutDw.main_arg2) = m ((c.tc : Thread Cert.WOutDw.nD Cert.WOutDw.τ).loc Cert.WOutDw.main_arg2))
      ∧ r.2.sem = fun _ => 0)

def quiescent_WOutDwIdeal [hWOutDwIdeal : Cert.WOutDwIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg), Pre_WOutDwIdeal m →
    θ_run (Cert.WOutDwIdeal.defs (F := Ideal)) (onTc (τ := Cert.WOutDwIdeal.τ) (Cert.WOutDwIdeal.main (F := Ideal))) ⟨m, fun _ => 0, g⟩ (fun r => (∀ c : Dev Cert.WOutDwIdeal.nD,
      r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
      ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1)
      ∧ r.2.mem ((c.tc : Thread Cert.WOutDwIdeal.nD Cert.WOutDwIdeal.τ).loc Cert.WOutDwIdeal.main_arg2) = m ((c.tc : Thread Cert.WOutDwIdeal.nD Cert.WOutDwIdeal.τ).loc Cert.WOutDwIdeal.main_arg2))
      ∧ r.2.sem = fun _ => 0)

def quiescent_WOutDwReferenceIdeal [hWOutDwReferenceIdeal : Cert.WOutDwReferenceIdeal.Facts] : Prop :=
  ∀ (m : (ℓ : Loc Cert.WOutDwReferenceIdeal.nD Cert.WOutDwReferenceIdeal.τ Cert.WOutDwReferenceIdeal.sig) → Buf (Elt Ideal) ℓ) (g : Dev Cert.WOutDwReferenceIdeal.nD → PrngReg), Pre_WOutDwReferenceIdeal m →
    θ_run (Cert.WOutDwReferenceIdeal.defs (F := Ideal)) (onTc (τ := Cert.WOutDwReferenceIdeal.τ) (Cert.WOutDwReferenceIdeal.main (F := Ideal))) ⟨m, fun _ => 0, g⟩ (fun r => (∀ c : Dev Cert.WOutDwReferenceIdeal.nD,
      r.2.mem ((c.tc : Thread Cert.WOutDwReferenceIdeal.nD Cert.WOutDwReferenceIdeal.τ).loc Cert.WOutDwReferenceIdeal.main_arg0) = m ((c.tc : Thread Cert.WOutDwReferenceIdeal.nD Cert.WOutDwReferenceIdeal.τ).loc Cert.WOutDwReferenceIdeal.main_arg0)
      ∧ r.2.mem ((c.tc : Thread Cert.WOutDwReferenceIdeal.nD Cert.WOutDwReferenceIdeal.τ).loc Cert.WOutDwReferenceIdeal.main_arg1) = m ((c.tc : Thread Cert.WOutDwReferenceIdeal.nD Cert.WOutDwReferenceIdeal.τ).loc Cert.WOutDwReferenceIdeal.main_arg1)
      ∧ r.2.mem ((c.tc : Thread Cert.WOutDwReferenceIdeal.nD Cert.WOutDwReferenceIdeal.τ).loc Cert.WOutDwReferenceIdeal.main_arg2) = m ((c.tc : Thread Cert.WOutDwReferenceIdeal.nD Cert.WOutDwReferenceIdeal.τ).loc Cert.WOutDwReferenceIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1)
      ∧ r.2.mem ((c.tc : Thread Cert.GluDw.nD Cert.GluDw.τ).loc Cert.GluDw.main_arg2) = m ((c.tc : Thread Cert.GluDw.nD Cert.GluDw.τ).loc Cert.GluDw.main_arg2))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
      ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ r.2.sem = fun _ => 0)

def quiescent_GluDwReferenceIdeal [hGluDwReferenceIdeal : Cert.GluDwReferenceIdeal.Facts] : Prop :=
  ∀ (m : (ℓ : Loc Cert.GluDwReferenceIdeal.nD Cert.GluDwReferenceIdeal.τ Cert.GluDwReferenceIdeal.sig) → Buf (Elt Ideal) ℓ) (g : Dev Cert.GluDwReferenceIdeal.nD → PrngReg), Pre_GluDwReferenceIdeal m →
    θ_run (Cert.GluDwReferenceIdeal.defs (F := Ideal)) (onTc (τ := Cert.GluDwReferenceIdeal.τ) (Cert.GluDwReferenceIdeal.main (F := Ideal))) ⟨m, fun _ => 0, g⟩ (fun r => (∀ c : Dev Cert.GluDwReferenceIdeal.nD,
      r.2.mem ((c.tc : Thread Cert.GluDwReferenceIdeal.nD Cert.GluDwReferenceIdeal.τ).loc Cert.GluDwReferenceIdeal.main_arg0) = m ((c.tc : Thread Cert.GluDwReferenceIdeal.nD Cert.GluDwReferenceIdeal.τ).loc Cert.GluDwReferenceIdeal.main_arg0)
      ∧ r.2.mem ((c.tc : Thread Cert.GluDwReferenceIdeal.nD Cert.GluDwReferenceIdeal.τ).loc Cert.GluDwReferenceIdeal.main_arg1) = m ((c.tc : Thread Cert.GluDwReferenceIdeal.nD Cert.GluDwReferenceIdeal.τ).loc Cert.GluDwReferenceIdeal.main_arg1)
      ∧ r.2.mem ((c.tc : Thread Cert.GluDwReferenceIdeal.nD Cert.GluDwReferenceIdeal.τ).loc Cert.GluDwReferenceIdeal.main_arg2) = m ((c.tc : Thread Cert.GluDwReferenceIdeal.nD Cert.GluDwReferenceIdeal.τ).loc Cert.GluDwReferenceIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ r.2.sem = fun _ => 0)

def quiescent_Mlp1ReferenceIdeal [hMlp1ReferenceIdeal : Cert.Mlp1ReferenceIdeal.Facts] : Prop :=
  ∀ (m : (ℓ : Loc Cert.Mlp1ReferenceIdeal.nD Cert.Mlp1ReferenceIdeal.τ Cert.Mlp1ReferenceIdeal.sig) → Buf (Elt Ideal) ℓ) (g : Dev Cert.Mlp1ReferenceIdeal.nD → PrngReg), Pre_Mlp1ReferenceIdeal m →
    θ_run (Cert.Mlp1ReferenceIdeal.defs (F := Ideal)) (onTc (τ := Cert.Mlp1ReferenceIdeal.τ) (Cert.Mlp1ReferenceIdeal.main (F := Ideal))) ⟨m, fun _ => 0, g⟩ (fun r => (∀ c : Dev Cert.Mlp1ReferenceIdeal.nD,
      r.2.mem ((c.tc : Thread Cert.Mlp1ReferenceIdeal.nD Cert.Mlp1ReferenceIdeal.τ).loc Cert.Mlp1ReferenceIdeal.main_arg0) = m ((c.tc : Thread Cert.Mlp1ReferenceIdeal.nD Cert.Mlp1ReferenceIdeal.τ).loc Cert.Mlp1ReferenceIdeal.main_arg0)
      ∧ r.2.mem ((c.tc : Thread Cert.Mlp1ReferenceIdeal.nD Cert.Mlp1ReferenceIdeal.τ).loc Cert.Mlp1ReferenceIdeal.main_arg1) = m ((c.tc : Thread Cert.Mlp1ReferenceIdeal.nD Cert.Mlp1ReferenceIdeal.τ).loc Cert.Mlp1ReferenceIdeal.main_arg1)
      ∧ r.2.mem ((c.tc : Thread Cert.Mlp1ReferenceIdeal.nD Cert.Mlp1ReferenceIdeal.τ).loc Cert.Mlp1ReferenceIdeal.main_arg2) = m ((c.tc : Thread Cert.Mlp1ReferenceIdeal.nD Cert.Mlp1ReferenceIdeal.τ).loc Cert.Mlp1ReferenceIdeal.main_arg2))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2))
      ∧ r.2.sem = fun _ => 0)

def quiescent_Mlp2ReferenceIdeal [hMlp2ReferenceIdeal : Cert.Mlp2ReferenceIdeal.Facts] : Prop :=
  ∀ (m : (ℓ : Loc Cert.Mlp2ReferenceIdeal.nD Cert.Mlp2ReferenceIdeal.τ Cert.Mlp2ReferenceIdeal.sig) → Buf (Elt Ideal) ℓ) (g : Dev Cert.Mlp2ReferenceIdeal.nD → PrngReg), Pre_Mlp2ReferenceIdeal m →
    θ_run (Cert.Mlp2ReferenceIdeal.defs (F := Ideal)) (onTc (τ := Cert.Mlp2ReferenceIdeal.τ) (Cert.Mlp2ReferenceIdeal.main (F := Ideal))) ⟨m, fun _ => 0, g⟩ (fun r => (∀ c : Dev Cert.Mlp2ReferenceIdeal.nD,
      r.2.mem ((c.tc : Thread Cert.Mlp2ReferenceIdeal.nD Cert.Mlp2ReferenceIdeal.τ).loc Cert.Mlp2ReferenceIdeal.main_arg0) = m ((c.tc : Thread Cert.Mlp2ReferenceIdeal.nD Cert.Mlp2ReferenceIdeal.τ).loc Cert.Mlp2ReferenceIdeal.main_arg0)
      ∧ r.2.mem ((c.tc : Thread Cert.Mlp2ReferenceIdeal.nD Cert.Mlp2ReferenceIdeal.τ).loc Cert.Mlp2ReferenceIdeal.main_arg1) = m ((c.tc : Thread Cert.Mlp2ReferenceIdeal.nD Cert.Mlp2ReferenceIdeal.τ).loc Cert.Mlp2ReferenceIdeal.main_arg1)
      ∧ r.2.mem ((c.tc : Thread Cert.Mlp2ReferenceIdeal.nD Cert.Mlp2ReferenceIdeal.τ).loc Cert.Mlp2ReferenceIdeal.main_arg2) = m ((c.tc : Thread Cert.Mlp2ReferenceIdeal.nD Cert.Mlp2ReferenceIdeal.τ).loc Cert.Mlp2ReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdReferenceIdeal [hConvBwdReferenceIdeal : Cert.ConvBwdReferenceIdeal.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2)
      ∧ r.2.mem ((c.tc : Thread Cert.ConvBwdReferenceIdeal.nD Cert.ConvBwdReferenceIdeal.τ).loc Cert.ConvBwdReferenceIdeal.main_arg3) = m ((c.tc : Thread Cert.ConvBwdReferenceIdeal.nD Cert.ConvBwdReferenceIdeal.τ).loc Cert.ConvBwdReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)) (v6 : (c : Dev Cert.KernelIdeal.nD) → Buf (Elt Ideal) ((c.tc : Thread Cert.KernelIdeal.nD Cert.KernelIdeal.τ).loc Cert.KernelIdeal.main_v24_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_v24_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_v95) = v5 c
          ∧ r.2.mem ((c.tc : Thread Cert.ReferenceIdeal.nD Cert.ReferenceIdeal.τ).loc Cert.ReferenceIdeal.main_v128) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Mlp2Dx_Mlp2DxIdeal : Prop :=
  True

def algebraic_Mlp2DxIdeal_Mlp2DxReferenceIdeal [hMlp2DxIdeal : Cert.Mlp2DxIdeal.Facts] [hMlp2DxReferenceIdeal : Cert.Mlp2DxReferenceIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxReferenceIdeal.nD Cert.Mlp2DxReferenceIdeal.τ Cert.Mlp2DxReferenceIdeal.sig) → Buf (Elt Ideal) ℓ) (g' : Dev Cert.Mlp2DxReferenceIdeal.nD → PrngReg), Pre_Mlp2DxIdeal m →
    (∀ c : Dev Cert.Mlp2DxIdeal.nD,
      m' ((c.tc : Thread Cert.Mlp2DxReferenceIdeal.nD Cert.Mlp2DxReferenceIdeal.τ).loc Cert.Mlp2DxReferenceIdeal.main_arg0) = m ((c.tc : Thread Cert.Mlp2DxIdeal.nD Cert.Mlp2DxIdeal.τ).loc Cert.Mlp2DxIdeal.main_arg0)
      ∧ m' ((c.tc : Thread Cert.Mlp2DxReferenceIdeal.nD Cert.Mlp2DxReferenceIdeal.τ).loc Cert.Mlp2DxReferenceIdeal.main_arg1) = m ((c.tc : Thread Cert.Mlp2DxIdeal.nD Cert.Mlp2DxIdeal.τ).loc Cert.Mlp2DxIdeal.main_arg1)
      ∧ m' ((c.tc : Thread Cert.Mlp2DxReferenceIdeal.nD Cert.Mlp2DxReferenceIdeal.τ).loc Cert.Mlp2DxReferenceIdeal.main_arg2) = m ((c.tc : Thread Cert.Mlp2DxIdeal.nD Cert.Mlp2DxIdeal.τ).loc Cert.Mlp2DxIdeal.main_arg2)
      ∧ m' ((c.tc : Thread Cert.Mlp2DxReferenceIdeal.nD Cert.Mlp2DxReferenceIdeal.τ).loc Cert.Mlp2DxReferenceIdeal.main_arg3) = m ((c.tc : Thread Cert.Mlp2DxIdeal.nD Cert.Mlp2DxIdeal.τ).loc Cert.Mlp2DxIdeal.main_arg3)) →
    ∃ (v0 : (c : Dev Cert.Mlp2DxIdeal.nD) → Buf (Elt Ideal) ((c.tc : Thread Cert.Mlp2DxIdeal.nD Cert.Mlp2DxIdeal.τ).loc Cert.Mlp2DxIdeal.main_v9_0)) (v1 : (c : Dev Cert.Mlp2DxIdeal.nD) → Buf (Elt Ideal) ((c.tc : Thread Cert.Mlp2DxIdeal.nD Cert.Mlp2DxIdeal.τ).loc Cert.Mlp2DxIdeal.main_v9_1)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v9_0) = v0 c
          ∧ r.2.mem ((c.tc : Thread Cert.Mlp2DxIdeal.nD Cert.Mlp2DxIdeal.τ).loc Cert.Mlp2DxIdeal.main_v9_1) = v1 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
          ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ θ_run (Cert.Mlp2DxReferenceIdeal.defs (F := Ideal)) (onTc (τ := Cert.Mlp2DxReferenceIdeal.τ) (Cert.Mlp2DxReferenceIdeal.main (F := Ideal))) ⟨m', fun _ => 0, g'⟩ (fun r => ∀ c : Dev Cert.Mlp2DxReferenceIdeal.nD,
          r.2.mem ((c.tc : Thread Cert.Mlp2DxReferenceIdeal.nD Cert.Mlp2DxReferenceIdeal.τ).loc Cert.Mlp2DxReferenceIdeal.main_v22) = v0 c
          ∧ r.2.mem ((c.tc : Thread Cert.Mlp2DxReferenceIdeal.nD Cert.Mlp2DxReferenceIdeal.τ).loc Cert.Mlp2DxReferenceIdeal.main_v23) = v1 c
          ∧ r.2.mem ((c.tc : Thread Cert.Mlp2DxReferenceIdeal.nD Cert.Mlp2DxReferenceIdeal.τ).loc Cert.Mlp2DxReferenceIdeal.main_arg0) = m' ((c.tc : Thread Cert.Mlp2DxReferenceIdeal.nD Cert.Mlp2DxReferenceIdeal.τ).loc Cert.Mlp2DxReferenceIdeal.main_arg0)
          ∧ r.2.mem ((c.tc : Thread Cert.Mlp2DxReferenceIdeal.nD Cert.Mlp2DxReferenceIdeal.τ).loc Cert.Mlp2DxReferenceIdeal.main_arg1) = m' ((c.tc : Thread Cert.Mlp2DxReferenceIdeal.nD Cert.Mlp2DxReferenceIdeal.τ).loc Cert.Mlp2DxReferenceIdeal.main_arg1)
          ∧ r.2.mem ((c.tc : Thread Cert.Mlp2DxReferenceIdeal.nD Cert.Mlp2DxReferenceIdeal.τ).loc Cert.Mlp2DxReferenceIdeal.main_arg2) = m' ((c.tc : Thread Cert.Mlp2DxReferenceIdeal.nD Cert.Mlp2DxReferenceIdeal.τ).loc Cert.Mlp2DxReferenceIdeal.main_arg2)
          ∧ r.2.mem ((c.tc : Thread Cert.Mlp2DxReferenceIdeal.nD Cert.Mlp2DxReferenceIdeal.τ).loc Cert.Mlp2DxReferenceIdeal.main_arg3) = m' ((c.tc : Thread Cert.Mlp2DxReferenceIdeal.nD Cert.Mlp2DxReferenceIdeal.τ).loc Cert.Mlp2DxReferenceIdeal.main_arg3))

def preserves_Mlp2Dw_Mlp2DwIdeal : Prop :=
  True

def algebraic_Mlp2DwIdeal_Mlp2DwReferenceIdeal [hMlp2DwIdeal : Cert.Mlp2DwIdeal.Facts] [hMlp2DwReferenceIdeal : Cert.Mlp2DwReferenceIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwReferenceIdeal.nD Cert.Mlp2DwReferenceIdeal.τ Cert.Mlp2DwReferenceIdeal.sig) → Buf (Elt Ideal) ℓ) (g' : Dev Cert.Mlp2DwReferenceIdeal.nD → PrngReg), Pre_Mlp2DwIdeal m →
    (∀ c : Dev Cert.Mlp2DwIdeal.nD,
      m' ((c.tc : Thread Cert.Mlp2DwReferenceIdeal.nD Cert.Mlp2DwReferenceIdeal.τ).loc Cert.Mlp2DwReferenceIdeal.main_arg0) = m ((c.tc : Thread Cert.Mlp2DwIdeal.nD Cert.Mlp2DwIdeal.τ).loc Cert.Mlp2DwIdeal.main_arg0)
      ∧ m' ((c.tc : Thread Cert.Mlp2DwReferenceIdeal.nD Cert.Mlp2DwReferenceIdeal.τ).loc Cert.Mlp2DwReferenceIdeal.main_arg1) = m ((c.tc : Thread Cert.Mlp2DwIdeal.nD Cert.Mlp2DwIdeal.τ).loc Cert.Mlp2DwIdeal.main_arg1)
      ∧ m' ((c.tc : Thread Cert.Mlp2DwReferenceIdeal.nD Cert.Mlp2DwReferenceIdeal.τ).loc Cert.Mlp2DwReferenceIdeal.main_arg2) = m ((c.tc : Thread Cert.Mlp2DwIdeal.nD Cert.Mlp2DwIdeal.τ).loc Cert.Mlp2DwIdeal.main_arg2)
      ∧ m' ((c.tc : Thread Cert.Mlp2DwReferenceIdeal.nD Cert.Mlp2DwReferenceIdeal.τ).loc Cert.Mlp2DwReferenceIdeal.main_arg3) = m ((c.tc : Thread Cert.Mlp2DwIdeal.nD Cert.Mlp2DwIdeal.τ).loc Cert.Mlp2DwIdeal.main_arg3)) →
    ∃ (v0 : (c : Dev Cert.Mlp2DwIdeal.nD) → Buf (Elt Ideal) ((c.tc : Thread Cert.Mlp2DwIdeal.nD Cert.Mlp2DwIdeal.τ).loc Cert.Mlp2DwIdeal.main_v9)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v9) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
          ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2)
          ∧ r.2.mem ((c.tc : Thread Cert.Mlp2DwIdeal.nD Cert.Mlp2DwIdeal.τ).loc Cert.Mlp2DwIdeal.main_arg3) = m ((c.tc : Thread Cert.Mlp2DwIdeal.nD Cert.Mlp2DwIdeal.τ).loc Cert.Mlp2DwIdeal.main_arg3))
      ∧ θ_run (Cert.Mlp2DwReferenceIdeal.defs (F := Ideal)) (onTc (τ := Cert.Mlp2DwReferenceIdeal.τ) (Cert.Mlp2DwReferenceIdeal.main (F := Ideal))) ⟨m', fun _ => 0, g'⟩ (fun r => ∀ c : Dev Cert.Mlp2DwReferenceIdeal.nD,
          r.2.mem ((c.tc : Thread Cert.Mlp2DwReferenceIdeal.nD Cert.Mlp2DwReferenceIdeal.τ).loc Cert.Mlp2DwReferenceIdeal.main_v21) = v0 c
          ∧ r.2.mem ((c.tc : Thread Cert.Mlp2DwReferenceIdeal.nD Cert.Mlp2DwReferenceIdeal.τ).loc Cert.Mlp2DwReferenceIdeal.main_arg0) = m' ((c.tc : Thread Cert.Mlp2DwReferenceIdeal.nD Cert.Mlp2DwReferenceIdeal.τ).loc Cert.Mlp2DwReferenceIdeal.main_arg0)
          ∧ r.2.mem ((c.tc : Thread Cert.Mlp2DwReferenceIdeal.nD Cert.Mlp2DwReferenceIdeal.τ).loc Cert.Mlp2DwReferenceIdeal.main_arg1) = m' ((c.tc : Thread Cert.Mlp2DwReferenceIdeal.nD Cert.Mlp2DwReferenceIdeal.τ).loc Cert.Mlp2DwReferenceIdeal.main_arg1)
          ∧ r.2.mem ((c.tc : Thread Cert.Mlp2DwReferenceIdeal.nD Cert.Mlp2DwReferenceIdeal.τ).loc Cert.Mlp2DwReferenceIdeal.main_arg2) = m' ((c.tc : Thread Cert.Mlp2DwReferenceIdeal.nD Cert.Mlp2DwReferenceIdeal.τ).loc Cert.Mlp2DwReferenceIdeal.main_arg2)
          ∧ r.2.mem ((c.tc : Thread Cert.Mlp2DwReferenceIdeal.nD Cert.Mlp2DwReferenceIdeal.τ).loc Cert.Mlp2DwReferenceIdeal.main_arg3) = m' ((c.tc : Thread Cert.Mlp2DwReferenceIdeal.nD Cert.Mlp2DwReferenceIdeal.τ).loc Cert.Mlp2DwReferenceIdeal.main_arg3))

def preserves_Mlp1Dx_Mlp1DxIdeal : Prop :=
  True

def algebraic_Mlp1DxIdeal_Mlp1DxReferenceIdeal [hMlp1DxIdeal : Cert.Mlp1DxIdeal.Facts] [hMlp1DxReferenceIdeal : Cert.Mlp1DxReferenceIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxReferenceIdeal.nD Cert.Mlp1DxReferenceIdeal.τ Cert.Mlp1DxReferenceIdeal.sig) → Buf (Elt Ideal) ℓ) (g' : Dev Cert.Mlp1DxReferenceIdeal.nD → PrngReg), Pre_Mlp1DxIdeal m →
    (∀ c : Dev Cert.Mlp1DxIdeal.nD,
      m' ((c.tc : Thread Cert.Mlp1DxReferenceIdeal.nD Cert.Mlp1DxReferenceIdeal.τ).loc Cert.Mlp1DxReferenceIdeal.main_arg0) = m ((c.tc : Thread Cert.Mlp1DxIdeal.nD Cert.Mlp1DxIdeal.τ).loc Cert.Mlp1DxIdeal.main_arg0)
      ∧ m' ((c.tc : Thread Cert.Mlp1DxReferenceIdeal.nD Cert.Mlp1DxReferenceIdeal.τ).loc Cert.Mlp1DxReferenceIdeal.main_arg1) = m ((c.tc : Thread Cert.Mlp1DxIdeal.nD Cert.Mlp1DxIdeal.τ).loc Cert.Mlp1DxIdeal.main_arg1)
      ∧ m' ((c.tc : Thread Cert.Mlp1DxReferenceIdeal.nD Cert.Mlp1DxReferenceIdeal.τ).loc Cert.Mlp1DxReferenceIdeal.main_arg2) = m ((c.tc : Thread Cert.Mlp1DxIdeal.nD Cert.Mlp1DxIdeal.τ).loc Cert.Mlp1DxIdeal.main_arg2)) →
    ∃ (v0 : (c : Dev Cert.Mlp1DxIdeal.nD) → Buf (Elt Ideal) ((c.tc : Thread Cert.Mlp1DxIdeal.nD Cert.Mlp1DxIdeal.τ).loc Cert.Mlp1DxIdeal.main_v4)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v4) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
          ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ θ_run (Cert.Mlp1DxReferenceIdeal.defs (F := Ideal)) (onTc (τ := Cert.Mlp1DxReferenceIdeal.τ) (Cert.Mlp1DxReferenceIdeal.main (F := Ideal))) ⟨m', fun _ => 0, g'⟩ (fun r => ∀ c : Dev Cert.Mlp1DxReferenceIdeal.nD,
          r.2.mem ((c.tc : Thread Cert.Mlp1DxReferenceIdeal.nD Cert.Mlp1DxReferenceIdeal.τ).loc Cert.Mlp1DxReferenceIdeal.main_v6) = v0 c
          ∧ r.2.mem ((c.tc : Thread Cert.Mlp1DxReferenceIdeal.nD Cert.Mlp1DxReferenceIdeal.τ).loc Cert.Mlp1DxReferenceIdeal.main_arg0) = m' ((c.tc : Thread Cert.Mlp1DxReferenceIdeal.nD Cert.Mlp1DxReferenceIdeal.τ).loc Cert.Mlp1DxReferenceIdeal.main_arg0)
          ∧ r.2.mem ((c.tc : Thread Cert.Mlp1DxReferenceIdeal.nD Cert.Mlp1DxReferenceIdeal.τ).loc Cert.Mlp1DxReferenceIdeal.main_arg1) = m' ((c.tc : Thread Cert.Mlp1DxReferenceIdeal.nD Cert.Mlp1DxReferenceIdeal.τ).loc Cert.Mlp1DxReferenceIdeal.main_arg1)
          ∧ r.2.mem ((c.tc : Thread Cert.Mlp1DxReferenceIdeal.nD Cert.Mlp1DxReferenceIdeal.τ).loc Cert.Mlp1DxReferenceIdeal.main_arg2) = m' ((c.tc : Thread Cert.Mlp1DxReferenceIdeal.nD Cert.Mlp1DxReferenceIdeal.τ).loc Cert.Mlp1DxReferenceIdeal.main_arg2))

def preserves_Mlp1Dw_Mlp1DwIdeal : Prop :=
  True

def algebraic_Mlp1DwIdeal_Mlp1DwReferenceIdeal [hMlp1DwIdeal : Cert.Mlp1DwIdeal.Facts] [hMlp1DwReferenceIdeal : Cert.Mlp1DwReferenceIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwReferenceIdeal.nD Cert.Mlp1DwReferenceIdeal.τ Cert.Mlp1DwReferenceIdeal.sig) → Buf (Elt Ideal) ℓ) (g' : Dev Cert.Mlp1DwReferenceIdeal.nD → PrngReg), Pre_Mlp1DwIdeal m →
    (∀ c : Dev Cert.Mlp1DwIdeal.nD,
      m' ((c.tc : Thread Cert.Mlp1DwReferenceIdeal.nD Cert.Mlp1DwReferenceIdeal.τ).loc Cert.Mlp1DwReferenceIdeal.main_arg0) = m ((c.tc : Thread Cert.Mlp1DwIdeal.nD Cert.Mlp1DwIdeal.τ).loc Cert.Mlp1DwIdeal.main_arg0)
      ∧ m' ((c.tc : Thread Cert.Mlp1DwReferenceIdeal.nD Cert.Mlp1DwReferenceIdeal.τ).loc Cert.Mlp1DwReferenceIdeal.main_arg1) = m ((c.tc : Thread Cert.Mlp1DwIdeal.nD Cert.Mlp1DwIdeal.τ).loc Cert.Mlp1DwIdeal.main_arg1)
      ∧ m' ((c.tc : Thread Cert.Mlp1DwReferenceIdeal.nD Cert.Mlp1DwReferenceIdeal.τ).loc Cert.Mlp1DwReferenceIdeal.main_arg2) = m ((c.tc : Thread Cert.Mlp1DwIdeal.nD Cert.Mlp1DwIdeal.τ).loc Cert.Mlp1DwIdeal.main_arg2)) →
    ∃ (v0 : (c : Dev Cert.Mlp1DwIdeal.nD) → Buf (Elt Ideal) ((c.tc : Thread Cert.Mlp1DwIdeal.nD Cert.Mlp1DwIdeal.τ).loc Cert.Mlp1DwIdeal.main_v3)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v3) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
          ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ θ_run (Cert.Mlp1DwReferenceIdeal.defs (F := Ideal)) (onTc (τ := Cert.Mlp1DwReferenceIdeal.τ) (Cert.Mlp1DwReferenceIdeal.main (F := Ideal))) ⟨m', fun _ => 0, g'⟩ (fun r => ∀ c : Dev Cert.Mlp1DwReferenceIdeal.nD,
          r.2.mem ((c.tc : Thread Cert.Mlp1DwReferenceIdeal.nD Cert.Mlp1DwReferenceIdeal.τ).loc Cert.Mlp1DwReferenceIdeal.main_v8) = v0 c
          ∧ r.2.mem ((c.tc : Thread Cert.Mlp1DwReferenceIdeal.nD Cert.Mlp1DwReferenceIdeal.τ).loc Cert.Mlp1DwReferenceIdeal.main_arg0) = m' ((c.tc : Thread Cert.Mlp1DwReferenceIdeal.nD Cert.Mlp1DwReferenceIdeal.τ).loc Cert.Mlp1DwReferenceIdeal.main_arg0)
          ∧ r.2.mem ((c.tc : Thread Cert.Mlp1DwReferenceIdeal.nD Cert.Mlp1DwReferenceIdeal.τ).loc Cert.Mlp1DwReferenceIdeal.main_arg1) = m' ((c.tc : Thread Cert.Mlp1DwReferenceIdeal.nD Cert.Mlp1DwReferenceIdeal.τ).loc Cert.Mlp1DwReferenceIdeal.main_arg1)
          ∧ r.2.mem ((c.tc : Thread Cert.Mlp1DwReferenceIdeal.nD Cert.Mlp1DwReferenceIdeal.τ).loc Cert.Mlp1DwReferenceIdeal.main_arg2) = m' ((c.tc : Thread Cert.Mlp1DwReferenceIdeal.nD Cert.Mlp1DwReferenceIdeal.τ).loc Cert.Mlp1DwReferenceIdeal.main_arg2))

def preserves_WInDx_WInDxIdeal : Prop :=
  True

def algebraic_WInDxIdeal_WInDxReferenceIdeal [hWInDxIdeal : Cert.WInDxIdeal.Facts] [hWInDxReferenceIdeal : Cert.WInDxReferenceIdeal.Facts] : Prop :=
  ∀ (m : (ℓ : Loc Cert.WInDxIdeal.nD Cert.WInDxIdeal.τ Cert.WInDxIdeal.sig) → Buf (Elt Ideal) ℓ) (g : Dev Cert.WInDxIdeal.nD → PrngReg)
    (m' : (ℓ : Loc Cert.WInDxReferenceIdeal.nD Cert.WInDxReferenceIdeal.τ Cert.WInDxReferenceIdeal.sig) → Buf (Elt Ideal) ℓ) (g' : Dev Cert.WInDxReferenceIdeal.nD → PrngReg), Pre_WInDxIdeal m →
    (∀ c : Dev Cert.WInDxIdeal.nD,
      m' ((c.tc : Thread Cert.WInDxReferenceIdeal.nD Cert.WInDxReferenceIdeal.τ).loc Cert.WInDxReferenceIdeal.main_arg0) = m ((c.tc : Thread Cert.WInDxIdeal.nD Cert.WInDxIdeal.τ).loc Cert.WInDxIdeal.main_arg0)
      ∧ m' ((c.tc : Thread Cert.WInDxReferenceIdeal.nD Cert.WInDxReferenceIdeal.τ).loc Cert.WInDxReferenceIdeal.main_arg1) = m ((c.tc : Thread Cert.WInDxIdeal.nD Cert.WInDxIdeal.τ).loc Cert.WInDxIdeal.main_arg1)
      ∧ m' ((c.tc : Thread Cert.WInDxReferenceIdeal.nD Cert.WInDxReferenceIdeal.τ).loc Cert.WInDxReferenceIdeal.main_arg2) = m ((c.tc : Thread Cert.WInDxIdeal.nD Cert.WInDxIdeal.τ).loc Cert.WInDxIdeal.main_arg2)) →
    ∃ (v0 : (c : Dev Cert.WInDxIdeal.nD) → Buf (Elt Ideal) ((c.tc : Thread Cert.WInDxIdeal.nD Cert.WInDxIdeal.τ).loc Cert.WInDxIdeal.main_v4)),
      θ_run (Cert.WInDxIdeal.defs (F := Ideal)) (onTc (τ := Cert.WInDxIdeal.τ) (Cert.WInDxIdeal.main (F := Ideal))) ⟨m, fun _ => 0, g⟩ (fun r => ∀ c : Dev Cert.WInDxIdeal.nD,
          r.2.mem ((c.tc : Thread Cert.WInDxIdeal.nD Cert.WInDxIdeal.τ).loc Cert.WInDxIdeal.main_v4) = v0 c
          ∧ r.2.mem ((c.tc : Thread Cert.WInDxIdeal.nD Cert.WInDxIdeal.τ).loc Cert.WInDxIdeal.main_arg0) = m ((c.tc : Thread Cert.WInDxIdeal.nD Cert.WInDxIdeal.τ).loc Cert.WInDxIdeal.main_arg0)
          ∧ r.2.mem ((c.tc : Thread Cert.WInDxIdeal.nD Cert.WInDxIdeal.τ).loc Cert.WInDxIdeal.main_arg1) = m ((c.tc : Thread Cert.WInDxIdeal.nD Cert.WInDxIdeal.τ).loc Cert.WInDxIdeal.main_arg1)
          ∧ r.2.mem ((c.tc : Thread Cert.WInDxIdeal.nD Cert.WInDxIdeal.τ).loc Cert.WInDxIdeal.main_arg2) = m ((c.tc : Thread Cert.WInDxIdeal.nD Cert.WInDxIdeal.τ).loc Cert.WInDxIdeal.main_arg2))
      ∧ θ_run (Cert.WInDxReferenceIdeal.defs (F := Ideal)) (onTc (τ := Cert.WInDxReferenceIdeal.τ) (Cert.WInDxReferenceIdeal.main (F := Ideal))) ⟨m', fun _ => 0, g'⟩ (fun r => ∀ c : Dev Cert.WInDxReferenceIdeal.nD,
          r.2.mem ((c.tc : Thread Cert.WInDxReferenceIdeal.nD Cert.WInDxReferenceIdeal.τ).loc Cert.WInDxReferenceIdeal.main_v6) = v0 c
          ∧ r.2.mem ((c.tc : Thread Cert.WInDxReferenceIdeal.nD Cert.WInDxReferenceIdeal.τ).loc Cert.WInDxReferenceIdeal.main_arg0) = m' ((c.tc : Thread Cert.WInDxReferenceIdeal.nD Cert.WInDxReferenceIdeal.τ).loc Cert.WInDxReferenceIdeal.main_arg0)
          ∧ r.2.mem ((c.tc : Thread Cert.WInDxReferenceIdeal.nD Cert.WInDxReferenceIdeal.τ).loc Cert.WInDxReferenceIdeal.main_arg1) = m' ((c.tc : Thread Cert.WInDxReferenceIdeal.nD Cert.WInDxReferenceIdeal.τ).loc Cert.WInDxReferenceIdeal.main_arg1)
          ∧ r.2.mem ((c.tc : Thread Cert.WInDxReferenceIdeal.nD Cert.WInDxReferenceIdeal.τ).loc Cert.WInDxReferenceIdeal.main_arg2) = m' ((c.tc : Thread Cert.WInDxReferenceIdeal.nD Cert.WInDxReferenceIdeal.τ).loc Cert.WInDxReferenceIdeal.main_arg2))

def preserves_WInDw_WInDwIdeal : Prop :=
  True

def algebraic_WInDwIdeal_WInDwReferenceIdeal [hWInDwIdeal : Cert.WInDwIdeal.Facts] [hWInDwReferenceIdeal : Cert.WInDwReferenceIdeal.Facts] : Prop :=
  ∀ (m : (ℓ : Loc Cert.WInDwIdeal.nD Cert.WInDwIdeal.τ Cert.WInDwIdeal.sig) → Buf (Elt Ideal) ℓ) (g : Dev Cert.WInDwIdeal.nD → PrngReg)
    (m' : (ℓ : Loc Cert.WInDwReferenceIdeal.nD Cert.WInDwReferenceIdeal.τ Cert.WInDwReferenceIdeal.sig) → Buf (Elt Ideal) ℓ) (g' : Dev Cert.WInDwReferenceIdeal.nD → PrngReg), Pre_WInDwIdeal m →
    (∀ c : Dev Cert.WInDwIdeal.nD,
      m' ((c.tc : Thread Cert.WInDwReferenceIdeal.nD Cert.WInDwReferenceIdeal.τ).loc Cert.WInDwReferenceIdeal.main_arg0) = m ((c.tc : Thread Cert.WInDwIdeal.nD Cert.WInDwIdeal.τ).loc Cert.WInDwIdeal.main_arg0)
      ∧ m' ((c.tc : Thread Cert.WInDwReferenceIdeal.nD Cert.WInDwReferenceIdeal.τ).loc Cert.WInDwReferenceIdeal.main_arg1) = m ((c.tc : Thread Cert.WInDwIdeal.nD Cert.WInDwIdeal.τ).loc Cert.WInDwIdeal.main_arg1)
      ∧ m' ((c.tc : Thread Cert.WInDwReferenceIdeal.nD Cert.WInDwReferenceIdeal.τ).loc Cert.WInDwReferenceIdeal.main_arg2) = m ((c.tc : Thread Cert.WInDwIdeal.nD Cert.WInDwIdeal.τ).loc Cert.WInDwIdeal.main_arg2)) →
    ∃ (v0 : (c : Dev Cert.WInDwIdeal.nD) → Buf (Elt Ideal) ((c.tc : Thread Cert.WInDwIdeal.nD Cert.WInDwIdeal.τ).loc Cert.WInDwIdeal.main_v3)),
      θ_run (Cert.WInDwIdeal.defs (F := Ideal)) (onTc (τ := Cert.WInDwIdeal.τ) (Cert.WInDwIdeal.main (F := Ideal))) ⟨m, fun _ => 0, g⟩ (fun r => ∀ c : Dev Cert.WInDwIdeal.nD,
          r.2.mem ((c.tc : Thread Cert.WInDwIdeal.nD Cert.WInDwIdeal.τ).loc Cert.WInDwIdeal.main_v3) = v0 c
          ∧ r.2.mem ((c.tc : Thread Cert.WInDwIdeal.nD Cert.WInDwIdeal.τ).loc Cert.WInDwIdeal.main_arg0) = m ((c.tc : Thread Cert.WInDwIdeal.nD Cert.WInDwIdeal.τ).loc Cert.WInDwIdeal.main_arg0)
          ∧ r.2.mem ((c.tc : Thread Cert.WInDwIdeal.nD Cert.WInDwIdeal.τ).loc Cert.WInDwIdeal.main_arg1) = m ((c.tc : Thread Cert.WInDwIdeal.nD Cert.WInDwIdeal.τ).loc Cert.WInDwIdeal.main_arg1)
          ∧ r.2.mem ((c.tc : Thread Cert.WInDwIdeal.nD Cert.WInDwIdeal.τ).loc Cert.WInDwIdeal.main_arg2) = m ((c.tc : Thread Cert.WInDwIdeal.nD Cert.WInDwIdeal.τ).loc Cert.WInDwIdeal.main_arg2))
      ∧ θ_run (Cert.WInDwReferenceIdeal.defs (F := Ideal)) (onTc (τ := Cert.WInDwReferenceIdeal.τ) (Cert.WInDwReferenceIdeal.main (F := Ideal))) ⟨m', fun _ => 0, g'⟩ (fun r => ∀ c : Dev Cert.WInDwReferenceIdeal.nD,
          r.2.mem ((c.tc : Thread Cert.WInDwReferenceIdeal.nD Cert.WInDwReferenceIdeal.τ).loc Cert.WInDwReferenceIdeal.main_v8) = v0 c
          ∧ r.2.mem ((c.tc : Thread Cert.WInDwReferenceIdeal.nD Cert.WInDwReferenceIdeal.τ).loc Cert.WInDwReferenceIdeal.main_arg0) = m' ((c.tc : Thread Cert.WInDwReferenceIdeal.nD Cert.WInDwReferenceIdeal.τ).loc Cert.WInDwReferenceIdeal.main_arg0)
          ∧ r.2.mem ((c.tc : Thread Cert.WInDwReferenceIdeal.nD Cert.WInDwReferenceIdeal.τ).loc Cert.WInDwReferenceIdeal.main_arg1) = m' ((c.tc : Thread Cert.WInDwReferenceIdeal.nD Cert.WInDwReferenceIdeal.τ).loc Cert.WInDwReferenceIdeal.main_arg1)
          ∧ r.2.mem ((c.tc : Thread Cert.WInDwReferenceIdeal.nD Cert.WInDwReferenceIdeal.τ).loc Cert.WInDwReferenceIdeal.main_arg2) = m' ((c.tc : Thread Cert.WInDwReferenceIdeal.nD Cert.WInDwReferenceIdeal.τ).loc Cert.WInDwReferenceIdeal.main_arg2))

def preserves_WOutDx_WOutDxIdeal : Prop :=
  True

def algebraic_WOutDxIdeal_WOutDxReferenceIdeal [hWOutDxIdeal : Cert.WOutDxIdeal.Facts] [hWOutDxReferenceIdeal : Cert.WOutDxReferenceIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg)
    (m' : (ℓ : Loc Cert.WOutDxReferenceIdeal.nD Cert.WOutDxReferenceIdeal.τ Cert.WOutDxReferenceIdeal.sig) → Buf (Elt Ideal) ℓ) (g' : Dev Cert.WOutDxReferenceIdeal.nD → PrngReg), Pre_WOutDxIdeal m →
    (∀ c : Dev Cert.WOutDxIdeal.nD,
      m' ((c.tc : Thread Cert.WOutDxReferenceIdeal.nD Cert.WOutDxReferenceIdeal.τ).loc Cert.WOutDxReferenceIdeal.main_arg0) = m ((c.tc : Thread Cert.WOutDxIdeal.nD Cert.WOutDxIdeal.τ).loc Cert.WOutDxIdeal.main_arg0)
      ∧ m' ((c.tc : Thread Cert.WOutDxReferenceIdeal.nD Cert.WOutDxReferenceIdeal.τ).loc Cert.WOutDxReferenceIdeal.main_arg1) = m ((c.tc : Thread Cert.WOutDxIdeal.nD Cert.WOutDxIdeal.τ).loc Cert.WOutDxIdeal.main_arg1)
      ∧ m' ((c.tc : Thread Cert.WOutDxReferenceIdeal.nD Cert.WOutDxReferenceIdeal.τ).loc Cert.WOutDxReferenceIdeal.main_arg2) = m ((c.tc : Thread Cert.WOutDxIdeal.nD Cert.WOutDxIdeal.τ).loc Cert.WOutDxIdeal.main_arg2)) →
    ∃ (v0 : (c : Dev Cert.WOutDxIdeal.nD) → Buf (Elt Ideal) ((c.tc : Thread Cert.WOutDxIdeal.nD Cert.WOutDxIdeal.τ).loc Cert.WOutDxIdeal.main_v2)),
      θ_run (Cert.WOutDxIdeal.defs (F := Ideal)) (onTc (τ := Cert.WOutDxIdeal.τ) (Cert.WOutDxIdeal.main (F := Ideal))) ⟨m, fun _ => 0, g⟩ (fun r => ∀ c : Dev Cert.WOutDxIdeal.nD,
          r.2.mem ((c.tc : Thread Cert.WOutDxIdeal.nD Cert.WOutDxIdeal.τ).loc Cert.WOutDxIdeal.main_v2) = v0 c
          ∧ r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
          ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1)
          ∧ r.2.mem ((c.tc : Thread Cert.WOutDxIdeal.nD Cert.WOutDxIdeal.τ).loc Cert.WOutDxIdeal.main_arg2) = m ((c.tc : Thread Cert.WOutDxIdeal.nD Cert.WOutDxIdeal.τ).loc Cert.WOutDxIdeal.main_arg2))
      ∧ θ_run (Cert.WOutDxReferenceIdeal.defs (F := Ideal)) (onTc (τ := Cert.WOutDxReferenceIdeal.τ) (Cert.WOutDxReferenceIdeal.main (F := Ideal))) ⟨m', fun _ => 0, g'⟩ (fun r => ∀ c : Dev Cert.WOutDxReferenceIdeal.nD,
          r.2.mem ((c.tc : Thread Cert.WOutDxReferenceIdeal.nD Cert.WOutDxReferenceIdeal.τ).loc Cert.WOutDxReferenceIdeal.main_v6) = v0 c
          ∧ r.2.mem ((c.tc : Thread Cert.WOutDxReferenceIdeal.nD Cert.WOutDxReferenceIdeal.τ).loc Cert.WOutDxReferenceIdeal.main_arg0) = m' ((c.tc : Thread Cert.WOutDxReferenceIdeal.nD Cert.WOutDxReferenceIdeal.τ).loc Cert.WOutDxReferenceIdeal.main_arg0)
          ∧ r.2.mem ((c.tc : Thread Cert.WOutDxReferenceIdeal.nD Cert.WOutDxReferenceIdeal.τ).loc Cert.WOutDxReferenceIdeal.main_arg1) = m' ((c.tc : Thread Cert.WOutDxReferenceIdeal.nD Cert.WOutDxReferenceIdeal.τ).loc Cert.WOutDxReferenceIdeal.main_arg1)
          ∧ r.2.mem ((c.tc : Thread Cert.WOutDxReferenceIdeal.nD Cert.WOutDxReferenceIdeal.τ).loc Cert.WOutDxReferenceIdeal.main_arg2) = m' ((c.tc : Thread Cert.WOutDxReferenceIdeal.nD Cert.WOutDxReferenceIdeal.τ).loc Cert.WOutDxReferenceIdeal.main_arg2))

def preserves_WOutDw_WOutDwIdeal : Prop :=
  True

def algebraic_WOutDwIdeal_WOutDwReferenceIdeal [hWOutDwIdeal : Cert.WOutDwIdeal.Facts] [hWOutDwReferenceIdeal : Cert.WOutDwReferenceIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg)
    (m' : (ℓ : Loc Cert.WOutDwReferenceIdeal.nD Cert.WOutDwReferenceIdeal.τ Cert.WOutDwReferenceIdeal.sig) → Buf (Elt Ideal) ℓ) (g' : Dev Cert.WOutDwReferenceIdeal.nD → PrngReg), Pre_WOutDwIdeal m →
    (∀ c : Dev Cert.WOutDwIdeal.nD,
      m' ((c.tc : Thread Cert.WOutDwReferenceIdeal.nD Cert.WOutDwReferenceIdeal.τ).loc Cert.WOutDwReferenceIdeal.main_arg0) = m ((c.tc : Thread Cert.WOutDwIdeal.nD Cert.WOutDwIdeal.τ).loc Cert.WOutDwIdeal.main_arg0)
      ∧ m' ((c.tc : Thread Cert.WOutDwReferenceIdeal.nD Cert.WOutDwReferenceIdeal.τ).loc Cert.WOutDwReferenceIdeal.main_arg1) = m ((c.tc : Thread Cert.WOutDwIdeal.nD Cert.WOutDwIdeal.τ).loc Cert.WOutDwIdeal.main_arg1)
      ∧ m' ((c.tc : Thread Cert.WOutDwReferenceIdeal.nD Cert.WOutDwReferenceIdeal.τ).loc Cert.WOutDwReferenceIdeal.main_arg2) = m ((c.tc : Thread Cert.WOutDwIdeal.nD Cert.WOutDwIdeal.τ).loc Cert.WOutDwIdeal.main_arg2)) →
    ∃ (v0 : (c : Dev Cert.WOutDwIdeal.nD) → Buf (Elt Ideal) ((c.tc : Thread Cert.WOutDwIdeal.nD Cert.WOutDwIdeal.τ).loc Cert.WOutDwIdeal.main_v3)),
      θ_run (Cert.WOutDwIdeal.defs (F := Ideal)) (onTc (τ := Cert.WOutDwIdeal.τ) (Cert.WOutDwIdeal.main (F := Ideal))) ⟨m, fun _ => 0, g⟩ (fun r => ∀ c : Dev Cert.WOutDwIdeal.nD,
          r.2.mem ((c.tc : Thread Cert.WOutDwIdeal.nD Cert.WOutDwIdeal.τ).loc Cert.WOutDwIdeal.main_v3) = v0 c
          ∧ r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
          ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1)
          ∧ r.2.mem ((c.tc : Thread Cert.WOutDwIdeal.nD Cert.WOutDwIdeal.τ).loc Cert.WOutDwIdeal.main_arg2) = m ((c.tc : Thread Cert.WOutDwIdeal.nD Cert.WOutDwIdeal.τ).loc Cert.WOutDwIdeal.main_arg2))
      ∧ θ_run (Cert.WOutDwReferenceIdeal.defs (F := Ideal)) (onTc (τ := Cert.WOutDwReferenceIdeal.τ) (Cert.WOutDwReferenceIdeal.main (F := Ideal))) ⟨m', fun _ => 0, g'⟩ (fun r => ∀ c : Dev Cert.WOutDwReferenceIdeal.nD,
          r.2.mem ((c.tc : Thread Cert.WOutDwReferenceIdeal.nD Cert.WOutDwReferenceIdeal.τ).loc Cert.WOutDwReferenceIdeal.main_v6) = v0 c
          ∧ r.2.mem ((c.tc : Thread Cert.WOutDwReferenceIdeal.nD Cert.WOutDwReferenceIdeal.τ).loc Cert.WOutDwReferenceIdeal.main_arg0) = m' ((c.tc : Thread Cert.WOutDwReferenceIdeal.nD Cert.WOutDwReferenceIdeal.τ).loc Cert.WOutDwReferenceIdeal.main_arg0)
          ∧ r.2.mem ((c.tc : Thread Cert.WOutDwReferenceIdeal.nD Cert.WOutDwReferenceIdeal.τ).loc Cert.WOutDwReferenceIdeal.main_arg1) = m' ((c.tc : Thread Cert.WOutDwReferenceIdeal.nD Cert.WOutDwReferenceIdeal.τ).loc Cert.WOutDwReferenceIdeal.main_arg1)
          ∧ r.2.mem ((c.tc : Thread Cert.WOutDwReferenceIdeal.nD Cert.WOutDwReferenceIdeal.τ).loc Cert.WOutDwReferenceIdeal.main_arg2) = m' ((c.tc : Thread Cert.WOutDwReferenceIdeal.nD Cert.WOutDwReferenceIdeal.τ).loc Cert.WOutDwReferenceIdeal.main_arg2))

def preserves_GluDw_GluDwIdeal : Prop :=
  True

def algebraic_GluDwIdeal_GluDwReferenceIdeal [hGluDwIdeal : Cert.GluDwIdeal.Facts] [hGluDwReferenceIdeal : Cert.GluDwReferenceIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwReferenceIdeal.nD Cert.GluDwReferenceIdeal.τ Cert.GluDwReferenceIdeal.sig) → Buf (Elt Ideal) ℓ) (g' : Dev Cert.GluDwReferenceIdeal.nD → PrngReg), Pre_GluDwIdeal m →
    (∀ c : Dev Cert.GluDwIdeal.nD,
      m' ((c.tc : Thread Cert.GluDwReferenceIdeal.nD Cert.GluDwReferenceIdeal.τ).loc Cert.GluDwReferenceIdeal.main_arg0) = m ((c.tc : Thread Cert.GluDwIdeal.nD Cert.GluDwIdeal.τ).loc Cert.GluDwIdeal.main_arg0)
      ∧ m' ((c.tc : Thread Cert.GluDwReferenceIdeal.nD Cert.GluDwReferenceIdeal.τ).loc Cert.GluDwReferenceIdeal.main_arg1) = m ((c.tc : Thread Cert.GluDwIdeal.nD Cert.GluDwIdeal.τ).loc Cert.GluDwIdeal.main_arg1)
      ∧ m' ((c.tc : Thread Cert.GluDwReferenceIdeal.nD Cert.GluDwReferenceIdeal.τ).loc Cert.GluDwReferenceIdeal.main_arg2) = m ((c.tc : Thread Cert.GluDwIdeal.nD Cert.GluDwIdeal.τ).loc Cert.GluDwIdeal.main_arg2)) →
    ∃ (v0 : (c : Dev Cert.GluDwIdeal.nD) → Buf (Elt Ideal) ((c.tc : Thread Cert.GluDwIdeal.nD Cert.GluDwIdeal.τ).loc Cert.GluDwIdeal.main_v3)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v3) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
          ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ θ_run (Cert.GluDwReferenceIdeal.defs (F := Ideal)) (onTc (τ := Cert.GluDwReferenceIdeal.τ) (Cert.GluDwReferenceIdeal.main (F := Ideal))) ⟨m', fun _ => 0, g'⟩ (fun r => ∀ c : Dev Cert.GluDwReferenceIdeal.nD,
          r.2.mem ((c.tc : Thread Cert.GluDwReferenceIdeal.nD Cert.GluDwReferenceIdeal.τ).loc Cert.GluDwReferenceIdeal.main_v6) = v0 c
          ∧ r.2.mem ((c.tc : Thread Cert.GluDwReferenceIdeal.nD Cert.GluDwReferenceIdeal.τ).loc Cert.GluDwReferenceIdeal.main_arg0) = m' ((c.tc : Thread Cert.GluDwReferenceIdeal.nD Cert.GluDwReferenceIdeal.τ).loc Cert.GluDwReferenceIdeal.main_arg0)
          ∧ r.2.mem ((c.tc : Thread Cert.GluDwReferenceIdeal.nD Cert.GluDwReferenceIdeal.τ).loc Cert.GluDwReferenceIdeal.main_arg1) = m' ((c.tc : Thread Cert.GluDwReferenceIdeal.nD Cert.GluDwReferenceIdeal.τ).loc Cert.GluDwReferenceIdeal.main_arg1)
          ∧ r.2.mem ((c.tc : Thread Cert.GluDwReferenceIdeal.nD Cert.GluDwReferenceIdeal.τ).loc Cert.GluDwReferenceIdeal.main_arg2) = m' ((c.tc : Thread Cert.GluDwReferenceIdeal.nD Cert.GluDwReferenceIdeal.τ).loc Cert.GluDwReferenceIdeal.main_arg2))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v4)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v4) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v2) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v5) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)
      ∧ m' ((c.tc : Thread Cert.WOutReferenceIdeal.nD Cert.WOutReferenceIdeal.τ).loc Cert.WOutReferenceIdeal.main_arg2) = m ((c.tc : Thread Cert.WOutIdeal.nD Cert.WOutIdeal.τ).loc Cert.WOutIdeal.main_arg2)) →
    ∃ (v0 : (c : Dev Cert.WOutIdeal.nD) → Buf (Elt Ideal) ((c.tc : Thread Cert.WOutIdeal.nD Cert.WOutIdeal.τ).loc Cert.WOutIdeal.main_v3)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v3) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v5) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2))

def preserves_Mlp1_Mlp1Ideal : Prop :=
  True

def algebraic_Mlp1Ideal_Mlp1ReferenceIdeal [hMlp1Ideal : Cert.Mlp1Ideal.Facts] [hMlp1ReferenceIdeal : Cert.Mlp1ReferenceIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1ReferenceIdeal.nD Cert.Mlp1ReferenceIdeal.τ Cert.Mlp1ReferenceIdeal.sig) → Buf (Elt Ideal) ℓ) (g' : Dev Cert.Mlp1ReferenceIdeal.nD → PrngReg), Pre_Mlp1Ideal m →
    (∀ c : Dev Cert.Mlp1Ideal.nD,
      m' ((c.tc : Thread Cert.Mlp1ReferenceIdeal.nD Cert.Mlp1ReferenceIdeal.τ).loc Cert.Mlp1ReferenceIdeal.main_arg0) = m ((c.tc : Thread Cert.Mlp1Ideal.nD Cert.Mlp1Ideal.τ).loc Cert.Mlp1Ideal.main_arg0)
      ∧ m' ((c.tc : Thread Cert.Mlp1ReferenceIdeal.nD Cert.Mlp1ReferenceIdeal.τ).loc Cert.Mlp1ReferenceIdeal.main_arg1) = m ((c.tc : Thread Cert.Mlp1Ideal.nD Cert.Mlp1Ideal.τ).loc Cert.Mlp1Ideal.main_arg1)
      ∧ m' ((c.tc : Thread Cert.Mlp1ReferenceIdeal.nD Cert.Mlp1ReferenceIdeal.τ).loc Cert.Mlp1ReferenceIdeal.main_arg2) = m ((c.tc : Thread Cert.Mlp1Ideal.nD Cert.Mlp1Ideal.τ).loc Cert.Mlp1Ideal.main_arg2)) →
    ∃ (v0 : (c : Dev Cert.Mlp1Ideal.nD) → Buf (Elt Ideal) ((c.tc : Thread Cert.Mlp1Ideal.nD Cert.Mlp1Ideal.τ).loc Cert.Mlp1Ideal.main_v5_0)) (v1 : (c : Dev Cert.Mlp1Ideal.nD) → Buf (Elt Ideal) ((c.tc : Thread Cert.Mlp1Ideal.nD Cert.Mlp1Ideal.τ).loc Cert.Mlp1Ideal.main_v5_1)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v5_0) = v0 c
          ∧ r.2.mem ((c.tc : Thread Cert.Mlp1Ideal.nD Cert.Mlp1Ideal.τ).loc Cert.Mlp1Ideal.main_v5_1) = v1 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ θ_run (Cert.Mlp1ReferenceIdeal.defs (F := Ideal)) (onTc (τ := Cert.Mlp1ReferenceIdeal.τ) (Cert.Mlp1ReferenceIdeal.main (F := Ideal))) ⟨m', fun _ => 0, g'⟩ (fun r => ∀ c : Dev Cert.Mlp1ReferenceIdeal.nD,
          r.2.mem ((c.tc : Thread Cert.Mlp1ReferenceIdeal.nD Cert.Mlp1ReferenceIdeal.τ).loc Cert.Mlp1ReferenceIdeal.main_v7) = v0 c
          ∧ r.2.mem ((c.tc : Thread Cert.Mlp1ReferenceIdeal.nD Cert.Mlp1ReferenceIdeal.τ).loc Cert.Mlp1ReferenceIdeal.main_v8) = v1 c
          ∧ r.2.mem ((c.tc : Thread Cert.Mlp1ReferenceIdeal.nD Cert.Mlp1ReferenceIdeal.τ).loc Cert.Mlp1ReferenceIdeal.main_arg0) = m' ((c.tc : Thread Cert.Mlp1ReferenceIdeal.nD Cert.Mlp1ReferenceIdeal.τ).loc Cert.Mlp1ReferenceIdeal.main_arg0)
          ∧ r.2.mem ((c.tc : Thread Cert.Mlp1ReferenceIdeal.nD Cert.Mlp1ReferenceIdeal.τ).loc Cert.Mlp1ReferenceIdeal.main_arg1) = m' ((c.tc : Thread Cert.Mlp1ReferenceIdeal.nD Cert.Mlp1ReferenceIdeal.τ).loc Cert.Mlp1ReferenceIdeal.main_arg1)
          ∧ r.2.mem ((c.tc : Thread Cert.Mlp1ReferenceIdeal.nD Cert.Mlp1ReferenceIdeal.τ).loc Cert.Mlp1ReferenceIdeal.main_arg2) = m' ((c.tc : Thread Cert.Mlp1ReferenceIdeal.nD Cert.Mlp1ReferenceIdeal.τ).loc Cert.Mlp1ReferenceIdeal.main_arg2))

def preserves_Mlp2_Mlp2Ideal : Prop :=
  True

def algebraic_Mlp2Ideal_Mlp2ReferenceIdeal [hMlp2Ideal : Cert.Mlp2Ideal.Facts] [hMlp2ReferenceIdeal : Cert.Mlp2ReferenceIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2ReferenceIdeal.nD Cert.Mlp2ReferenceIdeal.τ Cert.Mlp2ReferenceIdeal.sig) → Buf (Elt Ideal) ℓ) (g' : Dev Cert.Mlp2ReferenceIdeal.nD → PrngReg), Pre_Mlp2Ideal m →
    (∀ c : Dev Cert.Mlp2Ideal.nD,
      m' ((c.tc : Thread Cert.Mlp2ReferenceIdeal.nD Cert.Mlp2ReferenceIdeal.τ).loc Cert.Mlp2ReferenceIdeal.main_arg0) = m ((c.tc : Thread Cert.Mlp2Ideal.nD Cert.Mlp2Ideal.τ).loc Cert.Mlp2Ideal.main_arg0)
      ∧ m' ((c.tc : Thread Cert.Mlp2ReferenceIdeal.nD Cert.Mlp2ReferenceIdeal.τ).loc Cert.Mlp2ReferenceIdeal.main_arg1) = m ((c.tc : Thread Cert.Mlp2Ideal.nD Cert.Mlp2Ideal.τ).loc Cert.Mlp2Ideal.main_arg1)
      ∧ m' ((c.tc : Thread Cert.Mlp2ReferenceIdeal.nD Cert.Mlp2ReferenceIdeal.τ).loc Cert.Mlp2ReferenceIdeal.main_arg2) = m ((c.tc : Thread Cert.Mlp2Ideal.nD Cert.Mlp2Ideal.τ).loc Cert.Mlp2Ideal.main_arg2)) →
    ∃ (v0 : (c : Dev Cert.Mlp2Ideal.nD) → Buf (Elt Ideal) ((c.tc : Thread Cert.Mlp2Ideal.nD Cert.Mlp2Ideal.τ).loc Cert.Mlp2Ideal.main_v3)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v3) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2))
      ∧ θ_run (Cert.Mlp2ReferenceIdeal.defs (F := Ideal)) (onTc (τ := Cert.Mlp2ReferenceIdeal.τ) (Cert.Mlp2ReferenceIdeal.main (F := Ideal))) ⟨m', fun _ => 0, g'⟩ (fun r => ∀ c : Dev Cert.Mlp2ReferenceIdeal.nD,
          r.2.mem ((c.tc : Thread Cert.Mlp2ReferenceIdeal.nD Cert.Mlp2ReferenceIdeal.τ).loc Cert.Mlp2ReferenceIdeal.main_v6) = v0 c
          ∧ r.2.mem ((c.tc : Thread Cert.Mlp2ReferenceIdeal.nD Cert.Mlp2ReferenceIdeal.τ).loc Cert.Mlp2ReferenceIdeal.main_arg0) = m' ((c.tc : Thread Cert.Mlp2ReferenceIdeal.nD Cert.Mlp2ReferenceIdeal.τ).loc Cert.Mlp2ReferenceIdeal.main_arg0)
          ∧ r.2.mem ((c.tc : Thread Cert.Mlp2ReferenceIdeal.nD Cert.Mlp2ReferenceIdeal.τ).loc Cert.Mlp2ReferenceIdeal.main_arg1) = m' ((c.tc : Thread Cert.Mlp2ReferenceIdeal.nD Cert.Mlp2ReferenceIdeal.τ).loc Cert.Mlp2ReferenceIdeal.main_arg1)
          ∧ r.2.mem ((c.tc : Thread Cert.Mlp2ReferenceIdeal.nD Cert.Mlp2ReferenceIdeal.τ).loc Cert.Mlp2ReferenceIdeal.main_arg2) = m' ((c.tc : Thread Cert.Mlp2ReferenceIdeal.nD Cert.Mlp2ReferenceIdeal.τ).loc Cert.Mlp2ReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v55) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_ConvBwd_ConvBwdIdeal : Prop :=
  True

def algebraic_ConvBwdIdeal_ConvBwdReferenceIdeal [hConvBwdIdeal : Cert.ConvBwdIdeal.Facts] [hConvBwdReferenceIdeal : Cert.ConvBwdReferenceIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdReferenceIdeal.nD Cert.ConvBwdReferenceIdeal.τ Cert.ConvBwdReferenceIdeal.sig) → Buf (Elt Ideal) ℓ) (g' : Dev Cert.ConvBwdReferenceIdeal.nD → PrngReg), Pre_ConvBwdIdeal m →
    (∀ c : Dev Cert.ConvBwdIdeal.nD,
      m' ((c.tc : Thread Cert.ConvBwdReferenceIdeal.nD Cert.ConvBwdReferenceIdeal.τ).loc Cert.ConvBwdReferenceIdeal.main_arg0) = m ((c.tc : Thread Cert.ConvBwdIdeal.nD Cert.ConvBwdIdeal.τ).loc Cert.ConvBwdIdeal.main_arg0)
      ∧ m' ((c.tc : Thread Cert.ConvBwdReferenceIdeal.nD Cert.ConvBwdReferenceIdeal.τ).loc Cert.ConvBwdReferenceIdeal.main_arg1) = m ((c.tc : Thread Cert.ConvBwdIdeal.nD Cert.ConvBwdIdeal.τ).loc Cert.ConvBwdIdeal.main_arg1)
      ∧ m' ((c.tc : Thread Cert.ConvBwdReferenceIdeal.nD Cert.ConvBwdReferenceIdeal.τ).loc Cert.ConvBwdReferenceIdeal.main_arg2) = m ((c.tc : Thread Cert.ConvBwdIdeal.nD Cert.ConvBwdIdeal.τ).loc Cert.ConvBwdIdeal.main_arg2)
      ∧ m' ((c.tc : Thread Cert.ConvBwdReferenceIdeal.nD Cert.ConvBwdReferenceIdeal.τ).loc Cert.ConvBwdReferenceIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdReferenceIdeal.defs (F := Ideal)) (onTc (τ := Cert.ConvBwdReferenceIdeal.τ) (Cert.ConvBwdReferenceIdeal.main (F := Ideal))) ⟨m', fun _ => 0, g'⟩ (fun r => ∀ c : Dev Cert.ConvBwdReferenceIdeal.nD,
          r.2.mem ((c.tc : Thread Cert.ConvBwdReferenceIdeal.nD Cert.ConvBwdReferenceIdeal.τ).loc Cert.ConvBwdReferenceIdeal.main_v146) = v0 c
          ∧ r.2.mem ((c.tc : Thread Cert.ConvBwdReferenceIdeal.nD Cert.ConvBwdReferenceIdeal.τ).loc Cert.ConvBwdReferenceIdeal.main_v149) = v1 c
          ∧ r.2.mem ((c.tc : Thread Cert.ConvBwdReferenceIdeal.nD Cert.ConvBwdReferenceIdeal.τ).loc Cert.ConvBwdReferenceIdeal.main_arg0) = m' ((c.tc : Thread Cert.ConvBwdReferenceIdeal.nD Cert.ConvBwdReferenceIdeal.τ).loc Cert.ConvBwdReferenceIdeal.main_arg0)
          ∧ r.2.mem ((c.tc : Thread Cert.ConvBwdReferenceIdeal.nD Cert.ConvBwdReferenceIdeal.τ).loc Cert.ConvBwdReferenceIdeal.main_arg1) = m' ((c.tc : Thread Cert.ConvBwdReferenceIdeal.nD Cert.ConvBwdReferenceIdeal.τ).loc Cert.ConvBwdReferenceIdeal.main_arg1)
          ∧ r.2.mem ((c.tc : Thread Cert.ConvBwdReferenceIdeal.nD Cert.ConvBwdReferenceIdeal.τ).loc Cert.ConvBwdReferenceIdeal.main_arg2) = m' ((c.tc : Thread Cert.ConvBwdReferenceIdeal.nD Cert.ConvBwdReferenceIdeal.τ).loc Cert.ConvBwdReferenceIdeal.main_arg2)
          ∧ r.2.mem ((c.tc : Thread Cert.ConvBwdReferenceIdeal.nD Cert.ConvBwdReferenceIdeal.τ).loc Cert.ConvBwdReferenceIdeal.main_arg3) = m' ((c.tc : Thread Cert.ConvBwdReferenceIdeal.nD Cert.ConvBwdReferenceIdeal.τ).loc Cert.ConvBwdReferenceIdeal.main_arg3))

def Claim : Prop :=
  ∃ (hKernel : Cert.Kernel.Facts) (hKernelIdeal : Cert.KernelIdeal.Facts) (hReferenceIdeal : Cert.ReferenceIdeal.Facts) (hMlp2Dx : Cert.Mlp2Dx.Facts) (hMlp2DxIdeal : Cert.Mlp2DxIdeal.Facts) (hMlp2DxReferenceIdeal : Cert.Mlp2DxReferenceIdeal.Facts) (hMlp2Dw : Cert.Mlp2Dw.Facts) (hMlp2DwIdeal : Cert.Mlp2DwIdeal.Facts) (hMlp2DwReferenceIdeal : Cert.Mlp2DwReferenceIdeal.Facts) (hMlp1Dx : Cert.Mlp1Dx.Facts) (hMlp1DxIdeal : Cert.Mlp1DxIdeal.Facts) (hMlp1DxReferenceIdeal : Cert.Mlp1DxReferenceIdeal.Facts) (hMlp1Dw : Cert.Mlp1Dw.Facts) (hMlp1DwIdeal : Cert.Mlp1DwIdeal.Facts) (hMlp1DwReferenceIdeal : Cert.Mlp1DwReferenceIdeal.Facts) (hWInDx : Cert.WInDx.Facts) (hWInDxIdeal : Cert.WInDxIdeal.Facts) (hWInDxReferenceIdeal : Cert.WInDxReferenceIdeal.Facts) (hWInDw : Cert.WInDw.Facts) (hWInDwIdeal : Cert.WInDwIdeal.Facts) (hWInDwReferenceIdeal : Cert.WInDwReferenceIdeal.Facts) (hWOutDx : Cert.WOutDx.Facts) (hWOutDxIdeal : Cert.WOutDxIdeal.Facts) (hWOutDxReferenceIdeal : Cert.WOutDxReferenceIdeal.Facts) (hWOutDw : Cert.WOutDw.Facts) (hWOutDwIdeal : Cert.WOutDwIdeal.Facts) (hWOutDwReferenceIdeal : Cert.WOutDwReferenceIdeal.Facts) (hGluDw : Cert.GluDw.Facts) (hGluDwIdeal : Cert.GluDwIdeal.Facts) (hGluDwReferenceIdeal : Cert.GluDwReferenceIdeal.Facts) (hWIn : Cert.WIn.Facts) (hWInIdeal : Cert.WInIdeal.Facts) (hWInReferenceIdeal : Cert.WInReferenceIdeal.Facts) (hGlu : Cert.Glu.Facts) (hGluIdeal : Cert.GluIdeal.Facts) (hGluReferenceIdeal : Cert.GluReferenceIdeal.Facts) (hWOut : Cert.WOut.Facts) (hWOutIdeal : Cert.WOutIdeal.Facts) (hWOutReferenceIdeal : Cert.WOutReferenceIdeal.Facts) (hMlp1 : Cert.Mlp1.Facts) (hMlp1Ideal : Cert.Mlp1Ideal.Facts) (hMlp1ReferenceIdeal : Cert.Mlp1ReferenceIdeal.Facts) (hMlp2 : Cert.Mlp2.Facts) (hMlp2Ideal : Cert.Mlp2Ideal.Facts) (hMlp2ReferenceIdeal : Cert.Mlp2ReferenceIdeal.Facts) (hConv : Cert.Conv.Facts) (hConvIdeal : Cert.ConvIdeal.Facts) (hConvReferenceIdeal : Cert.ConvReferenceIdeal.Facts) (hConvBwd : Cert.ConvBwd.Facts) (hConvBwdIdeal : Cert.ConvBwdIdeal.Facts) (hConvBwdReferenceIdeal : Cert.ConvBwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp2Dx (hMlp2Dx := hMlp2Dx)
    ∧ quiescent_Mlp2DxIdeal (hMlp2DxIdeal := hMlp2DxIdeal)
    ∧ quiescent_Mlp2DxReferenceIdeal (hMlp2DxReferenceIdeal := hMlp2DxReferenceIdeal)
    ∧ quiescent_Mlp2Dw (hMlp2Dw := hMlp2Dw)
    ∧ quiescent_Mlp2DwIdeal (hMlp2DwIdeal := hMlp2DwIdeal)
    ∧ quiescent_Mlp2DwReferenceIdeal (hMlp2DwReferenceIdeal := hMlp2DwReferenceIdeal)
    ∧ quiescent_Mlp1Dx (hMlp1Dx := hMlp1Dx)
    ∧ quiescent_Mlp1DxIdeal (hMlp1DxIdeal := hMlp1DxIdeal)
    ∧ quiescent_Mlp1DxReferenceIdeal (hMlp1DxReferenceIdeal := hMlp1DxReferenceIdeal)
    ∧ quiescent_Mlp1Dw (hMlp1Dw := hMlp1Dw)
    ∧ quiescent_Mlp1DwIdeal (hMlp1DwIdeal := hMlp1DwIdeal)
    ∧ quiescent_Mlp1DwReferenceIdeal (hMlp1DwReferenceIdeal := hMlp1DwReferenceIdeal)
    ∧ quiescent_WInDx (hWInDx := hWInDx)
    ∧ quiescent_WInDxIdeal (hWInDxIdeal := hWInDxIdeal)
    ∧ quiescent_WInDxReferenceIdeal (hWInDxReferenceIdeal := hWInDxReferenceIdeal)
    ∧ quiescent_WInDw (hWInDw := hWInDw)
    ∧ quiescent_WInDwIdeal (hWInDwIdeal := hWInDwIdeal)
    ∧ quiescent_WInDwReferenceIdeal (hWInDwReferenceIdeal := hWInDwReferenceIdeal)
    ∧ quiescent_WOutDx (hWOutDx := hWOutDx)
    ∧ quiescent_WOutDxIdeal (hWOutDxIdeal := hWOutDxIdeal)
    ∧ quiescent_WOutDxReferenceIdeal (hWOutDxReferenceIdeal := hWOutDxReferenceIdeal)
    ∧ quiescent_WOutDw (hWOutDw := hWOutDw)
    ∧ quiescent_WOutDwIdeal (hWOutDwIdeal := hWOutDwIdeal)
    ∧ quiescent_WOutDwReferenceIdeal (hWOutDwReferenceIdeal := hWOutDwReferenceIdeal)
    ∧ quiescent_GluDw (hGluDw := hGluDw)
    ∧ quiescent_GluDwIdeal (hGluDwIdeal := hGluDwIdeal)
    ∧ quiescent_GluDwReferenceIdeal (hGluDwReferenceIdeal := hGluDwReferenceIdeal)
    ∧ quiescent_WIn (hWIn := hWIn)
    ∧ quiescent_WInIdeal (hWInIdeal := hWInIdeal)
    ∧ quiescent_WInReferenceIdeal (hWInReferenceIdeal := hWInReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_Mlp1 (hMlp1 := hMlp1)
    ∧ quiescent_Mlp1Ideal (hMlp1Ideal := hMlp1Ideal)
    ∧ quiescent_Mlp1ReferenceIdeal (hMlp1ReferenceIdeal := hMlp1ReferenceIdeal)
    ∧ quiescent_Mlp2 (hMlp2 := hMlp2)
    ∧ quiescent_Mlp2Ideal (hMlp2Ideal := hMlp2Ideal)
    ∧ quiescent_Mlp2ReferenceIdeal (hMlp2ReferenceIdeal := hMlp2ReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_ConvBwd (hConvBwd := hConvBwd)
    ∧ quiescent_ConvBwdIdeal (hConvBwdIdeal := hConvBwdIdeal)
    ∧ quiescent_ConvBwdReferenceIdeal (hConvBwdReferenceIdeal := hConvBwdReferenceIdeal)
    ∧ preserves_Kernel_KernelIdeal
    ∧ algebraic_KernelIdeal_ReferenceIdeal (hKernelIdeal := hKernelIdeal) (hReferenceIdeal := hReferenceIdeal)
    ∧ preserves_Mlp2Dx_Mlp2DxIdeal
    ∧ algebraic_Mlp2DxIdeal_Mlp2DxReferenceIdeal (hMlp2DxIdeal := hMlp2DxIdeal) (hMlp2DxReferenceIdeal := hMlp2DxReferenceIdeal)
    ∧ preserves_Mlp2Dw_Mlp2DwIdeal
    ∧ algebraic_Mlp2DwIdeal_Mlp2DwReferenceIdeal (hMlp2DwIdeal := hMlp2DwIdeal) (hMlp2DwReferenceIdeal := hMlp2DwReferenceIdeal)
    ∧ preserves_Mlp1Dx_Mlp1DxIdeal
    ∧ algebraic_Mlp1DxIdeal_Mlp1DxReferenceIdeal (hMlp1DxIdeal := hMlp1DxIdeal) (hMlp1DxReferenceIdeal := hMlp1DxReferenceIdeal)
    ∧ preserves_Mlp1Dw_Mlp1DwIdeal
    ∧ algebraic_Mlp1DwIdeal_Mlp1DwReferenceIdeal (hMlp1DwIdeal := hMlp1DwIdeal) (hMlp1DwReferenceIdeal := hMlp1DwReferenceIdeal)
    ∧ preserves_WInDx_WInDxIdeal
    ∧ algebraic_WInDxIdeal_WInDxReferenceIdeal (hWInDxIdeal := hWInDxIdeal) (hWInDxReferenceIdeal := hWInDxReferenceIdeal)
    ∧ preserves_WInDw_WInDwIdeal
    ∧ algebraic_WInDwIdeal_WInDwReferenceIdeal (hWInDwIdeal := hWInDwIdeal) (hWInDwReferenceIdeal := hWInDwReferenceIdeal)
    ∧ preserves_WOutDx_WOutDxIdeal
    ∧ algebraic_WOutDxIdeal_WOutDxReferenceIdeal (hWOutDxIdeal := hWOutDxIdeal) (hWOutDxReferenceIdeal := hWOutDxReferenceIdeal)
    ∧ preserves_WOutDw_WOutDwIdeal
    ∧ algebraic_WOutDwIdeal_WOutDwReferenceIdeal (hWOutDwIdeal := hWOutDwIdeal) (hWOutDwReferenceIdeal := hWOutDwReferenceIdeal)
    ∧ preserves_GluDw_GluDwIdeal
    ∧ algebraic_GluDwIdeal_GluDwReferenceIdeal (hGluDwIdeal := hGluDwIdeal) (hGluDwReferenceIdeal := hGluDwReferenceIdeal)
    ∧ preserves_WIn_WInIdeal
    ∧ algebraic_WInIdeal_WInReferenceIdeal (hWInIdeal := hWInIdeal) (hWInReferenceIdeal := hWInReferenceIdeal)
    ∧ preserves_Glu_GluIdeal
    ∧ algebraic_GluIdeal_GluReferenceIdeal (hGluIdeal := hGluIdeal) (hGluReferenceIdeal := hGluReferenceIdeal)
    ∧ preserves_WOut_WOutIdeal
    ∧ algebraic_WOutIdeal_WOutReferenceIdeal (hWOutIdeal := hWOutIdeal) (hWOutReferenceIdeal := hWOutReferenceIdeal)
    ∧ preserves_Mlp1_Mlp1Ideal
    ∧ algebraic_Mlp1Ideal_Mlp1ReferenceIdeal (hMlp1Ideal := hMlp1Ideal) (hMlp1ReferenceIdeal := hMlp1ReferenceIdeal)
    ∧ preserves_Mlp2_Mlp2Ideal
    ∧ algebraic_Mlp2Ideal_Mlp2ReferenceIdeal (hMlp2Ideal := hMlp2Ideal) (hMlp2ReferenceIdeal := hMlp2ReferenceIdeal)
    ∧ preserves_Conv_ConvIdeal
    ∧ algebraic_ConvIdeal_ConvReferenceIdeal (hConvIdeal := hConvIdeal) (hConvReferenceIdeal := hConvReferenceIdeal)
    ∧ preserves_ConvBwd_ConvBwdIdeal
    ∧ algebraic_ConvBwdIdeal_ConvBwdReferenceIdeal (hConvBwdIdeal := hConvBwdIdeal) (hConvBwdReferenceIdeal := hConvBwdReferenceIdeal)
-- ==== Kernel.lean ====
abbrev S2x17408x256 : Shape := ⟨3, ![2, 17408, 256]⟩
abbrev S2x17408x128 : Shape := ⟨3, ![2, 17408, 128]⟩
abbrev S64x256x256 : Shape := ⟨3, ![64, 256, 256]⟩
abbrev S64x256x128 : Shape := ⟨3, ![64, 256, 128]⟩
abbrev S64x128x256 : Shape := ⟨3, ![64, 128, 256]⟩
abbrev S2x64x64 : Shape := ⟨3, ![2, 64, 64]⟩
abbrev S1x64x64 : Shape := ⟨3, ![1, 64, 64]⟩
abbrev S64x64 : Shape := ⟨2, ![64, 64]⟩
abbrev S64x128 : Shape := ⟨2, ![64, 128]⟩
abbrev S1x64x128 : Shape := ⟨3, ![1, 64, 128]⟩
abbrev S4x64x128 : Shape := ⟨3, ![4, 64, 128]⟩
abbrev S1x2176x256 : Shape := ⟨3, ![1, 2176, 256]⟩
abbrev S1x2176x128 : Shape := ⟨3, ![1, 2176, 128]⟩
abbrev S8x256x256 : Shape := ⟨3, ![8, 256, 256]⟩
abbrev S8x128x256 : Shape := ⟨3, ![8, 128, 256]⟩
abbrev S8x256x128 : Shape := ⟨3, ![8, 256, 128]⟩
abbrev S4x8x128 : Shape := ⟨3, ![4, 8, 128]⟩
abbrev S2176x128 : Shape := ⟨2, ![2176, 128]⟩
abbrev S1x8x128 : Shape := ⟨3, ![1, 8, 128]⟩
abbrev S8x128 : Shape := ⟨2, ![8, 128]⟩
abbrev S1x272x256 : Shape := ⟨3, ![1, 272, 256]⟩
abbrev S272x256 : Shape := ⟨2, ![272, 256]⟩
abbrev S1x256x128 : Shape := ⟨3, ![1, 256, 128]⟩
abbrev S256x128 : Shape := ⟨2, ![256, 128]⟩
abbrev S272x128 : Shape := ⟨2, ![272, 128]⟩
abbrev S1x272x128 : Shape := ⟨3, ![1, 272, 128]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩

abbrev nBuf : Space → Nat
  | .hbm => 42
  | .vmem => 40
  | .smem => 0
  | _ => 0

abbrev bufTy : (tb : Table) → Fin (tcTables nBuf tb) → BufTy
  | .hbm, ⟨0, _⟩ => ⟨S2x17408x256, .bf16⟩
  | .hbm, ⟨1, _⟩ => ⟨S2x17408x256, .bf16⟩
  | .hbm, ⟨2, _⟩ => ⟨S2x17408x128, .f32⟩
  | .hbm, ⟨3, _⟩ => ⟨S2x17408x128, .f32⟩
  | .hbm, ⟨4, _⟩ => ⟨S64x256x256, .bf16⟩
  | .hbm, ⟨5, _⟩ => ⟨S64x256x128, .bf16⟩
  | .hbm, ⟨6, _⟩ => ⟨S64x256x128, .bf16⟩
  | .hbm, ⟨7, _⟩ => ⟨S64x128x256, .bf16⟩
  | .hbm, ⟨8, _⟩ => ⟨S64x128x256, .bf16⟩
  | .hbm, ⟨9, _⟩ => ⟨S2x64x64, .f32⟩
  | .hbm, ⟨10, _⟩ => ⟨S2x64x64, .f32⟩
  | .hbm, ⟨11, _⟩ => ⟨S64x256x256, .bf16⟩
  | .hbm, ⟨12, _⟩ => ⟨S64x128x256, .bf16⟩
  | .hbm, ⟨13, _⟩ => ⟨S64x128x256, .bf16⟩
  | .hbm, ⟨14, _⟩ => ⟨S64x256x128, .bf16⟩
  | .hbm, ⟨15, _⟩ => ⟨S64x256x128, .bf16⟩
  | .hbm, ⟨16, _⟩ => ⟨S1x64x64, .f32⟩
  | .hbm, ⟨17, _⟩ => ⟨S64x64, .f32⟩
  | .hbm, ⟨18, _⟩ => ⟨S1x64x64, .f32⟩
  | .hbm, ⟨19, _⟩ => ⟨S64x64, .f32⟩
  | .hbm, ⟨20, _⟩ => ⟨S64x128, .f32⟩
  | .hbm, ⟨21, _⟩ => ⟨S64x64, .f32⟩
  | .hbm, ⟨22, _⟩ => ⟨S64x128, .f32⟩
  | .hbm, ⟨23, _⟩ => ⟨S1x64x64, .f32⟩
  | .hbm, ⟨24, _⟩ => ⟨S64x64, .f32⟩
  | .hbm, ⟨25, _⟩ => ⟨S1x64x64, .f32⟩
  | .hbm, ⟨26, _⟩ => ⟨S64x64, .f32⟩
  | .hbm, ⟨27, _⟩ => ⟨S64x128, .f32⟩
  | .hbm, ⟨28, _⟩ => ⟨S64x64, .f32⟩
  | .hbm, ⟨29, _⟩ => ⟨S64x128, .f32⟩
  | .hbm, ⟨30, _⟩ => ⟨S1x64x128, .f32⟩
  | .hbm, ⟨31, _⟩ => ⟨S1x64x128, .f32⟩
  | .hbm, ⟨32, _⟩ => ⟨S1x64x128, .f32⟩
  | .hbm, ⟨33, _⟩ => ⟨S1x64x128, .f32⟩
  | .hbm, ⟨34, _⟩ => ⟨S4x64x128, .f32⟩
  | .hbm, ⟨35, _⟩ => ⟨S2x17408x256, .bf16⟩
  | .hbm, ⟨36, _⟩ => ⟨S64x256x256, .f32⟩
  | .hbm, ⟨37, _⟩ => ⟨S64x256x128, .f32⟩
  | .hbm, ⟨38, _⟩ => ⟨S64x256x128, .f32⟩
  | .hbm, ⟨39, _⟩ => ⟨S64x128x256, .f32⟩
  | .hbm, ⟨40, _⟩ => ⟨S64x128x256, .f32⟩
  | .hbm, ⟨41, _⟩ => ⟨S4x64x128, .f32⟩
  | .local _ .vmem, ⟨0, _⟩ => ⟨S1x2176x256, .bf16⟩
  | .local _ .vmem, ⟨1, _⟩ => ⟨S1x2176x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S1x2176x128, .f32⟩
  | .local _ .vmem, ⟨5, _⟩ => ⟨S1x2176x128, .f32⟩
  | .local _ .vmem, ⟨6, _⟩ => ⟨S1x2176x128, .f32⟩
  | .local _ .vmem, ⟨7, _⟩ => ⟨S1x2176x128, .f32⟩
  | .local _ .vmem, ⟨8, _⟩ => ⟨S8x256x256, .bf16⟩
  | .local _ .vmem, ⟨9, _⟩ => ⟨S8x256x256, .bf16⟩
  | .local _ .vmem, ⟨10, _⟩ => ⟨S8x128x256, .bf16⟩
  | .local _ .vmem, ⟨11, _⟩ => ⟨S8x128x256, .bf16⟩
  | .local _ .vmem, ⟨12, _⟩ => ⟨S8x128x256, .bf16⟩
  | .local _ .vmem, ⟨13, _⟩ => ⟨S8x128x256, .bf16⟩
  | .local _ .vmem, ⟨14, _⟩ => ⟨S8x256x128, .bf16⟩
  | .local _ .vmem, ⟨15, _⟩ => ⟨S8x256x128, .bf16⟩
  | .local _ .vmem, ⟨16, _⟩ => ⟨S8x256x128, .bf16⟩
  | .local _ .vmem, ⟨17, _⟩ => ⟨S8x256x128, .bf16⟩
  | .local _ .vmem, ⟨18, _⟩ => ⟨S4x8x128, .f32⟩
  | .local _ .vmem, ⟨19, _⟩ => ⟨S4x8x128, .f32⟩
  | .local _ .vmem, ⟨20, _⟩ => ⟨S1x2176x256, .bf16⟩
  | .local _ .vmem, ⟨21, _⟩ => ⟨S1x2176x256, .bf16⟩
  | .local _ .vmem, ⟨22, _⟩ => ⟨S8x256x256, .f32⟩
  | .local _ .vmem, ⟨23, _⟩ => ⟨S8x256x256, .f32⟩
  | .local _ .vmem, ⟨24, _⟩ => ⟨S8x256x128, .f32⟩
  | .local _ .vmem, ⟨25, _⟩ => ⟨S8x256x128, .f32⟩
  | .local _ .vmem, ⟨26, _⟩ => ⟨S8x256x128, .f32⟩
  | .local _ .vmem, ⟨27, _⟩ => ⟨S8x256x128, .f32⟩
  | .local _ .vmem, ⟨28, _⟩ => ⟨S8x128x256, .f32⟩
  | .local _ .vmem, ⟨29, _⟩ => ⟨S8x128x256, .f32⟩
  | .local _ .vmem, ⟨30, _⟩ => ⟨S8x128x256, .f32⟩
  | .local _ .vmem, ⟨31, _⟩ => ⟨S8x128x256, .f32⟩
  | .local _ .vmem, ⟨32, _⟩ => ⟨S4x8x128, .f32⟩
  | .local _ .vmem, ⟨33, _⟩ => ⟨S4x8x128, .f32⟩
  | .local _ .vmem, ⟨34, _⟩ => ⟨S2176x128, .f32⟩
  | .local _ .vmem, ⟨35, _⟩ => ⟨S2176x128, .f32⟩
  | .local _ .vmem, ⟨36, _⟩ => ⟨S2176x128, .f32⟩
  | .local _ .vmem, ⟨37, _⟩ => ⟨S2176x128, .f32⟩
  | .local _ .vmem, ⟨38, _⟩ => ⟨S2176x128, .f32⟩
  | .local _ .vmem, ⟨39, _⟩ => ⟨S2176x128, .f32⟩
  | _, _ => ⟨S2x17408x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v24_4 : Ref sig .tc := ⟨.hbm, 39, rfl⟩
abbrev main_v24_5 : Ref sig .tc := ⟨.hbm, 40, rfl⟩
abbrev main_v24_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_245 : BitVec 32 := 0#32
  let c272_i32 : BitVec 32 := 272#32
  let v268 : BitVec 32 := Scalar.addi c0_i32_245 c272_i32
  let c1_i32 : BitVec 32 := 1#32
  ⟨c0_i32_245, v268, c1_i32⟩
def k0_mult1 (k0_t1 : Fin k0_t1_loop.trips) : BitVec 32 :=
  let c271_i32 : BitVec 32 := 271#32
  let c0_i32_245 : BitVec 32 := 0#32
  let c1_i32 : BitVec 32 := 1#32
  let arg25 : BitVec 32 := Scf.iv c0_i32_245 c1_i32 k0_t1
  let v824 : BitVec 32 := Scalar.subi c271_i32 arg25
  let c8_i32 : BitVec 32 := 8#32
  let v825 : BitVec 32 := Scalar.muli v824 c8_i32
  v825
def k0_mult2 (k0_t1 : Fin k0_t1_loop.trips) : BitVec 32 :=
  let c271_i32_801 : BitVec 32 := 271#32
  let c0_i32_245 : BitVec 32 := 0#32
  let c1_i32 : BitVec 32 := 1#32
  let arg25 : BitVec 32 := Scf.iv c0_i32_245 c1_i32 k0_t1
  let v827 : BitVec 32 := Scalar.subi c271_i32_801 arg25
  let c16_i32 : BitVec 32 := 16#32
  let v828 : BitVec 1 := Scalar.cmpi .slt v827 c16_i32
  let c15_i32 : BitVec 32 := 15#32
  let v829 : BitVec 32 := Scalar.subi c15_i32 v827
  let c271_i32_803 : BitVec 32 := 271#32
  let c16_i32_802 : BitVec 32 := 16#32
  let v830 : BitVec 32 := Scalar.subi v827 c16_i32_802
  let v831 : BitVec 32 := Scalar.subi c271_i32_803 v830
  let v832 : BitVec 32 := Scalar.select v828 v829 v831
  let c8_i32_804 : BitVec 32 := 8#32
  let v833 : BitVec 32 := Scalar.muli v832 c8_i32_804
  v833
def k0_off1 (k0_t1 : Fin k0_t1_loop.trips) : Fin 2 → Nat :=
  let c271_i32 : BitVec 32 := 271#32
  let c0_i32_245 : BitVec 32 := 0#32
  let c1_i32 : BitVec 32 := 1#32
  let arg25 : BitVec 32 := Scf.iv c0_i32_245 c1_i32 k0_t1
  let v824 : BitVec 32 := Scalar.subi c271_i32 arg25
  let c8_i32 : BitVec 32 := 8#32
  let v825 : BitVec 32 := Scalar.muli v824 c8_i32
  let v826 : BitVec 32 := v825
  let v835 : Index := Scalar.indexCast v826
  let c0_805 : Index := 0#32
  ![v835.toNat, 0]
def k0_off2 (k0_t1 : Fin k0_t1_loop.trips) : Fin 2 → Nat :=
  let c271_i32_801 : BitVec 32 := 271#32
  let c0_i32_245 : BitVec 32 := 0#32
  let c1_i32 : BitVec 32 := 1#32
  let arg25 : BitVec 32 := Scf.iv c0_i32_245 c1_i32 k0_t1
  let v827 : BitVec 32 := Scalar.subi c271_i32_801 arg25
  let c16_i32 : BitVec 32 := 16#32
  let v828 : BitVec 1 := Scalar.cmpi .slt v827 c16_i32
  let c15_i32 : BitVec 32 := 15#32
  let v829 : BitVec 32 := Scalar.subi c15_i32 v827
  let c271_i32_803 : BitVec 32 := 271#32
  let c16_i32_802 : BitVec 32 := 16#32
  let v830 : BitVec 32 := Scalar.subi v827 c16_i32_802
  let v831 : BitVec 32 := Scalar.subi c271_i32_803 v830
  let v832 : BitVec 32 := Scalar.select v828 v829 v831
  let c8_i32_804 : BitVec 32 := 8#32
  let v833 : BitVec 32 := Scalar.muli v832 c8_i32_804
  let v834 : BitVec 32 := v833
  let v839 : Index := Scalar.indexCast v834
  let c0_807 : Index := 0#32
  ![v839.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2176x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S4x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S2x17408x256 : Shape := ⟨3, ![2, 17408, 256]⟩
abbrev S2x17408x128 : Shape := ⟨3, ![2, 17408, 128]⟩
abbrev S64x256x256 : Shape := ⟨3, ![64, 256, 256]⟩
abbrev S64x256x128 : Shape := ⟨3, ![64, 256, 128]⟩
abbrev S64x128x256 : Shape := ⟨3, ![64, 128, 256]⟩
abbrev S2x64x64 : Shape := ⟨3, ![2, 64, 64]⟩
abbrev S1x64x64 : Shape := ⟨3, ![1, 64, 64]⟩
abbrev S64x64 : Shape := ⟨2, ![64, 64]⟩
abbrev S64x128 : Shape := ⟨2, ![64, 128]⟩
abbrev S1x64x128 : Shape := ⟨3, ![1, 64, 128]⟩
abbrev S4x64x128 : Shape := ⟨3, ![4, 64, 128]⟩
abbrev S2x64x272x128 : Shape := ⟨4, ![2, 64, 272, 128]⟩
abbrev S2x64x272x256 : Shape := ⟨4, ![2, 64, 272, 256]⟩
abbrev S64x256x2x272 : Shape := ⟨4, ![64, 256, 2, 272]⟩
abbrev S64x2x272x128 : Shape := ⟨4, ![64, 2, 272, 128]⟩
abbrev S_ : Shape := ⟨0, ![]⟩
abbrev S2x64x128 : Shape := ⟨3, ![2, 64, 128]⟩
abbrev S272x2x64x128 : Shape := ⟨4, ![272, 2, 64, 128]⟩
abbrev S2x64x16x128 : Shape := ⟨4, ![2, 64, 16, 128]⟩
abbrev S2x64x256x128 : Shape := ⟨4, ![2, 64, 256, 128]⟩
abbrev S1x2x64x128 : Shape := ⟨4, ![1, 2, 64, 128]⟩
abbrev S64x2x272x256 : Shape := ⟨4, ![64, 2, 272, 256]⟩
abbrev S64x128x2x272 : Shape := ⟨4, ![64, 128, 2, 272]⟩

abbrev nBuf : Space → Nat
  | .hbm => 278
  | .vmem => 0
  | .smem => 0
  | _ => 0

abbrev hbmTy0_0 (i : Nat) : BufTy := match i % 128 with
  | 0 => ⟨S2x17408x256, .bf16⟩
  | 1 => ⟨S2x17408x256, .bf16⟩
  | 2 => ⟨S2x17408x128, .f32⟩
  | 3 => ⟨S2x17408x128, .f32⟩
  | 4 => ⟨S64x256x256, .bf16⟩
  | 5 => ⟨S64x256x128, .bf16⟩
  | 6 => ⟨S64x256x128, .bf16⟩
  | 7 => ⟨S64x128x256, .bf16⟩
  | 8 => ⟨S64x128x256, .bf16⟩
  | 9 => ⟨S2x64x64, .f32⟩
  | 10 => ⟨S2x64x64, .f32⟩
  | 11 => ⟨S1x64x64, .f32⟩
  | 12 => ⟨S64x64, .f32⟩
  | 13 => ⟨S1x64x64, .f32⟩
  | 14 => ⟨S64x64, .f32⟩
  | 15 => ⟨S64x128, .f32⟩
  | 16 => ⟨S1x64x64, .f32⟩
  | 17 => ⟨S64x64, .f32⟩
  | 18 => ⟨S64x64, .f32⟩
  | 19 => ⟨S1x64x64, .f32⟩
  | 20 => ⟨S64x64, .f32⟩
  | 21 => ⟨S64x128, .f32⟩
  | 22 => ⟨S1x64x64, .f32⟩
  | 23 => ⟨S64x64, .f32⟩
  | 24 => ⟨S1x64x64, .f32⟩
  | 25 => ⟨S64x64, .f32⟩
  | 26 => ⟨S64x128, .f32⟩
  | 27 => ⟨S1x64x64, .f32⟩
  | 28 => ⟨S64x64, .f32⟩
  | 29 => ⟨S64x64, .f32⟩
  | 30 => ⟨S1x64x64, .f32⟩
  | 31 => ⟨S64x64, .f32⟩
  | 32 => ⟨S64x128, .f32⟩
  | 33 => ⟨S1x64x128, .f32⟩
  | 34 => ⟨S1x64x128, .f32⟩
  | 35 => ⟨S1x64x128, .f32⟩
  | 36 => ⟨S1x64x128, .f32⟩
  | 37 => ⟨S4x64x128, .f32⟩
  | 38 => ⟨S2x64x272x128, .f32⟩
  | 39 => ⟨S2x64x272x128, .f32⟩
  | 40 => ⟨S2x17408x256, .f32⟩
  | 41 => ⟨S2x64x272x256, .f32⟩
  | 42 => ⟨S64x256x256, .f32⟩
  | 43 => ⟨S64x128x256, .f32⟩
  | 44 => ⟨S64x128x256, .f32⟩
  | 45 => ⟨S64x256x2x272, .f32⟩
  | 46 => ⟨S2x64x272x256, .f32⟩
  | 47 => ⟨S64x256x2x272, .f32⟩
  | 48 => ⟨S2x64x272x256, .f32⟩
  | 49 => ⟨S2x64x272x256, .f32⟩
  | 50 => ⟨S64x256x2x272, .f32⟩
  | 51 => ⟨S2x64x272x256, .f32⟩
  | 52 => ⟨S2x64x272x256, .f32⟩
  | 53 => ⟨S2x17408x256, .f32⟩
  | 54 => ⟨S2x64x272x256, .f32⟩
  | 55 => ⟨S64x256x2x272, .f32⟩
  | 56 => ⟨S64x2x272x128, .f32⟩
  | 57 => ⟨S2x64x272x128, .f32⟩
  | 58 => ⟨S64x256x2x272, .f32⟩
  | 59 => ⟨S64x2x272x128, .f32⟩
  | 60 => ⟨S2x64x272x128, .f32⟩
  | 61 => ⟨S_, .f32⟩
  | 62 => ⟨S2x64x128, .f32⟩
  | 63 => ⟨S_, .f32⟩
  | 64 => ⟨S64x128, .f32⟩
  | 65 => ⟨S272x2x64x128, .f32⟩
  | 66 => ⟨S2x64x16x128, .f32⟩
  | 67 => ⟨S2x64x16x128, .f32⟩
  | 68 => ⟨S2x64x256x128, .f32⟩
  | 69 => ⟨S2x64x256x128, .f32⟩
  | 70 => ⟨S2x64x272x128, .f32⟩
  | 71 => ⟨S272x2x64x128, .f32⟩
  | 72 => ⟨S272x2x64x128, .f32⟩
  | 73 => ⟨S2x64x16x128, .f32⟩
  | 74 => ⟨S2x64x16x128, .f32⟩
  | 75 => ⟨S2x64x256x128, .f32⟩
  | 76 => ⟨S2x64x256x128, .f32⟩
  | 77 => ⟨S2x64x272x128, .f32⟩
  | 78 => ⟨S272x2x64x128, .f32⟩
  | 79 => ⟨S_, .f32⟩
  | 80 => ⟨S272x2x64x128, .f32⟩
  | 81 => ⟨S_, .f32⟩
  | 82 => ⟨S272x2x64x128, .f32⟩
  | 83 => ⟨S_, .i32⟩
  | 84 => ⟨S272x2x64x128, .f32⟩
  | 85 => ⟨S272x2x64x128, .f32⟩
  | 86 => ⟨S272x2x64x128, .f32⟩
  | 87 => ⟨S272x2x64x128, .f32⟩
  | 88 => ⟨S4x64x128, .f32⟩
  | 89 => ⟨S_, .i32⟩
  | 90 => ⟨S2x64x128, .f32⟩
  | 91 => ⟨S2x64x128, .f32⟩
  | 92 => ⟨S64x128, .f32⟩
  | 93 => ⟨S64x128, .f32⟩
  | 94 => ⟨S64x128, .f32⟩
  | 95 => ⟨S64x128, .f32⟩
  | 96 => ⟨S272x2x64x128, .f32⟩
  | 97 => ⟨S272x2x64x128, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1x2x64x128, .f32⟩
  | 108 => ⟨S2x64x128, .f32⟩
  | 109 => ⟨S_, .i32⟩
  | 110 => ⟨S_, .i32⟩
  | 111 => ⟨S_, .i32⟩
  | 112 => ⟨S1x2x64x128, .f32⟩
  | 113 => ⟨S2x64x128, .f32⟩
  | 114 => ⟨S_, .i32⟩
  | 115 => ⟨S_, .i32⟩
  | 116 => ⟨S_, .i32⟩
  | 117 => ⟨S1x2x64x128, .f32⟩
  | 118 => ⟨S2x64x128, .f32⟩
  | 119 => ⟨S_, .i32⟩
  | 120 => ⟨S_, .i32⟩
  | 121 => ⟨S_, .i32⟩
  | 122 => ⟨S1x2x64x128, .f32⟩
  | 123 => ⟨S2x64x128, .f32⟩
  | 124 => ⟨S1x64x128, .f32⟩
  | 125 => ⟨S64x128, .f32⟩
  | 126 => ⟨S1x64x128, .f32⟩
  | 127 => ⟨S64x128, .f32⟩
  | _ => ⟨S2x17408x256, .bf16⟩

abbrev hbmTy0_1 (i : Nat) : BufTy := match i % 128 with
  | 0 => ⟨S1x64x128, .f32⟩
  | 1 => ⟨S2x64x128, .f32⟩
  | 2 => ⟨S2x64x128, .f32⟩
  | 3 => ⟨S2x64x64, .f32⟩
  | 4 => ⟨S2x64x64, .f32⟩
  | 5 => ⟨S2x64x128, .f32⟩
  | 6 => ⟨S1x64x128, .f32⟩
  | 7 => ⟨S2x64x128, .f32⟩
  | 8 => ⟨S2x64x128, .f32⟩
  | 9 => ⟨S2x64x128, .f32⟩
  | 10 => ⟨S2x64x128, .f32⟩
  | 11 => ⟨S2x64x128, .f32⟩
  | 12 => ⟨S2x64x128, .f32⟩
  | 13 => ⟨S_, .f32⟩
  | 14 => ⟨S64x128, .f32⟩
  | 15 => ⟨S1x64x128, .f32⟩
  | 16 => ⟨S_, .f32⟩
  | 17 => ⟨S64x128, .f32⟩
  | 18 => ⟨S2x64x64, .f32⟩
  | 19 => ⟨S2x64x64, .f32⟩
  | 20 => ⟨S_, .f32⟩
  | 21 => ⟨S2x64x128, .f32⟩
  | 22 => ⟨S_, .f32⟩
  | 23 => ⟨S2x64x128, .f32⟩
  | 24 => ⟨S2x64x128, .f32⟩
  | 25 => ⟨S2x64x128, .f32⟩
  | 26 => ⟨S2x64x128, .f32⟩
  | 27 => ⟨S2x64x128, .f32⟩
  | 28 => ⟨S2x64x128, .f32⟩
  | 29 => ⟨S_, .f32⟩
  | 30 => ⟨S64x128, .f32⟩
  | 31 => ⟨S1x64x128, .f32⟩
  | 32 => ⟨S_, .f32⟩
  | 33 => ⟨S64x128, .f32⟩
  | 34 => ⟨S1x64x128, .f32⟩
  | 35 => ⟨S64x128, .f32⟩
  | 36 => ⟨S1x64x128, .f32⟩
  | 37 => ⟨S64x128, .f32⟩
  | 38 => ⟨S1x64x128, .f32⟩
  | 39 => ⟨S2x64x128, .f32⟩
  | 40 => ⟨S2x64x128, .f32⟩
  | 41 => ⟨S2x64x64, .f32⟩
  | 42 => ⟨S2x64x64, .f32⟩
  | 43 => ⟨S2x64x128, .f32⟩
  | 44 => ⟨S1x64x128, .f32⟩
  | 45 => ⟨S2x64x128, .f32⟩
  | 46 => ⟨S2x64x128, .f32⟩
  | 47 => ⟨S2x64x128, .f32⟩
  | 48 => ⟨S2x64x128, .f32⟩
  | 49 => ⟨S2x64x128, .f32⟩
  | 50 => ⟨S2x64x128, .f32⟩
  | 51 => ⟨S_, .f32⟩
  | 52 => ⟨S64x128, .f32⟩
  | 53 => ⟨S1x64x128, .f32⟩
  | 54 => ⟨S_, .f32⟩
  | 55 => ⟨S64x128, .f32⟩
  | 56 => ⟨S2x64x64, .f32⟩
  | 57 => ⟨S2x64x64, .f32⟩
  | 58 => ⟨S_, .f32⟩
  | 59 => ⟨S2x64x128, .f32⟩
  | 60 => ⟨S_, .f32⟩
  | 61 => ⟨S2x64x128, .f32⟩
  | 62 => ⟨S2x64x128, .f32⟩
  | 63 => ⟨S2x64x128, .f32⟩
  | 64 => ⟨S2x64x128, .f32⟩
  | 65 => ⟨S2x64x128, .f32⟩
  | 66 => ⟨S2x64x128, .f32⟩
  | 67 => ⟨S_, .f32⟩
  | 68 => ⟨S64x128, .f32⟩
  | 69 => ⟨S1x64x128, .f32⟩
  | 70 => ⟨S_, .f32⟩
  | 71 => ⟨S64x128, .f32⟩
  | 72 => ⟨S2x64x128, .f32⟩
  | 73 => ⟨S2x64x128, .f32⟩
  | 74 => ⟨S64x128, .f32⟩
  | 75 => ⟨S64x128, .f32⟩
  | 76 => ⟨S64x128, .f32⟩
  | 77 => ⟨S64x128, .f32⟩
  | 78 => ⟨S1x2x64x128, .f32⟩
  | 79 => ⟨S_, .i32⟩
  | 80 => ⟨S_, .i32⟩
  | 81 => ⟨S_, .i32⟩
  | 82 => ⟨S272x2x64x128, .f32⟩
  | 83 => ⟨S1x2x64x128, .f32⟩
  | 84 => ⟨S_, .i32⟩
  | 85 => ⟨S_, .i32⟩
  | 86 => ⟨S_, .i32⟩
  | 87 => ⟨S272x2x64x128, .f32⟩
  | 88 => ⟨S_, .i32⟩
  | 89 => ⟨S_, .i32⟩
  | 90 => ⟨S2x64x272x128, .f32⟩
  | 91 => ⟨S2x64x272x128, .f32⟩
  | 92 => ⟨S2x64x16x128, .f32⟩
  | 93 => ⟨S2x64x16x128, .f32⟩
  | 94 => ⟨S2x64x256x128, .f32⟩
  | 95 => ⟨S2x64x256x128, .f32⟩
  | 96 => ⟨S2x64x272x128, .f32⟩
  | 97 => ⟨S2x17408x256, .f32⟩
  | 98 => ⟨S2x64x272x256, .f32⟩
  | 99 => ⟨S64x256x256, .f32⟩
  | 100 => ⟨S64x128x256, .f32⟩
  | 101 => ⟨S64x128x256, .f32⟩
  | 102 => ⟨S2x64x272x128, .f32⟩
  | 103 => ⟨S2x64x272x128, .f32⟩
  | 104 => ⟨S64x256x2x272, .f32⟩
  | 105 => ⟨S2x64x272x256, .f32⟩
  | 106 => ⟨S64x256x2x272, .f32⟩
  | 107 => ⟨S2x64x272x256, .f32⟩
  | 108 => ⟨S2x64x272x256, .f32⟩
  | 109 => ⟨S64x256x2x272, .f32⟩
  | 110 => ⟨S2x64x272x256, .f32⟩
  | 111 => ⟨S2x64x272x256, .f32⟩
  | 112 => ⟨S2x17408x256, .f32⟩
  | 113 => ⟨S2x64x272x256, .f32⟩
  | 114 => ⟨S64x256x2x272, .f32⟩
  | 115 => ⟨S64x256x128, .f32⟩
  | 116 => ⟨S64x128x256, .f32⟩
  | 117 => ⟨S64x256x2x272, .f32⟩
  | 118 => ⟨S64x256x128, .f32⟩
  | 119 => ⟨S64x128x256, .f32⟩
  | 120 => ⟨S64x256x2x272, .f32⟩
  | 121 => ⟨S64x2x272x256, .f32⟩
  | 122 => ⟨S2x64x272x256, .f32⟩
  | 123 => ⟨S64x256x256, .f32⟩
  | 124 => ⟨S64x256x256, .f32⟩
  | 125 => ⟨S64x256x128, .f32⟩
  | 126 => ⟨S64x128x2x272, .f32⟩
  | 127 => ⟨S2x64x272x128, .f32⟩
  | _ => ⟨S2x17408x256, .bf16⟩

abbrev hbmTy0_2 (i : Nat) : BufTy := match i % 128 with
  | 0 => ⟨S64x128x2x272, .f32⟩
  | 1 => ⟨S64x2x272x256, .f32⟩
  | 2 => ⟨S2x64x272x256, .f32⟩
  | 3 => ⟨S64x128x256, .f32⟩
  | 4 => ⟨S64x256x128, .f32⟩
  | 5 => ⟨S64x256x128, .f32⟩
  | 6 => ⟨S64x128x2x272, .f32⟩
  | 7 => ⟨S2x64x272x128, .f32⟩
  | 8 => ⟨S64x128x2x272, .f32⟩
  | 9 => ⟨S64x2x272x256, .f32⟩
  | 10 => ⟨S2x64x272x256, .f32⟩
  | 11 => ⟨S64x128x256, .f32⟩
  | 12 => ⟨S64x256x128, .f32⟩
  | 13 => ⟨S2x64x272x256, .f32⟩
  | 14 => ⟨S2x64x272x256, .f32⟩
  | 15 => ⟨S2x17408x256, .f32⟩
  | 16 => ⟨S2x17408x256, .bf16⟩
  | 17 => ⟨S1x64x128, .f32⟩
  | 18 => ⟨S1x64x128, .f32⟩
  | 19 => ⟨S1x64x128, .f32⟩
  | 20 => ⟨S1x64x128, .f32⟩
  | 21 => ⟨S4x64x128, .f32⟩
  | _ => ⟨S2x17408x256, .bf16⟩

abbrev hbmTy (i : Nat) : BufTy := match i / 128 with
  | 0 => hbmTy0_0 i
  | 1 => hbmTy0_1 i
  | 2 => hbmTy0_2 i
  | _ => ⟨S2x17408x256, .bf16⟩

abbrev bufTy : (tb : Table) → Fin (tcTables nBuf tb) → BufTy
  | .hbm, ⟨i, _⟩ => hbmTy i
  | _, _ => ⟨S2x17408x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_cst_0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_1 : Ref sig .tc := ⟨.hbm, 79, rfl⟩
abbrev main_v66 : Ref sig .tc := ⟨.hbm, 80, rfl⟩
abbrev main_cst_2 : Ref sig .tc := ⟨.hbm, 81, rfl⟩
abbrev main_v67 : Ref sig .tc := ⟨.hbm, 82, rfl⟩
abbrev main_c : Ref sig .tc := ⟨.hbm, 83, rfl⟩
abbrev main_v68_0 : Ref sig .tc := ⟨.hbm, 84, rfl⟩
abbrev main_v68_1 : Ref sig .tc := ⟨.hbm, 85, rfl⟩
abbrev main_v68_2 : Ref sig .tc := ⟨.hbm, 86, rfl⟩
abbrev main_v68_3 : Ref sig .tc := ⟨.hbm, 87, rfl⟩
abbrev main_v68_4 : Ref sig .tc := ⟨.hbm, 88, rfl⟩
abbrev main_v68_5 : Ref sig .tc := ⟨.hbm, 89, rfl⟩
abbrev main_v68_6 : Ref sig .tc := ⟨.hbm, 90, rfl⟩
abbrev main_v68_7 : Ref sig .tc := ⟨.hbm, 91, rfl⟩
abbrev main_v68_8 : Ref sig .tc := ⟨.hbm, 92, rfl⟩
abbrev main_v68_9 : Ref sig .tc := ⟨.hbm, 93, rfl⟩
abbrev main_v68_10 : Ref sig .tc := ⟨.hbm, 94, rfl⟩
abbrev main_v68_11 : Ref sig .tc := ⟨.hbm, 95, rfl⟩
abbrev main_v68_12 : Ref sig .tc := ⟨.hbm, 96, rfl⟩
abbrev main_v68_13 : Ref sig .tc := ⟨.hbm, 97, rfl⟩
abbrev main_while0c_c_16 : Ref sig .tc := ⟨.hbm, 98, rfl⟩
abbrev main_while0c_v129 : Ref sig .tc := ⟨.hbm, 99, rfl⟩
abbrev main_while0b_c_16 : Ref sig .tc := ⟨.hbm, 100, rfl⟩
abbrev main_while0b_v129 : Ref sig .tc := ⟨.hbm, 101, rfl⟩
abbrev main_while0b_c_17 : Ref sig .tc := ⟨.hbm, 102, rfl⟩
abbrev main_while0b_v130 : Ref sig .tc := ⟨.hbm, 103, rfl⟩
abbrev main_while0b_call0_c : Ref sig .tc := ⟨.hbm, 104, rfl⟩
abbrev main_while0b_call0_c_0 : Ref sig .tc := ⟨.hbm, 105, rfl⟩
abbrev main_while0b_call0_c_1 : Ref sig .tc := ⟨.hbm, 106, rfl⟩
abbrev main_while0b_call0_v0 : Ref sig .tc := ⟨.hbm, 107, rfl⟩
abbrev main_while0b_v131 : Ref sig .tc := ⟨.hbm, 108, rfl⟩
abbrev main_while0b_call1_c : Ref sig .tc := ⟨.hbm, 109, rfl⟩
abbrev main_while0b_call1_c_0 : Ref sig .tc := ⟨.hbm, 110, rfl⟩
abbrev main_while0b_call1_c_1 : Ref sig .tc := ⟨.hbm, 111, rfl⟩
abbrev main_while0b_call1_v0 : Ref sig .tc := ⟨.hbm, 112, rfl⟩
abbrev main_while0b_v132 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_v0 : Ref sig .tc := ⟨.hbm, 117, rfl⟩
abbrev main_while0b_v133 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_v0 : Ref sig .tc := ⟨.hbm, 122, rfl⟩
abbrev main_while0b_v134 : Ref sig .tc := ⟨.hbm, 123, rfl⟩
abbrev main_while0b_v135 : Ref sig .tc := ⟨.hbm, 124, rfl⟩
abbrev main_while0b_v136 : Ref sig .tc := ⟨.hbm, 125, rfl⟩
abbrev main_while0b_v137 : Ref sig .tc := ⟨.hbm, 126, rfl⟩
abbrev main_while0b_v138 : Ref sig .tc := ⟨.hbm, 127, rfl⟩
abbrev main_while0b_v139 : Ref sig .tc := ⟨.hbm, 128, rfl⟩
abbrev main_while0b_v140 : Ref sig .tc := ⟨.hbm, 129, rfl⟩
abbrev main_while0b_v141 : Ref sig .tc := ⟨.hbm, 130, rfl⟩
abbrev main_while0b_v142 : Ref sig .tc := ⟨.hbm, 131, rfl⟩
abbrev main_while0b_v143 : Ref sig .tc := ⟨.hbm, 132, rfl⟩
abbrev main_while0b_v144 : Ref sig .tc := ⟨.hbm, 133, rfl⟩
abbrev main_while0b_v145 : Ref sig .tc := ⟨.hbm, 134, rfl⟩
abbrev main_while0b_v146 : Ref sig .tc := ⟨.hbm, 135, rfl⟩
abbrev main_while0b_v147 : Ref sig .tc := ⟨.hbm, 136, rfl⟩
abbrev main_while0b_v148 : Ref sig .tc := ⟨.hbm, 137, rfl⟩
abbrev main_while0b_v149 : Ref sig .tc := ⟨.hbm, 138, rfl⟩
abbrev main_while0b_v150 : Ref sig .tc := ⟨.hbm, 139, rfl⟩
abbrev main_while0b_v151 : Ref sig .tc := ⟨.hbm, 140, rfl⟩
abbrev main_while0b_cst_18 : Ref sig .tc := ⟨.hbm, 141, rfl⟩
abbrev main_while0b_v152 : Ref sig .tc := ⟨.hbm, 142, rfl⟩
abbrev main_while0b_v153 : Ref sig .tc := ⟨.hbm, 143, rfl⟩
abbrev main_while0b_cst_19 : Ref sig .tc := ⟨.hbm, 144, rfl⟩
abbrev main_while0b_v154 : Ref sig .tc := ⟨.hbm, 145, rfl⟩
abbrev main_while0b_v155 : Ref sig .tc := ⟨.hbm, 146, rfl⟩
abbrev main_while0b_v156 : Ref sig .tc := ⟨.hbm, 147, rfl⟩
abbrev main_while0b_cst_20 : Ref sig .tc := ⟨.hbm, 148, rfl⟩
abbrev main_while0b_v157 : Ref sig .tc := ⟨.hbm, 149, rfl⟩
abbrev main_while0b_cst_21 : Ref sig .tc := ⟨.hbm, 150, rfl⟩
abbrev main_while0b_v158 : Ref sig .tc := ⟨.hbm, 151, rfl⟩
abbrev main_while0b_v159 : Ref sig .tc := ⟨.hbm, 152, rfl⟩
abbrev main_while0b_v160 : Ref sig .tc := ⟨.hbm, 153, rfl⟩
abbrev main_while0b_v161 : Ref sig .tc := ⟨.hbm, 154, rfl⟩
abbrev main_while0b_v162 : Ref sig .tc := ⟨.hbm, 155, rfl⟩
abbrev main_while0b_v163 : Ref sig .tc := ⟨.hbm, 156, rfl⟩
abbrev main_while0b_cst_22 : Ref sig .tc := ⟨.hbm, 157, rfl⟩
abbrev main_while0b_v164 : Ref sig .tc := ⟨.hbm, 158, rfl⟩
abbrev main_while0b_v165 : Ref sig .tc := ⟨.hbm, 159, rfl⟩
abbrev main_while0b_cst_23 : Ref sig .tc := ⟨.hbm, 160, rfl⟩
abbrev main_while0b_v166 : Ref sig .tc := ⟨.hbm, 161, rfl⟩
abbrev main_while0b_v167 : Ref sig .tc := ⟨.hbm, 162, rfl⟩
abbrev main_while0b_v168 : Ref sig .tc := ⟨.hbm, 163, rfl⟩
abbrev main_while0b_v169 : Ref sig .tc := ⟨.hbm, 164, rfl⟩
abbrev main_while0b_v170 : Ref sig .tc := ⟨.hbm, 165, rfl⟩
abbrev main_while0b_v171 : Ref sig .tc := ⟨.hbm, 166, rfl⟩
abbrev main_while0b_v172 : Ref sig .tc := ⟨.hbm, 167, rfl⟩
abbrev main_while0b_v173 : Ref sig .tc := ⟨.hbm, 168, rfl⟩
abbrev main_while0b_v174 : Ref sig .tc := ⟨.hbm, 169, rfl⟩
abbrev main_while0b_v175 : Ref sig .tc := ⟨.hbm, 170, rfl⟩
abbrev main_while0b_v176 : Ref sig .tc := ⟨.hbm, 171, rfl⟩
abbrev main_while0b_v177 : Ref sig .tc := ⟨.hbm, 172, rfl⟩
abbrev main_while0b_v178 : Ref sig .tc := ⟨.hbm, 173, rfl⟩
abbrev main_while0b_v179 : Ref sig .tc := ⟨.hbm, 174, rfl⟩
abbrev main_while0b_v180 : Ref sig .tc := ⟨.hbm, 175, rfl⟩
abbrev main_while0b_v181 : Ref sig .tc := ⟨.hbm, 176, rfl⟩
abbrev main_while0b_v182 : Ref sig .tc := ⟨.hbm, 177, rfl⟩
abbrev main_while0b_v183 : Ref sig .tc := ⟨.hbm, 178, rfl⟩
abbrev main_while0b_cst_24 : Ref sig .tc := ⟨.hbm, 179, rfl⟩
abbrev main_while0b_v184 : Ref sig .tc := ⟨.hbm, 180, rfl⟩
abbrev main_while0b_v185 : Ref sig .tc := ⟨.hbm, 181, rfl⟩
abbrev main_while0b_cst_25 : Ref sig .tc := ⟨.hbm, 182, rfl⟩
abbrev main_while0b_v186 : Ref sig .tc := ⟨.hbm, 183, rfl⟩
abbrev main_while0b_v187 : Ref sig .tc := ⟨.hbm, 184, rfl⟩
abbrev main_while0b_v188 : Ref sig .tc := ⟨.hbm, 185, rfl⟩
abbrev main_while0b_cst_26 : Ref sig .tc := ⟨.hbm, 186, rfl⟩
abbrev main_while0b_v189 : Ref sig .tc := ⟨.hbm, 187, rfl⟩
abbrev main_while0b_cst_27 : Ref sig .tc := ⟨.hbm, 188, rfl⟩
abbrev main_while0b_v190 : Ref sig .tc := ⟨.hbm, 189, rfl⟩
abbrev main_while0b_v191 : Ref sig .tc := ⟨.hbm, 190, rfl⟩
abbrev main_while0b_v192 : Ref sig .tc := ⟨.hbm, 191, rfl⟩
abbrev main_while0b_v193 : Ref sig .tc := ⟨.hbm, 192, rfl⟩
abbrev main_while0b_v194 : Ref sig .tc := ⟨.hbm, 193, rfl⟩
abbrev main_while0b_v195 : Ref sig .tc := ⟨.hbm, 194, rfl⟩
abbrev main_while0b_cst_28 : Ref sig .tc := ⟨.hbm, 195, rfl⟩
abbrev main_while0b_v196 : Ref sig .tc := ⟨.hbm, 196, rfl⟩
abbrev main_while0b_v197 : Ref sig .tc := ⟨.hbm, 197, rfl⟩
abbrev main_while0b_cst_29 : Ref sig .tc := ⟨.hbm, 198, rfl⟩
abbrev main_while0b_v198 : Ref sig .tc := ⟨.hbm, 199, rfl⟩
abbrev main_while0b_v199 : Ref sig .tc := ⟨.hbm, 200, rfl⟩
abbrev main_while0b_v200 : Ref sig .tc := ⟨.hbm, 201, rfl⟩
abbrev main_while0b_v201 : Ref sig .tc := ⟨.hbm, 202, rfl⟩
abbrev main_while0b_v202 : Ref sig .tc := ⟨.hbm, 203, rfl⟩
abbrev main_while0b_v203 : Ref sig .tc := ⟨.hbm, 204, rfl⟩
abbrev main_while0b_v204 : Ref sig .tc := ⟨.hbm, 205, rfl⟩
abbrev main_while0b_call4_v0 : Ref sig .tc := ⟨.hbm, 206, rfl⟩
abbrev main_while0b_call4_c : Ref sig .tc := ⟨.hbm, 207, rfl⟩
abbrev main_while0b_call4_c_0 : Ref sig .tc := ⟨.hbm, 208, rfl⟩
abbrev main_while0b_call4_c_1 : Ref sig .tc := ⟨.hbm, 209, rfl⟩
abbrev main_while0b_v205 : Ref sig .tc := ⟨.hbm, 210, rfl⟩
abbrev main_while0b_call5_v0 : Ref sig .tc := ⟨.hbm, 211, rfl⟩
abbrev main_while0b_call5_c : Ref sig .tc := ⟨.hbm, 212, rfl⟩
abbrev main_while0b_call5_c_0 : Ref sig .tc := ⟨.hbm, 213, rfl⟩
abbrev main_while0b_call5_c_1 : Ref sig .tc := ⟨.hbm, 214, rfl⟩
abbrev main_while0b_v206 : Ref sig .tc := ⟨.hbm, 215, rfl⟩
abbrev main_while0b_c_30 : Ref sig .tc := ⟨.hbm, 216, rfl⟩
abbrev main_while0b_v207 : Ref sig .tc := ⟨.hbm, 217, rfl⟩
abbrev main_v69 : Ref sig .tc := ⟨.hbm, 218, rfl⟩
abbrev main_v70 : Ref sig .tc := ⟨.hbm, 219, rfl⟩
abbrev main_v71 : Ref sig .tc := ⟨.hbm, 220, rfl⟩
abbrev main_v72 : Ref sig .tc := ⟨.hbm, 221, rfl⟩
abbrev main_v73 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev main_v100 : Ref sig .tc := ⟨.hbm, 249, rfl⟩
abbrev main_v101 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_v105 : Ref sig .tc := ⟨.hbm, 254, rfl⟩
abbrev main_v106 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev main_v111 : Ref sig .tc := ⟨.hbm, 260, rfl⟩
abbrev main_v112 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_v116 : Ref sig .tc := ⟨.hbm, 265, rfl⟩
abbrev main_v117 : Ref sig .tc := ⟨.hbm, 266, rfl⟩
abbrev main_v118 : Ref sig .tc := ⟨.hbm, 267, rfl⟩
abbrev main_v119 : Ref sig .tc := ⟨.hbm, 268, rfl⟩
abbrev main_v120 : Ref sig .tc := ⟨.hbm, 269, rfl⟩
abbrev main_v121 : Ref sig .tc := ⟨.hbm, 270, rfl⟩
abbrev main_v122 : Ref sig .tc := ⟨.hbm, 271, rfl⟩
abbrev main_v123 : Ref sig .tc := ⟨.hbm, 272, rfl⟩
abbrev main_v124 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩

abbrev nD : Nat := 1
abbrev τ : Topo := Topo.v7x

variable {F : FTy → Type} [FloatOps F]

abbrev main_while0_count : Scf.Loop 32 := ⟨0#32, 272#32, 1#32⟩
-- ==== Mlp2Dx.lean ====
abbrev S2x4352x4096 : Shape := ⟨3, ![2, 4352, 4096]⟩
abbrev S4096 : Shape := ⟨1, ![4096]⟩
abbrev S4096x1024 : Shape := ⟨2, ![4096, 1024]⟩
abbrev S2x4352x1024 : Shape := ⟨3, ![2, 4352, 1024]⟩
abbrev S1x1x4096 : Shape := ⟨3, ![1, 1, 4096]⟩
abbrev S_ : Shape := ⟨0, ![]⟩
abbrev S8704x1024 : Shape := ⟨2, ![8704, 1024]⟩
abbrev S8704x4096 : Shape := ⟨2, ![8704, 4096]⟩
abbrev S1x4096 : Shape := ⟨2, ![1, 4096]⟩
abbrev S1088x1024 : Shape := ⟨2, ![1088, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 16
  | .vmem => 10
  | .smem => 0
  | _ => 0

abbrev bufTy : (tb : Table) → Fin (tcTables nBuf tb) → BufTy
  | .hbm, ⟨0, _⟩ => ⟨S2x4352x4096, .f32⟩
  | .hbm, ⟨1, _⟩ => ⟨S4096, .f32⟩
  | .hbm, ⟨2, _⟩ => ⟨S4096x1024, .f32⟩
  | .hbm, ⟨3, _⟩ => ⟨S2x4352x1024, .bf16⟩
  | .hbm, ⟨4, _⟩ => ⟨S1x1x4096, .f32⟩
  | .hbm, ⟨5, _⟩ => ⟨S2x4352x4096, .f32⟩
  | .hbm, ⟨6, _⟩ => ⟨S2x4352x4096, .f32⟩
  | .hbm, ⟨7, _⟩ => ⟨S_, .f32⟩
  | .hbm, ⟨8, _⟩ => ⟨S2x4352x4096, .f32⟩
  | .hbm, ⟨9, _⟩ => ⟨S2x4352x4096, .f32⟩
  | .hbm, ⟨10, _⟩ => ⟨S2x4352x4096, .bf16⟩
  | .hbm, ⟨11, _⟩ => ⟨S8704x1024, .bf16⟩
  | .hbm, ⟨12, _⟩ => ⟨S4096x1024, .bf16⟩
  | .hbm, ⟨13, _⟩ => ⟨S8704x4096, .bf16⟩
  | .hbm, ⟨14, _⟩ => ⟨S8704x4096, .bf16⟩
  | .hbm, ⟨15, _⟩ => ⟨S1x4096, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1x1024, .f32⟩
  | .local _ .vmem, ⟨9, _⟩ => ⟨S1x1024, .f32⟩
  | _, _ => ⟨S2x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg1 : BitVec 32 := BitVec.ofNat 32 (i 1).val
  let c0_i32_9 : BitVec 32 := 0#32
  let v16 : BitVec 1 := Scalar.cmpi .sgt arg1 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Mlp2DxReferenceIdeal.lean ====
abbrev S2x4352x4096 : Shape := ⟨3, ![2, 4352, 4096]⟩
abbrev S4096 : Shape := ⟨1, ![4096]⟩
abbrev S4096x1024 : Shape := ⟨2, ![4096, 1024]⟩
abbrev S2x4352x1024 : Shape := ⟨3, ![2, 4352, 1024]⟩
abbrev S1x1x4096 : Shape := ⟨3, ![1, 1, 4096]⟩
abbrev S_ : Shape := ⟨0, ![]⟩
abbrev S1024x4096 : Shape := ⟨2, ![1024, 4096]⟩
abbrev S8704x4096 : Shape := ⟨2, ![8704, 4096]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S2x4352x4096, .f32⟩
  | .hbm, ⟨1, _⟩ => ⟨S4096, .f32⟩
  | .hbm, ⟨2, _⟩ => ⟨S4096x1024, .f32⟩
  | .hbm, ⟨3, _⟩ => ⟨S2x4352x1024, .bf16⟩
  | .hbm, ⟨4, _⟩ => ⟨S1x1x4096, .f32⟩
  | .hbm, ⟨5, _⟩ => ⟨S2x4352x4096, .f32⟩
  | .hbm, ⟨6, _⟩ => ⟨S2x4352x4096, .f32⟩
  | .hbm, ⟨7, _⟩ => ⟨S_, .f32⟩
  | .hbm, ⟨8, _⟩ => ⟨S2x4352x4096, .f32⟩
  | .hbm, ⟨9, _⟩ => ⟨S2x4352x4096, .f32⟩
  | .hbm, ⟨10, _⟩ => ⟨S_, .f32⟩
  | .hbm, ⟨11, _⟩ => ⟨S2x4352x4096, .f32⟩
  | .hbm, ⟨12, _⟩ => ⟨S2x4352x4096, .i1⟩
  | .hbm, ⟨13, _⟩ => ⟨S_, .f32⟩
  | .hbm, ⟨14, _⟩ => ⟨S2x4352x4096, .f32⟩
  | .hbm, ⟨15, _⟩ => ⟨S2x4352x4096, .f32⟩
  | .hbm, ⟨16, _⟩ => ⟨S_, .f32⟩
  | .hbm, ⟨17, _⟩ => ⟨S2x4352x4096, .f32⟩
  | .hbm, ⟨18, _⟩ => ⟨S2x4352x4096, .f32⟩
  | .hbm, ⟨19, _⟩ => ⟨S2x4352x1024, .f32⟩
  | .hbm, ⟨20, _⟩ => ⟨S2x4352x1024, .f32⟩
  | .hbm, ⟨21, _⟩ => ⟨S1024x4096, .f32⟩
  | .hbm, ⟨22, _⟩ => ⟨S4096x1024, .f32⟩
  | .hbm, ⟨23, _⟩ => ⟨S2x4352x4096, .f32⟩
  | .hbm, ⟨24, _⟩ => ⟨S2x4352x4096, .f32⟩
  | .hbm, ⟨25, _⟩ => ⟨S_, .f32⟩
  | .hbm, ⟨26, _⟩ => ⟨S2x4352x4096, .f32⟩
  | .hbm, ⟨27, _⟩ => ⟨S2x4352x4096, .f32⟩
  | .hbm, ⟨28, _⟩ => ⟨S_, .f32⟩
  | .hbm, ⟨29, _⟩ => ⟨S4096, .f32⟩
  | .hbm, ⟨30, _⟩ => ⟨S1x1x4096, .f32⟩
  | .hbm, ⟨31, _⟩ => ⟨S_, .f32⟩
  | .hbm, ⟨32, _⟩ => ⟨S4096, .f32⟩
  | .hbm, ⟨33, _⟩ => ⟨S8704x4096, .f32⟩
  | .hbm, ⟨34, _⟩ => ⟨S8704x4096, .bf16⟩
  | .hbm, ⟨35, _⟩ => ⟨S1x4096, .f32⟩
  | _, _ => ⟨S2x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Mlp2Dw.lean ====
abbrev S2x4352x4096 : Shape := ⟨3, ![2, 4352, 4096]⟩
abbrev S4096 : Shape := ⟨1, ![4096]⟩
abbrev S4096x1024 : Shape := ⟨2, ![4096, 1024]⟩
abbrev S2x4352x1024 : Shape := ⟨3, ![2, 4352, 1024]⟩
abbrev S1x1x4096 : Shape := ⟨3, ![1, 1, 4096]⟩
abbrev S_ : Shape := ⟨0, ![]⟩
abbrev S8704x4096 : Shape := ⟨2, ![8704, 4096]⟩
abbrev S4096x8704 : Shape := ⟨2, ![4096, 8704]⟩
abbrev S8704x1024 : Shape := ⟨2, ![8704, 1024]⟩
abbrev S512x2176 : Shape := ⟨2, ![512, 2176]⟩
abbrev S2176x1024 : Shape := ⟨2, ![2176, 1024]⟩
abbrev S512x1024 : Shape := ⟨2, ![512, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2x4352x4096, .f32⟩
  | .hbm, ⟨1, _⟩ => ⟨S4096, .f32⟩
  | .hbm, ⟨2, _⟩ => ⟨S4096x1024, .f32⟩
  | .hbm, ⟨3, _⟩ => ⟨S2x4352x1024, .bf16⟩
  | .hbm, ⟨4, _⟩ => ⟨S1x1x4096, .f32⟩
  | .hbm, ⟨5, _⟩ => ⟨S2x4352x4096, .f32⟩
  | .hbm, ⟨6, _⟩ => ⟨S2x4352x4096, .f32⟩
  | .hbm, ⟨7, _⟩ => ⟨S_, .f32⟩
  | .hbm, ⟨8, _⟩ => ⟨S2x4352x4096, .f32⟩
  | .hbm, ⟨9, _⟩ => ⟨S2x4352x4096, .f32⟩
  | .hbm, ⟨10, _⟩ => ⟨S2x4352x4096, .bf16⟩
  | .hbm, ⟨11, _⟩ => ⟨S8704x4096, .bf16⟩
  | .hbm, ⟨12, _⟩ => ⟨S4096x8704, .bf16⟩
  | .hbm, ⟨13, _⟩ => ⟨S8704x1024, .bf16⟩
  | .hbm, ⟨14, _⟩ => ⟨S4096x1024, .bf16⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2DwReferenceIdeal.lean ====
abbrev S2x4352x4096 : Shape := ⟨3, ![2, 4352, 4096]⟩
abbrev S4096 : Shape := ⟨1, ![4096]⟩
abbrev S4096x1024 : Shape := ⟨2, ![4096, 1024]⟩
abbrev S2x4352x1024 : Shape := ⟨3, ![2, 4352, 1024]⟩
abbrev S1x1x4096 : Shape := ⟨3, ![1, 1, 4096]⟩
abbrev S_ : Shape := ⟨0, ![]⟩
abbrev S1024x4096 : Shape := ⟨2, ![1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x4352x4096, .f32⟩
  | .hbm, ⟨1, _⟩ => ⟨S4096, .f32⟩
  | .hbm, ⟨2, _⟩ => ⟨S4096x1024, .f32⟩
  | .hbm, ⟨3, _⟩ => ⟨S2x4352x1024, .bf16⟩
  | .hbm, ⟨4, _⟩ => ⟨S1x1x4096, .f32⟩
  | .hbm, ⟨5, _⟩ => ⟨S2x4352x4096, .f32⟩
  | .hbm, ⟨6, _⟩ => ⟨S2x4352x4096, .f32⟩
  | .hbm, ⟨7, _⟩ => ⟨S_, .f32⟩
  | .hbm, ⟨8, _⟩ => ⟨S2x4352x4096, .f32⟩
  | .hbm, ⟨9, _⟩ => ⟨S2x4352x4096, .f32⟩
  | .hbm, ⟨10, _⟩ => ⟨S_, .f32⟩
  | .hbm, ⟨11, _⟩ => ⟨S2x4352x4096, .f32⟩
  | .hbm, ⟨12, _⟩ => ⟨S2x4352x4096, .i1⟩
  | .hbm, ⟨13, _⟩ => ⟨S_, .f32⟩
  | .hbm, ⟨14, _⟩ => ⟨S2x4352x4096, .f32⟩
  | .hbm, ⟨15, _⟩ => ⟨S2x4352x4096, .f32⟩
  | .hbm, ⟨16, _⟩ => ⟨S_, .f32⟩
  | .hbm, ⟨17, _⟩ => ⟨S2x4352x4096, .f32⟩
  | .hbm, ⟨18, _⟩ => ⟨S2x4352x4096, .f32⟩
  | .hbm, ⟨19, _⟩ => ⟨S2x4352x1024, .f32⟩
  | .hbm, ⟨20, _⟩ => ⟨S2x4352x1024, .f32⟩
  | .hbm, ⟨21, _⟩ => ⟨S1024x4096, .f32⟩
  | .hbm, ⟨22, _⟩ => ⟨S4096x1024, .f32⟩
  | .hbm, ⟨23, _⟩ => ⟨S2x4352x4096, .f32⟩
  | .hbm, ⟨24, _⟩ => ⟨S2x4352x4096, .f32⟩
  | .hbm, ⟨25, _⟩ => ⟨S_, .f32⟩
  | .hbm, ⟨26, _⟩ => ⟨S2x4352x4096, .f32⟩
  | .hbm, ⟨27, _⟩ => ⟨S2x4352x4096, .f32⟩
  | .hbm, ⟨28, _⟩ => ⟨S_, .f32⟩
  | .hbm, ⟨29, _⟩ => ⟨S4096, .f32⟩
  | .hbm, ⟨30, _⟩ => ⟨S1x1x4096, .f32⟩
  | .hbm, ⟨31, _⟩ => ⟨S_, .f32⟩
  | .hbm, ⟨32, _⟩ => ⟨S4096, .f32⟩
  | .hbm, ⟨33, _⟩ => ⟨S4096x1024, .bf16⟩
  | _, _ => ⟨S2x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Mlp1Dx.lean ====
abbrev S2x4352x1024 : Shape := ⟨3, ![2, 4352, 1024]⟩
abbrev S1024x4096 : Shape := ⟨2, ![1024, 4096]⟩
abbrev S2x4352x4096 : Shape := ⟨3, ![2, 4352, 4096]⟩
abbrev S8704x4096 : Shape := ⟨2, ![8704, 4096]⟩
abbrev S1024x8x512 : Shape := ⟨3, ![1024, 8, 512]⟩
abbrev S8x1024x512 : Shape := ⟨3, ![8, 1024, 512]⟩
abbrev S8704x1024 : Shape := ⟨2, ![8704, 1024]⟩
abbrev S1088x2048 : Shape := ⟨2, ![1088, 2048]⟩
abbrev S4x1024x512 : Shape := ⟨3, ![4, 1024, 512]⟩
abbrev S1088x1024 : Shape := ⟨2, ![1088, 1024]⟩
abbrev S1088x512 : Shape := ⟨2, ![1088, 512]⟩
abbrev S1x1024x512 : Shape := ⟨3, ![1, 1024, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S2x4352x4096, .bf16⟩
  | .hbm, ⟨3, _⟩ => ⟨S8704x4096, .bf16⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S8704x1024, .f32⟩
  | .local _ .vmem, ⟨0, _⟩ => ⟨S1088x2048, .bf16⟩
  | .local _ .vmem, ⟨1, _⟩ => ⟨S1088x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DxReferenceIdeal.lean ====
abbrev S2x4352x1024 : Shape := ⟨3, ![2, 4352, 1024]⟩
abbrev S1024x4096 : Shape := ⟨2, ![1024, 4096]⟩
abbrev S2x4352x4096 : Shape := ⟨3, ![2, 4352, 4096]⟩
abbrev S4096x1024 : Shape := ⟨2, ![4096, 1024]⟩
abbrev S8704x1024 : Shape := ⟨2, ![8704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S2x4352x4096, .bf16⟩
  | .hbm, ⟨3, _⟩ => ⟨S2x4352x1024, .f32⟩
  | .hbm, ⟨4, _⟩ => ⟨S2x4352x4096, .f32⟩
  | .hbm, ⟨5, _⟩ => ⟨S2x4352x4096, .f32⟩
  | .hbm, ⟨6, _⟩ => ⟨S4096x1024, .f32⟩
  | .hbm, ⟨7, _⟩ => ⟨S1024x4096, .f32⟩
  | .hbm, ⟨8, _⟩ => ⟨S2x4352x1024, .f32⟩
  | .hbm, ⟨9, _⟩ => ⟨S8704x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mlp1Dw.lean ====
abbrev S2x4352x1024 : Shape := ⟨3, ![2, 4352, 1024]⟩
abbrev S1024x4096 : Shape := ⟨2, ![1024, 4096]⟩
abbrev S2x4352x4096 : Shape := ⟨3, ![2, 4352, 4096]⟩
abbrev S8704x1024 : Shape := ⟨2, ![8704, 1024]⟩
abbrev S1024x8704 : Shape := ⟨2, ![1024, 8704]⟩
abbrev S8704x4096 : Shape := ⟨2, ![8704, 4096]⟩
abbrev S8x1024x512 : Shape := ⟨3, ![8, 1024, 512]⟩
abbrev S1024x2176 : Shape := ⟨2, ![1024, 2176]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S2x4352x4096, .bf16⟩
  | .hbm, ⟨3, _⟩ => ⟨S8704x1024, .bf16⟩
  | .hbm, ⟨4, _⟩ => ⟨S1024x8704, .bf16⟩
  | .hbm, ⟨5, _⟩ => ⟨S8704x4096, .bf16⟩
  | .hbm, ⟨6, _⟩ => ⟨S8x1024x512, .bf16⟩
  | .local _ .vmem, ⟨0, _⟩ => ⟨S1024x2176, .bf16⟩
  | .local _ .vmem, ⟨1, _⟩ => ⟨S1024x2176, .bf16⟩
  | .local _ .vmem, ⟨2, _⟩ => ⟨S2176x512, .bf16⟩
  | .local _ .vmem, ⟨3, _⟩ => ⟨S2176x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwReferenceIdeal.lean ====
abbrev S2x4352x1024 : Shape := ⟨3, ![2, 4352, 1024]⟩
abbrev S1024x4096 : Shape := ⟨2, ![1024, 4096]⟩
abbrev S2x4352x4096 : Shape := ⟨3, ![2, 4352, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S2x4352x4096, .bf16⟩
  | .hbm, ⟨3, _⟩ => ⟨S2x4352x1024, .f32⟩
  | .hbm, ⟨4, _⟩ => ⟨S2x4352x4096, .f32⟩
  | .hbm, ⟨5, _⟩ => ⟨S2x4352x4096, .f32⟩
  | .hbm, ⟨6, _⟩ => ⟨S4096x1024, .f32⟩
  | .hbm, ⟨7, _⟩ => ⟨S1024x4096, .f32⟩
  | .hbm, ⟨8, _⟩ => ⟨S2x4352x1024, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WInDx.lean ====
abbrev S2x4352x1024 : Shape := ⟨3, ![2, 4352, 1024]⟩
abbrev S1024x3072 : Shape := ⟨2, ![1024, 3072]⟩
abbrev S2x4352x3072 : Shape := ⟨3, ![2, 4352, 3072]⟩
abbrev S8704x3072 : Shape := ⟨2, ![8704, 3072]⟩
abbrev S1024x8x384 : Shape := ⟨3, ![1024, 8, 384]⟩
abbrev S8x1024x384 : Shape := ⟨3, ![8, 1024, 384]⟩
abbrev S8704x1024 : Shape := ⟨2, ![8704, 1024]⟩
abbrev S1088x1536 : Shape := ⟨2, ![1088, 1536]⟩
abbrev S4x1024x384 : Shape := ⟨3, ![4, 1024, 384]⟩
abbrev S1088x1024 : Shape := ⟨2, ![1088, 1024]⟩
abbrev S1088x384 : Shape := ⟨2, ![1088, 384]⟩
abbrev S1x1024x384 : Shape := ⟨3, ![1, 1024, 384]⟩
abbrev S1024x384 : Shape := ⟨2, ![1024, 384]⟩

abbrev nBuf : Space → Nat
  | .hbm => 8
  | .vmem => 7
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S2x4352x3072, .bf16⟩
  | .hbm, ⟨3, _⟩ => ⟨S8704x3072, .bf16⟩
  | .hbm, ⟨4, _⟩ => ⟨S1024x8x384, .f32⟩
  | .hbm, ⟨5, _⟩ => ⟨S8x1024x384, .f32⟩
  | .hbm, ⟨6, _⟩ => ⟨S8x1024x384, .bf16⟩
  | .hbm, ⟨7, _⟩ => ⟨S8704x1024, .f32⟩
  | .local _ .vmem, ⟨0, _⟩ => ⟨S1088x1536, .bf16⟩
  | .local _ .vmem, ⟨1, _⟩ => ⟨S1088x1536, .bf16⟩
  | .local _ .vmem, ⟨2, _⟩ => ⟨S4x1024x384, .bf16⟩
  | .local _ .vmem, ⟨3, _⟩ => ⟨S4x1024x384, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDxReferenceIdeal.lean ====
abbrev S2x4352x1024 : Shape := ⟨3, ![2, 4352, 1024]⟩
abbrev S1024x3072 : Shape := ⟨2, ![1024, 3072]⟩
abbrev S2x4352x3072 : Shape := ⟨3, ![2, 4352, 3072]⟩
abbrev S3072x1024 : Shape := ⟨2, ![3072, 1024]⟩
abbrev S8704x1024 : Shape := ⟨2, ![8704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S2x4352x3072, .bf16⟩
  | .hbm, ⟨3, _⟩ => ⟨S2x4352x1024, .f32⟩
  | .hbm, ⟨4, _⟩ => ⟨S2x4352x3072, .f32⟩
  | .hbm, ⟨5, _⟩ => ⟨S2x4352x3072, .f32⟩
  | .hbm, ⟨6, _⟩ => ⟨S3072x1024, .f32⟩
  | .hbm, ⟨7, _⟩ => ⟨S1024x3072, .f32⟩
  | .hbm, ⟨8, _⟩ => ⟨S2x4352x1024, .f32⟩
  | .hbm, ⟨9, _⟩ => ⟨S8704x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WInDw.lean ====
abbrev S2x4352x1024 : Shape := ⟨3, ![2, 4352, 1024]⟩
abbrev S1024x3072 : Shape := ⟨2, ![1024, 3072]⟩
abbrev S2x4352x3072 : Shape := ⟨3, ![2, 4352, 3072]⟩
abbrev S8704x1024 : Shape := ⟨2, ![8704, 1024]⟩
abbrev S1024x8704 : Shape := ⟨2, ![1024, 8704]⟩
abbrev S8704x3072 : Shape := ⟨2, ![8704, 3072]⟩
abbrev S8x1024x384 : Shape := ⟨3, ![8, 1024, 384]⟩
abbrev S1024x2176 : Shape := ⟨2, ![1024, 2176]⟩
abbrev S2176x384 : Shape := ⟨2, ![2176, 384]⟩
abbrev S1x1024x384 : Shape := ⟨3, ![1, 1024, 384]⟩
abbrev S1024x384 : Shape := ⟨2, ![1024, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S2x4352x3072, .bf16⟩
  | .hbm, ⟨3, _⟩ => ⟨S8704x1024, .bf16⟩
  | .hbm, ⟨4, _⟩ => ⟨S1024x8704, .bf16⟩
  | .hbm, ⟨5, _⟩ => ⟨S8704x3072, .bf16⟩
  | .hbm, ⟨6, _⟩ => ⟨S8x1024x384, .bf16⟩
  | .local _ .vmem, ⟨0, _⟩ => ⟨S1024x2176, .bf16⟩
  | .local _ .vmem, ⟨1, _⟩ => ⟨S1024x2176, .bf16⟩
  | .local _ .vmem, ⟨2, _⟩ => ⟨S2176x384, .bf16⟩
  | .local _ .vmem, ⟨3, _⟩ => ⟨S2176x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDwReferenceIdeal.lean ====
abbrev S2x4352x1024 : Shape := ⟨3, ![2, 4352, 1024]⟩
abbrev S1024x3072 : Shape := ⟨2, ![1024, 3072]⟩
abbrev S2x4352x3072 : Shape := ⟨3, ![2, 4352, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S2x4352x3072, .bf16⟩
  | .hbm, ⟨3, _⟩ => ⟨S2x4352x1024, .f32⟩
  | .hbm, ⟨4, _⟩ => ⟨S2x4352x3072, .f32⟩
  | .hbm, ⟨5, _⟩ => ⟨S2x4352x3072, .f32⟩
  | .hbm, ⟨6, _⟩ => ⟨S3072x1024, .f32⟩
  | .hbm, ⟨7, _⟩ => ⟨S1024x3072, .f32⟩
  | .hbm, ⟨8, _⟩ => ⟨S2x4352x1024, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WOutDx.lean ====
abbrev S2x4352x2048 : Shape := ⟨3, ![2, 4352, 2048]⟩
abbrev S2048x1024 : Shape := ⟨2, ![2048, 1024]⟩
abbrev S2x4352x1024 : Shape := ⟨3, ![2, 4352, 1024]⟩
abbrev S8704x1024 : Shape := ⟨2, ![8704, 1024]⟩
abbrev S8704x2048 : Shape := ⟨2, ![8704, 2048]⟩
abbrev S1088x1024 : Shape := ⟨2, ![1088, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S2x4352x1024, .bf16⟩
  | .hbm, ⟨3, _⟩ => ⟨S8704x1024, .bf16⟩
  | .hbm, ⟨4, _⟩ => ⟨S2048x1024, .bf16⟩
  | .hbm, ⟨5, _⟩ => ⟨S8704x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S2x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDxReferenceIdeal.lean ====
abbrev S2x4352x2048 : Shape := ⟨3, ![2, 4352, 2048]⟩
abbrev S2048x1024 : Shape := ⟨2, ![2048, 1024]⟩
abbrev S2x4352x1024 : Shape := ⟨3, ![2, 4352, 1024]⟩
abbrev S1024x2048 : Shape := ⟨2, ![1024, 2048]⟩
abbrev S8704x2048 : Shape := ⟨2, ![8704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S2x4352x1024, .bf16⟩
  | .hbm, ⟨3, _⟩ => ⟨S2x4352x2048, .f32⟩
  | .hbm, ⟨4, _⟩ => ⟨S2x4352x1024, .f32⟩
  | .hbm, ⟨5, _⟩ => ⟨S2x4352x1024, .f32⟩
  | .hbm, ⟨6, _⟩ => ⟨S1024x2048, .f32⟩
  | .hbm, ⟨7, _⟩ => ⟨S2048x1024, .f32⟩
  | .hbm, ⟨8, _⟩ => ⟨S2x4352x2048, .f32⟩
  | .hbm, ⟨9, _⟩ => ⟨S8704x2048, .f32⟩
  | _, _ => ⟨S2x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOutDw.lean ====
abbrev S2x4352x2048 : Shape := ⟨3, ![2, 4352, 2048]⟩
abbrev S2048x1024 : Shape := ⟨2, ![2048, 1024]⟩
abbrev S2x4352x1024 : Shape := ⟨3, ![2, 4352, 1024]⟩
abbrev S8704x2048 : Shape := ⟨2, ![8704, 2048]⟩
abbrev S2048x8704 : Shape := ⟨2, ![2048, 8704]⟩
abbrev S8704x1024 : Shape := ⟨2, ![8704, 1024]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S2x4352x1024, .bf16⟩
  | .hbm, ⟨3, _⟩ => ⟨S8704x2048, .bf16⟩
  | .hbm, ⟨4, _⟩ => ⟨S2048x8704, .bf16⟩
  | .hbm, ⟨5, _⟩ => ⟨S8704x1024, .bf16⟩
  | .hbm, ⟨6, _⟩ => ⟨S2048x1024, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDwReferenceIdeal.lean ====
abbrev S2x4352x2048 : Shape := ⟨3, ![2, 4352, 2048]⟩
abbrev S2048x1024 : Shape := ⟨2, ![2048, 1024]⟩
abbrev S2x4352x1024 : Shape := ⟨3, ![2, 4352, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S2x4352x1024, .bf16⟩
  | .hbm, ⟨3, _⟩ => ⟨S2x4352x2048, .f32⟩
  | .hbm, ⟨4, _⟩ => ⟨S2x4352x1024, .f32⟩
  | .hbm, ⟨5, _⟩ => ⟨S2x4352x1024, .f32⟩
  | .hbm, ⟨6, _⟩ => ⟨S1024x2048, .f32⟩
  | .hbm, ⟨7, _⟩ => ⟨S2048x1024, .f32⟩
  | .hbm, ⟨8, _⟩ => ⟨S2x4352x2048, .f32⟩
  | .hbm, ⟨9, _⟩ => ⟨S2048x1024, .bf16⟩
  | _, _ => ⟨S2x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S2x4352x1024 : Shape := ⟨3, ![2, 4352, 1024]⟩
abbrev S1024x1024 : Shape := ⟨2, ![1024, 1024]⟩
abbrev S8704x1024 : Shape := ⟨2, ![8704, 1024]⟩
abbrev S1024x8704 : Shape := ⟨2, ![1024, 8704]⟩
abbrev S1024x2176 : Shape := ⟨2, ![1024, 2176]⟩
abbrev S2176x1024 : Shape := ⟨2, ![2176, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S1024x1024, .f32⟩
  | .hbm, ⟨2, _⟩ => ⟨S2x4352x1024, .bf16⟩
  | .hbm, ⟨3, _⟩ => ⟨S8704x1024, .bf16⟩
  | .hbm, ⟨4, _⟩ => ⟨S1024x8704, .bf16⟩
  | .hbm, ⟨5, _⟩ => ⟨S8704x1024, .bf16⟩
  | .hbm, ⟨6, _⟩ => ⟨S1024x1024, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwReferenceIdeal.lean ====
abbrev S2x4352x1024 : Shape := ⟨3, ![2, 4352, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x1024, .f32⟩
  | .hbm, ⟨2, _⟩ => ⟨S2x4352x1024, .bf16⟩
  | .hbm, ⟨3, _⟩ => ⟨S2x4352x1024, .f32⟩
  | .hbm, ⟨4, _⟩ => ⟨S2x4352x1024, .f32⟩
  | .hbm, ⟨5, _⟩ => ⟨S2x4352x1024, .f32⟩
  | .hbm, ⟨6, _⟩ => ⟨S1024x1024, .f32⟩
  | .hbm, ⟨7, _⟩ => ⟨S1024x1024, .f32⟩
  | .hbm, ⟨8, _⟩ => ⟨S2x4352x1024, .f32⟩
  | .hbm, ⟨9, _⟩ => ⟨S1024x1024, .bf16⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WIn.lean ====
abbrev S2x4352x1024 : Shape := ⟨3, ![2, 4352, 1024]⟩
abbrev S1024x3072 : Shape := ⟨2, ![1024, 3072]⟩
abbrev S8704x1024 : Shape := ⟨2, ![8704, 1024]⟩
abbrev S1024x8x384 : Shape := ⟨3, ![1024, 8, 384]⟩
abbrev S8x1024x384 : Shape := ⟨3, ![8, 1024, 384]⟩
abbrev S8704x3072 : Shape := ⟨2, ![8704, 3072]⟩
abbrev S1088x1024 : Shape := ⟨2, ![1088, 1024]⟩
abbrev S1x1024x384 : Shape := ⟨3, ![1, 1024, 384]⟩
abbrev S1088x384 : Shape := ⟨2, ![1088, 384]⟩
abbrev S1024x384 : Shape := ⟨2, ![1024, 384]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S8704x1024, .bf16⟩
  | .hbm, ⟨3, _⟩ => ⟨S1024x8x384, .f32⟩
  | .hbm, ⟨4, _⟩ => ⟨S8x1024x384, .f32⟩
  | .hbm, ⟨5, _⟩ => ⟨S8x1024x384, .bf16⟩
  | .hbm, ⟨6, _⟩ => ⟨S8704x3072, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x384, .bf16⟩
  | .local _ .vmem, ⟨3, _⟩ => ⟨S1x1024x384, .bf16⟩
  | .local _ .vmem, ⟨4, _⟩ => ⟨S1088x384, .f32⟩
  | .local _ .vmem, ⟨5, _⟩ => ⟨S1088x384, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S2x4352x1024 : Shape := ⟨3, ![2, 4352, 1024]⟩
abbrev S1024x3072 : Shape := ⟨2, ![1024, 3072]⟩
abbrev S2x4352x3072 : Shape := ⟨3, ![2, 4352, 3072]⟩
abbrev S8704x3072 : Shape := ⟨2, ![8704, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x3072, .f32⟩
  | .hbm, ⟨2, _⟩ => ⟨S2x4352x1024, .f32⟩
  | .hbm, ⟨3, _⟩ => ⟨S2x4352x3072, .f32⟩
  | .hbm, ⟨4, _⟩ => ⟨S8704x3072, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S2x4352x1024 : Shape := ⟨3, ![2, 4352, 1024]⟩
abbrev S1024x1024 : Shape := ⟨2, ![1024, 1024]⟩
abbrev S1024 : Shape := ⟨1, ![1024]⟩
abbrev S8704x1024 : Shape := ⟨2, ![8704, 1024]⟩
abbrev S1x1024 : Shape := ⟨2, ![1, 1024]⟩
abbrev S1088x1024 : Shape := ⟨2, ![1088, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S1024x1024, .f32⟩
  | .hbm, ⟨2, _⟩ => ⟨S1024, .f32⟩
  | .hbm, ⟨3, _⟩ => ⟨S8704x1024, .bf16⟩
  | .hbm, ⟨4, _⟩ => ⟨S1024x1024, .bf16⟩
  | .hbm, ⟨5, _⟩ => ⟨S1x1024, .f32⟩
  | .hbm, ⟨6, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1x1024, .f32⟩
  | .local _ .vmem, ⟨4, _⟩ => ⟨S1088x1024, .f32⟩
  | .local _ .vmem, ⟨5, _⟩ => ⟨S1088x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluReferenceIdeal.lean ====
abbrev S2x4352x1024 : Shape := ⟨3, ![2, 4352, 1024]⟩
abbrev S1024x1024 : Shape := ⟨2, ![1024, 1024]⟩
abbrev S1024 : Shape := ⟨1, ![1024]⟩
abbrev S1x1x1024 : Shape := ⟨3, ![1, 1, 1024]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x1024, .f32⟩
  | .hbm, ⟨2, _⟩ => ⟨S1024, .f32⟩
  | .hbm, ⟨3, _⟩ => ⟨S2x4352x1024, .f32⟩
  | .hbm, ⟨4, _⟩ => ⟨S2x4352x1024, .f32⟩
  | .hbm, ⟨5, _⟩ => ⟨S1x1x1024, .f32⟩
  | .hbm, ⟨6, _⟩ => ⟨S2x4352x1024, .f32⟩
  | .hbm, ⟨7, _⟩ => ⟨S2x4352x1024, .f32⟩
  | .hbm, ⟨8, _⟩ => ⟨S8704x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S2x4352x2048 : Shape := ⟨3, ![2, 4352, 2048]⟩
abbrev S2048x1024 : Shape := ⟨2, ![2048, 1024]⟩
abbrev S1024 : Shape := ⟨1, ![1024]⟩
abbrev S8704x2048 : Shape := ⟨2, ![8704, 2048]⟩
abbrev S1x1024 : Shape := ⟨2, ![1, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S1024, .f32⟩
  | .hbm, ⟨3, _⟩ => ⟨S8704x2048, .bf16⟩
  | .hbm, ⟨4, _⟩ => ⟨S2048x1024, .bf16⟩
  | .hbm, ⟨5, _⟩ => ⟨S1x1024, .f32⟩
  | .hbm, ⟨6, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S2x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WOutReferenceIdeal.lean ====
abbrev S2x4352x2048 : Shape := ⟨3, ![2, 4352, 2048]⟩
abbrev S2048x1024 : Shape := ⟨2, ![2048, 1024]⟩
abbrev S1024 : Shape := ⟨1, ![1024]⟩
abbrev S2x4352x1024 : Shape := ⟨3, ![2, 4352, 1024]⟩
abbrev S1x1x1024 : Shape := ⟨3, ![1, 1, 1024]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x2048, .bf16⟩
  | .hbm, ⟨1, _⟩ => ⟨S2048x1024, .f32⟩
  | .hbm, ⟨2, _⟩ => ⟨S1024, .f32⟩
  | .hbm, ⟨3, _⟩ => ⟨S2x4352x2048, .f32⟩
  | .hbm, ⟨4, _⟩ => ⟨S2x4352x1024, .f32⟩
  | .hbm, ⟨5, _⟩ => ⟨S1x1x1024, .f32⟩
  | .hbm, ⟨6, _⟩ => ⟨S2x4352x1024, .f32⟩
  | .hbm, ⟨7, _⟩ => ⟨S2x4352x1024, .f32⟩
  | .hbm, ⟨8, _⟩ => ⟨S8704x1024, .f32⟩
  | _, _ => ⟨S2x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mlp1.lean ====
abbrev S2x4352x1024 : Shape := ⟨3, ![2, 4352, 1024]⟩
abbrev S1024x4096 : Shape := ⟨2, ![1024, 4096]⟩
abbrev S4096 : Shape := ⟨1, ![4096]⟩
abbrev S8704x1024 : Shape := ⟨2, ![8704, 1024]⟩
abbrev S1024x8x512 : Shape := ⟨3, ![1024, 8, 512]⟩
abbrev S8x1024x512 : Shape := ⟨3, ![8, 1024, 512]⟩
abbrev S1x4096 : Shape := ⟨2, ![1, 4096]⟩
abbrev S8704x4096 : Shape := ⟨2, ![8704, 4096]⟩
abbrev S4096x8704 : Shape := ⟨2, ![4096, 8704]⟩
abbrev S2176x1024 : Shape := ⟨2, ![2176, 1024]⟩
abbrev S1x1024x512 : Shape := ⟨3, ![1, 1024, 512]⟩
abbrev S1x512 : Shape := ⟨2, ![1, 512]⟩
abbrev S2176x512 : Shape := ⟨2, ![2176, 512]⟩
abbrev S512x2176 : Shape := ⟨2, ![512, 2176]⟩
abbrev S1024x512 : Shape := ⟨2, ![1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S4096, .f32⟩
  | .hbm, ⟨3, _⟩ => ⟨S8704x1024, .bf16⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S1x4096, .f32⟩
  | .hbm, ⟨8, _⟩ => ⟨S8704x4096, .bf16⟩
  | .hbm, ⟨9, _⟩ => ⟨S4096x8704, .bf16⟩
  | .local _ .vmem, ⟨0, _⟩ => ⟨S2176x1024, .bf16⟩
  | .local _ .vmem, ⟨1, _⟩ => ⟨S2176x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2176x512, .bf16⟩
  | .local _ .vmem, ⟨7, _⟩ => ⟨S2176x512, .bf16⟩
  | .local _ .vmem, ⟨8, _⟩ => ⟨S512x2176, .bf16⟩
  | .local _ .vmem, ⟨9, _⟩ => ⟨S512x2176, .bf16⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Mlp1ReferenceIdeal.lean ====
abbrev S2x4352x1024 : Shape := ⟨3, ![2, 4352, 1024]⟩
abbrev S1024x4096 : Shape := ⟨2, ![1024, 4096]⟩
abbrev S4096 : Shape := ⟨1, ![4096]⟩
abbrev S2x4352x4096 : Shape := ⟨3, ![2, 4352, 4096]⟩
abbrev S1x1x4096 : Shape := ⟨3, ![1, 1, 4096]⟩
abbrev S_ : Shape := ⟨0, ![]⟩
abbrev S8704x4096 : Shape := ⟨2, ![8704, 4096]⟩
abbrev S4096x8704 : Shape := ⟨2, ![4096, 8704]⟩

abbrev nBuf : Space → Nat
  | .hbm => 14
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S1024x4096, .f32⟩
  | .hbm, ⟨2, _⟩ => ⟨S4096, .f32⟩
  | .hbm, ⟨3, _⟩ => ⟨S2x4352x1024, .f32⟩
  | .hbm, ⟨4, _⟩ => ⟨S2x4352x4096, .f32⟩
  | .hbm, ⟨5, _⟩ => ⟨S1x1x4096, .f32⟩
  | .hbm, ⟨6, _⟩ => ⟨S2x4352x4096, .f32⟩
  | .hbm, ⟨7, _⟩ => ⟨S2x4352x4096, .f32⟩
  | .hbm, ⟨8, _⟩ => ⟨S_, .f32⟩
  | .hbm, ⟨9, _⟩ => ⟨S2x4352x4096, .f32⟩
  | .hbm, ⟨10, _⟩ => ⟨S2x4352x4096, .f32⟩
  | .hbm, ⟨11, _⟩ => ⟨S8704x4096, .f32⟩
  | .hbm, ⟨12, _⟩ => ⟨S8704x4096, .bf16⟩
  | .hbm, ⟨13, _⟩ => ⟨S4096x8704, .bf16⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Mlp2.lean ====
abbrev S2x4352x4096 : Shape := ⟨3, ![2, 4352, 4096]⟩
abbrev S4096x1024 : Shape := ⟨2, ![4096, 1024]⟩
abbrev S1024 : Shape := ⟨1, ![1024]⟩
abbrev S8704x4096 : Shape := ⟨2, ![8704, 4096]⟩
abbrev S1x1024 : Shape := ⟨2, ![1, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x4352x4096, .bf16⟩
  | .hbm, ⟨1, _⟩ => ⟨S4096x1024, .f32⟩
  | .hbm, ⟨2, _⟩ => ⟨S1024, .f32⟩
  | .hbm, ⟨3, _⟩ => ⟨S8704x4096, .bf16⟩
  | .hbm, ⟨4, _⟩ => ⟨S4096x1024, .bf16⟩
  | .hbm, ⟨5, _⟩ => ⟨S1x1024, .f32⟩
  | .hbm, ⟨6, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S2x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp2ReferenceIdeal.lean ====
abbrev S2x4352x4096 : Shape := ⟨3, ![2, 4352, 4096]⟩
abbrev S4096x1024 : Shape := ⟨2, ![4096, 1024]⟩
abbrev S1024 : Shape := ⟨1, ![1024]⟩
abbrev S2x4352x1024 : Shape := ⟨3, ![2, 4352, 1024]⟩
abbrev S1x1x1024 : Shape := ⟨3, ![1, 1, 1024]⟩
abbrev S8704x1024 : Shape := ⟨2, ![8704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x4096, .bf16⟩
  | .hbm, ⟨1, _⟩ => ⟨S4096x1024, .f32⟩
  | .hbm, ⟨2, _⟩ => ⟨S1024, .f32⟩
  | .hbm, ⟨3, _⟩ => ⟨S2x4352x4096, .f32⟩
  | .hbm, ⟨4, _⟩ => ⟨S2x4352x4096, .f32⟩
  | .hbm, ⟨5, _⟩ => ⟨S2x4352x1024, .f32⟩
  | .hbm, ⟨6, _⟩ => ⟨S1x1x1024, .f32⟩
  | .hbm, ⟨7, _⟩ => ⟨S2x4352x1024, .f32⟩
  | .hbm, ⟨8, _⟩ => ⟨S2x4352x1024, .f32⟩
  | .hbm, ⟨9, _⟩ => ⟨S8704x1024, .f32⟩
  | _, _ => ⟨S2x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Conv.lean ====
abbrev S2x4352x3072 : Shape := ⟨3, ![2, 4352, 3072]⟩
abbrev S4x1024 : Shape := ⟨2, ![4, 1024]⟩
abbrev S1024 : Shape := ⟨1, ![1024]⟩
abbrev S1x1024 : Shape := ⟨2, ![1, 1024]⟩
abbrev S2x4352x1024 : Shape := ⟨3, ![2, 4352, 1024]⟩
abbrev S1x256x1024 : Shape := ⟨3, ![1, 256, 1024]⟩
abbrev S1x8x1024 : Shape := ⟨3, ![1, 8, 1024]⟩
abbrev S256x1024 : Shape := ⟨2, ![256, 1024]⟩
abbrev S8x1024 : Shape := ⟨2, ![8, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x4352x3072, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S2x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S2x4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S2x4352x3072 : Shape := ⟨3, ![2, 4352, 3072]⟩
abbrev S4x1024 : Shape := ⟨2, ![4, 1024]⟩
abbrev S1024 : Shape := ⟨1, ![1024]⟩
abbrev S2x4352x1024 : Shape := ⟨3, ![2, 4352, 1024]⟩
abbrev S1x4x1024 : Shape := ⟨3, ![1, 4, 1024]⟩
abbrev S1x1024 : Shape := ⟨2, ![1, 1024]⟩
abbrev S2x256x1024 : Shape := ⟨3, ![2, 256, 1024]⟩
abbrev S_ : Shape := ⟨0, ![]⟩
abbrev S2x1x1024 : Shape := ⟨3, ![2, 1, 1024]⟩
abbrev S2x2x1024 : Shape := ⟨3, ![2, 2, 1024]⟩
abbrev S2x259x1024 : Shape := ⟨3, ![2, 259, 1024]⟩
abbrev S1x1x1024 : Shape := ⟨3, ![1, 1, 1024]⟩
abbrev S2x4096x1024 : Shape := ⟨3, ![2, 4096, 1024]⟩
abbrev S2x4099x1024 : Shape := ⟨3, ![2, 4099, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4352x3072, .f32⟩
  | .hbm, ⟨1, _⟩ => ⟨S4x1024, .f32⟩
  | .hbm, ⟨2, _⟩ => ⟨S1024, .f32⟩
  | .hbm, ⟨3, _⟩ => ⟨S2x4352x1024, .f32⟩
  | .hbm, ⟨4, _⟩ => ⟨S1x4x1024, .f32⟩
  | .hbm, ⟨5, _⟩ => ⟨S1x1024, .f32⟩
  | .hbm, ⟨6, _⟩ => ⟨S2x256x1024, .f32⟩
  | .hbm, ⟨7, _⟩ => ⟨S_, .f32⟩
  | .hbm, ⟨8, _⟩ => ⟨S2x1x1024, .f32⟩
  | .hbm, ⟨9, _⟩ => ⟨S_, .f32⟩
  | .hbm, ⟨10, _⟩ => ⟨S2x2x1024, .f32⟩
  | .hbm, ⟨11, _⟩ => ⟨S2x259x1024, .f32⟩
  | .hbm, ⟨12, _⟩ => ⟨S1x1x1024, .f32⟩
  | .hbm, ⟨13, _⟩ => ⟨S2x256x1024, .f32⟩
  | .hbm, ⟨14, _⟩ => ⟨S1x1x1024, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S1x1x1024, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S2x4096x1024, .f32⟩
  | .hbm, ⟨35, _⟩ => ⟨S_, .f32⟩
  | .hbm, ⟨36, _⟩ => ⟨S2x1x1024, .f32⟩
  | .hbm, ⟨37, _⟩ => ⟨S_, .f32⟩
  | .hbm, ⟨38, _⟩ => ⟨S2x2x1024, .f32⟩
  | .hbm, ⟨39, _⟩ => ⟨S2x4099x1024, .f32⟩
  | .hbm, ⟨40, _⟩ => ⟨S1x1x1024, .f32⟩
  | .hbm, ⟨41, _⟩ => ⟨S2x4096x1024, .f32⟩
  | .hbm, ⟨42, _⟩ => ⟨S1x1x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S1x1x1024, .f32⟩
  | .hbm, ⟨59, _⟩ => ⟨S2x4096x1024, .f32⟩
  | .hbm, ⟨60, _⟩ => ⟨S2x4096x1024, .f32⟩
  | .hbm, ⟨61, _⟩ => ⟨S2x4096x1024, .f32⟩
  | .hbm, ⟨62, _⟩ => ⟨S2x4352x1024, .f32⟩
  | _, _ => ⟨S2x4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩

abbrev nD : Nat := 1
abbrev τ : Topo := Topo.v7x

variable {F : FTy → Type} [FloatOps F]
-- ==== ConvBwd.lean ====
abbrev S2x4352x3072 : Shape := ⟨3, ![2, 4352, 3072]⟩
abbrev S4x1024 : Shape := ⟨2, ![4, 1024]⟩
abbrev S1024 : Shape := ⟨1, ![1024]⟩
abbrev S2x4352x1024 : Shape := ⟨3, ![2, 4352, 1024]⟩
abbrev S2x8x1024 : Shape := ⟨3, ![2, 8, 1024]⟩
abbrev S1x256x1024 : Shape := ⟨3, ![1, 256, 1024]⟩
abbrev S1x8x1024 : Shape := ⟨3, ![1, 8, 1024]⟩
abbrev S256x1024 : Shape := ⟨2, ![256, 1024]⟩
abbrev S8x1024 : Shape := ⟨2, ![8, 1024]⟩
abbrev S1x1024 : Shape := ⟨2, ![1, 1024]⟩
abbrev S1x1x1024 : Shape := ⟨3, ![1, 1, 1024]⟩

abbrev nBuf : Space → Nat
  | .hbm => 6
  | .vmem => 17
  | .smem => 0
  | _ => 0

abbrev bufTy : (tb : Table) → Fin (tcTables nBuf tb) → BufTy
  | .hbm, ⟨0, _⟩ => ⟨S2x4352x3072, .f32⟩
  | .hbm, ⟨1, _⟩ => ⟨S4x1024, .f32⟩
  | .hbm, ⟨2, _⟩ => ⟨S1024, .f32⟩
  | .hbm, ⟨3, _⟩ => ⟨S2x4352x1024, .f32⟩
  | .hbm, ⟨4, _⟩ => ⟨S2x4352x1024, .f32⟩
  | .hbm, ⟨5, _⟩ => ⟨S2x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S4x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x8x1024, .f32⟩
  | .local _ .vmem, ⟨16, _⟩ => ⟨S1x8x1024, .f32⟩
  | _, _ => ⟨S2x4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvBwdReferenceIdeal.lean ====
abbrev S2x4352x3072 : Shape := ⟨3, ![2, 4352, 3072]⟩
abbrev S4x1024 : Shape := ⟨2, ![4, 1024]⟩
abbrev S1024 : Shape := ⟨1, ![1024]⟩
abbrev S2x4352x1024 : Shape := ⟨3, ![2, 4352, 1024]⟩
abbrev S2x4x1024 : Shape := ⟨3, ![2, 4, 1024]⟩
abbrev S2x1024 : Shape := ⟨2, ![2, 1024]⟩
abbrev S2x256x1024 : Shape := ⟨3, ![2, 256, 1024]⟩
abbrev S_ : Shape := ⟨0, ![]⟩
abbrev S2x1x1024 : Shape := ⟨3, ![2, 1, 1024]⟩
abbrev S2x2x1024 : Shape := ⟨3, ![2, 2, 1024]⟩
abbrev S2x259x1024 : Shape := ⟨3, ![2, 259, 1024]⟩
abbrev S2x4096x1024 : Shape := ⟨3, ![2, 4096, 1024]⟩
abbrev S2x4099x1024 : Shape := ⟨3, ![2, 4099, 1024]⟩
abbrev S2x3x1024 : Shape := ⟨3, ![2, 3, 1024]⟩
abbrev S2x8x1024 : Shape := ⟨3, ![2, 8, 1024]⟩

abbrev nBuf : Space → Nat
  | .hbm => 193
  | .vmem => 0
  | .smem => 0
  | _ => 0

abbrev hbmTy0_0 (i : Nat) : BufTy := match i % 128 with
  | 0 => ⟨S2x4352x3072, .f32⟩
  | 1 => ⟨S4x1024, .f32⟩
  | 2 => ⟨S1024, .f32⟩
  | 3 => ⟨S2x4352x1024, .f32⟩
  | 4 => ⟨S2x4352x1024, .f32⟩
  | 5 => ⟨S2x4x1024, .f32⟩
  | 6 => ⟨S2x1024, .f32⟩
  | 7 => ⟨S2x256x1024, .f32⟩
  | 8 => ⟨S_, .f32⟩
  | 9 => ⟨S2x1x1024, .f32⟩
  | 10 => ⟨S_, .f32⟩
  | 11 => ⟨S2x2x1024, .f32⟩
  | 12 => ⟨S2x259x1024, .f32⟩
  | 13 => ⟨S_, .f32⟩
  | 14 => ⟨S2x1x1024, .f32⟩
  | 15 => ⟨S_, .f32⟩
  | 16 => ⟨S2x2x1024, .f32⟩
  | 17 => ⟨S2x1x1024, .f32⟩
  | 18 => ⟨S2x256x1024, .f32⟩
  | 19 => ⟨S2x1x1024, .f32⟩
  | 20 => ⟨S2x256x1024, .f32⟩
  | 21 => ⟨S2x256x1024, .f32⟩
  | 22 => ⟨S2x256x1024, .f32⟩
  | 23 => ⟨S2x256x1024, .f32⟩
  | 24 => ⟨S2x256x1024, .f32⟩
  | 25 => ⟨S2x1x1024, .f32⟩
  | 26 => ⟨S2x256x1024, .f32⟩
  | 27 => ⟨S2x256x1024, .f32⟩
  | 28 => ⟨S2x256x1024, .f32⟩
  | 29 => ⟨S2x256x1024, .f32⟩
  | 30 => ⟨S2x1x1024, .f32⟩
  | 31 => ⟨S2x256x1024, .f32⟩
  | 32 => ⟨S2x256x1024, .f32⟩
  | 33 => ⟨S2x256x1024, .f32⟩
  | 34 => ⟨S2x256x1024, .f32⟩
  | 35 => ⟨S2x1x1024, .f32⟩
  | 36 => ⟨S2x256x1024, .f32⟩
  | 37 => ⟨S2x256x1024, .f32⟩
  | 38 => ⟨S2x256x1024, .f32⟩
  | 39 => ⟨S2x4096x1024, .f32⟩
  | 40 => ⟨S_, .f32⟩
  | 41 => ⟨S2x1x1024, .f32⟩
  | 42 => ⟨S_, .f32⟩
  | 43 => ⟨S2x2x1024, .f32⟩
  | 44 => ⟨S2x4099x1024, .f32⟩
  | 45 => ⟨S_, .f32⟩
  | 46 => ⟨S2x1x1024, .f32⟩
  | 47 => ⟨S_, .f32⟩
  | 48 => ⟨S2x2x1024, .f32⟩
  | 49 => ⟨S2x1x1024, .f32⟩
  | 50 => ⟨S2x4096x1024, .f32⟩
  | 51 => ⟨S2x1x1024, .f32⟩
  | 52 => ⟨S2x4096x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S2x1x1024, .f32⟩
  | 58 => ⟨S2x4096x1024, .f32⟩
  | 59 => ⟨S2x4096x1024, .f32⟩
  | 60 => ⟨S2x4096x1024, .f32⟩
  | 61 => ⟨S2x4096x1024, .f32⟩
  | 62 => ⟨S2x1x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S2x1x1024, .f32⟩
  | 68 => ⟨S2x4096x1024, .f32⟩
  | 69 => ⟨S2x4096x1024, .f32⟩
  | 70 => ⟨S2x4096x1024, .f32⟩
  | 71 => ⟨S2x4352x1024, .f32⟩
  | 72 => ⟨S2x256x1024, .f32⟩
  | 73 => ⟨S2x4096x1024, .f32⟩
  | 74 => ⟨S2x4096x1024, .f32⟩
  | 75 => ⟨S_, .f32⟩
  | 76 => ⟨S2x1024, .f32⟩
  | 77 => ⟨S2x1x1024, .f32⟩
  | 78 => ⟨S2x4096x1024, .f32⟩
  | 79 => ⟨S2x4096x1024, .f32⟩
  | 80 => ⟨S_, .f32⟩
  | 81 => ⟨S2x4x1024, .f32⟩
  | 82 => ⟨S_, .f32⟩
  | 83 => ⟨S2x4099x1024, .f32⟩
  | 84 => ⟨S2x4096x1024, .f32⟩
  | 85 => ⟨S_, .f32⟩
  | 86 => ⟨S2x1024, .f32⟩
  | 87 => ⟨S2x1x1024, .f32⟩
  | 88 => ⟨S2x4096x1024, .f32⟩
  | 89 => ⟨S2x4096x1024, .f32⟩
  | 90 => ⟨S_, .f32⟩
  | 91 => ⟨S2x4x1024, .f32⟩
  | 92 => ⟨S2x4x1024, .f32⟩
  | 93 => ⟨S_, .f32⟩
  | 94 => ⟨S2x4099x1024, .f32⟩
  | 95 => ⟨S2x4099x1024, .f32⟩
  | 96 => ⟨S2x4096x1024, .f32⟩
  | 97 => ⟨S_, .f32⟩
  | 98 => ⟨S2x1024, .f32⟩
  | 99 => ⟨S2x1x1024, .f32⟩
  | 100 => ⟨S2x4096x1024, .f32⟩
  | 101 => ⟨S2x4096x1024, .f32⟩
  | 102 => ⟨S_, .f32⟩
  | 103 => ⟨S2x4x1024, .f32⟩
  | 104 => ⟨S2x4x1024, .f32⟩
  | 105 => ⟨S_, .f32⟩
  | 106 => ⟨S2x4099x1024, .f32⟩
  | 107 => ⟨S2x4099x1024, .f32⟩
  | 108 => ⟨S_, .f32⟩
  | 109 => ⟨S2x1024, .f32⟩
  | 110 => ⟨S2x1x1024, .f32⟩
  | 111 => ⟨S2x4096x1024, .f32⟩
  | 112 => ⟨S_, .f32⟩
  | 113 => ⟨S2x1024, .f32⟩
  | 114 => ⟨S2x1x1024, .f32⟩
  | 115 => ⟨S2x4096x1024, .f32⟩
  | 116 => ⟨S2x4096x1024, .f32⟩
  | 117 => ⟨S_, .f32⟩
  | 118 => ⟨S2x4x1024, .f32⟩
  | 119 => ⟨S2x4x1024, .f32⟩
  | 120 => ⟨S_, .f32⟩
  | 121 => ⟨S2x4099x1024, .f32⟩
  | 122 => ⟨S2x4099x1024, .f32⟩
  | 123 => ⟨S_, .f32⟩
  | 124 => ⟨S2x1024, .f32⟩
  | 125 => ⟨S2x1x1024, .f32⟩
  | 126 => ⟨S2x4096x1024, .f32⟩
  | 127 => ⟨S2x2x1024, .f32⟩
  | _ => ⟨S2x4352x3072, .f32⟩

abbrev hbmTy0_1 (i : Nat) : BufTy := match i % 128 with
  | 0 => ⟨S_, .f32⟩
  | 1 => ⟨S2x4352x1024, .f32⟩
  | 2 => ⟨S2x256x1024, .f32⟩
  | 3 => ⟨S_, .f32⟩
  | 4 => ⟨S2x1024, .f32⟩
  | 5 => ⟨S2x1x1024, .f32⟩
  | 6 => ⟨S2x256x1024, .f32⟩
  | 7 => ⟨S2x256x1024, .f32⟩
  | 8 => ⟨S_, .f32⟩
  | 9 => ⟨S2x4x1024, .f32⟩
  | 10 => ⟨S2x4x1024, .f32⟩
  | 11 => ⟨S_, .f32⟩
  | 12 => ⟨S2x259x1024, .f32⟩
  | 13 => ⟨S2x256x1024, .f32⟩
  | 14 => ⟨S_, .f32⟩
  | 15 => ⟨S2x1024, .f32⟩
  | 16 => ⟨S2x1x1024, .f32⟩
  | 17 => ⟨S2x256x1024, .f32⟩
  | 18 => ⟨S2x256x1024, .f32⟩
  | 19 => ⟨S_, .f32⟩
  | 20 => ⟨S2x4x1024, .f32⟩
  | 21 => ⟨S2x4x1024, .f32⟩
  | 22 => ⟨S_, .f32⟩
  | 23 => ⟨S2x259x1024, .f32⟩
  | 24 => ⟨S2x259x1024, .f32⟩
  | 25 => ⟨S2x256x1024, .f32⟩
  | 26 => ⟨S_, .f32⟩
  | 27 => ⟨S2x1024, .f32⟩
  | 28 => ⟨S2x1x1024, .f32⟩
  | 29 => ⟨S2x256x1024, .f32⟩
  | 30 => ⟨S2x256x1024, .f32⟩
  | 31 => ⟨S_, .f32⟩
  | 32 => ⟨S2x4x1024, .f32⟩
  | 33 => ⟨S2x4x1024, .f32⟩
  | 34 => ⟨S_, .f32⟩
  | 35 => ⟨S2x259x1024, .f32⟩
  | 36 => ⟨S2x259x1024, .f32⟩
  | 37 => ⟨S_, .f32⟩
  | 38 => ⟨S2x1024, .f32⟩
  | 39 => ⟨S2x1x1024, .f32⟩
  | 40 => ⟨S2x256x1024, .f32⟩
  | 41 => ⟨S_, .f32⟩
  | 42 => ⟨S2x1024, .f32⟩
  | 43 => ⟨S2x1x1024, .f32⟩
  | 44 => ⟨S2x256x1024, .f32⟩
  | 45 => ⟨S2x256x1024, .f32⟩
  | 46 => ⟨S_, .f32⟩
  | 47 => ⟨S2x4x1024, .f32⟩
  | 48 => ⟨S2x4x1024, .f32⟩
  | 49 => ⟨S_, .f32⟩
  | 50 => ⟨S2x259x1024, .f32⟩
  | 51 => ⟨S2x259x1024, .f32⟩
  | 52 => ⟨S_, .f32⟩
  | 53 => ⟨S2x1024, .f32⟩
  | 54 => ⟨S2x1024, .f32⟩
  | 55 => ⟨S2x1x1024, .f32⟩
  | 56 => ⟨S2x256x1024, .f32⟩
  | 57 => ⟨S2x2x1024, .f32⟩
  | 58 => ⟨S_, .f32⟩
  | 59 => ⟨S2x4352x1024, .f32⟩
  | 60 => ⟨S2x4352x1024, .f32⟩
  | 61 => ⟨S2x1x1024, .f32⟩
  | 62 => ⟨S_, .f32⟩
  | 63 => ⟨S2x3x1024, .f32⟩
  | 64 => ⟨S2x8x1024, .f32⟩
  | _ => ⟨S2x4352x3072, .f32⟩

abbrev hbmTy (i : Nat) : BufTy := match i / 128 with
  | 0 => hbmTy0_0 i
  | 1 => hbmTy0_1 i
  | _ => ⟨S2x4352x3072, .f32⟩

abbrev bufTy : (tb : Table) → Fin (tcTables nBuf tb) → BufTy
  | .hbm, ⟨i, _⟩ => hbmTy i
  | _, _ => ⟨S2x4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_11 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_14 : Ref sig .tc := ⟨.hbm, 102, rfl⟩
abbrev main_v83 : Ref sig .tc := ⟨.hbm, 103, rfl⟩
abbrev main_v84 : Ref sig .tc := ⟨.hbm, 104, rfl⟩
abbrev main_cst_15 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_17 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_18 : Ref sig .tc := ⟨.hbm, 117, rfl⟩
abbrev main_v94 : Ref sig .tc := ⟨.hbm, 118, rfl⟩
abbrev main_v95 : Ref sig .tc := ⟨.hbm, 119, rfl⟩
abbrev main_cst_19 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_cst_22 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_23 : Ref sig .tc := ⟨.hbm, 136, rfl⟩
abbrev main_v108 : Ref sig .tc := ⟨.hbm, 137, rfl⟩
abbrev main_v109 : Ref sig .tc := ⟨.hbm, 138, rfl⟩
abbrev main_cst_24 : Ref sig .tc := ⟨.hbm, 139, rfl⟩
abbrev main_v110 : Ref sig .tc := ⟨.hbm, 140, rfl⟩
abbrev main_v111 : Ref sig .tc := ⟨.hbm, 141, rfl⟩
abbrev main_cst_25 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_26 : Ref sig .tc := ⟨.hbm, 147, rfl⟩
abbrev main_v116 : Ref sig .tc := ⟨.hbm, 148, rfl⟩
abbrev main_v117 : Ref sig .tc := ⟨.hbm, 149, rfl⟩
abbrev main_cst_27 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_28 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_29 : Ref sig .tc := ⟨.hbm, 159, rfl⟩
abbrev main_v125 : Ref sig .tc := ⟨.hbm, 160, rfl⟩
abbrev main_v126 : Ref sig .tc := ⟨.hbm, 161, rfl⟩
abbrev main_cst_30 : Ref sig .tc := ⟨.hbm, 162, rfl⟩
abbrev main_v127 : Ref sig .tc := ⟨.hbm, 163, rfl⟩
abbrev main_v128 : Ref sig .tc := ⟨.hbm, 164, rfl⟩
abbrev main_cst_31 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_32 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_33 : Ref sig .tc := ⟨.hbm, 174, rfl⟩
abbrev main_v136 : Ref sig .tc := ⟨.hbm, 175, rfl⟩
abbrev main_v137 : Ref sig .tc := ⟨.hbm, 176, rfl⟩
abbrev main_cst_34 : Ref sig .tc := ⟨.hbm, 177, rfl⟩
abbrev main_v138 : Ref sig .tc := ⟨.hbm, 178, rfl⟩
abbrev main_v139 : Ref sig .tc := ⟨.hbm, 179, rfl⟩
abbrev main_cst_35 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_36 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_37 : Ref sig .tc := ⟨.hbm, 190, rfl⟩
abbrev main_v148 : Ref sig .tc := ⟨.hbm, 191, rfl⟩
abbrev main_v149 : Ref sig .tc := ⟨.hbm, 192, rfl⟩

abbrev nD : Nat := 1
abbrev τ : Topo := Topo.v7x

variable {F : FTy → Type} [FloatOps F]
-- ==== Proof.Spec.lean ====
module

public import Idealize.ShloMosaic.Lib.Pointwise

@[expose] public section

/-!
The recurrence that the gradient of the S5 layer runs backwards through the chunks, as plain functions on the
extended reals: no program is mentioned here.

A state has 128 lanes: 64 real parts and 64 imaginary parts. `rot` exchanges the two halves. `Q J a b n` is what the
recurrence carries before its `n`-th step, `J k` being what chunk `k` adds; it visits the chunks `271, 270, …, 0`.
-/

noncomputable section

namespace Cert.S5

/-- The lane that holds the other part of the same complex number. -/
def rot (p : Fin 128) : Fin 128 := ⟨(p.val + 64) % 128, Nat.mod_lt _ (by decide)⟩

theorem rot_rot (p : Fin 128) : rot (rot p) = p := by
  apply Fin.ext; simp only [rot]; have := p.isLt; omega

/-- The chunk the backward direction visits `j`-th: the 16 chunks of the context from the last, then the others
    from the last. It is its own inverse. -/
def co (j : ℕ) : ℕ := if j < 16 then 15 - j else 287 - j

theorem co_co {j : ℕ} (h : j < 272) : co (co j) = j := by
  unfold co; split_ifs <;> omega

theorem co_lt {j : ℕ} (h : j < 272) : co j < 272 := by
  unfold co; split_ifs <;> omega

variable (J H : ℕ → Fin 128 → EReal) (a b : Fin 128 → EReal)

/-- What the recurrence carries before step `n`: `q ↦ J + a q - b (rot q)`. -/
def Q : ℕ → Fin 128 → EReal
  | 0 => fun _ => 0
  | n + 1 => fun p => J (271 - n) p + a p * Q n p - b p * Q n (rot p)

/-- The sum over the first `n` steps of the carried value times the saved state. -/
def D : ℕ → Fin 128 → EReal
  | 0 => fun _ => 0
  | n + 1 => fun p => D n p + Q J a b n p * H (271 - n) p

/-- The same with the two halves of the carried value exchanged. -/
def Ds : ℕ → Fin 128 → EReal
  | 0 => fun _ => 0
  | n + 1 => fun p => Ds n p + Q J a b n (rot p) * H (271 - n) p

/-- The carried value with its halves exchanged follows a recurrence of the same shape, for rows that are even and odd
    under the exchange. -/
theorem Q_rot_succ (ha : ∀ p, a (rot p) = a p) (hb : ∀ p, b (rot p) = -b p) (n : ℕ) (p : Fin 128) :
    Q J a b (n + 1) (rot p) = J (271 - n) (rot p) + a p * Q J a b n (rot p) + b p * Q J a b n p := by
  simp only [Q, ha, hb, rot_rot, EReal.neg_mul, sub_eq_add_neg, neg_neg]

/-- `D` as a sum. -/
theorem D_eq_sum (n : ℕ) (p : Fin 128) : D J H a b n p = ∑ k ∈ Finset.range n, Q J a b k p * H (271 - k) p := by
  induction n with
  | zero => rfl
  | succ n ih => rw [Finset.sum_range_succ, ← ih]; rfl

/-- `Ds` as a sum. -/
theorem Ds_eq_sum (n : ℕ) (p : Fin 128) : Ds J H a b n p = ∑ k ∈ Finset.range n, Q J a b k (rot p) * H (271 - k) p := by
  induction n with
  | zero => rfl
  | succ n ih => rw [Finset.sum_range_succ, ← ih]; rfl

end Cert.S5

end
-- ==== Proof.Answer.lean ====
module

public import proofs.«01_k».proof.Proof.Spec

@[expose] public section

/-!
The gradient of the S5 layer's chunk recurrence, as plain functions on the extended reals: no program is mentioned
here. A sequence `b` and a group `g` have 272 chunks of 256 inputs (16 tokens of 16 channels); `dy` is the cotangent of
the outputs, `u` the inputs, `hf` and `hb` the states saved before every chunk, `tz`, `wf`, `wb`, `vf`, `vb` the group's
matrices, `lre` and `lim` the complex numbers of the two directions.
-/

noncomputable section

namespace Cert.S5

open Idealize.ShloMosaic

/-- Row `k` of group `g` in an array that lists the groups' chunks one after the other. -/
def cell (g : Fin 64) (k : Fin 272) : Fin 17408 := ⟨272 * g.val + k.val, by have := g.isLt; have := k.isLt; omega⟩

/-- The group of a row. -/
def grpOf (r : Fin 17408) : Fin 64 := ⟨r.val / 272, by have := r.isLt; omega⟩

/-- The chunk of a row. -/
def chkOf (r : Fin 17408) : Fin 272 := ⟨r.val % 272, Nat.mod_lt _ (by decide)⟩

theorem cell_eq (r : Fin 17408) : cell (grpOf r) (chkOf r) = r := by
  apply Fin.ext; simp only [cell, grpOf, chkOf]; omega

theorem grpOf_cell (g : Fin 64) (k : Fin 272) : grpOf (cell g k) = g := by
  apply Fin.ext; simp only [cell, grpOf]; have := k.isLt; omega

theorem chkOf_cell (g : Fin 64) (k : Fin 272) : chkOf (cell g k) = k := by
  apply Fin.ext; simp only [cell, chkOf]; have := k.isLt; omega

/-- The lane's position within its half. -/
def half (p : Fin 128) : Fin 64 := ⟨p.val % 64, Nat.mod_lt _ (by decide)⟩

theorem half_rot (p : Fin 128) : half (rot p) = half p := by
  apply Fin.ext; simp only [half, rot]; omega

/-- What the gradient is taken from. -/
structure Data where
  dy : Fin 2 → Fin 64 → Fin 272 → Fin 256 → EReal
  u : Fin 2 → Fin 64 → Fin 272 → Fin 256 → EReal
  hf : Fin 2 → Fin 64 → Fin 272 → Fin 128 → EReal
  hb : Fin 2 → Fin 64 → Fin 272 → Fin 128 → EReal
  tz : Fin 64 → Fin 256 → Fin 256 → EReal
  wf : Fin 64 → Fin 256 → Fin 128 → EReal
  wb : Fin 64 → Fin 256 → Fin 128 → EReal
  vf : Fin 64 → Fin 128 → Fin 256 → EReal
  vb : Fin 64 → Fin 128 → Fin 256 → EReal
  lre : Fin 2 → Fin 64 → Fin 64 → EReal
  lim : Fin 2 → Fin 64 → Fin 64 → EReal

/-- A function of a chunk at a natural number, zero where there is no such chunk. -/
def at' (f : Fin 272 → Fin 128 → EReal) (n : ℕ) (p : Fin 128) : EReal := if h : n < 272 then f ⟨n, h⟩ p else 0

namespace Data

variable (x : Data)

/-- The row that multiplies a state lane by lane. -/
def re (d : Fin 2) (g : Fin 64) (p : Fin 128) : EReal := x.lre d g (half p)

/-- The row that multiplies the state with its halves exchanged. -/
def im (d : Fin 2) (g : Fin 64) (p : Fin 128) : EReal := if p.val < 64 then -x.lim d g (half p) else x.lim d g (half p)

theorem re_rot (d : Fin 2) (g : Fin 64) (p : Fin 128) : x.re d g (rot p) = x.re d g p := by
  simp only [re, half_rot]

theorem im_rot (d : Fin 2) (g : Fin 64) (p : Fin 128) : x.im d g (rot p) = -x.im d g p := by
  have := p.isLt
  simp only [im, half_rot]
  by_cases h : p.val < 64
  · rw [if_pos h, if_neg (by simp only [rot]; omega), neg_neg]
  · rw [if_neg h, if_pos (by simp only [rot]; omega)]

/-- What a chunk adds to the forward direction's recurrence: the cotangent of its state, as the outputs read it. -/
def Jf (b : Fin 2) (g : Fin 64) (k : Fin 272) (p : Fin 128) : EReal := ∑ s : Fin 256, x.dy b g k s * x.vf g p s

/-- The same for the backward direction. -/
def Jb (b : Fin 2) (g : Fin 64) (k : Fin 272) (p : Fin 128) : EReal := ∑ s : Fin 256, x.dy b g k s * x.vb g p s

/-- The cotangent of what chunk `k` adds to the forward direction's state. -/
def Qf (b : Fin 2) (g : Fin 64) (k : Fin 272) (p : Fin 128) : EReal :=
  Q (at' (x.Jf b g)) (x.re 0 g) (x.im 0 g) (271 - k.val) p

/-- The same for the backward direction. -/
def Qb (b : Fin 2) (g : Fin 64) (k : Fin 272) (p : Fin 128) : EReal :=
  Q (fun n => at' (x.Jb b g) (co n)) (x.re 1 g) (x.im 1 g) (271 - co k.val) p

/-- The gradient of the inputs. -/
def du (b : Fin 2) (g : Fin 64) (k : Fin 272) (t : Fin 256) : EReal :=
  (∑ s : Fin 256, x.dy b g k s * x.tz g t s) + (∑ p : Fin 128, x.Qf b g k p * x.wf g t p)
    + ∑ p : Fin 128, x.Qb b g k p * x.wb g t p

/-- The gradients of the matrices. -/
def dtz (g : Fin 64) (a t : Fin 256) : EReal := ∑ b : Fin 2, ∑ k : Fin 272, x.u b g k a * x.dy b g k t
def dwf (g : Fin 64) (a : Fin 256) (p : Fin 128) : EReal := ∑ b : Fin 2, ∑ k : Fin 272, x.u b g k a * x.Qf b g k p
def dwb (g : Fin 64) (a : Fin 256) (p : Fin 128) : EReal := ∑ b : Fin 2, ∑ k : Fin 272, x.u b g k a * x.Qb b g k p
def dvf (g : Fin 64) (p : Fin 128) (t : Fin 256) : EReal := ∑ b : Fin 2, ∑ k : Fin 272, x.hf b g k p * x.dy b g k t
def dvb (g : Fin 64) (p : Fin 128) (t : Fin 256) : EReal := ∑ b : Fin 2, ∑ k : Fin 272, x.hb b g k p * x.dy b g k t

/-- One sequence's part of the gradients of the four rows of the complex numbers. -/
def dlp (b : Fin 2) (j : Fin 4) (g : Fin 64) (p : Fin 128) : EReal :=
  match j with
  | 0 => D (at' (x.Jf b g)) (at' (x.hf b g)) (x.re 0 g) (x.im 0 g) 272 p
  | 1 => Ds (at' (x.Jf b g)) (at' (x.hf b g)) (x.re 0 g) (x.im 0 g) 272 (rot p)
  | 2 => D (fun n => at' (x.Jb b g) (co n)) (fun n => at' (x.hb b g) (co n)) (x.re 1 g) (x.im 1 g) 272 p
  | 3 => Ds (fun n => at' (x.Jb b g) (co n)) (fun n => at' (x.hb b g) (co n)) (x.re 1 g) (x.im 1 g) 272 (rot p)

/-- The gradients of the four rows of the complex numbers. -/
def dl (j : Fin 4) (g : Fin 64) (p : Fin 128) : EReal := ∑ b : Fin 2, x.dlp b j g p

/-- The data read off the programs' arguments. -/
def of (dy u : (⟨3, ![2, 17408, 256]⟩ : Shape).Idx → EReal) (hf hb : (⟨3, ![2, 17408, 128]⟩ : Shape).Idx → EReal)
    (tz : (⟨3, ![64, 256, 256]⟩ : Shape).Idx → EReal) (wf wb : (⟨3, ![64, 256, 128]⟩ : Shape).Idx → EReal)
    (vf vb : (⟨3, ![64, 128, 256]⟩ : Shape).Idx → EReal) (lre lim : (⟨3, ![2, 64, 64]⟩ : Shape).Idx → EReal) : Data where
  dy b g k s := dy (ix3 b (cell g k) s)
  u b g k s := u (ix3 b (cell g k) s)
  hf b g k p := hf (ix3 b (cell g k) p)
  hb b g k p := hb (ix3 b (cell g k) p)
  tz g s t := tz (ix3 g s t)
  wf g s p := wf (ix3 g s p)
  wb g s p := wb (ix3 g s p)
  vf g p s := vf (ix3 g p s)
  vb g p s := vb (ix3 g p s)
  lre d g n := lre (ix3 d g n)
  lim d g n := lim (ix3 d g n)

end Data

end Cert.S5

end
-- ==== Proof.Host.lean ====
module

public import proofs.«01_k».proof.Proof.Answer
public import proofs.«01_k».proof.Proof.Gen.KernelIdeal.Frame
public import Idealize.ShloMosaic.Lib.StableHlo.ReadAt

@[expose] public section

/-!
The operands that the program prepares for its kernel, element by element: the matrices with their last two dimensions
exchanged, and the four rows of the complex numbers.
-/

noncomputable section

namespace Cert.KernelIdeal.Host

open Idealize.ShloMosaic Idealize.ShloMosaic.TcCoe Idealize.ShloMosaic.Tactic
open Cert.KernelIdeal Cert.KernelIdeal.Gen Cert.S5

variable (m : (ℓ : Loc nD τ sig) → Buf (Elt Ideal) ℓ) (c : Dev nD)

/-- The data of core `c`. -/
abbrev X : Data := Data.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

theorem tzt (g : Fin 64) (s t : Fin 256) : V m c main_v0 (ix3 g s t) = (X m c).tz g t s := by
  unfold V
  after_reads_at
  rfl

theorem wft (g : Fin 64) (p : Fin 128) (t : Fin 256) : V m c main_v1 (ix3 g p t) = (X m c).wf g t p := by
  unfold V
  after_reads_at
  rfl

theorem wbt (g : Fin 64) (p : Fin 128) (t : Fin 256) : V m c main_v2 (ix3 g p t) = (X m c).wb g t p := by
  unfold V
  after_reads_at
  rfl

theorem vft (g : Fin 64) (s : Fin 256) (p : Fin 128) : V m c main_v3 (ix3 g s p) = (X m c).vf g p s := by
  unfold V
  after_reads_at
  rfl

theorem vbt (g : Fin 64) (s : Fin 256) (p : Fin 128) : V m c main_v4 (ix3 g s p) = (X m c).vb g p s := by
  unfold V
  after_reads_at
  rfl

theorem half_lo (p : Fin 128) (h : p.val < 64) : (⟨p.val, h⟩ : Fin 64) = half p :=
  Fin.ext (Nat.mod_eq_of_lt h).symm

theorem half_hi (p : Fin 128) (h : ¬p.val < 64) (h' : p.val - 64 < 64) : (⟨p.val - 64, h'⟩ : Fin 64) = half p := by
  apply Fin.ext
  simp only [half]
  omega

theorem row0 (g : Fin 64) (p : Fin 128) : V m c main_v23 (ix3 0 g p) = (X m c).re 0 g p := by
  unfold V
  after_reads_at
  rw [StableHlo.unary_result']
  after_reads_at
  by_cases h : p.val < 64
  · rw [dif_pos h]
    after_reads_at
    rw [half_lo p h]
    rfl
  · rw [dif_neg h]
    after_reads_at
    rw [half_hi p h]
    rfl

theorem row1 (g : Fin 64) (p : Fin 128) : V m c main_v23 (ix3 1 g p) = (X m c).im 0 g p := by
  unfold V
  after_reads_at
  rw [StableHlo.unary_result']
  after_reads_at
  by_cases h : p.val < 64
  · rw [dif_pos h]
    after_reads_at
    rw [half_lo p h]
    exact (if_pos h).symm
  · rw [dif_neg h]
    after_reads_at
    rw [half_hi p h]
    exact (if_neg h).symm

theorem row2 (g : Fin 64) (p : Fin 128) : V m c main_v23 (ix3 2 g p) = (X m c).re 1 g p := by
  unfold V
  after_reads_at
  rw [StableHlo.unary_result']
  after_reads_at
  by_cases h : p.val < 64
  · rw [dif_pos h]
    after_reads_at
    rw [half_lo p h]
    rfl
  · rw [dif_neg h]
    after_reads_at
    rw [half_hi p h]
    rfl

theorem row3 (g : Fin 64) (p : Fin 128) : V m c main_v23 (ix3 3 g p) = (X m c).im 1 g p := by
  unfold V
  after_reads_at
  rw [StableHlo.unary_result']
  after_reads_at
  by_cases h : p.val < 64
  · rw [dif_pos h]
    after_reads_at
    rw [half_lo p h]
    exact (if_pos h).symm
  · rw [dif_neg h]
    after_reads_at
    rw [half_hi p h]
    exact (if_neg h).symm

end Cert.KernelIdeal.Host

end
-- ==== Proof.Loop.lean ====
module

public import proofs.«01_k».proof.Proof.Gen.KernelIdeal.Loops
public import Idealize.ShloMosaic.Lib.WritesUnit
public import proofs.«01_k».proof.Proof.Spec

@[expose] public section

/-!
The kernel's loop over the chunks, at the ideal values: what it carries and what it leaves in its two written scratch
buffers, in terms of the recurrence of `Spec`.

The scratch buffers hold eight groups interleaved: row `8 * k + r` belongs to chunk `k` of group `r`.
-/

set_option maxRecDepth 8192

noncomputable section

namespace Cert.KernelIdeal.Loop

open Idealize.ShloMosaic Idealize.ShloMosaic.TcCoe Idealize.ShloMosaic.Tactic
open Cert.KernelIdeal.Gen Cert.S5

/-- The loop's carried rows. -/
abbrev Carry : Type := FVec Ideal S8x128 .f32 × FVec Ideal S8x128 .f32 × FVec Ideal S8x128 .f32 × FVec Ideal S8x128 .f32
  × FVec Ideal S8x128 .f32 × FVec Ideal S8x128 .f32 × FVec Ideal S8x128 .f32 × FVec Ideal S8x128 .f32

/-- The loop makes 272 trips. -/
theorem trips_eq : k0_t1_loop.trips = 272 := by decide +kernel

/-- Row `8 * k + r` of a scratch buffer. -/
abbrev row (k : ℕ) (h : k < 272) (r : Fin 8) : Fin 2176 := ⟨k * 8 + r.val, by have := r.isLt; omega⟩

theorem off1_eq (k : Fin k0_t1_loop.trips) : k0_off1 k = ![(271 - k.val) * 8, 0] := by
  revert k; decide +kernel

theorem off2_eq (k : Fin k0_t1_loop.trips) : k0_off2 k = ![co (271 - k.val) * 8, 0] := by
  revert k; decide +kernel

section Trip
variable (c : Dev nD) (bd : Option (Variants.none).V) (i : grid0.Coords)
  (arg2 : Memref sig .tc .vmem S1x2176x256 .bf16) (harg2 : arg2.IsWhole)
  (arg3 : Memref sig .tc .vmem S1x2176x256 .bf16) (harg3 : arg3.IsWhole)
  (arg4 : Memref sig .tc .vmem S1x2176x128 .f32) (harg4 : arg4.IsWhole)
  (arg5 : Memref sig .tc .vmem S1x2176x128 .f32) (harg5 : arg5.IsWhole)
  (arg6 : Memref sig .tc .vmem S8x256x256 .bf16) (harg6 : arg6.IsWhole)
  (arg7 : Memref sig .tc .vmem S8x128x256 .bf16) (harg7 : arg7.IsWhole)
  (arg8 : Memref sig .tc .vmem S8x128x256 .bf16) (harg8 : arg8.IsWhole)
  (arg9 : Memref sig .tc .vmem S8x256x128 .bf16) (harg9 : arg9.IsWhole)
  (arg10 : Memref sig .tc .vmem S8x256x128 .bf16) (harg10 : arg10.IsWhole)
  (arg11 : Memref sig .tc .vmem S4x8x128 .f32) (harg11 : arg11.IsWhole)
  (arg12 : Memref sig .tc .vmem S1x2176x256 .bf16) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x128x256 .f32) (harg16 : arg16.IsWhole)
  (arg17 : Memref sig .tc .vmem S8x128x256 .f32) (harg17 : arg17.IsWhole)
  (arg18 : Memref sig .tc .vmem S4x8x128 .f32) (harg18 : arg18.IsWhole)
  (arg19 : Memref sig .tc .vmem S2176x128 .f32) (harg19 : arg19.IsWhole)
  (arg20 : Memref sig .tc .vmem S2176x128 .f32) (harg20 : arg20.IsWhole)
  (arg21 : Memref sig .tc .vmem S2176x128 .f32) (harg21 : arg21.IsWhole)
  (arg22 : Memref sig .tc .vmem S2176x128 .f32) (harg22 : arg22.IsWhole)
  (arg23 : Memref sig .tc .vmem S2176x128 .f32) (harg23 : arg23.IsWhole)
  (arg24 : Memref sig .tc .vmem S2176x128 .f32) (harg24 : arg24.IsWhole)
  (v1 v3 v5 v7 : FVec Ideal S8x128 .f32) (v242 v246 : FVec Ideal S272x128 .f32)
  (X20 : BufTy.Contents (Elt Ideal) arg20.view.ty) (X22 : BufTy.Contents (Elt Ideal) arg22.view.ty)
  (X23 : BufTy.Contents (Elt Ideal) arg23.view.ty) (X24 : BufTy.Contents (Elt Ideal) arg24.view.ty)

/-- What one trip yields: the carried rows advanced by one chunk. -/
theorem tripR_eq (k : Fin k0_t1_loop.trips) (acc : Carry) (f : BufTy.Contents (Elt Ideal) arg19.view.ty)
    (g : BufTy.Contents (Elt Ideal) arg21.view.ty) :
    tripR_k0_t1 (F := Ideal) Variants.none c bd i arg2 harg2 arg3 harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 arg20 harg20 arg21 harg21 arg22 harg22 arg23 harg23
    arg24 harg24 v1 v3 v5 v7 v242 v246 X20 X22 X23 X24 k acc f g =
      (k0_pay4 v1 v3 acc.1 acc.2.1 (arg19.view.readAt (Elt Ideal) (Rect.unit (s := S2176x128) (k0_off1 k) S8x128.size (k0_off1_inb k)).toLoadRect f),
       k0_pay5 v1 v3 acc.1 acc.2.1 (arg20.view.readAt (Elt Ideal) (Rect.unit (s := S2176x128) (k0_off1 k) S8x128.size (k0_off1_inb k)).toLoadRect X20),
       k0_pay93 v7 acc.2.2.2.1 (k0_pay6 v5 acc.2.2.1 (arg21.view.readAt (Elt Ideal) (Rect.unit (s := S2176x128) (k0_off2 k) S8x128.size (k0_off2_inb k)).toLoadRect g)),
       k0_pay94 v5 v7 acc.2.2.1 acc.2.2.2.1 (arg22.view.readAt (Elt Ideal) (Rect.unit (s := S2176x128) (k0_off2 k) S8x128.size (k0_off2_inb k)).toLoadRect X22),
       k0_pay95 acc.1 acc.2.2.2.2.1 (arg23.view.readAt (Elt Ideal) (Rect.unit (s := S2176x128) (k0_off1 k) S8x128.size (k0_off1_inb k)).toLoadRect X23),
       k0_pay96 acc.2.1 acc.2.2.2.2.2.1 (arg23.view.readAt (Elt Ideal) (Rect.unit (s := S2176x128) (k0_off1 k) S8x128.size (k0_off1_inb k)).toLoadRect X23),
       k0_pay97 acc.2.2.1 acc.2.2.2.2.2.2.1 (arg24.view.readAt (Elt Ideal) (Rect.unit (s := S2176x128) (k0_off2 k) S8x128.size (k0_off2_inb k)).toLoadRect X24),
       k0_pay98 acc.2.2.2.1 acc.2.2.2.2.2.2.2 (arg24.view.readAt (Elt Ideal) (Rect.unit (s := S2176x128) (k0_off2 k) S8x128.size (k0_off2_inb k)).toLoadRect X24)) := by
  unfold tripR_k0_t1 trip_k0_t1; rfl

/-- What one trip stores: the rows carried into it, in the place of the chunk's. -/
theorem tripL_eq (k : Fin k0_t1_loop.trips) (acc : Carry) (f : BufTy.Contents (Elt Ideal) arg19.view.ty)
    (g : BufTy.Contents (Elt Ideal) arg21.view.ty) :
    tripL_k0_t1 (F := Ideal) Variants.none c bd i arg2 harg2 arg3 harg3 arg4 harg4 arg5 harg5 arg6 harg6 arg7 harg7 arg8 harg8 arg9 harg9 arg10 harg10 arg11 harg11 arg12 harg12
    arg13 harg13 arg14 harg14 arg15 harg15 arg16 harg16 arg17 harg17 arg18 harg18 arg19 harg19 arg20 harg20 arg21 harg21 arg22 harg22 arg23 harg23
    arg24 harg24 v1 v3 v5 v7 v242 v246 X20 X22 X23 X24 k acc f g =
      ([⟨Rect.unit (s := S2176x128) (k0_off1 k) S8x128.size (k0_off1_inb k), k0_pay2 acc.1⟩],
       [⟨Rect.unit (s := S2176x128) (k0_off2 k) S8x128.size (k0_off2_inb k), k0_pay3 acc.2.2.1⟩]) := by
  unfold tripL_k0_t1 trip_k0_t1; rfl

end Trip

/-! ### The invariant -/

section Inv
variable (J1 H1 J2 H2 : ℕ → Fin 8 → Fin 128 → EReal) (af bf ab bb : Fin 8 → Fin 128 → EReal)

/-- What the forward direction carries before step `n`, in group `r`. -/
abbrev qf (n : ℕ) (r : Fin 8) : Fin 128 → EReal := Q (fun k => J1 k r) (af r) (bf r) n

/-- What the backward direction carries before step `n`, in group `r`: it visits the chunks in the order `co`. -/
abbrev qb (n : ℕ) (r : Fin 8) : Fin 128 → EReal := Q (fun k => J2 (co k) r) (ab r) (bb r) n

/-- Before trip `n`: the carried rows, and the two written buffers read at every row. -/
structure Inv (n : ℕ) (s : Carry) (R19 R21 : S2176x128.Idx → EReal) : Prop where
  f : ∀ r p, s.1 (ix2 r p) = qf J1 af bf n r p
  fs : ∀ r p, s.2.1 (ix2 r p) = qf J1 af bf n r (rot p)
  b : ∀ r p, s.2.2.1 (ix2 r p) = qb J2 ab bb n r p
  bs : ∀ r p, s.2.2.2.1 (ix2 r p) = qb J2 ab bb n r (rot p)
  d1 : ∀ r p, s.2.2.2.2.1 (ix2 r p) = D (fun k => J1 k r) (fun k => H1 k r) (af r) (bf r) n p
  d2 : ∀ r p, s.2.2.2.2.2.1 (ix2 r p) = Ds (fun k => J1 k r) (fun k => H1 k r) (af r) (bf r) n p
  d3 : ∀ r p, s.2.2.2.2.2.2.1 (ix2 r p) = D (fun k => J2 (co k) r) (fun k => H2 (co k) r) (ab r) (bb r) n p
  d4 : ∀ r p, s.2.2.2.2.2.2.2 (ix2 r p) = Ds (fun k => J2 (co k) r) (fun k => H2 (co k) r) (ab r) (bb r) n p
  m19 : ∀ k (h : k < 272) r p, R19 (ix2 (row k h r) p) = if 272 ≤ k + n then qf J1 af bf (271 - k) r p else J1 k r p
  m21 : ∀ k (h : k < 272) r p, R21 (ix2 (row k h r) p) = if 272 ≤ co k + n then qb J2 ab bb (271 - co k) r p else J2 k r p

end Inv

/-- A load of the eight rows of a chunk, read at an element. -/
theorem readAt_row {κ : Kind} {sp : Space} (v : View sig κ sp S2176x128 .f32) (off : Fin 2 → ℕ) (inb) (g : v.ty.Contents (Elt Ideal))
    (k : ℕ) (hk : k < 272) (hoff : off = ![k * 8, 0]) (r : Fin 8) (p : Fin 128) :
    v.readAt (Elt Ideal) (Rect.unit (s := S2176x128) off S8x128.size inb).toLoadRect g (ix2 r p)
      = v.read (Elt Ideal) g (ix2 (row k hk r) p) := by
  rw [View.readAt_apply]
  congr 1
  subst hoff
  funext a
  apply Fin.ext
  rw [LoadRect.idx_apply]
  match a with
  | ⟨0, _⟩ => show k * 8 + 1 * r.val = k * 8 + r.val; omega
  | ⟨1, _⟩ => show 0 + 1 * p.val = p.val; omega

/-- A buffer after the eight rows of chunk `k` were stored, read at a row. -/
theorem read_store {κ : Kind} {sp : Space} (v : View sig κ sp S2176x128 .f32) (off : Fin 2 → ℕ) (inb) (g : v.ty.Contents (Elt Ideal))
    (w : S8x128.Idx → EReal) (L : List (View.Piece (Elt Ideal) S2176x128 .f32)) (k : ℕ) (hoff : off = ![k * 8, 0])
    (k' : ℕ) (hk' : k' < 272) (r : Fin 8) (p : Fin 128) :
    v.read (Elt Ideal) (v.writes (Elt Ideal) g
        ([(⟨Rect.unit (s := S2176x128) off S8x128.size inb, w⟩ : View.Piece (Elt Ideal) S2176x128 .f32)] ++ L)) (ix2 (row k' hk' r) p)
      = if k' = k then w (ix2 r p) else v.read (Elt Ideal) (v.writes (Elt Ideal) g L) (ix2 (row k' hk' r) p) := by
  rw [List.singleton_append]
  split_ifs with h
  · subst h
    exact View.read_writes_cons_rows_of_mem v g (e := .f32) (o := k' * 8) inb w L (ix2 (row k' hk' r) p) (ix2 r p) hoff rfl rfl
  · refine View.read_writes_cons_rows_of_not_mem v g (e := .f32) (o := k * 8) (W := 8) inb w L (ix2 (row k' hk' r) p) hoff rfl ?_
    show k' * 8 + r.val < k * 8 ∨ k * 8 + 8 ≤ k' * 8 + r.val
    have := r.isLt
    omega

section Step
variable {J1 H1 J2 H2 : ℕ → Fin 8 → Fin 128 → EReal} {af bf ab bb : Fin 8 → Fin 128 → EReal}

/-- One trip keeps the invariant: `i1 … i2s` are the rows of the drives it loads, `y1`, `y2` the rows of the saved states. -/
theorem inv_step {v1 v3 v5 v7 : FVec Ideal S8x128 .f32} (h1 : ∀ r p, v1 (ix2 r p) = af r p) (h3 : ∀ r p, v3 (ix2 r p) = bf r p)
    (h5 : ∀ r p, v5 (ix2 r p) = ab r p) (h7 : ∀ r p, v7 (ix2 r p) = bb r p)
    (e1 : ∀ r p, af r (rot p) = af r p) (e3 : ∀ r p, bf r (rot p) = -bf r p)
    (e5 : ∀ r p, ab r (rot p) = ab r p) (e7 : ∀ r p, bb r (rot p) = -bb r p)
    {n : ℕ} (hn : n < 272) {S : Carry} {R19 R21 : S2176x128.Idx → EReal} (I : Inv J1 H1 J2 H2 af bf ab bb n S R19 R21)
    {i1 i1s i2 i2s y1 y2 : FVec Ideal S8x128 .f32}
    (hi1 : ∀ r p, i1 (ix2 r p) = R19 (ix2 (row (271 - n) (by omega) r) p)) (hi1s : ∀ r p, i1s (ix2 r p) = J1 (271 - n) r (rot p))
    (hi2 : ∀ r p, i2 (ix2 r p) = R21 (ix2 (row (co (271 - n)) (co_lt (by omega)) r) p))
    (hi2s : ∀ r p, i2s (ix2 r p) = J2 (co (271 - n)) r (rot p))
    (hy1 : ∀ r p, y1 (ix2 r p) = H1 (271 - n) r p) (hy2 : ∀ r p, y2 (ix2 r p) = H2 (co (271 - n)) r p)
    {R19' R21' : S2176x128.Idx → EReal}
    (h19 : ∀ k (h : k < 272) r p, R19' (ix2 (row k h r) p) = if k = 271 - n then k0_pay2 S.1 (ix2 r p) else R19 (ix2 (row k h r) p))
    (h21 : ∀ k (h : k < 272) r p, R21' (ix2 (row k h r) p)
      = if k = co (271 - n) then k0_pay3 S.2.2.1 (ix2 r p) else R21 (ix2 (row k h r) p)) :
    Inv J1 H1 J2 H2 af bf ab bb (n + 1)
      (k0_pay4 v1 v3 S.1 S.2.1 i1, k0_pay5 v1 v3 S.1 S.2.1 i1s, k0_pay93 v7 S.2.2.2.1 (k0_pay6 v5 S.2.2.1 i2),
       k0_pay94 v5 v7 S.2.2.1 S.2.2.2.1 i2s, k0_pay95 S.1 S.2.2.2.2.1 y1, k0_pay96 S.2.1 S.2.2.2.2.2.1 y1,
       k0_pay97 S.2.2.1 S.2.2.2.2.2.2.1 y2, k0_pay98 S.2.2.2.1 S.2.2.2.2.2.2.2 y2) R19' R21' := by
  have c1 : 271 - n < 272 := by omega
  have c2 : co (271 - n) < 272 := co_lt c1
  have cc : co (co (271 - n)) = 271 - n := co_co c1
  refine ⟨fun r p => ?_, fun r p => ?_, fun r p => ?_, fun r p => ?_, fun r p => ?_, fun r p => ?_, fun r p => ?_, fun r p => ?_,
    fun k h r p => ?_, fun k h r p => ?_⟩
  · show i1 (ix2 r p) + v1 (ix2 r p) * S.1 (ix2 r p) - v3 (ix2 r p) * S.2.1 (ix2 r p) = _
    rw [hi1, I.m19, if_neg (by omega), h1, h3, I.f, I.fs]
    rfl
  · show i1s (ix2 r p) + v1 (ix2 r p) * S.2.1 (ix2 r p) + v3 (ix2 r p) * S.1 (ix2 r p) = _
    rw [hi1s, h1, h3, I.f, I.fs]
    exact (Q_rot_succ (fun k => J1 k r) (af r) (bf r) (e1 r) (e3 r) n p).symm
  · show i2 (ix2 r p) + v5 (ix2 r p) * S.2.2.1 (ix2 r p) - v7 (ix2 r p) * S.2.2.2.1 (ix2 r p) = _
    rw [hi2, I.m21, cc, if_neg (by omega), h5, h7, I.b, I.bs]
    rfl
  · show i2s (ix2 r p) + v5 (ix2 r p) * S.2.2.2.1 (ix2 r p) + v7 (ix2 r p) * S.2.2.1 (ix2 r p) = _
    rw [hi2s, h5, h7, I.b, I.bs]
    exact (Q_rot_succ (fun k => J2 (co k) r) (ab r) (bb r) (e5 r) (e7 r) n p).symm
  · show S.2.2.2.2.1 (ix2 r p) + S.1 (ix2 r p) * y1 (ix2 r p) = _
    rw [hy1, I.d1, I.f]
    rfl
  · show S.2.2.2.2.2.1 (ix2 r p) + S.2.1 (ix2 r p) * y1 (ix2 r p) = _
    rw [hy1, I.d2, I.fs]
    rfl
  · show S.2.2.2.2.2.2.1 (ix2 r p) + S.2.2.1 (ix2 r p) * y2 (ix2 r p) = _
    rw [hy2, I.d3, I.b]
    rfl
  · show S.2.2.2.2.2.2.2 (ix2 r p) + S.2.2.2.1 (ix2 r p) * y2 (ix2 r p) = _
    rw [hy2, I.d4, I.bs]
    rfl
  · rw [h19 k h r p]
    by_cases hkn : k = 271 - n
    · rw [if_pos hkn, if_pos (by omega), show 271 - k = n by omega]
      show shapeCast S8x128 S.1 _ (ix2 r p) = _
      rw [shapeCast_self]; exact I.f r p
    · rw [if_neg hkn, I.m19 k h r p]
      exact if_congr (by omega) rfl rfl
  · rw [h21 k h r p]
    by_cases hkn : k = co (271 - n)
    · have e : co k = 271 - n := by rw [hkn, cc]
      rw [if_pos hkn, if_pos (by omega), show 271 - co k = n by omega]
      show shapeCast S8x128 S.2.2.1 _ (ix2 r p) = _
      rw [shapeCast_self]; exact I.b r p
    · have e : co k ≠ 271 - n := fun e => hkn (by rw [← e, co_co h])
      rw [if_neg hkn, I.m21 k h r p]
      exact if_congr (by omega) rfl rfl

end Step

section Scan
variable (c : Dev nD) (bd : Option (Variants.none).V) (i : grid0.Coords)
  (arg2 : Memref sig .tc .vmem S1x2176x256 .bf16) (harg2 : arg2.IsWhole)
  (arg3 : Memref sig .tc .vmem S1x2176x256 .bf16) (harg3 : arg3.IsWhole)
  (arg4 : Memref sig .tc .vmem S1x2176x128 .f32) (harg4 : arg4.IsWhole)
  (arg5 : Memref sig .tc .vmem S1x2176x128 .f32) (harg5 : arg5.IsWhole)
  (arg6 : Memref sig .tc .vmem S8x256x256 .bf16) (harg6 : arg6.IsWhole)
  (arg7 : Memref sig .tc .vmem S8x128x256 .bf16) (harg7 : arg7.IsWhole)
  (arg8 : Memref sig .tc .vmem S8x128x256 .bf16) (harg8 : arg8.IsWhole)
  (arg9 : Memref sig .tc .vmem S8x256x128 .bf16) (harg9 : arg9.IsWhole)
  (arg10 : Memref sig .tc .vmem S8x256x128 .bf16) (harg10 : arg10.IsWhole)
  (arg11 : Memref sig .tc .vmem S4x8x128 .f32) (harg11 : arg11.IsWhole)
  (arg12 : Memref sig .tc .vmem S1x2176x256 .bf16) (harg12 : arg12.IsWhole)
  (arg13 : Memref sig .tc .vmem S8x256x256 .f32) (harg13 : arg13.IsWhole)
  (arg14 : Memref sig .tc .vmem S8x256x128 .f32) (harg14 : arg14.IsWhole)
  (arg15 : Memref sig .tc .vmem S8x256x128 .f32) (harg15 : arg15.IsWhole)
  (arg16 : Memref sig .tc .vmem S8x128x256 .f32) (harg16 : arg16.IsWhole)
  (arg17 : Memref sig .tc .vmem S8x128x256 .f32) (harg17 : arg17.IsWhole)
  (arg18 : Memref sig .tc .vmem S4x8x128 .f32) (harg18 : arg18.IsWhole)
  (arg19 : Memref sig .tc .vmem S2176x128 .f32) (harg19 : arg19.IsWhole)
  (arg20 : Memref sig .tc .vmem S2176x128 .f32) (harg20 : arg20.IsWhole)
  (arg21 : Memref sig .tc .vmem S2176x128 .f32) (harg21 : arg21.IsWhole)
  (arg22 : Memref sig .tc .vmem S2176x128 .f32) (harg22 : arg22.IsWhole)
  (arg23 : Memref sig .tc .vmem S2176x128 .f32) (harg23 : arg23.IsWhole)
  (arg24 : Memref sig .tc .vmem S2176x128 .f32) (harg24 : arg24.IsWhole)
  (v1 v3 v5 v7 : FVec Ideal S8x128 .f32) (v242 v246 : FVec Ideal S272x128 .f32)
  (X20 : BufTy.Contents (Elt Ideal) arg20.view.ty) (X22 : BufTy.Contents (Elt Ideal) arg22.view.ty)
  (X23 : BufTy.Contents (Elt Ideal) arg23.view.ty) (X24 : BufTy.Contents (Elt Ideal) arg24.view.ty)
  (G19 : BufTy.Contents (Elt Ideal) arg19.view.ty) (G21 : BufTy.Contents (Elt Ideal) arg21.view.ty)
  (init : Carry)
  (J1 H1 J2 H2 : ℕ → Fin 8 → Fin 128 → EReal) (af bf ab bb : Fin 8 → Fin 128 → EReal)

/-- Before every trip the invariant holds, if the scratch buffers hold what the chunks add (and the same with the halves
    exchanged) and the saved states, and the rows `v1`, `v3`, `v5`, `v7` are even and odd under the exchange. -/
theorem inv_all (h1 : ∀ r p, v1 (ix2 r p) = af r p) (h3 : ∀ r p, v3 (ix2 r p) = bf r p)
    (h5 : ∀ r p, v5 (ix2 r p) = ab r p) (h7 : ∀ r p, v7 (ix2 r p) = bb r p)
    (e1 : ∀ r p, af r (rot p) = af r p) (e3 : ∀ r p, bf r (rot p) = -bf r p)
    (e5 : ∀ r p, ab r (rot p) = ab r p) (e7 : ∀ r p, bb r (rot p) = -bb r p)
    (h19 : ∀ k (h : k < 272) r p, arg19.view.read (Elt Ideal) G19 (ix2 (row k h r) p) = J1 k r p)
    (h20 : ∀ k (h : k < 272) r p, arg20.view.read (Elt Ideal) X20 (ix2 (row k h r) p) = J1 k r (rot p))
    (h21 : ∀ k (h : k < 272) r p, arg21.view.read (Elt Ideal) G21 (ix2 (row k h r) p) = J2 k r p)
    (h22 : ∀ k (h : k < 272) r p, arg22.view.read (Elt Ideal) X22 (ix2 (row k h r) p) = J2 k r (rot p))
    (h23 : ∀ k (h : k < 272) r p, arg23.view.read (Elt Ideal) X23 (ix2 (row k h r) p) = H1 k r p)
    (h24 : ∀ k (h : k < 272) r p, arg24.view.read (Elt Ideal) X24 (ix2 (row k h r) p) = H2 k r p)
    (hinit : ∀ r p, init.1 (ix2 r p) = 0 ∧ init.2.1 (ix2 r p) = 0 ∧ init.2.2.1 (ix2 r p) = 0 ∧ init.2.2.2.1 (ix2 r p) = 0 ∧
      init.2.2.2.2.1 (ix2 r p) = 0 ∧ init.2.2.2.2.2.1 (ix2 r p) = 0 ∧ init.2.2.2.2.2.2.1 (ix2 r p) = 0 ∧
      init.2.2.2.2.2.2.2 (ix2 r p) = 0) (n : ℕ) (hn : n ≤ 272) :
    Inv J1 H1 J2 H2 af bf ab bb n
      (st_k0_t1 (F := Ideal) Variants.none c bd i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 v1 v3 v5 v7 v242 v246 X20 X22 X23 X24 G19 G21 init n).1
      (arg19.view.read (Elt Ideal) (arg19.view.writes (Elt Ideal) G19
        (st_k0_t1 (F := Ideal) Variants.none c bd i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 v1 v3 v5 v7 v242 v246 X20 X22 X23 X24 G19 G21 init n).2.1))
      (arg21.view.read (Elt Ideal) (arg21.view.writes (Elt Ideal) G21
        (st_k0_t1 (F := Ideal) Variants.none c bd i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20 harg20 arg21 harg21 arg22
    harg22 arg23 harg23 arg24 harg24 v1 v3 v5 v7 v242 v246 X20 X22 X23 X24 G19 G21 init n).2.2)) := by
  induction n with
  | zero =>
    refine ⟨fun r p => (hinit r p).1, fun r p => (hinit r p).2.1, fun r p => (hinit r p).2.2.1, fun r p => (hinit r p).2.2.2.1,
      fun r p => (hinit r p).2.2.2.2.1, fun r p => (hinit r p).2.2.2.2.2.1, fun r p => (hinit r p).2.2.2.2.2.2.1,
      fun r p => (hinit r p).2.2.2.2.2.2.2, fun k h r p => ?_, fun k h r p => ?_⟩
    · rw [if_neg (by omega)]; exact h19 k h r p
    · rw [if_neg (by have := co_lt h; omega)]; exact h21 k h r p
  | succ n ih =>
    have hlt : n < 272 := by omega
    have I := ih (by omega)
    have hk : n < k0_t1_loop.trips := by rw [trips_eq]; exact hlt
    rw [st_k0_t1_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v3 v5 v7 v242 v246 X20 X22 X23 X24 G19 G21 init ⟨n, hk⟩]
    rw [tripR_eq, tripL_eq]
    have o1 := off1_eq ⟨n, hk⟩
    have o2 := off2_eq ⟨n, hk⟩
    have c1 : 271 - n < 272 := by omega
    have c2 : co (271 - n) < 272 := co_lt c1
    exact inv_step h1 h3 h5 h7 e1 e3 e5 e7 hlt I
      (fun r p => readAt_row _ _ _ _ _ c1 o1 r p) (fun r p => (readAt_row _ _ _ _ _ c1 o1 r p).trans (h20 _ c1 r p))
      (fun r p => readAt_row _ _ _ _ _ c2 o2 r p) (fun r p => (readAt_row _ _ _ _ _ c2 o2 r p).trans (h22 _ c2 r p))
      (fun r p => (readAt_row _ _ _ _ _ c1 o1 r p).trans (h23 _ c1 r p)) (fun r p => (readAt_row _ _ _ _ _ c2 o2 r p).trans (h24 _ c2 r p))
      (fun k h r p => read_store _ _ _ _ _ _ _ o1 k h r p) (fun k h r p => read_store _ _ _ _ _ _ _ o2 k h r p)

end Scan

end Cert.KernelIdeal.Loop

end
-- ==== Proof.Pay.lean ====
module

public import proofs.«01_k».proof.Proof.Gen.KernelIdeal.Skeleton
public import Idealize.ShloMosaic.Lib.Pointwise
public import proofs.«01_k».proof.Proof.Spec

@[expose] public section

/-!
What the kernel's products, casts and rotations are at an index, at the ideal values: each product is a plain sum, each
cast keeps the value.
-/

set_option maxRecDepth 8192

noncomputable section

namespace Cert.KernelIdeal.Pay

open Idealize.ShloMosaic Idealize.ShloMosaic.TcCoe Idealize.ShloMosaic.Tactic
open Cert.KernelIdeal Cert.KernelIdeal.Gen Cert.S5

/-- A chunk's cotangent against a direction's readout matrix. -/
theorem inp (x : Vec Ideal S1x272x256 .bf16) (w : Vec Ideal S1x256x128 .bf16) (k : Fin 272) (p : Fin 128) :
    k0_pay20 (F := Ideal) x w (ix2 k p) = ∑ s : Fin 256, x (ix3 0 k s) * w (ix3 0 s p) := by
  simp [k0_pay20, k0_pay18, k0_pay17, pointwise]

/-- The same with the two halves of the lanes exchanged. -/
theorem inps (x : Vec Ideal S1x272x256 .bf16) (w : Vec Ideal S1x256x128 .bf16) (k : Fin 272) (p : Fin 128) :
    k0_pay87 (F := Ideal) (k0_pay86 x w) (ix2 k p) = ∑ s : Fin 256, x (ix3 0 k s) * w (ix3 0 s (rot p)) := by
  simp [k0_pay87, k0_pay86, k0_pay83, k0_pay82, pointwise, rot]

/-- A group's saved states. -/
theorem sav (h : Vec Ideal S1x272x128 .f32) (k : Fin 272) (p : Fin 128) :
    k0_pay90 (F := Ideal) h (ix2 k p) = h (ix3 0 k p) := by
  simp [k0_pay90, pointwise]

theorem zero8 (r : Fin 8) (p : Fin 128) : k0_pay92 (F := Ideal) (ix2 r p) = 0 := by
  simp [k0_pay92, pointwise]

theorem lrow (x : Vec Ideal S1x8x128 .f32) (r : Fin 8) (p : Fin 128) :
    k0_pay7 (F := Ideal) x (ix2 r p) = x (ix3 0 r p) := by
  simp [k0_pay7, pointwise]

/-- A sum of the rows' gradient joins what was there. -/
theorem dl (d : FVec Ideal S8x128 .f32) (z : Vec Ideal S1x8x128 .f32) (r : Fin 8) (p : Fin 128) :
    k0_pay99 (F := Ideal) d z (ix3 0 r p) = z (ix3 0 r p) + d (ix2 r p) := by
  simp [k0_pay99, pointwise]

theorem dls (d : FVec Ideal S8x128 .f32) (z : Vec Ideal S1x8x128 .f32) (r : Fin 8) (p : Fin 128) :
    k0_pay100 (F := Ideal) d z (ix3 0 r p) = z (ix3 0 r p) + d (ix2 r (rot p)) := by
  simp [k0_pay100, pointwise, rot]

/-- The gradient of a chunk's inputs: the readout's part and each direction's part. -/
theorem du (dy : Vec Ideal S1x272x256 .bf16) (qf qb : Vec Ideal S272x128 .f32) (tz : Vec Ideal S1x256x256 .bf16)
    (wf wb : Vec Ideal S1x128x256 .bf16) (k : Fin 272) (t : Fin 256) :
    k0_pay105 (F := Ideal) (k0_pay103 dy) qf qb tz wf wb (ix3 0 k t)
      = (∑ s : Fin 256, dy (ix3 0 k s) * tz (ix3 0 s t)) + (∑ p : Fin 128, qf (ix2 k p) * wf (ix3 0 p t))
        + ∑ p : Fin 128, qb (ix2 k p) * wb (ix3 0 p t) := by
  simp [k0_pay105, k0_pay103, pointwise]

theorem dtz (dy u : Vec Ideal S1x272x256 .bf16) (z : Vec Ideal S1x256x256 .f32) (a b : Fin 256) :
    k0_pay106 (F := Ideal) (k0_pay103 dy) (k0_pay104 u) z (ix3 0 a b)
      = z (ix3 0 a b) + ∑ k : Fin 272, u (ix3 0 k a) * dy (ix3 0 k b) := by
  simp [k0_pay106, k0_pay103, k0_pay104, pointwise]

theorem dw (u : Vec Ideal S1x272x256 .bf16) (q : Vec Ideal S272x128 .f32) (z : Vec Ideal S1x256x128 .f32) (a : Fin 256)
    (p : Fin 128) :
    k0_pay108 (F := Ideal) (k0_pay107 (k0_pay104 u) q z) (ix3 0 a p)
      = z (ix3 0 a p) + ∑ k : Fin 272, u (ix3 0 k a) * q (ix2 k p) := by
  simp [k0_pay108, k0_pay107, k0_pay104, pointwise]

theorem dv (dy : Vec Ideal S1x272x256 .bf16) (h : Vec Ideal S1x272x128 .f32) (z : Vec Ideal S1x128x256 .f32)
    (p : Fin 128) (b : Fin 256) :
    k0_pay112 (F := Ideal) (k0_pay111 (k0_pay103 dy) z h) (ix3 0 p b)
      = z (ix3 0 p b) + ∑ k : Fin 272, h (ix3 0 k p) * dy (ix3 0 k b) := by
  simp [k0_pay112, k0_pay111, k0_pay103, pointwise]

end Cert.KernelIdeal.Pay

end
-- ==== Proof.Cells.lean ====
module

public import proofs.«01_k».proof.Proof.Loop
public import proofs.«01_k».proof.Proof.Pay
public import Idealize.ShloMosaic.Lib.Pipeline.Value

@[expose] public section

/-!
Reads and writes of the kernel's buffers at an index: a group's rows of an input block, the interleaved scratch
buffers, and the blocks of an output written one group after the other.
-/

set_option maxRecDepth 8192

noncomputable section

namespace Cert.KernelIdeal.Cells

open Idealize.ShloMosaic Idealize.ShloMosaic.TcCoe Idealize.ShloMosaic.Tactic
open Cert.KernelIdeal Cert.KernelIdeal.Gen Cert.S5 Cert.KernelIdeal.Loop

/-- Chunk `k` of group `g` among a point's rows. -/
def tok (g : Fin 8) (k : Fin 272) : Fin 2176 := ⟨272 * g.val + k.val, by have := g.isLt; have := k.isLt; omega⟩

variable {e : EltTy}

/-- A load of one group's rows of a block of rows. -/
theorem ld_tok {n : ℕ} (a : Memref sig .tc .vmem ⟨3, ![1, 2176, n]⟩ e) (ha : a.IsWhole)
    (x : (⟨3, ![1, 2176, n]⟩ : Shape).Idx → Elt Ideal e) (g : Fin 8) (o : ℕ) (ho : o = 272 * g.val)
    (inb : ∀ j, (![0, o, 0] : Fin 3 → ℕ) j + (![1, 272, n] : Fin 3 → ℕ) j ≤ (![1, 2176, n] : Fin 3 → ℕ) j)
    (k : Fin 272) (s : Fin n) :
    a.view.readAt (Elt Ideal) (Rect.unit (s := ⟨3, ![1, 2176, n]⟩) ![0, o, 0] ![1, 272, n] inb).toLoadRect (ha.unread x)
      (ix3 0 k s) = x (ix3 0 (tok g k) s) := by
  rw [View.readAt_apply, ha.read_unread]
  congr 1
  funext j
  apply Fin.ext
  subst ho
  fin_cases j <;> simp [LoadRect.idx_apply, tok]

/-- A load of one group's block. -/
theorem ld_blk {d m n : ℕ} (a : Memref sig .tc .vmem ⟨3, ![d, m, n]⟩ e) (ha : a.IsWhole)
    (x : (⟨3, ![d, m, n]⟩ : Shape).Idx → Elt Ideal e) (g : Fin d) (o : ℕ) (ho : o = g.val)
    (inb : ∀ j, (![o, 0, 0] : Fin 3 → ℕ) j + (![1, m, n] : Fin 3 → ℕ) j ≤ (![d, m, n] : Fin 3 → ℕ) j)
    (k : Fin m) (s : Fin n) :
    a.view.readAt (Elt Ideal) (Rect.unit (s := ⟨3, ![d, m, n]⟩) ![o, 0, 0] ![1, m, n] inb).toLoadRect (ha.unread x)
      (ix3 0 k s) = x (ix3 g k s) := by
  rw [View.readAt_apply, ha.read_unread]
  congr 1
  funext j
  apply Fin.ext
  subst ho
  fin_cases j <;> simp [LoadRect.idx_apply]

/-- That the rectangle of a group's rows lies in the scratch buffer. -/
abbrev Inb (g : ℕ) : Prop :=
  ∀ a : Fin S2176x128.rank, S272x128.size a = 0 ∨ ![g, 0] a + ![8, 1] a * (S272x128.size a - 1) < S2176x128.size a

/-- The rectangle of group `g`'s rows of a scratch buffer. -/
abbrev srect (g : ℕ) (inb : Inb g) : Rect S2176x128 :=
  { off := ![g, 0], size := S272x128.size, stride := ![8, 1], inb := inb, stride_pos := spos_8_1 }

/-- Where the rectangle of group `g` puts chunk `k`. -/
theorem srect_emb (g : Fin 8) (o : ℕ) (ho : o = g.val) (inb : Inb o) (k : Fin 272) (p : Fin 128) :
    (srect o inb).emb (ix2 k p) = ix2 (row k.val k.isLt g) p := by
  funext j
  apply Fin.ext
  subst ho
  fin_cases j
  · show g.val + 8 * k.val = k.val * 8 + g.val
    omega
  · show 0 + 1 * p.val = p.val
    omega

/-- What a scratch buffer holds after the eight groups' rows are written: at chunk `k` of group `r`, what that group's
    store wrote there. -/
theorem strided8 {e : EltTy} (v : View sig .tc .vmem S2176x128 e) (f : v.ty.Contents (Elt Ideal))
    (w0 w1 w2 w3 w4 w5 w6 w7 : S272x128.Idx → Elt Ideal e) (F : Fin 8 → Fin 272 → Fin 128 → Elt Ideal e)
    (i0 : Inb 0) (i1 : Inb 1) (i2 : Inb 2) (i3 : Inb 3) (i4 : Inb 4) (i5 : Inb 5) (i6 : Inb 6) (i7 : Inb 7)
    (h0 : ∀ k p, w0 (ix2 k p) = F 0 k p) (h1 : ∀ k p, w1 (ix2 k p) = F 1 k p) (h2 : ∀ k p, w2 (ix2 k p) = F 2 k p)
    (h3 : ∀ k p, w3 (ix2 k p) = F 3 k p) (h4 : ∀ k p, w4 (ix2 k p) = F 4 k p) (h5 : ∀ k p, w5 (ix2 k p) = F 5 k p)
    (h6 : ∀ k p, w6 (ix2 k p) = F 6 k p) (h7 : ∀ k p, w7 (ix2 k p) = F 7 k p)
    (k : ℕ) (h : k < 272) (r : Fin 8) (p : Fin 128) :
    v.read (Elt Ideal) (v.writes (Elt Ideal) f
      ([⟨srect 7 i7, w7⟩, ⟨srect 6 i6, w6⟩, ⟨srect 5 i5, w5⟩, ⟨srect 4 i4, w4⟩, ⟨srect 3 i3, w3⟩, ⟨srect 2 i2, w2⟩,
        ⟨srect 1 i1, w1⟩, ⟨srect 0 i0, w0⟩] : List (View.Piece (Elt Ideal) S2176x128 e))) (ix2 (row k h r) p)
      = F r ⟨k, h⟩ p := by
  let G : S2176x128.Idx → Elt Ideal e := fun y =>
    F ⟨(y 0).val % 8, Nat.mod_lt _ (by decide)⟩ ⟨(y 0).val / 8, by have : (y 0).val < 2176 := (y 0).isLt; omega⟩ (y 1)
  have hG : ∀ (g : Fin 8) (k : Fin 272) (p : Fin 128), G (ix2 (row k.val k.isLt g) p) = F g k p := by
    intro g k p
    show F ⟨(k.val * 8 + g.val) % 8, _⟩ ⟨(k.val * 8 + g.val) / 8, _⟩ p = _
    congr 1
    · apply Fin.ext; show (k.val * 8 + g.val) % 8 = g.val; have := g.isLt; omega
    · apply Fin.ext; show (k.val * 8 + g.val) / 8 = k.val; have := g.isLt; omega
  have key : ∀ (g : Fin 8) (o : ℕ) (ho : o = g.val) (i : Inb o) (w : S272x128.Idx → Elt Ideal e)
      (hw : ∀ k p, w (ix2 k p) = F g k p) (x : S272x128.Idx), w x = G ((srect o i).emb x) := by
    intro g o ho i w hw x
    have hx : x = ix2 (x 0) (x 1) := by funext j; fin_cases j <;> rfl
    rw [hx]
    exact (hw _ _).trans ((hG g (x 0) (x 1)).symm.trans (congrArg G (srect_emb g o ho i (x 0) (x 1)).symm))
  have e := View.read_writes_apply_of_pieces v f G
    ([⟨srect 7 i7, w7⟩, ⟨srect 6 i6, w6⟩, ⟨srect 5 i5, w5⟩, ⟨srect 4 i4, w4⟩, ⟨srect 3 i3, w3⟩, ⟨srect 2 i2, w2⟩,
        ⟨srect 1 i1, w1⟩, ⟨srect 0 i0, w0⟩] : List (View.Piece (Elt Ideal) S2176x128 e)) ?_ (ix2 (row k h r) p) ?_
  · rw [e]; exact hG r ⟨k, h⟩ p
  · intro q hq x
    simp only [List.mem_cons, List.not_mem_nil, or_false] at hq
    rcases hq with rfl | rfl | rfl | rfl | rfl | rfl | rfl | rfl
    · exact key 7 7 rfl i7 w7 h7 x
    · exact key 6 6 rfl i6 w6 h6 x
    · exact key 5 5 rfl i5 w5 h5 x
    · exact key 4 4 rfl i4 w4 h4 x
    · exact key 3 3 rfl i3 w3 h3 x
    · exact key 2 2 rfl i2 w2 h2 x
    · exact key 1 1 rfl i1 w1 h1 x
    · exact key 0 0 rfl i0 w0 h0 x
  · have m : ∀ (o : ℕ) (ho : o = r.val) (i : Inb o), (ix2 (row k h r) p : S2176x128.Idx) ∈ (srect o i).set := by
      intro o ho i
      have h1 := srect_emb r o ho i ⟨k, h⟩ p
      rw [← h1]
      exact (srect o i).idx_mem (ix2 ⟨k, h⟩ p)
    fin_cases r
    · exact ⟨⟨srect 0 i0, w0⟩, by simp, m 0 rfl i0⟩
    · exact ⟨⟨srect 1 i1, w1⟩, by simp, m 1 rfl i1⟩
    · exact ⟨⟨srect 2 i2, w2⟩, by simp, m 2 rfl i2⟩
    · exact ⟨⟨srect 3 i3, w3⟩, by simp, m 3 rfl i3⟩
    · exact ⟨⟨srect 4 i4, w4⟩, by simp, m 4 rfl i4⟩
    · exact ⟨⟨srect 5 i5, w5⟩, by simp, m 5 rfl i5⟩
    · exact ⟨⟨srect 6 i6, w6⟩, by simp, m 6 rfl i6⟩
    · exact ⟨⟨srect 7 i7, w7⟩, by simp, m 7 rfl i7⟩

/-- A load of one group's rows of a scratch buffer. -/
theorem ld_srow {e : EltTy} (v : View sig .tc .vmem S2176x128 e) (f : v.ty.Contents (Elt Ideal)) (g : Fin 8) (o : ℕ)
    (ho : o = g.val) (inb : Inb o) (k : Fin 272) (p : Fin 128) :
    v.readAt (Elt Ideal) (srect o inb).toLoadRect f (ix2 k p) = v.read (Elt Ideal) f (ix2 (row k.val k.isLt g) p) := by
  rw [View.readAt_apply]
  congr 1
  exact srect_emb g o ho inb k p

/-- One more group's block is written, over blocks whose first coordinate is below it. -/
theorem chain {d m n : ℕ} {e : EltTy} (L : List (View.Piece (Elt Ideal) ⟨3, ![d, m, n]⟩ e))
    (G Z : Fin d → Fin m → Fin n → Elt Ideal e) (g : Fin d) (o : ℕ) (ho : o = g.val)
    (inb : ∀ j, (![o, 0, 0] : Fin 3 → ℕ) j + (![1, m, n] : Fin 3 → ℕ) j ≤ (![d, m, n] : Fin 3 → ℕ) j)
    (w : (⟨3, ![1, m, n]⟩ : Shape).Idx → Elt Ideal e)
    (hL : ∀ r a b, View.canon L (ix3 r a b) = if r.val < o then G r a b else Z r a b)
    (hw : ∀ a b, w (ix3 0 a b) = G g a b) :
    ∀ r a b, View.canon ((⟨Rect.unit (s := ⟨3, ![d, m, n]⟩) ![o, 0, 0] ![1, m, n] inb, w⟩ :
      View.Piece (Elt Ideal) ⟨3, ![d, m, n]⟩ e) :: L) (ix3 r a b) = if r.val < o + 1 then G r a b else Z r a b := by
  intro r a b
  by_cases hr : r.val = o
  · have hrg : r = g := Fin.ext (hr.trans ho)
    subst hrg
    have : (ix3 r a b : (⟨3, ![d, m, n]⟩ : Shape).Idx)
        = (Rect.unit (s := ⟨3, ![d, m, n]⟩) ![o, 0, 0] ![1, m, n] inb).emb (ix3 0 a b) := by
      funext j
      apply Fin.ext
      subst ho
      fin_cases j <;> simp [Rect.emb_apply]
    rw [this, View.canon_cons_emb, if_pos (by omega)]
    exact hw a b
  · rw [View.canon_cons_of_not_mem _ _ (by
      rw [Rect.mem_set_unit]
      intro hh
      have := hh 0
      simp at this
      omega), hL]
    split_ifs <;> first | rfl | omega

/-- One more group's rows are written, over the rows of the groups below it. -/
theorem chainR {n : ℕ} {e : EltTy} (L : List (View.Piece (Elt Ideal) ⟨3, ![1, 2176, n]⟩ e))
    (G Z : Fin 8 → Fin 272 → Fin n → Elt Ideal e) (g : Fin 8) (o o' : ℕ) (ho : o = g.val) (ho' : o' = 272 * g.val)
    (inb : ∀ j, (![0, o', 0] : Fin 3 → ℕ) j + (![1, 272, n] : Fin 3 → ℕ) j ≤ (![1, 2176, n] : Fin 3 → ℕ) j)
    (w : (⟨3, ![1, 272, n]⟩ : Shape).Idx → Elt Ideal e)
    (hL : ∀ r a b, View.canon L (ix3 0 (tok r a) b) = if r.val < o then G r a b else Z r a b)
    (hw : ∀ a b, w (ix3 0 a b) = G g a b) :
    ∀ r a b, View.canon ((⟨Rect.unit (s := ⟨3, ![1, 2176, n]⟩) ![0, o', 0] ![1, 272, n] inb, w⟩ :
      View.Piece (Elt Ideal) ⟨3, ![1, 2176, n]⟩ e) :: L) (ix3 0 (tok r a) b) = if r.val < o + 1 then G r a b else Z r a b := by
  intro r a b
  by_cases hr : r.val = o
  · have hrg : r = g := Fin.ext (hr.trans ho)
    subst hrg
    have : (ix3 0 (tok r a) b : (⟨3, ![1, 2176, n]⟩ : Shape).Idx)
        = (Rect.unit (s := ⟨3, ![1, 2176, n]⟩) ![0, o', 0] ![1, 272, n] inb).emb (ix3 0 a b) := by
      funext j
      apply Fin.ext
      subst ho'
      fin_cases j <;> simp [Rect.emb_apply, tok]
    rw [this, View.canon_cons_emb, if_pos (by omega)]
    exact hw a b
  · rw [View.canon_cons_of_not_mem _ _ (by
      rw [Rect.mem_set_unit]
      intro hh
      have := hh 1
      simp [tok] at this
      have := a.isLt
      omega), hL]
    split_ifs <;> first | rfl | omega

/-- A load of a block not yet written over. -/
theorem ld_chain {d m n : ℕ} {e : EltTy} (v : View sig .tc .vmem ⟨3, ![d, m, n]⟩ e)
    (L : List (View.Piece (Elt Ideal) ⟨3, ![d, m, n]⟩ e))
    (G Z : Fin d → Fin m → Fin n → Elt Ideal e) (g : Fin d) (o : ℕ) (ho : o = g.val)
    (inb : ∀ j, (![o, 0, 0] : Fin 3 → ℕ) j + (![1, m, n] : Fin 3 → ℕ) j ≤ (![d, m, n] : Fin 3 → ℕ) j)
    (hL : ∀ r a b, View.canon L (ix3 r a b) = if r.val < o then G r a b else Z r a b) (a : Fin m) (b : Fin n) :
    v.readCov L (Rect.unit (s := ⟨3, ![d, m, n]⟩) ![o, 0, 0] ![1, m, n] inb).toLoadRect (ix3 0 a b) = Z g a b := by
  rw [View.readCov_eq_canon']
  have : (Rect.unit (s := ⟨3, ![d, m, n]⟩) ![o, 0, 0] ![1, m, n] inb).toLoadRect.idx (ix3 0 a b)
      = (ix3 g a b : (⟨3, ![d, m, n]⟩ : Shape).Idx) := by
    funext j
    apply Fin.ext
    subst ho
    fin_cases j <;> simp [LoadRect.idx_apply]
  show View.canon L _ = _
  rw [this, hL, if_neg (by omega)]

/-- The one store that fills a whole output block. -/
theorem base {d m n : ℕ} {e : EltTy}
    (inb : ∀ j, (![0, 0, 0] : Fin 3 → ℕ) j + (![d, m, n] : Fin 3 → ℕ) j ≤ (![d, m, n] : Fin 3 → ℕ) j)
    (w : (⟨3, ![d, m, n]⟩ : Shape).Idx → Elt Ideal e) (r : Fin d) (a : Fin m) (b : Fin n) :
    View.canon ([⟨Rect.unit (s := ⟨3, ![d, m, n]⟩) ![0, 0, 0] ![d, m, n] inb, w⟩] :
      List (View.Piece (Elt Ideal) ⟨3, ![d, m, n]⟩ e)) (ix3 r a b) = w (ix3 r a b) := by
  have : (ix3 r a b : (⟨3, ![d, m, n]⟩ : Shape).Idx)
      = (Rect.unit (s := ⟨3, ![d, m, n]⟩) ![0, 0, 0] ![d, m, n] inb).emb (ix3 r a b) := by
    funext j
    apply Fin.ext
    fin_cases j <;> simp [Rect.emb_apply]
  conv_lhs => rw [this]
  rw [View.canon_cons_emb]

end Cert.KernelIdeal.Cells

end
-- ==== Proof.Blocks.lean ====
module

public import proofs.«01_k».proof.Proof.Cells

@[expose] public section

/-!
The kernel's quantities at one point of its grid, as functions of the point's input blocks: what each chunk adds to
the recurrence, the saved states, and the recurrence's states themselves. Then the payloads of the kernel's stores, at
the loads they are made from, in those terms.
-/

set_option maxRecDepth 8192

noncomputable section

namespace Cert.KernelIdeal.Blocks

open Idealize.ShloMosaic Idealize.ShloMosaic.TcCoe Idealize.ShloMosaic.Tactic
open Cert.KernelIdeal Cert.KernelIdeal.Gen Cert.S5 Cert.KernelIdeal.Loop Cert.KernelIdeal.Cells

/-- What chunk `k` of group `r` adds to a direction's recurrence. -/
def J (x0 : Vec Ideal S1x2176x256 .bf16) (w : Vec Ideal S8x256x128 .bf16) (k : ℕ) (r : Fin 8) (p : Fin 128) : EReal :=
  if h : k < 272 then ∑ s : Fin 256, x0 (ix3 0 (tok r ⟨k, h⟩) s) * w (ix3 r s p) else 0

/-- A direction's saved states. -/
def H (x : Vec Ideal S1x2176x128 .f32) (k : ℕ) (r : Fin 8) (p : Fin 128) : EReal :=
  if h : k < 272 then x (ix3 0 (tok r ⟨k, h⟩) p) else 0

/-- One row of the complex numbers. -/
def A (x9 : Vec Ideal S4x8x128 .f32) (j : Fin 4) (r : Fin 8) (p : Fin 128) : EReal := x9 (ix3 j r p)

/-- The forward direction's gradient state at chunk `k`. -/
def qF (x0 : Vec Ideal S1x2176x256 .bf16) (x7 : Vec Ideal S8x256x128 .bf16) (x9 : Vec Ideal S4x8x128 .f32) (k : Fin 272)
    (r : Fin 8) (p : Fin 128) : EReal := qf (J x0 x7) (A x9 0) (A x9 1) (271 - k.val) r p

/-- The backward direction's gradient state at chunk `k`. -/
def qB (x0 : Vec Ideal S1x2176x256 .bf16) (x8 : Vec Ideal S8x256x128 .bf16) (x9 : Vec Ideal S4x8x128 .f32) (k : Fin 272)
    (r : Fin 8) (p : Fin 128) : EReal := qb (J x0 x8) (A x9 2) (A x9 3) (271 - co k.val) r p

/-- The four rows' gradients of a point. -/
def dL (x0 : Vec Ideal S1x2176x256 .bf16) (x2 x3 : Vec Ideal S1x2176x128 .f32) (x7 x8 : Vec Ideal S8x256x128 .bf16)
    (x9 : Vec Ideal S4x8x128 .f32) (j : Fin 4) (r : Fin 8) (p : Fin 128) : EReal :=
  match j with
  | 0 => D (fun k => J x0 x7 k r) (fun k => H x2 k r) (A x9 0 r) (A x9 1 r) 272 p
  | 1 => Ds (fun k => J x0 x7 k r) (fun k => H x2 k r) (A x9 0 r) (A x9 1 r) 272 (rot p)
  | 2 => D (fun k => J x0 x8 (co k) r) (fun k => H x3 (co k) r) (A x9 2 r) (A x9 3 r) 272 p
  | 3 => Ds (fun k => J x0 x8 (co k) r) (fun k => H x3 (co k) r) (A x9 2 r) (A x9 3 r) 272 (rot p)

/-- The complex numbers' rows are laid out as the program's caller lays them out. -/
structure Rows (x9 : Vec Ideal S4x8x128 .f32) : Prop where
  e0 : ∀ r p, A x9 0 r (rot p) = A x9 0 r p
  e1 : ∀ r p, A x9 1 r (rot p) = -A x9 1 r p
  e2 : ∀ r p, A x9 2 r (rot p) = A x9 2 r p
  e3 : ∀ r p, A x9 3 r (rot p) = -A x9 3 r p

/-- The loads of a group's rows of a block with rows of `n` elements. -/
abbrev rows (n : ℕ) (o : ℕ) (inb : ∀ j, (![0, o, 0] : Fin 3 → ℕ) j + (![1, 272, n] : Fin 3 → ℕ) j ≤ (![1, 2176, n] : Fin 3 → ℕ) j) :
    LoadRect ⟨3, ![1, 2176, n]⟩ := (Rect.unit (s := ⟨3, ![1, 2176, n]⟩) ![0, o, 0] ![1, 272, n] inb).toLoadRect

abbrev InbR (n o : ℕ) : Prop := ∀ j, (![0, o, 0] : Fin 3 → ℕ) j + (![1, 272, n] : Fin 3 → ℕ) j ≤ (![1, 2176, n] : Fin 3 → ℕ) j
abbrev InbB (d m n o : ℕ) : Prop := ∀ j, (![o, 0, 0] : Fin 3 → ℕ) j + (![1, m, n] : Fin 3 → ℕ) j ≤ (![d, m, n] : Fin 3 → ℕ) j

/-- The load of a group's block. -/
abbrev blk (d m n : ℕ) (o : ℕ) (inb : InbB d m n o) :
    LoadRect ⟨3, ![d, m, n]⟩ := (Rect.unit (s := ⟨3, ![d, m, n]⟩) ![o, 0, 0] ![1, m, n] inb).toLoadRect

section
variable (a2 : Memref sig .tc .vmem S1x2176x256 .bf16) (h2 : a2.IsWhole) (a3 : Memref sig .tc .vmem S1x2176x256 .bf16) (h3 : a3.IsWhole)
  (a4 : Memref sig .tc .vmem S1x2176x128 .f32) (h4 : a4.IsWhole)
  (a6 : Memref sig .tc .vmem S8x256x256 .bf16) (h6 : a6.IsWhole)
  (a7 : Memref sig .tc .vmem S8x128x256 .bf16) (h7 : a7.IsWhole) (a8 : Memref sig .tc .vmem S8x128x256 .bf16) (h8 : a8.IsWhole)
  (a9 : Memref sig .tc .vmem S8x256x128 .bf16) (h9 : a9.IsWhole) (a11 : Memref sig .tc .vmem S4x8x128 .f32) (h11 : a11.IsWhole)
  (x0 x1 : Vec Ideal S1x2176x256 .bf16) (x2 : Vec Ideal S1x2176x128 .f32) (x4 : Vec Ideal S8x256x256 .bf16)
  (x5 x6 : Vec Ideal S8x128x256 .bf16) (x7 : Vec Ideal S8x256x128 .bf16) (x9 : Vec Ideal S4x8x128 .f32)
  (g : Fin 8) (o : ℕ) (ho : o = 272 * g.val) (o' : ℕ) (ho' : o' = g.val)

theorem lrow (j : Fin 4) (o : ℕ) (ho : o = j.val) (i : InbB 4 8 128 o) (r : Fin 8) (p : Fin 128) :
    k0_pay7 (F := Ideal) (a11.view.readAt (Elt Ideal) (blk 4 8 128 o i) (h11.unread x9)) (ix2 r p) = A x9 j r p := by
  rw [Pay.lrow]
  exact ld_blk a11 h11 x9 j o ho i r p

include ho ho'

theorem inp (i : InbR 256 o) (i' : InbB 8 256 128 o') (k : Fin 272) (p : Fin 128) :
    k0_pay20 (F := Ideal) (a2.view.readAt (Elt Ideal) (rows 256 o i) (h2.unread x0)) (a9.view.readAt (Elt Ideal) (blk 8 256 128 o' i') (h9.unread x7))
      (ix2 k p) = J x0 x7 k.val g p := by
  rw [Pay.inp, J, dif_pos k.isLt]
  exact Finset.sum_congr rfl fun s _ => congrArg₂ (· * ·) (ld_tok a2 h2 x0 g o ho i k s) (ld_blk a9 h9 x7 g o' ho' i' s p)

theorem inps (i : InbR 256 o) (i' : InbB 8 256 128 o') (k : Fin 272) (p : Fin 128) :
    k0_pay87 (F := Ideal) (k0_pay86 (a2.view.readAt (Elt Ideal) (rows 256 o i) (h2.unread x0))
      (a9.view.readAt (Elt Ideal) (blk 8 256 128 o' i') (h9.unread x7))) (ix2 k p) = J x0 x7 k.val g (rot p) := by
  rw [Pay.inps, J, dif_pos k.isLt]
  exact Finset.sum_congr rfl fun s _ => congrArg₂ (· * ·) (ld_tok a2 h2 x0 g o ho i k s) (ld_blk a9 h9 x7 g o' ho' i' s (rot p))

theorem sav (i : InbR 128 o) (k : Fin 272) (p : Fin 128) :
    k0_pay90 (F := Ideal) (a4.view.readAt (Elt Ideal) (rows 128 o i) (h4.unread x2)) (ix2 k p) = H x2 k.val g p := by
  rw [Pay.sav, H, dif_pos k.isLt]
  exact ld_tok a4 h4 x2 g o ho i k p

theorem du (i : InbR 256 o) (q q' : Vec Ideal S272x128 .f32) (i1 : InbB 8 256 256 o') (i2 i3 : InbB 8 128 256 o')
    (F F' : Fin 272 → Fin 8 → Fin 128 → EReal) (hq : ∀ k p, q (ix2 k p) = F k g p) (hq' : ∀ k p, q' (ix2 k p) = F' k g p) (k : Fin 272) (t : Fin 256) :
    k0_pay105 (F := Ideal) (k0_pay103 (a2.view.readAt (Elt Ideal) (rows 256 o i) (h2.unread x0))) q q'
      (a6.view.readAt (Elt Ideal) (blk 8 256 256 o' i1) (h6.unread x4)) (a7.view.readAt (Elt Ideal) (blk 8 128 256 o' i2) (h7.unread x5))
      (a8.view.readAt (Elt Ideal) (blk 8 128 256 o' i3) (h8.unread x6)) (ix3 0 k t)
    = (∑ s : Fin 256, x0 (ix3 0 (tok g k) s) * x4 (ix3 g s t)) + (∑ p : Fin 128, F k g p * x5 (ix3 g p t))
      + ∑ p : Fin 128, F' k g p * x6 (ix3 g p t) := by
  rw [Pay.du]
  refine congrArg₂ (· + ·) (congrArg₂ (· + ·) ?_ ?_) ?_
  · exact Finset.sum_congr rfl fun s _ => congrArg₂ (· * ·) (ld_tok a2 h2 x0 g o ho i k s) (ld_blk a6 h6 x4 g o' ho' i1 s t)
  · exact Finset.sum_congr rfl fun p _ => congrArg₂ (· * ·) (hq k p) (ld_blk a7 h7 x5 g o' ho' i2 p t)
  · exact Finset.sum_congr rfl fun p _ => congrArg₂ (· * ·) (hq' k p) (ld_blk a8 h8 x6 g o' ho' i3 p t)

theorem dtz (i i' : InbR 256 o) (z : Vec Ideal S1x256x256 .f32) (a b : Fin 256) (Z : EReal) (hz : z (ix3 0 a b) = Z) :
    k0_pay106 (F := Ideal) (k0_pay103 (a2.view.readAt (Elt Ideal) (rows 256 o i) (h2.unread x0)))
      (k0_pay104 (a3.view.readAt (Elt Ideal) (rows 256 o i') (h3.unread x1))) z (ix3 0 a b)
      = Z + ∑ k : Fin 272, x1 (ix3 0 (tok g k) a) * x0 (ix3 0 (tok g k) b) := by
  rw [Pay.dtz, hz]
  exact congrArg (Z + ·) (Finset.sum_congr rfl fun k _ =>
    congrArg₂ (· * ·) (ld_tok a3 h3 x1 g o ho i' k a) (ld_tok a2 h2 x0 g o ho i k b))

theorem dw (i' : InbR 256 o) (q : Vec Ideal S272x128 .f32) (F : Fin 272 → Fin 8 → Fin 128 → EReal)
    (hq : ∀ k p, q (ix2 k p) = F k g p) (z : Vec Ideal S1x256x128 .f32) (a : Fin 256) (p : Fin 128) (Z : EReal) (hz : z (ix3 0 a p) = Z) :
    k0_pay108 (F := Ideal) (k0_pay107 (k0_pay104 (a3.view.readAt (Elt Ideal) (rows 256 o i') (h3.unread x1))) q z) (ix3 0 a p)
      = Z + ∑ k : Fin 272, x1 (ix3 0 (tok g k) a) * F k g p := by
  rw [Pay.dw, hz]
  exact congrArg (Z + ·) (Finset.sum_congr rfl fun k _ => congrArg₂ (· * ·) (ld_tok a3 h3 x1 g o ho i' k a) (hq k p))

theorem dv (i : InbR 256 o) (i' : InbR 128 o) (z : Vec Ideal S1x128x256 .f32) (p : Fin 128) (b : Fin 256) (Z : EReal) (hz : z (ix3 0 p b) = Z) :
    k0_pay112 (F := Ideal) (k0_pay111 (k0_pay103 (a2.view.readAt (Elt Ideal) (rows 256 o i) (h2.unread x0))) z
      (a4.view.readAt (Elt Ideal) (rows 128 o i') (h4.unread x2))) (ix3 0 p b)
      = Z + ∑ k : Fin 272, x2 (ix3 0 (tok g k) p) * x0 (ix3 0 (tok g k) b) := by
  rw [Pay.dv, hz]
  exact congrArg (Z + ·) (Finset.sum_congr rfl fun k _ =>
    congrArg₂ (· * ·) (ld_tok a4 h4 x2 g o ho i' k p) (ld_tok a2 h2 x0 g o ho i k b))
end

end Cert.KernelIdeal.Blocks

end
-- ==== Proof.Point.lean ====
module

public import proofs.«01_k».proof.Proof.Host
public import proofs.«01_k».proof.Proof.Blocks

@[expose] public section

/-!
The input blocks of one grid point in terms of the data: point `t` treats sequence `t % 2` and the eight groups
`8 * (t / 2)` to `8 * (t / 2) + 7`. Then the quantities of the point, in the same terms.
-/

noncomputable section

namespace Cert.KernelIdeal.Point

open Idealize.ShloMosaic Idealize.ShloMosaic.TcCoe Idealize.ShloMosaic.Tactic
open Cert.KernelIdeal Cert.KernelIdeal.Gen Cert.S5 Cert.KernelIdeal.Host Cert.KernelIdeal.Cells Cert.KernelIdeal.Blocks
open Cert.KernelIdeal.Loop

variable (m : (ℓ : Loc nD τ sig) → Buf (Elt Ideal) ℓ) (c : Dev nD) (t : Fin cfg0.N)

/-- The sequence of a point. -/
def bs : Fin 2 := ⟨t.val % 2, Nat.mod_lt _ (by decide)⟩

/-- The point's `r`-th group. -/
def gr (r : Fin 8) : Fin 64 := ⟨8 * (t.val / 2) + r.val, by
  have h : t.val < 16 := lt_of_lt_of_eq t.isLt N_0
  have := r.isLt
  omega⟩

theorem index0 : ∀ t : Fin cfg0.N, win0_0.index t 0 = t.val % 2 ∧ win0_0.index t 1 = t.val / 2 ∧ win0_0.index t 2 = 0 :=
  (by decide +kernel : ∀ t : Fin grid0.N, win0_0.index t 0 = t.val % 2 ∧ win0_0.index t 1 = t.val / 2 ∧ win0_0.index t 2 = 0)

theorem index1 : ∀ t : Fin cfg0.N, win0_1.index t 0 = t.val % 2 ∧ win0_1.index t 1 = t.val / 2 ∧ win0_1.index t 2 = 0 :=
  (by decide +kernel : ∀ t : Fin grid0.N, win0_1.index t 0 = t.val % 2 ∧ win0_1.index t 1 = t.val / 2 ∧ win0_1.index t 2 = 0)

theorem index2 : ∀ t : Fin cfg0.N, win0_2.index t 0 = t.val % 2 ∧ win0_2.index t 1 = t.val / 2 ∧ win0_2.index t 2 = 0 :=
  (by decide +kernel : ∀ t : Fin grid0.N, win0_2.index t 0 = t.val % 2 ∧ win0_2.index t 1 = t.val / 2 ∧ win0_2.index t 2 = 0)

theorem index3 : ∀ t : Fin cfg0.N, win0_3.index t 0 = t.val % 2 ∧ win0_3.index t 1 = t.val / 2 ∧ win0_3.index t 2 = 0 :=
  (by decide +kernel : ∀ t : Fin grid0.N, win0_3.index t 0 = t.val % 2 ∧ win0_3.index t 1 = t.val / 2 ∧ win0_3.index t 2 = 0)

theorem index4 : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

theorem index5 : ∀ t : Fin cfg0.N, win0_5.index t 0 = t.val / 2 ∧ win0_5.index t 1 = 0 ∧ win0_5.index t 2 = 0 :=
  (by decide +kernel : ∀ t : Fin grid0.N, win0_5.index t 0 = t.val / 2 ∧ win0_5.index t 1 = 0 ∧ win0_5.index t 2 = 0)

theorem index6 : ∀ t : Fin cfg0.N, win0_6.index t 0 = t.val / 2 ∧ win0_6.index t 1 = 0 ∧ win0_6.index t 2 = 0 :=
  (by decide +kernel : ∀ t : Fin grid0.N, win0_6.index t 0 = t.val / 2 ∧ win0_6.index t 1 = 0 ∧ win0_6.index t 2 = 0)

theorem index7 : ∀ t : Fin cfg0.N, win0_7.index t 0 = t.val / 2 ∧ win0_7.index t 1 = 0 ∧ win0_7.index t 2 = 0 :=
  (by decide +kernel : ∀ t : Fin grid0.N, win0_7.index t 0 = t.val / 2 ∧ win0_7.index t 1 = 0 ∧ win0_7.index t 2 = 0)

theorem index8 : ∀ t : Fin cfg0.N, win0_8.index t 0 = t.val / 2 ∧ win0_8.index t 1 = 0 ∧ win0_8.index t 2 = 0 :=
  (by decide +kernel : ∀ t : Fin grid0.N, win0_8.index t 0 = t.val / 2 ∧ win0_8.index t 1 = 0 ∧ win0_8.index t 2 = 0)

theorem index9 : ∀ t : Fin cfg0.N, win0_9.index t 0 = 0 ∧ win0_9.index t 1 = t.val / 2 ∧ win0_9.index t 2 = 0 :=
  (by decide +kernel : ∀ t : Fin grid0.N, win0_9.index t 0 = 0 ∧ win0_9.index t 1 = t.val / 2 ∧ win0_9.index t 2 = 0)

theorem index10 : ∀ t : Fin cfg0.N, win0_10.index t 0 = t.val % 2 ∧ win0_10.index t 1 = t.val / 2 ∧ win0_10.index t 2 = 0 :=
  (by decide +kernel : ∀ t : Fin grid0.N, win0_10.index t 0 = t.val % 2 ∧ win0_10.index t 1 = t.val / 2 ∧ win0_10.index t 2 = 0)

theorem index11 : ∀ t : Fin cfg0.N, win0_11.index t 0 = t.val / 2 ∧ win0_11.index t 1 = 0 ∧ win0_11.index t 2 = 0 :=
  (by decide +kernel : ∀ t : Fin grid0.N, win0_11.index t 0 = t.val / 2 ∧ win0_11.index t 1 = 0 ∧ win0_11.index t 2 = 0)

theorem index12 : ∀ t : Fin cfg0.N, win0_12.index t 0 = t.val / 2 ∧ win0_12.index t 1 = 0 ∧ win0_12.index t 2 = 0 :=
  (by decide +kernel : ∀ t : Fin grid0.N, win0_12.index t 0 = t.val / 2 ∧ win0_12.index t 1 = 0 ∧ win0_12.index t 2 = 0)

theorem index13 : ∀ t : Fin cfg0.N, win0_13.index t 0 = t.val / 2 ∧ win0_13.index t 1 = 0 ∧ win0_13.index t 2 = 0 :=
  (by decide +kernel : ∀ t : Fin grid0.N, win0_13.index t 0 = t.val / 2 ∧ win0_13.index t 1 = 0 ∧ win0_13.index t 2 = 0)

theorem index14 : ∀ t : Fin cfg0.N, win0_14.index t 0 = t.val / 2 ∧ win0_14.index t 1 = 0 ∧ win0_14.index t 2 = 0 :=
  (by decide +kernel : ∀ t : Fin grid0.N, win0_14.index t 0 = t.val / 2 ∧ win0_14.index t 1 = 0 ∧ win0_14.index t 2 = 0)

theorem index15 : ∀ t : Fin cfg0.N, win0_15.index t 0 = t.val / 2 ∧ win0_15.index t 1 = 0 ∧ win0_15.index t 2 = 0 :=
  (by decide +kernel : ∀ t : Fin grid0.N, win0_15.index t 0 = t.val / 2 ∧ win0_15.index t 1 = 0 ∧ win0_15.index t 2 = 0)

theorem index16 : ∀ t : Fin cfg0.N, win0_16.index t 0 = 0 ∧ win0_16.index t 1 = t.val / 2 ∧ win0_16.index t 2 = 0 :=
  (by decide +kernel : ∀ t : Fin grid0.N, win0_16.index t 0 = 0 ∧ win0_16.index t 1 = t.val / 2 ∧ win0_16.index t 2 = 0)

theorem blk0 (r : Fin 8) (k : Fin 272) (s : Fin 256) : (iblk m c 0 t : Vec Ideal S1x2176x256 .bf16) (ix3 0 (tok r k) s) = (X m c).dy (bs t) (gr t r) k s := by
  have hi := index0 t
  unfold iblk
  rw [View.read_apply]
  refine Eq.trans (b := V m c main_arg0 (ix3 (bs t) (cell (gr t r) k) s)) ?_ (congrFun (V_main_arg0 m c) _)
  show V m c main_arg0 _ = _
  congr 1
  funext a
  apply Fin.ext
  match a with
  | ⟨0, _⟩ =>
    show win0_0.index t 0 * 1 + 1 * 0 = t.val % 2
    rw [hi.1]
    omega
  | ⟨1, _⟩ =>
    show win0_0.index t 1 * 2176 + 1 * (tok r k).val = (cell (gr t r) k).val
    rw [hi.2.1]
    simp only [tok, cell, gr]
    omega
  | ⟨2, _⟩ =>
    show win0_0.index t 2 * 256 + 1 * s.val = s.val
    rw [hi.2.2]
    omega

theorem blk1 (r : Fin 8) (k : Fin 272) (s : Fin 256) : (iblk m c 1 t : Vec Ideal S1x2176x256 .bf16) (ix3 0 (tok r k) s) = (X m c).u (bs t) (gr t r) k s := by
  have hi := index1 t
  unfold iblk
  rw [View.read_apply]
  refine Eq.trans (b := V m c main_arg1 (ix3 (bs t) (cell (gr t r) k) s)) ?_ (congrFun (V_main_arg1 m c) _)
  show V m c main_arg1 _ = _
  congr 1
  funext a
  apply Fin.ext
  match a with
  | ⟨0, _⟩ =>
    show win0_1.index t 0 * 1 + 1 * 0 = t.val % 2
    rw [hi.1]
    omega
  | ⟨1, _⟩ =>
    show win0_1.index t 1 * 2176 + 1 * (tok r k).val = (cell (gr t r) k).val
    rw [hi.2.1]
    simp only [tok, cell, gr]
    omega
  | ⟨2, _⟩ =>
    show win0_1.index t 2 * 256 + 1 * s.val = s.val
    rw [hi.2.2]
    omega

theorem blk2 (r : Fin 8) (k : Fin 272) (s : Fin 128) : (iblk m c 2 t : Vec Ideal S1x2176x128 .f32) (ix3 0 (tok r k) s) = (X m c).hf (bs t) (gr t r) k s := by
  have hi := index2 t
  unfold iblk
  rw [View.read_apply]
  refine Eq.trans (b := V m c main_arg2 (ix3 (bs t) (cell (gr t r) k) s)) ?_ (congrFun (V_main_arg2 m c) _)
  show V m c main_arg2 _ = _
  congr 1
  funext a
  apply Fin.ext
  match a with
  | ⟨0, _⟩ =>
    show win0_2.index t 0 * 1 + 1 * 0 = t.val % 2
    rw [hi.1]
    omega
  | ⟨1, _⟩ =>
    show win0_2.index t 1 * 2176 + 1 * (tok r k).val = (cell (gr t r) k).val
    rw [hi.2.1]
    simp only [tok, cell, gr]
    omega
  | ⟨2, _⟩ =>
    show win0_2.index t 2 * 128 + 1 * s.val = s.val
    rw [hi.2.2]
    omega

theorem blk3 (r : Fin 8) (k : Fin 272) (s : Fin 128) : (iblk m c 3 t : Vec Ideal S1x2176x128 .f32) (ix3 0 (tok r k) s) = (X m c).hb (bs t) (gr t r) k s := by
  have hi := index3 t
  unfold iblk
  rw [View.read_apply]
  refine Eq.trans (b := V m c main_arg3 (ix3 (bs t) (cell (gr t r) k) s)) ?_ (congrFun (V_main_arg3 m c) _)
  show V m c main_arg3 _ = _
  congr 1
  funext a
  apply Fin.ext
  match a with
  | ⟨0, _⟩ =>
    show win0_3.index t 0 * 1 + 1 * 0 = t.val % 2
    rw [hi.1]
    omega
  | ⟨1, _⟩ =>
    show win0_3.index t 1 * 2176 + 1 * (tok r k).val = (cell (gr t r) k).val
    rw [hi.2.1]
    simp only [tok, cell, gr]
    omega
  | ⟨2, _⟩ =>
    show win0_3.index t 2 * 128 + 1 * s.val = s.val
    rw [hi.2.2]
    omega

theorem blk4 (r : Fin 8) (s : Fin 256) (p : Fin 256) : (iblk m c 4 t : Vec Ideal S8x256x256 .bf16) (ix3 r s p) = (X m c).tz (gr t r) p s := by
  have hi := index4 t
  unfold iblk
  rw [View.read_apply]
  refine Eq.trans (b := V m c main_v0 (ix3 (gr t r) s p)) ?_ (tzt m c (gr t r) s p)
  show V m c main_v0 _ = _
  congr 1
  funext a
  apply Fin.ext
  match a with
  | ⟨0, _⟩ =>
    show win0_4.index t 0 * 8 + 1 * r.val = (gr t r).val
    rw [hi.1]
    simp only [gr]
    omega
  | ⟨1, _⟩ =>
    show win0_4.index t 1 * 256 + 1 * s.val = s.val
    rw [hi.2.1]
    omega
  | ⟨2, _⟩ =>
    show win0_4.index t 2 * 256 + 1 * p.val = p.val
    rw [hi.2.2]
    omega

theorem blk5 (r : Fin 8) (s : Fin 128) (p : Fin 256) : (iblk m c 5 t : Vec Ideal S8x128x256 .bf16) (ix3 r s p) = (X m c).wf (gr t r) p s := by
  have hi := index5 t
  unfold iblk
  rw [View.read_apply]
  refine Eq.trans (b := V m c main_v1 (ix3 (gr t r) s p)) ?_ (wft m c (gr t r) s p)
  show V m c main_v1 _ = _
  congr 1
  funext a
  apply Fin.ext
  match a with
  | ⟨0, _⟩ =>
    show win0_5.index t 0 * 8 + 1 * r.val = (gr t r).val
    rw [hi.1]
    simp only [gr]
    omega
  | ⟨1, _⟩ =>
    show win0_5.index t 1 * 128 + 1 * s.val = s.val
    rw [hi.2.1]
    omega
  | ⟨2, _⟩ =>
    show win0_5.index t 2 * 256 + 1 * p.val = p.val
    rw [hi.2.2]
    omega

theorem blk6 (r : Fin 8) (s : Fin 128) (p : Fin 256) : (iblk m c 6 t : Vec Ideal S8x128x256 .bf16) (ix3 r s p) = (X m c).wb (gr t r) p s := by
  have hi := index6 t
  unfold iblk
  rw [View.read_apply]
  refine Eq.trans (b := V m c main_v2 (ix3 (gr t r) s p)) ?_ (wbt m c (gr t r) s p)
  show V m c main_v2 _ = _
  congr 1
  funext a
  apply Fin.ext
  match a with
  | ⟨0, _⟩ =>
    show win0_6.index t 0 * 8 + 1 * r.val = (gr t r).val
    rw [hi.1]
    simp only [gr]
    omega
  | ⟨1, _⟩ =>
    show win0_6.index t 1 * 128 + 1 * s.val = s.val
    rw [hi.2.1]
    omega
  | ⟨2, _⟩ =>
    show win0_6.index t 2 * 256 + 1 * p.val = p.val
    rw [hi.2.2]
    omega

theorem blk7 (r : Fin 8) (s : Fin 256) (p : Fin 128) : (iblk m c 7 t : Vec Ideal S8x256x128 .bf16) (ix3 r s p) = (X m c).vf (gr t r) p s := by
  have hi := index7 t
  unfold iblk
  rw [View.read_apply]
  refine Eq.trans (b := V m c main_v3 (ix3 (gr t r) s p)) ?_ (vft m c (gr t r) s p)
  show V m c main_v3 _ = _
  congr 1
  funext a
  apply Fin.ext
  match a with
  | ⟨0, _⟩ =>
    show win0_7.index t 0 * 8 + 1 * r.val = (gr t r).val
    rw [hi.1]
    simp only [gr]
    omega
  | ⟨1, _⟩ =>
    show win0_7.index t 1 * 256 + 1 * s.val = s.val
    rw [hi.2.1]
    omega
  | ⟨2, _⟩ =>
    show win0_7.index t 2 * 128 + 1 * p.val = p.val
    rw [hi.2.2]
    omega

theorem blk8 (r : Fin 8) (s : Fin 256) (p : Fin 128) : (iblk m c 8 t : Vec Ideal S8x256x128 .bf16) (ix3 r s p) = (X m c).vb (gr t r) p s := by
  have hi := index8 t
  unfold iblk
  rw [View.read_apply]
  refine Eq.trans (b := V m c main_v4 (ix3 (gr t r) s p)) ?_ (vbt m c (gr t r) s p)
  show V m c main_v4 _ = _
  congr 1
  funext a
  apply Fin.ext
  match a with
  | ⟨0, _⟩ =>
    show win0_8.index t 0 * 8 + 1 * r.val = (gr t r).val
    rw [hi.1]
    simp only [gr]
    omega
  | ⟨1, _⟩ =>
    show win0_8.index t 1 * 256 + 1 * s.val = s.val
    rw [hi.2.1]
    omega
  | ⟨2, _⟩ =>
    show win0_8.index t 2 * 128 + 1 * p.val = p.val
    rw [hi.2.2]
    omega

theorem blk9 (j : Fin 4) (r : Fin 8) (p : Fin 128) : (iblk m c 9 t : Vec Ideal S4x8x128 .f32) (ix3 j r p) = V m c main_v23 (ix3 j (gr t r) p) := by
  have hi := index9 t
  unfold iblk
  rw [View.read_apply]
  refine Eq.trans (b := V m c main_v23 (ix3 j (gr t r) p)) ?_ rfl
  show V m c main_v23 _ = _
  congr 1
  funext a
  apply Fin.ext
  match a with
  | ⟨0, _⟩ =>
    show win0_9.index t 0 * 4 + 1 * j.val = j.val
    rw [hi.1]
    omega
  | ⟨1, _⟩ =>
    show win0_9.index t 1 * 8 + 1 * r.val = (gr t r).val
    rw [hi.2.1]
    simp only [gr]
    omega
  | ⟨2, _⟩ =>
    show win0_9.index t 2 * 128 + 1 * p.val = p.val
    rw [hi.2.2]
    omega

theorem A0 (r : Fin 8) (p : Fin 128) : A (iblk m c 9 t) 0 r p = (X m c).re 0 (gr t r) p :=
  (blk9 m c t 0 r p).trans (row0 m c (gr t r) p)

theorem A1 (r : Fin 8) (p : Fin 128) : A (iblk m c 9 t) 1 r p = (X m c).im 0 (gr t r) p :=
  (blk9 m c t 1 r p).trans (row1 m c (gr t r) p)

theorem A2 (r : Fin 8) (p : Fin 128) : A (iblk m c 9 t) 2 r p = (X m c).re 1 (gr t r) p :=
  (blk9 m c t 2 r p).trans (row2 m c (gr t r) p)

theorem A3 (r : Fin 8) (p : Fin 128) : A (iblk m c 9 t) 3 r p = (X m c).im 1 (gr t r) p :=
  (blk9 m c t 3 r p).trans (row3 m c (gr t r) p)

theorem rows : Rows (iblk m c 9 t) where
  e0 r p := by rw [A0, A0, Data.re_rot]
  e1 r p := by rw [A1, A1, Data.im_rot]
  e2 r p := by rw [A2, A2, Data.re_rot]
  e3 r p := by rw [A3, A3, Data.im_rot]

theorem Jf (k : ℕ) (r : Fin 8) (p : Fin 128) :
    J (iblk m c 0 t) (iblk m c 7 t) k r p = at' ((X m c).Jf (bs t) (gr t r)) k p := by
  unfold J at'
  split
  · refine Finset.sum_congr rfl fun s _ => ?_
    rw [blk0, blk7]
  · rfl

theorem Jb (k : ℕ) (r : Fin 8) (p : Fin 128) :
    J (iblk m c 0 t) (iblk m c 8 t) k r p = at' ((X m c).Jb (bs t) (gr t r)) k p := by
  unfold J at'
  split
  · refine Finset.sum_congr rfl fun s _ => ?_
    rw [blk0, blk8]
  · rfl

theorem Hf (k : ℕ) (r : Fin 8) (p : Fin 128) : H (iblk m c 2 t) k r p = at' ((X m c).hf (bs t) (gr t r)) k p := by
  unfold H at'
  split
  · rw [blk2]
  · rfl

theorem Hb (k : ℕ) (r : Fin 8) (p : Fin 128) : H (iblk m c 3 t) k r p = at' ((X m c).hb (bs t) (gr t r)) k p := by
  unfold H at'
  split
  · rw [blk3]
  · rfl

theorem qF_eq (k : Fin 272) (r : Fin 8) (p : Fin 128) :
    qF (iblk m c 0 t) (iblk m c 7 t) (iblk m c 9 t) k r p = (X m c).Qf (bs t) (gr t r) k p := by
  have e : (fun k => J (iblk m c 0 t) (iblk m c 7 t) k r) = at' ((X m c).Jf (bs t) (gr t r)) :=
    funext fun k => funext fun p => Jf m c t k r p
  have e0 : A (iblk m c 9 t) 0 r = (X m c).re 0 (gr t r) := funext fun p => A0 m c t r p
  have e1 : A (iblk m c 9 t) 1 r = (X m c).im 0 (gr t r) := funext fun p => A1 m c t r p
  unfold qF Data.Qf qf
  rw [e, e0, e1]

theorem qB_eq (k : Fin 272) (r : Fin 8) (p : Fin 128) :
    qB (iblk m c 0 t) (iblk m c 8 t) (iblk m c 9 t) k r p = (X m c).Qb (bs t) (gr t r) k p := by
  have e : (fun k => J (iblk m c 0 t) (iblk m c 8 t) (co k) r) = fun n => at' ((X m c).Jb (bs t) (gr t r)) (co n) :=
    funext fun k => funext fun p => Jb m c t (co k) r p
  have e0 : A (iblk m c 9 t) 2 r = (X m c).re 1 (gr t r) := funext fun p => A2 m c t r p
  have e1 : A (iblk m c 9 t) 3 r = (X m c).im 1 (gr t r) := funext fun p => A3 m c t r p
  unfold qB Data.Qb qb
  rw [e, e0, e1]

theorem dL_eq (j : Fin 4) (r : Fin 8) (p : Fin 128) :
    dL (iblk m c 0 t) (iblk m c 2 t) (iblk m c 3 t) (iblk m c 7 t) (iblk m c 8 t) (iblk m c 9 t) j r p
      = (X m c).dlp (bs t) j (gr t r) p := by
  have e : (fun k => J (iblk m c 0 t) (iblk m c 7 t) k r) = at' ((X m c).Jf (bs t) (gr t r)) :=
    funext fun k => funext fun p => Jf m c t k r p
  have e' : (fun k => J (iblk m c 0 t) (iblk m c 8 t) (co k) r) = fun n => at' ((X m c).Jb (bs t) (gr t r)) (co n) :=
    funext fun k => funext fun p => Jb m c t (co k) r p
  have h : (fun k => H (iblk m c 2 t) k r) = at' ((X m c).hf (bs t) (gr t r)) :=
    funext fun k => funext fun p => Hf m c t k r p
  have h' : (fun k => H (iblk m c 3 t) (co k) r) = fun n => at' ((X m c).hb (bs t) (gr t r)) (co n) :=
    funext fun k => funext fun p => Hb m c t (co k) r p
  have e0 : A (iblk m c 9 t) 0 r = (X m c).re 0 (gr t r) := funext fun p => A0 m c t r p
  have e1 : A (iblk m c 9 t) 1 r = (X m c).im 0 (gr t r) := funext fun p => A1 m c t r p
  have e2 : A (iblk m c 9 t) 2 r = (X m c).re 1 (gr t r) := funext fun p => A2 m c t r p
  have e3 : A (iblk m c 9 t) 3 r = (X m c).im 1 (gr t r) := funext fun p => A3 m c t r p
  match j with
  | 0 => simp only [dL, Data.dlp]; rw [e, h, e0, e1]
  | 1 => simp only [dL, Data.dlp]; rw [e, h, e0, e1]
  | 2 => simp only [dL, Data.dlp]; rw [e', h', e2, e3]
  | 3 => simp only [dL, Data.dlp]; rw [e', h', e2, e3]

end Cert.KernelIdeal.Point

end
-- ==== Proof.StateA.lean ====
module

public import proofs.«01_k».proof.Proof.Gen.KernelIdeal.Frame.RunA
public import proofs.«01_k».proof.Proof.Blocks

@[expose] public section

/-!
The state of the recurrence at a point that starts a block of groups: what the kernel's
loop has left when it ends.
-/

set_option maxRecDepth 16384

noncomputable section

namespace Cert.KernelIdeal.StateA

open Idealize.ShloMosaic Idealize.ShloMosaic.TcCoe Idealize.ShloMosaic.Tactic
open Cert.KernelIdeal Cert.KernelIdeal.Gen Cert.S5 Cert.KernelIdeal.Loop Cert.KernelIdeal.Cells Cert.KernelIdeal.Blocks

variable (c : Dev nD) (i : grid0.Coords)
  (a2 : Memref sig .tc .vmem S1x2176x256 .bf16) (h2 : a2.IsWhole)
  (a3 : Memref sig .tc .vmem S1x2176x256 .bf16) (h3 : a3.IsWhole)
  (a4 : Memref sig .tc .vmem S1x2176x128 .f32) (h4 : a4.IsWhole)
  (a5 : Memref sig .tc .vmem S1x2176x128 .f32) (h5 : a5.IsWhole)
  (a6 : Memref sig .tc .vmem S8x256x256 .bf16) (h6 : a6.IsWhole)
  (a7 : Memref sig .tc .vmem S8x128x256 .bf16) (h7 : a7.IsWhole)
  (a8 : Memref sig .tc .vmem S8x128x256 .bf16) (h8 : a8.IsWhole)
  (a9 : Memref sig .tc .vmem S8x256x128 .bf16) (h9 : a9.IsWhole)
  (a10 : Memref sig .tc .vmem S8x256x128 .bf16) (h10 : a10.IsWhole)
  (a11 : Memref sig .tc .vmem S4x8x128 .f32) (h11 : a11.IsWhole)
  (a12 : Memref sig .tc .vmem S1x2176x256 .bf16) (h12 : a12.IsWhole)
  (a13 : Memref sig .tc .vmem S8x256x256 .f32) (h13 : a13.IsWhole)
  (a14 : Memref sig .tc .vmem S8x256x128 .f32) (h14 : a14.IsWhole)
  (a15 : Memref sig .tc .vmem S8x256x128 .f32) (h15 : a15.IsWhole)
  (a16 : Memref sig .tc .vmem S8x128x256 .f32) (h16 : a16.IsWhole)
  (a17 : Memref sig .tc .vmem S8x128x256 .f32) (h17 : a17.IsWhole)
  (a18 : Memref sig .tc .vmem S4x8x128 .f32) (h18 : a18.IsWhole)
  (a19 : Memref sig .tc .vmem S2176x128 .f32) (h19 : a19.IsWhole)
  (a20 : Memref sig .tc .vmem S2176x128 .f32) (h20 : a20.IsWhole)
  (a21 : Memref sig .tc .vmem S2176x128 .f32) (h21 : a21.IsWhole)
  (a22 : Memref sig .tc .vmem S2176x128 .f32) (h22 : a22.IsWhole)
  (a23 : Memref sig .tc .vmem S2176x128 .f32) (h23 : a23.IsWhole)
  (a24 : Memref sig .tc .vmem S2176x128 .f32) (h24 : a24.IsWhole)
  (x0 x1 : Vec Ideal S1x2176x256 .bf16) (x2 x3 : Vec Ideal S1x2176x128 .f32) (x4 : Vec Ideal S8x256x256 .bf16)
  (x5 x6 : Vec Ideal S8x128x256 .bf16) (x7 x8 : Vec Ideal S8x256x128 .bf16) (x9 : Vec Ideal S4x8x128 .f32)

/-- What the loop carries after `n` trips, and what it has written by then. -/
abbrev ST (n : ℕ) := st_k0_t1 (F := Ideal) Variants.none c none i a2 h2 a3 h3 a4 h4 a5 h5 a6 h6 a7 h7 a8 h8 a9 h9 a10 h10 a11 h11 a12 h12 a13 h13 a14 h14 a15 h15 a16 h16 a17 h17
    a18 h18 a19 h19 a20 h20 a21 h21 a22 h22 a23 h23 a24 h24 (kernelRun0_A.sl.r (F := Ideal) c a11 h11 x9) (kernelRun0_A.sl.r_1 (F := Ideal) c a11 h11 x9) (kernelRun0_A.sl.r_2 (F :=
    Ideal) c a11 h11 x9) (kernelRun0_A.sl.r_3 (F := Ideal) c a11 h11 x9) (kernelRun0_A.sl.r_15 (F :=
  Ideal) c a2 h2 a10 h10 x0 x8) (kernelRun0_A.sl.r_16 (F := Ideal) c a2 h2 a9 h9 x0 x7) (a20.view.writes (Elt Ideal)
  a20.view.junk (kernelRun0_A.sl.HS1_8 (F := Ideal) c a2 h2 a9 h9 x0 x7)) (a22.view.writes (Elt Ideal) a22.view.junk
  (kernelRun0_A.sl.HS3_8 (F := Ideal) c a2 h2 a10 h10 x0 x8)) (a23.view.writes (Elt Ideal) a23.view.junk (kernelRun0_A.sl.HS4_8 (F :=
  Ideal) c a4 h4 x2)) (a24.view.writes (Elt Ideal) a24.view.junk (kernelRun0_A.sl.HS5_8 (F := Ideal) c a5 h5 x3)) (a19.view.writes
  (Elt Ideal) a19.view.junk (kernelRun0_A.sl.HS0_8 (F := Ideal) c a2 h2 a9 h9 x0 x7)) (a21.view.writes (Elt Ideal) a21.view.junk
  (kernelRun0_A.sl.HS2_8 (F := Ideal) c a2 h2 a10 h10 x0 x8)) (k0_pay92, k0_pay92, k0_pay92, k0_pay92, k0_pay92, k0_pay92, k0_pay92,
  k0_pay92) n

/-- What the loop carries after its last trip and what it leaves in the two scratch buffers it writes. -/
theorem inv (hx : Rows x9) (n : ℕ) (hn : n =
    272) : Inv (J x0 x7) (H x2) (J x0 x8) (H x3) (A x9 0) (A x9 1) (A x9 2) (A x9 3) n (ST c i a2 h2 a3 h3 a4 h4 a5 h5 a6 h6 a7 h7 a8 h8 a9 h9 a10 h10 a11 h11 a12 h12 a13 h13 a14
        h14 a15 h15 a16 h16 a17 h17 a18 h18 a19 h19 a20 h20 a21 h21 a22 h22 a23 h23 a24 h24 x0 x2 x3 x7 x8 x9 n).1 (a19.view.read (Elt Ideal)
    (a19.view.writes (Elt Ideal) a19.view.junk ((ST c i a2 h2 a3 h3 a4 h4 a5 h5 a6 h6 a7 h7 a8 h8 a9 h9 a10 h10 a11 h11 a12 h12 a13 h13 a14 h14 a15 h15 a16 h16 a17 h17 a18 h18 a19
        h19 a20 h20 a21 h21 a22 h22 a23 h23 a24 h24 x0 x2 x3 x7 x8 x9 n).2.1 ++ kernelRun0_A.sl.HS0_8 (F := Ideal) c a2 h2 a9 h9 x0
      x7))) (a21.view.read (Elt Ideal)
    (a21.view.writes (Elt Ideal) a21.view.junk ((ST c i a2 h2 a3 h3 a4 h4 a5 h5 a6 h6 a7 h7 a8 h8 a9 h9 a10 h10 a11 h11 a12 h12 a13 h13 a14 h14 a15 h15 a16 h16 a17 h17 a18 h18 a19
        h19 a20 h20 a21 h21 a22 h22 a23 h23 a24 h24 x0 x2 x3 x7 x8 x9 n).2.2 ++ kernelRun0_A.sl.HS2_8 (F := Ideal) c a2 h2 a10 h10 x0
      x8))) := by
  rw [View.writes_append, View.writes_append]
  refine inv_all _ _ _ _ _ _ _ _ _ _ _ _ _ _ _ _ _ _ _ _ _ _ _ _ _ _ _ _ _ _ _ _ _ _ _ _ _ _ _ _ _ _ _ _ _ _ _ _ _ (v242 := _) (v246 := _)
    (hn := hn.le) (h1 := fun r p => lrow a11 h11 x9 0 0 rfl _ r p) (h3 := fun r p => lrow a11 h11 x9 1 1 rfl _ r p)
    (h5 := fun r p => lrow a11 h11 x9 2 2 rfl _ r p) (h7 := fun r p => lrow a11 h11 x9 3 3 rfl _ r p)
    (e1 := hx.e0) (e3 := hx.e1) (e5 := hx.e2) (e7 := hx.e3)
    (h19 := ?_) (h20 := ?_) (h21 := ?_) (h22 := ?_) (h23 := ?_) (h24 := ?_) (hinit := fun r p => ?_)
  · intro k h r p
    unfold kernelRun0_A.sl.HS0_8
    exact strided8 (e := .f32) _ _ _ _ _ _ _ _ _ _ (fun r k p => J x0 x7 k.val r p) _ _ _ _ _ _ _ _
      (fun k p => inp a2 h2 a9 h9 x0 x7 0 0 rfl 0 rfl _ _ k p)
      (fun k p => inp a2 h2 a9 h9 x0 x7 1 272 rfl 1 rfl _ _ k p)
      (fun k p => inp a2 h2 a9 h9 x0 x7 2 544 rfl 2 rfl _ _ k p)
      (fun k p => inp a2 h2 a9 h9 x0 x7 3 816 rfl 3 rfl _ _ k p)
      (fun k p => inp a2 h2 a9 h9 x0 x7 4 1088 rfl 4 rfl _ _ k p)
      (fun k p => inp a2 h2 a9 h9 x0 x7 5 1360 rfl 5 rfl _ _ k p)
      (fun k p => inp a2 h2 a9 h9 x0 x7 6 1632 rfl 6 rfl _ _ k p)
      (fun k p => inp a2 h2 a9 h9 x0 x7 7 1904 rfl 7 rfl _ _ k p) k h r p
  · intro k h r p
    unfold kernelRun0_A.sl.HS1_8
    exact strided8 (e := .f32) _ _ _ _ _ _ _ _ _ _ (fun r k p => J x0 x7 k.val r (rot p)) _ _ _ _ _ _ _ _
      (fun k p => inps a2 h2 a9 h9 x0 x7 0 0 rfl 0 rfl _ _ k p)
      (fun k p => inps a2 h2 a9 h9 x0 x7 1 272 rfl 1 rfl _ _ k p)
      (fun k p => inps a2 h2 a9 h9 x0 x7 2 544 rfl 2 rfl _ _ k p)
      (fun k p => inps a2 h2 a9 h9 x0 x7 3 816 rfl 3 rfl _ _ k p)
      (fun k p => inps a2 h2 a9 h9 x0 x7 4 1088 rfl 4 rfl _ _ k p)
      (fun k p => inps a2 h2 a9 h9 x0 x7 5 1360 rfl 5 rfl _ _ k p)
      (fun k p => inps a2 h2 a9 h9 x0 x7 6 1632 rfl 6 rfl _ _ k p)
      (fun k p => inps a2 h2 a9 h9 x0 x7 7 1904 rfl 7 rfl _ _ k p) k h r p
  · intro k h r p
    unfold kernelRun0_A.sl.HS2_8
    exact strided8 (e := .f32) _ _ _ _ _ _ _ _ _ _ (fun r k p => J x0 x8 k.val r p) _ _ _ _ _ _ _ _
      (fun k p => inp a2 h2 a10 h10 x0 x8 0 0 rfl 0 rfl _ _ k p)
      (fun k p => inp a2 h2 a10 h10 x0 x8 1 272 rfl 1 rfl _ _ k p)
      (fun k p => inp a2 h2 a10 h10 x0 x8 2 544 rfl 2 rfl _ _ k p)
      (fun k p => inp a2 h2 a10 h10 x0 x8 3 816 rfl 3 rfl _ _ k p)
      (fun k p => inp a2 h2 a10 h10 x0 x8 4 1088 rfl 4 rfl _ _ k p)
      (fun k p => inp a2 h2 a10 h10 x0 x8 5 1360 rfl 5 rfl _ _ k p)
      (fun k p => inp a2 h2 a10 h10 x0 x8 6 1632 rfl 6 rfl _ _ k p)
      (fun k p => inp a2 h2 a10 h10 x0 x8 7 1904 rfl 7 rfl _ _ k p) k h r p
  · intro k h r p
    unfold kernelRun0_A.sl.HS3_8
    exact strided8 (e := .f32) _ _ _ _ _ _ _ _ _ _ (fun r k p => J x0 x8 k.val r (rot p)) _ _ _ _ _ _ _ _
      (fun k p => inps a2 h2 a10 h10 x0 x8 0 0 rfl 0 rfl _ _ k p)
      (fun k p => inps a2 h2 a10 h10 x0 x8 1 272 rfl 1 rfl _ _ k p)
      (fun k p => inps a2 h2 a10 h10 x0 x8 2 544 rfl 2 rfl _ _ k p)
      (fun k p => inps a2 h2 a10 h10 x0 x8 3 816 rfl 3 rfl _ _ k p)
      (fun k p => inps a2 h2 a10 h10 x0 x8 4 1088 rfl 4 rfl _ _ k p)
      (fun k p => inps a2 h2 a10 h10 x0 x8 5 1360 rfl 5 rfl _ _ k p)
      (fun k p => inps a2 h2 a10 h10 x0 x8 6 1632 rfl 6 rfl _ _ k p)
      (fun k p => inps a2 h2 a10 h10 x0 x8 7 1904 rfl 7 rfl _ _ k p) k h r p
  · intro k h r p
    unfold kernelRun0_A.sl.HS4_8
    exact strided8 (e := .f32) _ _ _ _ _ _ _ _ _ _ (fun r k p => H x2 k.val r p) _ _ _ _ _ _ _ _
      (fun k p => sav a4 h4 x2 0 0 rfl 0 rfl _ k p)
      (fun k p => sav a4 h4 x2 1 272 rfl 1 rfl _ k p)
      (fun k p => sav a4 h4 x2 2 544 rfl 2 rfl _ k p)
      (fun k p => sav a4 h4 x2 3 816 rfl 3 rfl _ k p)
      (fun k p => sav a4 h4 x2 4 1088 rfl 4 rfl _ k p)
      (fun k p => sav a4 h4 x2 5 1360 rfl 5 rfl _ k p)
      (fun k p => sav a4 h4 x2 6 1632 rfl 6 rfl _ k p)
      (fun k p => sav a4 h4 x2 7 1904 rfl 7 rfl _ k p) k h r p
  · intro k h r p
    unfold kernelRun0_A.sl.HS5_8
    exact strided8 (e := .f32) _ _ _ _ _ _ _ _ _ _ (fun r k p => H x3 k.val r p) _ _ _ _ _ _ _ _
      (fun k p => sav a5 h5 x3 0 0 rfl 0 rfl _ k p)
      (fun k p => sav a5 h5 x3 1 272 rfl 1 rfl _ k p)
      (fun k p => sav a5 h5 x3 2 544 rfl 2 rfl _ k p)
      (fun k p => sav a5 h5 x3 3 816 rfl 3 rfl _ k p)
      (fun k p => sav a5 h5 x3 4 1088 rfl 4 rfl _ k p)
      (fun k p => sav a5 h5 x3 5 1360 rfl 5 rfl _ k p)
      (fun k p => sav a5 h5 x3 6 1632 rfl 6 rfl _ k p)
      (fun k p => sav a5 h5 x3 7 1904 rfl 7 rfl _ k p) k h r p
  · have z := Pay.zero8 r p
    exact ⟨z, z, z, z, z, z, z, z⟩

theorem trips : Scf.trips k0_t1_loop.lb k0_t1_loop.ub k0_t1_loop.st = 272 := trips_eq

/-- The sums the loop ends with are row 0 of the gradient of the complex numbers. -/
theorem e0 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.1 (ix2 r p)
    = dL x0 x2 x3 x7 x8 x9 0 r p
    := by
  refine ((inv (hx := hx) (hn := trips) ..).d1 r p).trans ?_
  rw [trips]
  rfl

/-- The sums the loop ends with are row 1 of the gradient of the complex numbers. -/
theorem e1 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.1 (ix2 r
    (rot p)) = dL x0 x2 x3 x7 x8
    x9 1 r p := by
  refine ((inv (hx := hx) (hn := trips) ..).d2 r (rot p)).trans ?_
  rw [trips]
  rfl

/-- The sums the loop ends with are row 2 of the gradient of the complex numbers. -/
theorem e2 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.2.1 (ix2
    r p) = dL x0 x2 x3 x7 x8 x9 2
    r p := by
  refine ((inv (hx := hx) (hn := trips) ..).d3 r p).trans ?_
  rw [trips]
  rfl

/-- The sums the loop ends with are row 3 of the gradient of the complex numbers. -/
theorem e3 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.2.2 (ix2
    r (rot p)) = dL x0 x2 x3 x7 x8
    x9 3 r p := by
  refine ((inv (hx := hx) (hn := trips) ..).d4 r (rot p)).trans ?_
  rw [trips]
  rfl

/-- Group 0's forward gradient states, as the kernel loads them after the loop. -/
theorem qF0 (hx : Rows x9) (k : Fin 272) (p : Fin 128) :
    kernelRun0_A.sl.v300 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 0 p := by
  unfold kernelRun0_A.sl.v300
  refine (ld_srow a19.view _ 0 0 rfl _ k p).trans ?_
  refine ((inv (hx := hx) (hn := trips) ..).m19 k.val k.isLt 0 p).trans ?_
  rw [trips, if_pos (by have := k.isLt; omega)]
  rfl

/-- Group 0's backward gradient states, as the kernel loads them after the loop. -/
theorem qB0 (hx : Rows x9) (k : Fin 272) (p : Fin 128) :
    kernelRun0_A.sl.v301 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 0 p := by
  unfold kernelRun0_A.sl.v301
  refine (ld_srow a21.view _ 0 0 rfl _ k p).trans ?_
  refine ((inv (hx := hx) (hn := trips) ..).m21 k.val k.isLt 0 p).trans ?_
  rw [trips, if_pos (by have := co_lt k.isLt; omega)]
  rfl

/-- Group 1's forward gradient states, as the kernel loads them after the loop. -/
theorem qF1 (hx : Rows x9) (k : Fin 272) (p : Fin 128) :
    kernelRun0_A.sl.v366 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 1 p := by
  unfold kernelRun0_A.sl.v366
  refine (ld_srow a19.view _ 1 1 rfl _ k p).trans ?_
  refine ((inv (hx := hx) (hn := trips) ..).m19 k.val k.isLt 1 p).trans ?_
  rw [trips, if_pos (by have := k.isLt; omega)]
  rfl

/-- Group 1's backward gradient states, as the kernel loads them after the loop. -/
theorem qB1 (hx : Rows x9) (k : Fin 272) (p : Fin 128) :
    kernelRun0_A.sl.v367 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 1 p := by
  unfold kernelRun0_A.sl.v367
  refine (ld_srow a21.view _ 1 1 rfl _ k p).trans ?_
  refine ((inv (hx := hx) (hn := trips) ..).m21 k.val k.isLt 1 p).trans ?_
  rw [trips, if_pos (by have := co_lt k.isLt; omega)]
  rfl

/-- Group 2's forward gradient states, as the kernel loads them after the loop. -/
theorem qF2 (hx : Rows x9) (k : Fin 272) (p : Fin 128) :
    kernelRun0_A.sl.v432 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 2 p := by
  unfold kernelRun0_A.sl.v432
  refine (ld_srow a19.view _ 2 2 rfl _ k p).trans ?_
  refine ((inv (hx := hx) (hn := trips) ..).m19 k.val k.isLt 2 p).trans ?_
  rw [trips, if_pos (by have := k.isLt; omega)]
  rfl

/-- Group 2's backward gradient states, as the kernel loads them after the loop. -/
theorem qB2 (hx : Rows x9) (k : Fin 272) (p : Fin 128) :
    kernelRun0_A.sl.v433 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 2 p := by
  unfold kernelRun0_A.sl.v433
  refine (ld_srow a21.view _ 2 2 rfl _ k p).trans ?_
  refine ((inv (hx := hx) (hn := trips) ..).m21 k.val k.isLt 2 p).trans ?_
  rw [trips, if_pos (by have := co_lt k.isLt; omega)]
  rfl

/-- Group 3's forward gradient states, as the kernel loads them after the loop. -/
theorem qF3 (hx : Rows x9) (k : Fin 272) (p : Fin 128) :
    kernelRun0_A.sl.v498 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 3 p := by
  unfold kernelRun0_A.sl.v498
  refine (ld_srow a19.view _ 3 3 rfl _ k p).trans ?_
  refine ((inv (hx := hx) (hn := trips) ..).m19 k.val k.isLt 3 p).trans ?_
  rw [trips, if_pos (by have := k.isLt; omega)]
  rfl

/-- Group 3's backward gradient states, as the kernel loads them after the loop. -/
theorem qB3 (hx : Rows x9) (k : Fin 272) (p : Fin 128) :
    kernelRun0_A.sl.v499 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 3 p := by
  unfold kernelRun0_A.sl.v499
  refine (ld_srow a21.view _ 3 3 rfl _ k p).trans ?_
  refine ((inv (hx := hx) (hn := trips) ..).m21 k.val k.isLt 3 p).trans ?_
  rw [trips, if_pos (by have := co_lt k.isLt; omega)]
  rfl

/-- Group 4's forward gradient states, as the kernel loads them after the loop. -/
theorem qF4 (hx : Rows x9) (k : Fin 272) (p : Fin 128) :
    kernelRun0_A.sl.v564 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 4 p := by
  unfold kernelRun0_A.sl.v564
  refine (ld_srow a19.view _ 4 4 rfl _ k p).trans ?_
  refine ((inv (hx := hx) (hn := trips) ..).m19 k.val k.isLt 4 p).trans ?_
  rw [trips, if_pos (by have := k.isLt; omega)]
  rfl

/-- Group 4's backward gradient states, as the kernel loads them after the loop. -/
theorem qB4 (hx : Rows x9) (k : Fin 272) (p : Fin 128) :
    kernelRun0_A.sl.v565 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 4 p := by
  unfold kernelRun0_A.sl.v565
  refine (ld_srow a21.view _ 4 4 rfl _ k p).trans ?_
  refine ((inv (hx := hx) (hn := trips) ..).m21 k.val k.isLt 4 p).trans ?_
  rw [trips, if_pos (by have := co_lt k.isLt; omega)]
  rfl

/-- Group 5's forward gradient states, as the kernel loads them after the loop. -/
theorem qF5 (hx : Rows x9) (k : Fin 272) (p : Fin 128) :
    kernelRun0_A.sl.v630 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 5 p := by
  unfold kernelRun0_A.sl.v630
  refine (ld_srow a19.view _ 5 5 rfl _ k p).trans ?_
  refine ((inv (hx := hx) (hn := trips) ..).m19 k.val k.isLt 5 p).trans ?_
  rw [trips, if_pos (by have := k.isLt; omega)]
  rfl

/-- Group 5's backward gradient states, as the kernel loads them after the loop. -/
theorem qB5 (hx : Rows x9) (k : Fin 272) (p : Fin 128) :
    kernelRun0_A.sl.v631 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 5 p := by
  unfold kernelRun0_A.sl.v631
  refine (ld_srow a21.view _ 5 5 rfl _ k p).trans ?_
  refine ((inv (hx := hx) (hn := trips) ..).m21 k.val k.isLt 5 p).trans ?_
  rw [trips, if_pos (by have := co_lt k.isLt; omega)]
  rfl

/-- Group 6's forward gradient states, as the kernel loads them after the loop. -/
theorem qF6 (hx : Rows x9) (k : Fin 272) (p : Fin 128) :
    kernelRun0_A.sl.v696 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 6 p := by
  unfold kernelRun0_A.sl.v696
  refine (ld_srow a19.view _ 6 6 rfl _ k p).trans ?_
  refine ((inv (hx := hx) (hn := trips) ..).m19 k.val k.isLt 6 p).trans ?_
  rw [trips, if_pos (by have := k.isLt; omega)]
  rfl

/-- Group 6's backward gradient states, as the kernel loads them after the loop. -/
theorem qB6 (hx : Rows x9) (k : Fin 272) (p : Fin 128) :
    kernelRun0_A.sl.v697 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 6 p := by
  unfold kernelRun0_A.sl.v697
  refine (ld_srow a21.view _ 6 6 rfl _ k p).trans ?_
  refine ((inv (hx := hx) (hn := trips) ..).m21 k.val k.isLt 6 p).trans ?_
  rw [trips, if_pos (by have := co_lt k.isLt; omega)]
  rfl

/-- Group 7's forward gradient states, as the kernel loads them after the loop. -/
theorem qF7 (hx : Rows x9) (k : Fin 272) (p : Fin 128) :
    kernelRun0_A.sl.v762 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 7 p := by
  unfold kernelRun0_A.sl.v762
  refine (ld_srow a19.view _ 7 7 rfl _ k p).trans ?_
  refine ((inv (hx := hx) (hn := trips) ..).m19 k.val k.isLt 7 p).trans ?_
  rw [trips, if_pos (by have := k.isLt; omega)]
  rfl

/-- Group 7's backward gradient states, as the kernel loads them after the loop. -/
theorem qB7 (hx : Rows x9) (k : Fin 272) (p : Fin 128) :
    kernelRun0_A.sl.v763 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 7 p := by
  unfold kernelRun0_A.sl.v763
  refine (ld_srow a21.view _ 7 7 rfl _ k p).trans ?_
  refine ((inv (hx := hx) (hn := trips) ..).m21 k.val k.isLt 7 p).trans ?_
  rw [trips, if_pos (by have := co_lt k.isLt; omega)]
  rfl

end Cert.KernelIdeal.StateA

end
-- ==== Proof.BodyA.lean ====
module

public import proofs.«01_k».proof.Proof.Gen.KernelIdeal.Frame
public import proofs.«01_k».proof.Proof.StateA

@[expose] public section

/-!
What a point that starts a block of groups leaves in each output block, element by element.
-/

set_option maxRecDepth 16384

noncomputable section

namespace Cert.KernelIdeal.BodyA

open Idealize.ShloMosaic Idealize.ShloMosaic.TcCoe Idealize.ShloMosaic.Tactic
open Cert.KernelIdeal Cert.KernelIdeal.Gen Cert.S5 Cert.KernelIdeal.Loop Cert.KernelIdeal.Cells Cert.KernelIdeal.Blocks

variable (c : Dev nD) (i : grid0.Coords)
  (a2 : Memref sig .tc .vmem S1x2176x256 .bf16) (h2 : a2.IsWhole)
  (a3 : Memref sig .tc .vmem S1x2176x256 .bf16) (h3 : a3.IsWhole)
  (a4 : Memref sig .tc .vmem S1x2176x128 .f32) (h4 : a4.IsWhole)
  (a5 : Memref sig .tc .vmem S1x2176x128 .f32) (h5 : a5.IsWhole)
  (a6 : Memref sig .tc .vmem S8x256x256 .bf16) (h6 : a6.IsWhole)
  (a7 : Memref sig .tc .vmem S8x128x256 .bf16) (h7 : a7.IsWhole)
  (a8 : Memref sig .tc .vmem S8x128x256 .bf16) (h8 : a8.IsWhole)
  (a9 : Memref sig .tc .vmem S8x256x128 .bf16) (h9 : a9.IsWhole)
  (a10 : Memref sig .tc .vmem S8x256x128 .bf16) (h10 : a10.IsWhole)
  (a11 : Memref sig .tc .vmem S4x8x128 .f32) (h11 : a11.IsWhole)
  (a12 : Memref sig .tc .vmem S1x2176x256 .bf16) (h12 : a12.IsWhole)
  (a13 : Memref sig .tc .vmem S8x256x256 .f32) (h13 : a13.IsWhole)
  (a14 : Memref sig .tc .vmem S8x256x128 .f32) (h14 : a14.IsWhole)
  (a15 : Memref sig .tc .vmem S8x256x128 .f32) (h15 : a15.IsWhole)
  (a16 : Memref sig .tc .vmem S8x128x256 .f32) (h16 : a16.IsWhole)
  (a17 : Memref sig .tc .vmem S8x128x256 .f32) (h17 : a17.IsWhole)
  (a18 : Memref sig .tc .vmem S4x8x128 .f32) (h18 : a18.IsWhole)
  (a19 : Memref sig .tc .vmem S2176x128 .f32) (h19 : a19.IsWhole)
  (a20 : Memref sig .tc .vmem S2176x128 .f32) (h20 : a20.IsWhole)
  (a21 : Memref sig .tc .vmem S2176x128 .f32) (h21 : a21.IsWhole)
  (a22 : Memref sig .tc .vmem S2176x128 .f32) (h22 : a22.IsWhole)
  (a23 : Memref sig .tc .vmem S2176x128 .f32) (h23 : a23.IsWhole)
  (a24 : Memref sig .tc .vmem S2176x128 .f32) (h24 : a24.IsWhole)
  (hc0 : cond0_0 i)
  (x0 x1 : Vec Ideal S1x2176x256 .bf16) (x2 x3 : Vec Ideal S1x2176x128 .f32) (x4 : Vec Ideal S8x256x256 .bf16)
  (x5 x6 : Vec Ideal S8x128x256 .bf16) (x7 x8 : Vec Ideal S8x256x128 .bf16) (x9 : Vec Ideal S4x8x128 .f32)

/-- The gradient of the inputs. -/
theorem du (hx : Rows x9) (g : Fin 8) (k : Fin 272) (t : Fin 256) : out0_A_10 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 0 (tok g k) t) = (∑ s
      : Fin 256, x0 (ix3 0 (tok g k) s) * x4 (ix3 g s t)) + (∑ p : Fin 128, qF x0 x7 x9 k g p * x5 (ix3 g p t)) + ∑ p : Fin 128, qB x0 x8 x9 k g p * x6
      (ix3 g p t) := by
  unfold out0_A_10
  refine (View.read_writes_junk_apply_eq_canon _ _ _).trans ?_
  unfold kernelRun0_A
  dsimp only
  let G : Fin 8 → Fin 272 → Fin 256 → EReal := fun g k t => (∑ s : Fin 256, x0 (ix3 0 (tok g k) s) * x4 (ix3 g s t)) + (∑ p : Fin 128, qF x0 x7 x9 k g p
      * x5 (ix3 g p t)) + ∑ p : Fin 128, qB x0 x8 x9 k g p * x6 (ix3 g p t)
  let Z : Fin 8 → Fin 272 → Fin 256 → EReal := fun r k t =>
    View.canon (Val := Elt Ideal) (s := S1x2176x256) (e := .bf16) [] (ix3 0 (tok r k) t)
  have z : ∀ (r : Fin 8) (k : Fin 272) (t : Fin 256), View.canon (Val := Elt Ideal) (s := S1x2176x256) (e := .bf16) [] (ix3 0 (tok r k) t)
      = if r.val < 0 then G r k t else
      View.canon (Val := Elt Ideal) (s := S1x2176x256) (e := .bf16) [] (ix3 0 (tok r k) t) :=
    fun r k t => (if_neg (Nat.not_lt_zero _)).symm
  refine Eq.trans (b := if g.val < 7 + 1 then G g k t else View.canon (Val := Elt Ideal) (s := S1x2176x256) (e := .bf16) []
    (ix3 0 (tok g k) t)) ?_ (if_pos g.isLt)
  refine chainR (n := 256) (e := .bf16) _ G Z 7 7 1904 rfl rfl _ _ ?_ (fun k t => ?_) g k t
  swap
  · exact Blocks.du a2 h2 a6 h6 a7 h7 a8 h8 x0 x4 x5 x6 7 1904 rfl 7 rfl inb_S1x2176x256_S1x272x256_0_1904_0 _ _ inb_S8x256x256_S1x256x256_7_0_0 inb_S8x128x256_S1x128x256_7_0_0
      inb_S8x128x256_S1x128x256_7_0_0 (qF x0 x7 x9) (qB x0 x8 x9) (fun k p => StateA.qF7 (hx := hx) ..) (fun k p => StateA.qB7 (hx := hx) ..) k t
  refine chainR (n := 256) (e := .bf16) _ G Z 6 6 1632 rfl rfl _ _ ?_ (fun k t => ?_)
  swap
  · exact Blocks.du a2 h2 a6 h6 a7 h7 a8 h8 x0 x4 x5 x6 6 1632 rfl 6 rfl inb_S1x2176x256_S1x272x256_0_1632_0 _ _ inb_S8x256x256_S1x256x256_6_0_0 inb_S8x128x256_S1x128x256_6_0_0
      inb_S8x128x256_S1x128x256_6_0_0 (qF x0 x7 x9) (qB x0 x8 x9) (fun k p => StateA.qF6 (hx := hx) ..) (fun k p => StateA.qB6 (hx := hx) ..) k t
  refine chainR (n := 256) (e := .bf16) _ G Z 5 5 1360 rfl rfl _ _ ?_ (fun k t => ?_)
  swap
  · exact Blocks.du a2 h2 a6 h6 a7 h7 a8 h8 x0 x4 x5 x6 5 1360 rfl 5 rfl inb_S1x2176x256_S1x272x256_0_1360_0 _ _ inb_S8x256x256_S1x256x256_5_0_0 inb_S8x128x256_S1x128x256_5_0_0
      inb_S8x128x256_S1x128x256_5_0_0 (qF x0 x7 x9) (qB x0 x8 x9) (fun k p => StateA.qF5 (hx := hx) ..) (fun k p => StateA.qB5 (hx := hx) ..) k t
  refine chainR (n := 256) (e := .bf16) _ G Z 4 4 1088 rfl rfl _ _ ?_ (fun k t => ?_)
  swap
  · exact Blocks.du a2 h2 a6 h6 a7 h7 a8 h8 x0 x4 x5 x6 4 1088 rfl 4 rfl inb_S1x2176x256_S1x272x256_0_1088_0 _ _ inb_S8x256x256_S1x256x256_4_0_0 inb_S8x128x256_S1x128x256_4_0_0
      inb_S8x128x256_S1x128x256_4_0_0 (qF x0 x7 x9) (qB x0 x8 x9) (fun k p => StateA.qF4 (hx := hx) ..) (fun k p => StateA.qB4 (hx := hx) ..) k t
  refine chainR (n := 256) (e := .bf16) _ G Z 3 3 816 rfl rfl _ _ ?_ (fun k t => ?_)
  swap
  · exact Blocks.du a2 h2 a6 h6 a7 h7 a8 h8 x0 x4 x5 x6 3 816 rfl 3 rfl inb_S1x2176x256_S1x272x256_0_816_0 _ _ inb_S8x256x256_S1x256x256_3_0_0 inb_S8x128x256_S1x128x256_3_0_0
      inb_S8x128x256_S1x128x256_3_0_0 (qF x0 x7 x9) (qB x0 x8 x9) (fun k p => StateA.qF3 (hx := hx) ..) (fun k p => StateA.qB3 (hx := hx) ..) k t
  refine chainR (n := 256) (e := .bf16) _ G Z 2 2 544 rfl rfl _ _ ?_ (fun k t => ?_)
  swap
  · exact Blocks.du a2 h2 a6 h6 a7 h7 a8 h8 x0 x4 x5 x6 2 544 rfl 2 rfl inb_S1x2176x256_S1x272x256_0_544_0 _ _ inb_S8x256x256_S1x256x256_2_0_0 inb_S8x128x256_S1x128x256_2_0_0
      inb_S8x128x256_S1x128x256_2_0_0 (qF x0 x7 x9) (qB x0 x8 x9) (fun k p => StateA.qF2 (hx := hx) ..) (fun k p => StateA.qB2 (hx := hx) ..) k t
  refine chainR (n := 256) (e := .bf16) _ G Z 1 1 272 rfl rfl _ _ ?_ (fun k t => ?_)
  swap
  · exact Blocks.du a2 h2 a6 h6 a7 h7 a8 h8 x0 x4 x5 x6 1 272 rfl 1 rfl inb_S1x2176x256_S1x272x256_0_272_0 _ _ inb_S8x256x256_S1x256x256_1_0_0 inb_S8x128x256_S1x128x256_1_0_0
      inb_S8x128x256_S1x128x256_1_0_0 (qF x0 x7 x9) (qB x0 x8 x9) (fun k p => StateA.qF1 (hx := hx) ..) (fun k p => StateA.qB1 (hx := hx) ..) k t
  refine chainR (n := 256) (e := .bf16) _ G Z 0 0 0 rfl rfl _ _ ?_ (fun k t => ?_)
  swap
  · exact Blocks.du a2 h2 a6 h6 a7 h7 a8 h8 x0 x4 x5 x6 0 0 rfl 0 rfl inb_S1x2176x256_S1x272x256_0_0_0 _ _ inb_S8x256x256_S1x256x256_0_0_0 inb_S8x128x256_S1x128x256_0_0_0
      inb_S8x128x256_S1x128x256_0_0_0 (qF x0 x7 x9) (qB x0 x8 x9) (fun k p => StateA.qF0 (hx := hx) ..) (fun k p => StateA.qB0 (hx := hx) ..) k t
  exact z

theorem dtz (hx : Rows x9) (g : Fin 8) (a : Fin 256) (b : Fin 256) : out0_A_11 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 g a b) = 0 + ∑ k : Fin
      272, x1 (ix3 0 (tok g k) a) * x0 (ix3 0 (tok g k) b) := by
  unfold out0_A_11
  refine (View.read_writes_junk_apply_eq_canon _ _ _).trans ?_
  unfold kernelRun0_A
  dsimp only
  let G : Fin 8 → Fin 256 → Fin 256 → EReal := fun r a b => 0 + ∑ k : Fin 272, x1 (ix3 0 (tok r k) a) * x0 (ix3 0 (tok r k) b)
  let Z : Fin 8 → Fin 256 → Fin 256 → EReal := fun r a b => 0
  have c0 : ∀ (r : Fin 8) (a : Fin 256) (b : Fin 256), View.canon (kernelRun0_A.sl.H11_1 (F := Ideal)) (ix3 r a b) = if r.val < 0 then G r a b else Z r a b := fun r a b => by
    rw [if_neg (Nat.not_lt_zero _)]
    exact (base (d := 8) (m := 256) (n := 256) (e := .f32) _ _ r a b).trans (by simp [k0_pay11, Z, pointwise])
  have c1 : ∀ (r : Fin 8) (a : Fin 256) (b : Fin 256), View.canon (kernelRun0_A.sl.H11_2 (F := Ideal) c a2 h2 a3 h3 a13 x0 x1) (ix3 r a b) = if r.val
      < 1 then G r a b else Z r a b := by
    unfold kernelRun0_A.sl.H11_2
    refine chain (d := 8) (m := 256) (n := 256) (e := .f32) _ G Z 0 0 rfl _ _ c0 (fun a b => ?_)
    exact Blocks.dtz a2 h2 a3 h3 x0 x1 0 0 rfl 0 rfl inb_S1x2176x256_S1x272x256_0_0_0 inb_S1x2176x256_S1x272x256_0_0_0 (a13.view.readCov (Val
      := Elt Ideal) (kernelRun0_A.sl.H11_1 (F := Ideal)) (Rect.unit (s := S8x256x256) ![0, 0, 0] S1x256x256.size
      inb_S8x256x256_S1x256x256_0_0_0).toLoadRect) a b _ (ld_chain (d := 8) (m := 256) (n := 256) (e := .f32) _ _ G Z 0 0 rfl _ c0 a b)
  have c2 : ∀ (r : Fin 8) (a : Fin 256) (b : Fin 256), View.canon (kernelRun0_A.sl.H11_3 (F := Ideal) c a2 h2 a3 h3 a13 x0 x1) (ix3 r a b) = if r.val
      < 2 then G r a b else Z r a b := by
    unfold kernelRun0_A.sl.H11_3
    refine chain (d := 8) (m := 256) (n := 256) (e := .f32) _ G Z 1 1 rfl _ _ c1 (fun a b => ?_)
    exact Blocks.dtz a2 h2 a3 h3 x0 x1 1 272 rfl 1 rfl inb_S1x2176x256_S1x272x256_0_272_0 inb_S1x2176x256_S1x272x256_0_272_0 (a13.view.readCov
      (Val := Elt Ideal) (kernelRun0_A.sl.H11_2 (F := Ideal) ..) (Rect.unit (s := S8x256x256) ![1, 0, 0]
      S1x256x256.size inb_S8x256x256_S1x256x256_1_0_0).toLoadRect) a b _ (ld_chain (d := 8) (m := 256) (n := 256) (e := .f32) _ _ G Z 1 1 rfl _ c1 a b)
  have c3 : ∀ (r : Fin 8) (a : Fin 256) (b : Fin 256), View.canon (kernelRun0_A.sl.H11_4 (F := Ideal) c a2 h2 a3 h3 a13 x0 x1) (ix3 r a b) = if r.val
      < 3 then G r a b else Z r a b := by
    unfold kernelRun0_A.sl.H11_4
    refine chain (d := 8) (m := 256) (n := 256) (e := .f32) _ G Z 2 2 rfl _ _ c2 (fun a b => ?_)
    exact Blocks.dtz a2 h2 a3 h3 x0 x1 2 544 rfl 2 rfl inb_S1x2176x256_S1x272x256_0_544_0 inb_S1x2176x256_S1x272x256_0_544_0 (a13.view.readCov
      (Val := Elt Ideal) (kernelRun0_A.sl.H11_3 (F := Ideal) ..) (Rect.unit (s := S8x256x256) ![2, 0, 0]
      S1x256x256.size inb_S8x256x256_S1x256x256_2_0_0).toLoadRect) a b _ (ld_chain (d := 8) (m := 256) (n := 256) (e := .f32) _ _ G Z 2 2 rfl _ c2 a b)
  have c4 : ∀ (r : Fin 8) (a : Fin 256) (b : Fin 256), View.canon (kernelRun0_A.sl.H11_5 (F := Ideal) c a2 h2 a3 h3 a13 x0 x1) (ix3 r a b) = if r.val
      < 4 then G r a b else Z r a b := by
    unfold kernelRun0_A.sl.H11_5
    refine chain (d := 8) (m := 256) (n := 256) (e := .f32) _ G Z 3 3 rfl _ _ c3 (fun a b => ?_)
    exact Blocks.dtz a2 h2 a3 h3 x0 x1 3 816 rfl 3 rfl inb_S1x2176x256_S1x272x256_0_816_0 inb_S1x2176x256_S1x272x256_0_816_0 (a13.view.readCov
      (Val := Elt Ideal) (kernelRun0_A.sl.H11_4 (F := Ideal) ..) (Rect.unit (s := S8x256x256) ![3, 0, 0]
      S1x256x256.size inb_S8x256x256_S1x256x256_3_0_0).toLoadRect) a b _ (ld_chain (d := 8) (m := 256) (n := 256) (e := .f32) _ _ G Z 3 3 rfl _ c3 a b)
  have c5 : ∀ (r : Fin 8) (a : Fin 256) (b : Fin 256), View.canon (kernelRun0_A.sl.H11_6 (F := Ideal) c a2 h2 a3 h3 a13 x0 x1) (ix3 r a b) = if r.val
      < 5 then G r a b else Z r a b := by
    unfold kernelRun0_A.sl.H11_6
    refine chain (d := 8) (m := 256) (n := 256) (e := .f32) _ G Z 4 4 rfl _ _ c4 (fun a b => ?_)
    exact Blocks.dtz a2 h2 a3 h3 x0 x1 4 1088 rfl 4 rfl inb_S1x2176x256_S1x272x256_0_1088_0 inb_S1x2176x256_S1x272x256_0_1088_0
      (a13.view.readCov (Val := Elt Ideal) (kernelRun0_A.sl.H11_5 (F := Ideal) ..) (Rect.unit (s := S8x256x256) ![4,
      0, 0] S1x256x256.size inb_S8x256x256_S1x256x256_4_0_0).toLoadRect) a b _ (ld_chain (d := 8) (m := 256) (n := 256) (e := .f32) _ _ G Z 4 4 rfl _ c4
      a b)
  have c6 : ∀ (r : Fin 8) (a : Fin 256) (b : Fin 256), View.canon (kernelRun0_A.sl.H11_7 (F := Ideal) c a2 h2 a3 h3 a13 x0 x1) (ix3 r a b) = if r.val
      < 6 then G r a b else Z r a b := by
    unfold kernelRun0_A.sl.H11_7
    refine chain (d := 8) (m := 256) (n := 256) (e := .f32) _ G Z 5 5 rfl _ _ c5 (fun a b => ?_)
    exact Blocks.dtz a2 h2 a3 h3 x0 x1 5 1360 rfl 5 rfl inb_S1x2176x256_S1x272x256_0_1360_0 inb_S1x2176x256_S1x272x256_0_1360_0
      (a13.view.readCov (Val := Elt Ideal) (kernelRun0_A.sl.H11_6 (F := Ideal) ..) (Rect.unit (s := S8x256x256) ![5,
      0, 0] S1x256x256.size inb_S8x256x256_S1x256x256_5_0_0).toLoadRect) a b _ (ld_chain (d := 8) (m := 256) (n := 256) (e := .f32) _ _ G Z 5 5 rfl _ c5
      a b)
  have c7 : ∀ (r : Fin 8) (a : Fin 256) (b : Fin 256), View.canon (kernelRun0_A.sl.H11_8 (F := Ideal) c a2 h2 a3 h3 a13 x0 x1) (ix3 r a b) = if r.val
      < 7 then G r a b else Z r a b := by
    unfold kernelRun0_A.sl.H11_8
    refine chain (d := 8) (m := 256) (n := 256) (e := .f32) _ G Z 6 6 rfl _ _ c6 (fun a b => ?_)
    exact Blocks.dtz a2 h2 a3 h3 x0 x1 6 1632 rfl 6 rfl inb_S1x2176x256_S1x272x256_0_1632_0 inb_S1x2176x256_S1x272x256_0_1632_0
      (a13.view.readCov (Val := Elt Ideal) (kernelRun0_A.sl.H11_7 (F := Ideal) ..) (Rect.unit (s := S8x256x256) ![6,
      0, 0] S1x256x256.size inb_S8x256x256_S1x256x256_6_0_0).toLoadRect) a b _ (ld_chain (d := 8) (m := 256) (n := 256) (e := .f32) _ _ G Z 6 6 rfl _ c6
      a b)
  refine Eq.trans (b := if g.val < 7 + 1 then G g a b else Z g a b) ?_ (if_pos g.isLt)
  refine chain (d := 8) (m := 256) (n := 256) (e := .f32) _ G Z 7 7 rfl _ _ c7 (fun a b => ?_) g a b
  exact Blocks.dtz a2 h2 a3 h3 x0 x1 7 1904 rfl 7 rfl inb_S1x2176x256_S1x272x256_0_1904_0 inb_S1x2176x256_S1x272x256_0_1904_0
      (a13.view.readCov (Val := Elt Ideal) (kernelRun0_A.sl.H11_8 (F := Ideal) ..) (Rect.unit (s := S8x256x256) ![7,
      0, 0] S1x256x256.size inb_S8x256x256_S1x256x256_7_0_0).toLoadRect) a b _ (ld_chain (d := 8) (m := 256) (n := 256) (e := .f32) _ _ G Z 7 7 rfl _ c7
      a b)

theorem dwf (hx : Rows x9) (g : Fin 8) (a : Fin 256) (b : Fin 128) : out0_A_12 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 g a b) = 0 + ∑ k : Fin
      272, x1 (ix3 0 (tok g k) a) * qF x0 x7 x9 k g b := by
  unfold out0_A_12
  refine (View.read_writes_junk_apply_eq_canon _ _ _).trans ?_
  unfold kernelRun0_A
  dsimp only
  let G : Fin 8 → Fin 256 → Fin 128 → EReal := fun r a b => 0 + ∑ k : Fin 272, x1 (ix3 0 (tok r k) a) * qF x0 x7 x9 k r b
  let Z : Fin 8 → Fin 256 → Fin 128 → EReal := fun r a b => 0
  have c0 : ∀ (r : Fin 8) (a : Fin 256) (b : Fin 128), View.canon (kernelRun0_A.sl.H12_1 (F := Ideal)) (ix3 r a b) = if r.val < 0 then G r a b else Z r a b := fun r a b => by
    rw [if_neg (Nat.not_lt_zero _)]
    exact (base (d := 8) (m := 256) (n := 128) (e := .f32) _ _ r a b).trans (by simp [k0_pay12, Z, pointwise])
  have c1 : ∀ (r : Fin 8) (a : Fin 256) (b : Fin 128), View.canon (kernelRun0_A.sl.H12_2 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 1 then G r a b
      else Z r a b := by
    unfold kernelRun0_A.sl.H12_2
    refine chain (d := 8) (m := 256) (n := 128) (e := .f32) _ G Z 0 0 rfl _ _ c0 (fun a b => ?_)
    exact Blocks.dw a3 h3 x1 0 0 rfl 0 rfl inb_S1x2176x256_S1x272x256_0_0_0 _ (qF x0 x7 x9) (fun k p
      => StateA.qF0 (hx := hx) ..) (a14.view.readCov (Val := Elt Ideal) (kernelRun0_A.sl.H12_1 (F := Ideal)) (Rect.unit (s := S8x256x128)
      ![0, 0, 0] S1x256x128.size inb_S8x256x128_S1x256x128_0_0_0).toLoadRect) a b _ (ld_chain (d := 8) (m := 256) (n := 128) (e := .f32) _ _ G Z 0 0 rfl
      _ c0 a b)
  have c2 : ∀ (r : Fin 8) (a : Fin 256) (b : Fin 128), View.canon (kernelRun0_A.sl.H12_3 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 2 then G r a b
      else Z r a b := by
    unfold kernelRun0_A.sl.H12_3
    refine chain (d := 8) (m := 256) (n := 128) (e := .f32) _ G Z 1 1 rfl _ _ c1 (fun a b => ?_)
    exact Blocks.dw a3 h3 x1 1 272 rfl 1 rfl inb_S1x2176x256_S1x272x256_0_272_0 _ (qF x0 x7 x9)
      (fun k p => StateA.qF1 (hx := hx) ..) (a14.view.readCov (Val := Elt Ideal) (kernelRun0_A.sl.H12_2 (F := Ideal) ..)
      (Rect.unit (s := S8x256x128) ![1, 0, 0] S1x256x128.size inb_S8x256x128_S1x256x128_1_0_0).toLoadRect) a b _ (ld_chain (d := 8) (m := 256) (n :=
      128) (e := .f32) _ _ G Z 1 1 rfl _ c1 a b)
  have c3 : ∀ (r : Fin 8) (a : Fin 256) (b : Fin 128), View.canon (kernelRun0_A.sl.H12_4 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 3 then G r a b
      else Z r a b := by
    unfold kernelRun0_A.sl.H12_4
    refine chain (d := 8) (m := 256) (n := 128) (e := .f32) _ G Z 2 2 rfl _ _ c2 (fun a b => ?_)
    exact Blocks.dw a3 h3 x1 2 544 rfl 2 rfl inb_S1x2176x256_S1x272x256_0_544_0 _ (qF x0 x7 x9)
      (fun k p => StateA.qF2 (hx := hx) ..) (a14.view.readCov (Val := Elt Ideal) (kernelRun0_A.sl.H12_3 (F := Ideal) ..)
      (Rect.unit (s := S8x256x128) ![2, 0, 0] S1x256x128.size inb_S8x256x128_S1x256x128_2_0_0).toLoadRect) a b _ (ld_chain (d := 8) (m := 256) (n :=
      128) (e := .f32) _ _ G Z 2 2 rfl _ c2 a b)
  have c4 : ∀ (r : Fin 8) (a : Fin 256) (b : Fin 128), View.canon (kernelRun0_A.sl.H12_5 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 4 then G r a b
      else Z r a b := by
    unfold kernelRun0_A.sl.H12_5
    refine chain (d := 8) (m := 256) (n := 128) (e := .f32) _ G Z 3 3 rfl _ _ c3 (fun a b => ?_)
    exact Blocks.dw a3 h3 x1 3 816 rfl 3 rfl inb_S1x2176x256_S1x272x256_0_816_0 _ (qF x0 x7 x9)
      (fun k p => StateA.qF3 (hx := hx) ..) (a14.view.readCov (Val := Elt Ideal) (kernelRun0_A.sl.H12_4 (F := Ideal) ..)
      (Rect.unit (s := S8x256x128) ![3, 0, 0] S1x256x128.size inb_S8x256x128_S1x256x128_3_0_0).toLoadRect) a b _ (ld_chain (d := 8) (m := 256) (n :=
      128) (e := .f32) _ _ G Z 3 3 rfl _ c3 a b)
  have c5 : ∀ (r : Fin 8) (a : Fin 256) (b : Fin 128), View.canon (kernelRun0_A.sl.H12_6 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 5 then G r a b
      else Z r a b := by
    unfold kernelRun0_A.sl.H12_6
    refine chain (d := 8) (m := 256) (n := 128) (e := .f32) _ G Z 4 4 rfl _ _ c4 (fun a b => ?_)
    exact Blocks.dw a3 h3 x1 4 1088 rfl 4 rfl inb_S1x2176x256_S1x272x256_0_1088_0 _ (qF x0 x7 x9)
      (fun k p => StateA.qF4 (hx := hx) ..) (a14.view.readCov (Val := Elt Ideal) (kernelRun0_A.sl.H12_5 (F := Ideal) ..)
      (Rect.unit (s := S8x256x128) ![4, 0, 0] S1x256x128.size inb_S8x256x128_S1x256x128_4_0_0).toLoadRect) a b _ (ld_chain (d := 8) (m := 256) (n :=
      128) (e := .f32) _ _ G Z 4 4 rfl _ c4 a b)
  have c6 : ∀ (r : Fin 8) (a : Fin 256) (b : Fin 128), View.canon (kernelRun0_A.sl.H12_7 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 6 then G r a b
      else Z r a b := by
    unfold kernelRun0_A.sl.H12_7
    refine chain (d := 8) (m := 256) (n := 128) (e := .f32) _ G Z 5 5 rfl _ _ c5 (fun a b => ?_)
    exact Blocks.dw a3 h3 x1 5 1360 rfl 5 rfl inb_S1x2176x256_S1x272x256_0_1360_0 _ (qF x0 x7 x9)
      (fun k p => StateA.qF5 (hx := hx) ..) (a14.view.readCov (Val := Elt Ideal) (kernelRun0_A.sl.H12_6 (F := Ideal) ..)
      (Rect.unit (s := S8x256x128) ![5, 0, 0] S1x256x128.size inb_S8x256x128_S1x256x128_5_0_0).toLoadRect) a b _ (ld_chain (d := 8) (m := 256) (n :=
      128) (e := .f32) _ _ G Z 5 5 rfl _ c5 a b)
  have c7 : ∀ (r : Fin 8) (a : Fin 256) (b : Fin 128), View.canon (kernelRun0_A.sl.H12_8 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 7 then G r a b
      else Z r a b := by
    unfold kernelRun0_A.sl.H12_8
    refine chain (d := 8) (m := 256) (n := 128) (e := .f32) _ G Z 6 6 rfl _ _ c6 (fun a b => ?_)
    exact Blocks.dw a3 h3 x1 6 1632 rfl 6 rfl inb_S1x2176x256_S1x272x256_0_1632_0 _ (qF x0 x7 x9)
      (fun k p => StateA.qF6 (hx := hx) ..) (a14.view.readCov (Val := Elt Ideal) (kernelRun0_A.sl.H12_7 (F := Ideal) ..)
      (Rect.unit (s := S8x256x128) ![6, 0, 0] S1x256x128.size inb_S8x256x128_S1x256x128_6_0_0).toLoadRect) a b _ (ld_chain (d := 8) (m := 256) (n :=
      128) (e := .f32) _ _ G Z 6 6 rfl _ c6 a b)
  refine Eq.trans (b := if g.val < 7 + 1 then G g a b else Z g a b) ?_ (if_pos g.isLt)
  refine chain (d := 8) (m := 256) (n := 128) (e := .f32) _ G Z 7 7 rfl _ _ c7 (fun a b => ?_) g a b
  exact Blocks.dw a3 h3 x1 7 1904 rfl 7 rfl inb_S1x2176x256_S1x272x256_0_1904_0 _ (qF x0 x7 x9)
      (fun k p => StateA.qF7 (hx := hx) ..) (a14.view.readCov (Val := Elt Ideal) (kernelRun0_A.sl.H12_8 (F := Ideal) ..)
      (Rect.unit (s := S8x256x128) ![7, 0, 0] S1x256x128.size inb_S8x256x128_S1x256x128_7_0_0).toLoadRect) a b _ (ld_chain (d := 8) (m := 256) (n :=
      128) (e := .f32) _ _ G Z 7 7 rfl _ c7 a b)

theorem dwb (hx : Rows x9) (g : Fin 8) (a : Fin 256) (b : Fin 128) : out0_A_13 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 g a b) = 0 + ∑ k : Fin
      272, x1 (ix3 0 (tok g k) a) * qB x0 x8 x9 k g b := by
  unfold out0_A_13
  refine (View.read_writes_junk_apply_eq_canon _ _ _).trans ?_
  unfold kernelRun0_A
  dsimp only
  let G : Fin 8 → Fin 256 → Fin 128 → EReal := fun r a b => 0 + ∑ k : Fin 272, x1 (ix3 0 (tok r k) a) * qB x0 x8 x9 k r b
  let Z : Fin 8 → Fin 256 → Fin 128 → EReal := fun r a b => 0
  have c0 : ∀ (r : Fin 8) (a : Fin 256) (b : Fin 128), View.canon (kernelRun0_A.sl.H13_1 (F := Ideal)) (ix3 r a b) = if r.val < 0 then G r a b else Z r a b := fun r a b => by
    rw [if_neg (Nat.not_lt_zero _)]
    exact (base (d := 8) (m := 256) (n := 128) (e := .f32) _ _ r a b).trans (by simp [k0_pay13, Z, pointwise])
  have c1 : ∀ (r : Fin 8) (a : Fin 256) (b : Fin 128), View.canon (kernelRun0_A.sl.H13_2 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 1 then G r a b
      else Z r a b := by
    unfold kernelRun0_A.sl.H13_2
    refine chain (d := 8) (m := 256) (n := 128) (e := .f32) _ G Z 0 0 rfl _ _ c0 (fun a b => ?_)
    exact Blocks.dw a3 h3 x1 0 0 rfl 0 rfl inb_S1x2176x256_S1x272x256_0_0_0 _ (qB x0 x8 x9) (fun k p
      => StateA.qB0 (hx := hx) ..) (a15.view.readCov (Val := Elt Ideal) (kernelRun0_A.sl.H13_1 (F := Ideal)) (Rect.unit (s := S8x256x128)
      ![0, 0, 0] S1x256x128.size inb_S8x256x128_S1x256x128_0_0_0).toLoadRect) a b _ (ld_chain (d := 8) (m := 256) (n := 128) (e := .f32) _ _ G Z 0 0 rfl
      _ c0 a b)
  have c2 : ∀ (r : Fin 8) (a : Fin 256) (b : Fin 128), View.canon (kernelRun0_A.sl.H13_3 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 2 then G r a b
      else Z r a b := by
    unfold kernelRun0_A.sl.H13_3
    refine chain (d := 8) (m := 256) (n := 128) (e := .f32) _ G Z 1 1 rfl _ _ c1 (fun a b => ?_)
    exact Blocks.dw a3 h3 x1 1 272 rfl 1 rfl inb_S1x2176x256_S1x272x256_0_272_0 _ (qB x0 x8 x9)
      (fun k p => StateA.qB1 (hx := hx) ..) (a15.view.readCov (Val := Elt Ideal) (kernelRun0_A.sl.H13_2 (F := Ideal) ..)
      (Rect.unit (s := S8x256x128) ![1, 0, 0] S1x256x128.size inb_S8x256x128_S1x256x128_1_0_0).toLoadRect) a b _ (ld_chain (d := 8) (m := 256) (n :=
      128) (e := .f32) _ _ G Z 1 1 rfl _ c1 a b)
  have c3 : ∀ (r : Fin 8) (a : Fin 256) (b : Fin 128), View.canon (kernelRun0_A.sl.H13_4 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 3 then G r a b
      else Z r a b := by
    unfold kernelRun0_A.sl.H13_4
    refine chain (d := 8) (m := 256) (n := 128) (e := .f32) _ G Z 2 2 rfl _ _ c2 (fun a b => ?_)
    exact Blocks.dw a3 h3 x1 2 544 rfl 2 rfl inb_S1x2176x256_S1x272x256_0_544_0 _ (qB x0 x8 x9)
      (fun k p => StateA.qB2 (hx := hx) ..) (a15.view.readCov (Val := Elt Ideal) (kernelRun0_A.sl.H13_3 (F := Ideal) ..)
      (Rect.unit (s := S8x256x128) ![2, 0, 0] S1x256x128.size inb_S8x256x128_S1x256x128_2_0_0).toLoadRect) a b _ (ld_chain (d := 8) (m := 256) (n :=
      128) (e := .f32) _ _ G Z 2 2 rfl _ c2 a b)
  have c4 : ∀ (r : Fin 8) (a : Fin 256) (b : Fin 128), View.canon (kernelRun0_A.sl.H13_5 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 4 then G r a b
      else Z r a b := by
    unfold kernelRun0_A.sl.H13_5
    refine chain (d := 8) (m := 256) (n := 128) (e := .f32) _ G Z 3 3 rfl _ _ c3 (fun a b => ?_)
    exact Blocks.dw a3 h3 x1 3 816 rfl 3 rfl inb_S1x2176x256_S1x272x256_0_816_0 _ (qB x0 x8 x9)
      (fun k p => StateA.qB3 (hx := hx) ..) (a15.view.readCov (Val := Elt Ideal) (kernelRun0_A.sl.H13_4 (F := Ideal) ..)
      (Rect.unit (s := S8x256x128) ![3, 0, 0] S1x256x128.size inb_S8x256x128_S1x256x128_3_0_0).toLoadRect) a b _ (ld_chain (d := 8) (m := 256) (n :=
      128) (e := .f32) _ _ G Z 3 3 rfl _ c3 a b)
  have c5 : ∀ (r : Fin 8) (a : Fin 256) (b : Fin 128), View.canon (kernelRun0_A.sl.H13_6 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 5 then G r a b
      else Z r a b := by
    unfold kernelRun0_A.sl.H13_6
    refine chain (d := 8) (m := 256) (n := 128) (e := .f32) _ G Z 4 4 rfl _ _ c4 (fun a b => ?_)
    exact Blocks.dw a3 h3 x1 4 1088 rfl 4 rfl inb_S1x2176x256_S1x272x256_0_1088_0 _ (qB x0 x8 x9)
      (fun k p => StateA.qB4 (hx := hx) ..) (a15.view.readCov (Val := Elt Ideal) (kernelRun0_A.sl.H13_5 (F := Ideal) ..)
      (Rect.unit (s := S8x256x128) ![4, 0, 0] S1x256x128.size inb_S8x256x128_S1x256x128_4_0_0).toLoadRect) a b _ (ld_chain (d := 8) (m := 256) (n :=
      128) (e := .f32) _ _ G Z 4 4 rfl _ c4 a b)
  have c6 : ∀ (r : Fin 8) (a : Fin 256) (b : Fin 128), View.canon (kernelRun0_A.sl.H13_7 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 6 then G r a b
      else Z r a b := by
    unfold kernelRun0_A.sl.H13_7
    refine chain (d := 8) (m := 256) (n := 128) (e := .f32) _ G Z 5 5 rfl _ _ c5 (fun a b => ?_)
    exact Blocks.dw a3 h3 x1 5 1360 rfl 5 rfl inb_S1x2176x256_S1x272x256_0_1360_0 _ (qB x0 x8 x9)
      (fun k p => StateA.qB5 (hx := hx) ..) (a15.view.readCov (Val := Elt Ideal) (kernelRun0_A.sl.H13_6 (F := Ideal) ..)
      (Rect.unit (s := S8x256x128) ![5, 0, 0] S1x256x128.size inb_S8x256x128_S1x256x128_5_0_0).toLoadRect) a b _ (ld_chain (d := 8) (m := 256) (n :=
      128) (e := .f32) _ _ G Z 5 5 rfl _ c5 a b)
  have c7 : ∀ (r : Fin 8) (a : Fin 256) (b : Fin 128), View.canon (kernelRun0_A.sl.H13_8 (F := Ideal) c i a2 h2 a3 h3 a4 h4 a5 h5 a6 h6 a7 h7 a8 h8 a9 h9 a10 h10 a11 h11 a12 h12
      a13 h13 a14 h14 a15 h15 a16 h16 a17 h17 a18 h18 a19 h19 a20 h20 a21 h21 a22 h22 a23 h23 a24 h24 x0 x1 x2 x3 x7 x8 x9) (ix3 r a b) = if r.val < 7 then G r a b
      else Z r a b := by
    unfold kernelRun0_A.sl.H13_8
    refine chain (d := 8) (m := 256) (n := 128) (e := .f32) _ G Z 6 6 rfl _ _ c6 (fun a b => ?_)
    exact Blocks.dw a3 h3 x1 6 1632 rfl 6 rfl inb_S1x2176x256_S1x272x256_0_1632_0 _ (qB x0 x8 x9)
      (fun k p => StateA.qB6 (hx := hx) ..) (a15.view.readCov (Val := Elt Ideal) (kernelRun0_A.sl.H13_7 (F := Ideal) ..)
      (Rect.unit (s := S8x256x128) ![6, 0, 0] S1x256x128.size inb_S8x256x128_S1x256x128_6_0_0).toLoadRect) a b _ (ld_chain (d := 8) (m := 256) (n :=
      128) (e := .f32) _ _ G Z 6 6 rfl _ c6 a b)
  refine Eq.trans (b := if g.val < 7 + 1 then G g a b else Z g a b) ?_ (if_pos g.isLt)
  refine chain (d := 8) (m := 256) (n := 128) (e := .f32) _ G Z 7 7 rfl _ _ c7 (fun a b => ?_) g a b
  exact Blocks.dw a3 h3 x1 7 1904 rfl 7 rfl inb_S1x2176x256_S1x272x256_0_1904_0 _ (qB x0 x8 x9)
      (fun k p => StateA.qB7 (hx := hx) ..) (a15.view.readCov (Val := Elt Ideal) (kernelRun0_A.sl.H13_8 (F := Ideal) ..)
      (Rect.unit (s := S8x256x128) ![7, 0, 0] S1x256x128.size inb_S8x256x128_S1x256x128_7_0_0).toLoadRect) a b _ (ld_chain (d := 8) (m := 256) (n :=
      128) (e := .f32) _ _ G Z 7 7 rfl _ c7 a b)

theorem dvf (hx : Rows x9) (g : Fin 8) (a : Fin 128) (b : Fin 256) : out0_A_14 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 g a b) = 0 + ∑ k : Fin
      272, x2 (ix3 0 (tok g k) a) * x0 (ix3 0 (tok g k) b) := by
  unfold out0_A_14
  refine (View.read_writes_junk_apply_eq_canon _ _ _).trans ?_
  unfold kernelRun0_A
  dsimp only
  let G : Fin 8 → Fin 128 → Fin 256 → EReal := fun r a b => 0 + ∑ k : Fin 272, x2 (ix3 0 (tok r k) a) * x0 (ix3 0 (tok r k) b)
  let Z : Fin 8 → Fin 128 → Fin 256 → EReal := fun r a b => 0
  have c0 : ∀ (r : Fin 8) (a : Fin 128) (b : Fin 256), View.canon (kernelRun0_A.sl.H14_1 (F := Ideal)) (ix3 r a b) = if r.val < 0 then G r a b else Z r a b := fun r a b => by
    rw [if_neg (Nat.not_lt_zero _)]
    exact (base (d := 8) (m := 128) (n := 256) (e := .f32) _ _ r a b).trans (by simp [k0_pay14, Z, pointwise])
  have c1 : ∀ (r : Fin 8) (a : Fin 128) (b : Fin 256), View.canon (kernelRun0_A.sl.H14_2 (F := Ideal) c a2 h2 a4 h4 a16 x0 x2) (ix3 r a b) = if r.val
      < 1 then G r a b else Z r a b := by
    unfold kernelRun0_A.sl.H14_2
    refine chain (d := 8) (m := 128) (n := 256) (e := .f32) _ G Z 0 0 rfl _ _ c0 (fun a b => ?_)
    exact Blocks.dv a2 h2 a4 h4 x0 x2 0 0 rfl 0 rfl inb_S1x2176x256_S1x272x256_0_0_0 inb_S1x2176x128_S1x272x128_0_0_0 (a16.view.readCov (Val
      := Elt Ideal) (kernelRun0_A.sl.H14_1 (F := Ideal)) (Rect.unit (s := S8x128x256) ![0, 0, 0] S1x128x256.size
      inb_S8x128x256_S1x128x256_0_0_0).toLoadRect) a b _ (ld_chain (d := 8) (m := 128) (n := 256) (e := .f32) _ _ G Z 0 0 rfl _ c0 a b)
  have c2 : ∀ (r : Fin 8) (a : Fin 128) (b : Fin 256), View.canon (kernelRun0_A.sl.H14_3 (F := Ideal) c a2 h2 a4 h4 a16 x0 x2) (ix3 r a b) = if r.val
      < 2 then G r a b else Z r a b := by
    unfold kernelRun0_A.sl.H14_3
    refine chain (d := 8) (m := 128) (n := 256) (e := .f32) _ G Z 1 1 rfl _ _ c1 (fun a b => ?_)
    exact Blocks.dv a2 h2 a4 h4 x0 x2 1 272 rfl 1 rfl inb_S1x2176x256_S1x272x256_0_272_0 inb_S1x2176x128_S1x272x128_0_272_0 (a16.view.readCov
      (Val := Elt Ideal) (kernelRun0_A.sl.H14_2 (F := Ideal) ..) (Rect.unit (s := S8x128x256) ![1, 0, 0]
      S1x128x256.size inb_S8x128x256_S1x128x256_1_0_0).toLoadRect) a b _ (ld_chain (d := 8) (m := 128) (n := 256) (e := .f32) _ _ G Z 1 1 rfl _ c1 a b)
  have c3 : ∀ (r : Fin 8) (a : Fin 128) (b : Fin 256), View.canon (kernelRun0_A.sl.H14_4 (F := Ideal) c a2 h2 a4 h4 a16 x0 x2) (ix3 r a b) = if r.val
      < 3 then G r a b else Z r a b := by
    unfold kernelRun0_A.sl.H14_4
    refine chain (d := 8) (m := 128) (n := 256) (e := .f32) _ G Z 2 2 rfl _ _ c2 (fun a b => ?_)
    exact Blocks.dv a2 h2 a4 h4 x0 x2 2 544 rfl 2 rfl inb_S1x2176x256_S1x272x256_0_544_0 inb_S1x2176x128_S1x272x128_0_544_0 (a16.view.readCov
      (Val := Elt Ideal) (kernelRun0_A.sl.H14_3 (F := Ideal) ..) (Rect.unit (s := S8x128x256) ![2, 0, 0]
      S1x128x256.size inb_S8x128x256_S1x128x256_2_0_0).toLoadRect) a b _ (ld_chain (d := 8) (m := 128) (n := 256) (e := .f32) _ _ G Z 2 2 rfl _ c2 a b)
  have c4 : ∀ (r : Fin 8) (a : Fin 128) (b : Fin 256), View.canon (kernelRun0_A.sl.H14_5 (F := Ideal) c a2 h2 a4 h4 a16 x0 x2) (ix3 r a b) = if r.val
      < 4 then G r a b else Z r a b := by
    unfold kernelRun0_A.sl.H14_5
    refine chain (d := 8) (m := 128) (n := 256) (e := .f32) _ G Z 3 3 rfl _ _ c3 (fun a b => ?_)
    exact Blocks.dv a2 h2 a4 h4 x0 x2 3 816 rfl 3 rfl inb_S1x2176x256_S1x272x256_0_816_0 inb_S1x2176x128_S1x272x128_0_816_0 (a16.view.readCov
      (Val := Elt Ideal) (kernelRun0_A.sl.H14_4 (F := Ideal) ..) (Rect.unit (s := S8x128x256) ![3, 0, 0]
      S1x128x256.size inb_S8x128x256_S1x128x256_3_0_0).toLoadRect) a b _ (ld_chain (d := 8) (m := 128) (n := 256) (e := .f32) _ _ G Z 3 3 rfl _ c3 a b)
  have c5 : ∀ (r : Fin 8) (a : Fin 128) (b : Fin 256), View.canon (kernelRun0_A.sl.H14_6 (F := Ideal) c a2 h2 a4 h4 a16 x0 x2) (ix3 r a b) = if r.val
      < 5 then G r a b else Z r a b := by
    unfold kernelRun0_A.sl.H14_6
    refine chain (d := 8) (m := 128) (n := 256) (e := .f32) _ G Z 4 4 rfl _ _ c4 (fun a b => ?_)
    exact Blocks.dv a2 h2 a4 h4 x0 x2 4 1088 rfl 4 rfl inb_S1x2176x256_S1x272x256_0_1088_0 inb_S1x2176x128_S1x272x128_0_1088_0
      (a16.view.readCov (Val := Elt Ideal) (kernelRun0_A.sl.H14_5 (F := Ideal) ..) (Rect.unit (s := S8x128x256) ![4,
      0, 0] S1x128x256.size inb_S8x128x256_S1x128x256_4_0_0).toLoadRect) a b _ (ld_chain (d := 8) (m := 128) (n := 256) (e := .f32) _ _ G Z 4 4 rfl _ c4
      a b)
  have c6 : ∀ (r : Fin 8) (a : Fin 128) (b : Fin 256), View.canon (kernelRun0_A.sl.H14_7 (F := Ideal) c a2 h2 a4 h4 a16 x0 x2) (ix3 r a b) = if r.val
      < 6 then G r a b else Z r a b := by
    unfold kernelRun0_A.sl.H14_7
    refine chain (d := 8) (m := 128) (n := 256) (e := .f32) _ G Z 5 5 rfl _ _ c5 (fun a b => ?_)
    exact Blocks.dv a2 h2 a4 h4 x0 x2 5 1360 rfl 5 rfl inb_S1x2176x256_S1x272x256_0_1360_0 inb_S1x2176x128_S1x272x128_0_1360_0
      (a16.view.readCov (Val := Elt Ideal) (kernelRun0_A.sl.H14_6 (F := Ideal) ..) (Rect.unit (s := S8x128x256) ![5,
      0, 0] S1x128x256.size inb_S8x128x256_S1x128x256_5_0_0).toLoadRect) a b _ (ld_chain (d := 8) (m := 128) (n := 256) (e := .f32) _ _ G Z 5 5 rfl _ c5
      a b)
  have c7 : ∀ (r : Fin 8) (a : Fin 128) (b : Fin 256), View.canon (kernelRun0_A.sl.H14_8 (F := Ideal) c a2 h2 a4 h4 a16 x0 x2) (ix3 r a b) = if r.val
      < 7 then G r a b else Z r a b := by
    unfold kernelRun0_A.sl.H14_8
    refine chain (d := 8) (m := 128) (n := 256) (e := .f32) _ G Z 6 6 rfl _ _ c6 (fun a b => ?_)
    exact Blocks.dv a2 h2 a4 h4 x0 x2 6 1632 rfl 6 rfl inb_S1x2176x256_S1x272x256_0_1632_0 inb_S1x2176x128_S1x272x128_0_1632_0
      (a16.view.readCov (Val := Elt Ideal) (kernelRun0_A.sl.H14_7 (F := Ideal) ..) (Rect.unit (s := S8x128x256) ![6,
      0, 0] S1x128x256.size inb_S8x128x256_S1x128x256_6_0_0).toLoadRect) a b _ (ld_chain (d := 8) (m := 128) (n := 256) (e := .f32) _ _ G Z 6 6 rfl _ c6
      a b)
  refine Eq.trans (b := if g.val < 7 + 1 then G g a b else Z g a b) ?_ (if_pos g.isLt)
  refine chain (d := 8) (m := 128) (n := 256) (e := .f32) _ G Z 7 7 rfl _ _ c7 (fun a b => ?_) g a b
  exact Blocks.dv a2 h2 a4 h4 x0 x2 7 1904 rfl 7 rfl inb_S1x2176x256_S1x272x256_0_1904_0 inb_S1x2176x128_S1x272x128_0_1904_0
      (a16.view.readCov (Val := Elt Ideal) (kernelRun0_A.sl.H14_8 (F := Ideal) ..) (Rect.unit (s := S8x128x256) ![7,
      0, 0] S1x128x256.size inb_S8x128x256_S1x128x256_7_0_0).toLoadRect) a b _ (ld_chain (d := 8) (m := 128) (n := 256) (e := .f32) _ _ G Z 7 7 rfl _ c7
      a b)

theorem dvb (hx : Rows x9) (g : Fin 8) (a : Fin 128) (b : Fin 256) : out0_A_15 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 (ix3 g a b) = 0 + ∑ k : Fin
      272, x3 (ix3 0 (tok g k) a) * x0 (ix3 0 (tok g k) b) := by
  unfold out0_A_15
  refine (View.read_writes_junk_apply_eq_canon _ _ _).trans ?_
  unfold kernelRun0_A
  dsimp only
  let G : Fin 8 → Fin 128 → Fin 256 → EReal := fun r a b => 0 + ∑ k : Fin 272, x3 (ix3 0 (tok r k) a) * x0 (ix3 0 (tok r k) b)
  let Z : Fin 8 → Fin 128 → Fin 256 → EReal := fun r a b => 0
  have c0 : ∀ (r : Fin 8) (a : Fin 128) (b : Fin 256), View.canon (kernelRun0_A.sl.H15_1 (F := Ideal)) (ix3 r a b) = if r.val < 0 then G r a b else Z r a b := fun r a b => by
    rw [if_neg (Nat.not_lt_zero _)]
    exact (base (d := 8) (m := 128) (n := 256) (e := .f32) _ _ r a b).trans (by simp [k0_pay15, Z, pointwise])
  have c1 : ∀ (r : Fin 8) (a : Fin 128) (b : Fin 256), View.canon (kernelRun0_A.sl.H15_2 (F := Ideal) c a2 h2 a5 h5 a17 x0 x3) (ix3 r a b) = if r.val
      < 1 then G r a b else Z r a b := by
    unfold kernelRun0_A.sl.H15_2
    refine chain (d := 8) (m := 128) (n := 256) (e := .f32) _ G Z 0 0 rfl _ _ c0 (fun a b => ?_)
    exact Blocks.dv a2 h2 a5 h5 x0 x3 0 0 rfl 0 rfl inb_S1x2176x256_S1x272x256_0_0_0 inb_S1x2176x128_S1x272x128_0_0_0 (a17.view.readCov (Val
      := Elt Ideal) (kernelRun0_A.sl.H15_1 (F := Ideal)) (Rect.unit (s := S8x128x256) ![0, 0, 0] S1x128x256.size
      inb_S8x128x256_S1x128x256_0_0_0).toLoadRect) a b _ (ld_chain (d := 8) (m := 128) (n := 256) (e := .f32) _ _ G Z 0 0 rfl _ c0 a b)
  have c2 : ∀ (r : Fin 8) (a : Fin 128) (b : Fin 256), View.canon (kernelRun0_A.sl.H15_3 (F := Ideal) c a2 h2 a5 h5 a17 x0 x3) (ix3 r a b) = if r.val
      < 2 then G r a b else Z r a b := by
    unfold kernelRun0_A.sl.H15_3
    refine chain (d := 8) (m := 128) (n := 256) (e := .f32) _ G Z 1 1 rfl _ _ c1 (fun a b => ?_)
    exact Blocks.dv a2 h2 a5 h5 x0 x3 1 272 rfl 1 rfl inb_S1x2176x256_S1x272x256_0_272_0 inb_S1x2176x128_S1x272x128_0_272_0 (a17.view.readCov
      (Val := Elt Ideal) (kernelRun0_A.sl.H15_2 (F := Ideal) ..) (Rect.unit (s := S8x128x256) ![1, 0, 0]
      S1x128x256.size inb_S8x128x256_S1x128x256_1_0_0).toLoadRect) a b _ (ld_chain (d := 8) (m := 128) (n := 256) (e := .f32) _ _ G Z 1 1 rfl _ c1 a b)
  have c3 : ∀ (r : Fin 8) (a : Fin 128) (b : Fin 256), View.canon (kernelRun0_A.sl.H15_4 (F := Ideal) c a2 h2 a5 h5 a17 x0 x3) (ix3 r a b) = if r.val
      < 3 then G r a b else Z r a b := by
    unfold kernelRun0_A.sl.H15_4
    refine chain (d := 8) (m := 128) (n := 256) (e := .f32) _ G Z 2 2 rfl _ _ c2 (fun a b => ?_)
    exact Blocks.dv a2 h2 a5 h5 x0 x3 2 544 rfl 2 rfl inb_S1x2176x256_S1x272x256_0_544_0 inb_S1x2176x128_S1x272x128_0_544_0 (a17.view.readCov
      (Val := Elt Ideal) (kernelRun0_A.sl.H15_3 (F := Ideal) ..) (Rect.unit (s := S8x128x256) ![2, 0, 0]
      S1x128x256.size inb_S8x128x256_S1x128x256_2_0_0).toLoadRect) a b _ (ld_chain (d := 8) (m := 128) (n := 256) (e := .f32) _ _ G Z 2 2 rfl _ c2 a b)
  have c4 : ∀ (r : Fin 8) (a : Fin 128) (b : Fin 256), View.canon (kernelRun0_A.sl.H15_5 (F := Ideal) c a2 h2 a5 h5 a17 x0 x3) (ix3 r a b) = if r.val
      < 4 then G r a b else Z r a b := by
    unfold kernelRun0_A.sl.H15_5
    refine chain (d := 8) (m := 128) (n := 256) (e := .f32) _ G Z 3 3 rfl _ _ c3 (fun a b => ?_)
    exact Blocks.dv a2 h2 a5 h5 x0 x3 3 816 rfl 3 rfl inb_S1x2176x256_S1x272x256_0_816_0 inb_S1x2176x128_S1x272x128_0_816_0 (a17.view.readCov
      (Val := Elt Ideal) (kernelRun0_A.sl.H15_4 (F := Ideal) ..) (Rect.unit (s := S8x128x256) ![3, 0, 0]
      S1x128x256.size inb_S8x128x256_S1x128x256_3_0_0).toLoadRect) a b _ (ld_chain (d := 8) (m := 128) (n := 256) (e := .f32) _ _ G Z 3 3 rfl _ c3 a b)
  have c5 : ∀ (r : Fin 8) (a : Fin 128) (b : Fin 256), View.canon (kernelRun0_A.sl.H15_6 (F := Ideal) c a2 h2 a5 h5 a17 x0 x3) (ix3 r a b) = if r.val
      < 5 then G r a b else Z r a b := by
    unfold kernelRun0_A.sl.H15_6
    refine chain (d := 8) (m := 128) (n := 256) (e := .f32) _ G Z 4 4 rfl _ _ c4 (fun a b => ?_)
    exact Blocks.dv a2 h2 a5 h5 x0 x3 4 1088 rfl 4 rfl inb_S1x2176x256_S1x272x256_0_1088_0 inb_S1x2176x128_S1x272x128_0_1088_0
      (a17.view.readCov (Val := Elt Ideal) (kernelRun0_A.sl.H15_5 (F := Ideal) ..) (Rect.unit (s := S8x128x256) ![4,
      0, 0] S1x128x256.size inb_S8x128x256_S1x128x256_4_0_0).toLoadRect) a b _ (ld_chain (d := 8) (m := 128) (n := 256) (e := .f32) _ _ G Z 4 4 rfl _ c4
      a b)
  have c6 : ∀ (r : Fin 8) (a : Fin 128) (b : Fin 256), View.canon (kernelRun0_A.sl.H15_7 (F := Ideal) c a2 h2 a5 h5 a17 x0 x3) (ix3 r a b) = if r.val
      < 6 then G r a b else Z r a b := by
    unfold kernelRun0_A.sl.H15_7
    refine chain (d := 8) (m := 128) (n := 256) (e := .f32) _ G Z 5 5 rfl _ _ c5 (fun a b => ?_)
    exact Blocks.dv a2 h2 a5 h5 x0 x3 5 1360 rfl 5 rfl inb_S1x2176x256_S1x272x256_0_1360_0 inb_S1x2176x128_S1x272x128_0_1360_0
      (a17.view.readCov (Val := Elt Ideal) (kernelRun0_A.sl.H15_6 (F := Ideal) ..) (Rect.unit (s := S8x128x256) ![5,
      0, 0] S1x128x256.size inb_S8x128x256_S1x128x256_5_0_0).toLoadRect) a b _ (ld_chain (d := 8) (m := 128) (n := 256) (e := .f32) _ _ G Z 5 5 rfl _ c5
      a b)
  have c7 : ∀ (r : Fin 8) (a : Fin 128) (b : Fin 256), View.canon (kernelRun0_A.sl.H15_8 (F := Ideal) c a2 h2 a5 h5 a17 x0 x3) (ix3 r a b) = if r.val
      < 7 then G r a b else Z r a b := by
    unfold kernelRun0_A.sl.H15_8
    refine chain (d := 8) (m := 128) (n := 256) (e := .f32) _ G Z 6 6 rfl _ _ c6 (fun a b => ?_)
    exact Blocks.dv a2 h2 a5 h5 x0 x3 6 1632 rfl 6 rfl inb_S1x2176x256_S1x272x256_0_1632_0 inb_S1x2176x128_S1x272x128_0_1632_0
      (a17.view.readCov (Val := Elt Ideal) (kernelRun0_A.sl.H15_7 (F := Ideal) ..) (Rect.unit (s := S8x128x256) ![6,
      0, 0] S1x128x256.size inb_S8x128x256_S1x128x256_6_0_0).toLoadRect) a b _ (ld_chain (d := 8) (m := 128) (n := 256) (e := .f32) _ _ G Z 6 6 rfl _ c6
      a b)
  refine Eq.trans (b := if g.val < 7 + 1 then G g a b else Z g a b) ?_ (if_pos g.isLt)
  refine chain (d := 8) (m := 128) (n := 256) (e := .f32) _ G Z 7 7 rfl _ _ c7 (fun a b => ?_) g a b
  exact Blocks.dv a2 h2 a5 h5 x0 x3 7 1904 rfl 7 rfl inb_S1x2176x256_S1x272x256_0_1904_0 inb_S1x2176x128_S1x272x128_0_1904_0
      (a17.view.readCov (Val := Elt Ideal) (kernelRun0_A.sl.H15_8 (F := Ideal) ..) (Rect.unit (s := S8x128x256) ![7,
      0, 0] S1x128x256.size inb_S8x128x256_S1x128x256_7_0_0).toLoadRect) a b _ (ld_chain (d := 8) (m := 128) (n := 256) (e := .f32) _ _ G Z 7 7 rfl _ c7
      a b)

theorem dl (hx : Rows x9) (g : Fin 4) (a : Fin 8) (b : Fin 128) : out0_A_16 (F := Ideal) c i a2 h2 a3 h3 a4 h4 a5 h5 a6 h6 a7 h7 a8 h8 a9 h9 a10 h10 a11 h11 a12 h12 a13 h13 a14 h14
    a15 h15 a16 h16 a17 h17 a18 h18 a19 h19 a20 h20 a21 h21 a22 h22 a23 h23 a24 h24 hc0 x0 x1 x2 x3 x4 x5 x6 x7 x8 x9 (ix3 g a b) = 0 + dL x0 x2
      x3 x7 x8 x9 g a b := by
  unfold out0_A_16
  refine (View.read_writes_junk_apply_eq_canon _ _ _).trans ?_
  unfold kernelRun0_A
  dsimp only
  let G : Fin 4 → Fin 8 → Fin 128 → EReal := fun r a b => 0 + dL x0 x2 x3 x7 x8 x9 r a b
  let Z : Fin 4 → Fin 8 → Fin 128 → EReal := fun r a b => 0
  have c0 : ∀ (r : Fin 4) (a : Fin 8) (b : Fin 128), View.canon (kernelRun0_A.sl.H16_1 (F := Ideal)) (ix3 r a b) = if r.val < 0 then G r a b else Z r a b := fun r a b => by
    rw [if_neg (Nat.not_lt_zero _)]
    exact (base (d := 4) (m := 8) (n := 128) (e := .f32) _ _ r a b).trans (by simp [k0_pay16, Z, pointwise])
  have c1 : ∀ (r : Fin 4) (a : Fin 8) (b : Fin 128), View.canon (kernelRun0_A.sl.H16_2 (F := Ideal) c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9) (ix3 r a b) = if r.val < 1 then G r a b
      else Z r a b := by
    unfold kernelRun0_A.sl.H16_2
    refine chain (d := 4) (m := 8) (n := 128) (e := .f32) _ G Z 0 0 rfl _ _ c0 (fun a b => ?_)
    exact (Pay.dl _ _ a b).trans (congrArg₂ (· + ·) (ld_chain (d := 4) (m := 8) (n := 128) (e := .f32) _ _ G Z 0 0 rfl _ c0 a b) (StateA.e0 c i a2 h2 a3 h3 a4 h4 a5 h5 a6 h6 a7 h7
        a8 h8 a9 h9 a10 h10 a11 h11 a12 h12 a13 h13 a14 h14 a15 h15 a16 h16 a17 h17 a18 h18 a19 h19 a20 h20 a21 h21 a22 h22 a23 h23 a24 h24 x0 x2 x3 x7 x8
      x9 hx a b))
  have c2 : ∀ (r : Fin 4) (a : Fin 8) (b : Fin 128), View.canon (kernelRun0_A.sl.H16_3 (F := Ideal) c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9) (ix3 r a b) = if r.val < 2 then G r a b
      else Z r a b := by
    unfold kernelRun0_A.sl.H16_3
    refine chain (d := 4) (m := 8) (n := 128) (e := .f32) _ G Z 1 1 rfl _ _ c1 (fun a b => ?_)
    exact (Pay.dls _ _ a b).trans (congrArg₂ (· + ·) (ld_chain (d := 4) (m := 8) (n := 128) (e := .f32) _ _ G Z 1 1 rfl _ c1 a b) (StateA.e1 c i a2 h2 a3 h3 a4 h4 a5 h5 a6 h6 a7 h7
        a8 h8 a9 h9 a10 h10 a11 h11 a12 h12 a13 h13 a14 h14 a15 h15 a16 h16 a17 h17 a18 h18 a19 h19 a20 h20 a21 h21 a22 h22 a23 h23 a24 h24 x0 x2 x3
      x7 x8 x9 hx a b))
  have c3 : ∀ (r : Fin 4) (a : Fin 8) (b : Fin 128), View.canon (kernelRun0_A.sl.H16_4 (F := Ideal) c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9) (ix3 r a b) = if r.val < 3 then G r a b
      else Z r a b := by
    unfold kernelRun0_A.sl.H16_4
    refine chain (d := 4) (m := 8) (n := 128) (e := .f32) _ G Z 2 2 rfl _ _ c2 (fun a b => ?_)
    exact (Pay.dl _ _ a b).trans (congrArg₂ (· + ·) (ld_chain (d := 4) (m := 8) (n := 128) (e := .f32) _ _ G Z 2 2 rfl _ c2 a b) (StateA.e2 c i a2 h2 a3 h3 a4 h4 a5 h5 a6 h6 a7 h7
        a8 h8 a9 h9 a10 h10 a11 h11 a12 h12 a13 h13 a14 h14 a15 h15 a16 h16 a17 h17 a18 h18 a19 h19 a20 h20 a21 h21 a22 h22 a23 h23 a24 h24 x0 x2 x3 x7 x8
      x9 hx a b))
  refine Eq.trans (b := if g.val < 3 + 1 then G g a b else Z g a b) ?_ (if_pos g.isLt)
  refine chain (d := 4) (m := 8) (n := 128) (e := .f32) _ G Z 3 3 rfl _ _ c3 (fun a b => ?_) g a b
  exact (Pay.dls _ _ a b).trans (congrArg₂ (· + ·) (ld_chain (d := 4) (m := 8) (n := 128) (e := .f32) _ _ G Z 3 3 rfl _ c3 a b) (StateA.e3 c i a2 h2 a3 h3 a4 h4 a5 h5 a6 h6 a7 h7
      a8 h8 a9 h9 a10 h10 a11 h11 a12 h12 a13 h13 a14 h14 a15 h15 a16 h16 a17 h17 a18 h18 a19 h19 a20 h20 a21 h21 a22 h22 a23 h23 a24 h24 x0 x2 x3
      x7 x8 x9 hx a b))

end Cert.KernelIdeal.BodyA

end
-- ==== Proof.StateB.lean ====
module

public import proofs.«01_k».proof.Proof.Gen.KernelIdeal.Frame.RunB
public import proofs.«01_k».proof.Proof.Blocks

@[expose] public section

/-!
The state of the recurrence at a point that continues a block of groups: what the kernel's
loop has left when it ends.
-/

set_option maxRecDepth 16384

noncomputable section

namespace Cert.KernelIdeal.StateB

open Idealize.ShloMosaic Idealize.ShloMosaic.TcCoe Idealize.ShloMosaic.Tactic
open Cert.KernelIdeal Cert.KernelIdeal.Gen Cert.S5 Cert.KernelIdeal.Loop Cert.KernelIdeal.Cells Cert.KernelIdeal.Blocks

variable (c : Dev nD) (i : grid0.Coords)
  (a2 : Memref sig .tc .vmem S1x2176x256 .bf16) (h2 : a2.IsWhole)
  (a3 : Memref sig .tc .vmem S1x2176x256 .bf16) (h3 : a3.IsWhole)
  (a4 : Memref sig .tc .vmem S1x2176x128 .f32) (h4 : a4.IsWhole)
  (a5 : Memref sig .tc .vmem S1x2176x128 .f32) (h5 : a5.IsWhole)
  (a6 : Memref sig .tc .vmem S8x256x256 .bf16) (h6 : a6.IsWhole)
  (a7 : Memref sig .tc .vmem S8x128x256 .bf16) (h7 : a7.IsWhole)
  (a8 : Memref sig .tc .vmem S8x128x256 .bf16) (h8 : a8.IsWhole)
  (a9 : Memref sig .tc .vmem S8x256x128 .bf16) (h9 : a9.IsWhole)
  (a10 : Memref sig .tc .vmem S8x256x128 .bf16) (h10 : a10.IsWhole)
  (a11 : Memref sig .tc .vmem S4x8x128 .f32) (h11 : a11.IsWhole)
  (a12 : Memref sig .tc .vmem S1x2176x256 .bf16) (h12 : a12.IsWhole)
  (a13 : Memref sig .tc .vmem S8x256x256 .f32) (h13 : a13.IsWhole)
  (a14 : Memref sig .tc .vmem S8x256x128 .f32) (h14 : a14.IsWhole)
  (a15 : Memref sig .tc .vmem S8x256x128 .f32) (h15 : a15.IsWhole)
  (a16 : Memref sig .tc .vmem S8x128x256 .f32) (h16 : a16.IsWhole)
  (a17 : Memref sig .tc .vmem S8x128x256 .f32) (h17 : a17.IsWhole)
  (a18 : Memref sig .tc .vmem S4x8x128 .f32) (h18 : a18.IsWhole)
  (a19 : Memref sig .tc .vmem S2176x128 .f32) (h19 : a19.IsWhole)
  (a20 : Memref sig .tc .vmem S2176x128 .f32) (h20 : a20.IsWhole)
  (a21 : Memref sig .tc .vmem S2176x128 .f32) (h21 : a21.IsWhole)
  (a22 : Memref sig .tc .vmem S2176x128 .f32) (h22 : a22.IsWhole)
  (a23 : Memref sig .tc .vmem S2176x128 .f32) (h23 : a23.IsWhole)
  (a24 : Memref sig .tc .vmem S2176x128 .f32) (h24 : a24.IsWhole)
  (x0 x1 : Vec Ideal S1x2176x256 .bf16) (x2 x3 : Vec Ideal S1x2176x128 .f32) (x4 : Vec Ideal S8x256x256 .bf16)
  (x5 x6 : Vec Ideal S8x128x256 .bf16) (x7 x8 : Vec Ideal S8x256x128 .bf16) (x9 : Vec Ideal S4x8x128 .f32)

/-- What the loop carries after `n` trips, and what it has written by then. -/
abbrev ST (n : ℕ) := st_k0_t1 (F := Ideal) Variants.none c none i a2 h2 a3 h3 a4 h4 a5 h5 a6 h6 a7 h7 a8 h8 a9 h9 a10 h10 a11 h11 a12 h12 a13 h13 a14 h14 a15 h15 a16 h16 a17 h17
    a18 h18 a19 h19 a20 h20 a21 h21 a22 h22 a23 h23 a24 h24 (kernelRun0_B.sl.r (F := Ideal) c a11 h11 x9) (kernelRun0_B.sl.r_1 (F := Ideal) c a11 h11 x9) (kernelRun0_B.sl.r_2 (F :=
    Ideal) c a11 h11 x9) (kernelRun0_B.sl.r_3 (F := Ideal) c a11 h11 x9) (kernelRun0_B.sl.r_15 (F :=
  Ideal) c a2 h2 a10 h10 x0 x8) (kernelRun0_B.sl.r_16 (F := Ideal) c a2 h2 a9 h9 x0 x7) (a20.view.writes (Elt Ideal)
  a20.view.junk (kernelRun0_B.sl.HS1_8 (F := Ideal) c a2 h2 a9 h9 x0 x7)) (a22.view.writes (Elt Ideal) a22.view.junk
  (kernelRun0_B.sl.HS3_8 (F := Ideal) c a2 h2 a10 h10 x0 x8)) (a23.view.writes (Elt Ideal) a23.view.junk (kernelRun0_B.sl.HS4_8 (F :=
  Ideal) c a4 h4 x2)) (a24.view.writes (Elt Ideal) a24.view.junk (kernelRun0_B.sl.HS5_8 (F := Ideal) c a5 h5 x3)) (a19.view.writes
  (Elt Ideal) a19.view.junk (kernelRun0_B.sl.HS0_8 (F := Ideal) c a2 h2 a9 h9 x0 x7)) (a21.view.writes (Elt Ideal) a21.view.junk
  (kernelRun0_B.sl.HS2_8 (F := Ideal) c a2 h2 a10 h10 x0 x8)) (k0_pay92, k0_pay92, k0_pay92, k0_pay92, k0_pay92, k0_pay92, k0_pay92,
  k0_pay92) n

/-- What the loop carries after its last trip and what it leaves in the two scratch buffers it writes. -/
theorem inv (hx : Rows x9) (n : ℕ) (hn : n =
    272) : Inv (J x0 x7) (H x2) (J x0 x8) (H x3) (A x9 0) (A x9 1) (A x9 2) (A x9 3) n (ST c i a2 h2 a3 h3 a4 h4 a5 h5 a6 h6 a7 h7 a8 h8 a9 h9 a10 h10 a11 h11 a12 h12 a13 h13 a14
        h14 a15 h15 a16 h16 a17 h17 a18 h18 a19 h19 a20 h20 a21 h21 a22 h22 a23 h23 a24 h24 x0 x2 x3 x7 x8 x9 n).1 (a19.view.read (Elt Ideal)
    (a19.view.writes (Elt Ideal) a19.view.junk ((ST c i a2 h2 a3 h3 a4 h4 a5 h5 a6 h6 a7 h7 a8 h8 a9 h9 a10 h10 a11 h11 a12 h12 a13 h13 a14 h14 a15 h15 a16 h16 a17 h17 a18 h18 a19
        h19 a20 h20 a21 h21 a22 h22 a23 h23 a24 h24 x0 x2 x3 x7 x8 x9 n).2.1 ++ kernelRun0_B.sl.HS0_8 (F := Ideal) c a2 h2 a9 h9 x0
      x7))) (a21.view.read (Elt Ideal)
    (a21.view.writes (Elt Ideal) a21.view.junk ((ST c i a2 h2 a3 h3 a4 h4 a5 h5 a6 h6 a7 h7 a8 h8 a9 h9 a10 h10 a11 h11 a12 h12 a13 h13 a14 h14 a15 h15 a16 h16 a17 h17 a18 h18 a19
        h19 a20 h20 a21 h21 a22 h22 a23 h23 a24 h24 x0 x2 x3 x7 x8 x9 n).2.2 ++ kernelRun0_B.sl.HS2_8 (F := Ideal) c a2 h2 a10 h10 x0
      x8))) := by
  rw [View.writes_append, View.writes_append]
  refine inv_all _ _ _ _ _ _ _ _ _ _ _ _ _ _ _ _ _ _ _ _ _ _ _ _ _ _ _ _ _ _ _ _ _ _ _ _ _ _ _ _ _ _ _ _ _ _ _ _ _ (v242 := _) (v246 := _)
    (hn := hn.le) (h1 := fun r p => lrow a11 h11 x9 0 0 rfl _ r p) (h3 := fun r p => lrow a11 h11 x9 1 1 rfl _ r p)
    (h5 := fun r p => lrow a11 h11 x9 2 2 rfl _ r p) (h7 := fun r p => lrow a11 h11 x9 3 3 rfl _ r p)
    (e1 := hx.e0) (e3 := hx.e1) (e5 := hx.e2) (e7 := hx.e3)
    (h19 := ?_) (h20 := ?_) (h21 := ?_) (h22 := ?_) (h23 := ?_) (h24 := ?_) (hinit := fun r p => ?_)
  · intro k h r p
    unfold kernelRun0_B.sl.HS0_8
    exact strided8 (e := .f32) _ _ _ _ _ _ _ _ _ _ (fun r k p => J x0 x7 k.val r p) _ _ _ _ _ _ _ _
      (fun k p => inp a2 h2 a9 h9 x0 x7 0 0 rfl 0 rfl _ _ k p)
      (fun k p => inp a2 h2 a9 h9 x0 x7 1 272 rfl 1 rfl _ _ k p)
      (fun k p => inp a2 h2 a9 h9 x0 x7 2 544 rfl 2 rfl _ _ k p)
      (fun k p => inp a2 h2 a9 h9 x0 x7 3 816 rfl 3 rfl _ _ k p)
      (fun k p => inp a2 h2 a9 h9 x0 x7 4 1088 rfl 4 rfl _ _ k p)
      (fun k p => inp a2 h2 a9 h9 x0 x7 5 1360 rfl 5 rfl _ _ k p)
      (fun k p => inp a2 h2 a9 h9 x0 x7 6 1632 rfl 6 rfl _ _ k p)
      (fun k p => inp a2 h2 a9 h9 x0 x7 7 1904 rfl 7 rfl _ _ k p) k h r p
  · intro k h r p
    unfold kernelRun0_B.sl.HS1_8
    exact strided8 (e := .f32) _ _ _ _ _ _ _ _ _ _ (fun r k p => J x0 x7 k.val r (rot p)) _ _ _ _ _ _ _ _
      (fun k p => inps a2 h2 a9 h9 x0 x7 0 0 rfl 0 rfl _ _ k p)
      (fun k p => inps a2 h2 a9 h9 x0 x7 1 272 rfl 1 rfl _ _ k p)
      (fun k p => inps a2 h2 a9 h9 x0 x7 2 544 rfl 2 rfl _ _ k p)
      (fun k p => inps a2 h2 a9 h9 x0 x7 3 816 rfl 3 rfl _ _ k p)
      (fun k p => inps a2 h2 a9 h9 x0 x7 4 1088 rfl 4 rfl _ _ k p)
      (fun k p => inps a2 h2 a9 h9 x0 x7 5 1360 rfl 5 rfl _ _ k p)
      (fun k p => inps a2 h2 a9 h9 x0 x7 6 1632 rfl 6 rfl _ _ k p)
      (fun k p => inps a2 h2 a9 h9 x0 x7 7 1904 rfl 7 rfl _ _ k p) k h r p
  · intro k h r p
    unfold kernelRun0_B.sl.HS2_8
    exact strided8 (e := .f32) _ _ _ _ _ _ _ _ _ _ (fun r k p => J x0 x8 k.val r p) _ _ _ _ _ _ _ _
      (fun k p => inp a2 h2 a10 h10 x0 x8 0 0 rfl 0 rfl _ _ k p)
      (fun k p => inp a2 h2 a10 h10 x0 x8 1 272 rfl 1 rfl _ _ k p)
      (fun k p => inp a2 h2 a10 h10 x0 x8 2 544 rfl 2 rfl _ _ k p)
      (fun k p => inp a2 h2 a10 h10 x0 x8 3 816 rfl 3 rfl _ _ k p)
      (fun k p => inp a2 h2 a10 h10 x0 x8 4 1088 rfl 4 rfl _ _ k p)
      (fun k p => inp a2 h2 a10 h10 x0 x8 5 1360 rfl 5 rfl _ _ k p)
      (fun k p => inp a2 h2 a10 h10 x0 x8 6 1632 rfl 6 rfl _ _ k p)
      (fun k p => inp a2 h2 a10 h10 x0 x8 7 1904 rfl 7 rfl _ _ k p) k h r p
  · intro k h r p
    unfold kernelRun0_B.sl.HS3_8
    exact strided8 (e := .f32) _ _ _ _ _ _ _ _ _ _ (fun r k p => J x0 x8 k.val r (rot p)) _ _ _ _ _ _ _ _
      (fun k p => inps a2 h2 a10 h10 x0 x8 0 0 rfl 0 rfl _ _ k p)
      (fun k p => inps a2 h2 a10 h10 x0 x8 1 272 rfl 1 rfl _ _ k p)
      (fun k p => inps a2 h2 a10 h10 x0 x8 2 544 rfl 2 rfl _ _ k p)
      (fun k p => inps a2 h2 a10 h10 x0 x8 3 816 rfl 3 rfl _ _ k p)
      (fun k p => inps a2 h2 a10 h10 x0 x8 4 1088 rfl 4 rfl _ _ k p)
      (fun k p => inps a2 h2 a10 h10 x0 x8 5 1360 rfl 5 rfl _ _ k p)
      (fun k p => inps a2 h2 a10 h10 x0 x8 6 1632 rfl 6 rfl _ _ k p)
      (fun k p => inps a2 h2 a10 h10 x0 x8 7 1904 rfl 7 rfl _ _ k p) k h r p
  · intro k h r p
    unfold kernelRun0_B.sl.HS4_8
    exact strided8 (e := .f32) _ _ _ _ _ _ _ _ _ _ (fun r k p => H x2 k.val r p) _ _ _ _ _ _ _ _
      (fun k p => sav a4 h4 x2 0 0 rfl 0 rfl _ k p)
      (fun k p => sav a4 h4 x2 1 272 rfl 1 rfl _ k p)
      (fun k p => sav a4 h4 x2 2 544 rfl 2 rfl _ k p)
      (fun k p => sav a4 h4 x2 3 816 rfl 3 rfl _ k p)
      (fun k p => sav a4 h4 x2 4 1088 rfl 4 rfl _ k p)
      (fun k p => sav a4 h4 x2 5 1360 rfl 5 rfl _ k p)
      (fun k p => sav a4 h4 x2 6 1632 rfl 6 rfl _ k p)
      (fun k p => sav a4 h4 x2 7 1904 rfl 7 rfl _ k p) k h r p
  · intro k h r p
    unfold kernelRun0_B.sl.HS5_8
    exact strided8 (e := .f32) _ _ _ _ _ _ _ _ _ _ (fun r k p => H x3 k.val r p) _ _ _ _ _ _ _ _
      (fun k p => sav a5 h5 x3 0 0 rfl 0 rfl _ k p)
      (fun k p => sav a5 h5 x3 1 272 rfl 1 rfl _ k p)
      (fun k p => sav a5 h5 x3 2 544 rfl 2 rfl _ k p)
      (fun k p => sav a5 h5 x3 3 816 rfl 3 rfl _ k p)
      (fun k p => sav a5 h5 x3 4 1088 rfl 4 rfl _ k p)
      (fun k p => sav a5 h5 x3 5 1360 rfl 5 rfl _ k p)
      (fun k p => sav a5 h5 x3 6 1632 rfl 6 rfl _ k p)
      (fun k p => sav a5 h5 x3 7 1904 rfl 7 rfl _ k p) k h r p
  · have z := Pay.zero8 r p
    exact ⟨z, z, z, z, z, z, z, z⟩

theorem trips : Scf.trips k0_t1_loop.lb k0_t1_loop.ub k0_t1_loop.st = 272 := trips_eq

/-- The sums the loop ends with are row 0 of the gradient of the complex numbers. -/
theorem e0 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.1 (ix2 r p)
    = dL x0 x2 x3 x7 x8 x9 0 r p
    := by
  refine ((inv (hx := hx) (hn := trips) ..).d1 r p).trans ?_
  rw [trips]
  rfl

/-- The sums the loop ends with are row 1 of the gradient of the complex numbers. -/
theorem e1 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.1 (ix2 r
    (rot p)) = dL x0 x2 x3 x7 x8
    x9 1 r p := by
  refine ((inv (hx := hx) (hn := trips) ..).d2 r (rot p)).trans ?_
  rw [trips]
  rfl

/-- The sums the loop ends with are row 2 of the gradient of the complex numbers. -/
theorem e2 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.2.1 (ix2
    r p) = dL x0 x2 x3 x7 x8 x9 2
    r p := by
  refine ((inv (hx := hx) (hn := trips) ..).d3 r p).trans ?_
  rw [trips]
  rfl

/-- The sums the loop ends with are row 3 of the gradient of the complex numbers. -/
theorem e3 (hx : Rows x9) (r : Fin 8) (p : Fin 128) : (ST c i a2 h2 a3 h3 a4 h4 a5 h5 a6 h6 a7 h7 a8 h8 a9 h9 a10 h10 a11 h11 a12 h12 a13 h13 a14 h14 a15 h15 a16 h16 a17 h17 a18
    h18 a19 h19 a20 h20 a21 h21 a22 h22 a23 h23 a24 h24 x0 x2 x3 x7 x8 x9 (Scf.trips k0_t1_loop.lb k0_t1_loop.ub k0_t1_loop.st)).1.2.2.2.2.2.2.2 (ix2
    r (rot p)) = dL x0 x2 x3 x7 x8
    x9 3 r p := by
  refine ((inv (hx := hx) (hn := trips) ..).d4 r (rot p)).trans ?_
  rw [trips]
  rfl

/-- Group 0's forward gradient states, as the kernel loads them after the loop. -/
theorem qF0 (hx : Rows x9) (k : Fin 272) (p : Fin 128) :
    kernelRun0_B.sl.v300 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 0 p := by
  unfold kernelRun0_B.sl.v300
  refine (ld_srow a19.view _ 0 0 rfl _ k p).trans ?_
  refine ((inv (hx := hx) (hn := trips) ..).m19 k.val k.isLt 0 p).trans ?_
  rw [trips, if_pos (by have := k.isLt; omega)]
  rfl

/-- Group 0's backward gradient states, as the kernel loads them after the loop. -/
theorem qB0 (hx : Rows x9) (k : Fin 272) (p : Fin 128) :
    kernelRun0_B.sl.v301 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 0 p := by
  unfold kernelRun0_B.sl.v301
  refine (ld_srow a21.view _ 0 0 rfl _ k p).trans ?_
  refine ((inv (hx := hx) (hn := trips) ..).m21 k.val k.isLt 0 p).trans ?_
  rw [trips, if_pos (by have := co_lt k.isLt; omega)]
  rfl

/-- Group 1's forward gradient states, as the kernel loads them after the loop. -/
theorem qF1 (hx : Rows x9) (k : Fin 272) (p : Fin 128) :
    kernelRun0_B.sl.v366 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 1 p := by
  unfold kernelRun0_B.sl.v366
  refine (ld_srow a19.view _ 1 1 rfl _ k p).trans ?_
  refine ((inv (hx := hx) (hn := trips) ..).m19 k.val k.isLt 1 p).trans ?_
  rw [trips, if_pos (by have := k.isLt; omega)]
  rfl

/-- Group 1's backward gradient states, as the kernel loads them after the loop. -/
theorem qB1 (hx : Rows x9) (k : Fin 272) (p : Fin 128) :
    kernelRun0_B.sl.v367 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 1 p := by
  unfold kernelRun0_B.sl.v367
  refine (ld_srow a21.view _ 1 1 rfl _ k p).trans ?_
  refine ((inv (hx := hx) (hn := trips) ..).m21 k.val k.isLt 1 p).trans ?_
  rw [trips, if_pos (by have := co_lt k.isLt; omega)]
  rfl

/-- Group 2's forward gradient states, as the kernel loads them after the loop. -/
theorem qF2 (hx : Rows x9) (k : Fin 272) (p : Fin 128) :
    kernelRun0_B.sl.v432 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 2 p := by
  unfold kernelRun0_B.sl.v432
  refine (ld_srow a19.view _ 2 2 rfl _ k p).trans ?_
  refine ((inv (hx := hx) (hn := trips) ..).m19 k.val k.isLt 2 p).trans ?_
  rw [trips, if_pos (by have := k.isLt; omega)]
  rfl

/-- Group 2's backward gradient states, as the kernel loads them after the loop. -/
theorem qB2 (hx : Rows x9) (k : Fin 272) (p : Fin 128) :
    kernelRun0_B.sl.v433 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 2 p := by
  unfold kernelRun0_B.sl.v433
  refine (ld_srow a21.view _ 2 2 rfl _ k p).trans ?_
  refine ((inv (hx := hx) (hn := trips) ..).m21 k.val k.isLt 2 p).trans ?_
  rw [trips, if_pos (by have := co_lt k.isLt; omega)]
  rfl

/-- Group 3's forward gradient states, as the kernel loads them after the loop. -/
theorem qF3 (hx : Rows x9) (k : Fin 272) (p : Fin 128) :
    kernelRun0_B.sl.v498 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 3 p := by
  unfold kernelRun0_B.sl.v498
  refine (ld_srow a19.view _ 3 3 rfl _ k p).trans ?_
  refine ((inv (hx := hx) (hn := trips) ..).m19 k.val k.isLt 3 p).trans ?_
  rw [trips, if_pos (by have := k.isLt; omega)]
  rfl

/-- Group 3's backward gradient states, as the kernel loads them after the loop. -/
theorem qB3 (hx : Rows x9) (k : Fin 272) (p : Fin 128) :
    kernelRun0_B.sl.v499 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 3 p := by
  unfold kernelRun0_B.sl.v499
  refine (ld_srow a21.view _ 3 3 rfl _ k p).trans ?_
  refine ((inv (hx := hx) (hn := trips) ..).m21 k.val k.isLt 3 p).trans ?_
  rw [trips, if_pos (by have := co_lt k.isLt; omega)]
  rfl

/-- Group 4's forward gradient states, as the kernel loads them after the loop. -/
theorem qF4 (hx : Rows x9) (k : Fin 272) (p : Fin 128) :
    kernelRun0_B.sl.v564 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 4 p := by
  unfold kernelRun0_B.sl.v564
  refine (ld_srow a19.view _ 4 4 rfl _ k p).trans ?_
  refine ((inv (hx := hx) (hn := trips) ..).m19 k.val k.isLt 4 p).trans ?_
  rw [trips, if_pos (by have := k.isLt; omega)]
  rfl

/-- Group 4's backward gradient states, as the kernel loads them after the loop. -/
theorem qB4 (hx : Rows x9) (k : Fin 272) (p : Fin 128) :
    kernelRun0_B.sl.v565 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 4 p := by
  unfold kernelRun0_B.sl.v565
  refine (ld_srow a21.view _ 4 4 rfl _ k p).trans ?_
  refine ((inv (hx := hx) (hn := trips) ..).m21 k.val k.isLt 4 p).trans ?_
  rw [trips, if_pos (by have := co_lt k.isLt; omega)]
  rfl

/-- Group 5's forward gradient states, as the kernel loads them after the loop. -/
theorem qF5 (hx : Rows x9) (k : Fin 272) (p : Fin 128) :
    kernelRun0_B.sl.v630 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 5 p := by
  unfold kernelRun0_B.sl.v630
  refine (ld_srow a19.view _ 5 5 rfl _ k p).trans ?_
  refine ((inv (hx := hx) (hn := trips) ..).m19 k.val k.isLt 5 p).trans ?_
  rw [trips, if_pos (by have := k.isLt; omega)]
  rfl

/-- Group 5's backward gradient states, as the kernel loads them after the loop. -/
theorem qB5 (hx : Rows x9) (k : Fin 272) (p : Fin 128) :
    kernelRun0_B.sl.v631 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 5 p := by
  unfold kernelRun0_B.sl.v631
  refine (ld_srow a21.view _ 5 5 rfl _ k p).trans ?_
  refine ((inv (hx := hx) (hn := trips) ..).m21 k.val k.isLt 5 p).trans ?_
  rw [trips, if_pos (by have := co_lt k.isLt; omega)]
  rfl

/-- Group 6's forward gradient states, as the kernel loads them after the loop. -/
theorem qF6 (hx : Rows x9) (k : Fin 272) (p : Fin 128) :
    kernelRun0_B.sl.v696 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 6 p := by
  unfold kernelRun0_B.sl.v696
  refine (ld_srow a19.view _ 6 6 rfl _ k p).trans ?_
  refine ((inv (hx := hx) (hn := trips) ..).m19 k.val k.isLt 6 p).trans ?_
  rw [trips, if_pos (by have := k.isLt; omega)]
  rfl

/-- Group 6's backward gradient states, as the kernel loads them after the loop. -/
theorem qB6 (hx : Rows x9) (k : Fin 272) (p : Fin 128) :
    kernelRun0_B.sl.v697 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 6 p := by
  unfold kernelRun0_B.sl.v697
  refine (ld_srow a21.view _ 6 6 rfl _ k p).trans ?_
  refine ((inv (hx := hx) (hn := trips) ..).m21 k.val k.isLt 6 p).trans ?_
  rw [trips, if_pos (by have := co_lt k.isLt; omega)]
  rfl

/-- Group 7's forward gradient states, as the kernel loads them after the loop. -/
theorem qF7 (hx : Rows x9) (k : Fin 272) (p : Fin 128) :
    kernelRun0_B.sl.v762 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qF x0 x7 x9 k 7 p := by
  unfold kernelRun0_B.sl.v762
  refine (ld_srow a19.view _ 7 7 rfl _ k p).trans ?_
  refine ((inv (hx := hx) (hn := trips) ..).m19 k.val k.isLt 7 p).trans ?_
  rw [trips, if_pos (by have := k.isLt; omega)]
  rfl

/-- Group 7's backward gradient states, as the kernel loads them after the loop. -/
theorem qB7 (hx : Rows x9) (k : Fin 272) (p : Fin 128) :
    kernelRun0_B.sl.v763 (F := Ideal) c i a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 x0 x2 x3 x7 x8 x9 (ix2 k p) = qB x0 x8 x9 k 7 p := by
  unfold kernelRun0_B.sl.v763
  refine (ld_srow a21.view _ 7 7 rfl _ k p).trans ?_
  refine ((inv (hx := hx) (hn := trips) ..).m21 k.val k.isLt 7 p).trans ?_
  rw [trips, if_pos (by have := co_lt k.isLt; omega)]
  rfl

end Cert.KernelIdeal.StateB

end
-- ==== Proof.BodyB.lean ====
module

public import proofs.«01_k».proof.Proof.Gen.KernelIdeal.Frame
public import proofs.«01_k».proof.Proof.StateB

@[expose] public section

/-!
What a point that continues a block of groups leaves in each output block, element by element.
-/

set_option maxRecDepth 16384

noncomputable section

namespace Cert.KernelIdeal.BodyB

open Idealize.ShloMosaic Idealize.ShloMosaic.TcCoe Idealize.ShloMosaic.Tactic
open Cert.KernelIdeal Cert.KernelIdeal.Gen Cert.S5 Cert.KernelIdeal.Loop Cert.KernelIdeal.Cells Cert.KernelIdeal.Blocks

variable (c : Dev nD) (i : grid0.Coords)
  (a2 : Memref sig .tc .vmem S1x2176x256 .bf16) (h2 : a2.IsWhole)
  (a3 : Memref sig .tc .vmem S1x2176x256 .bf16) (h3 : a3.IsWhole)
  (a4 : Memref sig .tc .vmem S1x2176x128 .f32) (h4 : a4.IsWhole)
  (a5 : Memref sig .tc .vmem S1x2176x128 .f32) (h5 : a5.IsWhole)
  (a6 : Memref sig .tc .vmem S8x256x256 .bf16) (h6 : a6.IsWhole)
  (a7 : Memref sig .tc .vmem S8x128x256 .bf16) (h7 : a7.IsWhole)
  (a8 : Memref sig .tc .vmem S8x128x256 .bf16) (h8 : a8.IsWhole)
  (a9 : Memref sig .tc .vmem S8x256x128 .bf16) (h9 : a9.IsWhole)
  (a10 : Memref sig .tc .vmem S8x256x128 .bf16) (h10 : a10.IsWhole)
  (a11 : Memref sig .tc .vmem S4x8x128 .f32) (h11 : a11.IsWhole)
  (a12 : Memref sig .tc .vmem S1x2176x256 .bf16) (h12 : a12.IsWhole)
  (a13 : Memref sig .tc .vmem S8x256x256 .f32) (h13 : a13.IsWhole)
  (a14 : Memref sig .tc .vmem S8x256x128 .f32) (h14 : a14.IsWhole)
  (a15 : Memref sig .tc .vmem S8x256x128 .f32) (h15 : a15.IsWhole)
  (a16 : Memref sig .tc .vmem S8x128x256 .f32) (h16 : a16.IsWhole)
  (a17 : Memref sig .tc .vmem S8x128x256 .f32) (h17 : a17.IsWhole)
  (a18 : Memref sig .tc .vmem S4x8x128 .f32) (h18 : a18.IsWhole)
  (a19 : Memref sig .tc .vmem S2176x128 .f32) (h19 : a19.IsWhole)
  (a20 : Memref sig .tc .vmem S2176x128 .f32) (h20 : a20.IsWhole)
  (a21 : Memref sig .tc .vmem S2176x128 .f32) (h21 : a21.IsWhole)
  (a22 : Memref sig .tc .vmem S2176x128 .f32) (h22 : a22.IsWhole)
  (a23 : Memref sig .tc .vmem S2176x128 .f32) (h23 : a23.IsWhole)
  (a24 : Memref sig .tc .vmem S2176x128 .f32) (h24 : a24.IsWhole)
  (hc0 : ¬cond0_0 i)
  (x0 x1 : Vec Ideal S1x2176x256 .bf16) (x2 x3 : Vec Ideal S1x2176x128 .f32) (x4 : Vec Ideal S8x256x256 .bf16)
  (x5 x6 : Vec Ideal S8x128x256 .bf16) (x7 x8 : Vec Ideal S8x256x128 .bf16) (x9 : Vec Ideal S4x8x128 .f32)
  (xo11 : Vec Ideal S8x256x256 .f32) (xo12 xo13 : Vec Ideal S8x256x128 .f32) (xo14 xo15 : Vec Ideal S8x128x256 .f32)
  (xo16 : Vec Ideal S4x8x128 .f32)

/-- The gradient of the inputs. -/
theorem du (hx : Rows x9) (g : Fin 8) (k : Fin 272) (t : Fin 256) : out0_B_10 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 0 (tok g k) t) = (∑ s : Fin 256, x0 (ix3 0 (tok g k) s) * x4 (ix3 g s t)) + (∑ p : Fin 128, qF x0 x7 x9 k g p * x5 (ix3 g p t)) + ∑ p :
      Fin 128, qB x0 x8 x9 k g p * x6 (ix3 g p t) := by
  unfold out0_B_10
  refine (View.read_writes_junk_apply_eq_canon _ _ _).trans ?_
  unfold kernelRun0_B
  dsimp only
  let G : Fin 8 → Fin 272 → Fin 256 → EReal := fun g k t => (∑ s : Fin 256, x0 (ix3 0 (tok g k) s) * x4 (ix3 g s t)) + (∑ p : Fin 128, qF x0 x7 x9 k g p
      * x5 (ix3 g p t)) + ∑ p : Fin 128, qB x0 x8 x9 k g p * x6 (ix3 g p t)
  let Z : Fin 8 → Fin 272 → Fin 256 → EReal := fun r k t =>
    View.canon (Val := Elt Ideal) (s := S1x2176x256) (e := .bf16) [] (ix3 0 (tok r k) t)
  have z : ∀ (r : Fin 8) (k : Fin 272) (t : Fin 256), View.canon (Val := Elt Ideal) (s := S1x2176x256) (e := .bf16) [] (ix3 0 (tok r k) t)
      = if r.val < 0 then G r k t else
      View.canon (Val := Elt Ideal) (s := S1x2176x256) (e := .bf16) [] (ix3 0 (tok r k) t) :=
    fun r k t => (if_neg (Nat.not_lt_zero _)).symm
  refine Eq.trans (b := if g.val < 7 + 1 then G g k t else View.canon (Val := Elt Ideal) (s := S1x2176x256) (e := .bf16) []
    (ix3 0 (tok g k) t)) ?_ (if_pos g.isLt)
  refine chainR (n := 256) (e := .bf16) _ G Z 7 7 1904 rfl rfl _ _ ?_ (fun k t => ?_) g k t
  swap
  · exact Blocks.du a2 h2 a6 h6 a7 h7 a8 h8 x0 x4 x5 x6 7 1904 rfl 7 rfl inb_S1x2176x256_S1x272x256_0_1904_0 _ _ inb_S8x256x256_S1x256x256_7_0_0 inb_S8x128x256_S1x128x256_7_0_0
      inb_S8x128x256_S1x128x256_7_0_0 (qF x0 x7 x9) (qB x0 x8 x9) (fun k p => StateB.qF7 (hx := hx) ..) (fun k p => StateB.qB7 (hx := hx) ..) k t
  refine chainR (n := 256) (e := .bf16) _ G Z 6 6 1632 rfl rfl _ _ ?_ (fun k t => ?_)
  swap
  · exact Blocks.du a2 h2 a6 h6 a7 h7 a8 h8 x0 x4 x5 x6 6 1632 rfl 6 rfl inb_S1x2176x256_S1x272x256_0_1632_0 _ _ inb_S8x256x256_S1x256x256_6_0_0 inb_S8x128x256_S1x128x256_6_0_0
      inb_S8x128x256_S1x128x256_6_0_0 (qF x0 x7 x9) (qB x0 x8 x9) (fun k p => StateB.qF6 (hx := hx) ..) (fun k p => StateB.qB6 (hx := hx) ..) k t
  refine chainR (n := 256) (e := .bf16) _ G Z 5 5 1360 rfl rfl _ _ ?_ (fun k t => ?_)
  swap
  · exact Blocks.du a2 h2 a6 h6 a7 h7 a8 h8 x0 x4 x5 x6 5 1360 rfl 5 rfl inb_S1x2176x256_S1x272x256_0_1360_0 _ _ inb_S8x256x256_S1x256x256_5_0_0 inb_S8x128x256_S1x128x256_5_0_0
      inb_S8x128x256_S1x128x256_5_0_0 (qF x0 x7 x9) (qB x0 x8 x9) (fun k p => StateB.qF5 (hx := hx) ..) (fun k p => StateB.qB5 (hx := hx) ..) k t
  refine chainR (n := 256) (e := .bf16) _ G Z 4 4 1088 rfl rfl _ _ ?_ (fun k t => ?_)
  swap
  · exact Blocks.du a2 h2 a6 h6 a7 h7 a8 h8 x0 x4 x5 x6 4 1088 rfl 4 rfl inb_S1x2176x256_S1x272x256_0_1088_0 _ _ inb_S8x256x256_S1x256x256_4_0_0 inb_S8x128x256_S1x128x256_4_0_0
      inb_S8x128x256_S1x128x256_4_0_0 (qF x0 x7 x9) (qB x0 x8 x9) (fun k p => StateB.qF4 (hx := hx) ..) (fun k p => StateB.qB4 (hx := hx) ..) k t
  refine chainR (n := 256) (e := .bf16) _ G Z 3 3 816 rfl rfl _ _ ?_ (fun k t => ?_)
  swap
  · exact Blocks.du a2 h2 a6 h6 a7 h7 a8 h8 x0 x4 x5 x6 3 816 rfl 3 rfl inb_S1x2176x256_S1x272x256_0_816_0 _ _ inb_S8x256x256_S1x256x256_3_0_0 inb_S8x128x256_S1x128x256_3_0_0
      inb_S8x128x256_S1x128x256_3_0_0 (qF x0 x7 x9) (qB x0 x8 x9) (fun k p => StateB.qF3 (hx := hx) ..) (fun k p => StateB.qB3 (hx := hx) ..) k t
  refine chainR (n := 256) (e := .bf16) _ G Z 2 2 544 rfl rfl _ _ ?_ (fun k t => ?_)
  swap
  · exact Blocks.du a2 h2 a6 h6 a7 h7 a8 h8 x0 x4 x5 x6 2 544 rfl 2 rfl inb_S1x2176x256_S1x272x256_0_544_0 _ _ inb_S8x256x256_S1x256x256_2_0_0 inb_S8x128x256_S1x128x256_2_0_0
      inb_S8x128x256_S1x128x256_2_0_0 (qF x0 x7 x9) (qB x0 x8 x9) (fun k p => StateB.qF2 (hx := hx) ..) (fun k p => StateB.qB2 (hx := hx) ..) k t
  refine chainR (n := 256) (e := .bf16) _ G Z 1 1 272 rfl rfl _ _ ?_ (fun k t => ?_)
  swap
  · exact Blocks.du a2 h2 a6 h6 a7 h7 a8 h8 x0 x4 x5 x6 1 272 rfl 1 rfl inb_S1x2176x256_S1x272x256_0_272_0 _ _ inb_S8x256x256_S1x256x256_1_0_0 inb_S8x128x256_S1x128x256_1_0_0
      inb_S8x128x256_S1x128x256_1_0_0 (qF x0 x7 x9) (qB x0 x8 x9) (fun k p => StateB.qF1 (hx := hx) ..) (fun k p => StateB.qB1 (hx := hx) ..) k t
  refine chainR (n := 256) (e := .bf16) _ G Z 0 0 0 rfl rfl _ _ ?_ (fun k t => ?_)
  swap
  · exact Blocks.du a2 h2 a6 h6 a7 h7 a8 h8 x0 x4 x5 x6 0 0 rfl 0 rfl inb_S1x2176x256_S1x272x256_0_0_0 _ _ inb_S8x256x256_S1x256x256_0_0_0 inb_S8x128x256_S1x128x256_0_0_0
      inb_S8x128x256_S1x128x256_0_0_0 (qF x0 x7 x9) (qB x0 x8 x9) (fun k p => StateB.qF0 (hx := hx) ..) (fun k p => StateB.qB0 (hx := hx) ..) k t
  exact z

theorem dtz (hx : Rows x9) (g : Fin 8) (a : Fin 256) (b : Fin 256) : out0_B_11 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo11 (ix3 g a b) + ∑ k : Fin 272, x1 (ix3 0 (tok g k) a) * x0 (ix3 0 (tok g k) b) := by
  unfold out0_B_11
  refine (View.read_writes_junk_apply_eq_canon _ _ _).trans ?_
  unfold kernelRun0_B
  dsimp only
  let G : Fin 8 → Fin 256 → Fin 256 → EReal := fun r a b => xo11 (ix3 r a b) + ∑ k : Fin 272, x1 (ix3 0 (tok r k) a) * x0 (ix3 0 (tok r k) b)
  let Z : Fin 8 → Fin 256 → Fin 256 → EReal := fun r a b =>
    View.canon (Val := Elt Ideal) (s := S8x256x256) (e := .f32) [] (ix3 r a b)
  have z : ∀ (r : Fin 8) (a : Fin 256) (b : Fin 256), View.canon (Val := Elt Ideal) (s := S8x256x256) (e := .f32) [] (ix3 r a b)
      = if r.val < 0 then G r a b else Z r a b := fun r a b => (if_neg (Nat.not_lt_zero _)).symm
  refine Eq.trans (b := if g.val < 7 + 1 then G g a b else Z g a b) ?_ (if_pos g.isLt)
  refine chain (d := 8) (m := 256) (n := 256) (e := .f32) _ G Z 7 7 rfl _ _ ?_ (fun a b => ?_) g a b
  swap
  · exact Blocks.dtz a2 h2 a3 h3 x0 x1 7 1904 rfl 7 rfl inb_S1x2176x256_S1x272x256_0_1904_0 inb_S1x2176x256_S1x272x256_0_1904_0
      (a13.view.readAt (Elt Ideal) (blk 8 256 256 7 inb_S8x256x256_S1x256x256_7_0_0) (h13.unread xo11)) a b _ (ld_blk a13 h13 xo11 7 7 rfl _ a
      b)
  refine chain (d := 8) (m := 256) (n := 256) (e := .f32) _ G Z 6 6 rfl _ _ ?_ (fun a b => ?_)
  swap
  · exact Blocks.dtz a2 h2 a3 h3 x0 x1 6 1632 rfl 6 rfl inb_S1x2176x256_S1x272x256_0_1632_0 inb_S1x2176x256_S1x272x256_0_1632_0
      (a13.view.readAt (Elt Ideal) (blk 8 256 256 6 inb_S8x256x256_S1x256x256_6_0_0) (h13.unread xo11)) a b _ (ld_blk a13 h13 xo11 6 6 rfl _ a
      b)
  refine chain (d := 8) (m := 256) (n := 256) (e := .f32) _ G Z 5 5 rfl _ _ ?_ (fun a b => ?_)
  swap
  · exact Blocks.dtz a2 h2 a3 h3 x0 x1 5 1360 rfl 5 rfl inb_S1x2176x256_S1x272x256_0_1360_0 inb_S1x2176x256_S1x272x256_0_1360_0
      (a13.view.readAt (Elt Ideal) (blk 8 256 256 5 inb_S8x256x256_S1x256x256_5_0_0) (h13.unread xo11)) a b _ (ld_blk a13 h13 xo11 5 5 rfl _ a
      b)
  refine chain (d := 8) (m := 256) (n := 256) (e := .f32) _ G Z 4 4 rfl _ _ ?_ (fun a b => ?_)
  swap
  · exact Blocks.dtz a2 h2 a3 h3 x0 x1 4 1088 rfl 4 rfl inb_S1x2176x256_S1x272x256_0_1088_0 inb_S1x2176x256_S1x272x256_0_1088_0
      (a13.view.readAt (Elt Ideal) (blk 8 256 256 4 inb_S8x256x256_S1x256x256_4_0_0) (h13.unread xo11)) a b _ (ld_blk a13 h13 xo11 4 4 rfl _ a
      b)
  refine chain (d := 8) (m := 256) (n := 256) (e := .f32) _ G Z 3 3 rfl _ _ ?_ (fun a b => ?_)
  swap
  · exact Blocks.dtz a2 h2 a3 h3 x0 x1 3 816 rfl 3 rfl inb_S1x2176x256_S1x272x256_0_816_0 inb_S1x2176x256_S1x272x256_0_816_0 (a13.view.readAt
      (Elt Ideal) (blk 8 256 256 3 inb_S8x256x256_S1x256x256_3_0_0) (h13.unread xo11)) a b _ (ld_blk a13 h13 xo11 3 3 rfl _ a b)
  refine chain (d := 8) (m := 256) (n := 256) (e := .f32) _ G Z 2 2 rfl _ _ ?_ (fun a b => ?_)
  swap
  · exact Blocks.dtz a2 h2 a3 h3 x0 x1 2 544 rfl 2 rfl inb_S1x2176x256_S1x272x256_0_544_0 inb_S1x2176x256_S1x272x256_0_544_0 (a13.view.readAt
      (Elt Ideal) (blk 8 256 256 2 inb_S8x256x256_S1x256x256_2_0_0) (h13.unread xo11)) a b _ (ld_blk a13 h13 xo11 2 2 rfl _ a b)
  refine chain (d := 8) (m := 256) (n := 256) (e := .f32) _ G Z 1 1 rfl _ _ ?_ (fun a b => ?_)
  swap
  · exact Blocks.dtz a2 h2 a3 h3 x0 x1 1 272 rfl 1 rfl inb_S1x2176x256_S1x272x256_0_272_0 inb_S1x2176x256_S1x272x256_0_272_0 (a13.view.readAt
      (Elt Ideal) (blk 8 256 256 1 inb_S8x256x256_S1x256x256_1_0_0) (h13.unread xo11)) a b _ (ld_blk a13 h13 xo11 1 1 rfl _ a b)
  refine chain (d := 8) (m := 256) (n := 256) (e := .f32) _ G Z 0 0 rfl _ _ ?_ (fun a b => ?_)
  swap
  · exact Blocks.dtz a2 h2 a3 h3 x0 x1 0 0 rfl 0 rfl inb_S1x2176x256_S1x272x256_0_0_0 inb_S1x2176x256_S1x272x256_0_0_0 (a13.view.readAt (Elt
      Ideal) (blk 8 256 256 0 inb_S8x256x256_S1x256x256_0_0_0) (h13.unread xo11)) a b _ (ld_blk a13 h13 xo11 0 0 rfl _ a b)
  exact z

theorem dwf (hx : Rows x9) (g : Fin 8) (a : Fin 256) (b : Fin 128) : out0_B_12 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo12 (ix3 g a b) + ∑ k : Fin 272, x1 (ix3 0 (tok g k) a) * qF x0 x7 x9 k g b := by
  unfold out0_B_12
  refine (View.read_writes_junk_apply_eq_canon _ _ _).trans ?_
  unfold kernelRun0_B
  dsimp only
  let G : Fin 8 → Fin 256 → Fin 128 → EReal := fun r a b => xo12 (ix3 r a b) + ∑ k : Fin 272, x1 (ix3 0 (tok r k) a) * qF x0 x7 x9 k r b
  let Z : Fin 8 → Fin 256 → Fin 128 → EReal := fun r a b =>
    View.canon (Val := Elt Ideal) (s := S8x256x128) (e := .f32) [] (ix3 r a b)
  have z : ∀ (r : Fin 8) (a : Fin 256) (b : Fin 128), View.canon (Val := Elt Ideal) (s := S8x256x128) (e := .f32) [] (ix3 r a b)
      = if r.val < 0 then G r a b else Z r a b := fun r a b => (if_neg (Nat.not_lt_zero _)).symm
  refine Eq.trans (b := if g.val < 7 + 1 then G g a b else Z g a b) ?_ (if_pos g.isLt)
  refine chain (d := 8) (m := 256) (n := 128) (e := .f32) _ G Z 7 7 rfl _ _ ?_ (fun a b => ?_) g a b
  swap
  · exact Blocks.dw a3 h3 x1 7 1904 rfl 7 rfl inb_S1x2176x256_S1x272x256_0_1904_0 _ (qF x0 x7 x9)
      (fun k p => StateB.qF7 (hx := hx) ..) (a14.view.readAt (Elt Ideal) (blk 8 256 128 7 inb_S8x256x128_S1x256x128_7_0_0) (h14.unread
      xo12)) a b _ (ld_blk a14 h14 xo12 7 7 rfl _ a b)
  refine chain (d := 8) (m := 256) (n := 128) (e := .f32) _ G Z 6 6 rfl _ _ ?_ (fun a b => ?_)
  swap
  · exact Blocks.dw a3 h3 x1 6 1632 rfl 6 rfl inb_S1x2176x256_S1x272x256_0_1632_0 _ (qF x0 x7 x9)
      (fun k p => StateB.qF6 (hx := hx) ..) (a14.view.readAt (Elt Ideal) (blk 8 256 128 6 inb_S8x256x128_S1x256x128_6_0_0) (h14.unread
      xo12)) a b _ (ld_blk a14 h14 xo12 6 6 rfl _ a b)
  refine chain (d := 8) (m := 256) (n := 128) (e := .f32) _ G Z 5 5 rfl _ _ ?_ (fun a b => ?_)
  swap
  · exact Blocks.dw a3 h3 x1 5 1360 rfl 5 rfl inb_S1x2176x256_S1x272x256_0_1360_0 _ (qF x0 x7 x9)
      (fun k p => StateB.qF5 (hx := hx) ..) (a14.view.readAt (Elt Ideal) (blk 8 256 128 5 inb_S8x256x128_S1x256x128_5_0_0) (h14.unread
      xo12)) a b _ (ld_blk a14 h14 xo12 5 5 rfl _ a b)
  refine chain (d := 8) (m := 256) (n := 128) (e := .f32) _ G Z 4 4 rfl _ _ ?_ (fun a b => ?_)
  swap
  · exact Blocks.dw a3 h3 x1 4 1088 rfl 4 rfl inb_S1x2176x256_S1x272x256_0_1088_0 _ (qF x0 x7 x9)
      (fun k p => StateB.qF4 (hx := hx) ..) (a14.view.readAt (Elt Ideal) (blk 8 256 128 4 inb_S8x256x128_S1x256x128_4_0_0) (h14.unread
      xo12)) a b _ (ld_blk a14 h14 xo12 4 4 rfl _ a b)
  refine chain (d := 8) (m := 256) (n := 128) (e := .f32) _ G Z 3 3 rfl _ _ ?_ (fun a b => ?_)
  swap
  · exact Blocks.dw a3 h3 x1 3 816 rfl 3 rfl inb_S1x2176x256_S1x272x256_0_816_0 _ (qF x0 x7 x9)
      (fun k p => StateB.qF3 (hx := hx) ..) (a14.view.readAt (Elt Ideal) (blk 8 256 128 3 inb_S8x256x128_S1x256x128_3_0_0) (h14.unread
      xo12)) a b _ (ld_blk a14 h14 xo12 3 3 rfl _ a b)
  refine chain (d := 8) (m := 256) (n := 128) (e := .f32) _ G Z 2 2 rfl _ _ ?_ (fun a b => ?_)
  swap
  · exact Blocks.dw a3 h3 x1 2 544 rfl 2 rfl inb_S1x2176x256_S1x272x256_0_544_0 _ (qF x0 x7 x9)
      (fun k p => StateB.qF2 (hx := hx) ..) (a14.view.readAt (Elt Ideal) (blk 8 256 128 2 inb_S8x256x128_S1x256x128_2_0_0) (h14.unread
      xo12)) a b _ (ld_blk a14 h14 xo12 2 2 rfl _ a b)
  refine chain (d := 8) (m := 256) (n := 128) (e := .f32) _ G Z 1 1 rfl _ _ ?_ (fun a b => ?_)
  swap
  · exact Blocks.dw a3 h3 x1 1 272 rfl 1 rfl inb_S1x2176x256_S1x272x256_0_272_0 _ (qF x0 x7 x9)
      (fun k p => StateB.qF1 (hx := hx) ..) (a14.view.readAt (Elt Ideal) (blk 8 256 128 1 inb_S8x256x128_S1x256x128_1_0_0) (h14.unread
      xo12)) a b _ (ld_blk a14 h14 xo12 1 1 rfl _ a b)
  refine chain (d := 8) (m := 256) (n := 128) (e := .f32) _ G Z 0 0 rfl _ _ ?_ (fun a b => ?_)
  swap
  · exact Blocks.dw a3 h3 x1 0 0 rfl 0 rfl inb_S1x2176x256_S1x272x256_0_0_0 _ (qF x0 x7 x9) (fun k p
      => StateB.qF0 (hx := hx) ..) (a14.view.readAt (Elt Ideal) (blk 8 256 128 0 inb_S8x256x128_S1x256x128_0_0_0) (h14.unread xo12)) a b
      _ (ld_blk a14 h14 xo12 0 0 rfl _ a b)
  exact z

theorem dwb (hx : Rows x9) (g : Fin 8) (a : Fin 256) (b : Fin 128) : out0_B_13 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo13 (ix3 g a b) + ∑ k : Fin 272, x1 (ix3 0 (tok g k) a) * qB x0 x8 x9 k g b := by
  unfold out0_B_13
  refine (View.read_writes_junk_apply_eq_canon _ _ _).trans ?_
  unfold kernelRun0_B
  dsimp only
  let G : Fin 8 → Fin 256 → Fin 128 → EReal := fun r a b => xo13 (ix3 r a b) + ∑ k : Fin 272, x1 (ix3 0 (tok r k) a) * qB x0 x8 x9 k r b
  let Z : Fin 8 → Fin 256 → Fin 128 → EReal := fun r a b =>
    View.canon (Val := Elt Ideal) (s := S8x256x128) (e := .f32) [] (ix3 r a b)
  have z : ∀ (r : Fin 8) (a : Fin 256) (b : Fin 128), View.canon (Val := Elt Ideal) (s := S8x256x128) (e := .f32) [] (ix3 r a b)
      = if r.val < 0 then G r a b else Z r a b := fun r a b => (if_neg (Nat.not_lt_zero _)).symm
  refine Eq.trans (b := if g.val < 7 + 1 then G g a b else Z g a b) ?_ (if_pos g.isLt)
  refine chain (d := 8) (m := 256) (n := 128) (e := .f32) _ G Z 7 7 rfl _ _ ?_ (fun a b => ?_) g a b
  swap
  · exact Blocks.dw a3 h3 x1 7 1904 rfl 7 rfl inb_S1x2176x256_S1x272x256_0_1904_0 _ (qB x0 x8 x9)
      (fun k p => StateB.qB7 (hx := hx) ..) (a15.view.readAt (Elt Ideal) (blk 8 256 128 7 inb_S8x256x128_S1x256x128_7_0_0) (h15.unread
      xo13)) a b _ (ld_blk a15 h15 xo13 7 7 rfl _ a b)
  refine chain (d := 8) (m := 256) (n := 128) (e := .f32) _ G Z 6 6 rfl _ _ ?_ (fun a b => ?_)
  swap
  · exact Blocks.dw a3 h3 x1 6 1632 rfl 6 rfl inb_S1x2176x256_S1x272x256_0_1632_0 _ (qB x0 x8 x9)
      (fun k p => StateB.qB6 (hx := hx) ..) (a15.view.readAt (Elt Ideal) (blk 8 256 128 6 inb_S8x256x128_S1x256x128_6_0_0) (h15.unread
      xo13)) a b _ (ld_blk a15 h15 xo13 6 6 rfl _ a b)
  refine chain (d := 8) (m := 256) (n := 128) (e := .f32) _ G Z 5 5 rfl _ _ ?_ (fun a b => ?_)
  swap
  · exact Blocks.dw a3 h3 x1 5 1360 rfl 5 rfl inb_S1x2176x256_S1x272x256_0_1360_0 _ (qB x0 x8 x9)
      (fun k p => StateB.qB5 (hx := hx) ..) (a15.view.readAt (Elt Ideal) (blk 8 256 128 5 inb_S8x256x128_S1x256x128_5_0_0) (h15.unread
      xo13)) a b _ (ld_blk a15 h15 xo13 5 5 rfl _ a b)
  refine chain (d := 8) (m := 256) (n := 128) (e := .f32) _ G Z 4 4 rfl _ _ ?_ (fun a b => ?_)
  swap
  · exact Blocks.dw a3 h3 x1 4 1088 rfl 4 rfl inb_S1x2176x256_S1x272x256_0_1088_0 _ (qB x0 x8 x9)
      (fun k p => StateB.qB4 (hx := hx) ..) (a15.view.readAt (Elt Ideal) (blk 8 256 128 4 inb_S8x256x128_S1x256x128_4_0_0) (h15.unread
      xo13)) a b _ (ld_blk a15 h15 xo13 4 4 rfl _ a b)
  refine chain (d := 8) (m := 256) (n := 128) (e := .f32) _ G Z 3 3 rfl _ _ ?_ (fun a b => ?_)
  swap
  · exact Blocks.dw a3 h3 x1 3 816 rfl 3 rfl inb_S1x2176x256_S1x272x256_0_816_0 _ (qB x0 x8 x9)
      (fun k p => StateB.qB3 (hx := hx) ..) (a15.view.readAt (Elt Ideal) (blk 8 256 128 3 inb_S8x256x128_S1x256x128_3_0_0) (h15.unread
      xo13)) a b _ (ld_blk a15 h15 xo13 3 3 rfl _ a b)
  refine chain (d := 8) (m := 256) (n := 128) (e := .f32) _ G Z 2 2 rfl _ _ ?_ (fun a b => ?_)
  swap
  · exact Blocks.dw a3 h3 x1 2 544 rfl 2 rfl inb_S1x2176x256_S1x272x256_0_544_0 _ (qB x0 x8 x9)
      (fun k p => StateB.qB2 (hx := hx) ..) (a15.view.readAt (Elt Ideal) (blk 8 256 128 2 inb_S8x256x128_S1x256x128_2_0_0) (h15.unread
      xo13)) a b _ (ld_blk a15 h15 xo13 2 2 rfl _ a b)
  refine chain (d := 8) (m := 256) (n := 128) (e := .f32) _ G Z 1 1 rfl _ _ ?_ (fun a b => ?_)
  swap
  · exact Blocks.dw a3 h3 x1 1 272 rfl 1 rfl inb_S1x2176x256_S1x272x256_0_272_0 _ (qB x0 x8 x9)
      (fun k p => StateB.qB1 (hx := hx) ..) (a15.view.readAt (Elt Ideal) (blk 8 256 128 1 inb_S8x256x128_S1x256x128_1_0_0) (h15.unread
      xo13)) a b _ (ld_blk a15 h15 xo13 1 1 rfl _ a b)
  refine chain (d := 8) (m := 256) (n := 128) (e := .f32) _ G Z 0 0 rfl _ _ ?_ (fun a b => ?_)
  swap
  · exact Blocks.dw a3 h3 x1 0 0 rfl 0 rfl inb_S1x2176x256_S1x272x256_0_0_0 _ (qB x0 x8 x9) (fun k p
      => StateB.qB0 (hx := hx) ..) (a15.view.readAt (Elt Ideal) (blk 8 256 128 0 inb_S8x256x128_S1x256x128_0_0_0) (h15.unread xo13)) a b
      _ (ld_blk a15 h15 xo13 0 0 rfl _ a b)
  exact z

theorem dvf (hx : Rows x9) (g : Fin 8) (a : Fin 128) (b : Fin 256) : out0_B_14 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo14 (ix3 g a b) + ∑ k : Fin 272, x2 (ix3 0 (tok g k) a) * x0 (ix3 0 (tok g k) b) := by
  unfold out0_B_14
  refine (View.read_writes_junk_apply_eq_canon _ _ _).trans ?_
  unfold kernelRun0_B
  dsimp only
  let G : Fin 8 → Fin 128 → Fin 256 → EReal := fun r a b => xo14 (ix3 r a b) + ∑ k : Fin 272, x2 (ix3 0 (tok r k) a) * x0 (ix3 0 (tok r k) b)
  let Z : Fin 8 → Fin 128 → Fin 256 → EReal := fun r a b =>
    View.canon (Val := Elt Ideal) (s := S8x128x256) (e := .f32) [] (ix3 r a b)
  have z : ∀ (r : Fin 8) (a : Fin 128) (b : Fin 256), View.canon (Val := Elt Ideal) (s := S8x128x256) (e := .f32) [] (ix3 r a b)
      = if r.val < 0 then G r a b else Z r a b := fun r a b => (if_neg (Nat.not_lt_zero _)).symm
  refine Eq.trans (b := if g.val < 7 + 1 then G g a b else Z g a b) ?_ (if_pos g.isLt)
  refine chain (d := 8) (m := 128) (n := 256) (e := .f32) _ G Z 7 7 rfl _ _ ?_ (fun a b => ?_) g a b
  swap
  · exact Blocks.dv a2 h2 a4 h4 x0 x2 7 1904 rfl 7 rfl inb_S1x2176x256_S1x272x256_0_1904_0 inb_S1x2176x128_S1x272x128_0_1904_0
      (a16.view.readAt (Elt Ideal) (blk 8 128 256 7 inb_S8x128x256_S1x128x256_7_0_0) (h16.unread xo14)) a b _ (ld_blk a16 h16 xo14 7 7 rfl _ a
      b)
  refine chain (d := 8) (m := 128) (n := 256) (e := .f32) _ G Z 6 6 rfl _ _ ?_ (fun a b => ?_)
  swap
  · exact Blocks.dv a2 h2 a4 h4 x0 x2 6 1632 rfl 6 rfl inb_S1x2176x256_S1x272x256_0_1632_0 inb_S1x2176x128_S1x272x128_0_1632_0
      (a16.view.readAt (Elt Ideal) (blk 8 128 256 6 inb_S8x128x256_S1x128x256_6_0_0) (h16.unread xo14)) a b _ (ld_blk a16 h16 xo14 6 6 rfl _ a
      b)
  refine chain (d := 8) (m := 128) (n := 256) (e := .f32) _ G Z 5 5 rfl _ _ ?_ (fun a b => ?_)
  swap
  · exact Blocks.dv a2 h2 a4 h4 x0 x2 5 1360 rfl 5 rfl inb_S1x2176x256_S1x272x256_0_1360_0 inb_S1x2176x128_S1x272x128_0_1360_0
      (a16.view.readAt (Elt Ideal) (blk 8 128 256 5 inb_S8x128x256_S1x128x256_5_0_0) (h16.unread xo14)) a b _ (ld_blk a16 h16 xo14 5 5 rfl _ a
      b)
  refine chain (d := 8) (m := 128) (n := 256) (e := .f32) _ G Z 4 4 rfl _ _ ?_ (fun a b => ?_)
  swap
  · exact Blocks.dv a2 h2 a4 h4 x0 x2 4 1088 rfl 4 rfl inb_S1x2176x256_S1x272x256_0_1088_0 inb_S1x2176x128_S1x272x128_0_1088_0
      (a16.view.readAt (Elt Ideal) (blk 8 128 256 4 inb_S8x128x256_S1x128x256_4_0_0) (h16.unread xo14)) a b _ (ld_blk a16 h16 xo14 4 4 rfl _ a
      b)
  refine chain (d := 8) (m := 128) (n := 256) (e := .f32) _ G Z 3 3 rfl _ _ ?_ (fun a b => ?_)
  swap
  · exact Blocks.dv a2 h2 a4 h4 x0 x2 3 816 rfl 3 rfl inb_S1x2176x256_S1x272x256_0_816_0 inb_S1x2176x128_S1x272x128_0_816_0 (a16.view.readAt
      (Elt Ideal) (blk 8 128 256 3 inb_S8x128x256_S1x128x256_3_0_0) (h16.unread xo14)) a b _ (ld_blk a16 h16 xo14 3 3 rfl _ a b)
  refine chain (d := 8) (m := 128) (n := 256) (e := .f32) _ G Z 2 2 rfl _ _ ?_ (fun a b => ?_)
  swap
  · exact Blocks.dv a2 h2 a4 h4 x0 x2 2 544 rfl 2 rfl inb_S1x2176x256_S1x272x256_0_544_0 inb_S1x2176x128_S1x272x128_0_544_0 (a16.view.readAt
      (Elt Ideal) (blk 8 128 256 2 inb_S8x128x256_S1x128x256_2_0_0) (h16.unread xo14)) a b _ (ld_blk a16 h16 xo14 2 2 rfl _ a b)
  refine chain (d := 8) (m := 128) (n := 256) (e := .f32) _ G Z 1 1 rfl _ _ ?_ (fun a b => ?_)
  swap
  · exact Blocks.dv a2 h2 a4 h4 x0 x2 1 272 rfl 1 rfl inb_S1x2176x256_S1x272x256_0_272_0 inb_S1x2176x128_S1x272x128_0_272_0 (a16.view.readAt
      (Elt Ideal) (blk 8 128 256 1 inb_S8x128x256_S1x128x256_1_0_0) (h16.unread xo14)) a b _ (ld_blk a16 h16 xo14 1 1 rfl _ a b)
  refine chain (d := 8) (m := 128) (n := 256) (e := .f32) _ G Z 0 0 rfl _ _ ?_ (fun a b => ?_)
  swap
  · exact Blocks.dv a2 h2 a4 h4 x0 x2 0 0 rfl 0 rfl inb_S1x2176x256_S1x272x256_0_0_0 inb_S1x2176x128_S1x272x128_0_0_0 (a16.view.readAt (Elt
      Ideal) (blk 8 128 256 0 inb_S8x128x256_S1x128x256_0_0_0) (h16.unread xo14)) a b _ (ld_blk a16 h16 xo14 0 0 rfl _ a b)
  exact z

theorem dvb (hx : Rows x9) (g : Fin 8) (a : Fin 128) (b : Fin 256) : out0_B_15 (F := Ideal) c i a2 h2 a3 h3 a4 h4 a5 h5 a6 h6 a7 h7 a8 h8 a9 h9 a10 h10 a11 h11 a12 h12 a13 h13 a14
    h14 a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo15 (ix3 g a b) + ∑ k : Fin 272, x3 (ix3 0 (tok g k) a) * x0 (ix3 0 (tok g k) b) := by
  unfold out0_B_15
  refine (View.read_writes_junk_apply_eq_canon _ _ _).trans ?_
  unfold kernelRun0_B
  dsimp only
  let G : Fin 8 → Fin 128 → Fin 256 → EReal := fun r a b => xo15 (ix3 r a b) + ∑ k : Fin 272, x3 (ix3 0 (tok r k) a) * x0 (ix3 0 (tok r k) b)
  let Z : Fin 8 → Fin 128 → Fin 256 → EReal := fun r a b =>
    View.canon (Val := Elt Ideal) (s := S8x128x256) (e := .f32) [] (ix3 r a b)
  have z : ∀ (r : Fin 8) (a : Fin 128) (b : Fin 256), View.canon (Val := Elt Ideal) (s := S8x128x256) (e := .f32) [] (ix3 r a b)
      = if r.val < 0 then G r a b else Z r a b := fun r a b => (if_neg (Nat.not_lt_zero _)).symm
  refine Eq.trans (b := if g.val < 7 + 1 then G g a b else Z g a b) ?_ (if_pos g.isLt)
  refine chain (d := 8) (m := 128) (n := 256) (e := .f32) _ G Z 7 7 rfl _ _ ?_ (fun a b => ?_) g a b
  swap
  · exact Blocks.dv a2 h2 a5 h5 x0 x3 7 1904 rfl 7 rfl inb_S1x2176x256_S1x272x256_0_1904_0 inb_S1x2176x128_S1x272x128_0_1904_0
      (a17.view.readAt (Elt Ideal) (blk 8 128 256 7 inb_S8x128x256_S1x128x256_7_0_0) (h17.unread xo15)) a b _ (ld_blk a17 h17 xo15 7 7 rfl _ a
      b)
  refine chain (d := 8) (m := 128) (n := 256) (e := .f32) _ G Z 6 6 rfl _ _ ?_ (fun a b => ?_)
  swap
  · exact Blocks.dv a2 h2 a5 h5 x0 x3 6 1632 rfl 6 rfl inb_S1x2176x256_S1x272x256_0_1632_0 inb_S1x2176x128_S1x272x128_0_1632_0
      (a17.view.readAt (Elt Ideal) (blk 8 128 256 6 inb_S8x128x256_S1x128x256_6_0_0) (h17.unread xo15)) a b _ (ld_blk a17 h17 xo15 6 6 rfl _ a
      b)
  refine chain (d := 8) (m := 128) (n := 256) (e := .f32) _ G Z 5 5 rfl _ _ ?_ (fun a b => ?_)
  swap
  · exact Blocks.dv a2 h2 a5 h5 x0 x3 5 1360 rfl 5 rfl inb_S1x2176x256_S1x272x256_0_1360_0 inb_S1x2176x128_S1x272x128_0_1360_0
      (a17.view.readAt (Elt Ideal) (blk 8 128 256 5 inb_S8x128x256_S1x128x256_5_0_0) (h17.unread xo15)) a b _ (ld_blk a17 h17 xo15 5 5 rfl _ a
      b)
  refine chain (d := 8) (m := 128) (n := 256) (e := .f32) _ G Z 4 4 rfl _ _ ?_ (fun a b => ?_)
  swap
  · exact Blocks.dv a2 h2 a5 h5 x0 x3 4 1088 rfl 4 rfl inb_S1x2176x256_S1x272x256_0_1088_0 inb_S1x2176x128_S1x272x128_0_1088_0
      (a17.view.readAt (Elt Ideal) (blk 8 128 256 4 inb_S8x128x256_S1x128x256_4_0_0) (h17.unread xo15)) a b _ (ld_blk a17 h17 xo15 4 4 rfl _ a
      b)
  refine chain (d := 8) (m := 128) (n := 256) (e := .f32) _ G Z 3 3 rfl _ _ ?_ (fun a b => ?_)
  swap
  · exact Blocks.dv a2 h2 a5 h5 x0 x3 3 816 rfl 3 rfl inb_S1x2176x256_S1x272x256_0_816_0 inb_S1x2176x128_S1x272x128_0_816_0 (a17.view.readAt
      (Elt Ideal) (blk 8 128 256 3 inb_S8x128x256_S1x128x256_3_0_0) (h17.unread xo15)) a b _ (ld_blk a17 h17 xo15 3 3 rfl _ a b)
  refine chain (d := 8) (m := 128) (n := 256) (e := .f32) _ G Z 2 2 rfl _ _ ?_ (fun a b => ?_)
  swap
  · exact Blocks.dv a2 h2 a5 h5 x0 x3 2 544 rfl 2 rfl inb_S1x2176x256_S1x272x256_0_544_0 inb_S1x2176x128_S1x272x128_0_544_0 (a17.view.readAt
      (Elt Ideal) (blk 8 128 256 2 inb_S8x128x256_S1x128x256_2_0_0) (h17.unread xo15)) a b _ (ld_blk a17 h17 xo15 2 2 rfl _ a b)
  refine chain (d := 8) (m := 128) (n := 256) (e := .f32) _ G Z 1 1 rfl _ _ ?_ (fun a b => ?_)
  swap
  · exact Blocks.dv a2 h2 a5 h5 x0 x3 1 272 rfl 1 rfl inb_S1x2176x256_S1x272x256_0_272_0 inb_S1x2176x128_S1x272x128_0_272_0 (a17.view.readAt
      (Elt Ideal) (blk 8 128 256 1 inb_S8x128x256_S1x128x256_1_0_0) (h17.unread xo15)) a b _ (ld_blk a17 h17 xo15 1 1 rfl _ a b)
  refine chain (d := 8) (m := 128) (n := 256) (e := .f32) _ G Z 0 0 rfl _ _ ?_ (fun a b => ?_)
  swap
  · exact Blocks.dv a2 h2 a5 h5 x0 x3 0 0 rfl 0 rfl inb_S1x2176x256_S1x272x256_0_0_0 inb_S1x2176x128_S1x272x128_0_0_0 (a17.view.readAt (Elt
      Ideal) (blk 8 128 256 0 inb_S8x128x256_S1x128x256_0_0_0) (h17.unread xo15)) a b _ (ld_blk a17 h17 xo15 0 0 rfl _ a b)
  exact z

theorem dl (hx : Rows x9) (g : Fin 4) (a : Fin 8) (b : Fin 128) : out0_B_16 (F := Ideal) c i a2 h2 a3 h3 a4 h4 a5 h5 a6 h6 a7 h7 a8 h8 a9 h9 a10 h10 a11 h11 a12 h12 a13 h13 a14 h14
    a15 h15 a16 h16 a17 h17 a18 h18 a19 h19 a20 h20 a21 h21 a22 h22 a23 h23 a24 h24 hc0 x0 x1 x2 x3 x4 x5 x6 x7 x8 x9 xo11 xo12 xo13 xo14 xo15
      xo16 (ix3 g a b) = xo16 (ix3 g a b) + dL x0 x2 x3 x7 x8 x9 g a b := by
  unfold out0_B_16
  refine (View.read_writes_junk_apply_eq_canon _ _ _).trans ?_
  unfold kernelRun0_B
  dsimp only
  let G : Fin 4 → Fin 8 → Fin 128 → EReal := fun r a b => xo16 (ix3 r a b) + dL x0 x2 x3 x7 x8 x9 r a b
  let Z : Fin 4 → Fin 8 → Fin 128 → EReal := fun r a b =>
    View.canon (Val := Elt Ideal) (s := S4x8x128) (e := .f32) [] (ix3 r a b)
  have z : ∀ (r : Fin 4) (a : Fin 8) (b : Fin 128), View.canon (Val := Elt Ideal) (s := S4x8x128) (e := .f32) [] (ix3 r a b)
      = if r.val < 0 then G r a b else Z r a b := fun r a b => (if_neg (Nat.not_lt_zero _)).symm
  refine Eq.trans (b := if g.val < 3 + 1 then G g a b else Z g a b) ?_ (if_pos g.isLt)
  refine chain (d := 4) (m := 8) (n := 128) (e := .f32) _ G Z 3 3 rfl _ _ ?_ (fun a b => ?_) g a b
  swap
  · exact (Pay.dls _ _ a b).trans (congrArg₂ (· + ·) (ld_blk a18 h18 xo16 3 3 rfl _ a b) (StateB.e3 c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9 hx a b))
  refine chain (d := 4) (m := 8) (n := 128) (e := .f32) _ G Z 2 2 rfl _ _ ?_ (fun a b => ?_)
  swap
  · exact (Pay.dl _ _ a b).trans (congrArg₂ (· + ·) (ld_blk a18 h18 xo16 2 2 rfl _ a b) (StateB.e2 c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9 hx a b))
  refine chain (d := 4) (m := 8) (n := 128) (e := .f32) _ G Z 1 1 rfl _ _ ?_ (fun a b => ?_)
  swap
  · exact (Pay.dls _ _ a b).trans (congrArg₂ (· + ·) (ld_blk a18 h18 xo16 1 1 rfl _ a b) (StateB.e1 c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9 hx a b))
  refine chain (d := 4) (m := 8) (n := 128) (e := .f32) _ G Z 0 0 rfl _ _ ?_ (fun a b => ?_)
  swap
  · exact (Pay.dl _ _ a b).trans (congrArg₂ (· + ·) (ld_blk a18 h18 xo16 0 0 rfl _ a b) (StateB.e0 c i a2 h2 a3 h3 a4 h4 a5 h5 a6 h6 a7 h7 a8 h8 a9 h9 a10 h10 a11 h11 a12 h12 a13
      h13 a14 h14 a15 h15 a16 h16 a17 h17 a18 h18 a19 h19 a20 h20 a21 h21 a22 h22 a23 h23 a24 h24 x0 x2 x3 x7 x8 x9 hx a b))
  exact z

end Cert.KernelIdeal.BodyB

end
-- ==== Proof.Final.lean ====
module

public import proofs.«01_k».proof.Proof.Point
public import proofs.«01_k».proof.Proof.BodyA
public import proofs.«01_k».proof.Proof.BodyB
public import proofs.«01_k».proof.Proof.Gen.KernelIdeal.Value

@[expose] public section

/-!
What the output blocks hold after a point, in terms of the data, and from it the arrays that the program returns.
-/

set_option maxRecDepth 16384

noncomputable section

namespace Cert.KernelIdeal.Final

open Idealize.ShloMosaic Idealize.ShloMosaic.TcCoe Idealize.ShloMosaic.Tactic Idealize.SL.Sem
open Idealize.ShloMosaic.Pipeline (Dat)
open Cert.KernelIdeal Cert.KernelIdeal.Gen Cert.S5 Cert.KernelIdeal.Host Cert.KernelIdeal.Cells Cert.KernelIdeal.Blocks
open Cert.KernelIdeal.Point

variable (m : (ℓ : Loc nD τ sig) → Buf (Elt Ideal) ℓ) (ρ : Dev nD → PrngReg) (c : Dev nD) (t : Fin cfg0.N)

theorem add2 {a a' b b' : EReal} (h : a = a') (h' : b = b') : a + b = a' + b' := h ▸ h' ▸ rfl

theorem mul2 {a a' b b' : EReal} (h : a = a') (h' : b = b') : a * b = a' * b' := h ▸ h' ▸ rfl

theorem sum2 {n : ℕ} {f g : Fin n → EReal} (h : ∀ k, f k = g k) : ∑ k, f k = ∑ k, g k :=
  Finset.sum_congr rfl fun k _ => h k

theorem two (f : Fin 2 → EReal) : f 0 + f 1 = ∑ b, f b := (Fin.sum_univ_two f).symm

theorem lt16 : t.val < 16 := lt_of_lt_of_eq t.isLt N_0

/-- The point before. -/
def prev : Fin cfg0.N := ⟨t.val - 1, Nat.lt_of_le_of_lt (Nat.sub_le _ _) t.isLt⟩

theorem prev_even (h : ¬t.val % 2 = 0) : (prev t).val % 2 = 0 := by
  simp only [prev]; omega

theorem gr_prev (h : ¬t.val % 2 = 0) (r : Fin 8) : gr (prev t) r = gr t r := by
  apply Fin.ext; simp only [gr, prev]; omega

theorem bs_even (h : t.val % 2 = 0) : bs t = 0 := Fin.ext h

theorem bs_odd (h : ¬t.val % 2 = 0) : bs t = 1 := by
  apply Fin.ext; show t.val % 2 = 1; omega

theorem duE (x0 : Vec Ideal S1x2176x256 .bf16) (x4 : Vec Ideal S8x256x256 .bf16)
    (x5 x6 : Vec Ideal S8x128x256 .bf16) (x7 x8 : Vec Ideal S8x256x128 .bf16) (x9 : Vec Ideal S4x8x128 .f32)
    (x : Data) (b : Fin 2) (g : Fin 64) (r : Fin 8) (k : Fin 272) (s : Fin 256)
    (h0 : ∀ s', x0 (ix3 0 (tok r k) s') = x.dy b g k s') (h4 : ∀ s', x4 (ix3 r s' s) = x.tz g s s')
    (h5 : ∀ p, x5 (ix3 r p s) = x.wf g s p) (h6 : ∀ p, x6 (ix3 r p s) = x.wb g s p)
    (hF : ∀ p, qF x0 x7 x9 k r p = x.Qf b g k p) (hB : ∀ p, qB x0 x8 x9 k r p = x.Qb b g k p) :
    (∑ s' : Fin 256, x0 (ix3 0 (tok r k) s') * x4 (ix3 r s' s)) + (∑ p : Fin 128, qF x0 x7 x9 k r p * x5 (ix3 r p s))
      + (∑ p : Fin 128, qB x0 x8 x9 k r p * x6 (ix3 r p s)) = x.du b g k s :=
  add2 (add2 (sum2 fun s' => mul2 (h0 s') (h4 s')) (sum2 fun p => mul2 (hF p) (h5 p))) (sum2 fun p => mul2 (hB p) (h6 p))

/-- After any point the first output block holds the gradient of the point's inputs. -/
theorem out10 (r : Fin 8) (k : Fin 272) (s : Fin 256) :
    (outsAt0 m c t.val t.isLt).1 (ix3 0 (tok r k) s) = (X m c).du (bs t) (gr t r) k s := by
  have e := duE (iblk m c 0 t) (iblk m c 4 t) (iblk m c 5 t) (iblk m c 6 t) (iblk m c 7 t) (iblk m c 8 t) (iblk m c 9 t) (X m c)
    (bs t) (gr t r) r k s (blk0 m c t r k) (fun s' => blk4 m c t r s' s) (fun p => blk5 m c t r p s)
    (fun p => blk6 m c t r p s) (qF_eq m c t k r) (qB_eq m c t k r)
  by_cases h0 : t.val % 2 = 0
  · rw [outsAt0_A m c t h0]
    dsimp only
    exact (BodyA.du (hx := rows m c t) ..).trans e
  · rw [outsAt0_B m c t h0]
    dsimp only
    exact (BodyB.du (hx := rows m c t) ..).trans e

/-- After the first of a pair of points the block holds the first sequence's part of the gradient. -/
theorem half11 (h0 : t.val % 2 = 0) (r : Fin 8) (a : Fin 256) (b : Fin 256) :
    (outsAt0 m c t.val t.isLt).2.1 (ix3 r a b) = ∑ k : Fin 272, (X m c).u (bs t) (gr t r) k a * (X m c).dy (bs t) (gr t r) k b := by
  rw [outsAt0_A m c t h0]
  dsimp only
  exact (BodyA.dtz (hx := rows m c t) ..).trans ((zero_add _).trans
    (sum2 fun k => mul2 (blk1 m c t r k a) (blk0 m c t r k b)))

/-- After the second it holds the whole. -/
theorem out11 (h0 : ¬t.val % 2 = 0) (r : Fin 8) (a : Fin 256) (b : Fin 256) :
    (outsAt0 m c t.val t.isLt).2.1 (ix3 r a b) = (X m c).dtz (gr t r) a b := by
  rw [outsAt0_B m c t h0]
  dsimp only
  have p := half11 m c (prev t) (prev_even t h0) r a b
  rw [bs_even _ (prev_even t h0), gr_prev t h0] at p
  refine (BodyB.dtz (hx := rows m c t) ..).trans ?_
  refine (add2 p (sum2 fun k => mul2 (blk1 m c t r k a) (blk0 m c t r k b))).trans ?_
  rw [bs_odd t h0]
  exact two fun x => ∑ k : Fin 272, (X m c).u x (gr t r) k a * (X m c).dy x (gr t r) k b

/-- After the first of a pair of points the block holds the first sequence's part of the gradient. -/
theorem half12 (h0 : t.val % 2 = 0) (r : Fin 8) (a : Fin 256) (b : Fin 128) :
    (outsAt0 m c t.val t.isLt).2.2.1 (ix3 r a b) = ∑ k : Fin 272, (X m c).u (bs t) (gr t r) k a * (X m c).Qf (bs t) (gr t r) k b := by
  rw [outsAt0_A m c t h0]
  dsimp only
  exact (BodyA.dwf (hx := rows m c t) ..).trans ((zero_add _).trans
    (sum2 fun k => mul2 (blk1 m c t r k a) (qF_eq m c t k r b)))

/-- After the second it holds the whole. -/
theorem out12 (h0 : ¬t.val % 2 = 0) (r : Fin 8) (a : Fin 256) (b : Fin 128) :
    (outsAt0 m c t.val t.isLt).2.2.1 (ix3 r a b) = (X m c).dwf (gr t r) a b := by
  rw [outsAt0_B m c t h0]
  dsimp only
  have p := half12 m c (prev t) (prev_even t h0) r a b
  rw [bs_even _ (prev_even t h0), gr_prev t h0] at p
  refine (BodyB.dwf (hx := rows m c t) ..).trans ?_
  refine (add2 p (sum2 fun k => mul2 (blk1 m c t r k a) (qF_eq m c t k r b))).trans ?_
  rw [bs_odd t h0]
  exact two fun x => ∑ k : Fin 272, (X m c).u x (gr t r) k a * (X m c).Qf x (gr t r) k b

/-- After the first of a pair of points the block holds the first sequence's part of the gradient. -/
theorem half13 (h0 : t.val % 2 = 0) (r : Fin 8) (a : Fin 256) (b : Fin 128) :
    (outsAt0 m c t.val t.isLt).2.2.2.1 (ix3 r a b) = ∑ k : Fin 272, (X m c).u (bs t) (gr t r) k a * (X m c).Qb (bs t) (gr t r) k b := by
  rw [outsAt0_A m c t h0]
  dsimp only
  exact (BodyA.dwb (hx := rows m c t) ..).trans ((zero_add _).trans
    (sum2 fun k => mul2 (blk1 m c t r k a) (qB_eq m c t k r b)))

/-- After the second it holds the whole. -/
theorem out13 (h0 : ¬t.val % 2 = 0) (r : Fin 8) (a : Fin 256) (b : Fin 128) :
    (outsAt0 m c t.val t.isLt).2.2.2.1 (ix3 r a b) = (X m c).dwb (gr t r) a b := by
  rw [outsAt0_B m c t h0]
  dsimp only
  have p := half13 m c (prev t) (prev_even t h0) r a b
  rw [bs_even _ (prev_even t h0), gr_prev t h0] at p
  refine (BodyB.dwb (hx := rows m c t) ..).trans ?_
  refine (add2 p (sum2 fun k => mul2 (blk1 m c t r k a) (qB_eq m c t k r b))).trans ?_
  rw [bs_odd t h0]
  exact two fun x => ∑ k : Fin 272, (X m c).u x (gr t r) k a * (X m c).Qb x (gr t r) k b

/-- After the first of a pair of points the block holds the first sequence's part of the gradient. -/
theorem half14 (h0 : t.val % 2 = 0) (r : Fin 8) (a : Fin 128) (b : Fin 256) :
    (outsAt0 m c t.val t.isLt).2.2.2.2.1 (ix3 r a b) = ∑ k : Fin 272, (X m c).hf (bs t) (gr t r) k a * (X m c).dy (bs t) (gr t r) k b := by
  rw [outsAt0_A m c t h0]
  dsimp only
  exact (BodyA.dvf (hx := rows m c t) ..).trans ((zero_add _).trans
    (sum2 fun k => mul2 (blk2 m c t r k a) (blk0 m c t r k b)))

/-- After the second it holds the whole. -/
theorem out14 (h0 : ¬t.val % 2 = 0) (r : Fin 8) (a : Fin 128) (b : Fin 256) :
    (outsAt0 m c t.val t.isLt).2.2.2.2.1 (ix3 r a b) = (X m c).dvf (gr t r) a b := by
  rw [outsAt0_B m c t h0]
  dsimp only
  have p := half14 m c (prev t) (prev_even t h0) r a b
  rw [bs_even _ (prev_even t h0), gr_prev t h0] at p
  refine (BodyB.dvf (hx := rows m c t) ..).trans ?_
  refine (add2 p (sum2 fun k => mul2 (blk2 m c t r k a) (blk0 m c t r k b))).trans ?_
  rw [bs_odd t h0]
  exact two fun x => ∑ k : Fin 272, (X m c).hf x (gr t r) k a * (X m c).dy x (gr t r) k b

/-- After the first of a pair of points the block holds the first sequence's part of the gradient. -/
theorem half15 (h0 : t.val % 2 = 0) (r : Fin 8) (a : Fin 128) (b : Fin 256) :
    (outsAt0 m c t.val t.isLt).2.2.2.2.2.1 (ix3 r a b) = ∑ k : Fin 272, (X m c).hb (bs t) (gr t r) k a * (X m c).dy (bs t) (gr t r) k b := by
  rw [outsAt0_A m c t h0]
  dsimp only
  exact (BodyA.dvb (hx := rows m c t) ..).trans ((zero_add _).trans
    (sum2 fun k => mul2 (blk3 m c t r k a) (blk0 m c t r k b)))

/-- After the second it holds the whole. -/
theorem out15 (h0 : ¬t.val % 2 = 0) (r : Fin 8) (a : Fin 128) (b : Fin 256) :
    (outsAt0 m c t.val t.isLt).2.2.2.2.2.1 (ix3 r a b) = (X m c).dvb (gr t r) a b := by
  rw [outsAt0_B m c t h0]
  dsimp only
  have p := half15 m c (prev t) (prev_even t h0) r a b
  rw [bs_even _ (prev_even t h0), gr_prev t h0] at p
  refine (BodyB.dvb (hx := rows m c t) ..).trans ?_
  refine (add2 p (sum2 fun k => mul2 (blk3 m c t r k a) (blk0 m c t r k b))).trans ?_
  rw [bs_odd t h0]
  exact two fun x => ∑ k : Fin 272, (X m c).hb x (gr t r) k a * (X m c).dy x (gr t r) k b

/-- After the first of a pair of points the block holds the first sequence's part of the gradient. -/
theorem half16 (h0 : t.val % 2 = 0) (j : Fin 4) (r : Fin 8) (p : Fin 128) :
    (outsAt0 m c t.val t.isLt).2.2.2.2.2.2 (ix3 j r p) = (X m c).dlp (bs t) j (gr t r) p := by
  rw [outsAt0_A m c t h0]
  dsimp only
  exact (BodyA.dl (hx := rows m c t) ..).trans ((zero_add _).trans (dL_eq m c t j r p))

/-- After the second it holds the whole. -/
theorem out16 (h0 : ¬t.val % 2 = 0) (j : Fin 4) (r : Fin 8) (p : Fin 128) :
    (outsAt0 m c t.val t.isLt).2.2.2.2.2.2 (ix3 j r p) = (X m c).dl j (gr t r) p := by
  rw [outsAt0_B m c t h0]
  dsimp only
  have q := half16 m c (prev t) (prev_even t h0) j r p
  rw [bs_even _ (prev_even t h0), gr_prev t h0] at q
  refine (BodyB.dl (hx := rows m c t) ..).trans ?_
  refine (add2 q (dL_eq m c t j r p)).trans ?_
  rw [bs_odd t h0]
  exact two fun x => (X m c).dlp x j (gr t r) p

theorem eq_ix3 {a b c : ℕ} (j : (⟨3, ![a, b, c]⟩ : Shape).Idx) (x : Fin a) (y : Fin b) (z : Fin c) (hx : (j 0).val = x.val)
    (hy : (j 1).val = y.val) (hz : (j 2).val = z.val) : j = ix3 x y z := by
  funext i
  match i with
  | ⟨0, _⟩ => exact Fin.ext hx
  | ⟨1, _⟩ => exact Fin.ext hy
  | ⟨2, _⟩ => exact Fin.ext hz

theorem xsize10 : ∀ t : Fin cfg0.N, win0_10.xsize (grid0.coords t) 0 = 1 ∧ win0_10.xsize (grid0.coords t) 1 = 2176
    ∧ win0_10.xsize (grid0.coords t) 2 = 256 :=
  (by decide +kernel : ∀ t : Fin grid0.N, win0_10.xsize (grid0.coords t) 0 = 1 ∧ win0_10.xsize (grid0.coords t) 1 = 2176
    ∧ win0_10.xsize (grid0.coords t) 2 = 256)

theorem xsize11 : ∀ t : Fin cfg0.N, win0_11.xsize (grid0.coords t) 0 = 8 ∧ win0_11.xsize (grid0.coords t) 1 = 256
    ∧ win0_11.xsize (grid0.coords t) 2 = 256 :=
  (by decide +kernel : ∀ t : Fin grid0.N, win0_11.xsize (grid0.coords t) 0 = 8 ∧ win0_11.xsize (grid0.coords t) 1 = 256
    ∧ win0_11.xsize (grid0.coords t) 2 = 256)

theorem xsize12 : ∀ t : Fin cfg0.N, win0_12.xsize (grid0.coords t) 0 = 8 ∧ win0_12.xsize (grid0.coords t) 1 = 256
    ∧ win0_12.xsize (grid0.coords t) 2 = 128 :=
  (by decide +kernel : ∀ t : Fin grid0.N, win0_12.xsize (grid0.coords t) 0 = 8 ∧ win0_12.xsize (grid0.coords t) 1 = 256
    ∧ win0_12.xsize (grid0.coords t) 2 = 128)

theorem xsize13 : ∀ t : Fin cfg0.N, win0_13.xsize (grid0.coords t) 0 = 8 ∧ win0_13.xsize (grid0.coords t) 1 = 256
    ∧ win0_13.xsize (grid0.coords t) 2 = 128 :=
  (by decide +kernel : ∀ t : Fin grid0.N, win0_13.xsize (grid0.coords t) 0 = 8 ∧ win0_13.xsize (grid0.coords t) 1 = 256
    ∧ win0_13.xsize (grid0.coords t) 2 = 128)

theorem xsize14 : ∀ t : Fin cfg0.N, win0_14.xsize (grid0.coords t) 0 = 8 ∧ win0_14.xsize (grid0.coords t) 1 = 128
    ∧ win0_14.xsize (grid0.coords t) 2 = 256 :=
  (by decide +kernel : ∀ t : Fin grid0.N, win0_14.xsize (grid0.coords t) 0 = 8 ∧ win0_14.xsize (grid0.coords t) 1 = 128
    ∧ win0_14.xsize (grid0.coords t) 2 = 256)

theorem xsize15 : ∀ t : Fin cfg0.N, win0_15.xsize (grid0.coords t) 0 = 8 ∧ win0_15.xsize (grid0.coords t) 1 = 128
    ∧ win0_15.xsize (grid0.coords t) 2 = 256 :=
  (by decide +kernel : ∀ t : Fin grid0.N, win0_15.xsize (grid0.coords t) 0 = 8 ∧ win0_15.xsize (grid0.coords t) 1 = 128
    ∧ win0_15.xsize (grid0.coords t) 2 = 256)

theorem xsize16 : ∀ t : Fin cfg0.N, win0_16.xsize (grid0.coords t) 0 = 4 ∧ win0_16.xsize (grid0.coords t) 1 = 8
    ∧ win0_16.xsize (grid0.coords t) 2 = 128 :=
  (by decide +kernel : ∀ t : Fin grid0.N, win0_16.xsize (grid0.coords t) 0 = 4 ∧ win0_16.xsize (grid0.coords t) 1 = 8
    ∧ win0_16.xsize (grid0.coords t) 2 = 128)

/-- The program's result 0. -/
def res10 : Vec Ideal S2x17408x256 .bf16 := fun y => (X m c).du (y 0) (grpOf (y 1)) (chkOf (y 1)) (y 2)

theorem flushed10 (hf : (cfg0.win 10).flush t = true) :
    (dats m 0 c).flushed 10 t = ((cfg0.win 10).blk t).view.read (Elt Ideal) (res10 m c) := by
  have hi := index10 t
  refine funext fun (j : (⟨3, ![1, 2176, 256]⟩ : Shape).Idx) => ?_
  rw [View.read_apply]
  obtain ⟨r, k, s, rfl⟩ : ∃ (r : Fin 8) (k : Fin 272) (s : Fin 256), j = ix3 0 (tok r k) s := ⟨⟨(j 1).val / 272, by have h : (j 1).val < 2176 := (j 1).isLt; omega⟩, ⟨(j 1).val % 272, Nat.mod_lt _ (by decide)⟩, j 2, by
      refine (eq_ix3 j _ _ _ ?_ ?_ rfl)
      · have h : (j 0).val < 1 := (j 0).isLt
        show (j 0).val = 0
        omega
      · simp only [tok]; omega⟩
  refine Eq.trans (b := (outsAt0 m c t.val t.isLt).1 (ix3 0 (tok r k) s)) ?_ ((out10 m c t r k s).trans ?_)
  · show (cfg0.win 10).cut (grid0.coords t) ((dats m 0 c).after 10 t) _ = _
    rw [after0_10]
    rfl
  · have e : ((cfg0.win 10).blk t).view.emb (ix3 0 (tok r k) s) = ix3 (bs t) (cell (gr t r) k) s := by
      funext ax
      apply Fin.ext
      match ax with
      | ⟨0, _⟩ =>
        show win0_10.index t 0 * 1 + 1 * 0 = t.val % 2
        rw [hi.1]
        omega
      | ⟨1, _⟩ =>
        show win0_10.index t 1 * 2176 + 1 * (tok r k).val = (cell (gr t r) k).val
        rw [hi.2.1]
        simp only [tok, cell, gr]
        omega
      | ⟨2, _⟩ =>
        show win0_10.index t 2 * 256 + 1 * s.val = s.val
        rw [hi.2.2]
        omega
    refine Eq.trans ?_ (congrArg (res10 m c) e).symm
    simp only [res10]
    show _ = (X m c).du (bs t) (grpOf (cell (gr t r) k)) (chkOf (cell (gr t r) k)) s
    rw [grpOf_cell, chkOf_cell]

theorem final10 : (dats m 0 c).arrAt 10 cfg0.N = res10 m c :=
  (dats m 0 c).arrAt_eq_of_cover 10 (res10 m c) (flushed10 m c) fun i => by
    have h0 : (i 0 : Nat) < 2 := (i 0).isLt
    have h1 : (i 1 : Nat) < 17408 := (i 1).isLt
    have h2 : (i 2 : Nat) < 256 := (i 2).isLt
    obtain ⟨t, ht⟩ : ∃ t : Fin cfg0.N, t.val = 2 * ((i 1).val / 2176) + (i 0).val :=
      ⟨⟨2 * ((i 1).val / 2176) + (i 0).val, lt_of_lt_of_eq (by omega) N_0.symm⟩, rfl⟩
    have hi := index10 t
    have hx := xsize10 t
    refine ⟨t, flush0_10 t, ?_⟩
    show i ∈ ((View.whole main_v24_0).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + win0_10.xsize (grid0.coords t) 0
      rw [hi.1, hx.1]
      omega
    | ⟨1, _⟩ =>
      show win0_10.index t 1 * 2176 ≤ (i 1 : Nat) ∧ (i 1 : Nat) < win0_10.index t 1 * 2176 + win0_10.xsize (grid0.coords t) 1
      rw [hi.2.1, hx.2.1]
      omega
    | ⟨2, _⟩ =>
      show win0_10.index t 2 * 256 ≤ (i 2 : Nat) ∧ (i 2 : Nat) < win0_10.index t 2 * 256 + win0_10.xsize (grid0.coords t) 2
      rw [hi.2.2, hx.2.2]
      omega

/-- The program's result 1. -/
def res11 : Vec Ideal S64x256x256 .f32 := fun y => (X m c).dtz (y 0) (y 1) (y 2)

theorem flushed11 (hf : (cfg0.win 11).flush t = true) :
    (dats m 0 c).flushed 11 t = ((cfg0.win 11).blk t).view.read (Elt Ideal) (res11 m c) := by
  have hi := index11 t
  have h0 : ¬t.val % 2 = 0 := by have := (flush0_11 t).mp hf; omega
  refine funext fun (j : (⟨3, ![8, 256, 256]⟩ : Shape).Idx) => ?_
  rw [View.read_apply]
  obtain ⟨r, a, b, rfl⟩ : ∃ (r : Fin 8) (a : Fin 256) (b : Fin 256), j = ix3 r a b := ⟨j 0, j 1, j 2, eq_ix3 j _ _ _ rfl rfl rfl⟩
  refine Eq.trans (b := (outsAt0 m c t.val t.isLt).2.1 (ix3 r a b)) ?_ ((out11 m c t h0 r a b).trans ?_)
  · show (cfg0.win 11).cut (grid0.coords t) ((dats m 0 c).after 11 t) _ = _
    rw [after0_11]
    rfl
  · have e : ((cfg0.win 11).blk t).view.emb (ix3 r a b) = ix3 (gr t r) a b := by
      funext ax
      apply Fin.ext
      match ax with
      | ⟨0, _⟩ =>
        show win0_11.index t 0 * 8 + 1 * r.val = (gr t r).val
        rw [hi.1]
        simp only [gr]
        omega
      | ⟨1, _⟩ =>
        show win0_11.index t 1 * 256 + 1 * a.val = a.val
        rw [hi.2.1]
        omega
      | ⟨2, _⟩ =>
        show win0_11.index t 2 * 256 + 1 * b.val = b.val
        rw [hi.2.2]
        omega
    refine Eq.trans ?_ (congrArg (res11 m c) e).symm
    rfl

theorem final11 : (dats m 0 c).arrAt 11 cfg0.N = res11 m c :=
  (dats m 0 c).arrAt_eq_of_cover 11 (res11 m c) (flushed11 m c) fun i => by
    have h0 : (i 0 : Nat) < 64 := (i 0).isLt
    have h1 : (i 1 : Nat) < 256 := (i 1).isLt
    have h2 : (i 2 : Nat) < 256 := (i 2).isLt
    obtain ⟨t, ht⟩ : ∃ t : Fin cfg0.N, t.val = 2 * ((i 0).val / 8) + 1 :=
      ⟨⟨2 * ((i 0).val / 8) + 1, lt_of_lt_of_eq (by omega) N_0.symm⟩, rfl⟩
    have hi := index11 t
    have hx := xsize11 t
    refine ⟨t, (flush0_11 t).mpr (by omega), ?_⟩
    show i ∈ ((View.whole main_v24_1).slice (win0_11.rect t)).set
    rw [View.set_slice_whole, Rect.mem_set_unit]
    intro a
    match a with
    | ⟨0, _⟩ =>
      show win0_11.index t 0 * 8 ≤ (i 0 : Nat) ∧ (i 0 : Nat) < win0_11.index t 0 * 8 + win0_11.xsize (grid0.coords t) 0
      rw [hi.1, hx.1]
      omega
    | ⟨1, _⟩ =>
      show win0_11.index t 1 * 256 ≤ (i 1 : Nat) ∧ (i 1 : Nat) < win0_11.index t 1 * 256 + win0_11.xsize (grid0.coords t) 1
      rw [hi.2.1, hx.2.1]
      omega
    | ⟨2, _⟩ =>
      show win0_11.index t 2 * 256 ≤ (i 2 : Nat) ∧ (i 2 : Nat) < win0_11.index t 2 * 256 + win0_11.xsize (grid0.coords t) 2
      rw [hi.2.2, hx.2.2]
      omega

/-- The program's result 2. -/
def res12 : Vec Ideal S64x256x128 .f32 := fun y => (X m c).dwf (y 0) (y 1) (y 2)

theorem flushed12 (hf : (cfg0.win 12).flush t = true) :
    (dats m 0 c).flushed 12 t = ((cfg0.win 12).blk t).view.read (Elt Ideal) (res12 m c) := by
  have hi := index12 t
  have h0 : ¬t.val % 2 = 0 := by have := (flush0_12 t).mp hf; omega
  refine funext fun (j : (⟨3, ![8, 256, 128]⟩ : Shape).Idx) => ?_
  rw [View.read_apply]
  obtain ⟨r, a, b, rfl⟩ : ∃ (r : Fin 8) (a : Fin 256) (b : Fin 128), j = ix3 r a b := ⟨j 0, j 1, j 2, eq_ix3 j _ _ _ rfl rfl rfl⟩
  refine Eq.trans (b := (outsAt0 m c t.val t.isLt).2.2.1 (ix3 r a b)) ?_ ((out12 m c t h0 r a b).trans ?_)
  · show (cfg0.win 12).cut (grid0.coords t) ((dats m 0 c).after 12 t) _ = _
    rw [after0_12]
    rfl
  · have e : ((cfg0.win 12).blk t).view.emb (ix3 r a b) = ix3 (gr t r) a b := by
      funext ax
      apply Fin.ext
      match ax with
      | ⟨0, _⟩ =>
        show win0_12.index t 0 * 8 + 1 * r.val = (gr t r).val
        rw [hi.1]
        simp only [gr]
        omega
      | ⟨1, _⟩ =>
        show win0_12.index t 1 * 256 + 1 * a.val = a.val
        rw [hi.2.1]
        omega
      | ⟨2, _⟩ =>
        show win0_12.index t 2 * 128 + 1 * b.val = b.val
        rw [hi.2.2]
        omega
    refine Eq.trans ?_ (congrArg (res12 m c) e).symm
    rfl

theorem final12 : (dats m 0 c).arrAt 12 cfg0.N = res12 m c :=
  (dats m 0 c).arrAt_eq_of_cover 12 (res12 m c) (flushed12 m c) fun i => by
    have h0 : (i 0 : Nat) < 64 := (i 0).isLt
    have h1 : (i 1 : Nat) < 256 := (i 1).isLt
    have h2 : (i 2 : Nat) < 128 := (i 2).isLt
    obtain ⟨t, ht⟩ : ∃ t : Fin cfg0.N, t.val = 2 * ((i 0).val / 8) + 1 :=
      ⟨⟨2 * ((i 0).val / 8) + 1, lt_of_lt_of_eq (by omega) N_0.symm⟩, rfl⟩
    have hi := index12 t
    have hx := xsize12 t
    refine ⟨t, (flush0_12 t).mpr (by omega), ?_⟩
    show i ∈ ((View.whole main_v24_2).slice (win0_12.rect t)).set
    rw [View.set_slice_whole, Rect.mem_set_unit]
    intro a
    match a with
    | ⟨0, _⟩ =>
      show win0_12.index t 0 * 8 ≤ (i 0 : Nat) ∧ (i 0 : Nat) < win0_12.index t 0 * 8 + win0_12.xsize (grid0.coords t) 0
      rw [hi.1, hx.1]
      omega
    | ⟨1, _⟩ =>
      show win0_12.index t 1 * 256 ≤ (i 1 : Nat) ∧ (i 1 : Nat) < win0_12.index t 1 * 256 + win0_12.xsize (grid0.coords t) 1
      rw [hi.2.1, hx.2.1]
      omega
    | ⟨2, _⟩ =>
      show win0_12.index t 2 * 128 ≤ (i 2 : Nat) ∧ (i 2 : Nat) < win0_12.index t 2 * 128 + win0_12.xsize (grid0.coords t) 2
      rw [hi.2.2, hx.2.2]
      omega

/-- The program's result 3. -/
def res13 : Vec Ideal S64x256x128 .f32 := fun y => (X m c).dwb (y 0) (y 1) (y 2)

theorem flushed13 (hf : (cfg0.win 13).flush t = true) :
    (dats m 0 c).flushed 13 t = ((cfg0.win 13).blk t).view.read (Elt Ideal) (res13 m c) := by
  have hi := index13 t
  have h0 : ¬t.val % 2 = 0 := by have := (flush0_13 t).mp hf; omega
  refine funext fun (j : (⟨3, ![8, 256, 128]⟩ : Shape).Idx) => ?_
  rw [View.read_apply]
  obtain ⟨r, a, b, rfl⟩ : ∃ (r : Fin 8) (a : Fin 256) (b : Fin 128), j = ix3 r a b := ⟨j 0, j 1, j 2, eq_ix3 j _ _ _ rfl rfl rfl⟩
  refine Eq.trans (b := (outsAt0 m c t.val t.isLt).2.2.2.1 (ix3 r a b)) ?_ ((out13 m c t h0 r a b).trans ?_)
  · show (cfg0.win 13).cut (grid0.coords t) ((dats m 0 c).after 13 t) _ = _
    rw [after0_13]
    rfl
  · have e : ((cfg0.win 13).blk t).view.emb (ix3 r a b) = ix3 (gr t r) a b := by
      funext ax
      apply Fin.ext
      match ax with
      | ⟨0, _⟩ =>
        show win0_13.index t 0 * 8 + 1 * r.val = (gr t r).val
        rw [hi.1]
        simp only [gr]
        omega
      | ⟨1, _⟩ =>
        show win0_13.index t 1 * 256 + 1 * a.val = a.val
        rw [hi.2.1]
        omega
      | ⟨2, _⟩ =>
        show win0_13.index t 2 * 128 + 1 * b.val = b.val
        rw [hi.2.2]
        omega
    refine Eq.trans ?_ (congrArg (res13 m c) e).symm
    rfl

theorem final13 : (dats m 0 c).arrAt 13 cfg0.N = res13 m c :=
  (dats m 0 c).arrAt_eq_of_cover 13 (res13 m c) (flushed13 m c) fun i => by
    have h0 : (i 0 : Nat) < 64 := (i 0).isLt
    have h1 : (i 1 : Nat) < 256 := (i 1).isLt
    have h2 : (i 2 : Nat) < 128 := (i 2).isLt
    obtain ⟨t, ht⟩ : ∃ t : Fin cfg0.N, t.val = 2 * ((i 0).val / 8) + 1 :=
      ⟨⟨2 * ((i 0).val / 8) + 1, lt_of_lt_of_eq (by omega) N_0.symm⟩, rfl⟩
    have hi := index13 t
    have hx := xsize13 t
    refine ⟨t, (flush0_13 t).mpr (by omega), ?_⟩
    show i ∈ ((View.whole main_v24_3).slice (win0_13.rect t)).set
    rw [View.set_slice_whole, Rect.mem_set_unit]
    intro a
    match a with
    | ⟨0, _⟩ =>
      show win0_13.index t 0 * 8 ≤ (i 0 : Nat) ∧ (i 0 : Nat) < win0_13.index t 0 * 8 + win0_13.xsize (grid0.coords t) 0
      rw [hi.1, hx.1]
      omega
    | ⟨1, _⟩ =>
      show win0_13.index t 1 * 256 ≤ (i 1 : Nat) ∧ (i 1 : Nat) < win0_13.index t 1 * 256 + win0_13.xsize (grid0.coords t) 1
      rw [hi.2.1, hx.2.1]
      omega
    | ⟨2, _⟩ =>
      show win0_13.index t 2 * 128 ≤ (i 2 : Nat) ∧ (i 2 : Nat) < win0_13.index t 2 * 128 + win0_13.xsize (grid0.coords t) 2
      rw [hi.2.2, hx.2.2]
      omega

/-- The program's result 4. -/
def res14 : Vec Ideal S64x128x256 .f32 := fun y => (X m c).dvf (y 0) (y 1) (y 2)

theorem flushed14 (hf : (cfg0.win 14).flush t = true) :
    (dats m 0 c).flushed 14 t = ((cfg0.win 14).blk t).view.read (Elt Ideal) (res14 m c) := by
  have hi := index14 t
  have h0 : ¬t.val % 2 = 0 := by have := (flush0_14 t).mp hf; omega
  refine funext fun (j : (⟨3, ![8, 128, 256]⟩ : Shape).Idx) => ?_
  rw [View.read_apply]
  obtain ⟨r, a, b, rfl⟩ : ∃ (r : Fin 8) (a : Fin 128) (b : Fin 256), j = ix3 r a b := ⟨j 0, j 1, j 2, eq_ix3 j _ _ _ rfl rfl rfl⟩
  refine Eq.trans (b := (outsAt0 m c t.val t.isLt).2.2.2.2.1 (ix3 r a b)) ?_ ((out14 m c t h0 r a b).trans ?_)
  · show (cfg0.win 14).cut (grid0.coords t) ((dats m 0 c).after 14 t) _ = _
    rw [after0_14]
    rfl
  · have e : ((cfg0.win 14).blk t).view.emb (ix3 r a b) = ix3 (gr t r) a b := by
      funext ax
      apply Fin.ext
      match ax with
      | ⟨0, _⟩ =>
        show win0_14.index t 0 * 8 + 1 * r.val = (gr t r).val
        rw [hi.1]
        simp only [gr]
        omega
      | ⟨1, _⟩ =>
        show win0_14.index t 1 * 128 + 1 * a.val = a.val
        rw [hi.2.1]
        omega
      | ⟨2, _⟩ =>
        show win0_14.index t 2 * 256 + 1 * b.val = b.val
        rw [hi.2.2]
        omega
    refine Eq.trans ?_ (congrArg (res14 m c) e).symm
    rfl

theorem final14 : (dats m 0 c).arrAt 14 cfg0.N = res14 m c :=
  (dats m 0 c).arrAt_eq_of_cover 14 (res14 m c) (flushed14 m c) fun i => by
    have h0 : (i 0 : Nat) < 64 := (i 0).isLt
    have h1 : (i 1 : Nat) < 128 := (i 1).isLt
    have h2 : (i 2 : Nat) < 256 := (i 2).isLt
    obtain ⟨t, ht⟩ : ∃ t : Fin cfg0.N, t.val = 2 * ((i 0).val / 8) + 1 :=
      ⟨⟨2 * ((i 0).val / 8) + 1, lt_of_lt_of_eq (by omega) N_0.symm⟩, rfl⟩
    have hi := index14 t
    have hx := xsize14 t
    refine ⟨t, (flush0_14 t).mpr (by omega), ?_⟩
    show i ∈ ((View.whole main_v24_4).slice (win0_14.rect t)).set
    rw [View.set_slice_whole, Rect.mem_set_unit]
    intro a
    match a with
    | ⟨0, _⟩ =>
      show win0_14.index t 0 * 8 ≤ (i 0 : Nat) ∧ (i 0 : Nat) < win0_14.index t 0 * 8 + win0_14.xsize (grid0.coords t) 0
      rw [hi.1, hx.1]
      omega
    | ⟨1, _⟩ =>
      show win0_14.index t 1 * 128 ≤ (i 1 : Nat) ∧ (i 1 : Nat) < win0_14.index t 1 * 128 + win0_14.xsize (grid0.coords t) 1
      rw [hi.2.1, hx.2.1]
      omega
    | ⟨2, _⟩ =>
      show win0_14.index t 2 * 256 ≤ (i 2 : Nat) ∧ (i 2 : Nat) < win0_14.index t 2 * 256 + win0_14.xsize (grid0.coords t) 2
      rw [hi.2.2, hx.2.2]
      omega

/-- The program's result 5. -/
def res15 : Vec Ideal S64x128x256 .f32 := fun y => (X m c).dvb (y 0) (y 1) (y 2)

theorem flushed15 (hf : (cfg0.win 15).flush t = true) :
    (dats m 0 c).flushed 15 t = ((cfg0.win 15).blk t).view.read (Elt Ideal) (res15 m c) := by
  have hi := index15 t
  have h0 : ¬t.val % 2 = 0 := by have := (flush0_15 t).mp hf; omega
  refine funext fun (j : (⟨3, ![8, 128, 256]⟩ : Shape).Idx) => ?_
  rw [View.read_apply]
  obtain ⟨r, a, b, rfl⟩ : ∃ (r : Fin 8) (a : Fin 128) (b : Fin 256), j = ix3 r a b := ⟨j 0, j 1, j 2, eq_ix3 j _ _ _ rfl rfl rfl⟩
  refine Eq.trans (b := (outsAt0 m c t.val t.isLt).2.2.2.2.2.1 (ix3 r a b)) ?_ ((out15 m c t h0 r a b).trans ?_)
  · show (cfg0.win 15).cut (grid0.coords t) ((dats m 0 c).after 15 t) _ = _
    rw [after0_15]
    rfl
  · have e : ((cfg0.win 15).blk t).view.emb (ix3 r a b) = ix3 (gr t r) a b := by
      funext ax
      apply Fin.ext
      match ax with
      | ⟨0, _⟩ =>
        show win0_15.index t 0 * 8 + 1 * r.val = (gr t r).val
        rw [hi.1]
        simp only [gr]
        omega
      | ⟨1, _⟩ =>
        show win0_15.index t 1 * 128 + 1 * a.val = a.val
        rw [hi.2.1]
        omega
      | ⟨2, _⟩ =>
        show win0_15.index t 2 * 256 + 1 * b.val = b.val
        rw [hi.2.2]
        omega
    refine Eq.trans ?_ (congrArg (res15 m c) e).symm
    rfl

theorem final15 : (dats m 0 c).arrAt 15 cfg0.N = res15 m c :=
  (dats m 0 c).arrAt_eq_of_cover 15 (res15 m c) (flushed15 m c) fun i => by
    have h0 : (i 0 : Nat) < 64 := (i 0).isLt
    have h1 : (i 1 : Nat) < 128 := (i 1).isLt
    have h2 : (i 2 : Nat) < 256 := (i 2).isLt
    obtain ⟨t, ht⟩ : ∃ t : Fin cfg0.N, t.val = 2 * ((i 0).val / 8) + 1 :=
      ⟨⟨2 * ((i 0).val / 8) + 1, lt_of_lt_of_eq (by omega) N_0.symm⟩, rfl⟩
    have hi := index15 t
    have hx := xsize15 t
    refine ⟨t, (flush0_15 t).mpr (by omega), ?_⟩
    show i ∈ ((View.whole main_v24_5).slice (win0_15.rect t)).set
    rw [View.set_slice_whole, Rect.mem_set_unit]
    intro a
    match a with
    | ⟨0, _⟩ =>
      show win0_15.index t 0 * 8 ≤ (i 0 : Nat) ∧ (i 0 : Nat) < win0_15.index t 0 * 8 + win0_15.xsize (grid0.coords t) 0
      rw [hi.1, hx.1]
      omega
    | ⟨1, _⟩ =>
      show win0_15.index t 1 * 128 ≤ (i 1 : Nat) ∧ (i 1 : Nat) < win0_15.index t 1 * 128 + win0_15.xsize (grid0.coords t) 1
      rw [hi.2.1, hx.2.1]
      omega
    | ⟨2, _⟩ =>
      show win0_15.index t 2 * 256 ≤ (i 2 : Nat) ∧ (i 2 : Nat) < win0_15.index t 2 * 256 + win0_15.xsize (grid0.coords t) 2
      rw [hi.2.2, hx.2.2]
      omega

/-- The program's result 6. -/
def res16 : Vec Ideal S4x64x128 .f32 := fun y => (X m c).dl (y 0) (y 1) (y 2)

theorem flushed16 (hf : (cfg0.win 16).flush t = true) :
    (dats m 0 c).flushed 16 t = ((cfg0.win 16).blk t).view.read (Elt Ideal) (res16 m c) := by
  have hi := index16 t
  have h0 : ¬t.val % 2 = 0 := by have := (flush0_16 t).mp hf; omega
  refine funext fun (j : (⟨3, ![4, 8, 128]⟩ : Shape).Idx) => ?_
  rw [View.read_apply]
  obtain ⟨a, r, b, rfl⟩ : ∃ (a : Fin 4) (r : Fin 8) (b : Fin 128), j = ix3 a r b := ⟨j 0, j 1, j 2, eq_ix3 j _ _ _ rfl rfl rfl⟩
  refine Eq.trans (b := (outsAt0 m c t.val t.isLt).2.2.2.2.2.2 (ix3 a r b)) ?_ ((out16 m c t h0 a r b).trans ?_)
  · show (cfg0.win 16).cut (grid0.coords t) ((dats m 0 c).after 16 t) _ = _
    rw [after0_16]
    rfl
  · have e : ((cfg0.win 16).blk t).view.emb (ix3 a r b) = ix3 a (gr t r) b := by
      funext ax
      apply Fin.ext
      match ax with
      | ⟨0, _⟩ =>
        show win0_16.index t 0 * 4 + 1 * a.val = a.val
        rw [hi.1]
        omega
      | ⟨1, _⟩ =>
        show win0_16.index t 1 * 8 + 1 * r.val = (gr t r).val
        rw [hi.2.1]
        simp only [gr]
        omega
      | ⟨2, _⟩ =>
        show win0_16.index t 2 * 128 + 1 * b.val = b.val
        rw [hi.2.2]
        omega
    refine Eq.trans ?_ (congrArg (res16 m c) e).symm
    rfl

theorem final16 : (dats m 0 c).arrAt 16 cfg0.N = res16 m c :=
  (dats m 0 c).arrAt_eq_of_cover 16 (res16 m c) (flushed16 m c) fun i => by
    have h0 : (i 0 : Nat) < 4 := (i 0).isLt
    have h1 : (i 1 : Nat) < 64 := (i 1).isLt
    have h2 : (i 2 : Nat) < 128 := (i 2).isLt
    obtain ⟨t, ht⟩ : ∃ t : Fin cfg0.N, t.val = 2 * ((i 1).val / 8) + 1 :=
      ⟨⟨2 * ((i 1).val / 8) + 1, lt_of_lt_of_eq (by omega) N_0.symm⟩, rfl⟩
    have hi := index16 t
    have hx := xsize16 t
    refine ⟨t, (flush0_16 t).mpr (by omega), ?_⟩
    show i ∈ ((View.whole main_v24_6).slice (win0_16.rect t)).set
    rw [View.set_slice_whole, Rect.mem_set_unit]
    intro a
    match a with
    | ⟨0, _⟩ =>
      show win0_16.index t 0 * 4 ≤ (i 0 : Nat) ∧ (i 0 : Nat) < win0_16.index t 0 * 4 + win0_16.xsize (grid0.coords t) 0
      rw [hi.1, hx.1]
      omega
    | ⟨1, _⟩ =>
      show win0_16.index t 1 * 8 ≤ (i 1 : Nat) ∧ (i 1 : Nat) < win0_16.index t 1 * 8 + win0_16.xsize (grid0.coords t) 1
      rw [hi.2.1, hx.2.1]
      omega
    | ⟨2, _⟩ =>
      show win0_16.index t 2 * 128 ≤ (i 2 : Nat) ∧ (i 2 : Nat) < win0_16.index t 2 * 128 + win0_16.xsize (grid0.coords t) 2
      rw [hi.2.2, hx.2.2]
      omega

/-- The program's run: its results are the gradient of its arguments, which it leaves as they were. -/
theorem run : θ_run defs (onTc (τ := τ) (main (F := Ideal))) ⟨m, fun _ => 0, ρ⟩ fun r => ∀ c : Dev nD,
    r.2.mem ((c : Thread nD τ).loc main_v24_0) = res10 m c
    ∧ r.2.mem ((c : Thread nD τ).loc main_v24_1) = res11 m c
    ∧ r.2.mem ((c : Thread nD τ).loc main_v24_2) = res12 m c
    ∧ r.2.mem ((c : Thread nD τ).loc main_v24_3) = res13 m c
    ∧ r.2.mem ((c : Thread nD τ).loc main_v24_4) = res14 m c
    ∧ r.2.mem ((c : Thread nD τ).loc main_v24_5) = res15 m c
    ∧ r.2.mem ((c : Thread nD τ).loc main_v24_6) = res16 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  (θ_run defs _ _).mono (fun r h c => ⟨(h c).1.trans (final10 m c), (h c).2.1.trans (final11 m c), (h c).2.2.1.trans (final12 m c),
    (h c).2.2.2.1.trans (final13 m c), (h c).2.2.2.2.1.trans (final14 m c), (h c).2.2.2.2.2.1.trans (final15 m c),
    (h c).2.2.2.2.2.2.1.trans (final16 m c), (h c).2.2.2.2.2.2.2⟩) (Value.run_blocks m ρ)

end Cert.KernelIdeal.Final

end
-- ==== Proof.RefRun.lean ====
module

public import proofs.«01_k».proof.Proof.Gen.ReferenceIdeal.Run
public import proofs.«01_k».proof.Proof.Gen.ReferenceIdeal.Step

@[expose] public section

set_option maxRecDepth 8192

noncomputable section

/-! The run of the reference, stated over one trip of its loop: a valuation holds a state where the carried buffers are the
state's fields, one trip keeps that with `step` applied, and the results are those of the state after all trips. -/

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v68_6) = s.main_v68_6
  f_7 : V0 (Proc.devRef .tc main_v68_7) = s.main_v68_7
  f_8 : V0 (Proc.devRef .tc main_v68_8) = s.main_v68_8
  f_9 : V0 (Proc.devRef .tc main_v68_9) = s.main_v68_9
  f_10 : V0 (Proc.devRef .tc main_v68_10) = s.main_v68_10
  f_11 : V0 (Proc.devRef .tc main_v68_11) = s.main_v68_11
  f_12 : V0 (Proc.devRef .tc main_v68_12) = s.main_v68_12
  f_13 : V0 (Proc.devRef .tc main_v68_13) = s.main_v68_13
  f_0 : V0 (Proc.devRef .tc main_v68_0) = s.main_v68_0
  f_1 : V0 (Proc.devRef .tc main_v68_1) = s.main_v68_1
  f_2 : V0 (Proc.devRef .tc main_v68_2) = s.main_v68_2
  f_3 : V0 (Proc.devRef .tc main_v68_3) = s.main_v68_3
  f_4 : V0 (Proc.devRef .tc main_v68_4) = s.main_v68_4
  n_5 : V0 (Proc.devRef .tc main_v68_5) = constantI S_ 32 (BitVec.ofNat 32 j)

/-- What a buffer holds. -/
abbrev On (F : FTy → Type) (r : Ref sig .tc) := (Proc.devRef .tc r : DevRef τ sig).ty.Contents (Elt F)

variable {V0 s j}

theorem al_0 (h : Holds V0 s j) : (constantI S_ 32 272#32 : On F main_while0b_c_16) = Step.b0 j s := by
  unfold Step.b0
  rfl
theorem al_1 (h : Holds V0 s j) : (subi (constantI S_ 32 272#32) (V0 (Proc.devRef .tc main_v68_5)) : On F main_while0b_v129) = Step.b1 j s := by
  unfold Step.b1
  rw [← al_0 h, h.n_5]
  try rfl
theorem al_2 (h : Holds V0 s j) : (constantI S_ 32 1#32 : On F main_while0b_c_17) = Step.b2 j s := by
  unfold Step.b2
  rfl
theorem al_3 (h : Holds V0 s j) : (res_main_while0b_v130 V0 : On F main_while0b_v130) = Step.b3 j s := by
  unfold res_main_while0b_v130 Step.b3
  rw [← al_1 h, ← al_2 h]
  try rfl
theorem al_4 (h : Holds V0 s j) : (constantI S_ 32 0#32 : On F main_while0b_call0_c) = Step.b4 j s := by
  unfold Step.b4
  rfl
theorem al_5 (h : Holds V0 s j) : (constantI S_ 32 0#32 : On F main_while0b_call0_c_0) = Step.b5 j s := by
  unfold Step.b5
  rfl
theorem al_6 (h : Holds V0 s j) : (constantI S_ 32 0#32 : On F main_while0b_call0_c_1) = Step.b6 j s := by
  unfold Step.b6
  rfl
theorem al_7 (h : Holds V0 s j) : (Host.dynamicSlice S1x2x64x128 (V0 (Proc.devRef .tc main_v68_0)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128 : On F main_while0b_call0_v0) = Step.b7 j s := by
  unfold Step.b7
  rw [← al_3 h, ← al_4 h, ← al_5 h, ← al_6 h, h.f_0]
  try rfl
theorem al_8 (h : Holds V0 s j) : (res_main_while0b_v131 V0 : On F main_while0b_v131) = Step.b8 j s := by
  unfold res_main_while0b_v131 Step.b8
  rw [← al_7 h]
  try rfl
theorem al_9 (h : Holds V0 s j) : (constantI S_ 32 0#32 : On F main_while0b_call1_c) = Step.b9 j s := by
  unfold Step.b9
  rfl
theorem al_10 (h : Holds V0 s j) : (constantI S_ 32 0#32 : On F main_while0b_call1_c_0) = Step.b10 j s := by
  unfold Step.b10
  rfl
theorem al_11 (h : Holds V0 s j) : (constantI S_ 32 0#32 : On F main_while0b_call1_c_1) = Step.b11 j s := by
  unfold Step.b11
  rfl
theorem al_12 (h : Holds V0 s j) : (Host.dynamicSlice S1x2x64x128 (V0 (Proc.devRef .tc main_v68_1)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128 : On F main_while0b_call1_v0) = Step.b12 j s := by
  unfold Step.b12
  rw [← al_3 h, ← al_9 h, ← al_10 h, ← al_11 h, h.f_1]
  try rfl
theorem al_13 (h : Holds V0 s j) : (res_main_while0b_v132 V0 : On F main_while0b_v132) = Step.b13 j s := by
  unfold res_main_while0b_v132 Step.b13
  rw [← al_12 h]
  try rfl
theorem al_14 (h : Holds V0 s j) : (constantI S_ 32 0#32 : On F main_while0b_call2_c) = Step.b14 j s := by
  unfold Step.b14
  rfl
theorem al_15 (h : Holds V0 s j) : (constantI S_ 32 0#32 : On F main_while0b_call2_c_0) = Step.b15 j s := by
  unfold Step.b15
  rfl
theorem al_16 (h : Holds V0 s j) : (constantI S_ 32 0#32 : On F main_while0b_call2_c_1) = Step.b16 j s := by
  unfold Step.b16
  rfl
theorem al_17 (h : Holds V0 s j) : (Host.dynamicSlice S1x2x64x128 (V0 (Proc.devRef .tc main_v68_2)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128 : On F main_while0b_call2_v0) = Step.b17 j s := by
  unfold Step.b17
  rw [← al_3 h, ← al_14 h, ← al_15 h, ← al_16 h, h.f_2]
  try rfl
theorem al_18 (h : Holds V0 s j) : (shapeCast S2x64x128 (Host.dynamicSlice S1x2x64x128 (V0 (Proc.devRef .tc main_v68_2)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128 : On F main_while0b_v133) = Step.b18 j s := by
  unfold Step.b18
  rw [← al_17 h]
  try rfl
theorem al_19 (h : Holds V0 s j) : (constantI S_ 32 0#32 : On F main_while0b_call3_c) = Step.b19 j s := by
  unfold Step.b19
  rfl
theorem al_20 (h : Holds V0 s j) : (constantI S_ 32 0#32 : On F main_while0b_call3_c_0) = Step.b20 j s := by
  unfold Step.b20
  rfl
theorem al_21 (h : Holds V0 s j) : (constantI S_ 32 0#32 : On F main_while0b_call3_c_1) = Step.b21 j s := by
  unfold Step.b21
  rfl
theorem al_22 (h : Holds V0 s j) : (Host.dynamicSlice S1x2x64x128 (V0 (Proc.devRef .tc main_v68_3)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128 : On F main_while0b_call3_v0) = Step.b22 j s := by
  unfold Step.b22
  rw [← al_3 h, ← al_19 h, ← al_20 h, ← al_21 h, h.f_3]
  try rfl
theorem al_23 (h : Holds V0 s j) : (shapeCast S2x64x128 (Host.dynamicSlice S1x2x64x128 (V0 (Proc.devRef .tc main_v68_3)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128 : On F main_while0b_v134) = Step.b23 j s := by
  unfold Step.b23
  rw [← al_22 h]
  try rfl
theorem al_24 (h : Holds V0 s j) : (extractStridedSlice S1x64x128 ![0, 0, 0] (V0 (Proc.devRef .tc main_v68_4)) slices_S4x64x128_S1x64x128_0_0_0 : On F main_while0b_v135) = Step.b24 j s := by
  unfold Step.b24
  rw [h.f_4]
  try rfl
theorem al_25 (h : Holds V0 s j) : (shapeCast S64x128 (extractStridedSlice S1x64x128 ![0, 0, 0] (V0 (Proc.devRef .tc main_v68_4)) slices_S4x64x128_S1x64x128_0_0_0) shapeCasts_S1x64x128_S64x128 : On F main_while0b_v136) = Step.b25 j s := by
  unfold Step.b25
  rw [← al_24 h]
  try rfl
theorem al_26 (h : Holds V0 s j) : (extractStridedSlice S1x64x128 ![1, 0, 0] (V0 (Proc.devRef .tc main_v68_4)) slices_S4x64x128_S1x64x128_1_0_0 : On F main_while0b_v137) = Step.b26 j s := by
  unfold Step.b26
  rw [h.f_4]
  try rfl
theorem al_27 (h : Holds V0 s j) : (shapeCast S64x128 (extractStridedSlice S1x64x128 ![1, 0, 0] (V0 (Proc.devRef .tc main_v68_4)) slices_S4x64x128_S1x64x128_1_0_0) shapeCasts_S1x64x128_S64x128 : On F main_while0b_v138) = Step.b27 j s := by
  unfold Step.b27
  rw [← al_26 h]
  try rfl
theorem al_28 (h : Holds V0 s j) : (res_main_while0b_v139 V0 : On F main_while0b_v139) = Step.b28 j s := by
  unfold res_main_while0b_v139 Step.b28
  rw [← al_25 h]
  try rfl
theorem al_29 (h : Holds V0 s j) : (broadcastInDim S2x64x128 ![0, 1, 2] bcast_S1x64x128_S2x64x128_0_1_2 (res_main_while0b_v139 V0) : On F main_while0b_v140) = Step.b29 j s := by
  unfold Step.b29
  rw [← al_28 h]
  try rfl
theorem al_30 (h : Holds V0 s j) : (mulf (broadcastInDim S2x64x128 ![0, 1, 2] bcast_S1x64x128_S2x64x128_0_1_2 (res_main_while0b_v139 V0)) (res_main_while0b_v131 V0) : On F main_while0b_v141) = Step.b30 j s := by
  unfold Step.b30
  rw [← al_29 h, ← al_8 h]
  try rfl
theorem al_31 (h : Holds V0 s j) : (extractStridedSlice S2x64x64 ![0, 0, 64] (res_main_while0b_v131 V0) slices_S2x64x128_S2x64x64_0_0_64 : On F main_while0b_v142) = Step.b31 j s := by
  unfold Step.b31
  rw [← al_8 h]
  try rfl
theorem al_32 (h : Holds V0 s j) : (extractStridedSlice S2x64x64 ![0, 0, 0] (res_main_while0b_v131 V0) slices_S2x64x128_S2x64x64_0_0_0 : On F main_while0b_v143) = Step.b32 j s := by
  unfold Step.b32
  rw [← al_8 h]
  try rfl
theorem al_33 (h : Holds V0 s j) : (res_main_while0b_v144 V0 : On F main_while0b_v144) = Step.b33 j s := by
  unfold res_main_while0b_v144 Step.b33
  rw [← al_31 h, ← al_32 h]
  try rfl
theorem al_34 (h : Holds V0 s j) : (res_main_while0b_v145 V0 : On F main_while0b_v145) = Step.b34 j s := by
  unfold res_main_while0b_v145 Step.b34
  rw [← al_27 h]
  try rfl
theorem al_35 (h : Holds V0 s j) : (broadcastInDim S2x64x128 ![0, 1, 2] bcast_S1x64x128_S2x64x128_0_1_2 (res_main_while0b_v145 V0) : On F main_while0b_v146) = Step.b35 j s := by
  unfold Step.b35
  rw [← al_34 h]
  try rfl
theorem al_36 (h : Holds V0 s j) : (mulf (broadcastInDim S2x64x128 ![0, 1, 2] bcast_S1x64x128_S2x64x128_0_1_2 (res_main_while0b_v145 V0)) (res_main_while0b_v144 V0) : On F main_while0b_v147) = Step.b36 j s := by
  unfold Step.b36
  rw [← al_35 h, ← al_33 h]
  try rfl
theorem al_37 (h : Holds V0 s j) : (addf (mulf (broadcastInDim S2x64x128 ![0, 1, 2] bcast_S1x64x128_S2x64x128_0_1_2 (res_main_while0b_v139 V0)) (res_main_while0b_v131 V0)) (mulf (broadcastInDim S2x64x128 ![0, 1, 2] bcast_S1x64x128_S2x64x128_0_1_2 (res_main_while0b_v145 V0)) (res_main_while0b_v144 V0)) : On F main_while0b_v148) = Step.b37 j s := by
  unfold Step.b37
  rw [← al_30 h, ← al_36 h]
  try rfl
theorem al_38 (h : Holds V0 s j) : (broadcastInDim S2x64x128 ![0, 1, 2] bcast_S1x64x128_S2x64x128_0_1_2 (res_main_while0b_v145 V0) : On F main_while0b_v149) = Step.b38 j s := by
  unfold Step.b38
  rw [← al_34 h]
  try rfl
theorem al_39 (h : Holds V0 s j) : (res_main_while0b_v150 V0 : On F main_while0b_v150) = Step.b39 j s := by
  unfold res_main_while0b_v150 Step.b39
  rw [← al_38 h, h.f_6]
  try rfl
theorem al_40 (h : Holds V0 s j) : (mulf (V0 (Proc.devRef .tc main_v68_6)) (res_main_while0b_v144 V0) : On F main_while0b_v151) = Step.b40 j s := by
  unfold Step.b40
  rw [← al_33 h, h.f_6]
  try rfl
theorem al_41 (h : Holds V0 s j) : (constant S_ .f32 0x00000000#32 : On F main_while0b_cst_18) = Step.b41 j s := by
  unfold Step.b41
  rfl
theorem al_42 (h : Holds V0 s j) : (Host.reduceAdd (mulf (V0 (Proc.devRef .tc main_v68_6)) (res_main_while0b_v144 V0)) (constant S_ .f32 0x00000000#32) reducesTo_S2x64x128_S64x128_d0 h_S_ : On F main_while0b_v152) = Step.b42 j s := by
  unfold Step.b42
  rw [← al_40 h, ← al_41 h]
  try rfl
theorem al_43 (h : Holds V0 s j) : (shapeCast S1x64x128 (Host.reduceAdd (mulf (V0 (Proc.devRef .tc main_v68_6)) (res_main_while0b_v144 V0)) (constant S_ .f32 0x00000000#32) reducesTo_S2x64x128_S64x128_d0 h_S_) shapeCasts_S64x128_S1x64x128 : On F main_while0b_v153) = Step.b43 j s := by
  unfold Step.b43
  rw [← al_42 h]
  try rfl
theorem al_44 (h : Holds V0 s j) : (constant S_ .f32 0x00000000#32 : On F main_while0b_cst_19) = Step.b44 j s := by
  unfold Step.b44
  rfl
theorem al_45 (h : Holds V0 s j) : (Host.reduceAdd (shapeCast S1x64x128 (Host.reduceAdd (mulf (V0 (Proc.devRef .tc main_v68_6)) (res_main_while0b_v144 V0)) (constant S_ .f32 0x00000000#32) reducesTo_S2x64x128_S64x128_d0 h_S_) shapeCasts_S64x128_S1x64x128) (constant S_ .f32 0x00000000#32) reducesTo_S1x64x128_S64x128_d0 h_S_ : On F main_while0b_v154) = Step.b45 j s := by
  unfold Step.b45
  rw [← al_43 h, ← al_44 h]
  try rfl
theorem al_46 (h : Holds V0 s j) : (extractStridedSlice S2x64x64 ![0, 0, 0] (res_main_while0b_v150 V0) slices_S2x64x128_S2x64x64_0_0_0 : On F main_while0b_v155) = Step.b46 j s := by
  unfold Step.b46
  rw [← al_39 h]
  try rfl
theorem al_47 (h : Holds V0 s j) : (extractStridedSlice S2x64x64 ![0, 0, 64] (res_main_while0b_v150 V0) slices_S2x64x128_S2x64x64_0_0_64 : On F main_while0b_v156) = Step.b47 j s := by
  unfold Step.b47
  rw [← al_39 h]
  try rfl
theorem al_48 (h : Holds V0 s j) : (constant S_ .f32 0x00000000#32 : On F main_while0b_cst_20) = Step.b48 j s := by
  unfold Step.b48
  rfl
theorem al_49 (h : Holds V0 s j) : (pad S2x64x128 ![0, 0, 0] ![0, 0, 64] ![0, 0, 0] (extractStridedSlice S2x64x64 ![0, 0, 64] (res_main_while0b_v150 V0) slices_S2x64x128_S2x64x64_0_0_64) (constant S_ .f32 0x00000000#32) pads_S2x64x64_S2x64x128_000_000_0640 h_S_ : On F main_while0b_v157) = Step.b49 j s := by
  unfold Step.b49
  rw [← al_47 h, ← al_48 h]
  try rfl
theorem al_50 (h : Holds V0 s j) : (constant S_ .f32 0x00000000#32 : On F main_while0b_cst_21) = Step.b50 j s := by
  unfold Step.b50
  rfl
theorem al_51 (h : Holds V0 s j) : (pad S2x64x128 ![0, 0, 64] ![0, 0, 0] ![0, 0, 0] (extractStridedSlice S2x64x64 ![0, 0, 0] (res_main_while0b_v150 V0) slices_S2x64x128_S2x64x64_0_0_0) (constant S_ .f32 0x00000000#32) pads_S2x64x64_S2x64x128_000_000_6400 h_S_ : On F main_while0b_v158) = Step.b51 j s := by
  unfold Step.b51
  rw [← al_46 h, ← al_50 h]
  try rfl
theorem al_52 (h : Holds V0 s j) : (addf (pad S2x64x128 ![0, 0, 0] ![0, 0, 64] ![0, 0, 0] (extractStridedSlice S2x64x64 ![0, 0, 64] (res_main_while0b_v150 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v150 V0) slices_S2x64x128_S2x64x64_0_0_0) (constant S_ .f32 0x00000000#32) pads_S2x64x64_S2x64x128_000_000_6400 h_S_) : On F main_while0b_v159) = Step.b52 j s := by
  unfold Step.b52
  rw [← al_49 h, ← al_51 h]
  try rfl
theorem al_53 (h : Holds V0 s j) : (broadcastInDim S2x64x128 ![0, 1, 2] bcast_S1x64x128_S2x64x128_0_1_2 (res_main_while0b_v139 V0) : On F main_while0b_v160) = Step.b53 j s := by
  unfold Step.b53
  rw [← al_28 h]
  try rfl
theorem al_54 (h : Holds V0 s j) : (mulf (broadcastInDim S2x64x128 ![0, 1, 2] bcast_S1x64x128_S2x64x128_0_1_2 (res_main_while0b_v139 V0)) (V0 (Proc.devRef .tc main_v68_6)) : On F main_while0b_v161) = Step.b54 j s := by
  unfold Step.b54
  rw [← al_53 h, h.f_6]
  try rfl
theorem al_55 (h : Holds V0 s j) : (addf (addf (pad S2x64x128 ![0, 0, 0] ![0, 0, 64] ![0, 0, 0] (extractStridedSlice S2x64x64 ![0, 0, 64] (res_main_while0b_v150 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v150 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v139 V0)) (V0 (Proc.devRef .tc main_v68_6))) : On F main_while0b_v162) = Step.b55 j s := by
  unfold Step.b55
  rw [← al_52 h, ← al_54 h]
  try rfl
theorem al_56 (h : Holds V0 s j) : (mulf (V0 (Proc.devRef .tc main_v68_6)) (res_main_while0b_v131 V0) : On F main_while0b_v163) = Step.b56 j s := by
  unfold Step.b56
  rw [← al_8 h, h.f_6]
  try rfl
theorem al_57 (h : Holds V0 s j) : (constant S_ .f32 0x00000000#32 : On F main_while0b_cst_22) = Step.b57 j s := by
  unfold Step.b57
  rfl
theorem al_58 (h : Holds V0 s j) : (Host.reduceAdd (mulf (V0 (Proc.devRef .tc main_v68_6)) (res_main_while0b_v131 V0)) (constant S_ .f32 0x00000000#32) reducesTo_S2x64x128_S64x128_d0 h_S_ : On F main_while0b_v164) = Step.b58 j s := by
  unfold Step.b58
  rw [← al_56 h, ← al_57 h]
  try rfl
theorem al_59 (h : Holds V0 s j) : (shapeCast S1x64x128 (Host.reduceAdd (mulf (V0 (Proc.devRef .tc main_v68_6)) (res_main_while0b_v131 V0)) (constant S_ .f32 0x00000000#32) reducesTo_S2x64x128_S64x128_d0 h_S_) shapeCasts_S64x128_S1x64x128 : On F main_while0b_v165) = Step.b59 j s := by
  unfold Step.b59
  rw [← al_58 h]
  try rfl
theorem al_60 (h : Holds V0 s j) : (constant S_ .f32 0x00000000#32 : On F main_while0b_cst_23) = Step.b60 j s := by
  unfold Step.b60
  rfl
theorem al_61 (h : Holds V0 s j) : (Host.reduceAdd (shapeCast S1x64x128 (Host.reduceAdd (mulf (V0 (Proc.devRef .tc main_v68_6)) (res_main_while0b_v131 V0)) (constant S_ .f32 0x00000000#32) reducesTo_S2x64x128_S64x128_d0 h_S_) shapeCasts_S64x128_S1x64x128) (constant S_ .f32 0x00000000#32) reducesTo_S1x64x128_S64x128_d0 h_S_ : On F main_while0b_v166) = Step.b61 j s := by
  unfold Step.b61
  rw [← al_59 h, ← al_60 h]
  try rfl
theorem al_62 (h : Holds V0 s j) : (extractStridedSlice S1x64x128 ![2, 0, 0] (V0 (Proc.devRef .tc main_v68_4)) slices_S4x64x128_S1x64x128_2_0_0 : On F main_while0b_v167) = Step.b62 j s := by
  unfold Step.b62
  rw [h.f_4]
  try rfl
theorem al_63 (h : Holds V0 s j) : (shapeCast S64x128 (extractStridedSlice S1x64x128 ![2, 0, 0] (V0 (Proc.devRef .tc main_v68_4)) slices_S4x64x128_S1x64x128_2_0_0) shapeCasts_S1x64x128_S64x128 : On F main_while0b_v168) = Step.b63 j s := by
  unfold Step.b63
  rw [← al_62 h]
  try rfl
theorem al_64 (h : Holds V0 s j) : (extractStridedSlice S1x64x128 ![3, 0, 0] (V0 (Proc.devRef .tc main_v68_4)) slices_S4x64x128_S1x64x128_3_0_0 : On F main_while0b_v169) = Step.b64 j s := by
  unfold Step.b64
  rw [h.f_4]
  try rfl
theorem al_65 (h : Holds V0 s j) : (shapeCast S64x128 (extractStridedSlice S1x64x128 ![3, 0, 0] (V0 (Proc.devRef .tc main_v68_4)) slices_S4x64x128_S1x64x128_3_0_0) shapeCasts_S1x64x128_S64x128 : On F main_while0b_v170) = Step.b65 j s := by
  unfold Step.b65
  rw [← al_64 h]
  try rfl
theorem al_66 (h : Holds V0 s j) : (res_main_while0b_v171 V0 : On F main_while0b_v171) = Step.b66 j s := by
  unfold res_main_while0b_v171 Step.b66
  rw [← al_63 h]
  try rfl
theorem al_67 (h : Holds V0 s j) : (broadcastInDim S2x64x128 ![0, 1, 2] bcast_S1x64x128_S2x64x128_0_1_2 (res_main_while0b_v171 V0) : On F main_while0b_v172) = Step.b67 j s := by
  unfold Step.b67
  rw [← al_66 h]
  try rfl
theorem al_68 (h : Holds V0 s j) : (mulf (broadcastInDim S2x64x128 ![0, 1, 2] bcast_S1x64x128_S2x64x128_0_1_2 (res_main_while0b_v171 V0)) (res_main_while0b_v132 V0) : On F main_while0b_v173) = Step.b68 j s := by
  unfold Step.b68
  rw [← al_67 h, ← al_13 h]
  try rfl
theorem al_69 (h : Holds V0 s j) : (extractStridedSlice S2x64x64 ![0, 0, 64] (res_main_while0b_v132 V0) slices_S2x64x128_S2x64x64_0_0_64 : On F main_while0b_v174) = Step.b69 j s := by
  unfold Step.b69
  rw [← al_13 h]
  try rfl
theorem al_70 (h : Holds V0 s j) : (extractStridedSlice S2x64x64 ![0, 0, 0] (res_main_while0b_v132 V0) slices_S2x64x128_S2x64x64_0_0_0 : On F main_while0b_v175) = Step.b70 j s := by
  unfold Step.b70
  rw [← al_13 h]
  try rfl
theorem al_71 (h : Holds V0 s j) : (res_main_while0b_v176 V0 : On F main_while0b_v176) = Step.b71 j s := by
  unfold res_main_while0b_v176 Step.b71
  rw [← al_69 h, ← al_70 h]
  try rfl
theorem al_72 (h : Holds V0 s j) : (res_main_while0b_v177 V0 : On F main_while0b_v177) = Step.b72 j s := by
  unfold res_main_while0b_v177 Step.b72
  rw [← al_65 h]
  try rfl
theorem al_73 (h : Holds V0 s j) : (broadcastInDim S2x64x128 ![0, 1, 2] bcast_S1x64x128_S2x64x128_0_1_2 (res_main_while0b_v177 V0) : On F main_while0b_v178) = Step.b73 j s := by
  unfold Step.b73
  rw [← al_72 h]
  try rfl
theorem al_74 (h : Holds V0 s j) : (mulf (broadcastInDim S2x64x128 ![0, 1, 2] bcast_S1x64x128_S2x64x128_0_1_2 (res_main_while0b_v177 V0)) (res_main_while0b_v176 V0) : On F main_while0b_v179) = Step.b74 j s := by
  unfold Step.b74
  rw [← al_73 h, ← al_71 h]
  try rfl
theorem al_75 (h : Holds V0 s j) : (addf (mulf (broadcastInDim S2x64x128 ![0, 1, 2] bcast_S1x64x128_S2x64x128_0_1_2 (res_main_while0b_v171 V0)) (res_main_while0b_v132 V0)) (mulf (broadcastInDim S2x64x128 ![0, 1, 2] bcast_S1x64x128_S2x64x128_0_1_2 (res_main_while0b_v177 V0)) (res_main_while0b_v176 V0)) : On F main_while0b_v180) = Step.b75 j s := by
  unfold Step.b75
  rw [← al_68 h, ← al_74 h]
  try rfl
theorem al_76 (h : Holds V0 s j) : (broadcastInDim S2x64x128 ![0, 1, 2] bcast_S1x64x128_S2x64x128_0_1_2 (res_main_while0b_v177 V0) : On F main_while0b_v181) = Step.b76 j s := by
  unfold Step.b76
  rw [← al_72 h]
  try rfl
theorem al_77 (h : Holds V0 s j) : (res_main_while0b_v182 V0 : On F main_while0b_v182) = Step.b77 j s := by
  unfold res_main_while0b_v182 Step.b77
  rw [← al_76 h, h.f_7]
  try rfl
theorem al_78 (h : Holds V0 s j) : (mulf (V0 (Proc.devRef .tc main_v68_7)) (res_main_while0b_v176 V0) : On F main_while0b_v183) = Step.b78 j s := by
  unfold Step.b78
  rw [← al_71 h, h.f_7]
  try rfl
theorem al_79 (h : Holds V0 s j) : (constant S_ .f32 0x00000000#32 : On F main_while0b_cst_24) = Step.b79 j s := by
  unfold Step.b79
  rfl
theorem al_80 (h : Holds V0 s j) : (Host.reduceAdd (mulf (V0 (Proc.devRef .tc main_v68_7)) (res_main_while0b_v176 V0)) (constant S_ .f32 0x00000000#32) reducesTo_S2x64x128_S64x128_d0 h_S_ : On F main_while0b_v184) = Step.b80 j s := by
  unfold Step.b80
  rw [← al_78 h, ← al_79 h]
  try rfl
theorem al_81 (h : Holds V0 s j) : (shapeCast S1x64x128 (Host.reduceAdd (mulf (V0 (Proc.devRef .tc main_v68_7)) (res_main_while0b_v176 V0)) (constant S_ .f32 0x00000000#32) reducesTo_S2x64x128_S64x128_d0 h_S_) shapeCasts_S64x128_S1x64x128 : On F main_while0b_v185) = Step.b81 j s := by
  unfold Step.b81
  rw [← al_80 h]
  try rfl
theorem al_82 (h : Holds V0 s j) : (constant S_ .f32 0x00000000#32 : On F main_while0b_cst_25) = Step.b82 j s := by
  unfold Step.b82
  rfl
theorem al_83 (h : Holds V0 s j) : (Host.reduceAdd (shapeCast S1x64x128 (Host.reduceAdd (mulf (V0 (Proc.devRef .tc main_v68_7)) (res_main_while0b_v176 V0)) (constant S_ .f32 0x00000000#32) reducesTo_S2x64x128_S64x128_d0 h_S_) shapeCasts_S64x128_S1x64x128) (constant S_ .f32 0x00000000#32) reducesTo_S1x64x128_S64x128_d0 h_S_ : On F main_while0b_v186) = Step.b83 j s := by
  unfold Step.b83
  rw [← al_81 h, ← al_82 h]
  try rfl
theorem al_84 (h : Holds V0 s j) : (extractStridedSlice S2x64x64 ![0, 0, 0] (res_main_while0b_v182 V0) slices_S2x64x128_S2x64x64_0_0_0 : On F main_while0b_v187) = Step.b84 j s := by
  unfold Step.b84
  rw [← al_77 h]
  try rfl
theorem al_85 (h : Holds V0 s j) : (extractStridedSlice S2x64x64 ![0, 0, 64] (res_main_while0b_v182 V0) slices_S2x64x128_S2x64x64_0_0_64 : On F main_while0b_v188) = Step.b85 j s := by
  unfold Step.b85
  rw [← al_77 h]
  try rfl
theorem al_86 (h : Holds V0 s j) : (constant S_ .f32 0x00000000#32 : On F main_while0b_cst_26) = Step.b86 j s := by
  unfold Step.b86
  rfl
theorem al_87 (h : Holds V0 s j) : (pad S2x64x128 ![0, 0, 0] ![0, 0, 64] ![0, 0, 0] (extractStridedSlice S2x64x64 ![0, 0, 64] (res_main_while0b_v182 V0) slices_S2x64x128_S2x64x64_0_0_64) (constant S_ .f32 0x00000000#32) pads_S2x64x64_S2x64x128_000_000_0640 h_S_ : On F main_while0b_v189) = Step.b87 j s := by
  unfold Step.b87
  rw [← al_85 h, ← al_86 h]
  try rfl
theorem al_88 (h : Holds V0 s j) : (constant S_ .f32 0x00000000#32 : On F main_while0b_cst_27) = Step.b88 j s := by
  unfold Step.b88
  rfl
theorem al_89 (h : Holds V0 s j) : (pad S2x64x128 ![0, 0, 64] ![0, 0, 0] ![0, 0, 0] (extractStridedSlice S2x64x64 ![0, 0, 0] (res_main_while0b_v182 V0) slices_S2x64x128_S2x64x64_0_0_0) (constant S_ .f32 0x00000000#32) pads_S2x64x64_S2x64x128_000_000_6400 h_S_ : On F main_while0b_v190) = Step.b89 j s := by
  unfold Step.b89
  rw [← al_84 h, ← al_88 h]
  try rfl
theorem al_90 (h : Holds V0 s j) : (addf (pad S2x64x128 ![0, 0, 0] ![0, 0, 64] ![0, 0, 0] (extractStridedSlice S2x64x64 ![0, 0, 64] (res_main_while0b_v182 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v182 V0) slices_S2x64x128_S2x64x64_0_0_0) (constant S_ .f32 0x00000000#32) pads_S2x64x64_S2x64x128_000_000_6400 h_S_) : On F main_while0b_v191) = Step.b90 j s := by
  unfold Step.b90
  rw [← al_87 h, ← al_89 h]
  try rfl
theorem al_91 (h : Holds V0 s j) : (broadcastInDim S2x64x128 ![0, 1, 2] bcast_S1x64x128_S2x64x128_0_1_2 (res_main_while0b_v171 V0) : On F main_while0b_v192) = Step.b91 j s := by
  unfold Step.b91
  rw [← al_66 h]
  try rfl
theorem al_92 (h : Holds V0 s j) : (mulf (broadcastInDim S2x64x128 ![0, 1, 2] bcast_S1x64x128_S2x64x128_0_1_2 (res_main_while0b_v171 V0)) (V0 (Proc.devRef .tc main_v68_7)) : On F main_while0b_v193) = Step.b92 j s := by
  unfold Step.b92
  rw [← al_91 h, h.f_7]
  try rfl
theorem al_93 (h : Holds V0 s j) : (addf (addf (pad S2x64x128 ![0, 0, 0] ![0, 0, 64] ![0, 0, 0] (extractStridedSlice S2x64x64 ![0, 0, 64] (res_main_while0b_v182 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v182 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v171 V0)) (V0 (Proc.devRef .tc main_v68_7))) : On F main_while0b_v194) = Step.b93 j s := by
  unfold Step.b93
  rw [← al_90 h, ← al_92 h]
  try rfl
theorem al_94 (h : Holds V0 s j) : (mulf (V0 (Proc.devRef .tc main_v68_7)) (res_main_while0b_v132 V0) : On F main_while0b_v195) = Step.b94 j s := by
  unfold Step.b94
  rw [← al_13 h, h.f_7]
  try rfl
theorem al_95 (h : Holds V0 s j) : (constant S_ .f32 0x00000000#32 : On F main_while0b_cst_28) = Step.b95 j s := by
  unfold Step.b95
  rfl
theorem al_96 (h : Holds V0 s j) : (Host.reduceAdd (mulf (V0 (Proc.devRef .tc main_v68_7)) (res_main_while0b_v132 V0)) (constant S_ .f32 0x00000000#32) reducesTo_S2x64x128_S64x128_d0 h_S_ : On F main_while0b_v196) = Step.b96 j s := by
  unfold Step.b96
  rw [← al_94 h, ← al_95 h]
  try rfl
theorem al_97 (h : Holds V0 s j) : (shapeCast S1x64x128 (Host.reduceAdd (mulf (V0 (Proc.devRef .tc main_v68_7)) (res_main_while0b_v132 V0)) (constant S_ .f32 0x00000000#32) reducesTo_S2x64x128_S64x128_d0 h_S_) shapeCasts_S64x128_S1x64x128 : On F main_while0b_v197) = Step.b97 j s := by
  unfold Step.b97
  rw [← al_96 h]
  try rfl
theorem al_98 (h : Holds V0 s j) : (constant S_ .f32 0x00000000#32 : On F main_while0b_cst_29) = Step.b98 j s := by
  unfold Step.b98
  rfl
theorem al_99 (h : Holds V0 s j) : (Host.reduceAdd (shapeCast S1x64x128 (Host.reduceAdd (mulf (V0 (Proc.devRef .tc main_v68_7)) (res_main_while0b_v132 V0)) (constant S_ .f32 0x00000000#32) reducesTo_S2x64x128_S64x128_d0 h_S_) shapeCasts_S64x128_S1x64x128) (constant S_ .f32 0x00000000#32) reducesTo_S1x64x128_S64x128_d0 h_S_ : On F main_while0b_v198) = Step.b99 j s := by
  unfold Step.b99
  rw [← al_97 h, ← al_98 h]
  try rfl
theorem al_100 (h : Holds V0 s j) : (addf (shapeCast S2x64x128 (Host.dynamicSlice S1x2x64x128 (V0 (Proc.devRef .tc main_v68_2)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128) (addf (addf (pad S2x64x128 ![0, 0, 0] ![0, 0, 64] ![0, 0, 0] (extractStridedSlice S2x64x64 ![0, 0, 64] (res_main_while0b_v150 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v150 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v139 V0)) (V0 (Proc.devRef .tc main_v68_6)))) : On F main_while0b_v199) = Step.b100 j s := by
  unfold Step.b100
  rw [← al_18 h, ← al_55 h]
  try rfl
theorem al_101 (h : Holds V0 s j) : (addf (shapeCast S2x64x128 (Host.dynamicSlice S1x2x64x128 (V0 (Proc.devRef .tc main_v68_3)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128) (addf (addf (pad S2x64x128 ![0, 0, 0] ![0, 0, 64] ![0, 0, 0] (extractStridedSlice S2x64x64 ![0, 0, 64] (res_main_while0b_v182 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v182 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v171 V0)) (V0 (Proc.devRef .tc main_v68_7)))) : On F main_while0b_v200) = Step.b101 j s := by
  unfold Step.b101
  rw [← al_23 h, ← al_93 h]
  try rfl
theorem al_102 (h : Holds V0 s j) : (addf (V0 (Proc.devRef .tc main_v68_8)) (Host.reduceAdd (shapeCast S1x64x128 (Host.reduceAdd (mulf (V0 (Proc.devRef .tc main_v68_6)) (res_main_while0b_v131 V0)) (constant S_ .f32 0x00000000#32) reducesTo_S2x64x128_S64x128_d0 h_S_) shapeCasts_S64x128_S1x64x128) (constant S_ .f32 0x00000000#32) reducesTo_S1x64x128_S64x128_d0 h_S_) : On F main_while0b_v201) = Step.b102 j s := by
  unfold Step.b102
  rw [← al_61 h, h.f_8]
  try rfl
theorem al_103 (h : Holds V0 s j) : (addf (V0 (Proc.devRef .tc main_v68_9)) (Host.reduceAdd (shapeCast S1x64x128 (Host.reduceAdd (mulf (V0 (Proc.devRef .tc main_v68_6)) (res_main_while0b_v144 V0)) (constant S_ .f32 0x00000000#32) reducesTo_S2x64x128_S64x128_d0 h_S_) shapeCasts_S64x128_S1x64x128) (constant S_ .f32 0x00000000#32) reducesTo_S1x64x128_S64x128_d0 h_S_) : On F main_while0b_v202) = Step.b103 j s := by
  unfold Step.b103
  rw [← al_45 h, h.f_9]
  try rfl
theorem al_104 (h : Holds V0 s j) : (addf (V0 (Proc.devRef .tc main_v68_10)) (Host.reduceAdd (shapeCast S1x64x128 (Host.reduceAdd (mulf (V0 (Proc.devRef .tc main_v68_7)) (res_main_while0b_v132 V0)) (constant S_ .f32 0x00000000#32) reducesTo_S2x64x128_S64x128_d0 h_S_) shapeCasts_S64x128_S1x64x128) (constant S_ .f32 0x00000000#32) reducesTo_S1x64x128_S64x128_d0 h_S_) : On F main_while0b_v203) = Step.b104 j s := by
  unfold Step.b104
  rw [← al_99 h, h.f_10]
  try rfl
theorem al_105 (h : Holds V0 s j) : (addf (V0 (Proc.devRef .tc main_v68_11)) (Host.reduceAdd (shapeCast S1x64x128 (Host.reduceAdd (mulf (V0 (Proc.devRef .tc main_v68_7)) (res_main_while0b_v176 V0)) (constant S_ .f32 0x00000000#32) reducesTo_S2x64x128_S64x128_d0 h_S_) shapeCasts_S64x128_S1x64x128) (constant S_ .f32 0x00000000#32) reducesTo_S1x64x128_S64x128_d0 h_S_) : On F main_while0b_v204) = Step.b105 j s := by
  unfold Step.b105
  rw [← al_83 h, h.f_11]
  try rfl
theorem al_106 (h : Holds V0 s j) : (broadcastInDim S1x2x64x128 ![1, 2, 3] bcast_S2x64x128_S1x2x64x128_1_2_3 (V0 (Proc.devRef .tc main_v68_6)) : On F main_while0b_call4_v0) = Step.b106 j s := by
  unfold Step.b106
  rw [h.f_6]
  try rfl
theorem al_107 (h : Holds V0 s j) : (constantI S_ 32 0#32 : On F main_while0b_call4_c) = Step.b107 j s := by
  unfold Step.b107
  rfl
theorem al_108 (h : Holds V0 s j) : (constantI S_ 32 0#32 : On F main_while0b_call4_c_0) = Step.b108 j s := by
  unfold Step.b108
  rfl
theorem al_109 (h : Holds V0 s j) : (constantI S_ 32 0#32 : On F main_while0b_call4_c_1) = Step.b109 j s := by
  unfold Step.b109
  rfl
theorem al_110 (h : Holds V0 s j) : (Host.dynamicUpdateSlice (V0 (Proc.devRef .tc main_v68_12)) (broadcastInDim S1x2x64x128 ![1, 2, 3] bcast_S2x64x128_S1x2x64x128_1_2_3 (V0 (Proc.devRef .tc main_v68_6))) (fun k => (((![res_main_while0b_v130 V0, constantI S_ 32 0#32, constantI S_ 32 0#32, constantI S_ 32 0#32] : Fin 4 → (⟨S_, .i32⟩ : BufTy).Contents (Elt F))) k (Shape.Idx.first h_S_)).toInt) updateFits_S272x2x64x128_S1x2x64x128 : On F main_while0b_v205) = Step.b110 j s := by
  unfold Step.b110
  rw [← al_106 h, ← al_3 h, ← al_107 h, ← al_108 h, ← al_109 h, h.f_12]
  try rfl
theorem al_111 (h : Holds V0 s j) : (broadcastInDim S1x2x64x128 ![1, 2, 3] bcast_S2x64x128_S1x2x64x128_1_2_3 (V0 (Proc.devRef .tc main_v68_7)) : On F main_while0b_call5_v0) = Step.b111 j s := by
  unfold Step.b111
  rw [h.f_7]
  try rfl
theorem al_112 (h : Holds V0 s j) : (constantI S_ 32 0#32 : On F main_while0b_call5_c) = Step.b112 j s := by
  unfold Step.b112
  rfl
theorem al_113 (h : Holds V0 s j) : (constantI S_ 32 0#32 : On F main_while0b_call5_c_0) = Step.b113 j s := by
  unfold Step.b113
  rfl
theorem al_114 (h : Holds V0 s j) : (constantI S_ 32 0#32 : On F main_while0b_call5_c_1) = Step.b114 j s := by
  unfold Step.b114
  rfl
theorem al_115 (h : Holds V0 s j) : (Host.dynamicUpdateSlice (V0 (Proc.devRef .tc main_v68_13)) (broadcastInDim S1x2x64x128 ![1, 2, 3] bcast_S2x64x128_S1x2x64x128_1_2_3 (V0 (Proc.devRef .tc main_v68_7))) (fun k => (((![res_main_while0b_v130 V0, constantI S_ 32 0#32, constantI S_ 32 0#32, constantI S_ 32 0#32] : Fin 4 → (⟨S_, .i32⟩ : BufTy).Contents (Elt F))) k (Shape.Idx.first h_S_)).toInt) updateFits_S272x2x64x128_S1x2x64x128 : On F main_while0b_v206) = Step.b115 j s := by
  unfold Step.b115
  rw [← al_111 h, ← al_3 h, ← al_112 h, ← al_113 h, ← al_114 h, h.f_13]
  try rfl

/-! One trip's step of the carried values is `step`, field by field; a counter steps to the next number. -/

theorem step_6 (h : Holds V0 s j) : step_main_v68_6 V0 = (step j s).main_v68_6 := by
  unfold step_main_v68_6 Step.step
  show id (addf (shapeCast S2x64x128 (Host.dynamicSlice S1x2x64x128 (V0 (Proc.devRef .tc main_v68_2)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128) (addf (addf (pad S2x64x128 ![0, 0, 0] ![0, 0, 64] ![0, 0, 0] (extractStridedSlice S2x64x64 ![0, 0, 64] (res_main_while0b_v150 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v150 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v139 V0)) (V0 (Proc.devRef .tc main_v68_6))))) = _
  rw [al_100 h]
  try rfl
theorem step_7 (h : Holds V0 s j) : step_main_v68_7 V0 = (step j s).main_v68_7 := by
  unfold step_main_v68_7 Step.step
  show id (addf (shapeCast S2x64x128 (Host.dynamicSlice S1x2x64x128 (V0 (Proc.devRef .tc main_v68_3)) (fun k => (((![res_main_while0b_v130 V0, constantI S_ 32 0#32, constantI S_ 32 0#32, constantI S_ 32 0#32] : Fin 4 → (⟨S_, .i32⟩ : BufTy).Contents (Elt F))) k (Shape.Idx.first h_S_)).toInt) sliceFits_S272x2x64x128_S1x2x64x128) shapeCasts_S1x2x64x128_S2x64x128) (addf (addf (pad S2x64x128 ![0, 0, 0] ![0, 0, 64] ![0, 0, 0] (extractStridedSlice S2x64x64 ![0, 0, 64] (res_main_while0b_v182 V0) slices_S2x64x128_S2x64x64_0_0_64) (constant S_ .f32 0x00000000#32) pads_S2x64x64_S2x64x128_000_000_0640 h_S_) (pad S2x64x128 ![0, 0, 64] ![0, 0, 0] ![0, 0, 0] (extractStridedSlice S2x64x64 ![0, 0, 0] (res_main_while0b_v182 V0) slices_S2x64x128_S2x64x64_0_0_0) (constant S_ .f32 0x00000000#32) pads_S2x64x64_S2x64x128_000_000_6400 h_S_)) (mulf (broadcastInDim S2x64x128 ![0, 1, 2] bcast_S1x64x128_S2x64x128_0_1_2 (res_main_while0b_v171 V0)) (V0 (Proc.devRef .tc main_v68_7))))) = _
  rw [al_101 h]
  try rfl
theorem step_8 (h : Holds V0 s j) : step_main_v68_8 V0 = (step j s).main_v68_8 := by
  unfold step_main_v68_8 Step.step
  show id (addf (V0 (Proc.devRef .tc main_v68_8)) (Host.reduceAdd (shapeCast S1x64x128 (Host.reduceAdd (mulf (V0 (Proc.devRef .tc main_v68_6)) (res_main_while0b_v131 V0)) (constant S_ .f32 0x00000000#32) reducesTo_S2x64x128_S64x128_d0 h_S_) shapeCasts_S64x128_S1x64x128) (constant S_ .f32 0x00000000#32) reducesTo_S1x64x128_S64x128_d0 h_S_)) = _
  rw [al_102 h]
  try rfl
theorem step_9 (h : Holds V0 s j) : step_main_v68_9 V0 = (step j s).main_v68_9 := by
  unfold step_main_v68_9 Step.step
  show id (addf (V0 (Proc.devRef .tc main_v68_9)) (Host.reduceAdd (shapeCast S1x64x128 (Host.reduceAdd (mulf (V0 (Proc.devRef .tc main_v68_6)) (res_main_while0b_v144 V0)) (constant S_ .f32 0x00000000#32) reducesTo_S2x64x128_S64x128_d0 h_S_) shapeCasts_S64x128_S1x64x128) (constant S_ .f32 0x00000000#32) reducesTo_S1x64x128_S64x128_d0 h_S_)) = _
  rw [al_103 h]
  try rfl
theorem step_10 (h : Holds V0 s j) : step_main_v68_10 V0 = (step j s).main_v68_10 := by
  unfold step_main_v68_10 Step.step
  show id (addf (V0 (Proc.devRef .tc main_v68_10)) (Host.reduceAdd (shapeCast S1x64x128 (Host.reduceAdd (mulf (V0 (Proc.devRef .tc main_v68_7)) (res_main_while0b_v132 V0)) (constant S_ .f32 0x00000000#32) reducesTo_S2x64x128_S64x128_d0 h_S_) shapeCasts_S64x128_S1x64x128) (constant S_ .f32 0x00000000#32) reducesTo_S1x64x128_S64x128_d0 h_S_)) = _
  rw [al_104 h]
  try rfl
theorem step_11 (h : Holds V0 s j) : step_main_v68_11 V0 = (step j s).main_v68_11 := by
  unfold step_main_v68_11 Step.step
  show id (addf (V0 (Proc.devRef .tc main_v68_11)) (Host.reduceAdd (shapeCast S1x64x128 (Host.reduceAdd (mulf (V0 (Proc.devRef .tc main_v68_7)) (res_main_while0b_v176 V0)) (constant S_ .f32 0x00000000#32) reducesTo_S2x64x128_S64x128_d0 h_S_) shapeCasts_S64x128_S1x64x128) (constant S_ .f32 0x00000000#32) reducesTo_S1x64x128_S64x128_d0 h_S_)) = _
  rw [al_105 h]
  try rfl
theorem step_12 (h : Holds V0 s j) : step_main_v68_12 V0 = (step j s).main_v68_12 := by
  unfold step_main_v68_12 Step.step
  show id (Host.dynamicUpdateSlice (V0 (Proc.devRef .tc main_v68_12)) (broadcastInDim S1x2x64x128 ![1, 2, 3] bcast_S2x64x128_S1x2x64x128_1_2_3 (V0 (Proc.devRef .tc main_v68_6))) (fun k => (((![res_main_while0b_v130 V0, constantI S_ 32 0#32, constantI S_ 32 0#32, constantI S_ 32 0#32] : Fin 4 → (⟨S_, .i32⟩ : BufTy).Contents (Elt F))) k (Shape.Idx.first h_S_)).toInt) updateFits_S272x2x64x128_S1x2x64x128) = _
  exact al_110 h
theorem step_13 (h : Holds V0 s j) : step_main_v68_13 V0 = (step j s).main_v68_13 := by
  unfold step_main_v68_13 Step.step
  show id (Host.dynamicUpdateSlice (V0 (Proc.devRef .tc main_v68_13)) (broadcastInDim S1x2x64x128 ![1, 2, 3] bcast_S2x64x128_S1x2x64x128_1_2_3 (V0 (Proc.devRef .tc main_v68_7))) (fun k => (((![res_main_while0b_v130 V0, constantI S_ 32 0#32, constantI S_ 32 0#32, constantI S_ 32 0#32] : Fin 4 → (⟨S_, .i32⟩ : BufTy).Contents (Elt F))) k (Shape.Idx.first h_S_)).toInt) updateFits_S272x2x64x128_S1x2x64x128) = _
  exact al_115 h
theorem step_5 (h : Holds V0 s j) : step_main_v68_5 V0 = constantI S_ 32 (BitVec.ofNat 32 (j + 1)) := by
  unfold step_main_v68_5
  rw [h.n_5]
  funext i
  show BitVec.ofNat 32 j + 1#32 = BitVec.ofNat 32 (j + 1)
  simp only [BitVec.ofNat_add]

theorem out_main_v123_holds (h : Holds V0 s j) {x_main_arg0 : (⟨S2x17408x256, .bf16⟩ : BufTy).Contents (Elt F)} (h_main_arg0 : V0 (Proc.devRef .tc main_arg0) = x_main_arg0) {x_main_arg4 : (⟨S64x256x256, .bf16⟩ : BufTy).Contents (Elt F)} (h_main_arg4 : V0 (Proc.devRef .tc main_arg4) = x_main_arg4) {x_main_arg5 : (⟨S64x256x128, .bf16⟩ : BufTy).Contents (Elt F)} (h_main_arg5 : V0 (Proc.devRef .tc main_arg5) = x_main_arg5) {x_main_arg6 : (⟨S64x256x128, .bf16⟩ : BufTy).Contents (Elt F)} (h_main_arg6 : V0 (Proc.devRef .tc main_arg6) = x_main_arg6) : out_main_v123 V0 = Step.R_main_v123 s x_main_arg0 x_main_arg4 x_main_arg5 x_main_arg6 := by
  unfold out_main_v123 Step.R_main_v123
  rw [h.f_12, h.f_13, h_main_arg0, h_main_arg4, h_main_arg5, h_main_arg6]
  try rfl

theorem out_main_v103_holds (h : Holds V0 s j) {x_main_arg0 : (⟨S2x17408x256, .bf16⟩ : BufTy).Contents (Elt F)} (h_main_arg0 : V0 (Proc.devRef .tc main_arg0) = x_main_arg0) {x_main_arg1 : (⟨S2x17408x256, .bf16⟩ : BufTy).Contents (Elt F)} (h_main_arg1 : V0 (Proc.devRef .tc main_arg1) = x_main_arg1) : out_main_v103 V0 = Step.R_main_v103 s x_main_arg0 x_main_arg1 := by
  unfold out_main_v103 Step.R_main_v103
  rw [h_main_arg0, h_main_arg1]
  try rfl

theorem out_main_v111_holds (h : Holds V0 s j) {x_main_arg1 : (⟨S2x17408x256, .bf16⟩ : BufTy).Contents (Elt F)} (h_main_arg1 : V0 (Proc.devRef .tc main_arg1) = x_main_arg1) : out_main_v111 V0 = Step.R_main_v111 s x_main_arg1 := by
  unfold out_main_v111 Step.R_main_v111
  rw [h.f_12, h_main_arg1]
  try rfl

theorem out_main_v119_holds (h : Holds V0 s j) {x_main_arg1 : (⟨S2x17408x256, .bf16⟩ : BufTy).Contents (Elt F)} (h_main_arg1 : V0 (Proc.devRef .tc main_arg1) = x_main_arg1) : out_main_v119 V0 = Step.R_main_v119 s x_main_arg1 := by
  unfold out_main_v119 Step.R_main_v119
  rw [h.f_13, h_main_arg1]
  try rfl

theorem out_main_v98_holds (h : Holds V0 s j) {x_main_arg0 : (⟨S2x17408x256, .bf16⟩ : BufTy).Contents (Elt F)} (h_main_arg0 : V0 (Proc.devRef .tc main_arg0) = x_main_arg0) {x_main_arg2 : (⟨S2x17408x128, .f32⟩ : BufTy).Contents (Elt F)} (h_main_arg2 : V0 (Proc.devRef .tc main_arg2) = x_main_arg2) : out_main_v98 V0 = Step.R_main_v98 s x_main_arg0 x_main_arg2 := by
  unfold out_main_v98 Step.R_main_v98
  rw [h_main_arg0, h_main_arg2]
  try rfl

theorem out_main_v95_holds (h : Holds V0 s j) {x_main_arg0 : (⟨S2x17408x256, .bf16⟩ : BufTy).Contents (Elt F)} (h_main_arg0 : V0 (Proc.devRef .tc main_arg0) = x_main_arg0) {x_main_arg3 : (⟨S2x17408x128, .f32⟩ : BufTy).Contents (Elt F)} (h_main_arg3 : V0 (Proc.devRef .tc main_arg3) = x_main_arg3) : out_main_v95 V0 = Step.R_main_v95 s x_main_arg0 x_main_arg3 := by
  unfold out_main_v95 Step.R_main_v95
  rw [h_main_arg0, h_main_arg3]
  try rfl

theorem out_main_v128_holds (h : Holds V0 s j) : out_main_v128 V0 = Step.R_main_v128 s := by
  unfold out_main_v128 Step.R_main_v128
  rw [h.f_8, h.f_9, h.f_10, h.f_11]
  try rfl

/-- One trip keeps the valuation holding: `step` of the state, the same set-up values, the next number. -/
theorem holds_step (h : Holds V0 s j) : Holds (STEP V0) (step j s) (j + 1) where
  f_6 := (STEP_main_v68_6 V0).trans (step_6 h)
  f_7 := (STEP_main_v68_7 V0).trans (step_7 h)
  f_8 := (STEP_main_v68_8 V0).trans (step_8 h)
  f_9 := (STEP_main_v68_9 V0).trans (step_9 h)
  f_10 := (STEP_main_v68_10 V0).trans (step_10 h)
  f_11 := (STEP_main_v68_11 V0).trans (step_11 h)
  f_12 := (STEP_main_v68_12 V0).trans (step_12 h)
  f_13 := (STEP_main_v68_13 V0).trans (step_13 h)
  n_5 := (STEP_main_v68_5 V0).trans (step_5 h)
  f_0 := (STEP_main_v68_0 V0).trans h.f_0
  f_1 := (STEP_main_v68_1 V0).trans h.f_1
  f_2 := (STEP_main_v68_2 V0).trans h.f_2
  f_3 := (STEP_main_v68_3 V0).trans h.f_3
  f_4 := (STEP_main_v68_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 272 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v123) = Step.R_main_v123 (it c 272) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v103) = Step.R_main_v103 (it c 272) (m ((c.tc : Thread nD τ).loc main_arg0)) (m ((c.tc : Thread nD τ).loc main_arg1))
      ∧ r.2.mem ((c.tc : Thread nD τ).loc main_v111) = Step.R_main_v111 (it c 272) (m ((c.tc : Thread nD τ).loc main_arg1))
      ∧ r.2.mem ((c.tc : Thread nD τ).loc main_v119) = Step.R_main_v119 (it c 272) (m ((c.tc : Thread nD τ).loc main_arg1))
      ∧ r.2.mem ((c.tc : Thread nD τ).loc main_v98) = Step.R_main_v98 (it c 272) (m ((c.tc : Thread nD τ).loc main_arg0)) (m ((c.tc : Thread nD τ).loc main_arg2))
      ∧ r.2.mem ((c.tc : Thread nD τ).loc main_v95) = Step.R_main_v95 (it c 272) (m ((c.tc : Thread nD τ).loc main_arg0)) (m ((c.tc : Thread nD τ).loc main_arg3))
      ∧ r.2.mem ((c.tc : Thread nD τ).loc main_v128) = Step.R_main_v128 (it c 272)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 272
    ⟨(h c).1.trans (out_main_v123_holds hk (iter_main_arg0 m c 272) (iter_main_arg4 m c 272) (iter_main_arg5 m c 272) (iter_main_arg6 m c 272)), (h c).2.1.trans (out_main_v103_holds hk (iter_main_arg0 m c 272) (iter_main_arg1 m c 272)), (h c).2.2.1.trans (out_main_v111_holds hk (iter_main_arg1 m c 272)), (h c).2.2.2.1.trans (out_main_v119_holds hk (iter_main_arg1 m c 272)), (h c).2.2.2.2.1.trans (out_main_v98_holds hk (iter_main_arg0 m c 272) (iter_main_arg2 m c 272)), (h c).2.2.2.2.2.1.trans (out_main_v95_holds hk (iter_main_arg0 m c 272) (iter_main_arg3 m c 272)), (h c).2.2.2.2.2.2.1.trans (out_main_v128_holds hk), (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.ReferenceIdeal.RefRun

end
-- ==== Proof.RefTrip.lean ====
module

public import proofs.«01_k».proof.Proof.Answer
public import proofs.«01_k».proof.Proof.Gen.ReferenceIdeal.Step
public import Idealize.ShloMosaic.Lib.DynamicIndex

@[expose] public section

/-!
One trip of the reference's loop, read one element at a time: what it takes of the arrays it walks, the rows it
multiplies by, the exchange of the two halves, and the sums over the two sequences.
-/

noncomputable section

namespace Cert.ReferenceIdeal.Trip

open Idealize.ShloMosaic Idealize.ShloMosaic.TcCoe
open Cert.ReferenceIdeal Cert.ReferenceIdeal.Gen Cert.ReferenceIdeal.Step Cert.S5

/-- The chunk that trip `j` treats, as the loop's integers compute it. -/
theorem start_eq : ∀ j : Fin 272,
    (IntOp.subi (IntOp.subi 272#32 (BitVec.ofNat 32 j.val)) 1#32).toInt = ((271 - j.val : ℕ) : Int) := by
  decide +kernel

/-- The starts of trip `j`'s one-chunk windows. -/
abbrev starts (j : ℕ) : Fin 4 → Int := fun k =>
  (![subi (subi (constantI S_ 32 272#32) (constantI S_ 32 (BitVec.ofNat 32 j))) (constantI S_ 32 1#32),
    constantI S_ 32 0#32, constantI S_ 32 0#32, constantI S_ 32 0#32] k (Shape.Idx.first h_S_)).toInt

theorem starts_eq {j : ℕ} (hj : j < 272) (a : Fin 4) : starts j a = ((![271 - j, 0, 0, 0] a : ℕ) : Int) := by
  match a with
  | 0 => exact start_eq ⟨j, hj⟩
  | 1 => rfl
  | 2 => rfl
  | 3 => rfl

/-- The chunk that trip `j` treats. -/
def ch (j : ℕ) (hj : j < 272) : Fin 272 := ⟨271 - j, by omega⟩

/-- Reading the one chunk of trip `j`. -/
theorem slice_at {j : ℕ} (hj : j < 272) (x : Vec Ideal S272x2x64x128 .f32) (b : Fin 2) (g : Fin 64) (p : Fin 128) :
    shapeCast S2x64x128 (Host.dynamicSlice S1x2x64x128 x (starts j) sliceFits_S272x2x64x128_S1x2x64x128)
      shapeCasts_S1x2x64x128_S2x64x128 (ix3 b g p) = x (Idealize.ShloMosaic.ix4 (ch j hj) b g p) := by
  have hs : S272x2x64x128.Slices ![271 - j, 0, 0, 0] S1x2x64x128 := by
    refine ⟨rfl, fun a => ?_⟩
    match a with
    | 0 => show 271 - j + 1 ≤ 272; omega
    | 1 => show 0 + 2 ≤ 2; omega
    | 2 => show 0 + 64 ≤ 64; omega
    | 3 => show 0 + 128 ≤ 128; omega
  rw [Host.dynamicSlice_eq_extractStridedSlice S1x2x64x128 x (starts j) ![271 - j, 0, 0, 0] _ hs (starts_eq hj)]
  simp only [pointwise]
  refine congrArg x (funext fun a => ?_)
  match a with
  | 0 => exact Fin.ext rfl
  | 1 => exact Fin.ext (Nat.zero_add _)
  | 2 => exact Fin.ext (Nat.zero_add _)
  | 3 => exact Fin.ext (Nat.zero_add _)

/-- Writing the one chunk of trip `j`. -/
theorem update_at {j : ℕ} (hj : j < 272) (x : Vec Ideal S272x2x64x128 .f32) (q : Vec Ideal S2x64x128 .f32)
    (n : Fin 272) (b : Fin 2) (g : Fin 64) (p : Fin 128) :
    Host.dynamicUpdateSlice x (broadcastInDim S1x2x64x128 ![1, 2, 3] bcast_S2x64x128_S1x2x64x128_1_2_3 q) (starts j)
      updateFits_S272x2x64x128_S1x2x64x128 (Idealize.ShloMosaic.ix4 n b g p)
      = if n.val = 271 - j then q (ix3 b g p) else x (Idealize.ShloMosaic.ix4 n b g p) := by
  have h0 : Host.clampedStart S272x2x64x128 S1x2x64x128 updateFits_S272x2x64x128_S1x2x64x128.1 (starts j) 0 = 271 - j :=
    Host.clampedStart_of_le _ _ 0 (271 - j) (starts_eq hj 0) (by show 271 - j + 1 ≤ 272; omega)
  have h1 : Host.clampedStart S272x2x64x128 S1x2x64x128 updateFits_S272x2x64x128_S1x2x64x128.1 (starts j) 1 = 0 :=
    Host.clampedStart_of_le _ _ 1 0 (starts_eq hj 1) (by decide)
  have h2 : Host.clampedStart S272x2x64x128 S1x2x64x128 updateFits_S272x2x64x128_S1x2x64x128.1 (starts j) 2 = 0 :=
    Host.clampedStart_of_le _ _ 2 0 (starts_eq hj 2) (by decide)
  have h3 : Host.clampedStart S272x2x64x128 S1x2x64x128 updateFits_S272x2x64x128_S1x2x64x128.1 (starts j) 3 = 0 :=
    Host.clampedStart_of_le _ _ 3 0 (starts_eq hj 3) (by decide)
  rw [Host.dynamicUpdateSlice_apply]
  by_cases h : n.val = 271 - j
  · rw [if_pos h, dif_pos]
    · simp only [pointwise]
      refine congrArg q (funext fun a => ?_)
      match a with
      | 0 => apply Fin.ext; exact congrArg (fun c => b.val - c) h1
      | 1 => apply Fin.ext; exact congrArg (fun c => g.val - c) h2
      | 2 => apply Fin.ext; exact congrArg (fun c => p.val - c) h3
    · intro a
      have hb := b.isLt
      have hg := g.isLt
      have hp := p.isLt
      match a with
      | 0 => rw [h0]; show 271 - j ≤ n.val ∧ n.val < 271 - j + 1; omega
      | 1 => rw [h1]; show 0 ≤ b.val ∧ b.val < 0 + 2; omega
      | 2 => rw [h2]; show 0 ≤ g.val ∧ g.val < 0 + 64; omega
      | 3 => rw [h3]; show 0 ≤ p.val ∧ p.val < 0 + 128; omega
  · rw [if_neg h, dif_neg]
    intro hin
    have h' := hin 0
    rw [h0] at h'
    have h'' : 271 - j ≤ n.val ∧ n.val < 271 - j + 1 := h'
    omega

/-- Exchanging the halves by slicing and joining. -/
theorem rot_at (x : Vec Ideal S2x64x128 .f32) (b : Fin 2) (g : Fin 64) (p : Fin 128) :
    concatenate S2x64x128 2 [⟨S2x64x64, extractStridedSlice S2x64x64 ![0, 0, 64] x slices_S2x64x128_S2x64x64_0_0_64⟩,
      ⟨S2x64x64, extractStridedSlice S2x64x64 ![0, 0, 0] x slices_S2x64x128_S2x64x64_0_0_0⟩]
      concatenates_S2x64x64_S2x64x64_S2x64x128_d2 (ix3 b g p) = x (ix3 b g (rot p)) := by
  have hp := p.isLt
  simp only [pointwise]
  by_cases h : p.val < 64
  · have e : rot p = ⟨64 + p.val, by omega⟩ := by apply Fin.ext; simp only [rot]; omega
    rw [e]
    simp [h]
  · have e : rot p = ⟨p.val - 64, by omega⟩ := by apply Fin.ext; simp only [rot]; omega
    rw [e]
    simp [h]

/-- Exchanging the halves by adding two padded halves. -/
theorem pads_at (x : Vec Ideal S2x64x128 .f32) (b : Fin 2) (g : Fin 64) (p : Fin 128) :
    addf (F := Ideal) (pad S2x64x128 ![0, 0, 0] ![0, 0, 64] ![0, 0, 0] (extractStridedSlice S2x64x64 ![0, 0, 64] x slices_S2x64x128_S2x64x64_0_0_64)
        (constant (F := Ideal) S_ .f32 0x00000000#32) pads_S2x64x64_S2x64x128_000_000_0640 h_S_)
      (pad S2x64x128 ![0, 0, 64] ![0, 0, 0] ![0, 0, 0] (extractStridedSlice S2x64x64 ![0, 0, 0] x slices_S2x64x128_S2x64x64_0_0_0)
        (constant (F := Ideal) S_ .f32 0x00000000#32) pads_S2x64x64_S2x64x128_000_000_6400 h_S_) (ix3 b g p) = x (ix3 b g (rot p)) := by
  have hp := p.isLt
  have hb := b.isLt
  have hg := g.isLt
  simp only [pointwise]
  by_cases h : p.val < 64
  · have e : rot p = ⟨64 + p.val, by omega⟩ := by apply Fin.ext; simp only [rot]; omega
    rw [e, dif_pos, dif_neg]
    · refine (add_zero _).trans (congrArg x (funext fun a => ?_))
      match a with
      | 0 => exact Fin.ext (by show 0 + (b.val - 0) / 1 = b.val; omega)
      | 1 => exact Fin.ext (by show 0 + (g.val - 0) / 1 = g.val; omega)
      | 2 => exact Fin.ext (by show 64 + (p.val - 0) / 1 = 64 + p.val; omega)
    · intro h'; have := (h' 2).1; change 64 ≤ p.val at this; omega
    · intro a
      match a with
      | 0 => show 0 ≤ b.val ∧ (b.val - 0) % 1 = 0 ∧ (b.val - 0) / 1 < 2; omega
      | 1 => show 0 ≤ g.val ∧ (g.val - 0) % 1 = 0 ∧ (g.val - 0) / 1 < 64; omega
      | 2 => show 0 ≤ p.val ∧ (p.val - 0) % 1 = 0 ∧ (p.val - 0) / 1 < 64; omega
  · have e : rot p = ⟨p.val - 64, by omega⟩ := by apply Fin.ext; simp only [rot]; omega
    rw [e, dif_neg, dif_pos]
    · refine (zero_add _).trans (congrArg x (funext fun a => ?_))
      match a with
      | 0 => exact Fin.ext (by show 0 + (b.val - 0) / 1 = b.val; omega)
      | 1 => exact Fin.ext (by show 0 + (g.val - 0) / 1 = g.val; omega)
      | 2 => exact Fin.ext (by show 0 + (p.val - 64) / 1 = p.val - 64; omega)
    · intro a
      match a with
      | 0 => show 0 ≤ b.val ∧ (b.val - 0) % 1 = 0 ∧ (b.val - 0) / 1 < 2; omega
      | 1 => show 0 ≤ g.val ∧ (g.val - 0) % 1 = 0 ∧ (g.val - 0) / 1 < 64; omega
      | 2 => show 64 ≤ p.val ∧ (p.val - 64) % 1 = 0 ∧ (p.val - 64) / 1 < 64; omega
    · intro h'; have := (h' 2).2.2; change (p.val - 0) / 1 < 64 at this; omega

/-- The sum over the two sequences, as the loop takes it. -/
theorem both_at (x : Vec Ideal S2x64x128 .f32) (g : Fin 64) (p : Fin 128) :
    Host.reduceAdd (F := Ideal) (shapeCast S1x64x128 (Host.reduceAdd (F := Ideal) x (constant (F := Ideal) S_ .f32 0x00000000#32) reducesTo_S2x64x128_S64x128_d0 h_S_)
      shapeCasts_S64x128_S1x64x128) (constant (F := Ideal) S_ .f32 0x00000000#32) reducesTo_S1x64x128_S64x128_d0 h_S_ (Idealize.ShloMosaic.ix2 g p)
      = ∑ b : Fin 2, (x (ix3 b g p) : EReal) := by
  simp only [pointwise]
  rw [Fin.sum_univ_one, zero_add, zero_add]

/-- A row, read for both sequences. -/
theorem row_at (x : Vec Ideal S64x128 .f32) (b : Fin 2) (g : Fin 64) (p : Fin 128) :
    broadcastInDim S2x64x128 ![0, 1, 2] bcast_S1x64x128_S2x64x128_0_1_2
      (broadcastInDim S1x64x128 ![1, 2] bcast_S64x128_S1x64x128_1_2 x) (ix3 b g p) = x (Idealize.ShloMosaic.ix2 g p) := by
  simp [pointwise]

variable (j : ℕ) (s : State Ideal)

/-- The rows a trip multiplies by. -/
theorem b25_at (g : Fin 64) (p : Fin 128) : b25 j s (Idealize.ShloMosaic.ix2 g p) = s.main_v68_4 (ix3 0 g p) := by
  unfold b25 b24
  simp [pointwise]

theorem b27_at (g : Fin 64) (p : Fin 128) : b27 j s (Idealize.ShloMosaic.ix2 g p) = s.main_v68_4 (ix3 1 g p) := by
  unfold b27 b26
  simp [pointwise]

theorem b63_at (g : Fin 64) (p : Fin 128) : b63 j s (Idealize.ShloMosaic.ix2 g p) = s.main_v68_4 (ix3 2 g p) := by
  unfold b63 b62
  simp [pointwise]

theorem b65_at (g : Fin 64) (p : Fin 128) : b65 j s (Idealize.ShloMosaic.ix2 g p) = s.main_v68_4 (ix3 3 g p) := by
  unfold b65 b64
  simp [pointwise]

/-- The carried cotangent of the forward direction after a trip. -/
theorem next6 (hj : j < 272) (b : Fin 2) (g : Fin 64) (p : Fin 128) :
    (step j s).main_v68_6 (ix3 b g p) = (s.main_v68_2 (Idealize.ShloMosaic.ix4 (ch j hj) b g p) : EReal)
      + ((s.main_v68_4 (ix3 1 g (rot p)) : EReal) * s.main_v68_6 (ix3 b g (rot p)) + (s.main_v68_4 (ix3 0 g p) : EReal) * s.main_v68_6 (ix3 b g p)) := by
  rw [step_main_v68_6]
  have h1 := slice_at hj s.main_v68_2 b g p
  have h2 := pads_at (b39 j s) b g p
  have h3 : b39 j s (ix3 b g (rot p)) = (s.main_v68_4 (ix3 1 g (rot p)) : EReal) * s.main_v68_6 (ix3 b g (rot p)) := by
    rw [← b27_at j s g (rot p), ← row_at (b27 j s) b g (rot p)]
    rfl
  have h4 : b54 j s (ix3 b g p) = (s.main_v68_4 (ix3 0 g p) : EReal) * s.main_v68_6 (ix3 b g p) := by
    rw [← b25_at j s g p, ← row_at (b25 j s) b g p]
    rfl
  rw [← h3, ← h4, ← h2, ← h1]
  rfl

/-- The carried cotangent of the backward direction after a trip. -/
theorem next7 (hj : j < 272) (b : Fin 2) (g : Fin 64) (p : Fin 128) :
    (step j s).main_v68_7 (ix3 b g p) = (s.main_v68_3 (Idealize.ShloMosaic.ix4 (ch j hj) b g p) : EReal)
      + ((s.main_v68_4 (ix3 3 g (rot p)) : EReal) * s.main_v68_7 (ix3 b g (rot p)) + (s.main_v68_4 (ix3 2 g p) : EReal) * s.main_v68_7 (ix3 b g p)) := by
  rw [step_main_v68_7]
  have h1 := slice_at hj s.main_v68_3 b g p
  have h2 := pads_at (b77 j s) b g p
  have h3 : b77 j s (ix3 b g (rot p)) = (s.main_v68_4 (ix3 3 g (rot p)) : EReal) * s.main_v68_7 (ix3 b g (rot p)) := by
    rw [← b65_at j s g (rot p), ← row_at (b65 j s) b g (rot p)]
    rfl
  have h4 : b92 j s (ix3 b g p) = (s.main_v68_4 (ix3 2 g p) : EReal) * s.main_v68_7 (ix3 b g p) := by
    rw [← b63_at j s g p, ← row_at (b63 j s) b g p]
    rfl
  rw [← h3, ← h4, ← h2, ← h1]
  rfl

/-- The four sums after a trip. -/
theorem next8 (hj : j < 272) (g : Fin 64) (p : Fin 128) :
    (step j s).main_v68_8 (Idealize.ShloMosaic.ix2 g p) = (s.main_v68_8 (Idealize.ShloMosaic.ix2 g p) : EReal)
      + ∑ b : Fin 2, (s.main_v68_6 (ix3 b g p) : EReal) * s.main_v68_0 (Idealize.ShloMosaic.ix4 (ch j hj) b g p) := by
  rw [step_main_v68_8]
  have h : ∀ b, b56 j s (ix3 b g p) = (s.main_v68_6 (ix3 b g p) : EReal) * s.main_v68_0 (Idealize.ShloMosaic.ix4 (ch j hj) b g p) := by
    intro b
    rw [← slice_at hj s.main_v68_0 b g p]
    rfl
  rw [← Finset.sum_congr rfl (fun b _ => h b), ← both_at]
  rfl

theorem next9 (hj : j < 272) (g : Fin 64) (p : Fin 128) :
    (step j s).main_v68_9 (Idealize.ShloMosaic.ix2 g p) = (s.main_v68_9 (Idealize.ShloMosaic.ix2 g p) : EReal)
      + ∑ b : Fin 2, (s.main_v68_6 (ix3 b g p) : EReal) * s.main_v68_0 (Idealize.ShloMosaic.ix4 (ch j hj) b g (rot p)) := by
  rw [step_main_v68_9]
  have h : ∀ b, b40 j s (ix3 b g p) = (s.main_v68_6 (ix3 b g p) : EReal) * s.main_v68_0 (Idealize.ShloMosaic.ix4 (ch j hj) b g (rot p)) := by
    intro b
    have h' : b33 j s (ix3 b g p) = s.main_v68_0 (Idealize.ShloMosaic.ix4 (ch j hj) b g (rot p)) :=
      (rot_at (b8 j s) b g p).trans (slice_at hj s.main_v68_0 b g (rot p))
    rw [← h']
    rfl
  rw [← Finset.sum_congr rfl (fun b _ => h b), ← both_at]
  rfl

theorem next10 (hj : j < 272) (g : Fin 64) (p : Fin 128) :
    (step j s).main_v68_10 (Idealize.ShloMosaic.ix2 g p) = (s.main_v68_10 (Idealize.ShloMosaic.ix2 g p) : EReal)
      + ∑ b : Fin 2, (s.main_v68_7 (ix3 b g p) : EReal) * s.main_v68_1 (Idealize.ShloMosaic.ix4 (ch j hj) b g p) := by
  rw [step_main_v68_10]
  have h : ∀ b, b94 j s (ix3 b g p) = (s.main_v68_7 (ix3 b g p) : EReal) * s.main_v68_1 (Idealize.ShloMosaic.ix4 (ch j hj) b g p) := by
    intro b
    rw [← slice_at hj s.main_v68_1 b g p]
    rfl
  rw [← Finset.sum_congr rfl (fun b _ => h b), ← both_at]
  rfl

theorem next11 (hj : j < 272) (g : Fin 64) (p : Fin 128) :
    (step j s).main_v68_11 (Idealize.ShloMosaic.ix2 g p) = (s.main_v68_11 (Idealize.ShloMosaic.ix2 g p) : EReal)
      + ∑ b : Fin 2, (s.main_v68_7 (ix3 b g p) : EReal) * s.main_v68_1 (Idealize.ShloMosaic.ix4 (ch j hj) b g (rot p)) := by
  rw [step_main_v68_11]
  have h : ∀ b, b78 j s (ix3 b g p) = (s.main_v68_7 (ix3 b g p) : EReal) * s.main_v68_1 (Idealize.ShloMosaic.ix4 (ch j hj) b g (rot p)) := by
    intro b
    have h' : b71 j s (ix3 b g p) = s.main_v68_1 (Idealize.ShloMosaic.ix4 (ch j hj) b g (rot p)) :=
      (rot_at (b13 j s) b g p).trans (slice_at hj s.main_v68_1 b g (rot p))
    rw [← h']
    rfl
  rw [← Finset.sum_congr rfl (fun b _ => h b), ← both_at]
  rfl

/-- The two stacks of cotangents after a trip. -/
theorem next12 (hj : j < 272) (n : Fin 272) (b : Fin 2) (g : Fin 64) (p : Fin 128) :
    (step j s).main_v68_12 (Idealize.ShloMosaic.ix4 n b g p)
      = if n.val = 271 - j then s.main_v68_6 (ix3 b g p) else s.main_v68_12 (Idealize.ShloMosaic.ix4 n b g p) :=
  update_at hj s.main_v68_12 s.main_v68_6 n b g p

theorem next13 (hj : j < 272) (n : Fin 272) (b : Fin 2) (g : Fin 64) (p : Fin 128) :
    (step j s).main_v68_13 (Idealize.ShloMosaic.ix4 n b g p)
      = if n.val = 271 - j then s.main_v68_7 (ix3 b g p) else s.main_v68_13 (Idealize.ShloMosaic.ix4 n b g p) :=
  update_at hj s.main_v68_13 s.main_v68_7 n b g p

end Cert.ReferenceIdeal.Trip
end
-- ==== Proof.RefLoop.lean ====
module

public import proofs.«01_k».proof.Proof.RefTrip

@[expose] public section

/-!
What the reference's loop carries after each trip, in terms of the recurrence on plain functions.
-/

noncomputable section

namespace Cert.ReferenceIdeal.Trip

open Idealize.ShloMosaic Idealize.ShloMosaic.TcCoe
open Cert.ReferenceIdeal Cert.ReferenceIdeal.Gen Cert.ReferenceIdeal.Step Cert.S5

/-- The chunk that the backward direction visits `k`-th. -/
def cv (k : Fin 272) : Fin 272 := ⟨co k.val, co_lt k.isLt⟩

theorem cv_cv (k : Fin 272) : cv (cv k) = k := Fin.ext (co_co k.isLt)

/-- The forward direction's recurrence for sequence `b` and group `g`. -/
def qf (x : Data) (b : Fin 2) (g : Fin 64) : ℕ → Fin 128 → EReal := Q (at' (x.Jf b g)) (x.re 0 g) (x.im 0 g)

/-- The backward direction's recurrence. -/
def qb (x : Data) (b : Fin 2) (g : Fin 64) : ℕ → Fin 128 → EReal :=
  Q (fun n => at' (x.Jb b g) (co n)) (x.re 1 g) (x.im 1 g)

theorem at_ch {j : ℕ} (hj : j < 272) (f : Fin 272 → Fin 128 → EReal) (p : Fin 128) : at' f (271 - j) p = f (ch j hj) p :=
  dif_pos (show 271 - j < 272 by omega)

theorem at_cv {j : ℕ} (hj : j < 272) (f : Fin 272 → Fin 128 → EReal) (p : Fin 128) :
    at' f (co (271 - j)) p = f (cv (ch j hj)) p :=
  dif_pos (show co (271 - j) < 272 from co_lt (by omega))

/-- The arrays that the loop walks are those of the data `x`. -/
structure Fits (x : Data) (s : State Ideal) : Prop where
  h0 : ∀ k b g p, s.main_v68_0 (Idealize.ShloMosaic.ix4 k b g p) = x.hf b g k p
  h1 : ∀ k b g p, s.main_v68_1 (Idealize.ShloMosaic.ix4 k b g p) = x.hb b g (cv k) p
  h2 : ∀ k b g p, s.main_v68_2 (Idealize.ShloMosaic.ix4 k b g p) = x.Jf b g k p
  h3 : ∀ k b g p, s.main_v68_3 (Idealize.ShloMosaic.ix4 k b g p) = x.Jb b g (cv k) p
  r0 : ∀ g p, s.main_v68_4 (ix3 0 g p) = x.re 0 g p
  r1 : ∀ g p, s.main_v68_4 (ix3 1 g p) = x.im 0 g p
  r2 : ∀ g p, s.main_v68_4 (ix3 2 g p) = x.re 1 g p
  r3 : ∀ g p, s.main_v68_4 (ix3 3 g p) = x.im 1 g p

/-- What the loop carries before trip `n`. -/
structure Inv (x : Data) (n : ℕ) (s : State Ideal) : Prop extends Fits x s where
  c6 : ∀ b g p, s.main_v68_6 (ix3 b g p) = qf x b g n p
  c7 : ∀ b g p, s.main_v68_7 (ix3 b g p) = qb x b g n p
  c8 : ∀ g p, s.main_v68_8 (Idealize.ShloMosaic.ix2 g p)
    = ∑ b : Fin 2, D (at' (x.Jf b g)) (at' (x.hf b g)) (x.re 0 g) (x.im 0 g) n p
  c9 : ∀ g p, s.main_v68_9 (Idealize.ShloMosaic.ix2 g p)
    = ∑ b : Fin 2, Ds (at' (x.Jf b g)) (at' (x.hf b g)) (x.re 0 g) (x.im 0 g) n (rot p)
  c10 : ∀ g p, s.main_v68_10 (Idealize.ShloMosaic.ix2 g p)
    = ∑ b : Fin 2, D (fun n => at' (x.Jb b g) (co n)) (fun n => at' (x.hb b g) (co n)) (x.re 1 g) (x.im 1 g) n p
  c11 : ∀ g p, s.main_v68_11 (Idealize.ShloMosaic.ix2 g p)
    = ∑ b : Fin 2, Ds (fun n => at' (x.Jb b g) (co n)) (fun n => at' (x.hb b g) (co n)) (x.re 1 g) (x.im 1 g) n (rot p)
  c12 : ∀ k b g p, 272 ≤ k.val + n → s.main_v68_12 (Idealize.ShloMosaic.ix4 k b g p) = qf x b g (271 - k.val) p
  c13 : ∀ k b g p, 272 ≤ k.val + n → s.main_v68_13 (Idealize.ShloMosaic.ix4 k b g p) = qb x b g (271 - k.val) p

/-- One step of the recurrence, in the order in which the loop adds. -/
theorem qf_next (x : Data) (b : Fin 2) (g : Fin 64) {n : ℕ} (hn : n < 272) (p : Fin 128) :
    qf x b g (n + 1) p = x.Jf b g (ch n hn) p + (x.im 0 g (rot p) * qf x b g n (rot p) + x.re 0 g p * qf x b g n p) := by
  rw [x.im_rot, EReal.neg_mul, ← at_ch hn (x.Jf b g), add_comm (-_) _, ← add_assoc, ← sub_eq_add_neg]
  rfl

theorem qb_next (x : Data) (b : Fin 2) (g : Fin 64) {n : ℕ} (hn : n < 272) (p : Fin 128) :
    qb x b g (n + 1) p = x.Jb b g (cv (ch n hn)) p + (x.im 1 g (rot p) * qb x b g n (rot p) + x.re 1 g p * qb x b g n p) := by
  rw [x.im_rot, EReal.neg_mul, ← at_cv hn (x.Jb b g), add_comm (-_) _, ← add_assoc, ← sub_eq_add_neg]
  rfl

/-- One trip keeps the loop's description. -/
theorem Inv.next {x : Data} {n : ℕ} {s : State Ideal} (h : Inv x n s) (hn : n < 272) : Inv x (n + 1) (step n s) where
  h0 := h.h0
  h1 := h.h1
  h2 := h.h2
  h3 := h.h3
  r0 := h.r0
  r1 := h.r1
  r2 := h.r2
  r3 := h.r3
  c6 b g p := by rw [next6 n s hn, h.h2, h.r1, h.r0, h.c6, h.c6, qf_next x b g hn]
  c7 b g p := by rw [next7 n s hn, h.h3, h.r3, h.r2, h.c7, h.c7, qb_next x b g hn]
  c8 g p := by
    rw [next8 n s hn, h.c8, ← Finset.sum_add_distrib]
    refine Finset.sum_congr rfl fun b _ => ?_
    rw [h.c6, h.h0, ← at_ch hn (x.hf b g)]
    rfl
  c9 g p := by
    rw [next9 n s hn, h.c9, ← Finset.sum_add_distrib]
    refine Finset.sum_congr rfl fun b _ => ?_
    rw [h.c6, h.h0, ← at_ch hn (x.hf b g)]
    simp only [Ds, rot_rot]
    rfl
  c10 g p := by
    rw [next10 n s hn, h.c10, ← Finset.sum_add_distrib]
    refine Finset.sum_congr rfl fun b _ => ?_
    rw [h.c7, h.h1, ← at_cv hn (x.hb b g)]
    rfl
  c11 g p := by
    rw [next11 n s hn, h.c11, ← Finset.sum_add_distrib]
    refine Finset.sum_congr rfl fun b _ => ?_
    rw [h.c7, h.h1, ← at_cv hn (x.hb b g)]
    simp only [Ds, rot_rot]
    rfl
  c12 k b g p hk := by
    rw [next12 n s hn]
    by_cases e : k.val = 271 - n
    · rw [if_pos e, h.c6, e, show 271 - (271 - n) = n by omega]
    · rw [if_neg e]; exact h.c12 k b g p (by omega)
  c13 k b g p hk := by
    rw [next13 n s hn]
    by_cases e : k.val = 271 - n
    · rw [if_pos e, h.c7, e, show 271 - (271 - n) = n by omega]
    · rw [if_neg e]; exact h.c13 k b g p (by omega)

variable (dy : Vec Ideal S2x17408x256 .bf16) (u : Vec Ideal S2x17408x256 .bf16) (hf hb : Vec Ideal S2x17408x128 .f32)
  (tz : Vec Ideal S64x256x256 .bf16) (wf wb : Vec Ideal S64x256x128 .bf16) (vf vb : Vec Ideal S64x128x256 .bf16)
  (lre lim : Vec Ideal S2x64x64 .f32)

/-- An array of the loop read off an argument, one lane of one chunk. -/
theorem chunk_at (h : Vec Ideal S2x17408x128 .f32) (b : Fin 2) (g : Fin 64) (k : Fin 272) (p : Fin 128) :
    shapeCast S2x64x272x128 h shapeCasts_S2x17408x128_S2x64x272x128 (Idealize.ShloMosaic.ix4 b g k p) = h (ix3 b (cell g k) p) := by
  simp only [pointwise]
  exact congrArg (fun c => h (ix3 b c p)) (Fin.ext (by simp only [cell]; omega))

theorem chunk256_at (h : Vec Ideal S2x17408x256 .f32) (b : Fin 2) (g : Fin 64) (k : Fin 272) (p : Fin 256) :
    shapeCast S2x64x272x256 h shapeCasts_S2x17408x256_S2x64x272x256 (Idealize.ShloMosaic.ix4 b g k p) = h (ix3 b (cell g k) p) := by
  simp only [pointwise]
  exact congrArg (fun c => h (ix3 b c p)) (Fin.ext (by simp only [cell]; omega))

/-- The backward direction's order of the chunks. -/
theorem visit_at (x : Vec Ideal S2x64x272x128 .f32) (b : Fin 2) (g : Fin 64) (k : Fin 272) (p : Fin 128) :
    concatenate S2x64x272x128 2 [⟨S2x64x16x128, Host.reverse [2] (extractStridedSlice S2x64x16x128 ![0, 0, 0, 0] x slices_S2x64x272x128_S2x64x16x128_0_0_0_0)⟩,
      ⟨S2x64x256x128, Host.reverse [2] (extractStridedSlice S2x64x256x128 ![0, 0, 16, 0] x slices_S2x64x272x128_S2x64x256x128_0_0_16_0)⟩]
      concatenates_S2x64x16x128_S2x64x256x128_S2x64x272x128_d2 (Idealize.ShloMosaic.ix4 b g k p) = x (Idealize.ShloMosaic.ix4 b g (cv k) p) := by
  have hk := k.isLt
  simp only [pointwise]
  by_cases h : k.val < 16
  · have e : cv k = ⟨15 - k.val, by omega⟩ := by apply Fin.ext; simp only [cv, co, if_pos h]
    rw [e]
    simp [h]
  · have e : cv k = ⟨287 - k.val, by omega⟩ := by apply Fin.ext; simp only [cv, co, if_neg h]
    rw [e]
    simp [h]
    exact congrArg (fun c => x (Idealize.ShloMosaic.ix4 b g c p)) (Fin.ext (by show 16 + (255 - (k.val - 16)) = 287 - k.val; omega))

/-- Four rows joined. -/
theorem stack_at (x0 x1 x2 x3 : Vec Ideal S1x64x128 .f32) (j : Fin 4) (g : Fin 64) (p : Fin 128) :
    concatenate S4x64x128 0 [⟨S1x64x128, x0⟩, ⟨S1x64x128, x1⟩, ⟨S1x64x128, x2⟩, ⟨S1x64x128, x3⟩]
      concatenates_S1x64x128_S1x64x128_S1x64x128_S1x64x128_S4x64x128_d0 (ix3 j g p)
      = (match j with | 0 => x0 | 1 => x1 | 2 => x2 | 3 => x3) (ix3 0 g p) := by
  simp only [pointwise]
  match j with
  | 0 => rw [dif_pos (by decide)]; rfl
  | 1 => rw [dif_neg (by decide), dif_pos (by decide)]; rfl
  | 2 => rw [dif_neg (by decide), dif_neg (by decide), dif_pos (by decide)]; rfl
  | 3 => rw [dif_neg (by decide), dif_neg (by decide), dif_neg (by decide)]; rfl

/-- A row of 64 numbers for the real parts and one for the imaginary parts, joined. -/
theorem join_at (x y : Vec Ideal S64x64 .f32) (g : Fin 64) (p : Fin 128) :
    broadcastInDim S1x64x128 ![1, 2] bcast_S64x128_S1x64x128_1_2
      (concatenate S64x128 1 [⟨S64x64, x⟩, ⟨S64x64, y⟩] concatenates_S64x64_S64x64_S64x128_d1) (ix3 0 g p)
      = if p.val < 64 then x (Idealize.ShloMosaic.ix2 g (half p)) else y (Idealize.ShloMosaic.ix2 g (half p)) := by
  have hp := p.isLt
  simp only [pointwise]
  by_cases h : p.val < 64
  · have e : half p = ⟨p.val, h⟩ := by apply Fin.ext; simp only [half]; omega
    rw [e, if_pos h]
    simp [h]
  · have e : half p = ⟨p.val - 64, by omega⟩ := by apply Fin.ext; simp only [half]; omega
    rw [e, if_neg h]
    simp [h]

/-- The real and the imaginary parts of one direction. -/
theorem part0_at (x : Vec Ideal S2x64x64 .f32) (g n : Fin 64) :
    shapeCast S64x64 (extractStridedSlice S1x64x64 ![0, 0, 0] x slices_S2x64x64_S1x64x64_0_0_0) shapeCasts_S1x64x64_S64x64
      (Idealize.ShloMosaic.ix2 g n) = x (ix3 0 g n) := by
  simp [pointwise]

theorem part1_at (x : Vec Ideal S2x64x64 .f32) (g n : Fin 64) :
    shapeCast S64x64 (extractStridedSlice S1x64x64 ![1, 0, 0] x slices_S2x64x64_S1x64x64_1_0_0) shapeCasts_S1x64x64_S64x64
      (Idealize.ShloMosaic.ix2 g n) = x (ix3 1 g n) := by
  simp [pointwise]

/-- The arrays that the loop walks, from the arguments. -/
theorem v43_at (b : Fin 2) (g : Fin 64) (k : Fin 272) (t : Fin 256) :
    A_main_v43 (F := Ideal) dy hf hb vf vb lre lim (Idealize.ShloMosaic.ix4 b g k t) = dy (ix3 b (cell g k) t) :=
  chunk256_at (extf (F := Ideal) .f32 dy bitsLt_bf16_f32) b g k t

theorem v49_at (b : Fin 2) (g : Fin 64) (k : Fin 272) (p : Fin 128) :
    A_main_v49 (F := Ideal) dy hf hb vf vb lre lim (Idealize.ShloMosaic.ix4 b g k p)
      = (Data.of dy u hf hb tz wf wb vf vb lre lim).Jf b g k p := by
  unfold A_main_v49 A_main_v48 A_main_v47 A_main_v32
  simp only [pointwise]
  refine (zero_add _).trans (Finset.sum_congr rfl fun t _ => ?_)
  rw [v43_at]
  rfl

theorem v46_at (b : Fin 2) (g : Fin 64) (k : Fin 272) (p : Fin 128) :
    A_main_v46 (F := Ideal) dy hf hb vf vb lre lim (Idealize.ShloMosaic.ix4 b g k p)
      = (Data.of dy u hf hb tz wf wb vf vb lre lim).Jb b g k p := by
  unfold A_main_v46 A_main_v45 A_main_v44 A_main_v33
  simp only [pointwise]
  refine (zero_add _).trans (Finset.sum_congr rfl fun t _ => ?_)
  rw [v43_at]
  rfl

/-- The chunks moved to the front. -/
theorem front_at (x : Vec Ideal S2x64x272x128 .f32) (k : Fin 272) (b : Fin 2) (g : Fin 64) (p : Fin 128) :
    transpose S272x2x64x128 [2, 0, 1, 3] x transposes_S2x64x272x128_S272x2x64x128_2_0_1_3 (Idealize.ShloMosaic.ix4 k b g p)
      = x (Idealize.ShloMosaic.ix4 b g k p) := by
  simp only [pointwise]

theorem row0 (g : Fin 64) (p : Fin 128) : A_main_v26 (F := Ideal) dy hf hb vf vb lre lim (ix3 0 g p)
    = (Data.of dy u hf hb tz wf wb vf vb lre lim).re 0 g p := by
  unfold A_main_v26
  rw [stack_at]
  refine (join_at _ _ g p).trans ?_
  have h : A_main_v1 (F := Ideal) dy hf hb vf vb lre lim (Idealize.ShloMosaic.ix2 g (half p)) = lre (ix3 0 g (half p)) := part0_at lre g (half p)
  have h' : A_main_v3 (F := Ideal) dy hf hb vf vb lre lim (Idealize.ShloMosaic.ix2 g (half p)) = lre (ix3 0 g (half p)) := part0_at lre g (half p)
  rw [h, h', ite_self]
  rfl

theorem row2 (g : Fin 64) (p : Fin 128) : A_main_v26 (F := Ideal) dy hf hb vf vb lre lim (ix3 2 g p)
    = (Data.of dy u hf hb tz wf wb vf vb lre lim).re 1 g p := by
  unfold A_main_v26
  rw [stack_at]
  refine (join_at _ _ g p).trans ?_
  have h : A_main_v12 (F := Ideal) dy hf hb vf vb lre lim (Idealize.ShloMosaic.ix2 g (half p)) = lre (ix3 1 g (half p)) := part1_at lre g (half p)
  have h' : A_main_v14 (F := Ideal) dy hf hb vf vb lre lim (Idealize.ShloMosaic.ix2 g (half p)) = lre (ix3 1 g (half p)) := part1_at lre g (half p)
  rw [h, h', ite_self]
  rfl

theorem row1 (g : Fin 64) (p : Fin 128) : A_main_v26 (F := Ideal) dy hf hb vf vb lre lim (ix3 1 g p)
    = (Data.of dy u hf hb tz wf wb vf vb lre lim).im 0 g p := by
  unfold A_main_v26
  rw [stack_at]
  refine (join_at _ _ g p).trans ?_
  have h : A_main_v7 (F := Ideal) dy hf hb vf vb lre lim (Idealize.ShloMosaic.ix2 g (half p)) = -(lim (ix3 0 g (half p)) : EReal) :=
    congrArg (fun v : EReal => -v) (part0_at lim g (half p))
  have h' : A_main_v9 (F := Ideal) dy hf hb vf vb lre lim (Idealize.ShloMosaic.ix2 g (half p)) = lim (ix3 0 g (half p)) := part0_at lim g (half p)
  rw [h, h']
  rfl

theorem row3 (g : Fin 64) (p : Fin 128) : A_main_v26 (F := Ideal) dy hf hb vf vb lre lim (ix3 3 g p)
    = (Data.of dy u hf hb tz wf wb vf vb lre lim).im 1 g p := by
  unfold A_main_v26
  rw [stack_at]
  refine (join_at _ _ g p).trans ?_
  have h : A_main_v18 (F := Ideal) dy hf hb vf vb lre lim (Idealize.ShloMosaic.ix2 g (half p)) = -(lim (ix3 1 g (half p)) : EReal) :=
    congrArg (fun v : EReal => -v) (part1_at lim g (half p))
  have h' : A_main_v20 (F := Ideal) dy hf hb vf vb lre lim (Idealize.ShloMosaic.ix2 g (half p)) = lim (ix3 1 g (half p)) := part1_at lim g (half p)
  rw [h, h']
  rfl

theorem zero3 (b : Fin 2) (g : Fin 64) (p : Fin 128) : K_main_v50 (F := Ideal) (ix3 b g p) = (0 : EReal) := by
  unfold K_main_v50 K_main_cst
  simp only [pointwise]

theorem zero2 (g : Fin 64) (p : Fin 128) : K_main_v51 (F := Ideal) (Idealize.ShloMosaic.ix2 g p) = ∑ b : Fin 2, (0 : EReal) := by
  rw [Finset.sum_const_zero]
  unfold K_main_v51 K_main_cst_0
  simp only [pointwise]

/-- Before its first trip the loop carries zeros, and walks the arrays of the data. -/
theorem Inv.start : Inv (Data.of dy u hf hb tz wf wb vf vb lre lim) 0 (init (F := Ideal) dy hf hb vf vb lre lim) where
  h0 k b g p := (front_at _ k b g p).trans (chunk_at hf b g k p)
  h1 k b g p := (front_at _ k b g p).trans ((visit_at _ b g k p).trans (chunk_at hb b g (cv k) p))
  h2 k b g p := (front_at _ k b g p).trans (v49_at dy u hf hb tz wf wb vf vb lre lim b g k p)
  h3 k b g p := (front_at _ k b g p).trans ((visit_at _ b g k p).trans (v46_at dy u hf hb tz wf wb vf vb lre lim b g (cv k) p))
  r0 := row0 dy u hf hb tz wf wb vf vb lre lim
  r1 := row1 dy u hf hb tz wf wb vf vb lre lim
  r2 := row2 dy u hf hb tz wf wb vf vb lre lim
  r3 := row3 dy u hf hb tz wf wb vf vb lre lim
  c6 b g p := zero3 b g p
  c7 b g p := zero3 b g p
  c8 g p := zero2 g p
  c9 g p := zero2 g p
  c10 g p := zero2 g p
  c11 g p := zero2 g p
  c12 k b g p hk := absurd hk (by omega)
  c13 k b g p hk := absurd hk (by omega)

/-- The loop's states, from the arguments. -/
def it : ℕ → State Ideal
  | 0 => init (F := Ideal) dy hf hb vf vb lre lim
  | n + 1 => step n (it n)

theorem it_inv : ∀ n, n ≤ 272 → Inv (Data.of dy u hf hb tz wf wb vf vb lre lim) n (it dy hf hb vf vb lre lim n)
  | 0, _ => Inv.start dy u hf hb tz wf wb vf vb lre lim
  | n + 1, h => (it_inv n (by omega)).next (by omega)

end Cert.ReferenceIdeal.Trip
end
-- ==== Proof.RefEnd.lean ====
module

public import proofs.«01_k».proof.Proof.RefLoop

@[expose] public section

/-!
The reference's seven results, of the loop's last state and the arguments, one element at a time.
-/

noncomputable section

namespace Cert.ReferenceIdeal.Trip

open Idealize.ShloMosaic Idealize.ShloMosaic.TcCoe
open Cert.ReferenceIdeal Cert.ReferenceIdeal.Gen Cert.ReferenceIdeal.Step Cert.S5

/-- Two sums agree if their summands do. -/
theorem add2 {a b c d : EReal} (h : a = c) (h' : b = d) : a + b = c + d := by rw [h, h']

/-- The chunks moved back to where the arguments have them. -/
theorem back_at (x : Vec Ideal S272x2x64x128 .f32) (b : Fin 2) (g : Fin 64) (k : Fin 272) (p : Fin 128) :
    transpose S2x64x272x128 [1, 2, 0, 3] x transposes_S272x2x64x128_S2x64x272x128_1_2_0_3 (Idealize.ShloMosaic.ix4 b g k p)
      = x (Idealize.ShloMosaic.ix4 k b g p) := by
  simp only [pointwise]

/-- The forward direction's stack holds the cotangents of what each chunk adds to the state. -/
theorem Inv.stackf {x : Data} {s : State Ideal} (h : Inv x 272 s) (b : Fin 2) (g : Fin 64) (k : Fin 272) (p : Fin 128) :
    transpose S2x64x272x128 [1, 2, 0, 3] s.main_v68_12 transposes_S272x2x64x128_S2x64x272x128_1_2_0_3
      (Idealize.ShloMosaic.ix4 b g k p) = x.Qf b g k p := by
  rw [back_at, h.c12 k b g p (by omega)]
  rfl

/-- So does the backward direction's, once its chunks are back in their order. -/
theorem Inv.stackb {x : Data} {s : State Ideal} (h : Inv x 272 s) (b : Fin 2) (g : Fin 64) (k : Fin 272) (p : Fin 128) :
    concatenate S2x64x272x128 2 [⟨S2x64x16x128, Host.reverse [2] (extractStridedSlice S2x64x16x128 ![0, 0, 0, 0]
        (transpose S2x64x272x128 [1, 2, 0, 3] s.main_v68_13 transposes_S272x2x64x128_S2x64x272x128_1_2_0_3) slices_S2x64x272x128_S2x64x16x128_0_0_0_0)⟩,
      ⟨S2x64x256x128, Host.reverse [2] (extractStridedSlice S2x64x256x128 ![0, 0, 16, 0]
        (transpose S2x64x272x128 [1, 2, 0, 3] s.main_v68_13 transposes_S272x2x64x128_S2x64x272x128_1_2_0_3) slices_S2x64x272x128_S2x64x256x128_0_0_16_0)⟩]
      concatenates_S2x64x16x128_S2x64x256x128_S2x64x272x128_d2 (Idealize.ShloMosaic.ix4 b g k p) = x.Qb b g k p := by
  rw [visit_at, back_at, h.c13 (cv k) b g p (by omega)]
  rfl

variable (dy : Vec Ideal S2x17408x256 .bf16) (u : Vec Ideal S2x17408x256 .bf16) (hf hb : Vec Ideal S2x17408x128 .f32)
  (tz : Vec Ideal S64x256x256 .bf16) (wf wb : Vec Ideal S64x256x128 .bf16) (vf vb : Vec Ideal S64x128x256 .bf16)
  (lre lim : Vec Ideal S2x64x64 .f32)

/-- The data of the arguments, and the loop's state after its last trip. -/
abbrev dat : Data := Data.of dy u hf hb tz wf wb vf vb lre lim
abbrev last : State Ideal := it dy hf hb vf vb lre lim 272

theorem last_inv : Inv (dat dy u hf hb tz wf wb vf vb lre lim) 272 (last dy hf hb vf vb lre lim) :=
  it_inv dy u hf hb tz wf wb vf vb lre lim 272 (Nat.le_refl _)

/-- A product over the lanes of a state, one element. -/
theorem drive_at (y : Vec Ideal S2x64x272x128 .f32) (v : Vec Ideal S64x256x128 .f32) (b : Fin 2) (g : Fin 64) (k : Fin 272) (t : Fin 256) :
    transpose S2x64x272x256 [1, 0, 2, 3] (Host.dotGeneral (F := Ideal) (φ₁ := .f32) (φ₂ := .f32) dot_S64x128x2x272_S64x256x128_S64x2x272x256_1_2_23_1_0_0 none
      (transpose S64x128x2x272 [1, 3, 0, 2] y transposes_S2x64x272x128_S64x128x2x272_1_3_0_2) v)
      transposes_S64x2x272x256_S2x64x272x256_1_0_2_3 (Idealize.ShloMosaic.ix4 b g k t)
      = ∑ p : Fin 128, (y (Idealize.ShloMosaic.ix4 b g k p) : EReal) * v (ix3 g t p) := by
  simp only [pointwise]
  exact zero_add _

/-- A product over the sequences and the chunks, one element. -/
theorem gram_at (y : Vec Ideal S2x64x272x128 .f32) (z : Vec Ideal S2x64x272x256 .f32) (g : Fin 64) (a : Fin 256) (p : Fin 128) :
    transpose S64x256x128 [0, 2, 1] (Host.dotGeneral (F := Ideal) (φ₁ := .f32) (φ₂ := .f32) dot_S64x128x2x272_S2x64x272x256_S64x128x256_23_02_1_3_0_1 none
      (transpose S64x128x2x272 [1, 3, 0, 2] y transposes_S2x64x272x128_S64x128x2x272_1_3_0_2) z)
      transposes_S64x128x256_S64x256x128_0_2_1 (ix3 g a p)
      = ∑ b : Fin 2, ∑ k : Fin 272, (z (Idealize.ShloMosaic.ix4 b g k a) : EReal) * y (Idealize.ShloMosaic.ix4 b g k p) := by
  simp only [pointwise]
  refine (zero_add _).trans (Finset.sum_congr rfl fun b _ => Finset.sum_congr rfl fun k _ => ?_)
  exact mul_comm _ _

/-- The gradient of the matrices that carry a chunk's inputs to its outputs. -/
theorem val_dtz (g : Fin 64) (a t : Fin 256) :
    R_main_v103 (F := Ideal) (last dy hf hb vf vb lre lim) dy u (ix3 g a t) = (dat dy u hf hb tz wf wb vf vb lre lim).dtz g a t := by
  unfold R_main_v103
  simp only [pointwise]
  refine (zero_add _).trans (Finset.sum_congr rfl fun b _ => Finset.sum_congr rfl fun k _ => ?_)
  have e : (⟨g.val * 272 + k.val, by have := g.isLt; have := k.isLt; omega⟩ : Fin 17408) = cell g k := Fin.ext (by simp only [cell]; omega)
  rw [e]
  exact mul_comm _ _

/-- The gradients of the matrices that carry a chunk's inputs to the states. -/
theorem val_dwf (g : Fin 64) (a : Fin 256) (p : Fin 128) :
    R_main_v111 (F := Ideal) (last dy hf hb vf vb lre lim) u (ix3 g a p) = (dat dy u hf hb tz wf wb vf vb lre lim).dwf g a p := by
  unfold R_main_v111
  rw [gram_at]
  refine Finset.sum_congr rfl fun b _ => Finset.sum_congr rfl fun k _ => ?_
  rw [(last_inv dy u hf hb tz wf wb vf vb lre lim).stackf, chunk256_at]
  rfl

theorem val_dwb (g : Fin 64) (a : Fin 256) (p : Fin 128) :
    R_main_v119 (F := Ideal) (last dy hf hb vf vb lre lim) u (ix3 g a p) = (dat dy u hf hb tz wf wb vf vb lre lim).dwb g a p := by
  unfold R_main_v119
  rw [gram_at]
  refine Finset.sum_congr rfl fun b _ => Finset.sum_congr rfl fun k _ => ?_
  rw [(last_inv dy u hf hb tz wf wb vf vb lre lim).stackb, chunk256_at]
  rfl

/-- The gradients of the matrices that carry the states to a chunk's outputs. -/
theorem val_dvf (g : Fin 64) (p : Fin 128) (t : Fin 256) :
    R_main_v98 (F := Ideal) (last dy hf hb vf vb lre lim) dy hf (ix3 g p t) = (dat dy u hf hb tz wf wb vf vb lre lim).dvf g p t := by
  unfold R_main_v98
  simp only [pointwise]
  refine (zero_add _).trans (Finset.sum_congr rfl fun b _ => Finset.sum_congr rfl fun k _ => ?_)
  have e : (⟨g.val * 272 + k.val, by have := g.isLt; have := k.isLt; omega⟩ : Fin 17408) = cell g k := Fin.ext (by simp only [cell]; omega)
  rw [e]
  exact mul_comm _ _

theorem val_dvb (g : Fin 64) (p : Fin 128) (t : Fin 256) :
    R_main_v95 (F := Ideal) (last dy hf hb vf vb lre lim) dy hb (ix3 g p t) = (dat dy u hf hb tz wf wb vf vb lre lim).dvb g p t := by
  unfold R_main_v95
  simp only [pointwise]
  refine (zero_add _).trans (Finset.sum_congr rfl fun b _ => Finset.sum_congr rfl fun k _ => ?_)
  have e : (⟨g.val * 272 + k.val, by have := g.isLt; have := k.isLt; omega⟩ : Fin 17408) = cell g k := Fin.ext (by simp only [cell]; omega)
  rw [e]
  exact mul_comm _ _

/-- The gradient of the direct product, one element. -/
theorem direct_at (v : Vec Ideal S64x256x256 .f32) (b : Fin 2) (g : Fin 64) (k : Fin 272) (t : Fin 256) :
    transpose S2x64x272x256 [1, 0, 2, 3] (Host.dotGeneral (F := Ideal) (φ₁ := .f32) (φ₂ := .f32) dot_S64x256x2x272_S64x256x256_S64x2x272x256_1_2_23_1_0_0 none
      (transpose S64x256x2x272 [1, 3, 0, 2] (shapeCast S2x64x272x256 (extf (F := Ideal) .f32 dy bitsLt_bf16_f32) shapeCasts_S2x17408x256_S2x64x272x256)
        transposes_S2x64x272x256_S64x256x2x272_1_3_0_2) v) transposes_S64x2x272x256_S2x64x272x256_1_0_2_3 (Idealize.ShloMosaic.ix4 b g k t)
      = ∑ a : Fin 256, (dy (ix3 b (cell g k) a) : EReal) * v (ix3 g t a) := by
  simp only [pointwise]
  refine (zero_add _).trans (Finset.sum_congr rfl fun a _ => ?_)
  have e : (⟨g.val * 272 + k.val, by have := g.isLt; have := k.isLt; omega⟩ : Fin 17408) = cell g k := Fin.ext (by simp only [cell]; omega)
  rw [e]

/-- The rows of the chunks joined. -/
theorem rows_at (z : Vec Ideal S2x64x272x256 .f32) (b : Fin 2) (r : Fin 17408) (t : Fin 256) :
    shapeCast S2x17408x256 z shapeCasts_S2x64x272x256_S2x17408x256 (ix3 b r t) = z (Idealize.ShloMosaic.ix4 b (grpOf r) (chkOf r) t) := by
  simp only [pointwise]
  rfl

/-- The gradient of the inputs. -/
theorem val_du (b : Fin 2) (r : Fin 17408) (t : Fin 256) :
    R_main_v123 (F := Ideal) (last dy hf hb vf vb lre lim) dy tz wf wb (ix3 b r t)
      = (dat dy u hf hb tz wf wb vf vb lre lim).du b (grpOf r) (chkOf r) t := by
  unfold R_main_v123
  rw [truncf_apply]
  refine (rows_at _ b r t).trans ?_
  refine add2 (add2 ?_ ?_) ?_
  · exact direct_at dy _ b (grpOf r) (chkOf r) t
  · refine (drive_at _ _ b (grpOf r) (chkOf r) t).trans (Finset.sum_congr rfl fun p _ => ?_)
    rw [(last_inv dy u hf hb tz wf wb vf vb lre lim).stackf]
    rfl
  · refine (drive_at _ _ b (grpOf r) (chkOf r) t).trans (Finset.sum_congr rfl fun p _ => ?_)
    rw [(last_inv dy u hf hb tz wf wb vf vb lre lim).stackb]
    rfl

/-- The gradients of the four rows of the complex numbers. -/
theorem val_dl (j : Fin 4) (g : Fin 64) (p : Fin 128) :
    R_main_v128 (F := Ideal) (last dy hf hb vf vb lre lim) (ix3 j g p) = (dat dy u hf hb tz wf wb vf vb lre lim).dl j g p := by
  have h := last_inv dy u hf hb tz wf wb vf vb lre lim
  unfold R_main_v128
  rw [stack_at]
  match j with
  | 0 => exact (by simp [pointwise] : _ = (last dy hf hb vf vb lre lim).main_v68_8 (Idealize.ShloMosaic.ix2 g p)).trans (h.c8 g p)
  | 1 => exact (by simp [pointwise] : _ = (last dy hf hb vf vb lre lim).main_v68_9 (Idealize.ShloMosaic.ix2 g p)).trans (h.c9 g p)
  | 2 => exact (by simp [pointwise] : _ = (last dy hf hb vf vb lre lim).main_v68_10 (Idealize.ShloMosaic.ix2 g p)).trans (h.c10 g p)
  | 3 => exact (by simp [pointwise] : _ = (last dy hf hb vf vb lre lim).main_v68_11 (Idealize.ShloMosaic.ix2 g p)).trans (h.c11 g p)

end Cert.ReferenceIdeal.Trip
end
-- ==== Proof.Sums.lean ====
module

public import Idealize.ShloMosaic.Lib.Pointwise

@[expose] public section

/-!
Sums that a tiled product takes block by block, as one sum over the numbers below a bound; and the tokens of the two
examples of a device's batch, numbered in one row.
-/

noncomputable section

namespace Cert.Sums

/-- Token `n` of the batch lies in this example. -/
abbrev half (n : ℕ) : Fin 2 := ⟨n / 4352 % 2, Nat.mod_lt _ (by decide)⟩

/-- The place of token `n` in its example. -/
abbrev place (n : ℕ) : Fin 4352 := ⟨n % 4352, Nat.mod_lt _ (by decide)⟩

theorem half_eq (n : ℕ) (h : n < 8704) : half n = ⟨n / 4352, by omega⟩ :=
  Fin.ext (Nat.mod_eq_of_lt (by omega))

/-- A sum of `q` blocks of `k` terms each is the sum of all terms. -/
theorem blocks (q k : ℕ) (f : ℕ → EReal) : ∑ i : Fin q, ∑ j : Fin k, f (k * i.val + j.val) = ∑ n ∈ Finset.range (k * q), f n := by
  rw [Fin.sum_univ_eq_sum_range (fun i => ∑ j : Fin k, f (k * i + j.val)) q]
  induction q with
  | zero => simp
  | succ q ih =>
    rw [Finset.sum_range_succ, ih, Nat.mul_succ, Finset.sum_range_add,
      Fin.sum_univ_eq_sum_range (fun j => f (k * q + j)) k]

/-- A sum over the examples and their tokens is one over all tokens. -/
theorem tokens (g : Fin 2 → Fin 4352 → EReal) :
    ∑ b : Fin 2, ∑ t : Fin 4352, g b t = ∑ n ∈ Finset.range 8704, g (half n) (place n) := by
  rw [show (8704 : ℕ) = 4352 * 2 from rfl, ← blocks 2 4352 (fun n => g (half n) (place n))]
  refine Finset.sum_congr rfl fun b _ => Finset.sum_congr rfl fun t _ => ?_
  have hb := b.isLt
  have ht := t.isLt
  rw [show half (4352 * b.val + t.val) = b from Fin.ext (by show (4352 * b.val + t.val) / 4352 % 2 = b.val; omega),
    show place (4352 * b.val + t.val) = t from Fin.ext (by show (4352 * b.val + t.val) % 4352 = t.val; omega)]

/-- Four blocks, added in order. -/
theorem four (k : ℕ) (f : ℕ → EReal) :
    ((∑ j : Fin k, f (k * 0 + j.val)) + ∑ j : Fin k, f (k * 1 + j.val)) + (∑ j : Fin k, f (k * 2 + j.val))
      + (∑ j : Fin k, f (k * 3 + j.val)) = ∑ n ∈ Finset.range (k * 4), f n := by
  rw [← blocks 4 k f, Fin.sum_univ_four]
  rfl

/-- Two blocks, added in order. -/
theorem two (k : ℕ) (f : ℕ → EReal) :
    (∑ j : Fin k, f (k * 0 + j.val)) + (∑ j : Fin k, f (k * 1 + j.val)) = ∑ n ∈ Finset.range (k * 2), f n := by
  rw [← blocks 2 k f, Fin.sum_univ_two]
  rfl

end Cert.Sums

end
-- ==== Proof.Mlp2Dx.lean ====
module

public import proofs.«01_k».proof.Defs
public import proofs.«01_k».proof.Proof.Sums
public import proofs.«01_k».proof.Proof.Gen.Mlp2DxIdeal.Value
public import proofs.«01_k».proof.Proof.Gen.Mlp2DxReferenceIdeal.Run
public import Idealize.ShloMosaic.Lib.StableHlo.ReadAt

@[expose] public section

/-!
The gradient of the MLP's hidden layer and of its bias: what the tiled product leaves, element by element, is the product
with the second weight times the derivative of the squared ReLU, and its sum over all tokens; and so are the reference's
results.
-/

noncomputable section

namespace Cert.Mlp2DxIdeal.Answer

open Idealize.ShloMosaic Idealize.ShloMosaic.TcCoe Idealize.ShloMosaic.Tactic
open Cert.Mlp2DxIdeal Cert.Mlp2DxIdeal.Gen Cert.Sums

variable (m : (ℓ : Loc nD τ sig) → Buf (Elt Ideal) ℓ) (ρ : Dev nD → PrngReg) (c : Dev nD)

theorem hz2 : (![0, 0] : Fin 2 → Nat) = fun _ => 0 := funext fun a => by fin_cases a <;> rfl

section Cases

variable (i : grid0.Coords) (a3 : Memref sig .tc .vmem S1088x1024 .bf16) (h3 : a3.IsWhole)
  (a4 : Memref sig .tc .vmem S1024x1024 .bf16) (h4 : a4.IsWhole) (a5 : Memref sig .tc .vmem S1088x1024 .bf16) (h5 : a5.IsWhole)
  (a6 : Memref sig .tc .vmem S1088x1024 .bf16) (h6 : a6.IsWhole) (a7 : Memref sig .tc .vmem S1x1024 .f32) (h7 : a7.IsWhole)
  (x : Vec Ideal S1088x1024 .bf16) (y : Vec Ideal S1024x1024 .bf16) (z : Vec Ideal S1088x1024 .bf16) (s : Vec Ideal S1x1024 .f32)

/-- The first step of a column block leaves its block of the gradient. -/
theorem oA3 (h0 : cond0_0 i) (h1 : ¬cond0_1 i) :
    out0_A_3 c i a3 h3 a4 h4 a5 h5 a6 h6 a7 h7 h0 h1 x y z = k0_pay2 x y z := by
  unfold out0_A_3
  rw [View.read_writes_eq_canon _ _ _ (cover0_A_3 c i a3 h3 a4 h4 a5 h5 a6 h6 a7 h7 h0 h1 x y z)]
  unfold kernelRun0_A
  dsimp only
  rw [View.canon_unit_zero hz2]
  simp only [View.readAt_eq_ld, h3.read_unread, h4.read_unread, h5.read_unread, View.ld_unit_zero (S := S1088x1024) hz2,
    View.ld_unit_zero (S := S1024x1024) hz2]

/-- And its column sums. -/
theorem oA4 (h0 : cond0_0 i) (h1 : ¬cond0_1 i) :
    out0_A_4 c i a3 h3 a4 h4 a5 h5 a6 h6 a7 h7 h0 h1 x y z = k0_pay3 x y z := by
  unfold out0_A_4
  rw [View.read_writes_eq_canon _ _ _ (cover0_A_4 c i a3 h3 a4 h4 a5 h5 a6 h6 a7 h7 h0 h1 x y z)]
  unfold kernelRun0_A
  dsimp only
  rw [View.canon_unit_zero hz2]
  simp only [View.readAt_eq_ld, h3.read_unread, h4.read_unread, h5.read_unread, View.ld_unit_zero (S := S1088x1024) hz2,
    View.ld_unit_zero (S := S1024x1024) hz2]

/-- A later step leaves its block of the gradient. -/
theorem oB3 (h0 : ¬cond0_0 i) (h1 : cond0_1 i) :
    out0_B_3 c i a3 h3 a4 h4 a5 h5 a6 h6 a7 h7 h0 h1 x y z s = k0_pay2 x y z := by
  unfold out0_B_3
  rw [View.read_writes_eq_canon _ _ _ (cover0_B_3 c i a3 h3 a4 h4 a5 h5 a6 h6 a7 h7 h0 h1 x y z s)]
  unfold kernelRun0_B
  dsimp only
  rw [View.canon_unit_zero hz2]
  simp only [View.readAt_eq_ld, h3.read_unread, h4.read_unread, h5.read_unread, View.ld_unit_zero (S := S1088x1024) hz2,
    View.ld_unit_zero (S := S1024x1024) hz2]

/-- And adds its column sums. -/
theorem oB4 (h0 : ¬cond0_0 i) (h1 : cond0_1 i) :
    out0_B_4 c i a3 h3 a4 h4 a5 h5 a6 h6 a7 h7 h0 h1 x y z s = k0_pay4 x y z s := by
  unfold out0_B_4
  rw [View.read_writes_eq_canon _ _ _ (cover0_B_4 c i a3 h3 a4 h4 a5 h5 a6 h6 a7 h7 h0 h1 x y z s)]
  unfold kernelRun0_B
  dsimp only
  rw [View.canon_unit_zero hz2]
  simp only [View.readAt_eq_ld, h3.read_unread, h4.read_unread, h5.read_unread, h7.read_unread, View.ld_unit_zero (S := S1088x1024) hz2,
    View.ld_unit_zero (S := S1024x1024) hz2, View.ld_unit_zero (S := S1x1024) hz2]

end Cases

/-- The first product without bias, the bias, the second weight and the cotangent of the second product, as launched. -/
abbrev P : Vec Ideal S2x4352x4096 .f32 := m ((c : Thread nD τ).loc main_arg0)
abbrev B1 : Vec Ideal S4096 .f32 := m ((c : Thread nD τ).loc main_arg1)
abbrev W2 : Vec Ideal S4096x1024 .f32 := m ((c : Thread nD τ).loc main_arg2)
abbrev CT : Vec Ideal S2x4352x1024 .bf16 := m ((c : Thread nD τ).loc main_arg3)

/-- The hidden activation at feature `f`, before its square. -/
abbrev act (p : Vec Ideal S2x4352x4096 .f32) (b1 : Vec Ideal S4096 .f32) (b : Fin 2) (t : Fin 4352) (f : Fin 4096) : EReal :=
  max (p (ix3 b t f) + b1 (ix1 f)) 0

/-- The factor two, as both programs write it. -/
abbrev dbl : EReal := FloatOps.ofBits (F := Ideal) .f32 0x40000000#32

/-- The gradient of the hidden layer, at a token and a feature. -/
def dh (p : Vec Ideal S2x4352x4096 .f32) (b1 : Vec Ideal S4096 .f32) (w2 : Vec Ideal S4096x1024 .f32)
    (ct : Vec Ideal S2x4352x1024 .bf16) (f : Fin 4096) (b : Fin 2) (t : Fin 4352) : EReal :=
  (∑ k : Fin 1024, ct (ix3 b t k) * w2 (ix2 f k)) * (dbl * act p b1 b t f)

/-- The gradient of the hidden layer. -/
def G3 (p : Vec Ideal S2x4352x4096 .f32) (b1 : Vec Ideal S4096 .f32) (w2 : Vec Ideal S4096x1024 .f32)
    (ct : Vec Ideal S2x4352x1024 .bf16) : Vec Ideal S8704x4096 .bf16 := fun y =>
  dh p b1 w2 ct (y 1) (half (y 0).val) (place (y 0).val)

/-- The gradient of the bias. -/
def G4 (p : Vec Ideal S2x4352x4096 .f32) (b1 : Vec Ideal S4096 .f32) (w2 : Vec Ideal S4096x1024 .f32)
    (ct : Vec Ideal S2x4352x1024 .bf16) : Vec Ideal S1x4096 .f32 := fun y =>
  ∑ n ∈ Finset.range 8704, dh p b1 w2 ct (y 1) (half n) (place n)

theorem G4_apply (p : Vec Ideal S2x4352x4096 .f32) (b1 : Vec Ideal S4096 .f32) (w2 : Vec Ideal S4096x1024 .f32)
    (ct : Vec Ideal S2x4352x1024 .bf16) (f : Fin 4096) :
    G4 p b1 w2 ct (ix2 (0 : Fin 1) f) = ∑ n ∈ Finset.range 8704, dh p b1 w2 ct f (half n) (place n) := rfl

theorem opCt (n : Fin 8704) (k : Fin 1024) : V m c main_v6 (ix2 n k) = CT m c (ix3 (half n) (place n) k) := by
  rw [half_eq n n.isLt]
  unfold V
  after_reads_at

theorem opW (f : Fin 4096) (k : Fin 1024) : V m c main_v7 (ix2 f k) = W2 m c (ix2 f k) := by
  unfold V
  after_reads_at

theorem opAct (n : Fin 8704) (f : Fin 4096) : V m c main_v8 (ix2 n f) = act (P m c) (B1 m c) (half n) (place n) f := by
  rw [half_eq n n.isLt]
  unfold V
  after_reads_at

variable (t : Fin cfg0.N)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)

theorem index1 : ∀ t : Fin cfg0.N, win0_1.index t 0 = t.val / 8 ∧ win0_1.index t 1 = 0 :=
  (by decide +kernel : ∀ t : Fin grid0.N, win0_1.index t 0 = t.val / 8 ∧ win0_1.index t 1 = 0)

theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem index3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

theorem index4 : ∀ t : Fin cfg0.N, win0_4.index t 0 = 0 ∧ win0_4.index t 1 = t.val / 8 :=
  (by decide +kernel : ∀ t : Fin grid0.N, win0_4.index t 0 = 0 ∧ win0_4.index t 1 = t.val / 8)

theorem xsize3 : ∀ t : Fin cfg0.N, win0_3.xsize (grid0.coords t) 0 = 1088 ∧ win0_3.xsize (grid0.coords t) 1 = 1024 :=
  (by decide +kernel : ∀ t : Fin grid0.N, win0_3.xsize (grid0.coords t) 0 = 1088 ∧ win0_3.xsize (grid0.coords t) 1 = 1024)

theorem xsize4 : ∀ t : Fin cfg0.N, win0_4.xsize (grid0.coords t) 0 = 1 ∧ win0_4.xsize (grid0.coords t) 1 = 1024 :=
  (by decide +kernel : ∀ t : Fin grid0.N, win0_4.xsize (grid0.coords t) 0 = 1 ∧ win0_4.xsize (grid0.coords t) 1 = 1024)

theorem lt32 : t.val < 32 := lt_of_lt_of_eq t.isLt N_0

/-- Step `t`'s block of the cotangent. -/
theorem blk0 (r : Fin 1088) (k : Fin 1024) (n : Fin 8704) (hn : n.val = 1088 * (t.val % 8) + r.val) :
    (iblk m c 0 t : Vec Ideal S1088x1024 .bf16) (ix2 r k) = CT m c (ix3 (half n) (place n) k) := by
  have hi := index0 t
  unfold iblk
  rw [View.read_apply]
  refine Eq.trans (b := V m c main_v6 (ix2 n k)) ?_ (opCt m c n k)
  show V m c main_v6 _ = _
  congr 1
  funext a
  apply Fin.ext
  match a with
  | ⟨0, _⟩ =>
    show win0_0.index t 0 * 1088 + 1 * r.val = n.val
    rw [hi.1]
    omega
  | ⟨1, _⟩ =>
    show win0_0.index t 1 * 1024 + 1 * k.val = k.val
    rw [hi.2]
    omega

/-- Step `t`'s block of the weight. -/
theorem blk1 (l : Fin 1024) (k : Fin 1024) (f : Fin 4096) (hf : f.val = 1024 * (t.val / 8) + l.val) :
    (iblk m c 1 t : Vec Ideal S1024x1024 .bf16) (ix2 l k) = W2 m c (ix2 f k) := by
  have hi := index1 t
  unfold iblk
  rw [View.read_apply]
  refine Eq.trans (b := V m c main_v7 (ix2 f k)) ?_ (opW m c f k)
  show V m c main_v7 _ = _
  congr 1
  funext a
  apply Fin.ext
  match a with
  | ⟨0, _⟩ =>
    show win0_1.index t 0 * 1024 + 1 * l.val = f.val
    rw [hi.1]
    omega
  | ⟨1, _⟩ =>
    show win0_1.index t 1 * 1024 + 1 * k.val = k.val
    rw [hi.2]
    omega

/-- Step `t`'s block of the hidden activation. -/
theorem blk2 (r : Fin 1088) (l : Fin 1024) (n : Fin 8704) (hn : n.val = 1088 * (t.val % 8) + r.val) (f : Fin 4096)
    (hf : f.val = 1024 * (t.val / 8) + l.val) :
    (iblk m c 2 t : Vec Ideal S1088x1024 .bf16) (ix2 r l) = act (P m c) (B1 m c) (half n) (place n) f := by
  have hi := index2 t
  unfold iblk
  rw [View.read_apply]
  refine Eq.trans (b := V m c main_v8 (ix2 n f)) ?_ (opAct m c n f)
  show V m c main_v8 _ = _
  congr 1
  funext a
  apply Fin.ext
  match a with
  | ⟨0, _⟩ =>
    show win0_2.index t 0 * 1088 + 1 * r.val = n.val
    rw [hi.1]
    omega
  | ⟨1, _⟩ =>
    show win0_2.index t 1 * 1024 + 1 * l.val = f.val
    rw [hi.2]
    omega

theorem pay1 (x : Vec Ideal S1088x1024 .bf16) (y : Vec Ideal S1024x1024 .bf16) (z : Vec Ideal S1088x1024 .bf16) (r : Fin 1088) (l : Fin 1024) :
    k0_pay1 (F := Ideal) x y z (ix2 r l) = (∑ k : Fin 1024, x (ix2 r k) * y (ix2 l k)) * (dbl * z (ix2 r l)) := by
  simp [k0_pay1, pointwise]

theorem pay2 (x : Vec Ideal S1088x1024 .bf16) (y : Vec Ideal S1024x1024 .bf16) (z : Vec Ideal S1088x1024 .bf16) (r : Fin 1088) (l : Fin 1024) :
    k0_pay2 (F := Ideal) x y z (ix2 r l) = k0_pay1 (F := Ideal) x y z (ix2 r l) := by
  simp [k0_pay2, pointwise]

theorem pay3 (x : Vec Ideal S1088x1024 .bf16) (y : Vec Ideal S1024x1024 .bf16) (z : Vec Ideal S1088x1024 .bf16) (l : Fin 1024) :
    k0_pay3 (F := Ideal) x y z (ix2 (0 : Fin 1) l) = ∑ r : Fin 1088, k0_pay1 (F := Ideal) x y z (ix2 r l) := by
  simp [k0_pay3, pointwise]

theorem pay4 (x : Vec Ideal S1088x1024 .bf16) (y : Vec Ideal S1024x1024 .bf16) (z : Vec Ideal S1088x1024 .bf16) (s : Vec Ideal S1x1024 .f32) (l : Fin 1024) :
    k0_pay4 (F := Ideal) x y z s (ix2 (0 : Fin 1) l) = s (ix2 (0 : Fin 1) l) + ∑ r : Fin 1088, k0_pay1 (F := Ideal) x y z (ix2 r l) := by
  simp [k0_pay4, pointwise]

/-- Step `t`'s block of the gradient. -/
theorem step (r : Fin 1088) (l : Fin 1024) (n : ℕ) (hn : n = 1088 * (t.val % 8) + r.val) (f : Fin 4096)
    (hf : f.val = 1024 * (t.val / 8) + l.val) :
    k0_pay1 (F := Ideal) (iblk m c 0 t) (iblk m c 1 t) (iblk m c 2 t) (ix2 r l)
      = dh (P m c) (B1 m c) (W2 m c) (CT m c) f (half n) (place n) := by
  have hN : n < 8704 := by omega
  rw [pay1, blk2 m c t r l ⟨n, hN⟩ hn f hf]
  unfold dh
  refine congrArg (· * _) (Finset.sum_congr rfl fun k _ => ?_)
  rw [blk0 m c t r k ⟨n, hN⟩ hn, blk1 m c t l k f hf]

/-- Whatever the step, the first output's block is the step's block of the gradient. -/
theorem outs3 (r : Fin 1088) (l : Fin 1024) (n : ℕ) (hn : n = 1088 * (t.val % 8) + r.val) (f : Fin 4096)
    (hf : f.val = 1024 * (t.val / 8) + l.val) :
    (outsAt0 m c t.val t.isLt).1 (ix2 r l) = dh (P m c) (B1 m c) (W2 m c) (CT m c) f (half n) (place n) := by
  by_cases h0 : t.val % 8 = 0
  · rw [outsAt0_A m c t h0 (by omega)]
    dsimp only
    rw [oA3, pay2]
    exact step m c t r l n hn f hf
  · rw [outsAt0_B m c t h0 (by omega)]
    dsimp only
    rw [oB3, pay2]
    exact step m c t r l n hn f hf

/-- After row block `k` of column block `q`, the second output holds the sums over the tokens so far. -/
theorem outs4 (q : ℕ) (l : Fin 1024) (f : Fin 4096) (hf : f.val = 1024 * q + l.val) (k : ℕ) (hk : k < 8) (h : 8 * q + k < cfg0.N) :
    (outsAt0 m c (8 * q + k) h).2 (ix2 (0 : Fin 1) l)
      = ∑ n ∈ Finset.range (1088 * (k + 1)), dh (P m c) (B1 m c) (W2 m c) (CT m c) f (half n) (place n) := by
  have hsum : ∀ (k : ℕ) (_ : k < 8) (h : 8 * q + k < cfg0.N),
      ∑ r : Fin 1088, k0_pay1 (F := Ideal) (iblk m c 0 ⟨8 * q + k, h⟩) (iblk m c 1 ⟨8 * q + k, h⟩) (iblk m c 2 ⟨8 * q + k, h⟩) (ix2 r l)
        = ∑ j ∈ Finset.range 1088, dh (P m c) (B1 m c) (W2 m c) (CT m c) f (half (1088 * k + j)) (place (1088 * k + j)) := by
    intro k hk h
    rw [← Fin.sum_univ_eq_sum_range (fun j => dh (P m c) (B1 m c) (W2 m c) (CT m c) f (half (1088 * k + j)) (place (1088 * k + j))) 1088]
    exact Finset.sum_congr rfl fun r _ => step m c ⟨8 * q + k, h⟩ r l (1088 * k + r.val) (by dsimp only; omega) f (by dsimp only; omega)
  induction k with
  | zero =>
    have e := outsAt0_A m c ⟨8 * q + 0, h⟩ (by dsimp only; omega) (by dsimp only; omega)
    rw [oA4] at e
    rw [show (outsAt0 m c (8 * q + 0) h).2 = _ from congrArg Prod.snd e]
    dsimp only
    rw [pay3, hsum 0 hk h]
    simp only [Nat.mul_zero, Nat.zero_add, Nat.mul_one]
  | succ k ih =>
    have e := outsAt0_B m c ⟨8 * q + (k + 1), h⟩ (by dsimp only; omega) (by dsimp only; omega)
    rw [oB4] at e
    rw [show (outsAt0 m c (8 * q + (k + 1)) h).2 = _ from congrArg Prod.snd e]
    dsimp only
    rw [pay4, hsum (k + 1) hk h, show 1088 * (k + 1 + 1) = 1088 * (k + 1) + 1088 from by omega, Finset.sum_range_add]
    exact congrArg (· + _) (ih (by omega) (by omega))

/-- The first output's block at a write-back is its block of the gradient. -/
theorem flushed3 (_ : (cfg0.win 3).flush t = true) :
    (dats m 0 c).flushed 3 t = ((cfg0.win 3).blk t).view.read (Elt Ideal) (G3 (P m c) (B1 m c) (W2 m c) (CT m c)) := by
  have hi := index3 t
  have ht := lt32 t
  refine funext fun (j : (⟨2, ![1088, 1024]⟩ : Shape).Idx) => ?_
  rw [View.read_apply]
  obtain ⟨r, l, rfl⟩ : ∃ (r : Fin 1088) (l : Fin 1024), j = ix2 r l := ⟨j 0, j 1, eq_ix2 j⟩
  refine Eq.trans (b := (outsAt0 m c t.val t.isLt).1 (ix2 r l)) ?_ ((outs3 m c t r l (1088 * (t.val % 8) + r.val) rfl
    ⟨1024 * (t.val / 8) + l.val, by omega⟩ rfl).trans ?_)
  · show (cfg0.win 3).cut (grid0.coords t) ((dats m 0 c).after 3 t) _ = _
    rw [after0_3]
    rfl
  · have e : ((cfg0.win 3).blk t).view.emb (ix2 r l)
        = ix2 (⟨1088 * (t.val % 8) + r.val, by omega⟩ : Fin 8704) (⟨1024 * (t.val / 8) + l.val, by omega⟩ : Fin 4096) := by
      funext ax
      apply Fin.ext
      match ax with
      | ⟨0, _⟩ =>
        show win0_3.index t 0 * 1088 + 1 * r.val = 1088 * (t.val % 8) + r.val
        rw [hi.1]
        omega
      | ⟨1, _⟩ =>
        show win0_3.index t 1 * 1024 + 1 * l.val = 1024 * (t.val / 8) + l.val
        rw [hi.2]
        omega
    exact (congrArg (G3 (P m c) (B1 m c) (W2 m c) (CT m c)) e).symm

theorem final3 : (dats m 0 c).arrAt 3 cfg0.N = G3 (P m c) (B1 m c) (W2 m c) (CT m c) :=
  (dats m 0 c).arrAt_eq_of_cover 3 (G3 (P m c) (B1 m c) (W2 m c) (CT m c)) (flushed3 m c) fun i => by
    have h0 : (i 0 : Nat) < 8704 := (i 0).isLt
    have h1 : (i 1 : Nat) < 4096 := (i 1).isLt
    obtain ⟨t, ht⟩ : ∃ t : Fin cfg0.N, t.val = 8 * ((i 1).val / 1024) + (i 0).val / 1088 :=
      ⟨⟨8 * ((i 1).val / 1024) + (i 0).val / 1088, lt_of_lt_of_eq (by omega) N_0.symm⟩, rfl⟩
    have hi := index3 t
    have hx := xsize3 t
    refine ⟨t, flush0_3 t, ?_⟩
    show i ∈ ((View.whole main_v9_0).slice (win0_3.rect t)).set
    rw [View.set_slice_whole, Rect.mem_set_unit]
    intro a
    match a with
    | ⟨0, _⟩ =>
      show win0_3.index t 0 * 1088 ≤ (i 0 : Nat) ∧ (i 0 : Nat) < win0_3.index t 0 * 1088 + win0_3.xsize (grid0.coords t) 0
      rw [hi.1, hx.1]
      omega
    | ⟨1, _⟩ =>
      show win0_3.index t 1 * 1024 ≤ (i 1 : Nat) ∧ (i 1 : Nat) < win0_3.index t 1 * 1024 + win0_3.xsize (grid0.coords t) 1
      rw [hi.2, hx.2]
      omega

/-- The second output's block at a write-back holds the sums over all tokens. -/
theorem flushed4 (hf : (cfg0.win 4).flush t = true) :
    (dats m 0 c).flushed 4 t = ((cfg0.win 4).blk t).view.read (Elt Ideal) (G4 (P m c) (B1 m c) (W2 m c) (CT m c)) := by
  have hi := index4 t
  have ht := lt32 t
  have h7 := (flush0_4 t).mp hf
  obtain ⟨v, hv⟩ := t
  dsimp only at h7 ht
  obtain ⟨q, rfl⟩ : ∃ q, v = 8 * q + 7 := ⟨v / 8, by omega⟩
  refine funext fun (j : (⟨2, ![1, 1024]⟩ : Shape).Idx) => ?_
  rw [View.read_apply]
  obtain ⟨b, l, rfl⟩ : ∃ (b : Fin 1) (l : Fin 1024), j = ix2 b l := ⟨j 0, j 1, eq_ix2 j⟩
  obtain rfl : b = 0 := Subsingleton.elim _ _
  refine Eq.trans (b := (outsAt0 m c (8 * q + 7) hv).2 (ix2 (0 : Fin 1) l)) ?_ ((outs4 m c q l
    ⟨1024 * q + l.val, by omega⟩ rfl 7 (by omega) hv).trans ?_)
  · show (cfg0.win 4).cut (grid0.coords ⟨8 * q + 7, hv⟩) ((dats m 0 c).after 4 ⟨8 * q + 7, hv⟩) _ = _
    rw [after0_4]
    rfl
  · have e : ((cfg0.win 4).blk ⟨8 * q + 7, hv⟩).view.emb (ix2 (0 : Fin 1) l)
        = ix2 (0 : Fin 1) (⟨1024 * q + l.val, by omega⟩ : Fin 4096) := by
      funext ax
      apply Fin.ext
      match ax with
      | ⟨0, _⟩ =>
        show win0_4.index ⟨8 * q + 7, hv⟩ 0 * 1 + 1 * 0 = 0
        rw [hi.1]
      | ⟨1, _⟩ =>
        show win0_4.index ⟨8 * q + 7, hv⟩ 1 * 1024 + 1 * l.val = 1024 * q + l.val
        rw [hi.2]
        dsimp only
        omega
    rw [show 1088 * (7 + 1) = 8704 from rfl, ← G4_apply (P m c) (B1 m c) (W2 m c) (CT m c)]
    generalize G4 (P m c) (B1 m c) (W2 m c) (CT m c) = g
    exact congrArg g e.symm

theorem final4 : (dats m 0 c).arrAt 4 cfg0.N = G4 (P m c) (B1 m c) (W2 m c) (CT m c) :=
  (dats m 0 c).arrAt_eq_of_cover 4 (G4 (P m c) (B1 m c) (W2 m c) (CT m c)) (flushed4 m c) fun i => by
    have h0 : (i 0 : Nat) < 1 := (i 0).isLt
    have h1 : (i 1 : Nat) < 4096 := (i 1).isLt
    obtain ⟨t, ht⟩ : ∃ t : Fin cfg0.N, t.val = 8 * ((i 1).val / 1024) + 7 :=
      ⟨⟨8 * ((i 1).val / 1024) + 7, lt_of_lt_of_eq (by omega) N_0.symm⟩, rfl⟩
    have hi := index4 t
    have hx := xsize4 t
    refine ⟨t, (flush0_4 t).mpr (by omega), ?_⟩
    show i ∈ ((View.whole main_v9_1).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + win0_4.xsize (grid0.coords t) 0
      rw [hi.1, hx.1]
      omega
    | ⟨1, _⟩ =>
      show win0_4.index t 1 * 1024 ≤ (i 1 : Nat) ∧ (i 1 : Nat) < win0_4.index t 1 * 1024 + win0_4.xsize (grid0.coords t) 1
      rw [hi.2, hx.2]
      omega

end Cert.Mlp2DxIdeal.Answer

namespace Cert.Mlp2DxReferenceIdeal.Answer

open Idealize.ShloMosaic Idealize.ShloMosaic.TcCoe Idealize.ShloMosaic.Tactic
open Cert.Mlp2DxReferenceIdeal Cert.Mlp2DxReferenceIdeal.Gen Cert.Sums

variable (p : Vec Ideal S2x4352x4096 .f32) (b1 : Vec Ideal S4096 .f32) (w2 : Vec Ideal S4096x1024 .f32) (ct : Vec Ideal S2x4352x1024 .bf16)

/-- The first product with its bias, as the reference composes it. -/
abbrev pre : Vec Ideal S2x4352x4096 .f32 :=
  addf (F := Ideal) (φ := .f32) p (broadcastInDim S2x4352x4096 ![0, 1, 2] bcast_S1x1x4096_S2x4352x4096_0_1_2
    (broadcastInDim S1x1x4096 ![2] bcast_S4096_S1x1x4096_2 b1))

/-- Zeros. -/
abbrev zeros : Vec Ideal S2x4352x4096 .f32 :=
  broadcastInDim S2x4352x4096 ![] bcast_S_S2x4352x4096 (constant (F := Ideal) S_ .f32 0x00000000#32)

/-- The gradient of the hidden layer, as the reference composes it. -/
abbrev grad : Vec Ideal S2x4352x4096 .f32 :=
  select (cmpf (F := Ideal) (φ := .f32) .ogt (pre p b1) zeros) (mulf (F := Ideal) (φ := .f32) (Host.dotGeneral (φ₁ := .f32) (φ₂ := .f32)
    dot_S2x4352x1024_S4096x1024_S2x4352x4096_2_1_01_0_n_n none (extf .f32 ct bitsLt_bf16_f32) w2)
    (mulf (F := Ideal) (φ := .f32) (broadcastInDim S2x4352x4096 ![] bcast_S_S2x4352x4096 (constant (F := Ideal) S_ .f32 0x40000000#32))
      (maximumf (F := Ideal) (φ := .f32) (pre p b1) zeros))) zeros

/-- The reference's results as the program composes them. -/
abbrev out3 : Vec Ideal S8704x4096 .bf16 :=
  truncf (F := Ideal) .bf16 (shapeCast _ (grad p b1 w2 ct) shapeCasts_S2x4352x4096_S8704x4096) bitsLt_bf16_f32

abbrev out4 : Vec Ideal S1x4096 .f32 :=
  shapeCast _ (Host.reduceAdd (F := Ideal) (φ := .f32) (shapeCast _ (Host.reduceAdd (F := Ideal) (φ := .f32) (grad p b1 w2 ct)
    (constant (F := Ideal) S_ .f32 0x00000000#32) reducesTo_S2x4352x4096_S4096_d0_1 h_S_) shapeCasts_S4096_S1x1x4096)
    (constant (F := Ideal) S_ .f32 0x00000000#32) reducesTo_S1x1x4096_S4096_d0_1 h_S_) shapeCasts_S4096_S1x4096

/-- A host sum over the first two of three axes. -/
theorem sum01 {n0 n1 n2 : ℕ} (h : (⟨3, ![n0, n1, n2]⟩ : Shape).ReducesTo [0, 1] ⟨1, ![n2]⟩)
    (v : (⟨3, ![n0, n1, n2]⟩ : Shape).Idx → EReal) (init : EReal) (f : Fin n2) :
    Ideal.hostReduceAdd h v init (ix1 f) = init + ∑ b : Fin n0, ∑ t : Fin n1, v (ix3 b t f) := by
  unfold Ideal.hostReduceAdd
  rw [← Fintype.sum_prod_type']
  refine congrArg (init + ·) (Finset.sum_nbij' (fun i => ((i 0 : Fin n0), (i 1 : Fin n1))) (fun q => ix3 q.1 q.2 f) ?_ ?_ ?_ ?_ ?_)
  · exact fun _ _ => Finset.mem_univ _
  · intro q _
    refine Finset.mem_filter.mpr ⟨Finset.mem_univ _, ?_⟩
    funext a
    apply Fin.ext
    match a with
    | ⟨0, _⟩ => rfl
  · intro i hi
    have e : (i 2).val = f.val := congrArg Fin.val (congrFun (Finset.mem_filter.mp hi).2 0)
    obtain ⟨b, t, g, rfl⟩ : ∃ (b : Fin n0) (t : Fin n1) (g : Fin n2), i = ix3 b t g := ⟨i 0, i 1, i 2, eq_ix3 i⟩
    obtain rfl : g = f := Fin.ext e
    rfl
  · exact fun _ _ => rfl
  · intro i hi
    have e : (i 2).val = f.val := congrArg Fin.val (congrFun (Finset.mem_filter.mp hi).2 0)
    obtain ⟨b, t, g, rfl⟩ : ∃ (b : Fin n0) (t : Fin n1) (g : Fin n2), i = ix3 b t g := ⟨i 0, i 1, i 2, eq_ix3 i⟩
    obtain rfl : g = f := Fin.ext e
    rfl

theorem grad_apply (b : Fin 2) (t : Fin 4352) (f : Fin 4096) :
    grad p b1 w2 ct (ix3 b t f) = Cert.Mlp2DxIdeal.Answer.dh p b1 w2 ct f b t := by
  unfold grad pre zeros Cert.Mlp2DxIdeal.Answer.dh Cert.Mlp2DxIdeal.Answer.act
  simp [pointwise]
  exact fun h => Or.inr (Or.inr h)

theorem value3 (n : Fin 8704) (f : Fin 4096) :
    out3 p b1 w2 ct (ix2 n f) = Cert.Mlp2DxIdeal.Answer.dh p b1 w2 ct f (half n) (place n) := by
  rw [half_eq n n.isLt, ← grad_apply]
  unfold out3
  generalize grad p b1 w2 ct = g
  simp [pointwise]

theorem value4 (f : Fin 4096) :
    out4 p b1 w2 ct (ix2 (0 : Fin 1) f) = ∑ n ∈ Finset.range 8704, Cert.Mlp2DxIdeal.Answer.dh p b1 w2 ct f (half n) (place n) := by
  rw [← tokens (Cert.Mlp2DxIdeal.Answer.dh p b1 w2 ct f)]
  simp only [← grad_apply]
  unfold out4
  generalize grad p b1 w2 ct = g
  simp [pointwise, sum01]

end Cert.Mlp2DxReferenceIdeal.Answer

namespace Cert.Mlp2Dx.Answer

open Idealize.ShloMosaic Idealize.ShloMosaic.TcCoe Idealize.SL.Sem

/-- The reference ends, changes no argument, and has no semaphore. -/
theorem frame_reference : Cert.quiescent_Mlp2DxReferenceIdeal := fun m ρ _ =>
  (θ_run Cert.Mlp2DxReferenceIdeal.defs _ _).mono (fun r h => ⟨fun c => (h c).2.2,
      Idealize.ShloMosaic.sem_eq_zero_of_no_sems (by decide) r.2⟩)
    (Cert.Mlp2DxReferenceIdeal.Value.run (F := Ideal) m ρ)

open Cert.Mlp2DxIdeal.Answer in
/-- From equal arguments the kernel and the reference end with equal results. -/
theorem algebraic : Cert.algebraic_Mlp2DxIdeal_Mlp2DxReferenceIdeal := by
  intro m g m' g' _ hagree
  refine ⟨fun c => G3 (P m c) (B1 m c) (W2 m c) (CT m c), fun c => G4 (P m c) (B1 m c) (W2 m c) (CT m c),
    (θ_run Cert.Mlp2DxIdeal.defs _ _).mono (fun r h c => ⟨(h c).1.trans (final3 m c), (h c).2.1.trans (final4 m c), (h c).2.2⟩)
      (Cert.Mlp2DxIdeal.Value.run_blocks (F := Ideal) m g), ?_⟩
  refine (θ_run Cert.Mlp2DxReferenceIdeal.defs _ _).mono (fun r h c => ⟨(h c).1.trans ?_, (h c).2.1.trans ?_, (h c).2.2⟩)
    (Cert.Mlp2DxReferenceIdeal.Value.run (F := Ideal) m' g')
  all_goals
    obtain ⟨a0, a1, a2, a3⟩ := hagree c
    rw [a0, a1, a2, a3]
    funext y
  · rw [eq_ix2 y]
    exact Cert.Mlp2DxReferenceIdeal.Answer.value3 _ _ _ _ _ _
  · obtain ⟨b, f, rfl⟩ : ∃ (b : Fin 1) (f : Fin 4096), y = ix2 b f := ⟨y 0, y 1, eq_ix2 y⟩
    obtain rfl : b = 0 := Subsingleton.elim _ _
    exact Cert.Mlp2DxReferenceIdeal.Answer.value4 _ _ _ _ _

end Cert.Mlp2Dx.Answer

end
-- ==== Proof.Mlp2Dw.lean ====
module

public import proofs.«01_k».proof.Defs
public import proofs.«01_k».proof.Proof.Sums
public import proofs.«01_k».proof.Proof.Gen.Mlp2DwIdeal.Value
public import proofs.«01_k».proof.Proof.Gen.Mlp2DwReferenceIdeal.Run
public import Idealize.ShloMosaic.Lib.StableHlo.ReadAt

@[expose] public section

/-!
The gradient of the MLP's second weight: what the tiled product leaves, element by element, is the sum over all tokens,
and so is the reference's.
-/

set_option maxRecDepth 16384

noncomputable section

namespace Cert.Mlp2DwIdeal.Answer

open Idealize.ShloMosaic Idealize.ShloMosaic.TcCoe Idealize.ShloMosaic.Tactic
open Cert.Mlp2DwIdeal Cert.Mlp2DwIdeal.Gen Cert.Sums

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (i : grid0.Coords) (a3 : Memref sig .tc .vmem S512x2176 .bf16) (h3 : a3.IsWhole)
  (a4 : Memref sig .tc .vmem S2176x1024 .bf16) (h4 : a4.IsWhole) (a5 : Memref sig .tc .vmem S512x1024 .bf16) (h5 : a5.IsWhole)
  (a6 : Memref sig .tc .vmem S512x1024 .f32) (h6 : a6.IsWhole)
  (x : Vec Ideal S512x2176 .bf16) (y : Vec Ideal S2176x1024 .bf16) (s : Vec Ideal S512x1024 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S512x2176) hz2,
    View.ld_unit_zero (S := S2176x1024) hz2, shapeCast_self]

/-- A middle step adds its product. -/
theorem sB (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  rw [View.canon_unit_zero hz2]
  unfold k0_pay3
  simp only [View.readAt_eq_ld, h3.read_unread, h4.read_unread, h6.read_unread, View.ld_unit_zero (S := S512x2176) hz2,
    View.ld_unit_zero (S := S2176x1024) hz2, View.ld_unit_zero (S := S512x1024) hz2, shapeCast_self]

/-- The last step adds its product and hands over the sum. -/
theorem oC (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero hz2, View.readCov_unit_zero (S := S512x1024) _ hz2]
  unfold k0_pay3
  simp only [View.readAt_eq_ld, h3.read_unread, h4.read_unread, h6.read_unread, View.ld_unit_zero (S := S512x2176) hz2,
    View.ld_unit_zero (S := S2176x1024) hz2, View.ld_unit_zero (S := S512x1024) hz2, shapeCast_self]

end Cases

/-- After the four steps of tile `r`: the four products added in order. -/
theorem tile (r : ℕ) (h : 4 * r + 3 < cfg0.N) :
    (outsAt0 m c (4 * r + 3) h).1
      = k0_pay4 (addf (addf (addf (k0_pay1 (iblk m c 0 ⟨4 * r + 0, by omega⟩) (iblk m c 1 ⟨4 * r + 0, by omega⟩))
          (k0_pay1 (iblk m c 0 ⟨4 * r + 1, by omega⟩) (iblk m c 1 ⟨4 * r + 1, by omega⟩)))
          (k0_pay1 (iblk m c 0 ⟨4 * r + 2, by omega⟩) (iblk m c 1 ⟨4 * r + 2, by omega⟩)))
          (k0_pay1 (iblk m c 0 ⟨4 * r + 3, h⟩) (iblk m c 1 ⟨4 * r + 3, h⟩))) := by
  rw [outsAt0_C m c ⟨4 * r + 3, h⟩ (by dsimp only; omega) (by dsimp only; omega) (by dsimp only; omega)]
  dsimp only
  rw [oC]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The first product without bias, the bias, and the cotangent of the second product, as launched. -/
abbrev P : Vec Ideal S2x4352x4096 .f32 := m ((c : Thread nD τ).loc main_arg0)
abbrev B1 : Vec Ideal S4096 .f32 := m ((c : Thread nD τ).loc main_arg1)
abbrev CT : Vec Ideal S2x4352x1024 .bf16 := m ((c : Thread nD τ).loc main_arg3)

/-- The hidden activation of token `n` at feature `r`, before its square. -/
abbrev act (p : Vec Ideal S2x4352x4096 .f32) (b1 : Vec Ideal S4096 .f32) (b : Fin 2) (t : Fin 4352) (r : Fin 4096) : EReal :=
  max (p (ix3 b t r) + b1 (ix1 r)) 0

/-- Token `n`'s contribution to the gradient at row `r` and column `l` of the weight. -/
abbrev term (p : Vec Ideal S2x4352x4096 .f32) (b1 : Vec Ideal S4096 .f32) (ct : Vec Ideal S2x4352x1024 .bf16) (r : Fin 4096)
    (l : Fin 1024) (n : ℕ) : EReal :=
  act p b1 (half n) (place n) r * act p b1 (half n) (place n) r * ct (ix3 (half n) (place n) l)

/-- The gradient of the second weight. -/
def G (p : Vec Ideal S2x4352x4096 .f32) (b1 : Vec Ideal S4096 .f32) (ct : Vec Ideal S2x4352x1024 .bf16) : Vec Ideal S4096x1024 .bf16 :=
  fun y => ∑ n ∈ Finset.range 8704, term p b1 ct (y 0) (y 1) n

theorem lhs (r : Fin 4096) (n : Fin 8704) : V m c main_v7 (ix2 r n) = act (P m c) (B1 m c) (half n) (place n) r := by
  rw [half_eq n n.isLt]
  unfold V
  after_reads_at

theorem rhs (n : Fin 8704) (l : Fin 1024) : V m c main_v8 (ix2 n l) = CT m c (ix3 (half n) (place n) l) := by
  rw [half_eq n n.isLt]
  unfold V
  after_reads_at

variable (t : Fin cfg0.N)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- Step `t`'s block of the activation. -/
theorem blk0 (r : Fin 512) (j : Fin 2176) (n : ℕ) (hn : n = 2176 * (t.val % 4) + j.val) (q : Fin 4096)
    (hq : q.val = 512 * (t.val / 4) + r.val) :
    (iblk m c 0 t : Vec Ideal S512x2176 .bf16) (ix2 r j) = act (P m c) (B1 m c) (half n) (place n) q := by
  have hi := index0 t
  unfold iblk
  rw [View.read_apply]
  refine Eq.trans (b := V m c main_v7 (ix2 q ⟨n, by omega⟩)) ?_ (lhs m c q ⟨n, by omega⟩)
  show V m c main_v7 _ = _
  congr 1
  funext a
  apply Fin.ext
  match a with
  | ⟨0, _⟩ =>
    show win0_0.index t 0 * 512 + 1 * r.val = q.val
    rw [hi.1]
    omega
  | ⟨1, _⟩ =>
    show win0_0.index t 1 * 2176 + 1 * j.val = n
    rw [hi.2]
    omega

/-- Step `t`'s block of the cotangent. -/
theorem blk1 (j : Fin 2176) (l : Fin 1024) (n : ℕ) (hn : n = 2176 * (t.val % 4) + j.val) :
    (iblk m c 1 t : Vec Ideal S2176x1024 .bf16) (ix2 j l) = CT m c (ix3 (half n) (place n) l) := by
  have hi := index1 t
  unfold iblk
  rw [View.read_apply]
  refine Eq.trans (b := V m c main_v8 (ix2 ⟨n, by omega⟩ l)) ?_ (rhs m c ⟨n, by omega⟩ l)
  show V m c main_v8 _ = _
  congr 1
  funext a
  apply Fin.ext
  match a with
  | ⟨0, _⟩ =>
    show win0_1.index t 0 * 2176 + 1 * j.val = n
    rw [hi.1]
    omega
  | ⟨1, _⟩ =>
    show win0_1.index t 1 * 1024 + 1 * l.val = l.val
    rw [hi.2]
    omega

theorem pay1 (x : Vec Ideal S512x2176 .bf16) (y : Vec Ideal S2176x1024 .bf16) (r : Fin 512) (l : Fin 1024) :
    k0_pay1 (F := Ideal) x y (ix2 r l) = ∑ j : Fin 2176, x (ix2 r j) * x (ix2 r j) * y (ix2 j l) := by
  simp [k0_pay1, pointwise]

theorem pay4 (s : Vec Ideal S512x1024 .f32) (r : Fin 512) (l : Fin 1024) :
    k0_pay4 (F := Ideal) s (ix2 r l) = s (ix2 r l) := by
  simp [k0_pay4, pointwise]

/-- Step `t`'s product: its tokens' contributions. -/
theorem step (s : ℕ) (hs : t.val % 4 = s) (r : Fin 512) (l : Fin 1024) (q : Fin 4096) (hq : q.val = 512 * (t.val / 4) + r.val) :
    k0_pay1 (F := Ideal) (iblk m c 0 t) (iblk m c 1 t) (ix2 r l)
      = ∑ j : Fin 2176, term (P m c) (B1 m c) (CT m c) q l (2176 * s + j.val) := by
  rw [pay1]
  refine Finset.sum_congr rfl fun j _ => ?_
  rw [blk0 m c t r j (2176 * s + j.val) (by rw [hs]) q hq, blk1 m c t j l (2176 * s + j.val) (by rw [hs])]

/-- One tile of the result: the sum over all tokens. -/
theorem sum (k : ℕ) (h : 4 * k + 3 < cfg0.N) (r : Fin 512) (l : Fin 1024) (q : Fin 4096) (hq : q.val = 512 * k + r.val) :
    addf (addf (addf (k0_pay1 (F := Ideal) (iblk m c 0 ⟨4 * k + 0, by omega⟩) (iblk m c 1 ⟨4 * k + 0, by omega⟩))
      (k0_pay1 (F := Ideal) (iblk m c 0 ⟨4 * k + 1, by omega⟩) (iblk m c 1 ⟨4 * k + 1, by omega⟩)))
      (k0_pay1 (F := Ideal) (iblk m c 0 ⟨4 * k + 2, by omega⟩) (iblk m c 1 ⟨4 * k + 2, by omega⟩)))
      (k0_pay1 (F := Ideal) (iblk m c 0 ⟨4 * k + 3, h⟩) (iblk m c 1 ⟨4 * k + 3, h⟩)) (ix2 r l)
      = ∑ n ∈ Finset.range 8704, term (P m c) (B1 m c) (CT m c) q l n := by
  show ((k0_pay1 (F := Ideal) _ _ (ix2 r l) + k0_pay1 (F := Ideal) _ _ (ix2 r l))
    + k0_pay1 (F := Ideal) _ _ (ix2 r l)) + k0_pay1 (F := Ideal) _ _ (ix2 r l) = _
  rw [step m c ⟨4 * k + 0, by omega⟩ 0 (by dsimp only; omega) r l q (by dsimp only; omega),
    step m c ⟨4 * k + 1, by omega⟩ 1 (by dsimp only; omega) r l q (by dsimp only; omega),
    step m c ⟨4 * k + 2, by omega⟩ 2 (by dsimp only; omega) r l q (by dsimp only; omega),
    step m c ⟨4 * k + 3, h⟩ 3 (by dsimp only; omega) r l q (by dsimp only; omega)]
  exact four 2176 _

/-- The kernel's result is the gradient. -/
theorem answer : Value.G2 m c = G (P m c) (B1 m c) (CT m c) := by
  funext y
  have h0 : (y 0).val < 4096 := (y 0).isLt
  have h1 : (y 1).val < 1024 := (y 1).isLt
  have hp : Value.pt2Of y = 4 * ((y 0).val / 512) + 3 := by
    show 4 * (1 * ((y 0).val / 512 - 0) + 1 * ((y 1).val / 1024 - 0)) + 3 = _
    omega
  have hN : 4 * ((y 0).val / 512) + 3 < cfg0.N := by rw [show cfg0.N = 32 from N_0]; omega
  unfold Value.G2
  rw [dif_pos (by rw [hp]; exact hN), Value.fold0_congr m c _ _ (4 * ((y 0).val / 512) + 3) (by omega) hp,
    ← Value.outsAt0_sweep m c _ hN, tile m c _ hN]
  have hl : Value.loc2Of y = ix2 (⟨(y 0).val % 512, Nat.mod_lt _ (by decide)⟩ : Fin 512) (y 1) := funext fun a => Fin.ext (by
    match a with
    | ⟨0, _⟩ => rfl
    | ⟨1, _⟩ => show (y 1).val % 1024 = (y 1).val; omega)
  rw [hl]
  refine (pay4 _ _ (y 1)).trans ?_
  exact sum m c _ hN _ (y 1) (y 0) (by dsimp only; omega)

end Cert.Mlp2DwIdeal.Answer

namespace Cert.Mlp2DwReferenceIdeal.Answer

open Idealize.ShloMosaic Idealize.ShloMosaic.TcCoe Idealize.ShloMosaic.Tactic
open Cert.Mlp2DwReferenceIdeal Cert.Mlp2DwReferenceIdeal.Gen Cert.Sums

/-- The hidden activation, as the reference composes it. -/
abbrev hid (p : Vec Ideal S2x4352x4096 .f32) (b1 : Vec Ideal S4096 .f32) : Vec Ideal S2x4352x4096 .f32 :=
  maximumf (F := Ideal) (addf p (broadcastInDim S2x4352x4096 ![0, 1, 2] bcast_S1x1x4096_S2x4352x4096_0_1_2
    (broadcastInDim S1x1x4096 ![2] bcast_S4096_S1x1x4096_2 b1))) (broadcastInDim S2x4352x4096 ![] bcast_S_S2x4352x4096 (constant S_ .f32 0x00000000#32))

/-- The reference's result as the program composes it. -/
abbrev out (p : Vec Ideal S2x4352x4096 .f32) (b1 : Vec Ideal S4096 .f32) (ct : Vec Ideal S2x4352x1024 .bf16) : Vec Ideal S4096x1024 .bf16 :=
  truncf (F := Ideal) .bf16 (transpose S4096x1024 [1, 0] (Host.dotGeneral (φ₁ := .f32) (φ₂ := .f32)
    dot_S2x4352x1024_S2x4352x4096_S1024x4096_01_01_2_2_n_n none (extf .f32 ct bitsLt_bf16_f32) (mulf (hid p b1) (hid p b1)))
    transposes_S1024x4096_S4096x1024_1_0) bitsLt_bf16_f32

theorem value (p : Vec Ideal S2x4352x4096 .f32) (b1 : Vec Ideal S4096 .f32) (ct : Vec Ideal S2x4352x1024 .bf16) (r : Fin 4096) (l : Fin 1024) :
    out p b1 ct (ix2 r l) = ∑ n ∈ Finset.range 8704, Cert.Mlp2DwIdeal.Answer.term p b1 ct r l n := by
  have ht := tokens (fun b t => Cert.Mlp2DwIdeal.Answer.act p b1 b t r * Cert.Mlp2DwIdeal.Answer.act p b1 b t r * ct (ix3 b t l))
  refine Eq.trans ?_ ht
  refine Eq.trans (b := ∑ b : Fin 2, ∑ t : Fin 4352, ct (ix3 b t l) *
    (Cert.Mlp2DwIdeal.Answer.act p b1 b t r * Cert.Mlp2DwIdeal.Answer.act p b1 b t r)) ?_
    (Finset.sum_congr rfl fun b _ => Finset.sum_congr rfl fun t _ => mul_comm _ _)
  unfold out hid
  simp [pointwise, Cert.Mlp2DwIdeal.Answer.act]

/-- The reference's result is the gradient. -/
theorem answer (p : Vec Ideal S2x4352x4096 .f32) (b1 : Vec Ideal S4096 .f32) (ct : Vec Ideal S2x4352x1024 .bf16) :
    out p b1 ct = Cert.Mlp2DwIdeal.Answer.G p b1 ct := by
  funext y
  rw [eq_ix2 y]
  exact value p b1 ct _ _

end Cert.Mlp2DwReferenceIdeal.Answer

namespace Cert.Mlp2Dw.Answer

open Idealize.ShloMosaic Idealize.ShloMosaic.TcCoe Idealize.SL.Sem

/-- The reference ends, changes no argument, and has no semaphore. -/
theorem frame_reference : Cert.quiescent_Mlp2DwReferenceIdeal := fun m ρ _ =>
  (θ_run Cert.Mlp2DwReferenceIdeal.defs _ _).mono (fun r h => ⟨fun c => (h c).2,
      Idealize.ShloMosaic.sem_eq_zero_of_no_sems (by decide) r.2⟩)
    (Cert.Mlp2DwReferenceIdeal.Value.run (F := Ideal) m ρ)

/-- From equal arguments the kernel and the reference end with equal results. -/
theorem algebraic : Cert.algebraic_Mlp2DwIdeal_Mlp2DwReferenceIdeal := by
  intro m g m' g' _ hagree
  refine ⟨fun c => Cert.Mlp2DwIdeal.Answer.G (Cert.Mlp2DwIdeal.Answer.P m c) (Cert.Mlp2DwIdeal.Answer.B1 m c) (Cert.Mlp2DwIdeal.Answer.CT m c),
    (θ_run Cert.Mlp2DwIdeal.defs _ _).mono (fun r h c => ⟨(h c).1.trans (Cert.Mlp2DwIdeal.Answer.answer m c), (h c).2⟩)
      (Cert.Mlp2DwIdeal.Value.run (F := Ideal) m g), ?_⟩
  refine (θ_run Cert.Mlp2DwReferenceIdeal.defs _ _).mono (fun r h c => ⟨(h c).1.trans ?_, (h c).2⟩)
    (Cert.Mlp2DwReferenceIdeal.Value.run (F := Ideal) m' g')
  obtain ⟨a0, a1, a2, a3⟩ := hagree c
  rw [a0, a1, a3]
  exact Cert.Mlp2DwReferenceIdeal.Answer.answer _ _ _

end Cert.Mlp2Dw.Answer

end
-- ==== Proof.Mlp1Dx.lean ====
module

public import proofs.«01_k».proof.Defs
public import proofs.«01_k».proof.Proof.Sums
public import proofs.«01_k».proof.Proof.Gen.Mlp1DxIdeal.Value
public import proofs.«01_k».proof.Proof.Gen.Mlp1DxReferenceIdeal.Run
public import Idealize.ShloMosaic.Lib.StableHlo.ReadAt

@[expose] public section

/-!
The gradient of the MLP's input: what the tiled product leaves, element by element, is the sum over all
columns of the weight, and so is the reference's.
-/

noncomputable section

namespace Cert.Mlp1DxIdeal.Answer

open Idealize.ShloMosaic Idealize.ShloMosaic.TcCoe Idealize.ShloMosaic.Tactic
open Cert.Mlp1DxIdeal Cert.Mlp1DxIdeal.Gen Cert.Sums

variable (m : (ℓ : Loc nD τ sig) → Buf (Elt Ideal) ℓ) (c : Dev nD)

theorem hz2 : (![0, 0] : Fin 2 → Nat) = fun _ => 0 := funext fun a => by fin_cases a <;> rfl

/-- The product of a block of the cotangent with four column shards of the weight. -/
abbrev prod (x : Vec Ideal S1088x2048 .bf16) (y : Vec Ideal S4x1024x512 .bf16) : FVec Ideal S1088x1024 .f32 :=
  k0_pay1 (F := Ideal) x (View.ld y (Rect.unit ![0, 0, 0] S1x1024x512.size inb_S4x1024x512_S1x1024x512_0_0_0))
    (View.ld y (Rect.unit ![1, 0, 0] S1x1024x512.size inb_S4x1024x512_S1x1024x512_1_0_0))
    (View.ld y (Rect.unit ![2, 0, 0] S1x1024x512.size inb_S4x1024x512_S1x1024x512_2_0_0))
    (View.ld y (Rect.unit ![3, 0, 0] S1x1024x512.size inb_S4x1024x512_S1x1024x512_3_0_0))

section Cases

variable (i : grid0.Coords) (a3 : Memref sig .tc .vmem S1088x2048 .bf16) (h3 : a3.IsWhole)
  (a4 : Memref sig .tc .vmem S4x1024x512 .bf16) (h4 : a4.IsWhole) (a5 : Memref sig .tc .vmem S1088x1024 .f32) (h5 : a5.IsWhole)
  (a6 : Memref sig .tc .vmem S1088x1024 .f32) (h6 : a6.IsWhole)
  (x : Vec Ideal S1088x2048 .bf16) (y : Vec Ideal S4x1024x512 .bf16) (s : Vec Ideal S1088x1024 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = prod x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1088x2048) hz2, shapeCast_self]

/-- The second step adds its product and hands over the sum. -/
theorem oB (h0 : ¬cond0_0 i) (h1 : cond0_1 i) (h2 : cond0_2 i) :
    out0_B_2 c i a3 h3 a4 h4 a5 h5 a6 h6 h0 h1 h2 x y s = addf s (prod x y) := by
  unfold out0_B_2
  rw [View.read_writes_eq_canon _ _ _ (cover0_B_2 c i a3 h3 a4 h4 a5 h5 a6 h6 h0 h1 h2 x y s)]
  unfold kernelRun0_B
  dsimp only
  sl_unfold_words
  rw [View.canon_unit_zero hz2, View.readCov_unit_zero (S := S1088x1024) _ hz2]
  unfold k0_pay3
  simp only [View.readAt_eq_ld, h3.read_unread, h4.read_unread, h6.read_unread, View.ld_unit_zero (S := S1088x2048) hz2,
    View.ld_unit_zero (S := S1088x1024) hz2, shapeCast_self]

end Cases

/-- After the two steps of tile `r`: the two products added. -/
theorem tile (r : ℕ) (h : 2 * r + 1 < cfg0.N) :
    (outsAt0 m c (2 * r + 1) h).1
      = addf (prod (iblk m c 0 ⟨2 * r + 0, by omega⟩) (iblk m c 1 ⟨2 * r + 0, by omega⟩))
          (prod (iblk m c 0 ⟨2 * r + 1, h⟩) (iblk m c 1 ⟨2 * r + 1, h⟩)) := by
  rw [outsAt0_B m c ⟨2 * r + 1, h⟩ (by dsimp only; omega) (by dsimp only; omega) (by dsimp only; omega)]
  dsimp only
  rw [oB]
  have e0 := outsAt0_A m c ⟨2 * r + 0, by omega⟩ (by dsimp only; omega) (by dsimp only; omega) (by dsimp only; omega)
  rw [sA] at e0
  dsimp only at e0
  rw [show (outsAt0 m c (2 * r + 1 - 1) (by omega)).2 = _ from congrArg Prod.snd e0]

/-- The weight and the cotangent of the product, as launched. -/
abbrev Wt : Vec Ideal S1024x4096 .f32 := m ((c : Thread nD τ).loc main_arg1)
abbrev CT : Vec Ideal S2x4352x4096 .bf16 := m ((c : Thread nD τ).loc main_arg2)

/-- Column `n`'s contribution to the gradient at token `t` of example `b` and feature `r`. -/
abbrev term (w : Vec Ideal S1024x4096 .f32) (ct : Vec Ideal S2x4352x4096 .bf16) (b : Fin 2) (t : Fin 4352) (r : Fin 1024) (n : ℕ) : EReal :=
  ct (ix3 b t ⟨n % 4096, Nat.mod_lt _ (by decide)⟩) * w (ix2 r ⟨n % 4096, Nat.mod_lt _ (by decide)⟩)

/-- The gradient of the product's left factor. -/
def G (w : Vec Ideal S1024x4096 .f32) (ct : Vec Ideal S2x4352x4096 .bf16) : Vec Ideal S8704x1024 .f32 := fun y =>
  ∑ n ∈ Finset.range 4096, term w ct (half (y 0).val) (place (y 0).val) (y 1) n

theorem lhs (n : Fin 8704) (l : Fin 4096) : V m c main_v0 (ix2 n l) = CT m c (ix3 (half n) (place n) l) := by
  rw [half_eq n n.isLt]
  unfold V
  after_reads_at

theorem rhs (q : Fin 8) (r : Fin 1024) (j : Fin 512) (l : Fin 4096) (hl : l.val = 512 * q.val + j.val) :
    V m c main_v3 (ix3 q r j) = Wt m c (ix2 r l) := by
  have he : l = ⟨q.val * 512 + j.val, by omega⟩ := Fin.ext (by dsimp only; omega)
  unfold V
  after_reads_at
  rw [he]

variable (t : Fin cfg0.N)

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

theorem index1 : ∀ t : Fin cfg0.N, win0_1.index t 0 = t.val % 2 ∧ win0_1.index t 1 = 0 ∧ win0_1.index t 2 = 0 :=
  (by decide +kernel : ∀ t : Fin grid0.N, win0_1.index t 0 = t.val % 2 ∧ win0_1.index t 1 = 0 ∧ win0_1.index t 2 = 0)

/-- Step `t`'s block of the cotangent. -/
theorem blk0 (r : Fin 1088) (j : Fin 2048) (n : Fin 8704) (hn : n.val = 1088 * (t.val / 2) + r.val) (l : Fin 4096)
    (hl : l.val = 2048 * (t.val % 2) + j.val) :
    (iblk m c 0 t : Vec Ideal S1088x2048 .bf16) (ix2 r j) = CT m c (ix3 (half n) (place n) l) := by
  have hi := index0 t
  unfold iblk
  rw [View.read_apply]
  refine Eq.trans (b := V m c main_v0 (ix2 n l)) ?_ (lhs m c n l)
  show V m c main_v0 _ = _
  congr 1
  funext a
  apply Fin.ext
  match a with
  | ⟨0, _⟩ =>
    show win0_0.index t 0 * 1088 + 1 * r.val = n.val
    rw [hi.1]
    omega
  | ⟨1, _⟩ =>
    show win0_0.index t 1 * 2048 + 1 * j.val = l.val
    rw [hi.2]
    omega

/-- Step `t`'s block of the weight's column shards. -/
theorem blk1 (q : Fin 4) (r : Fin 1024) (j : Fin 512) (l : Fin 4096) (hl : l.val = 2048 * (t.val % 2) + (512 * q.val + j.val)) :
    (iblk m c 1 t : Vec Ideal S4x1024x512 .bf16) (ix3 q r j) = Wt m c (ix2 r l) := by
  have hi := index1 t
  unfold iblk
  rw [View.read_apply]
  refine Eq.trans (b := V m c main_v3 (ix3 (⟨4 * (t.val % 2) + q.val, by omega⟩ : Fin 8) r j)) ?_
    (rhs m c _ r j l (by dsimp only; omega))
  show V m c main_v3 _ = _
  congr 1
  funext a
  apply Fin.ext
  match a with
  | ⟨0, _⟩ =>
    show win0_1.index t 0 * 4 + 1 * q.val = 4 * (t.val % 2) + q.val
    rw [hi.1]
    omega
  | ⟨1, _⟩ =>
    show win0_1.index t 1 * 1024 + 1 * r.val = r.val
    rw [hi.2.1]
    omega
  | ⟨2, _⟩ =>
    show win0_1.index t 2 * 512 + 1 * j.val = j.val
    rw [hi.2.2]
    omega

theorem pay1 (x : Vec Ideal S1088x2048 .bf16) (y0 y1 y2 y3 : Vec Ideal S1x1024x512 .bf16) (r : Fin 1088) (l : Fin 1024) :
    k0_pay1 (F := Ideal) x y0 y1 y2 y3 (ix2 r l) = (((∑ j : Fin 512, x (ix2 r ⟨512 * 0 + j.val, by omega⟩) * y0 (ix3 (0 : Fin 1) l j))
      + ∑ j : Fin 512, x (ix2 r ⟨512 * 1 + j.val, by omega⟩) * y1 (ix3 (0 : Fin 1) l j))
      + ∑ j : Fin 512, x (ix2 r ⟨512 * 2 + j.val, by omega⟩) * y2 (ix3 (0 : Fin 1) l j))
      + ∑ j : Fin 512, x (ix2 r ⟨512 * 3 + j.val, by omega⟩) * y3 (ix3 (0 : Fin 1) l j) := by
  simp [k0_pay1, pointwise]

/-- A shard read out of the four of a block. -/
theorem slab (y : Vec Ideal S4x1024x512 .bf16) (q : Fin 4) (inb) (l : Fin 1024) (j : Fin 512) :
    View.ld y (Rect.unit ![q.val, 0, 0] S1x1024x512.size inb) (ix3 (0 : Fin 1) l j) = y (ix3 q l j) := by
  show y _ = y _
  congr 1
  funext a
  apply Fin.ext
  match a with
  | ⟨0, _⟩ => show q.val + 1 * 0 = q.val; omega
  | ⟨1, _⟩ => show 0 + 1 * l.val = l.val; omega
  | ⟨2, _⟩ => show 0 + 1 * j.val = j.val; omega

theorem prod_apply (x : Vec Ideal S1088x2048 .bf16) (y : Vec Ideal S4x1024x512 .bf16) (r : Fin 1088) (l : Fin 1024) :
    prod x y (ix2 r l) = (((∑ j : Fin 512, x (ix2 r ⟨512 * 0 + j.val, by omega⟩) * y (ix3 (0 : Fin 4) l j))
      + ∑ j : Fin 512, x (ix2 r ⟨512 * 1 + j.val, by omega⟩) * y (ix3 (1 : Fin 4) l j))
      + ∑ j : Fin 512, x (ix2 r ⟨512 * 2 + j.val, by omega⟩) * y (ix3 (2 : Fin 4) l j))
      + ∑ j : Fin 512, x (ix2 r ⟨512 * 3 + j.val, by omega⟩) * y (ix3 (3 : Fin 4) l j) := by
  unfold prod
  rw [pay1]
  simp only [← slab y 0 inb_S4x1024x512_S1x1024x512_0_0_0, ← slab y 1 inb_S4x1024x512_S1x1024x512_1_0_0,
    ← slab y 2 inb_S4x1024x512_S1x1024x512_2_0_0, ← slab y 3 inb_S4x1024x512_S1x1024x512_3_0_0]
  rfl

/-- The two blocks of step `t`. -/
abbrev XB : Vec Ideal S1088x2048 .bf16 := iblk m c 0 t
abbrev YB : Vec Ideal S4x1024x512 .bf16 := iblk m c 1 t

/-- One shard's contributions in step `t`. -/
theorem part (s : ℕ) (hs : t.val % 2 = s) (r : Fin 1088) (l : Fin 1024) (n : Fin 8704) (hn : n.val = 1088 * (t.val / 2) + r.val) (q : Fin 4) :
    ∑ j : Fin 512, XB m c t (ix2 r ⟨512 * q.val + j.val, by omega⟩)
        * YB m c t (ix3 q l j)
      = ∑ j : Fin 512, term (Wt m c) (CT m c) (half n) (place n) l (2048 * s + (512 * q.val + j.val)) := by
  have hlt := Nat.mod_lt t.val (show 0 < 2 by decide)
  refine Finset.sum_congr rfl fun j _ => ?_
  unfold XB YB
  have hm : (2048 * s + (512 * q.val + j.val)) % 4096 = 2048 * s + (512 * q.val + j.val) := Nat.mod_eq_of_lt (by omega)
  rw [blk0 m c t r ⟨512 * q.val + j.val, by omega⟩ n hn ⟨(2048 * s + (512 * q.val + j.val)) % 4096, Nat.mod_lt _ (by decide)⟩ (by dsimp only; rw [hs, hm]),
    blk1 m c t q l j ⟨(2048 * s + (512 * q.val + j.val)) % 4096, Nat.mod_lt _ (by decide)⟩ (by dsimp only; rw [hs, hm])]

/-- Step `t`'s product: its columns' contributions. -/
theorem step (s : ℕ) (hs : t.val % 2 = s) (r : Fin 1088) (l : Fin 1024) (n : Fin 8704) (hn : n.val = 1088 * (t.val / 2) + r.val) :
    prod (iblk m c 0 t) (iblk m c 1 t) (ix2 r l)
      = ∑ j : Fin 2048, term (Wt m c) (CT m c) (half n) (place n) l (2048 * s + j.val) := by
  rw [prod_apply, Fin.sum_univ_eq_sum_range (fun j => term (Wt m c) (CT m c) (half n) (place n) l (2048 * s + j))]
  refine Eq.trans ?_ (four 512 (fun j => term (Wt m c) (CT m c) (half n) (place n) l (2048 * s + j)))
  exact congrArg₂ (· + ·) (congrArg₂ (· + ·) (congrArg₂ (· + ·) (part m c t s hs r l n hn 0) (part m c t s hs r l n hn 1))
    (part m c t s hs r l n hn 2)) (part m c t s hs r l n hn 3)

/-- One tile of the result: the sum over all columns. -/
theorem sum (k : ℕ) (h : 2 * k + 1 < cfg0.N) (r : Fin 1088) (l : Fin 1024) (n : Fin 8704) (hn : n.val = 1088 * k + r.val) :
    addf (prod (iblk m c 0 ⟨2 * k + 0, by omega⟩) (iblk m c 1 ⟨2 * k + 0, by omega⟩))
      (prod (iblk m c 0 ⟨2 * k + 1, h⟩) (iblk m c 1 ⟨2 * k + 1, h⟩)) (ix2 r l)
      = ∑ j ∈ Finset.range 4096, term (Wt m c) (CT m c) (half n) (place n) l j := by
  show prod _ _ (ix2 r l) + prod _ _ (ix2 r l) = _
  rw [step m c ⟨2 * k + 0, by omega⟩ 0 (by dsimp only; omega) r l n (by dsimp only; omega),
    step m c ⟨2 * k + 1, h⟩ 1 (by dsimp only; omega) r l n (by dsimp only; omega)]
  exact two 2048 _

/-- The kernel's result is the gradient. -/
theorem answer : Value.G2 m c = G (Wt m c) (CT m c) := by
  funext y
  have h0 : (y 0).val < 8704 := (y 0).isLt
  have h1 : (y 1).val < 1024 := (y 1).isLt
  have hp : Value.pt2Of y = 2 * ((y 0).val / 1088) + 1 := by
    show 2 * (1 * ((y 0).val / 1088 - 0) + 1 * ((y 1).val / 1024 - 0)) + 1 = _
    omega
  have hN : 2 * ((y 0).val / 1088) + 1 < cfg0.N := by rw [show cfg0.N = 16 from N_0]; omega
  unfold Value.G2
  rw [dif_pos (by rw [hp]; exact hN), Value.fold0_congr m c _ _ (2 * ((y 0).val / 1088) + 1) (by omega) hp,
    ← Value.outsAt0_sweep m c _ hN, tile m c _ hN]
  have hl : Value.loc2Of y = ix2 (⟨(y 0).val % 1088, Nat.mod_lt _ (by decide)⟩ : Fin 1088) (y 1) := funext fun a => Fin.ext (by
    match a with
    | ⟨0, _⟩ => rfl
    | ⟨1, _⟩ => show (y 1).val % 1024 = (y 1).val; omega)
  rw [hl]
  exact sum m c _ hN _ (y 1) (y 0) (by dsimp only; omega)

end Cert.Mlp1DxIdeal.Answer

namespace Cert.Mlp1DxReferenceIdeal.Answer

open Idealize.ShloMosaic Idealize.ShloMosaic.TcCoe Idealize.ShloMosaic.Tactic
open Cert.Mlp1DxReferenceIdeal Cert.Mlp1DxReferenceIdeal.Gen Cert.Sums

/-- The reference's result as the program composes it. -/
abbrev out (w : Vec Ideal S1024x4096 .f32) (ct : Vec Ideal S2x4352x4096 .bf16) : Vec Ideal S8704x1024 .f32 :=
  shapeCast _ (Host.dotGeneral (F := Ideal) (φ₁ := .f32) (φ₂ := .f32) dot_S2x4352x4096_S1024x4096_S2x4352x1024_2_1_01_0_n_n none
    (extf .f32 ct bitsLt_bf16_f32) w) shapeCasts_S2x4352x1024_S8704x1024

theorem value (w : Vec Ideal S1024x4096 .f32) (ct : Vec Ideal S2x4352x4096 .bf16) (n : Fin 8704) (r : Fin 1024) :
    out w ct (ix2 n r) = ∑ j ∈ Finset.range 4096, Cert.Mlp1DxIdeal.Answer.term w ct (half n) (place n) r j := by
  rw [half_eq n n.isLt, Finset.sum_range]
  unfold out Cert.Mlp1DxIdeal.Answer.term
  simp [pointwise, Nat.mod_eq_of_lt (Fin.isLt _)]

/-- The reference's result is the gradient. -/
theorem answer (w : Vec Ideal S1024x4096 .f32) (ct : Vec Ideal S2x4352x4096 .bf16) :
    out w ct = Cert.Mlp1DxIdeal.Answer.G w ct := by
  funext y
  rw [eq_ix2 y]
  exact value w ct _ _

end Cert.Mlp1DxReferenceIdeal.Answer

namespace Cert.Mlp1Dx.Answer

open Idealize.ShloMosaic Idealize.ShloMosaic.TcCoe Idealize.SL.Sem

/-- The reference ends, changes no argument, and has no semaphore. -/
theorem frame_reference : Cert.quiescent_Mlp1DxReferenceIdeal := fun m ρ _ =>
  (θ_run Cert.Mlp1DxReferenceIdeal.defs _ _).mono (fun r h => ⟨fun c => (h c).2,
      Idealize.ShloMosaic.sem_eq_zero_of_no_sems (by decide) r.2⟩)
    (Cert.Mlp1DxReferenceIdeal.Value.run (F := Ideal) m ρ)

/-- From equal arguments the kernel and the reference end with equal results. -/
theorem algebraic : Cert.algebraic_Mlp1DxIdeal_Mlp1DxReferenceIdeal := by
  intro m g m' g' _ hagree
  refine ⟨fun c => Cert.Mlp1DxIdeal.Answer.G (Cert.Mlp1DxIdeal.Answer.Wt m c) (Cert.Mlp1DxIdeal.Answer.CT m c),
    (θ_run Cert.Mlp1DxIdeal.defs _ _).mono (fun r h c => ⟨(h c).1.trans (Cert.Mlp1DxIdeal.Answer.answer m c), (h c).2⟩)
      (Cert.Mlp1DxIdeal.Value.run (F := Ideal) m g), ?_⟩
  refine (θ_run Cert.Mlp1DxReferenceIdeal.defs _ _).mono (fun r h c => ⟨(h c).1.trans ?_, (h c).2⟩)
    (Cert.Mlp1DxReferenceIdeal.Value.run (F := Ideal) m' g')
  obtain ⟨a0, a1, a2⟩ := hagree c
  rw [a1, a2]
  exact Cert.Mlp1DxReferenceIdeal.Answer.answer _ _

end Cert.Mlp1Dx.Answer

end
-- ==== Proof.Mlp1Dw.lean ====
module

public import proofs.«01_k».proof.Defs
public import proofs.«01_k».proof.Proof.Sums
public import proofs.«01_k».proof.Proof.Gen.Mlp1DwIdeal.Value
public import proofs.«01_k».proof.Proof.Gen.Mlp1DwReferenceIdeal.Run
public import Idealize.ShloMosaic.Lib.StableHlo.ReadAt

@[expose] public section

/-!
The gradient of the MLP's first weight: what the tiled product leaves, element by element, is the sum over all tokens,
and so is the reference's.
-/

set_option maxRecDepth 16384

noncomputable section

namespace Cert.Mlp1DwIdeal.Answer

open Idealize.ShloMosaic Idealize.ShloMosaic.TcCoe Idealize.ShloMosaic.Tactic
open Cert.Mlp1DwIdeal Cert.Mlp1DwIdeal.Gen Cert.Sums

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (i : grid0.Coords) (a3 : Memref sig .tc .vmem S1024x2176 .bf16) (h3 : a3.IsWhole)
  (a4 : Memref sig .tc .vmem S2176x512 .bf16) (h4 : a4.IsWhole) (a5 : Memref sig .tc .vmem S1x1024x512 .bf16) (h5 : a5.IsWhole)
  (a6 : Memref sig .tc .vmem S1024x512 .f32) (h6 : a6.IsWhole)
  (x : Vec Ideal S1024x2176 .bf16) (y : Vec Ideal S2176x512 .bf16) (s : Vec Ideal S1024x512 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1024x2176) hz2,
    View.ld_unit_zero (S := S2176x512) hz2, shapeCast_self]

/-- A middle step adds its product. -/
theorem sB (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  rw [View.canon_unit_zero hz2]
  unfold k0_pay3
  simp only [View.readAt_eq_ld, h3.read_unread, h4.read_unread, h6.read_unread, View.ld_unit_zero (S := S1024x2176) hz2,
    View.ld_unit_zero (S := S2176x512) hz2, View.ld_unit_zero (S := S1024x512) hz2, shapeCast_self]

/-- The last step adds its product and hands over the sum. -/
theorem oC (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero hz3, View.readCov_unit_zero (S := S1024x512) _ hz2]
  unfold k0_pay3
  simp only [View.readAt_eq_ld, h3.read_unread, h4.read_unread, h6.read_unread, View.ld_unit_zero (S := S1024x2176) hz2,
    View.ld_unit_zero (S := S2176x512) hz2, View.ld_unit_zero (S := S1024x512) hz2, shapeCast_self]

end Cases

/-- After the four steps of tile `r`: the four products added in order. -/
theorem tile (r : ℕ) (h : 4 * r + 3 < cfg0.N) :
    (outsAt0 m c (4 * r + 3) h).1
      = k0_pay4 (addf (addf (addf (k0_pay1 (iblk m c 0 ⟨4 * r + 0, by omega⟩) (iblk m c 1 ⟨4 * r + 0, by omega⟩))
          (k0_pay1 (iblk m c 0 ⟨4 * r + 1, by omega⟩) (iblk m c 1 ⟨4 * r + 1, by omega⟩)))
          (k0_pay1 (iblk m c 0 ⟨4 * r + 2, by omega⟩) (iblk m c 1 ⟨4 * r + 2, by omega⟩)))
          (k0_pay1 (iblk m c 0 ⟨4 * r + 3, h⟩) (iblk m c 1 ⟨4 * r + 3, h⟩))) := by
  rw [outsAt0_C m c ⟨4 * r + 3, h⟩ (by dsimp only; omega) (by dsimp only; omega) (by dsimp only; omega)]
  dsimp only
  rw [oC]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The layer's input and the cotangent of its output, as launched. -/
abbrev X : Vec Ideal S2x4352x1024 .bf16 := m ((c : Thread nD τ).loc main_arg0)
abbrev CT : Vec Ideal S2x4352x4096 .bf16 := m ((c : Thread nD τ).loc main_arg2)

/-- Token `n`'s contribution to the gradient at row `r` and column `l` of the weight. -/
abbrev term (x : Vec Ideal S2x4352x1024 .bf16) (ct : Vec Ideal S2x4352x4096 .bf16) (r : Fin 1024) (l : Fin 4096) (n : ℕ) : EReal :=
  x (ix3 (half n) (place n) r) * ct (ix3 (half n) (place n) l)

/-- The gradient in the column shards of the devices. -/
def G (x : Vec Ideal S2x4352x1024 .bf16) (ct : Vec Ideal S2x4352x4096 .bf16) : Vec Ideal S8x1024x512 .bf16 := fun y =>
  ∑ n ∈ Finset.range 8704, term x ct (y 1) ⟨512 * (y 0).val + (y 2).val, by
    have h0 : (y 0).val < 8 := (y 0).isLt
    have h2 : (y 2).val < 512 := (y 2).isLt
    omega⟩ n

theorem lhs (r : Fin 1024) (n : Fin 8704) : V m c main_v1 (ix2 r n) = X m c (ix3 (half n) (place n) r) := by
  rw [half_eq n n.isLt]
  unfold V
  after_reads_at

theorem rhs (n : Fin 8704) (l : Fin 4096) : V m c main_v2 (ix2 n l) = CT m c (ix3 (half n) (place n) l) := by
  rw [half_eq n n.isLt]
  unfold V
  after_reads_at

variable (t : Fin cfg0.N)

theorem index0 : ∀ t : Fin cfg0.N, win0_0.index t 0 = 0 ∧ win0_0.index t 1 = t.val % 4 :=
  (by decide +kernel : ∀ t : Fin grid0.N, win0_0.index t 0 = 0 ∧ win0_0.index t 1 = t.val % 4)

theorem index1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem lt0 : t.val < 32 := lt_of_lt_of_eq t.isLt N_0

/-- Step `t`'s block of the layer's input. -/
theorem blk0 (r : Fin 1024) (j : Fin 2176) (n : ℕ) (hn : n = 2176 * (t.val % 4) + j.val) :
    (iblk m c 0 t : Vec Ideal S1024x2176 .bf16) (ix2 r j) = X m c (ix3 (half n) (place n) r) := by
  have hi := index0 t
  unfold iblk
  rw [View.read_apply]
  refine Eq.trans (b := V m c main_v1 (ix2 r ⟨n, by omega⟩)) ?_ (lhs m c r ⟨n, by omega⟩)
  show V m c main_v1 _ = _
  congr 1
  funext a
  apply Fin.ext
  match a with
  | ⟨0, _⟩ =>
    show win0_0.index t 0 * 1024 + 1 * r.val = r.val
    rw [hi.1]
    omega
  | ⟨1, _⟩ =>
    show win0_0.index t 1 * 2176 + 1 * j.val = n
    rw [hi.2]
    omega

/-- Step `t`'s block of the cotangent. -/
theorem blk1 (j : Fin 2176) (l : Fin 512) (n : ℕ) (hn : n = 2176 * (t.val % 4) + j.val) (q : Fin 4096)
    (hq : q.val = 512 * (t.val / 4) + l.val) :
    (iblk m c 1 t : Vec Ideal S2176x512 .bf16) (ix2 j l) = CT m c (ix3 (half n) (place n) q) := by
  have hi := index1 t
  unfold iblk
  rw [View.read_apply]
  refine Eq.trans (b := V m c main_v2 (ix2 ⟨n, by omega⟩ q)) ?_ (rhs m c ⟨n, by omega⟩ q)
  show V m c main_v2 _ = _
  congr 1
  funext a
  apply Fin.ext
  match a with
  | ⟨0, _⟩ =>
    show win0_1.index t 0 * 2176 + 1 * j.val = n
    rw [hi.1]
    omega
  | ⟨1, _⟩ =>
    show win0_1.index t 1 * 512 + 1 * l.val = q.val
    rw [hi.2]
    omega

theorem pay1 (x : Vec Ideal S1024x2176 .bf16) (y : Vec Ideal S2176x512 .bf16) (r : Fin 1024) (l : Fin 512) :
    k0_pay1 (F := Ideal) x y (ix2 r l) = ∑ j : Fin 2176, x (ix2 r j) * y (ix2 j l) := by
  simp [k0_pay1, pointwise]

theorem pay4 (s : Vec Ideal S1024x512 .f32) (b : Fin 1) (r : Fin 1024) (l : Fin 512) :
    k0_pay4 (F := Ideal) s (ix3 b r l) = s (ix2 r l) := by
  simp [k0_pay4, pointwise]

/-- Step `t`'s product: its tokens' contributions. -/
theorem step (s : ℕ) (hs : t.val % 4 = s) (r : Fin 1024) (l : Fin 512) (q : Fin 4096) (hq : q.val = 512 * (t.val / 4) + l.val) :
    k0_pay1 (F := Ideal) (iblk m c 0 t) (iblk m c 1 t) (ix2 r l)
      = ∑ j : Fin 2176, term (X m c) (CT m c) r q (2176 * s + j.val) := by
  rw [pay1]
  refine Finset.sum_congr rfl fun j _ => ?_
  rw [blk0 m c t r j (2176 * s + j.val) (by rw [hs]), blk1 m c t j l (2176 * s + j.val) (by rw [hs]) q hq]

/-- One tile of the result: the sum over all tokens. -/
theorem sum (k : ℕ) (h : 4 * k + 3 < cfg0.N) (r : Fin 1024) (l : Fin 512) (q : Fin 4096) (hq : q.val = 512 * k + l.val) :
    addf (addf (addf (k0_pay1 (F := Ideal) (iblk m c 0 ⟨4 * k + 0, by omega⟩) (iblk m c 1 ⟨4 * k + 0, by omega⟩))
      (k0_pay1 (F := Ideal) (iblk m c 0 ⟨4 * k + 1, by omega⟩) (iblk m c 1 ⟨4 * k + 1, by omega⟩)))
      (k0_pay1 (F := Ideal) (iblk m c 0 ⟨4 * k + 2, by omega⟩) (iblk m c 1 ⟨4 * k + 2, by omega⟩)))
      (k0_pay1 (F := Ideal) (iblk m c 0 ⟨4 * k + 3, h⟩) (iblk m c 1 ⟨4 * k + 3, h⟩)) (ix2 r l)
      = ∑ n ∈ Finset.range 8704, term (X m c) (CT m c) r q n := by
  show ((k0_pay1 (F := Ideal) _ _ (ix2 r l) + k0_pay1 (F := Ideal) _ _ (ix2 r l))
    + k0_pay1 (F := Ideal) _ _ (ix2 r l)) + k0_pay1 (F := Ideal) _ _ (ix2 r l) = _
  rw [step m c ⟨4 * k + 0, by omega⟩ 0 (by dsimp only; omega) r l q (by dsimp only; omega),
    step m c ⟨4 * k + 1, by omega⟩ 1 (by dsimp only; omega) r l q (by dsimp only; omega),
    step m c ⟨4 * k + 2, by omega⟩ 2 (by dsimp only; omega) r l q (by dsimp only; omega),
    step m c ⟨4 * k + 3, h⟩ 3 (by dsimp only; omega) r l q (by dsimp only; omega)]
  exact four 2176 _

/-- The kernel's result is the gradient. -/
theorem answer : Value.G2 m c = G (X m c) (CT m c) := by
  funext y
  have h0 : (y 0).val < 8 := (y 0).isLt
  have h1 : (y 1).val < 1024 := (y 1).isLt
  have h2 : (y 2).val < 512 := (y 2).isLt
  have hp : Value.pt2Of y = 4 * (y 0).val + 3 := by
    show 4 * (1 * ((y 0).val / 1 - 0) + 1 * ((y 1).val / 1024 - 0) + 1 * ((y 2).val / 512 - 0)) + 3 = _
    omega
  have hN : 4 * (y 0).val + 3 < cfg0.N := by rw [show cfg0.N = 32 from N_0]; omega
  unfold Value.G2
  rw [dif_pos (by rw [hp]; exact hN), Value.fold0_congr m c _ _ (4 * (y 0).val + 3) (by omega) hp, ← Value.outsAt0_sweep m c _ hN,
    tile m c _ hN]
  have hl : Value.loc2Of y = ix3 (0 : Fin 1) (y 1) (y 2) := funext fun a => Fin.ext (by
    match a with
    | ⟨0, _⟩ => show (y 0).val % 1 = 0; omega
    | ⟨1, _⟩ => show (y 1).val % 1024 = (y 1).val; omega
    | ⟨2, _⟩ => show (y 2).val % 512 = (y 2).val; omega)
  rw [hl]
  refine (pay4 _ 0 (y 1) (y 2)).trans ?_
  exact sum m c (y 0).val hN (y 1) (y 2) _ rfl

end Cert.Mlp1DwIdeal.Answer

namespace Cert.Mlp1DwReferenceIdeal.Answer

open Idealize.ShloMosaic Idealize.ShloMosaic.TcCoe Idealize.ShloMosaic.Tactic
open Cert.Mlp1DwReferenceIdeal Cert.Mlp1DwReferenceIdeal.Gen Cert.Sums

/-- The reference's result as the program composes it. -/
abbrev out (x : Vec Ideal S2x4352x1024 .bf16) (ct : Vec Ideal S2x4352x4096 .bf16) : Vec Ideal S8x1024x512 .bf16 :=
  truncf (F := Ideal) .bf16 (transpose S8x1024x512 [1, 0, 2] (shapeCast _ (transpose S1024x4096 [1, 0]
    (Host.dotGeneral (φ₁ := .f32) (φ₂ := .f32) dot_S2x4352x4096_S2x4352x1024_S4096x1024_01_01_2_2_n_n none
      (extf .f32 ct bitsLt_bf16_f32) (extf .f32 x bitsLt_bf16_f32)) transposes_S4096x1024_S1024x4096_1_0)
    shapeCasts_S1024x4096_S1024x8x512) transposes_S1024x8x512_S8x1024x512_1_0_2) bitsLt_bf16_f32

theorem value (x : Vec Ideal S2x4352x1024 .bf16) (ct : Vec Ideal S2x4352x4096 .bf16) (q : Fin 8) (r : Fin 1024) (l : Fin 512)
    (p : Fin 4096) (hp : p.val = 512 * q.val + l.val) :
    out x ct (ix3 q r l) = ∑ n ∈ Finset.range 8704, Cert.Mlp1DwIdeal.Answer.term x ct r p n := by
  have ht := tokens (fun b t => x (ix3 b t r) * ct (ix3 b t p))
  refine Eq.trans ?_ ht
  refine Eq.trans (b := ∑ b : Fin 2, ∑ t : Fin 4352, ct (ix3 b t p) * x (ix3 b t r)) ?_
    (Finset.sum_congr rfl fun b _ => Finset.sum_congr rfl fun t _ => mul_comm _ _)
  have he : p = ⟨q.val * 512 + l.val, by omega⟩ := Fin.ext (by dsimp only; omega)
  unfold out
  simp [pointwise]
  simp only [← he]

/-- The reference's result is the gradient. -/
theorem answer (x : Vec Ideal S2x4352x1024 .bf16) (ct : Vec Ideal S2x4352x4096 .bf16) :
    out x ct = Cert.Mlp1DwIdeal.Answer.G x ct := by
  funext y
  rw [eq_ix3 y]
  exact value x ct _ _ _ _ rfl

end Cert.Mlp1DwReferenceIdeal.Answer

namespace Cert.Mlp1Dw.Answer

open Idealize.ShloMosaic Idealize.ShloMosaic.TcCoe Idealize.SL.Sem

/-- The reference ends, changes no argument, and has no semaphore. -/
theorem frame_reference : Cert.quiescent_Mlp1DwReferenceIdeal := fun m ρ _ =>
  (θ_run Cert.Mlp1DwReferenceIdeal.defs _ _).mono (fun r h => ⟨fun c => (h c).2,
      Idealize.ShloMosaic.sem_eq_zero_of_no_sems (by decide) r.2⟩)
    (Cert.Mlp1DwReferenceIdeal.Value.run (F := Ideal) m ρ)

/-- From equal arguments the kernel and the reference end with equal results. -/
theorem algebraic : Cert.algebraic_Mlp1DwIdeal_Mlp1DwReferenceIdeal := by
  intro m g m' g' _ hagree
  refine ⟨fun c => Cert.Mlp1DwIdeal.Answer.G (Cert.Mlp1DwIdeal.Answer.X m c) (Cert.Mlp1DwIdeal.Answer.CT m c),
    (θ_run Cert.Mlp1DwIdeal.defs _ _).mono (fun r h c => ⟨(h c).1.trans (Cert.Mlp1DwIdeal.Answer.answer m c), (h c).2⟩)
      (Cert.Mlp1DwIdeal.Value.run (F := Ideal) m g), ?_⟩
  refine (θ_run Cert.Mlp1DwReferenceIdeal.defs _ _).mono (fun r h c => ⟨(h c).1.trans ?_, (h c).2⟩)
    (Cert.Mlp1DwReferenceIdeal.Value.run (F := Ideal) m' g')
  obtain ⟨a0, a1, a2⟩ := hagree c
  rw [a0, a2]
  exact Cert.Mlp1DwReferenceIdeal.Answer.answer _ _

end Cert.Mlp1Dw.Answer

end
-- ==== Proof.WInDx.lean ====
module

public import proofs.«01_k».proof.Defs
public import proofs.«01_k».proof.Proof.Sums
public import proofs.«01_k».proof.Proof.Gen.WInDxIdeal.Value
public import proofs.«01_k».proof.Proof.Gen.WInDxReferenceIdeal.Run
public import Idealize.ShloMosaic.Lib.StableHlo.ReadAt

@[expose] public section

/-!
The gradient of the input projection's input: what the tiled product leaves, element by element, is the sum over all
columns of the weight, and so is the reference's.
-/

noncomputable section

namespace Cert.WInDxIdeal.Answer

open Idealize.ShloMosaic Idealize.ShloMosaic.TcCoe Idealize.ShloMosaic.Tactic
open Cert.WInDxIdeal Cert.WInDxIdeal.Gen Cert.Sums

variable (m : (ℓ : Loc nD τ sig) → Buf (Elt Ideal) ℓ) (c : Dev nD)

theorem hz2 : (![0, 0] : Fin 2 → Nat) = fun _ => 0 := funext fun a => by fin_cases a <;> rfl

/-- The product of a block of the cotangent with four column shards of the weight. -/
abbrev prod (x : Vec Ideal S1088x1536 .bf16) (y : Vec Ideal S4x1024x384 .bf16) : FVec Ideal S1088x1024 .f32 :=
  k0_pay1 (F := Ideal) x (View.ld y (Rect.unit ![0, 0, 0] S1x1024x384.size inb_S4x1024x384_S1x1024x384_0_0_0))
    (View.ld y (Rect.unit ![1, 0, 0] S1x1024x384.size inb_S4x1024x384_S1x1024x384_1_0_0))
    (View.ld y (Rect.unit ![2, 0, 0] S1x1024x384.size inb_S4x1024x384_S1x1024x384_2_0_0))
    (View.ld y (Rect.unit ![3, 0, 0] S1x1024x384.size inb_S4x1024x384_S1x1024x384_3_0_0))

section Cases

variable (i : grid0.Coords) (a3 : Memref sig .tc .vmem S1088x1536 .bf16) (h3 : a3.IsWhole)
  (a4 : Memref sig .tc .vmem S4x1024x384 .bf16) (h4 : a4.IsWhole) (a5 : Memref sig .tc .vmem S1088x1024 .f32) (h5 : a5.IsWhole)
  (a6 : Memref sig .tc .vmem S1088x1024 .f32) (h6 : a6.IsWhole)
  (x : Vec Ideal S1088x1536 .bf16) (y : Vec Ideal S4x1024x384 .bf16) (s : Vec Ideal S1088x1024 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = prod x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1088x1536) hz2, shapeCast_self]

/-- The second step adds its product and hands over the sum. -/
theorem oB (h0 : ¬cond0_0 i) (h1 : cond0_1 i) (h2 : cond0_2 i) :
    out0_B_2 c i a3 h3 a4 h4 a5 h5 a6 h6 h0 h1 h2 x y s = addf s (prod x y) := by
  unfold out0_B_2
  rw [View.read_writes_eq_canon _ _ _ (cover0_B_2 c i a3 h3 a4 h4 a5 h5 a6 h6 h0 h1 h2 x y s)]
  unfold kernelRun0_B
  dsimp only
  sl_unfold_words
  rw [View.canon_unit_zero hz2, View.readCov_unit_zero (S := S1088x1024) _ hz2]
  unfold k0_pay3
  simp only [View.readAt_eq_ld, h3.read_unread, h4.read_unread, h6.read_unread, View.ld_unit_zero (S := S1088x1536) hz2,
    View.ld_unit_zero (S := S1088x1024) hz2, shapeCast_self]

end Cases

/-- After the two steps of tile `r`: the two products added. -/
theorem tile (r : ℕ) (h : 2 * r + 1 < cfg0.N) :
    (outsAt0 m c (2 * r + 1) h).1
      = addf (prod (iblk m c 0 ⟨2 * r + 0, by omega⟩) (iblk m c 1 ⟨2 * r + 0, by omega⟩))
          (prod (iblk m c 0 ⟨2 * r + 1, h⟩) (iblk m c 1 ⟨2 * r + 1, h⟩)) := by
  rw [outsAt0_B m c ⟨2 * r + 1, h⟩ (by dsimp only; omega) (by dsimp only; omega) (by dsimp only; omega)]
  dsimp only
  rw [oB]
  have e0 := outsAt0_A m c ⟨2 * r + 0, by omega⟩ (by dsimp only; omega) (by dsimp only; omega) (by dsimp only; omega)
  rw [sA] at e0
  dsimp only at e0
  rw [show (outsAt0 m c (2 * r + 1 - 1) (by omega)).2 = _ from congrArg Prod.snd e0]

/-- The weight and the cotangent of the product, as launched. -/
abbrev Wt : Vec Ideal S1024x3072 .f32 := m ((c : Thread nD τ).loc main_arg1)
abbrev CT : Vec Ideal S2x4352x3072 .bf16 := m ((c : Thread nD τ).loc main_arg2)

/-- Column `n`'s contribution to the gradient at token `t` of example `b` and feature `r`. -/
abbrev term (w : Vec Ideal S1024x3072 .f32) (ct : Vec Ideal S2x4352x3072 .bf16) (b : Fin 2) (t : Fin 4352) (r : Fin 1024) (n : ℕ) : EReal :=
  ct (ix3 b t ⟨n % 3072, Nat.mod_lt _ (by decide)⟩) * w (ix2 r ⟨n % 3072, Nat.mod_lt _ (by decide)⟩)

/-- The gradient of the product's left factor. -/
def G (w : Vec Ideal S1024x3072 .f32) (ct : Vec Ideal S2x4352x3072 .bf16) : Vec Ideal S8704x1024 .f32 := fun y =>
  ∑ n ∈ Finset.range 3072, term w ct (half (y 0).val) (place (y 0).val) (y 1) n

theorem lhs (n : Fin 8704) (l : Fin 3072) : V m c main_v0 (ix2 n l) = CT m c (ix3 (half n) (place n) l) := by
  rw [half_eq n n.isLt]
  unfold V
  after_reads_at

theorem rhs (q : Fin 8) (r : Fin 1024) (j : Fin 384) (l : Fin 3072) (hl : l.val = 384 * q.val + j.val) :
    V m c main_v3 (ix3 q r j) = Wt m c (ix2 r l) := by
  have he : l = ⟨q.val * 384 + j.val, by omega⟩ := Fin.ext (by dsimp only; omega)
  unfold V
  after_reads_at
  rw [he]

variable (t : Fin cfg0.N)

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

theorem index1 : ∀ t : Fin cfg0.N, win0_1.index t 0 = t.val % 2 ∧ win0_1.index t 1 = 0 ∧ win0_1.index t 2 = 0 :=
  (by decide +kernel : ∀ t : Fin grid0.N, win0_1.index t 0 = t.val % 2 ∧ win0_1.index t 1 = 0 ∧ win0_1.index t 2 = 0)

/-- Step `t`'s block of the cotangent. -/
theorem blk0 (r : Fin 1088) (j : Fin 1536) (n : Fin 8704) (hn : n.val = 1088 * (t.val / 2) + r.val) (l : Fin 3072)
    (hl : l.val = 1536 * (t.val % 2) + j.val) :
    (iblk m c 0 t : Vec Ideal S1088x1536 .bf16) (ix2 r j) = CT m c (ix3 (half n) (place n) l) := by
  have hi := index0 t
  unfold iblk
  rw [View.read_apply]
  refine Eq.trans (b := V m c main_v0 (ix2 n l)) ?_ (lhs m c n l)
  show V m c main_v0 _ = _
  congr 1
  funext a
  apply Fin.ext
  match a with
  | ⟨0, _⟩ =>
    show win0_0.index t 0 * 1088 + 1 * r.val = n.val
    rw [hi.1]
    omega
  | ⟨1, _⟩ =>
    show win0_0.index t 1 * 1536 + 1 * j.val = l.val
    rw [hi.2]
    omega

/-- Step `t`'s block of the weight's column shards. -/
theorem blk1 (q : Fin 4) (r : Fin 1024) (j : Fin 384) (l : Fin 3072) (hl : l.val = 1536 * (t.val % 2) + (384 * q.val + j.val)) :
    (iblk m c 1 t : Vec Ideal S4x1024x384 .bf16) (ix3 q r j) = Wt m c (ix2 r l) := by
  have hi := index1 t
  unfold iblk
  rw [View.read_apply]
  refine Eq.trans (b := V m c main_v3 (ix3 (⟨4 * (t.val % 2) + q.val, by omega⟩ : Fin 8) r j)) ?_
    (rhs m c _ r j l (by dsimp only; omega))
  show V m c main_v3 _ = _
  congr 1
  funext a
  apply Fin.ext
  match a with
  | ⟨0, _⟩ =>
    show win0_1.index t 0 * 4 + 1 * q.val = 4 * (t.val % 2) + q.val
    rw [hi.1]
    omega
  | ⟨1, _⟩ =>
    show win0_1.index t 1 * 1024 + 1 * r.val = r.val
    rw [hi.2.1]
    omega
  | ⟨2, _⟩ =>
    show win0_1.index t 2 * 384 + 1 * j.val = j.val
    rw [hi.2.2]
    omega

theorem pay1 (x : Vec Ideal S1088x1536 .bf16) (y0 y1 y2 y3 : Vec Ideal S1x1024x384 .bf16) (r : Fin 1088) (l : Fin 1024) :
    k0_pay1 (F := Ideal) x y0 y1 y2 y3 (ix2 r l) = (((∑ j : Fin 384, x (ix2 r ⟨384 * 0 + j.val, by omega⟩) * y0 (ix3 (0 : Fin 1) l j))
      + ∑ j : Fin 384, x (ix2 r ⟨384 * 1 + j.val, by omega⟩) * y1 (ix3 (0 : Fin 1) l j))
      + ∑ j : Fin 384, x (ix2 r ⟨384 * 2 + j.val, by omega⟩) * y2 (ix3 (0 : Fin 1) l j))
      + ∑ j : Fin 384, x (ix2 r ⟨384 * 3 + j.val, by omega⟩) * y3 (ix3 (0 : Fin 1) l j) := by
  simp [k0_pay1, pointwise]

/-- A shard read out of the four of a block. -/
theorem slab (y : Vec Ideal S4x1024x384 .bf16) (q : Fin 4) (inb) (l : Fin 1024) (j : Fin 384) :
    View.ld y (Rect.unit ![q.val, 0, 0] S1x1024x384.size inb) (ix3 (0 : Fin 1) l j) = y (ix3 q l j) := by
  show y _ = y _
  congr 1
  funext a
  apply Fin.ext
  match a with
  | ⟨0, _⟩ => show q.val + 1 * 0 = q.val; omega
  | ⟨1, _⟩ => show 0 + 1 * l.val = l.val; omega
  | ⟨2, _⟩ => show 0 + 1 * j.val = j.val; omega

theorem prod_apply (x : Vec Ideal S1088x1536 .bf16) (y : Vec Ideal S4x1024x384 .bf16) (r : Fin 1088) (l : Fin 1024) :
    prod x y (ix2 r l) = (((∑ j : Fin 384, x (ix2 r ⟨384 * 0 + j.val, by omega⟩) * y (ix3 (0 : Fin 4) l j))
      + ∑ j : Fin 384, x (ix2 r ⟨384 * 1 + j.val, by omega⟩) * y (ix3 (1 : Fin 4) l j))
      + ∑ j : Fin 384, x (ix2 r ⟨384 * 2 + j.val, by omega⟩) * y (ix3 (2 : Fin 4) l j))
      + ∑ j : Fin 384, x (ix2 r ⟨384 * 3 + j.val, by omega⟩) * y (ix3 (3 : Fin 4) l j) := by
  unfold prod
  rw [pay1]
  simp only [← slab y 0 inb_S4x1024x384_S1x1024x384_0_0_0, ← slab y 1 inb_S4x1024x384_S1x1024x384_1_0_0,
    ← slab y 2 inb_S4x1024x384_S1x1024x384_2_0_0, ← slab y 3 inb_S4x1024x384_S1x1024x384_3_0_0]
  rfl

/-- The two blocks of step `t`. -/
abbrev XB : Vec Ideal S1088x1536 .bf16 := iblk m c 0 t
abbrev YB : Vec Ideal S4x1024x384 .bf16 := iblk m c 1 t

/-- One shard's contributions in step `t`. -/
theorem part (s : ℕ) (hs : t.val % 2 = s) (r : Fin 1088) (l : Fin 1024) (n : Fin 8704) (hn : n.val = 1088 * (t.val / 2) + r.val) (q : Fin 4) :
    ∑ j : Fin 384, XB m c t (ix2 r ⟨384 * q.val + j.val, by omega⟩)
        * YB m c t (ix3 q l j)
      = ∑ j : Fin 384, term (Wt m c) (CT m c) (half n) (place n) l (1536 * s + (384 * q.val + j.val)) := by
  have hlt := Nat.mod_lt t.val (show 0 < 2 by decide)
  refine Finset.sum_congr rfl fun j _ => ?_
  unfold XB YB
  have hm : (1536 * s + (384 * q.val + j.val)) % 3072 = 1536 * s + (384 * q.val + j.val) := Nat.mod_eq_of_lt (by omega)
  rw [blk0 m c t r ⟨384 * q.val + j.val, by omega⟩ n hn ⟨(1536 * s + (384 * q.val + j.val)) % 3072, Nat.mod_lt _ (by decide)⟩ (by dsimp only; rw [hs, hm]),
    blk1 m c t q l j ⟨(1536 * s + (384 * q.val + j.val)) % 3072, Nat.mod_lt _ (by decide)⟩ (by dsimp only; rw [hs, hm])]

/-- Step `t`'s product: its columns' contributions. -/
theorem step (s : ℕ) (hs : t.val % 2 = s) (r : Fin 1088) (l : Fin 1024) (n : Fin 8704) (hn : n.val = 1088 * (t.val / 2) + r.val) :
    prod (iblk m c 0 t) (iblk m c 1 t) (ix2 r l)
      = ∑ j : Fin 1536, term (Wt m c) (CT m c) (half n) (place n) l (1536 * s + j.val) := by
  rw [prod_apply, Fin.sum_univ_eq_sum_range (fun j => term (Wt m c) (CT m c) (half n) (place n) l (1536 * s + j))]
  refine Eq.trans ?_ (four 384 (fun j => term (Wt m c) (CT m c) (half n) (place n) l (1536 * s + j)))
  exact congrArg₂ (· + ·) (congrArg₂ (· + ·) (congrArg₂ (· + ·) (part m c t s hs r l n hn 0) (part m c t s hs r l n hn 1))
    (part m c t s hs r l n hn 2)) (part m c t s hs r l n hn 3)

/-- One tile of the result: the sum over all columns. -/
theorem sum (k : ℕ) (h : 2 * k + 1 < cfg0.N) (r : Fin 1088) (l : Fin 1024) (n : Fin 8704) (hn : n.val = 1088 * k + r.val) :
    addf (prod (iblk m c 0 ⟨2 * k + 0, by omega⟩) (iblk m c 1 ⟨2 * k + 0, by omega⟩))
      (prod (iblk m c 0 ⟨2 * k + 1, h⟩) (iblk m c 1 ⟨2 * k + 1, h⟩)) (ix2 r l)
      = ∑ j ∈ Finset.range 3072, term (Wt m c) (CT m c) (half n) (place n) l j := by
  show prod _ _ (ix2 r l) + prod _ _ (ix2 r l) = _
  rw [step m c ⟨2 * k + 0, by omega⟩ 0 (by dsimp only; omega) r l n (by dsimp only; omega),
    step m c ⟨2 * k + 1, h⟩ 1 (by dsimp only; omega) r l n (by dsimp only; omega)]
  exact two 1536 _

/-- The kernel's result is the gradient. -/
theorem answer : Value.G2 m c = G (Wt m c) (CT m c) := by
  funext y
  have h0 : (y 0).val < 8704 := (y 0).isLt
  have h1 : (y 1).val < 1024 := (y 1).isLt
  have hp : Value.pt2Of y = 2 * ((y 0).val / 1088) + 1 := by
    show 2 * (1 * ((y 0).val / 1088 - 0) + 1 * ((y 1).val / 1024 - 0)) + 1 = _
    omega
  have hN : 2 * ((y 0).val / 1088) + 1 < cfg0.N := by rw [show cfg0.N = 16 from N_0]; omega
  unfold Value.G2
  rw [dif_pos (by rw [hp]; exact hN), Value.fold0_congr m c _ _ (2 * ((y 0).val / 1088) + 1) (by omega) hp,
    ← Value.outsAt0_sweep m c _ hN, tile m c _ hN]
  have hl : Value.loc2Of y = ix2 (⟨(y 0).val % 1088, Nat.mod_lt _ (by decide)⟩ : Fin 1088) (y 1) := funext fun a => Fin.ext (by
    match a with
    | ⟨0, _⟩ => rfl
    | ⟨1, _⟩ => show (y 1).val % 1024 = (y 1).val; omega)
  rw [hl]
  exact sum m c _ hN _ (y 1) (y 0) (by dsimp only; omega)

end Cert.WInDxIdeal.Answer

namespace Cert.WInDxReferenceIdeal.Answer

open Idealize.ShloMosaic Idealize.ShloMosaic.TcCoe Idealize.ShloMosaic.Tactic
open Cert.WInDxReferenceIdeal Cert.WInDxReferenceIdeal.Gen Cert.Sums

/-- The reference's result as the program composes it. -/
abbrev out (w : Vec Ideal S1024x3072 .f32) (ct : Vec Ideal S2x4352x3072 .bf16) : Vec Ideal S8704x1024 .f32 :=
  shapeCast _ (Host.dotGeneral (F := Ideal) (φ₁ := .f32) (φ₂ := .f32) dot_S2x4352x3072_S1024x3072_S2x4352x1024_2_1_01_0_n_n none
    (extf .f32 ct bitsLt_bf16_f32) w) shapeCasts_S2x4352x1024_S8704x1024

theorem value (w : Vec Ideal S1024x3072 .f32) (ct : Vec Ideal S2x4352x3072 .bf16) (n : Fin 8704) (r : Fin 1024) :
    out w ct (ix2 n r) = ∑ j ∈ Finset.range 3072, Cert.WInDxIdeal.Answer.term w ct (half n) (place n) r j := by
  rw [half_eq n n.isLt, Finset.sum_range]
  unfold out Cert.WInDxIdeal.Answer.term
  simp [pointwise, Nat.mod_eq_of_lt (Fin.isLt _)]

/-- The reference's result is the gradient. -/
theorem answer (w : Vec Ideal S1024x3072 .f32) (ct : Vec Ideal S2x4352x3072 .bf16) :
    out w ct = Cert.WInDxIdeal.Answer.G w ct := by
  funext y
  rw [eq_ix2 y]
  exact value w ct _ _

end Cert.WInDxReferenceIdeal.Answer

namespace Cert.WInDx.Answer

open Idealize.ShloMosaic Idealize.ShloMosaic.TcCoe Idealize.SL.Sem

/-- The reference ends, changes no argument, and has no semaphore. -/
theorem frame_reference : Cert.quiescent_WInDxReferenceIdeal := fun m ρ _ =>
  (θ_run Cert.WInDxReferenceIdeal.defs _ _).mono (fun r h => ⟨fun c => (h c).2,
      Idealize.ShloMosaic.sem_eq_zero_of_no_sems (by decide) r.2⟩)
    (Cert.WInDxReferenceIdeal.Value.run (F := Ideal) m ρ)

/-- From equal arguments the kernel and the reference end with equal results. -/
theorem algebraic : Cert.algebraic_WInDxIdeal_WInDxReferenceIdeal := by
  intro m g m' g' _ hagree
  refine ⟨fun c => Cert.WInDxIdeal.Answer.G (Cert.WInDxIdeal.Answer.Wt m c) (Cert.WInDxIdeal.Answer.CT m c),
    (θ_run Cert.WInDxIdeal.defs _ _).mono (fun r h c => ⟨(h c).1.trans (Cert.WInDxIdeal.Answer.answer m c), (h c).2⟩)
      (Cert.WInDxIdeal.Value.run (F := Ideal) m g), ?_⟩
  refine (θ_run Cert.WInDxReferenceIdeal.defs _ _).mono (fun r h c => ⟨(h c).1.trans ?_, (h c).2⟩)
    (Cert.WInDxReferenceIdeal.Value.run (F := Ideal) m' g')
  obtain ⟨a0, a1, a2⟩ := hagree c
  rw [a1, a2]
  exact Cert.WInDxReferenceIdeal.Answer.answer _ _

end Cert.WInDx.Answer

end
-- ==== Proof.WInDw.lean ====
module

public import proofs.«01_k».proof.Defs
public import proofs.«01_k».proof.Proof.Sums
public import proofs.«01_k».proof.Proof.Gen.WInDwIdeal.Value
public import proofs.«01_k».proof.Proof.Gen.WInDwReferenceIdeal.Run
public import Idealize.ShloMosaic.Lib.StableHlo.ReadAt

@[expose] public section

/-!
The gradient of the input projection's weight: what the tiled product leaves, element by element, is the sum over all tokens,
and so is the reference's.
-/

set_option maxRecDepth 16384

noncomputable section

namespace Cert.WInDwIdeal.Answer

open Idealize.ShloMosaic Idealize.ShloMosaic.TcCoe Idealize.ShloMosaic.Tactic
open Cert.WInDwIdeal Cert.WInDwIdeal.Gen Cert.Sums

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (i : grid0.Coords) (a3 : Memref sig .tc .vmem S1024x2176 .bf16) (h3 : a3.IsWhole)
  (a4 : Memref sig .tc .vmem S2176x384 .bf16) (h4 : a4.IsWhole) (a5 : Memref sig .tc .vmem S1x1024x384 .bf16) (h5 : a5.IsWhole)
  (a6 : Memref sig .tc .vmem S1024x384 .f32) (h6 : a6.IsWhole)
  (x : Vec Ideal S1024x2176 .bf16) (y : Vec Ideal S2176x384 .bf16) (s : Vec Ideal S1024x384 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1024x2176) hz2,
    View.ld_unit_zero (S := S2176x384) hz2, shapeCast_self]

/-- A middle step adds its product. -/
theorem sB (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  rw [View.canon_unit_zero hz2]
  unfold k0_pay3
  simp only [View.readAt_eq_ld, h3.read_unread, h4.read_unread, h6.read_unread, View.ld_unit_zero (S := S1024x2176) hz2,
    View.ld_unit_zero (S := S2176x384) hz2, View.ld_unit_zero (S := S1024x384) hz2, shapeCast_self]

/-- The last step adds its product and hands over the sum. -/
theorem oC (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero hz3, View.readCov_unit_zero (S := S1024x384) _ hz2]
  unfold k0_pay3
  simp only [View.readAt_eq_ld, h3.read_unread, h4.read_unread, h6.read_unread, View.ld_unit_zero (S := S1024x2176) hz2,
    View.ld_unit_zero (S := S2176x384) hz2, View.ld_unit_zero (S := S1024x384) hz2, shapeCast_self]

end Cases

/-- After the four steps of tile `r`: the four products added in order. -/
theorem tile (r : ℕ) (h : 4 * r + 3 < cfg0.N) :
    (outsAt0 m c (4 * r + 3) h).1
      = k0_pay4 (addf (addf (addf (k0_pay1 (iblk m c 0 ⟨4 * r + 0, by omega⟩) (iblk m c 1 ⟨4 * r + 0, by omega⟩))
          (k0_pay1 (iblk m c 0 ⟨4 * r + 1, by omega⟩) (iblk m c 1 ⟨4 * r + 1, by omega⟩)))
          (k0_pay1 (iblk m c 0 ⟨4 * r + 2, by omega⟩) (iblk m c 1 ⟨4 * r + 2, by omega⟩)))
          (k0_pay1 (iblk m c 0 ⟨4 * r + 3, h⟩) (iblk m c 1 ⟨4 * r + 3, h⟩))) := by
  rw [outsAt0_C m c ⟨4 * r + 3, h⟩ (by dsimp only; omega) (by dsimp only; omega) (by dsimp only; omega)]
  dsimp only
  rw [oC]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The layer's input and the cotangent of its output, as launched. -/
abbrev X : Vec Ideal S2x4352x1024 .bf16 := m ((c : Thread nD τ).loc main_arg0)
abbrev CT : Vec Ideal S2x4352x3072 .bf16 := m ((c : Thread nD τ).loc main_arg2)

/-- Token `n`'s contribution to the gradient at row `r` and column `l` of the weight. -/
abbrev term (x : Vec Ideal S2x4352x1024 .bf16) (ct : Vec Ideal S2x4352x3072 .bf16) (r : Fin 1024) (l : Fin 3072) (n : ℕ) : EReal :=
  x (ix3 (half n) (place n) r) * ct (ix3 (half n) (place n) l)

/-- The gradient in the column shards of the devices. -/
def G (x : Vec Ideal S2x4352x1024 .bf16) (ct : Vec Ideal S2x4352x3072 .bf16) : Vec Ideal S8x1024x384 .bf16 := fun y =>
  ∑ n ∈ Finset.range 8704, term x ct (y 1) ⟨384 * (y 0).val + (y 2).val, by
    have h0 : (y 0).val < 8 := (y 0).isLt
    have h2 : (y 2).val < 384 := (y 2).isLt
    omega⟩ n

theorem lhs (r : Fin 1024) (n : Fin 8704) : V m c main_v1 (ix2 r n) = X m c (ix3 (half n) (place n) r) := by
  rw [half_eq n n.isLt]
  unfold V
  after_reads_at

theorem rhs (n : Fin 8704) (l : Fin 3072) : V m c main_v2 (ix2 n l) = CT m c (ix3 (half n) (place n) l) := by
  rw [half_eq n n.isLt]
  unfold V
  after_reads_at

variable (t : Fin cfg0.N)

theorem index0 : ∀ t : Fin cfg0.N, win0_0.index t 0 = 0 ∧ win0_0.index t 1 = t.val % 4 :=
  (by decide +kernel : ∀ t : Fin grid0.N, win0_0.index t 0 = 0 ∧ win0_0.index t 1 = t.val % 4)

theorem index1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem lt0 : t.val < 32 := lt_of_lt_of_eq t.isLt N_0

/-- Step `t`'s block of the layer's input. -/
theorem blk0 (r : Fin 1024) (j : Fin 2176) (n : ℕ) (hn : n = 2176 * (t.val % 4) + j.val) :
    (iblk m c 0 t : Vec Ideal S1024x2176 .bf16) (ix2 r j) = X m c (ix3 (half n) (place n) r) := by
  have hi := index0 t
  unfold iblk
  rw [View.read_apply]
  refine Eq.trans (b := V m c main_v1 (ix2 r ⟨n, by omega⟩)) ?_ (lhs m c r ⟨n, by omega⟩)
  show V m c main_v1 _ = _
  congr 1
  funext a
  apply Fin.ext
  match a with
  | ⟨0, _⟩ =>
    show win0_0.index t 0 * 1024 + 1 * r.val = r.val
    rw [hi.1]
    omega
  | ⟨1, _⟩ =>
    show win0_0.index t 1 * 2176 + 1 * j.val = n
    rw [hi.2]
    omega

/-- Step `t`'s block of the cotangent. -/
theorem blk1 (j : Fin 2176) (l : Fin 384) (n : ℕ) (hn : n = 2176 * (t.val % 4) + j.val) (q : Fin 3072)
    (hq : q.val = 384 * (t.val / 4) + l.val) :
    (iblk m c 1 t : Vec Ideal S2176x384 .bf16) (ix2 j l) = CT m c (ix3 (half n) (place n) q) := by
  have hi := index1 t
  unfold iblk
  rw [View.read_apply]
  refine Eq.trans (b := V m c main_v2 (ix2 ⟨n, by omega⟩ q)) ?_ (rhs m c ⟨n, by omega⟩ q)
  show V m c main_v2 _ = _
  congr 1
  funext a
  apply Fin.ext
  match a with
  | ⟨0, _⟩ =>
    show win0_1.index t 0 * 2176 + 1 * j.val = n
    rw [hi.1]
    omega
  | ⟨1, _⟩ =>
    show win0_1.index t 1 * 384 + 1 * l.val = q.val
    rw [hi.2]
    omega

theorem pay1 (x : Vec Ideal S1024x2176 .bf16) (y : Vec Ideal S2176x384 .bf16) (r : Fin 1024) (l : Fin 384) :
    k0_pay1 (F := Ideal) x y (ix2 r l) = ∑ j : Fin 2176, x (ix2 r j) * y (ix2 j l) := by
  simp [k0_pay1, pointwise]

theorem pay4 (s : Vec Ideal S1024x384 .f32) (b : Fin 1) (r : Fin 1024) (l : Fin 384) :
    k0_pay4 (F := Ideal) s (ix3 b r l) = s (ix2 r l) := by
  simp [k0_pay4, pointwise]

/-- Step `t`'s product: its tokens' contributions. -/
theorem step (s : ℕ) (hs : t.val % 4 = s) (r : Fin 1024) (l : Fin 384) (q : Fin 3072) (hq : q.val = 384 * (t.val / 4) + l.val) :
    k0_pay1 (F := Ideal) (iblk m c 0 t) (iblk m c 1 t) (ix2 r l)
      = ∑ j : Fin 2176, term (X m c) (CT m c) r q (2176 * s + j.val) := by
  rw [pay1]
  refine Finset.sum_congr rfl fun j _ => ?_
  rw [blk0 m c t r j (2176 * s + j.val) (by rw [hs]), blk1 m c t j l (2176 * s + j.val) (by rw [hs]) q hq]

/-- One tile of the result: the sum over all tokens. -/
theorem sum (k : ℕ) (h : 4 * k + 3 < cfg0.N) (r : Fin 1024) (l : Fin 384) (q : Fin 3072) (hq : q.val = 384 * k + l.val) :
    addf (addf (addf (k0_pay1 (F := Ideal) (iblk m c 0 ⟨4 * k + 0, by omega⟩) (iblk m c 1 ⟨4 * k + 0, by omega⟩))
      (k0_pay1 (F := Ideal) (iblk m c 0 ⟨4 * k + 1, by omega⟩) (iblk m c 1 ⟨4 * k + 1, by omega⟩)))
      (k0_pay1 (F := Ideal) (iblk m c 0 ⟨4 * k + 2, by omega⟩) (iblk m c 1 ⟨4 * k + 2, by omega⟩)))
      (k0_pay1 (F := Ideal) (iblk m c 0 ⟨4 * k + 3, h⟩) (iblk m c 1 ⟨4 * k + 3, h⟩)) (ix2 r l)
      = ∑ n ∈ Finset.range 8704, term (X m c) (CT m c) r q n := by
  show ((k0_pay1 (F := Ideal) _ _ (ix2 r l) + k0_pay1 (F := Ideal) _ _ (ix2 r l))
    + k0_pay1 (F := Ideal) _ _ (ix2 r l)) + k0_pay1 (F := Ideal) _ _ (ix2 r l) = _
  rw [step m c ⟨4 * k + 0, by omega⟩ 0 (by dsimp only; omega) r l q (by dsimp only; omega),
    step m c ⟨4 * k + 1, by omega⟩ 1 (by dsimp only; omega) r l q (by dsimp only; omega),
    step m c ⟨4 * k + 2, by omega⟩ 2 (by dsimp only; omega) r l q (by dsimp only; omega),
    step m c ⟨4 * k + 3, h⟩ 3 (by dsimp only; omega) r l q (by dsimp only; omega)]
  exact four 2176 _

/-- The kernel's result is the gradient. -/
theorem answer : Value.G2 m c = G (X m c) (CT m c) := by
  funext y
  have h0 : (y 0).val < 8 := (y 0).isLt
  have h1 : (y 1).val < 1024 := (y 1).isLt
  have h2 : (y 2).val < 384 := (y 2).isLt
  have hp : Value.pt2Of y = 4 * (y 0).val + 3 := by
    show 4 * (1 * ((y 0).val / 1 - 0) + 1 * ((y 1).val / 1024 - 0) + 1 * ((y 2).val / 384 - 0)) + 3 = _
    omega
  have hN : 4 * (y 0).val + 3 < cfg0.N := by rw [show cfg0.N = 32 from N_0]; omega
  unfold Value.G2
  rw [dif_pos (by rw [hp]; exact hN), Value.fold0_congr m c _ _ (4 * (y 0).val + 3) (by omega) hp, ← Value.outsAt0_sweep m c _ hN,
    tile m c _ hN]
  have hl : Value.loc2Of y = ix3 (0 : Fin 1) (y 1) (y 2) := funext fun a => Fin.ext (by
    match a with
    | ⟨0, _⟩ => show (y 0).val % 1 = 0; omega
    | ⟨1, _⟩ => show (y 1).val % 1024 = (y 1).val; omega
    | ⟨2, _⟩ => show (y 2).val % 384 = (y 2).val; omega)
  rw [hl]
  refine (pay4 _ 0 (y 1) (y 2)).trans ?_
  exact sum m c (y 0).val hN (y 1) (y 2) _ rfl

end Cert.WInDwIdeal.Answer

namespace Cert.WInDwReferenceIdeal.Answer

open Idealize.ShloMosaic Idealize.ShloMosaic.TcCoe Idealize.ShloMosaic.Tactic
open Cert.WInDwReferenceIdeal Cert.WInDwReferenceIdeal.Gen Cert.Sums

/-- The reference's result as the program composes it. -/
abbrev out (x : Vec Ideal S2x4352x1024 .bf16) (ct : Vec Ideal S2x4352x3072 .bf16) : Vec Ideal S8x1024x384 .bf16 :=
  truncf (F := Ideal) .bf16 (transpose S8x1024x384 [1, 0, 2] (shapeCast _ (transpose S1024x3072 [1, 0]
    (Host.dotGeneral (φ₁ := .f32) (φ₂ := .f32) dot_S2x4352x3072_S2x4352x1024_S3072x1024_01_01_2_2_n_n none
      (extf .f32 ct bitsLt_bf16_f32) (extf .f32 x bitsLt_bf16_f32)) transposes_S3072x1024_S1024x3072_1_0)
    shapeCasts_S1024x3072_S1024x8x384) transposes_S1024x8x384_S8x1024x384_1_0_2) bitsLt_bf16_f32

theorem value (x : Vec Ideal S2x4352x1024 .bf16) (ct : Vec Ideal S2x4352x3072 .bf16) (q : Fin 8) (r : Fin 1024) (l : Fin 384)
    (p : Fin 3072) (hp : p.val = 384 * q.val + l.val) :
    out x ct (ix3 q r l) = ∑ n ∈ Finset.range 8704, Cert.WInDwIdeal.Answer.term x ct r p n := by
  have ht := tokens (fun b t => x (ix3 b t r) * ct (ix3 b t p))
  refine Eq.trans ?_ ht
  refine Eq.trans (b := ∑ b : Fin 2, ∑ t : Fin 4352, ct (ix3 b t p) * x (ix3 b t r)) ?_
    (Finset.sum_congr rfl fun b _ => Finset.sum_congr rfl fun t _ => mul_comm _ _)
  have he : p = ⟨q.val * 384 + l.val, by omega⟩ := Fin.ext (by dsimp only; omega)
  unfold out
  simp [pointwise]
  simp only [← he]

/-- The reference's result is the gradient. -/
theorem answer (x : Vec Ideal S2x4352x1024 .bf16) (ct : Vec Ideal S2x4352x3072 .bf16) :
    out x ct = Cert.WInDwIdeal.Answer.G x ct := by
  funext y
  rw [eq_ix3 y]
  exact value x ct _ _ _ _ rfl

end Cert.WInDwReferenceIdeal.Answer

namespace Cert.WInDw.Answer

open Idealize.ShloMosaic Idealize.ShloMosaic.TcCoe Idealize.SL.Sem

/-- The reference ends, changes no argument, and has no semaphore. -/
theorem frame_reference : Cert.quiescent_WInDwReferenceIdeal := fun m ρ _ =>
  (θ_run Cert.WInDwReferenceIdeal.defs _ _).mono (fun r h => ⟨fun c => (h c).2,
      Idealize.ShloMosaic.sem_eq_zero_of_no_sems (by decide) r.2⟩)
    (Cert.WInDwReferenceIdeal.Value.run (F := Ideal) m ρ)

/-- From equal arguments the kernel and the reference end with equal results. -/
theorem algebraic : Cert.algebraic_WInDwIdeal_WInDwReferenceIdeal := by
  intro m g m' g' _ hagree
  refine ⟨fun c => Cert.WInDwIdeal.Answer.G (Cert.WInDwIdeal.Answer.X m c) (Cert.WInDwIdeal.Answer.CT m c),
    (θ_run Cert.WInDwIdeal.defs _ _).mono (fun r h c => ⟨(h c).1.trans (Cert.WInDwIdeal.Answer.answer m c), (h c).2⟩)
      (Cert.WInDwIdeal.Value.run (F := Ideal) m g), ?_⟩
  refine (θ_run Cert.WInDwReferenceIdeal.defs _ _).mono (fun r h c => ⟨(h c).1.trans ?_, (h c).2⟩)
    (Cert.WInDwReferenceIdeal.Value.run (F := Ideal) m' g')
  obtain ⟨a0, a1, a2⟩ := hagree c
  rw [a0, a2]
  exact Cert.WInDwReferenceIdeal.Answer.answer _ _

end Cert.WInDw.Answer

end
-- ==== Proof.Tiles.lean ====
module

public import Idealize.ShloMosaic.Lib.Pointwise

@[expose] public section

/-!
An index of two or three coordinates, named by its coordinates.
-/

namespace Cert.Tiles

open Idealize.ShloMosaic

theorem at2 {a b : ℕ} (i : (⟨2, ![a, b]⟩ : Shape).Idx) (p : Fin a) (q : Fin b) (h0 : (i 0).val = p.val) (h1 : (i 1).val = q.val) :
    i = ix2 p q :=
  funext fun x => Fin.ext (match x with | ⟨0, _⟩ => h0 | ⟨1, _⟩ => h1)

theorem at3 {a b d : ℕ} (i : (⟨3, ![a, b, d]⟩ : Shape).Idx) (p : Fin a) (q : Fin b) (r : Fin d) (h0 : (i 0).val = p.val)
    (h1 : (i 1).val = q.val) (h2 : (i 2).val = r.val) : i = ix3 p q r :=
  funext fun x => Fin.ext (match x with | ⟨0, _⟩ => h0 | ⟨1, _⟩ => h1 | ⟨2, _⟩ => h2)

end Cert.Tiles

end
-- ==== Proof.WOutDx.lean ====
module

public import proofs.«01_k».proof.Defs
public import proofs.«01_k».proof.Proof.Sums
public import proofs.«01_k».proof.Proof.Tiles
public import proofs.«01_k».proof.Proof.Gen.WOutDxIdeal.Value
public import proofs.«01_k».proof.Proof.Gen.WOutDxReferenceIdeal.Run
public import Idealize.ShloMosaic.Lib.StableHlo.ReadAt

@[expose] public section

/-!
The gradient of the output projection's input: what the tiled product leaves, element by element, is the sum over all
columns of the weight, and so is the reference's.
-/

noncomputable section

namespace Cert.WOutDxIdeal.Answer

open Idealize.ShloMosaic Idealize.ShloMosaic.TcCoe Idealize.ShloMosaic.Tactic
open Cert.WOutDxIdeal Cert.WOutDxIdeal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

/-- The weight and the cotangent of the product, as launched. -/
abbrev Wt : Vec Ideal S2048x1024 .f32 := m ((c : Thread nD τ).loc main_arg1)
abbrev CT : Vec Ideal S2x4352x1024 .bf16 := m ((c : Thread nD τ).loc main_arg2)

/-- The gradient at token `n` and feature `l`: the sum over the weight's columns. -/
def grad (w : Vec Ideal S2048x1024 .f32) (ct : Vec Ideal S2x4352x1024 .bf16) (n : Fin 8704) (l : Fin 2048) : EReal :=
  ∑ k : Fin 1024, ct (ix3 (half n) (place n) k) * w (ix2 l k)

/-- The gradient of the product's left factor. -/
def G (w : Vec Ideal S2048x1024 .f32) (ct : Vec Ideal S2x4352x1024 .bf16) : Vec Ideal S8704x2048 .f32 := fun y =>
  grad w ct (y 0) (y 1)

theorem lhs (n : Fin 8704) (k : Fin 1024) : V m c main_v0 (ix2 n k) = CT m c (ix3 (half n) (place n) k) := by
  rw [half_eq n n.isLt]
  unfold V
  after_reads_at

theorem rhs (l : Fin 2048) (k : Fin 1024) : V m c main_v1 (ix2 l k) = Wt m c (ix2 l k) := by
  unfold V
  after_reads_at

variable (t : Fin cfg0.N)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

theorem index1 : ∀ t : Fin cfg0.N, win0_1.index t 0 = t.val % 2 ∧ win0_1.index t 1 = 0 :=
  (by decide +kernel : ∀ t : Fin grid0.N, win0_1.index t 0 = t.val % 2 ∧ win0_1.index t 1 = 0)

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem xsize2 : ∀ t : Fin cfg0.N, win0_2.xsize (grid0.coords t) 0 = 1088 ∧ win0_2.xsize (grid0.coords t) 1 = 1024 :=
  (by decide +kernel : ∀ t : Fin grid0.N, win0_2.xsize (grid0.coords t) 0 = 1088 ∧ win0_2.xsize (grid0.coords t) 1 = 1024)

/-- Step `t`'s block of the cotangent. -/
theorem blk0 (r : Fin 1088) (k : Fin 1024) (n : Fin 8704) (hn : n.val = 1088 * (t.val / 2) + r.val) :
    (iblk m c 0 t : Vec Ideal S1088x1024 .bf16) (ix2 r k) = CT m c (ix3 (half n) (place n) k) := by
  have hi := index0 t
  unfold iblk
  rw [View.read_apply]
  refine Eq.trans (b := V m c main_v0 (ix2 n k)) (congrArg (V m c main_v0) (at2 _ n k ?_ ?_)) (lhs m c n k)
  · show win0_0.index t 0 * 1088 + 1 * r.val = n.val
    rw [hi.1]
    omega
  · show win0_0.index t 1 * 1024 + 1 * k.val = k.val
    rw [hi.2]
    omega

/-- Step `t`'s block of the weight. -/
theorem blk1 (j : Fin 1024) (k : Fin 1024) (l : Fin 2048) (hl : l.val = 1024 * (t.val % 2) + j.val) :
    (iblk m c 1 t : Vec Ideal S1024x1024 .bf16) (ix2 j k) = Wt m c (ix2 l k) := by
  have hi := index1 t
  unfold iblk
  rw [View.read_apply]
  refine Eq.trans (b := V m c main_v1 (ix2 l k)) (congrArg (V m c main_v1) (at2 _ l k ?_ ?_)) (rhs m c l k)
  · show win0_1.index t 0 * 1024 + 1 * j.val = l.val
    rw [hi.1]
    omega
  · show win0_1.index t 1 * 1024 + 1 * k.val = k.val
    rw [hi.2]
    omega

theorem pay1 (x : Vec Ideal S1088x1024 .bf16) (y : Vec Ideal S1024x1024 .bf16) (r : Fin 1088) (j : Fin 1024) :
    k0_pay1 (F := Ideal) x y (ix2 r j) = ∑ k : Fin 1024, x (ix2 r k) * y (ix2 j k) := by
  simp [k0_pay1, pointwise]

/-- What a step writes, from its blocks. -/
theorem wrote (x : Vec Ideal S1088x1024 .bf16) (y : Vec Ideal S1024x1024 .bf16) : out0_2 x y = k0_pay1 (F := Ideal) x y := by
  unfold out0_2
  rw [View.canon_unit_zero hz2, View.ld_unit_zero (S := S1088x1024) hz2, View.ld_unit_zero (S := S1024x1024) hz2]

/-- Step `t`'s product: its block of the gradient. -/
theorem step (r : Fin 1088) (j : Fin 1024) (n : Fin 8704) (hn : n.val = 1088 * (t.val / 2) + r.val) (l : Fin 2048)
    (hl : l.val = 1024 * (t.val % 2) + j.val) :
    k0_pay1 (F := Ideal) (iblk m c 0 t) (iblk m c 1 t) (ix2 r j) = grad (Wt m c) (CT m c) n l := by
  rw [pay1]
  unfold grad
  refine Finset.sum_congr rfl fun k _ => ?_
  rw [blk0 m c t r k n hn, blk1 m c t j k l hl]

/-- The block at a write-back is its block of the gradient. -/
theorem flushed (_ : (cfg0.win 2).flush t = true) :
    (dats m 0 c).flushed 2 t = ((cfg0.win 2).blk t).view.read (Elt Ideal) (G (Wt m c) (CT m c)) := by
  have hi := index2 t
  have ht : t.val < 16 := lt_of_lt_of_eq t.isLt N_0
  refine funext fun (j : (⟨2, ![1088, 1024]⟩ : Shape).Idx) => ?_
  rw [View.read_apply]
  obtain ⟨r, l, rfl⟩ : ∃ (r : Fin 1088) (l : Fin 1024), j = ix2 r l := ⟨j 0, j 1, eq_ix2 j⟩
  refine Eq.trans (b := k0_pay1 (F := Ideal) (iblk m c 0 t) (iblk m c 1 t) (ix2 r l)) ?_ ((step m c t r l
    ⟨1088 * (t.val / 2) + r.val, by omega⟩ rfl ⟨1024 * (t.val % 2) + l.val, by omega⟩ rfl).trans ?_)
  · rw [Value.flushed2, wrote]
    rfl
  · refine congrArg (G (Wt m c) (CT m c)) (at2 (((cfg0.win 2).blk t).view.emb (ix2 r l)) _ _ ?_ ?_).symm
    · show win0_2.index t 0 * 1088 + 1 * r.val = 1088 * (t.val / 2) + r.val
      rw [hi.1]
      omega
    · show win0_2.index t 1 * 1024 + 1 * l.val = 1024 * (t.val % 2) + l.val
      rw [hi.2]
      omega

/-- The kernel's result is the gradient. -/
theorem answer : (dats m 0 c).arrAt 2 cfg0.N = G (Wt m c) (CT m c) :=
  (dats m 0 c).arrAt_eq_of_cover 2 (G (Wt m c) (CT m c)) (flushed m c) fun i => by
    have h0 : (i 0 : Nat) < 8704 := (i 0).isLt
    have h1 : (i 1 : Nat) < 2048 := (i 1).isLt
    obtain ⟨t, ht⟩ : ∃ t : Fin cfg0.N, t.val = 2 * ((i 0).val / 1088) + (i 1).val / 1024 :=
      ⟨⟨2 * ((i 0).val / 1088) + (i 1).val / 1024, lt_of_lt_of_eq (by omega) N_0.symm⟩, rfl⟩
    have hi := index2 t
    have hx := xsize2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1088 ≤ (i 0 : Nat) ∧ (i 0 : Nat) < win0_2.index t 0 * 1088 + win0_2.xsize (grid0.coords t) 0
      rw [hi.1, hx.1]
      omega
    | ⟨1, _⟩ =>
      show win0_2.index t 1 * 1024 ≤ (i 1 : Nat) ∧ (i 1 : Nat) < win0_2.index t 1 * 1024 + win0_2.xsize (grid0.coords t) 1
      rw [hi.2, hx.2]
      omega

end Cert.WOutDxIdeal.Answer

namespace Cert.WOutDxReferenceIdeal.Answer

open Idealize.ShloMosaic Idealize.ShloMosaic.TcCoe Idealize.ShloMosaic.Tactic
open Cert.WOutDxReferenceIdeal Cert.WOutDxReferenceIdeal.Gen Cert.Sums

/-- The reference's result as the program composes it. -/
abbrev out (w : Vec Ideal S2048x1024 .f32) (ct : Vec Ideal S2x4352x1024 .bf16) : Vec Ideal S8704x2048 .f32 :=
  shapeCast _ (Host.dotGeneral (F := Ideal) (φ₁ := .f32) (φ₂ := .f32) dot_S2x4352x1024_S2048x1024_S2x4352x2048_2_1_01_0_n_n none
    (extf .f32 ct bitsLt_bf16_f32) w) shapeCasts_S2x4352x2048_S8704x2048

theorem value (w : Vec Ideal S2048x1024 .f32) (ct : Vec Ideal S2x4352x1024 .bf16) (n : Fin 8704) (l : Fin 2048) :
    out w ct (ix2 n l) = Cert.WOutDxIdeal.Answer.grad w ct n l := by
  unfold out Cert.WOutDxIdeal.Answer.grad
  rw [half_eq n n.isLt]
  simp [pointwise]

end Cert.WOutDxReferenceIdeal.Answer

namespace Cert.WOutDx.Answer

open Idealize.ShloMosaic Idealize.ShloMosaic.TcCoe Idealize.SL.Sem

/-- The reference ends, changes no argument, and has no semaphore. -/
theorem frame_reference : Cert.quiescent_WOutDxReferenceIdeal := fun m ρ _ =>
  (θ_run Cert.WOutDxReferenceIdeal.defs _ _).mono (fun r h => ⟨fun c => (h c).2,
      Idealize.ShloMosaic.sem_eq_zero_of_no_sems (by decide) r.2⟩)
    (Cert.WOutDxReferenceIdeal.Value.run (F := Ideal) m ρ)

open Cert.WOutDxIdeal.Answer in
/-- From equal arguments the kernel and the reference end with equal results. -/
theorem algebraic : Cert.algebraic_WOutDxIdeal_WOutDxReferenceIdeal := by
  intro m g m' g' _ hagree
  refine ⟨fun c => G (Wt m c) (CT m c),
    (θ_run Cert.WOutDxIdeal.defs _ _).mono (fun r h c => ⟨(h c).1.trans (answer m c), (h c).2⟩)
      (Cert.WOutDxIdeal.Value.run_blocks (F := Ideal) m g), ?_⟩
  refine (θ_run Cert.WOutDxReferenceIdeal.defs _ _).mono (fun r h c => ⟨(h c).1.trans ?_, (h c).2⟩)
    (Cert.WOutDxReferenceIdeal.Value.run (F := Ideal) m' g')
  obtain ⟨a0, a1, a2⟩ := hagree c
  rw [a1, a2]
  funext y
  rw [eq_ix2 y]
  exact Cert.WOutDxReferenceIdeal.Answer.value _ _ _ _

end Cert.WOutDx.Answer

end
-- ==== Proof.WOutDw.lean ====
module

public import proofs.«01_k».proof.Defs
public import proofs.«01_k».proof.Proof.Sums
public import proofs.«01_k».proof.Proof.Gen.WOutDwIdeal.Value
public import proofs.«01_k».proof.Proof.Gen.WOutDwReferenceIdeal.Run
public import Idealize.ShloMosaic.Lib.StableHlo.ReadAt

@[expose] public section

/-!
The gradient of the output projection: what the tiled product leaves, element by element, is the sum over all tokens,
and so is the reference's.
-/

set_option maxRecDepth 16384

noncomputable section

namespace Cert.WOutDwIdeal.Answer

open Idealize.ShloMosaic Idealize.ShloMosaic.TcCoe Idealize.ShloMosaic.Tactic
open Cert.WOutDwIdeal Cert.WOutDwIdeal.Gen Cert.Sums

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (i : grid0.Coords) (a3 : Memref sig .tc .vmem S1024x2176 .bf16) (h3 : a3.IsWhole)
  (a4 : Memref sig .tc .vmem S2176x1024 .bf16) (h4 : a4.IsWhole) (a5 : Memref sig .tc .vmem S1024x1024 .bf16) (h5 : a5.IsWhole)
  (a6 : Memref sig .tc .vmem S1024x1024 .f32) (h6 : a6.IsWhole)
  (x : Vec Ideal S1024x2176 .bf16) (y : Vec Ideal S2176x1024 .bf16) (s : Vec Ideal S1024x1024 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1024x2176) hz2,
    View.ld_unit_zero (S := S2176x1024) hz2, shapeCast_self]

/-- A middle step adds its product. -/
theorem sB (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  rw [View.canon_unit_zero hz2]
  unfold k0_pay3
  simp only [View.readAt_eq_ld, h3.read_unread, h4.read_unread, h6.read_unread, View.ld_unit_zero (S := S1024x2176) hz2,
    View.ld_unit_zero (S := S2176x1024) hz2, View.ld_unit_zero (S := S1024x1024) hz2, shapeCast_self]

/-- The last step adds its product and hands over the sum. -/
theorem oC (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1024x2176) hz2,
    View.ld_unit_zero (S := S2176x1024) hz2, View.ld_unit_zero (S := S1024x1024) hz2, shapeCast_self]

end Cases

/-- After the four steps of tile `r`: the four products added in order. -/
theorem tile (r : ℕ) (h : 4 * r + 3 < cfg0.N) :
    (outsAt0 m c (4 * r + 3) h).1
      = k0_pay4 (addf (addf (addf (k0_pay1 (iblk m c 0 ⟨4 * r + 0, by omega⟩) (iblk m c 1 ⟨4 * r + 0, by omega⟩))
          (k0_pay1 (iblk m c 0 ⟨4 * r + 1, by omega⟩) (iblk m c 1 ⟨4 * r + 1, by omega⟩)))
          (k0_pay1 (iblk m c 0 ⟨4 * r + 2, by omega⟩) (iblk m c 1 ⟨4 * r + 2, by omega⟩)))
          (k0_pay1 (iblk m c 0 ⟨4 * r + 3, h⟩) (iblk m c 1 ⟨4 * r + 3, h⟩))) := by
  rw [outsAt0_C m c ⟨4 * r + 3, h⟩ (by dsimp only; omega) (by dsimp only; omega) (by dsimp only; omega)]
  dsimp only
  rw [oC]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The product's left factor and the cotangent of the product, as launched. -/
abbrev X : Vec Ideal S2x4352x2048 .bf16 := m ((c : Thread nD τ).loc main_arg0)
abbrev CT : Vec Ideal S2x4352x1024 .bf16 := m ((c : Thread nD τ).loc main_arg2)

/-- Token `n`'s contribution to the gradient at row `r` and column `l` of the weight. -/
abbrev term (x : Vec Ideal S2x4352x2048 .bf16) (ct : Vec Ideal S2x4352x1024 .bf16) (r : Fin 2048) (l : Fin 1024) (n : ℕ) : EReal :=
  x (ix3 (half n) (place n) r) * ct (ix3 (half n) (place n) l)

/-- The gradient of the weight. -/
def G (x : Vec Ideal S2x4352x2048 .bf16) (ct : Vec Ideal S2x4352x1024 .bf16) : Vec Ideal S2048x1024 .bf16 :=
  fun y => ∑ n ∈ Finset.range 8704, term x ct (y 0) (y 1) n

theorem lhs (r : Fin 2048) (n : Fin 8704) : V m c main_v1 (ix2 r n) = X m c (ix3 (half n) (place n) r) := by
  rw [half_eq n n.isLt]
  unfold V
  after_reads_at

theorem rhs (n : Fin 8704) (l : Fin 1024) : V m c main_v2 (ix2 n l) = CT m c (ix3 (half n) (place n) l) := by
  rw [half_eq n n.isLt]
  unfold V
  after_reads_at

variable (t : Fin cfg0.N)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- Step `t`'s block of the left factor. -/
theorem blk0 (r : Fin 1024) (j : Fin 2176) (n : ℕ) (hn : n = 2176 * (t.val % 4) + j.val) (q : Fin 2048)
    (hq : q.val = 1024 * (t.val / 4) + r.val) :
    (iblk m c 0 t : Vec Ideal S1024x2176 .bf16) (ix2 r j) = X m c (ix3 (half n) (place n) q) := by
  have hi := index0 t
  unfold iblk
  rw [View.read_apply]
  refine Eq.trans (b := V m c main_v1 (ix2 q ⟨n, by omega⟩)) ?_ (lhs m c q ⟨n, by omega⟩)
  show V m c main_v1 _ = _
  congr 1
  funext a
  apply Fin.ext
  match a with
  | ⟨0, _⟩ =>
    show win0_0.index t 0 * 1024 + 1 * r.val = q.val
    rw [hi.1]
    omega
  | ⟨1, _⟩ =>
    show win0_0.index t 1 * 2176 + 1 * j.val = n
    rw [hi.2]
    omega

/-- Step `t`'s block of the cotangent. -/
theorem blk1 (j : Fin 2176) (l : Fin 1024) (n : ℕ) (hn : n = 2176 * (t.val % 4) + j.val) :
    (iblk m c 1 t : Vec Ideal S2176x1024 .bf16) (ix2 j l) = CT m c (ix3 (half n) (place n) l) := by
  have hi := index1 t
  unfold iblk
  rw [View.read_apply]
  refine Eq.trans (b := V m c main_v2 (ix2 ⟨n, by omega⟩ l)) ?_ (rhs m c ⟨n, by omega⟩ l)
  show V m c main_v2 _ = _
  congr 1
  funext a
  apply Fin.ext
  match a with
  | ⟨0, _⟩ =>
    show win0_1.index t 0 * 2176 + 1 * j.val = n
    rw [hi.1]
    omega
  | ⟨1, _⟩ =>
    show win0_1.index t 1 * 1024 + 1 * l.val = l.val
    rw [hi.2]
    omega

theorem pay1 (x : Vec Ideal S1024x2176 .bf16) (y : Vec Ideal S2176x1024 .bf16) (r : Fin 1024) (l : Fin 1024) :
    k0_pay1 (F := Ideal) x y (ix2 r l) = ∑ j : Fin 2176, x (ix2 r j) * y (ix2 j l) := by
  simp [k0_pay1, pointwise]

theorem pay4 (s : Vec Ideal S1024x1024 .f32) (r : Fin 1024) (l : Fin 1024) :
    k0_pay4 (F := Ideal) s (ix2 r l) = s (ix2 r l) := by
  simp [k0_pay4, pointwise]

/-- Step `t`'s product: its tokens' contributions. -/
theorem step (s : ℕ) (hs : t.val % 4 = s) (r : Fin 1024) (l : Fin 1024) (q : Fin 2048) (hq : q.val = 1024 * (t.val / 4) + r.val) :
    k0_pay1 (F := Ideal) (iblk m c 0 t) (iblk m c 1 t) (ix2 r l)
      = ∑ j : Fin 2176, term (X m c) (CT m c) q l (2176 * s + j.val) := by
  rw [pay1]
  refine Finset.sum_congr rfl fun j _ => ?_
  rw [blk0 m c t r j (2176 * s + j.val) (by rw [hs]) q hq, blk1 m c t j l (2176 * s + j.val) (by rw [hs])]

/-- One tile of the result: the sum over all tokens. -/
theorem sum (k : ℕ) (h : 4 * k + 3 < cfg0.N) (r : Fin 1024) (l : Fin 1024) (q : Fin 2048) (hq : q.val = 1024 * k + r.val) :
    addf (addf (addf (k0_pay1 (F := Ideal) (iblk m c 0 ⟨4 * k + 0, by omega⟩) (iblk m c 1 ⟨4 * k + 0, by omega⟩))
      (k0_pay1 (F := Ideal) (iblk m c 0 ⟨4 * k + 1, by omega⟩) (iblk m c 1 ⟨4 * k + 1, by omega⟩)))
      (k0_pay1 (F := Ideal) (iblk m c 0 ⟨4 * k + 2, by omega⟩) (iblk m c 1 ⟨4 * k + 2, by omega⟩)))
      (k0_pay1 (F := Ideal) (iblk m c 0 ⟨4 * k + 3, h⟩) (iblk m c 1 ⟨4 * k + 3, h⟩)) (ix2 r l)
      = ∑ n ∈ Finset.range 8704, term (X m c) (CT m c) q l n := by
  show ((k0_pay1 (F := Ideal) _ _ (ix2 r l) + k0_pay1 (F := Ideal) _ _ (ix2 r l))
    + k0_pay1 (F := Ideal) _ _ (ix2 r l)) + k0_pay1 (F := Ideal) _ _ (ix2 r l) = _
  rw [step m c ⟨4 * k + 0, by omega⟩ 0 (by dsimp only; omega) r l q (by dsimp only; omega),
    step m c ⟨4 * k + 1, by omega⟩ 1 (by dsimp only; omega) r l q (by dsimp only; omega),
    step m c ⟨4 * k + 2, by omega⟩ 2 (by dsimp only; omega) r l q (by dsimp only; omega),
    step m c ⟨4 * k + 3, h⟩ 3 (by dsimp only; omega) r l q (by dsimp only; omega)]
  exact four 2176 _

/-- The kernel's result is the gradient. -/
theorem answer : Value.G2 m c = G (X m c) (CT m c) := by
  funext y
  have h0 : (y 0).val < 2048 := (y 0).isLt
  have h1 : (y 1).val < 1024 := (y 1).isLt
  have hp : Value.pt2Of y = 4 * ((y 0).val / 1024) + 3 := by
    show 4 * (1 * ((y 0).val / 1024 - 0) + 1 * ((y 1).val / 1024 - 0)) + 3 = _
    omega
  have hN : 4 * ((y 0).val / 1024) + 3 < cfg0.N := by rw [show cfg0.N = 8 from N_0]; omega
  unfold Value.G2
  rw [dif_pos (by rw [hp]; exact hN), Value.fold0_congr m c _ _ (4 * ((y 0).val / 1024) + 3) (by omega) hp,
    ← Value.outsAt0_sweep m c _ hN, tile m c _ hN]
  have hl : Value.loc2Of y = ix2 (⟨(y 0).val % 1024, Nat.mod_lt _ (by decide)⟩ : Fin 1024) (y 1) := funext fun a => Fin.ext (by
    match a with
    | ⟨0, _⟩ => rfl
    | ⟨1, _⟩ => show (y 1).val % 1024 = (y 1).val; omega)
  rw [hl]
  refine (pay4 _ _ (y 1)).trans ?_
  exact sum m c _ hN _ (y 1) (y 0) (by dsimp only; omega)

end Cert.WOutDwIdeal.Answer

namespace Cert.WOutDwReferenceIdeal.Answer

open Idealize.ShloMosaic Idealize.ShloMosaic.TcCoe Idealize.ShloMosaic.Tactic
open Cert.WOutDwReferenceIdeal Cert.WOutDwReferenceIdeal.Gen Cert.Sums

/-- The reference's result as the program composes it. -/
abbrev out (x : Vec Ideal S2x4352x2048 .bf16) (ct : Vec Ideal S2x4352x1024 .bf16) : Vec Ideal S2048x1024 .bf16 :=
  truncf (F := Ideal) .bf16 (transpose S2048x1024 [1, 0] (Host.dotGeneral (φ₁ := .f32) (φ₂ := .f32)
    dot_S2x4352x1024_S2x4352x2048_S1024x2048_01_01_2_2_n_n none (extf .f32 ct bitsLt_bf16_f32) (extf .f32 x bitsLt_bf16_f32))
    transposes_S1024x2048_S2048x1024_1_0) bitsLt_bf16_f32

theorem value (x : Vec Ideal S2x4352x2048 .bf16) (ct : Vec Ideal S2x4352x1024 .bf16) (r : Fin 2048) (l : Fin 1024) :
    out x ct (ix2 r l) = ∑ n ∈ Finset.range 8704, Cert.WOutDwIdeal.Answer.term x ct r l n := by
  have ht := tokens (fun b t => x (ix3 b t r) * ct (ix3 b t l))
  refine Eq.trans ?_ ht
  refine Eq.trans (b := ∑ b : Fin 2, ∑ t : Fin 4352, ct (ix3 b t l) * x (ix3 b t r)) ?_
    (Finset.sum_congr rfl fun b _ => Finset.sum_congr rfl fun t _ => mul_comm _ _)
  unfold out
  simp [pointwise]

/-- The reference's result is the gradient. -/
theorem answer (x : Vec Ideal S2x4352x2048 .bf16) (ct : Vec Ideal S2x4352x1024 .bf16) :
    out x ct = Cert.WOutDwIdeal.Answer.G x ct := by
  funext y
  rw [eq_ix2 y]
  exact value x ct _ _

end Cert.WOutDwReferenceIdeal.Answer

namespace Cert.WOutDw.Answer

open Idealize.ShloMosaic Idealize.ShloMosaic.TcCoe Idealize.SL.Sem

/-- The reference ends, changes no argument, and has no semaphore. -/
theorem frame_reference : Cert.quiescent_WOutDwReferenceIdeal := fun m ρ _ =>
  (θ_run Cert.WOutDwReferenceIdeal.defs _ _).mono (fun r h => ⟨fun c => (h c).2,
      Idealize.ShloMosaic.sem_eq_zero_of_no_sems (by decide) r.2⟩)
    (Cert.WOutDwReferenceIdeal.Value.run (F := Ideal) m ρ)

/-- From equal arguments the kernel and the reference end with equal results. -/
theorem algebraic : Cert.algebraic_WOutDwIdeal_WOutDwReferenceIdeal := by
  intro m g m' g' _ hagree
  refine ⟨fun c => Cert.WOutDwIdeal.Answer.G (Cert.WOutDwIdeal.Answer.X m c) (Cert.WOutDwIdeal.Answer.CT m c),
    (θ_run Cert.WOutDwIdeal.defs _ _).mono (fun r h c => ⟨(h c).1.trans (Cert.WOutDwIdeal.Answer.answer m c), (h c).2⟩)
      (Cert.WOutDwIdeal.Value.run (F := Ideal) m g), ?_⟩
  refine (θ_run Cert.WOutDwReferenceIdeal.defs _ _).mono (fun r h c => ⟨(h c).1.trans ?_, (h c).2⟩)
    (Cert.WOutDwReferenceIdeal.Value.run (F := Ideal) m' g')
  obtain ⟨a0, a1, a2⟩ := hagree c
  rw [a0, a2]
  exact Cert.WOutDwReferenceIdeal.Answer.answer _ _

end Cert.WOutDw.Answer

end
-- ==== Proof.GluDw.lean ====
module

public import proofs.«01_k».proof.Defs
public import proofs.«01_k».proof.Proof.Sums
public import proofs.«01_k».proof.Proof.Gen.GluDwIdeal.Value
public import proofs.«01_k».proof.Proof.Gen.GluDwReferenceIdeal.Run
public import Idealize.ShloMosaic.Lib.StableHlo.ReadAt

@[expose] public section

/-!
The gradient of the gated linear unit's weight: what the tiled product leaves, element by element, is the sum over all tokens,
and so is the reference's.
-/

set_option maxRecDepth 16384

noncomputable section

namespace Cert.GluDwIdeal.Answer

open Idealize.ShloMosaic Idealize.ShloMosaic.TcCoe Idealize.ShloMosaic.Tactic
open Cert.GluDwIdeal Cert.GluDwIdeal.Gen Cert.Sums

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (i : grid0.Coords) (a3 : Memref sig .tc .vmem S1024x2176 .bf16) (h3 : a3.IsWhole)
  (a4 : Memref sig .tc .vmem S2176x1024 .bf16) (h4 : a4.IsWhole) (a5 : Memref sig .tc .vmem S1024x1024 .bf16) (h5 : a5.IsWhole)
  (a6 : Memref sig .tc .vmem S1024x1024 .f32) (h6 : a6.IsWhole)
  (x : Vec Ideal S1024x2176 .bf16) (y : Vec Ideal S2176x1024 .bf16) (s : Vec Ideal S1024x1024 .f32)

/-- The first step of a tile leaves the first product. -/
theorem sA (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  rw [View.canon_unit_zero hz2]
  unfold k0_pay2
  simp only [View.readAt_eq_ld, h3.read_unread, h4.read_unread, View.ld_unit_zero (S := S1024x2176) hz2,
    View.ld_unit_zero (S := S2176x1024) hz2, shapeCast_self]

/-- A middle step adds its product. -/
theorem sB (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  rw [View.canon_unit_zero hz2]
  unfold k0_pay3
  simp only [View.readAt_eq_ld, h3.read_unread, h4.read_unread, h6.read_unread, View.ld_unit_zero (S := S1024x2176) hz2,
    View.ld_unit_zero (S := S2176x1024) hz2, View.ld_unit_zero (S := S1024x1024) hz2, shapeCast_self]

/-- The last step adds its product and hands over the sum. -/
theorem oC (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1024x2176) hz2,
    View.ld_unit_zero (S := S2176x1024) hz2, View.ld_unit_zero (S := S1024x1024) hz2, shapeCast_self]

end Cases

/-- After the four steps of tile `r`: the four products added in order. -/
theorem tile (r : ℕ) (h : 4 * r + 3 < cfg0.N) :
    (outsAt0 m c (4 * r + 3) h).1
      = k0_pay4 (addf (addf (addf (k0_pay1 (iblk m c 0 ⟨4 * r + 0, by omega⟩) (iblk m c 1 ⟨4 * r + 0, by omega⟩))
          (k0_pay1 (iblk m c 0 ⟨4 * r + 1, by omega⟩) (iblk m c 1 ⟨4 * r + 1, by omega⟩)))
          (k0_pay1 (iblk m c 0 ⟨4 * r + 2, by omega⟩) (iblk m c 1 ⟨4 * r + 2, by omega⟩)))
          (k0_pay1 (iblk m c 0 ⟨4 * r + 3, h⟩) (iblk m c 1 ⟨4 * r + 3, h⟩))) := by
  have hN := lt_of_lt_of_eq h (show cfg0.N = 4 from N_0)
  rw [outsAt0_C m c ⟨4 * r + 3, h⟩ (by dsimp only; omega) (by dsimp only; omega) (by dsimp only; omega)]
  dsimp only
  rw [oC]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The product's left factor and the cotangent of the product, as launched. -/
abbrev X : Vec Ideal S2x4352x1024 .bf16 := m ((c : Thread nD τ).loc main_arg0)
abbrev CT : Vec Ideal S2x4352x1024 .bf16 := m ((c : Thread nD τ).loc main_arg2)

/-- Token `n`'s contribution to the gradient at row `r` and column `l` of the weight. -/
abbrev term (x : Vec Ideal S2x4352x1024 .bf16) (ct : Vec Ideal S2x4352x1024 .bf16) (r : Fin 1024) (l : Fin 1024) (n : ℕ) : EReal :=
  x (ix3 (half n) (place n) r) * ct (ix3 (half n) (place n) l)

/-- The gradient of the weight. -/
def G (x : Vec Ideal S2x4352x1024 .bf16) (ct : Vec Ideal S2x4352x1024 .bf16) : Vec Ideal S1024x1024 .bf16 :=
  fun y => ∑ n ∈ Finset.range 8704, term x ct (y 0) (y 1) n

theorem lhs (r : Fin 1024) (n : Fin 8704) : V m c main_v1 (ix2 r n) = X m c (ix3 (half n) (place n) r) := by
  rw [half_eq n n.isLt]
  unfold V
  after_reads_at

theorem rhs (n : Fin 8704) (l : Fin 1024) : V m c main_v2 (ix2 n l) = CT m c (ix3 (half n) (place n) l) := by
  rw [half_eq n n.isLt]
  unfold V
  after_reads_at

variable (t : Fin cfg0.N)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- Step `t`'s block of the left factor. -/
theorem blk0 (r : Fin 1024) (j : Fin 2176) (n : ℕ) (hn : n = 2176 * (t.val % 4) + j.val) (q : Fin 1024)
    (hq : q.val = 1024 * (t.val / 4) + r.val) :
    (iblk m c 0 t : Vec Ideal S1024x2176 .bf16) (ix2 r j) = X m c (ix3 (half n) (place n) q) := by
  have hi := index0 t
  unfold iblk
  rw [View.read_apply]
  refine Eq.trans (b := V m c main_v1 (ix2 q ⟨n, by omega⟩)) ?_ (lhs m c q ⟨n, by omega⟩)
  show V m c main_v1 _ = _
  congr 1
  funext a
  apply Fin.ext
  match a with
  | ⟨0, _⟩ =>
    show win0_0.index t 0 * 1024 + 1 * r.val = q.val
    rw [hi.1]
    omega
  | ⟨1, _⟩ =>
    show win0_0.index t 1 * 2176 + 1 * j.val = n
    rw [hi.2]
    omega

/-- Step `t`'s block of the cotangent. -/
theorem blk1 (j : Fin 2176) (l : Fin 1024) (n : ℕ) (hn : n = 2176 * (t.val % 4) + j.val) :
    (iblk m c 1 t : Vec Ideal S2176x1024 .bf16) (ix2 j l) = CT m c (ix3 (half n) (place n) l) := by
  have hi := index1 t
  unfold iblk
  rw [View.read_apply]
  refine Eq.trans (b := V m c main_v2 (ix2 ⟨n, by omega⟩ l)) ?_ (rhs m c ⟨n, by omega⟩ l)
  show V m c main_v2 _ = _
  congr 1
  funext a
  apply Fin.ext
  match a with
  | ⟨0, _⟩ =>
    show win0_1.index t 0 * 2176 + 1 * j.val = n
    rw [hi.1]
    omega
  | ⟨1, _⟩ =>
    show win0_1.index t 1 * 1024 + 1 * l.val = l.val
    rw [hi.2]
    omega

theorem pay1 (x : Vec Ideal S1024x2176 .bf16) (y : Vec Ideal S2176x1024 .bf16) (r : Fin 1024) (l : Fin 1024) :
    k0_pay1 (F := Ideal) x y (ix2 r l) = ∑ j : Fin 2176, x (ix2 r j) * y (ix2 j l) := by
  simp [k0_pay1, pointwise]

theorem pay4 (s : Vec Ideal S1024x1024 .f32) (r : Fin 1024) (l : Fin 1024) :
    k0_pay4 (F := Ideal) s (ix2 r l) = s (ix2 r l) := by
  simp [k0_pay4, pointwise]

/-- Step `t`'s product: its tokens' contributions. -/
theorem step (s : ℕ) (hs : t.val % 4 = s) (r : Fin 1024) (l : Fin 1024) (q : Fin 1024) (hq : q.val = 1024 * (t.val / 4) + r.val) :
    k0_pay1 (F := Ideal) (iblk m c 0 t) (iblk m c 1 t) (ix2 r l)
      = ∑ j : Fin 2176, term (X m c) (CT m c) q l (2176 * s + j.val) := by
  rw [pay1]
  refine Finset.sum_congr rfl fun j _ => ?_
  rw [blk0 m c t r j (2176 * s + j.val) (by rw [hs]) q hq, blk1 m c t j l (2176 * s + j.val) (by rw [hs])]

/-- One tile of the result: the sum over all tokens. -/
theorem sum (k : ℕ) (h : 4 * k + 3 < cfg0.N) (r : Fin 1024) (l : Fin 1024) (q : Fin 1024) (hq : q.val = 1024 * k + r.val) :
    addf (addf (addf (k0_pay1 (F := Ideal) (iblk m c 0 ⟨4 * k + 0, by omega⟩) (iblk m c 1 ⟨4 * k + 0, by omega⟩))
      (k0_pay1 (F := Ideal) (iblk m c 0 ⟨4 * k + 1, by omega⟩) (iblk m c 1 ⟨4 * k + 1, by omega⟩)))
      (k0_pay1 (F := Ideal) (iblk m c 0 ⟨4 * k + 2, by omega⟩) (iblk m c 1 ⟨4 * k + 2, by omega⟩)))
      (k0_pay1 (F := Ideal) (iblk m c 0 ⟨4 * k + 3, h⟩) (iblk m c 1 ⟨4 * k + 3, h⟩)) (ix2 r l)
      = ∑ n ∈ Finset.range 8704, term (X m c) (CT m c) q l n := by
  show ((k0_pay1 (F := Ideal) _ _ (ix2 r l) + k0_pay1 (F := Ideal) _ _ (ix2 r l))
    + k0_pay1 (F := Ideal) _ _ (ix2 r l)) + k0_pay1 (F := Ideal) _ _ (ix2 r l) = _
  rw [step m c ⟨4 * k + 0, by omega⟩ 0 (by dsimp only; omega) r l q (by dsimp only; omega),
    step m c ⟨4 * k + 1, by omega⟩ 1 (by dsimp only; omega) r l q (by dsimp only; omega),
    step m c ⟨4 * k + 2, by omega⟩ 2 (by dsimp only; omega) r l q (by dsimp only; omega),
    step m c ⟨4 * k + 3, h⟩ 3 (by dsimp only; omega) r l q (by dsimp only; omega)]
  exact four 2176 _

/-- The kernel's result is the gradient. -/
theorem answer : Value.G2 m c = G (X m c) (CT m c) := by
  funext y
  have h0 : (y 0).val < 1024 := (y 0).isLt
  have h1 : (y 1).val < 1024 := (y 1).isLt
  have hp : Value.pt2Of y = 4 * ((y 0).val / 1024) + 3 := by
    show 4 * (1 * ((y 0).val / 1024 - 0) + 1 * ((y 1).val / 1024 - 0)) + 3 = _
    omega
  have hN : 4 * ((y 0).val / 1024) + 3 < cfg0.N := by rw [show cfg0.N = 4 from N_0]; omega
  unfold Value.G2
  rw [dif_pos (by rw [hp]; exact hN), Value.fold0_congr m c _ _ (4 * ((y 0).val / 1024) + 3) (by omega) hp,
    ← Value.outsAt0_sweep m c _ hN, tile m c _ hN]
  have hl : Value.loc2Of y = ix2 (⟨(y 0).val % 1024, Nat.mod_lt _ (by decide)⟩ : Fin 1024) (y 1) := funext fun a => Fin.ext (by
    match a with
    | ⟨0, _⟩ => rfl
    | ⟨1, _⟩ => show (y 1).val % 1024 = (y 1).val; omega)
  rw [hl]
  refine (pay4 _ _ (y 1)).trans ?_
  exact sum m c _ hN _ (y 1) (y 0) (by dsimp only; omega)

end Cert.GluDwIdeal.Answer

namespace Cert.GluDwReferenceIdeal.Answer

open Idealize.ShloMosaic Idealize.ShloMosaic.TcCoe Idealize.ShloMosaic.Tactic
open Cert.GluDwReferenceIdeal Cert.GluDwReferenceIdeal.Gen Cert.Sums

/-- The reference's result as the program composes it. -/
abbrev out (x : Vec Ideal S2x4352x1024 .bf16) (ct : Vec Ideal S2x4352x1024 .bf16) : Vec Ideal S1024x1024 .bf16 :=
  truncf (F := Ideal) .bf16 (transpose S1024x1024 [1, 0] (Host.dotGeneral (φ₁ := .f32) (φ₂ := .f32)
    dot_S2x4352x1024_S2x4352x1024_S1024x1024_01_01_2_2_n_n none (extf .f32 ct bitsLt_bf16_f32) (extf .f32 x bitsLt_bf16_f32))
    transposes_S1024x1024_S1024x1024_1_0) bitsLt_bf16_f32

theorem value (x : Vec Ideal S2x4352x1024 .bf16) (ct : Vec Ideal S2x4352x1024 .bf16) (r : Fin 1024) (l : Fin 1024) :
    out x ct (ix2 r l) = ∑ n ∈ Finset.range 8704, Cert.GluDwIdeal.Answer.term x ct r l n := by
  have ht := tokens (fun b t => x (ix3 b t r) * ct (ix3 b t l))
  refine Eq.trans ?_ ht
  refine Eq.trans (b := ∑ b : Fin 2, ∑ t : Fin 4352, ct (ix3 b t l) * x (ix3 b t r)) ?_
    (Finset.sum_congr rfl fun b _ => Finset.sum_congr rfl fun t _ => mul_comm _ _)
  unfold out
  simp [pointwise]

/-- The reference's result is the gradient. -/
theorem answer (x : Vec Ideal S2x4352x1024 .bf16) (ct : Vec Ideal S2x4352x1024 .bf16) :
    out x ct = Cert.GluDwIdeal.Answer.G x ct := by
  funext y
  rw [eq_ix2 y]
  exact value x ct _ _

end Cert.GluDwReferenceIdeal.Answer

namespace Cert.GluDw.Answer

open Idealize.ShloMosaic Idealize.ShloMosaic.TcCoe Idealize.SL.Sem

/-- The reference ends, changes no argument, and has no semaphore. -/
theorem frame_reference : Cert.quiescent_GluDwReferenceIdeal := fun m ρ _ =>
  (θ_run Cert.GluDwReferenceIdeal.defs _ _).mono (fun r h => ⟨fun c => (h c).2,
      Idealize.ShloMosaic.sem_eq_zero_of_no_sems (by decide) r.2⟩)
    (Cert.GluDwReferenceIdeal.Value.run (F := Ideal) m ρ)

/-- From equal arguments the kernel and the reference end with equal results. -/
theorem algebraic : Cert.algebraic_GluDwIdeal_GluDwReferenceIdeal := by
  intro m g m' g' _ hagree
  refine ⟨fun c => Cert.GluDwIdeal.Answer.G (Cert.GluDwIdeal.Answer.X m c) (Cert.GluDwIdeal.Answer.CT m c),
    (θ_run Cert.GluDwIdeal.defs _ _).mono (fun r h c => ⟨(h c).1.trans (Cert.GluDwIdeal.Answer.answer m c), (h c).2⟩)
      (Cert.GluDwIdeal.Value.run (F := Ideal) m g), ?_⟩
  refine (θ_run Cert.GluDwReferenceIdeal.defs _ _).mono (fun r h c => ⟨(h c).1.trans ?_, (h c).2⟩)
    (Cert.GluDwReferenceIdeal.Value.run (F := Ideal) m' g')
  obtain ⟨a0, a1, a2⟩ := hagree c
  rw [a0, a2]
  exact Cert.GluDwReferenceIdeal.Answer.answer _ _

end Cert.GluDw.Answer

end
-- ==== Proof.WIn.lean ====
module

public import proofs.«01_k».proof.Defs
public import proofs.«01_k».proof.Proof.Sums
public import proofs.«01_k».proof.Proof.Tiles
public import proofs.«01_k».proof.Proof.Gen.WInIdeal.Value
public import proofs.«01_k».proof.Proof.Gen.WInReferenceIdeal.Run
public import Idealize.ShloMosaic.Lib.StableHlo.ReadAt

@[expose] public section

/-!
The input projection: what the tiled product leaves, element by element, is the sum over all features of the input,
and so is the reference's.
-/

noncomputable section

namespace Cert.WInIdeal.Answer

open Idealize.ShloMosaic Idealize.ShloMosaic.TcCoe Idealize.ShloMosaic.Tactic
open Cert.WInIdeal Cert.WInIdeal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

theorem hz3 : (![0, 0, 0] : Fin 3 → Nat) = fun _ => 0 := funext fun a => by fin_cases a <;> rfl

/-- The input and the weight, as launched. -/
abbrev X : Vec Ideal S2x4352x1024 .bf16 := m ((c : Thread nD τ).loc main_arg0)
abbrev Wt : Vec Ideal S1024x3072 .f32 := m ((c : Thread nD τ).loc main_arg1)

/-- The product at token `n` and column `l`. -/
def cell (x : Vec Ideal S2x4352x1024 .bf16) (w : Vec Ideal S1024x3072 .f32) (n : Fin 8704) (l : Fin 3072) : EReal :=
  ∑ k : Fin 1024, x (ix3 (half n) (place n) k) * w (ix2 k l)

/-- The product. -/
def G (x : Vec Ideal S2x4352x1024 .bf16) (w : Vec Ideal S1024x3072 .f32) : Vec Ideal S8704x3072 .f32 := fun y =>
  cell x w (y 0) (y 1)

theorem lhs (n : Fin 8704) (k : Fin 1024) : V m c main_v0 (ix2 n k) = X m c (ix3 (half n) (place n) k) := by
  rw [half_eq n n.isLt]
  unfold V
  after_reads_at

theorem rhs (q : Fin 8) (k : Fin 1024) (j : Fin 384) (l : Fin 3072) (hl : l.val = 384 * q.val + j.val) :
    V m c main_v3 (ix3 q k j) = Wt m c (ix2 k l) := by
  have he : l = ⟨q.val * 384 + j.val, by omega⟩ := Fin.ext (by dsimp only; omega)
  unfold V
  after_reads_at
  rw [he]

variable (t : Fin cfg0.N)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem xsize2 : ∀ t : Fin cfg0.N, win0_2.xsize (grid0.coords t) 0 = 1088 ∧ win0_2.xsize (grid0.coords t) 1 = 384 :=
  (by decide +kernel : ∀ t : Fin grid0.N, win0_2.xsize (grid0.coords t) 0 = 1088 ∧ win0_2.xsize (grid0.coords t) 1 = 384)

/-- Step `t`'s block of the input. -/
theorem blk0 (r : Fin 1088) (k : Fin 1024) (n : Fin 8704) (hn : n.val = 1088 * (t.val / 8) + r.val) :
    (iblk m c 0 t : Vec Ideal S1088x1024 .bf16) (ix2 r k) = X m c (ix3 (half n) (place n) k) := by
  have hi := index0 t
  unfold iblk
  rw [View.read_apply]
  refine Eq.trans (b := V m c main_v0 (ix2 n k)) (congrArg (V m c main_v0) (at2 _ n k ?_ ?_)) (lhs m c n k)
  · show win0_0.index t 0 * 1088 + 1 * r.val = n.val
    rw [hi.1]
    omega
  · show win0_0.index t 1 * 1024 + 1 * k.val = k.val
    rw [hi.2]
    omega

/-- Step `t`'s column shard of the weight. -/
theorem blk1 (k : Fin 1024) (j : Fin 384) (l : Fin 3072) (hl : l.val = 384 * (t.val % 8) + j.val) :
    (iblk m c 1 t : Vec Ideal S1x1024x384 .bf16) (ix3 (0 : Fin 1) k j) = Wt m c (ix2 k l) := by
  have hi := index1 t
  unfold iblk
  rw [View.read_apply]
  refine Eq.trans (b := V m c main_v3 (ix3 (⟨t.val % 8, Nat.mod_lt _ (by decide)⟩ : Fin 8) k j))
    (congrArg (V m c main_v3) (at3 _ _ k j ?_ ?_ ?_)) (rhs m c _ k j l hl)
  · show win0_1.index t 0 * 1 + 1 * 0 = t.val % 8
    rw [hi.1]
    omega
  · show win0_1.index t 1 * 1024 + 1 * k.val = k.val
    rw [hi.2.1]
    omega
  · show win0_1.index t 2 * 384 + 1 * j.val = j.val
    rw [hi.2.2]
    omega

theorem pay1 (x : Vec Ideal S1088x1024 .bf16) (y : Vec Ideal S1x1024x384 .bf16) (r : Fin 1088) (j : Fin 384) :
    k0_pay1 (F := Ideal) x y (ix2 r j) = ∑ k : Fin 1024, x (ix2 r k) * y (ix3 (0 : Fin 1) k j) := by
  simp [k0_pay1, pointwise]

/-- What a step writes, from its blocks. -/
theorem wrote (x : Vec Ideal S1088x1024 .bf16) (y : Vec Ideal S1x1024x384 .bf16) : out0_2 x y = k0_pay1 (F := Ideal) x y := by
  unfold out0_2
  rw [View.canon_unit_zero hz2, View.ld_unit_zero (S := S1088x1024) hz2, View.ld_unit_zero (S := S1x1024x384) hz3]

/-- Step `t`'s product: its block of the product. -/
theorem step (r : Fin 1088) (j : Fin 384) (n : Fin 8704) (hn : n.val = 1088 * (t.val / 8) + r.val) (l : Fin 3072)
    (hl : l.val = 384 * (t.val % 8) + j.val) :
    k0_pay1 (F := Ideal) (iblk m c 0 t) (iblk m c 1 t) (ix2 r j) = cell (X m c) (Wt m c) n l := by
  rw [pay1]
  unfold cell
  refine Finset.sum_congr rfl fun k _ => ?_
  rw [blk0 m c t r k n hn, blk1 m c t k j l hl]

/-- The block at a write-back is its block of the product. -/
theorem flushed (_ : (cfg0.win 2).flush t = true) :
    (dats m 0 c).flushed 2 t = ((cfg0.win 2).blk t).view.read (Elt Ideal) (G (X m c) (Wt m c)) := by
  have hi := index2 t
  have ht : t.val < 64 := lt_of_lt_of_eq t.isLt N_0
  refine funext fun (j : (⟨2, ![1088, 384]⟩ : Shape).Idx) => ?_
  rw [View.read_apply]
  obtain ⟨r, l, rfl⟩ : ∃ (r : Fin 1088) (l : Fin 384), j = ix2 r l := ⟨j 0, j 1, eq_ix2 j⟩
  refine Eq.trans (b := k0_pay1 (F := Ideal) (iblk m c 0 t) (iblk m c 1 t) (ix2 r l)) ?_ ((step m c t r l
    ⟨1088 * (t.val / 8) + r.val, by omega⟩ rfl ⟨384 * (t.val % 8) + l.val, by omega⟩ rfl).trans ?_)
  · rw [Value.flushed2, wrote]
    rfl
  · refine congrArg (G (X m c) (Wt m c)) (at2 (((cfg0.win 2).blk t).view.emb (ix2 r l)) _ _ ?_ ?_).symm
    · show win0_2.index t 0 * 1088 + 1 * r.val = 1088 * (t.val / 8) + r.val
      rw [hi.1]
      omega
    · show win0_2.index t 1 * 384 + 1 * l.val = 384 * (t.val % 8) + l.val
      rw [hi.2]
      omega

/-- The kernel's result is the product. -/
theorem answer : (dats m 0 c).arrAt 2 cfg0.N = G (X m c) (Wt m c) :=
  (dats m 0 c).arrAt_eq_of_cover 2 (G (X m c) (Wt m c)) (flushed m c) fun i => by
    have h0 : (i 0 : Nat) < 8704 := (i 0).isLt
    have h1 : (i 1 : Nat) < 3072 := (i 1).isLt
    obtain ⟨t, ht⟩ : ∃ t : Fin cfg0.N, t.val = 8 * ((i 0).val / 1088) + (i 1).val / 384 :=
      ⟨⟨8 * ((i 0).val / 1088) + (i 1).val / 384, lt_of_lt_of_eq (by omega) N_0.symm⟩, rfl⟩
    have hi := index2 t
    have hx := xsize2 t
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 1088 ≤ (i 0 : Nat) ∧ (i 0 : Nat) < win0_2.index t 0 * 1088 + win0_2.xsize (grid0.coords t) 0
      rw [hi.1, hx.1]
      omega
    | ⟨1, _⟩ =>
      show win0_2.index t 1 * 384 ≤ (i 1 : Nat) ∧ (i 1 : Nat) < win0_2.index t 1 * 384 + win0_2.xsize (grid0.coords t) 1
      rw [hi.2, hx.2]
      omega

end Cert.WInIdeal.Answer

namespace Cert.WInReferenceIdeal.Answer

open Idealize.ShloMosaic Idealize.ShloMosaic.TcCoe Idealize.ShloMosaic.Tactic
open Cert.WInReferenceIdeal Cert.WInReferenceIdeal.Gen Cert.Sums

/-- The reference's result as the program composes it. -/
abbrev out (x : Vec Ideal S2x4352x1024 .bf16) (w : Vec Ideal S1024x3072 .f32) : Vec Ideal S8704x3072 .f32 :=
  shapeCast _ (Host.dotGeneral (F := Ideal) (φ₁ := .f32) (φ₂ := .f32) dot_S2x4352x1024_S1024x3072_S2x4352x3072_2_0_01_1_n_n none
    (extf .f32 x bitsLt_bf16_f32) w) shapeCasts_S2x4352x3072_S8704x3072

theorem value (x : Vec Ideal S2x4352x1024 .bf16) (w : Vec Ideal S1024x3072 .f32) (n : Fin 8704) (l : Fin 3072) :
    out x w (ix2 n l) = Cert.WInIdeal.Answer.cell x w n l := by
  unfold out Cert.WInIdeal.Answer.cell
  rw [half_eq n n.isLt]
  simp [pointwise]

end Cert.WInReferenceIdeal.Answer

namespace Cert.WIn.Answer

open Idealize.ShloMosaic Idealize.ShloMosaic.TcCoe Idealize.SL.Sem

/-- The reference ends, changes no argument, and has no semaphore. -/
theorem frame_reference : Cert.quiescent_WInReferenceIdeal := fun m ρ _ =>
  (θ_run Cert.WInReferenceIdeal.defs _ _).mono (fun r h => ⟨fun c => (h c).2,
      Idealize.ShloMosaic.sem_eq_zero_of_no_sems (by decide) r.2⟩)
    (Cert.WInReferenceIdeal.Value.run (F := Ideal) m ρ)

open Cert.WInIdeal.Answer in
/-- From equal arguments the kernel and the reference end with equal results. -/
theorem algebraic : Cert.algebraic_WInIdeal_WInReferenceIdeal := by
  intro m g m' g' _ hagree
  refine ⟨fun c => G (X m c) (Wt m c),
    (θ_run Cert.WInIdeal.defs _ _).mono (fun r h c => ⟨(h c).1.trans (answer m c), (h c).2⟩)
      (Cert.WInIdeal.Value.run_blocks (F := Ideal) m g), ?_⟩
  refine (θ_run Cert.WInReferenceIdeal.defs _ _).mono (fun r h c => ⟨(h c).1.trans ?_, (h c).2⟩)
    (Cert.WInReferenceIdeal.Value.run (F := Ideal) m' g')
  obtain ⟨a0, a1⟩ := hagree c
  rw [a0, a1]
  funext y
  rw [eq_ix2 y]
  exact Cert.WInReferenceIdeal.Answer.value _ _ _ _

end Cert.WIn.Answer

end
-- ==== Proof.Glu.lean ====
module

public import proofs.«01_k».proof.Defs
public import proofs.«01_k».proof.Proof.Sums
public import proofs.«01_k».proof.Proof.Tiles
public import proofs.«01_k».proof.Proof.Gen.GluIdeal.Value
public import proofs.«01_k».proof.Proof.Gen.GluReferenceIdeal.Run
public import Idealize.ShloMosaic.Lib.StableHlo.ReadAt

@[expose] public section

/-!
The gated linear unit's product: what the tiled product leaves, element by element, is the sum over all features of the
input and the bias, and so is the reference's.
-/

noncomputable section

namespace Cert.GluIdeal.Answer

open Idealize.ShloMosaic Idealize.ShloMosaic.TcCoe Idealize.ShloMosaic.Tactic
open Cert.GluIdeal Cert.GluIdeal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

/-- The input, the weight and the bias, as launched. -/
abbrev X : Vec Ideal S2x4352x1024 .bf16 := m ((c : Thread nD τ).loc main_arg0)
abbrev Wt : Vec Ideal S1024x1024 .f32 := m ((c : Thread nD τ).loc main_arg1)
abbrev Bi : Vec Ideal S1024 .f32 := m ((c : Thread nD τ).loc main_arg2)

/-- The product with its bias at token `n` and column `l`. -/
def cell (x : Vec Ideal S2x4352x1024 .bf16) (w : Vec Ideal S1024x1024 .f32) (b : Vec Ideal S1024 .f32) (n : Fin 8704) (l : Fin 1024) : EReal :=
  (∑ k : Fin 1024, x (ix3 (half n) (place n) k) * w (ix2 k l)) + b (ix1 l)

/-- The product with its bias. -/
def G (x : Vec Ideal S2x4352x1024 .bf16) (w : Vec Ideal S1024x1024 .f32) (b : Vec Ideal S1024 .f32) : Vec Ideal S8704x1024 .f32 := fun y =>
  cell x w b (y 0) (y 1)

theorem op0 (n : Fin 8704) (k : Fin 1024) : V m c main_v0 (ix2 n k) = X m c (ix3 (half n) (place n) k) := by
  rw [half_eq n n.isLt]
  unfold V
  after_reads_at

theorem op1 (k : Fin 1024) (l : Fin 1024) : V m c main_v1 (ix2 k l) = Wt m c (ix2 k l) := by
  unfold V
  after_reads_at

theorem op2 (l : Fin 1024) : V m c main_v2 (ix2 (0 : Fin 1) l) = Bi m c (ix1 l) := by
  unfold V
  after_reads_at

variable (t : Fin cfg0.N)

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

theorem xsize3 : ∀ t : Fin cfg0.N, win0_3.xsize (grid0.coords t) 0 = 1088 ∧ win0_3.xsize (grid0.coords t) 1 = 1024 :=
  (by decide +kernel : ∀ t : Fin grid0.N, win0_3.xsize (grid0.coords t) 0 = 1088 ∧ win0_3.xsize (grid0.coords t) 1 = 1024)

/-- Step `t`'s block of the input. -/
theorem blk0 (r : Fin 1088) (k : Fin 1024) (n : Fin 8704) (hn : n.val = 1088 * t.val + r.val) :
    (iblk m c 0 t : Vec Ideal S1088x1024 .bf16) (ix2 r k) = X m c (ix3 (half n) (place n) k) := by
  have hi := index0 t
  unfold iblk
  rw [View.read_apply]
  refine Eq.trans (b := V m c main_v0 (ix2 n k)) (congrArg (V m c main_v0) (at2 _ n k ?_ ?_)) (op0 m c n k)
  · show win0_0.index t 0 * 1088 + 1 * r.val = n.val
    rw [hi.1]
    omega
  · show win0_0.index t 1 * 1024 + 1 * k.val = k.val
    rw [hi.2]
    omega

/-- Every step's weight. -/
theorem blk1 (k : Fin 1024) (l : Fin 1024) : (iblk m c 1 t : Vec Ideal S1024x1024 .bf16) (ix2 k l) = Wt m c (ix2 k l) := by
  have hi := index1 t
  unfold iblk
  rw [View.read_apply]
  refine Eq.trans (b := V m c main_v1 (ix2 k l)) (congrArg (V m c main_v1) (at2 _ k l ?_ ?_)) (op1 m c k l)
  · show win0_1.index t 0 * 1024 + 1 * k.val = k.val
    rw [hi.1]
    omega
  · show win0_1.index t 1 * 1024 + 1 * l.val = l.val
    rw [hi.2]
    omega

/-- Every step's bias. -/
theorem blk2 (l : Fin 1024) : (iblk m c 2 t : Vec Ideal S1x1024 .f32) (ix2 (0 : Fin 1) l) = Bi m c (ix1 l) := by
  have hi := index2 t
  unfold iblk
  rw [View.read_apply]
  refine Eq.trans (b := V m c main_v2 (ix2 (0 : Fin 1) l)) (congrArg (V m c main_v2) (at2 _ (0 : Fin 1) l ?_ ?_)) (op2 m c l)
  · show win0_2.index t 0 * 1 + 1 * 0 = 0
    rw [hi.1]
  · show win0_2.index t 1 * 1024 + 1 * l.val = l.val
    rw [hi.2]
    omega

theorem pay1 (x : Vec Ideal S1088x1024 .bf16) (y : Vec Ideal S1024x1024 .bf16) (z : Vec Ideal S1x1024 .f32) (r : Fin 1088) (j : Fin 1024) :
    k0_pay1 (F := Ideal) x y z (ix2 r j) = (∑ k : Fin 1024, x (ix2 r k) * y (ix2 k j)) + z (ix2 (0 : Fin 1) j) := by
  simp [k0_pay1, pointwise]

/-- What a step writes, from its blocks. -/
theorem wrote (x : Vec Ideal S1088x1024 .bf16) (y : Vec Ideal S1024x1024 .bf16) (z : Vec Ideal S1x1024 .f32) :
    out0_3 x y z = k0_pay1 (F := Ideal) x y z := by
  unfold out0_3
  rw [View.canon_unit_zero hz2, View.ld_unit_zero (S := S1088x1024) hz2, View.ld_unit_zero (S := S1024x1024) hz2,
    View.ld_unit_zero (S := S1x1024) hz2]

/-- Step `t`'s product: its block of the product. -/
theorem step (r : Fin 1088) (j : Fin 1024) (n : Fin 8704) (hn : n.val = 1088 * t.val + r.val) :
    k0_pay1 (F := Ideal) (iblk m c 0 t) (iblk m c 1 t) (iblk m c 2 t) (ix2 r j) = cell (X m c) (Wt m c) (Bi m c) n j := by
  rw [pay1, blk2 m c t j]
  unfold cell
  refine congrArg (· + _) (Finset.sum_congr rfl fun k _ => ?_)
  rw [blk0 m c t r k n hn, blk1 m c t k j]

/-- The block at a write-back is its block of the product. -/
theorem flushed (_ : (cfg0.win 3).flush t = true) :
    (dats m 0 c).flushed 3 t = ((cfg0.win 3).blk t).view.read (Elt Ideal) (G (X m c) (Wt m c) (Bi m c)) := by
  have hi := index3 t
  have ht : t.val < 8 := lt_of_lt_of_eq t.isLt N_0
  refine funext fun (j : (⟨2, ![1088, 1024]⟩ : Shape).Idx) => ?_
  rw [View.read_apply]
  obtain ⟨r, l, rfl⟩ : ∃ (r : Fin 1088) (l : Fin 1024), j = ix2 r l := ⟨j 0, j 1, eq_ix2 j⟩
  refine Eq.trans (b := k0_pay1 (F := Ideal) (iblk m c 0 t) (iblk m c 1 t) (iblk m c 2 t) (ix2 r l)) ?_ ((step m c t r l
    ⟨1088 * t.val + r.val, by omega⟩ rfl).trans ?_)
  · rw [Value.flushed3, wrote]
    rfl
  · show G (X m c) (Wt m c) (Bi m c) (ix2 (⟨1088 * t.val + r.val, by omega⟩ : Fin 8704) l) = _
    generalize G (X m c) (Wt m c) (Bi m c) = g
    refine congrArg g (at2 (((cfg0.win 3).blk t).view.emb (ix2 r l)) _ _ ?_ ?_).symm
    · show win0_3.index t 0 * 1088 + 1 * r.val = 1088 * t.val + r.val
      rw [hi.1]
      omega
    · show win0_3.index t 1 * 1024 + 1 * l.val = l.val
      rw [hi.2]
      omega

/-- The kernel's result is the product with its bias. -/
theorem answer : (dats m 0 c).arrAt 3 cfg0.N = G (X m c) (Wt m c) (Bi m c) :=
  (dats m 0 c).arrAt_eq_of_cover 3 (G (X m c) (Wt m c) (Bi m c)) (flushed m c) fun i => by
    have h0 : (i 0 : Nat) < 8704 := (i 0).isLt
    have h1 : (i 1 : Nat) < 1024 := (i 1).isLt
    obtain ⟨t, ht⟩ : ∃ t : Fin cfg0.N, t.val = (i 0).val / 1088 :=
      ⟨⟨(i 0).val / 1088, lt_of_lt_of_eq (by omega) N_0.symm⟩, rfl⟩
    have hi := index3 t
    have hx := xsize3 t
    refine ⟨t, flush0_3 t, ?_⟩
    show i ∈ ((View.whole main_v3).slice (win0_3.rect t)).set
    rw [View.set_slice_whole, Rect.mem_set_unit]
    intro a
    match a with
    | ⟨0, _⟩ =>
      show win0_3.index t 0 * 1088 ≤ (i 0 : Nat) ∧ (i 0 : Nat) < win0_3.index t 0 * 1088 + win0_3.xsize (grid0.coords t) 0
      rw [hi.1, hx.1]
      omega
    | ⟨1, _⟩ =>
      show win0_3.index t 1 * 1024 ≤ (i 1 : Nat) ∧ (i 1 : Nat) < win0_3.index t 1 * 1024 + win0_3.xsize (grid0.coords t) 1
      rw [hi.2, hx.2]
      omega

end Cert.GluIdeal.Answer

namespace Cert.GluReferenceIdeal.Answer

open Idealize.ShloMosaic Idealize.ShloMosaic.TcCoe Idealize.ShloMosaic.Tactic
open Cert.GluReferenceIdeal Cert.GluReferenceIdeal.Gen Cert.Sums

/-- The reference's result as the program composes it. -/
abbrev out (x : Vec Ideal S2x4352x1024 .bf16) (w : Vec Ideal S1024x1024 .f32) (b : Vec Ideal S1024 .f32) : Vec Ideal S8704x1024 .f32 :=
  shapeCast _ (addf (F := Ideal) (φ := .f32) (Host.dotGeneral (φ₁ := .f32) (φ₂ := .f32)
    dot_S2x4352x1024_S1024x1024_S2x4352x1024_2_0_01_1_n_n none (extf .f32 x bitsLt_bf16_f32) w)
    (broadcastInDim S2x4352x1024 ![0, 1, 2] bcast_S1x1x1024_S2x4352x1024_0_1_2
      (broadcastInDim S1x1x1024 ![2] bcast_S1024_S1x1x1024_2 b))) shapeCasts_S2x4352x1024_S8704x1024

theorem value (x : Vec Ideal S2x4352x1024 .bf16) (w : Vec Ideal S1024x1024 .f32) (b : Vec Ideal S1024 .f32) (n : Fin 8704) (l : Fin 1024) :
    out x w b (ix2 n l) = Cert.GluIdeal.Answer.cell x w b n l := by
  unfold out Cert.GluIdeal.Answer.cell
  rw [half_eq n n.isLt]
  simp [pointwise]

end Cert.GluReferenceIdeal.Answer

namespace Cert.Glu.Answer

open Idealize.ShloMosaic Idealize.ShloMosaic.TcCoe Idealize.SL.Sem

/-- The reference ends, changes no argument, and has no semaphore. -/
theorem frame_reference : Cert.quiescent_GluReferenceIdeal := fun m ρ _ =>
  (θ_run Cert.GluReferenceIdeal.defs _ _).mono (fun r h => ⟨fun c => (h c).2,
      Idealize.ShloMosaic.sem_eq_zero_of_no_sems (by decide) r.2⟩)
    (Cert.GluReferenceIdeal.Value.run (F := Ideal) m ρ)

open Cert.GluIdeal.Answer in
/-- From equal arguments the kernel and the reference end with equal results. -/
theorem algebraic : Cert.algebraic_GluIdeal_GluReferenceIdeal := by
  intro m g m' g' _ hagree
  refine ⟨fun c => G (X m c) (Wt m c) (Bi m c),
    (θ_run Cert.GluIdeal.defs _ _).mono (fun r h c => ⟨(h c).1.trans (answer m c), (h c).2⟩)
      (Cert.GluIdeal.Value.run_blocks (F := Ideal) m g), ?_⟩
  refine (θ_run Cert.GluReferenceIdeal.defs _ _).mono (fun r h c => ⟨(h c).1.trans ?_, (h c).2⟩)
    (Cert.GluReferenceIdeal.Value.run (F := Ideal) m' g')
  obtain ⟨a0, a1, a2⟩ := hagree c
  rw [a0, a1, a2]
  funext y
  rw [eq_ix2 y]
  exact Cert.GluReferenceIdeal.Answer.value _ _ _ _ _

end Cert.Glu.Answer

end
-- ==== Proof.WOut.lean ====
module

public import proofs.«01_k».proof.Defs
public import proofs.«01_k».proof.Proof.Sums
public import proofs.«01_k».proof.Proof.Tiles
public import proofs.«01_k».proof.Proof.Gen.WOutIdeal.Value
public import proofs.«01_k».proof.Proof.Gen.WOutReferenceIdeal.Run
public import Idealize.ShloMosaic.Lib.StableHlo.ReadAt

@[expose] public section

/-!
The output projection: what the tiled product leaves, element by element, is the sum over all features and the bias,
and so is the reference's.
-/

set_option maxRecDepth 16384

noncomputable section

namespace Cert.WOutIdeal.Answer

open Idealize.ShloMosaic Idealize.ShloMosaic.TcCoe Idealize.ShloMosaic.Tactic
open Cert.WOutIdeal Cert.WOutIdeal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

section Cases

variable (i : grid0.Coords) (a3 : Memref sig .tc .vmem S1088x1024 .bf16) (h3 : a3.IsWhole)
  (a4 : Memref sig .tc .vmem S1024x1024 .bf16) (h4 : a4.IsWhole) (a5 : Memref sig .tc .vmem S1x1024 .f32) (h5 : a5.IsWhole)
  (a6 : Memref sig .tc .vmem S1088x1024 .f32) (h6 : a6.IsWhole) (a7 : Memref sig .tc .vmem S1088x1024 .f32) (h7 : a7.IsWhole)
  (x : Vec Ideal S1088x1024 .bf16) (y : Vec Ideal S1024x1024 .bf16) (z : Vec Ideal S1x1024 .f32) (s : Vec Ideal S1088x1024 .f32)

/-- The first step of a tile leaves the first product. -/
theorem sA (h0 : cond0_0 i) (h1 : ¬cond0_1 i) (h2 : ¬cond0_2 i) :
    sout0_A_0 c i a3 h3 a4 h4 a5 h5 a6 h6 a7 h7 h0 h1 h2 x y z = k0_pay1 x y := by
  unfold sout0_A_0
  rw [View.read_writes_eq_canon _ _ _ (scover0_A_0 c i a3 h3 a4 h4 a5 h5 a6 h6 a7 h7 h0 h1 h2 x y z)]
  unfold kernelRun0_A
  dsimp only
  rw [View.canon_unit_zero hz2]
  unfold k0_pay2
  simp only [View.readAt_eq_ld, h3.read_unread, h4.read_unread, View.ld_unit_zero (S := S1088x1024) hz2,
    View.ld_unit_zero (S := S1024x1024) hz2, shapeCast_self]

/-- The last step adds its product and hands over the sum with the bias. -/
theorem oL (h0 : ¬cond0_0 i) (h1 : cond0_1 i) (h2 : cond0_2 i) :
    out0_B_3 c i a3 h3 a4 h4 a5 h5 a6 h6 a7 h7 h0 h1 h2 x y z s = k0_pay4 (addf s (k0_pay1 x y)) z := by
  unfold out0_B_3
  rw [View.read_writes_eq_canon _ _ _ (cover0_B_3 c i a3 h3 a4 h4 a5 h5 a6 h6 a7 h7 h0 h1 h2 x y z s)]
  unfold kernelRun0_B
  dsimp only
  sl_unfold_words
  rw [View.canon_unit_zero hz2, View.readCov_unit_zero (S := S1088x1024) _ hz2]
  unfold k0_pay3
  simp only [View.readAt_eq_ld, h3.read_unread, h4.read_unread, h5.read_unread, h7.read_unread,
    View.ld_unit_zero (S := S1088x1024) hz2, View.ld_unit_zero (S := S1024x1024) hz2, View.ld_unit_zero (S := S1x1024) hz2, shapeCast_self]

end Cases

/-- The product of step `t`'s blocks. -/
abbrev prod (t : Fin cfg0.N) : FVec Ideal S1088x1024 .f32 := k0_pay1 (F := Ideal) (iblk m c 0 t) (iblk m c 1 t)

/-- After the two steps of tile `r`: the products added in order, and the bias. -/
theorem tile (r : ℕ) (h : 2 * r + 1 < cfg0.N) :
    (outsAt0 m c (2 * r + 1) h).1
      = k0_pay4 (addf (prod m c ⟨2 * r + 0, by omega⟩) (prod m c ⟨2 * r + 1, h⟩)) (iblk m c 2 ⟨2 * r + 1, h⟩) := by
  rw [outsAt0_B m c ⟨2 * r + 1, h⟩ (by dsimp only; omega) (by dsimp only; omega) (by dsimp only; omega)]
  dsimp only
  rw [oL]
  have e0 := outsAt0_A m c ⟨2 * r + 0, by omega⟩ (by dsimp only; omega) (by dsimp only; omega) (by dsimp only; omega)
  rw [sA] at e0
  dsimp only at e0
  rw [show (outsAt0 m c (2 * r + 1 - 1) (by omega)).2 = _ from congrArg Prod.snd e0]

/-- The left factor, the weight and the bias, as launched. -/
abbrev X : Vec Ideal S2x4352x2048 .bf16 := m ((c : Thread nD τ).loc main_arg0)
abbrev Wt : Vec Ideal S2048x1024 .f32 := m ((c : Thread nD τ).loc main_arg1)
abbrev Bi : Vec Ideal S1024 .f32 := m ((c : Thread nD τ).loc main_arg2)

/-- Feature `k`'s contribution to the product at token `n` and column `l`. -/
abbrev term (x : Vec Ideal S2x4352x2048 .bf16) (w : Vec Ideal S2048x1024 .f32) (n : Fin 8704) (l : Fin 1024) (k : ℕ) : EReal :=
  x (ix3 (half n) (place n) ⟨k % 2048, Nat.mod_lt _ (by decide)⟩) * w (ix2 ⟨k % 2048, Nat.mod_lt _ (by decide)⟩ l)

/-- The product with its bias. -/
def G (x : Vec Ideal S2x4352x2048 .bf16) (w : Vec Ideal S2048x1024 .f32) (b : Vec Ideal S1024 .f32) : Vec Ideal S8704x1024 .f32 := fun y =>
  (∑ k ∈ Finset.range 2048, term x w (y 0) (y 1) k) + b (ix1 (y 1))

theorem op0 (n : Fin 8704) (k : Fin 2048) : V m c main_v0 (ix2 n k) = X m c (ix3 (half n) (place n) k) := by
  rw [half_eq n n.isLt]
  unfold V
  after_reads_at

theorem op1 (k : Fin 2048) (l : Fin 1024) : V m c main_v1 (ix2 k l) = Wt m c (ix2 k l) := by
  unfold V
  after_reads_at

theorem op2 (l : Fin 1024) : V m c main_v2 (ix2 (0 : Fin 1) l) = Bi m c (ix1 l) := by
  unfold V
  after_reads_at

variable (t : Fin cfg0.N)

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

theorem index1 : ∀ t : Fin cfg0.N, win0_1.index t 0 = t.val % 2 ∧ win0_1.index t 1 = 0 :=
  (by decide +kernel : ∀ t : Fin grid0.N, win0_1.index t 0 = t.val % 2 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

/-- Step `t`'s block of the left factor. -/
theorem blk0 (r : Fin 1088) (j : Fin 1024) (n : Fin 8704) (hn : n.val = 1088 * (t.val / 2) + r.val) (k : Fin 2048)
    (hk : k.val = 1024 * (t.val % 2) + j.val) :
    (iblk m c 0 t : Vec Ideal S1088x1024 .bf16) (ix2 r j) = X m c (ix3 (half n) (place n) k) := by
  have hi := index0 t
  unfold iblk
  rw [View.read_apply]
  refine Eq.trans (b := V m c main_v0 (ix2 n k)) (congrArg (V m c main_v0) (at2 _ n k ?_ ?_)) (op0 m c n k)
  · show win0_0.index t 0 * 1088 + 1 * r.val = n.val
    rw [hi.1]
    omega
  · show win0_0.index t 1 * 1024 + 1 * j.val = k.val
    rw [hi.2]
    omega

/-- Step `t`'s block of the weight. -/
theorem blk1 (j : Fin 1024) (l : Fin 1024) (k : Fin 2048) (hk : k.val = 1024 * (t.val % 2) + j.val) :
    (iblk m c 1 t : Vec Ideal S1024x1024 .bf16) (ix2 j l) = Wt m c (ix2 k l) := by
  have hi := index1 t
  unfold iblk
  rw [View.read_apply]
  refine Eq.trans (b := V m c main_v1 (ix2 k l)) (congrArg (V m c main_v1) (at2 _ k l ?_ ?_)) (op1 m c k l)
  · show win0_1.index t 0 * 1024 + 1 * j.val = k.val
    rw [hi.1]
    omega
  · show win0_1.index t 1 * 1024 + 1 * l.val = l.val
    rw [hi.2]
    omega

/-- Every step's bias. -/
theorem blk2 (l : Fin 1024) : (iblk m c 2 t : Vec Ideal S1x1024 .f32) (ix2 (0 : Fin 1) l) = Bi m c (ix1 l) := by
  have hi := index2 t
  unfold iblk
  rw [View.read_apply]
  refine Eq.trans (b := V m c main_v2 (ix2 (0 : Fin 1) l)) (congrArg (V m c main_v2) (at2 _ (0 : Fin 1) l ?_ ?_)) (op2 m c l)
  · show win0_2.index t 0 * 1 + 1 * 0 = 0
    rw [hi.1]
  · show win0_2.index t 1 * 1024 + 1 * l.val = l.val
    rw [hi.2]
    omega

theorem pay1 (x : Vec Ideal S1088x1024 .bf16) (y : Vec Ideal S1024x1024 .bf16) (r : Fin 1088) (l : Fin 1024) :
    k0_pay1 (F := Ideal) x y (ix2 r l) = ∑ j : Fin 1024, x (ix2 r j) * y (ix2 j l) := by
  simp [k0_pay1, pointwise]

theorem pay4 (s : Vec Ideal S1088x1024 .f32) (z : Vec Ideal S1x1024 .f32) (r : Fin 1088) (l : Fin 1024) :
    k0_pay4 (F := Ideal) s z (ix2 r l) = s (ix2 r l) + z (ix2 (0 : Fin 1) l) := by
  simp [k0_pay4, pointwise]

/-- Step `t`'s product: its features' contributions. -/
theorem step (s : ℕ) (hs : t.val % 2 = s) (r : Fin 1088) (l : Fin 1024) (n : Fin 8704) (hn : n.val = 1088 * (t.val / 2) + r.val) :
    prod m c t (ix2 r l) = ∑ j : Fin 1024, term (X m c) (Wt m c) n l (1024 * s + j.val) := by
  have hlt := Nat.mod_lt t.val (show 0 < 2 by decide)
  unfold prod
  rw [pay1]
  refine Finset.sum_congr rfl fun j _ => ?_
  have hm : (1024 * s + j.val) % 2048 = 1024 * (t.val % 2) + j.val := by omega
  rw [blk0 m c t r j n hn ⟨(1024 * s + j.val) % 2048, Nat.mod_lt _ (by decide)⟩ hm,
    blk1 m c t j l ⟨(1024 * s + j.val) % 2048, Nat.mod_lt _ (by decide)⟩ hm]

/-- One tile of the result: the sum over all features. -/
theorem sum (q : ℕ) (h : 2 * q + 1 < cfg0.N) (r : Fin 1088) (l : Fin 1024) (n : Fin 8704) (hn : n.val = 1088 * q + r.val) :
    (addf (prod m c ⟨2 * q + 0, by omega⟩) (prod m c ⟨2 * q + 1, h⟩)) (ix2 r l)
      = ∑ k ∈ Finset.range 2048, term (X m c) (Wt m c) n l k := by
  show prod m c _ (ix2 r l) + prod m c _ (ix2 r l) = _
  rw [step m c ⟨2 * q + 0, by omega⟩ 0 (by dsimp only; omega) r l n (by dsimp only; omega),
    step m c ⟨2 * q + 1, h⟩ 1 (by dsimp only; omega) r l n (by dsimp only; omega)]
  exact two 1024 _

/-- The kernel's result is the product with its bias. -/
theorem answer : Value.G3 m c = G (X m c) (Wt m c) (Bi m c) := by
  funext y
  have h0 : (y 0).val < 8704 := (y 0).isLt
  have h1 : (y 1).val < 1024 := (y 1).isLt
  have hp : Value.pt3Of y = 2 * ((y 0).val / 1088) + 1 := by
    show 2 * (1 * ((y 0).val / 1088 - 0) + 1 * ((y 1).val / 1024 - 0)) + 1 = _
    omega
  have hN : 2 * ((y 0).val / 1088) + 1 < cfg0.N := by rw [show cfg0.N = 16 from N_0]; omega
  unfold Value.G3
  rw [dif_pos (by rw [hp]; exact hN), Value.fold0_congr m c _ _ (2 * ((y 0).val / 1088) + 1) (by omega) hp,
    ← Value.outsAt0_sweep m c _ hN, tile m c _ hN]
  rw [show Value.loc3Of y = ix2 (⟨(y 0).val % 1088, Nat.mod_lt _ (by decide)⟩ : Fin 1088) (y 1) from
    at2 _ _ _ rfl (show (y 1).val % 1024 = (y 1).val by omega)]
  refine (pay4 _ _ _ (y 1)).trans ?_
  exact congrArg₂ (· + ·) (sum m c _ hN _ (y 1) (y 0) (by dsimp only; omega)) (blk2 m c _ (y 1))

end Cert.WOutIdeal.Answer

namespace Cert.WOutReferenceIdeal.Answer

open Idealize.ShloMosaic Idealize.ShloMosaic.TcCoe Idealize.ShloMosaic.Tactic
open Cert.WOutReferenceIdeal Cert.WOutReferenceIdeal.Gen Cert.Sums

/-- The reference's result as the program composes it. -/
abbrev out (x : Vec Ideal S2x4352x2048 .bf16) (w : Vec Ideal S2048x1024 .f32) (b : Vec Ideal S1024 .f32) : Vec Ideal S8704x1024 .f32 :=
  shapeCast _ (addf (F := Ideal) (φ := .f32) (Host.dotGeneral (φ₁ := .f32) (φ₂ := .f32)
    dot_S2x4352x2048_S2048x1024_S2x4352x1024_2_0_01_1_n_n none (extf .f32 x bitsLt_bf16_f32) w)
    (broadcastInDim S2x4352x1024 ![0, 1, 2] bcast_S1x1x1024_S2x4352x1024_0_1_2
      (broadcastInDim S1x1x1024 ![2] bcast_S1024_S1x1x1024_2 b))) shapeCasts_S2x4352x1024_S8704x1024

theorem value (x : Vec Ideal S2x4352x2048 .bf16) (w : Vec Ideal S2048x1024 .f32) (b : Vec Ideal S1024 .f32) (n : Fin 8704) (l : Fin 1024) :
    out x w b (ix2 n l) = (∑ k ∈ Finset.range 2048, Cert.WOutIdeal.Answer.term x w n l k) + b (ix1 l) := by
  unfold out Cert.WOutIdeal.Answer.term
  rw [half_eq n n.isLt, Finset.sum_range]
  simp [pointwise, Nat.mod_eq_of_lt (Fin.isLt _)]

end Cert.WOutReferenceIdeal.Answer

namespace Cert.WOut.Answer

open Idealize.ShloMosaic Idealize.ShloMosaic.TcCoe Idealize.SL.Sem

/-- The reference ends, changes no argument, and has no semaphore. -/
theorem frame_reference : Cert.quiescent_WOutReferenceIdeal := fun m ρ _ =>
  (θ_run Cert.WOutReferenceIdeal.defs _ _).mono (fun r h => ⟨fun c => (h c).2,
      Idealize.ShloMosaic.sem_eq_zero_of_no_sems (by decide) r.2⟩)
    (Cert.WOutReferenceIdeal.Value.run (F := Ideal) m ρ)

open Cert.WOutIdeal.Answer in
/-- From equal arguments the kernel and the reference end with equal results. -/
theorem algebraic : Cert.algebraic_WOutIdeal_WOutReferenceIdeal := by
  intro m g m' g' _ hagree
  refine ⟨fun c => G (X m c) (Wt m c) (Bi m c),
    (θ_run Cert.WOutIdeal.defs _ _).mono (fun r h c => ⟨(h c).1.trans (answer m c), (h c).2⟩)
      (Cert.WOutIdeal.Value.run (F := Ideal) m g), ?_⟩
  refine (θ_run Cert.WOutReferenceIdeal.defs _ _).mono (fun r h c => ⟨(h c).1.trans ?_, (h c).2⟩)
    (Cert.WOutReferenceIdeal.Value.run (F := Ideal) m' g')
  obtain ⟨a0, a1, a2⟩ := hagree c
  rw [a0, a1, a2]
  funext y
  rw [eq_ix2 y]
  exact Cert.WOutReferenceIdeal.Answer.value _ _ _ _ _

end Cert.WOut.Answer

end
-- ==== Proof.Mlp1.lean ====
module

public import proofs.«01_k».proof.Defs
public import proofs.«01_k».proof.Proof.Sums
public import proofs.«01_k».proof.Proof.Tiles
public import proofs.«01_k».proof.Proof.Gen.Mlp1Ideal.Value
public import proofs.«01_k».proof.Proof.Gen.Mlp1ReferenceIdeal.Run
public import Idealize.ShloMosaic.Lib.StableHlo.ReadAt

@[expose] public section

/-!
The MLP's first product: what the tiled product leaves, element by element, is the rectified sum over all features of the
input and the bias, once by tokens and once by columns, and so are the reference's results.
-/

noncomputable section

namespace Cert.Mlp1Ideal.Answer

open Idealize.ShloMosaic Idealize.ShloMosaic.TcCoe Idealize.ShloMosaic.Tactic
open Cert.Mlp1Ideal Cert.Mlp1Ideal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

theorem hz3 : (![0, 0, 0] : Fin 3 → Nat) = fun _ => 0 := funext fun a => by fin_cases a <;> rfl

/-- The input, the weight and the bias, as launched. -/
abbrev X : Vec Ideal S2x4352x1024 .bf16 := m ((c : Thread nD τ).loc main_arg0)
abbrev Wt : Vec Ideal S1024x4096 .f32 := m ((c : Thread nD τ).loc main_arg1)
abbrev Bi : Vec Ideal S4096 .f32 := m ((c : Thread nD τ).loc main_arg2)

/-- The hidden activation of token `n` at column `l`. -/
def cell (x : Vec Ideal S2x4352x1024 .bf16) (w : Vec Ideal S1024x4096 .f32) (b : Vec Ideal S4096 .f32) (n : Fin 8704) (l : Fin 4096) : EReal :=
  max ((∑ k : Fin 1024, x (ix3 (half n) (place n) k) * w (ix2 k l)) + b (ix1 l)) 0

/-- The hidden activation by tokens, and by columns. -/
def G3 (x : Vec Ideal S2x4352x1024 .bf16) (w : Vec Ideal S1024x4096 .f32) (b : Vec Ideal S4096 .f32) : Vec Ideal S8704x4096 .bf16 := fun y =>
  cell x w b (y 0) (y 1)

def G4 (x : Vec Ideal S2x4352x1024 .bf16) (w : Vec Ideal S1024x4096 .f32) (b : Vec Ideal S4096 .f32) : Vec Ideal S4096x8704 .bf16 := fun y =>
  cell x w b (y 1) (y 0)

theorem op0 (n : Fin 8704) (k : Fin 1024) : V m c main_v0 (ix2 n k) = X m c (ix3 (half n) (place n) k) := by
  rw [half_eq n n.isLt]
  unfold V
  after_reads_at

theorem op1 (q : Fin 8) (k : Fin 1024) (j : Fin 512) (l : Fin 4096) (hl : l.val = 512 * q.val + j.val) :
    V m c main_v3 (ix3 q k j) = Wt m c (ix2 k l) := by
  have he : l = ⟨q.val * 512 + j.val, by omega⟩ := Fin.ext (by dsimp only; omega)
  unfold V
  after_reads_at
  rw [he]

theorem op2 (l : Fin 4096) : V m c main_v4 (ix2 (0 : Fin 1) l) = Bi m c (ix1 l) := by
  unfold V
  after_reads_at

variable (t : Fin cfg0.N)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

theorem index2 : ∀ t : Fin cfg0.N, win0_2.index t 0 = 0 ∧ win0_2.index t 1 = t.val % 8 :=
  (by decide +kernel : ∀ t : Fin grid0.N, win0_2.index t 0 = 0 ∧ win0_2.index t 1 = t.val % 8)

theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

theorem index4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)

theorem xsize3 : ∀ t : Fin cfg0.N, win0_3.xsize (grid0.coords t) 0 = 2176 ∧ win0_3.xsize (grid0.coords t) 1 = 512 :=
  (by decide +kernel : ∀ t : Fin grid0.N, win0_3.xsize (grid0.coords t) 0 = 2176 ∧ win0_3.xsize (grid0.coords t) 1 = 512)

theorem xsize4 : ∀ t : Fin cfg0.N, win0_4.xsize (grid0.coords t) 0 = 512 ∧ win0_4.xsize (grid0.coords t) 1 = 2176 :=
  (by decide +kernel : ∀ t : Fin grid0.N, win0_4.xsize (grid0.coords t) 0 = 512 ∧ win0_4.xsize (grid0.coords t) 1 = 2176)

/-- Step `t`'s block of the input. -/
theorem blk0 (r : Fin 2176) (k : Fin 1024) (n : Fin 8704) (hn : n.val = 2176 * (t.val / 8) + r.val) :
    (iblk m c 0 t : Vec Ideal S2176x1024 .bf16) (ix2 r k) = X m c (ix3 (half n) (place n) k) := by
  have hi := index0 t
  unfold iblk
  rw [View.read_apply]
  refine Eq.trans (b := V m c main_v0 (ix2 n k)) (congrArg (V m c main_v0) (at2 _ n k ?_ ?_)) (op0 m c n k)
  · show win0_0.index t 0 * 2176 + 1 * r.val = n.val
    rw [hi.1]
    omega
  · show win0_0.index t 1 * 1024 + 1 * k.val = k.val
    rw [hi.2]
    omega

/-- Step `t`'s column shard of the weight. -/
theorem blk1 (k : Fin 1024) (j : Fin 512) (l : Fin 4096) (hl : l.val = 512 * (t.val % 8) + j.val) :
    (iblk m c 1 t : Vec Ideal S1x1024x512 .bf16) (ix3 (0 : Fin 1) k j) = Wt m c (ix2 k l) := by
  have hi := index1 t
  unfold iblk
  rw [View.read_apply]
  refine Eq.trans (b := V m c main_v3 (ix3 (⟨t.val % 8, Nat.mod_lt _ (by decide)⟩ : Fin 8) k j))
    (congrArg (V m c main_v3) (at3 _ _ k j ?_ ?_ ?_)) (op1 m c _ k j l hl)
  · show win0_1.index t 0 * 1 + 1 * 0 = t.val % 8
    rw [hi.1]
    omega
  · show win0_1.index t 1 * 1024 + 1 * k.val = k.val
    rw [hi.2.1]
    omega
  · show win0_1.index t 2 * 512 + 1 * j.val = j.val
    rw [hi.2.2]
    omega

/-- Step `t`'s block of the bias. -/
theorem blk2 (j : Fin 512) (l : Fin 4096) (hl : l.val = 512 * (t.val % 8) + j.val) :
    (iblk m c 2 t : Vec Ideal S1x512 .f32) (ix2 (0 : Fin 1) j) = Bi m c (ix1 l) := by
  have hi := index2 t
  unfold iblk
  rw [View.read_apply]
  refine Eq.trans (b := V m c main_v4 (ix2 (0 : Fin 1) l)) (congrArg (V m c main_v4) (at2 _ (0 : Fin 1) l ?_ ?_)) (op2 m c l)
  · show win0_2.index t 0 * 1 + 1 * 0 = 0
    rw [hi.1]
  · show win0_2.index t 1 * 512 + 1 * j.val = l.val
    rw [hi.2]
    omega

theorem pay1 (x : Vec Ideal S2176x1024 .bf16) (y : Vec Ideal S1x1024x512 .bf16) (z : Vec Ideal S1x512 .f32) (r : Fin 2176) (j : Fin 512) :
    k0_pay1 (F := Ideal) x y z (ix2 r j) = max ((∑ k : Fin 1024, x (ix2 r k) * y (ix3 (0 : Fin 1) k j)) + z (ix2 (0 : Fin 1) j)) 0 := by
  simp [k0_pay1, pointwise]

theorem pay2 (x : Vec Ideal S2176x1024 .bf16) (y : Vec Ideal S1x1024x512 .bf16) (z : Vec Ideal S1x512 .f32) (r : Fin 2176) (j : Fin 512) :
    k0_pay2 (F := Ideal) x y z (ix2 r j) = k0_pay1 (F := Ideal) x y z (ix2 r j) := by
  simp [k0_pay2, pointwise]

theorem pay3 (x : Vec Ideal S2176x1024 .bf16) (y : Vec Ideal S1x1024x512 .bf16) (z : Vec Ideal S1x512 .f32) (r : Fin 2176) (j : Fin 512) :
    k0_pay3 (F := Ideal) x y z (ix2 j r) = k0_pay1 (F := Ideal) x y z (ix2 r j) := by
  simp [k0_pay3, pointwise]

/-- What a step writes, from its blocks. -/
theorem wrote3 (x : Vec Ideal S2176x1024 .bf16) (y : Vec Ideal S1x1024x512 .bf16) (z : Vec Ideal S1x512 .f32) :
    out0_3 x y z = k0_pay2 (F := Ideal) x y z := by
  unfold out0_3
  rw [View.canon_unit_zero hz2, View.ld_unit_zero (S := S2176x1024) hz2, View.ld_unit_zero (S := S1x1024x512) hz3,
    View.ld_unit_zero (S := S1x512) hz2]

theorem wrote4 (x : Vec Ideal S2176x1024 .bf16) (y : Vec Ideal S1x1024x512 .bf16) (z : Vec Ideal S1x512 .f32) :
    out0_4 x y z = k0_pay3 (F := Ideal) x y z := by
  unfold out0_4
  rw [View.canon_unit_zero hz2, View.ld_unit_zero (S := S2176x1024) hz2, View.ld_unit_zero (S := S1x1024x512) hz3,
    View.ld_unit_zero (S := S1x512) hz2]

/-- Step `t`'s product: its block of the activation. -/
theorem step (r : Fin 2176) (j : Fin 512) (n : Fin 8704) (hn : n.val = 2176 * (t.val / 8) + r.val) (l : Fin 4096)
    (hl : l.val = 512 * (t.val % 8) + j.val) :
    k0_pay1 (F := Ideal) (iblk m c 0 t) (iblk m c 1 t) (iblk m c 2 t) (ix2 r j) = cell (X m c) (Wt m c) (Bi m c) n l := by
  rw [pay1, blk2 m c t j l hl]
  unfold cell
  refine congrArg (fun s => max (s + _) _) (Finset.sum_congr rfl fun k _ => ?_)
  rw [blk0 m c t r k n hn, blk1 m c t k j l hl]

/-- The block by tokens at a write-back. -/
theorem flushed3 (_ : (cfg0.win 3).flush t = true) :
    (dats m 0 c).flushed 3 t = ((cfg0.win 3).blk t).view.read (Elt Ideal) (G3 (X m c) (Wt m c) (Bi m c)) := by
  have hi := index3 t
  have ht : t.val < 32 := lt_of_lt_of_eq t.isLt N_0
  refine funext fun (j : (⟨2, ![2176, 512]⟩ : Shape).Idx) => ?_
  rw [View.read_apply]
  obtain ⟨r, l, rfl⟩ : ∃ (r : Fin 2176) (l : Fin 512), j = ix2 r l := ⟨j 0, j 1, eq_ix2 j⟩
  refine Eq.trans (b := k0_pay2 (F := Ideal) (iblk m c 0 t) (iblk m c 1 t) (iblk m c 2 t) (ix2 r l)) ?_
    (((pay2 _ _ _ r l).trans (step m c t r l ⟨2176 * (t.val / 8) + r.val, by omega⟩ rfl ⟨512 * (t.val % 8) + l.val, by omega⟩ rfl)).trans ?_)
  · rw [Value.flushed3, wrote3]
    rfl
  · show G3 (X m c) (Wt m c) (Bi m c) (ix2 (⟨2176 * (t.val / 8) + r.val, by omega⟩ : Fin 8704) (⟨512 * (t.val % 8) + l.val, by omega⟩ : Fin 4096)) = _
    generalize G3 (X m c) (Wt m c) (Bi m c) = g
    refine congrArg g (at2 (((cfg0.win 3).blk t).view.emb (ix2 r l)) _ _ ?_ ?_).symm
    · show win0_3.index t 0 * 2176 + 1 * r.val = 2176 * (t.val / 8) + r.val
      rw [hi.1]
      omega
    · show win0_3.index t 1 * 512 + 1 * l.val = 512 * (t.val % 8) + l.val
      rw [hi.2]
      omega

theorem answer3 : (dats m 0 c).arrAt 3 cfg0.N = G3 (X m c) (Wt m c) (Bi m c) :=
  (dats m 0 c).arrAt_eq_of_cover 3 (G3 (X m c) (Wt m c) (Bi m c)) (flushed3 m c) fun i => by
    have h0 : (i 0 : Nat) < 8704 := (i 0).isLt
    have h1 : (i 1 : Nat) < 4096 := (i 1).isLt
    obtain ⟨t, ht⟩ : ∃ t : Fin cfg0.N, t.val = 8 * ((i 0).val / 2176) + (i 1).val / 512 :=
      ⟨⟨8 * ((i 0).val / 2176) + (i 1).val / 512, lt_of_lt_of_eq (by omega) N_0.symm⟩, rfl⟩
    have hi := index3 t
    have hx := xsize3 t
    refine ⟨t, flush0_3 t, ?_⟩
    show i ∈ ((View.whole main_v5_0).slice (win0_3.rect t)).set
    rw [View.set_slice_whole, Rect.mem_set_unit]
    intro a
    match a with
    | ⟨0, _⟩ =>
      show win0_3.index t 0 * 2176 ≤ (i 0 : Nat) ∧ (i 0 : Nat) < win0_3.index t 0 * 2176 + win0_3.xsize (grid0.coords t) 0
      rw [hi.1, hx.1]
      omega
    | ⟨1, _⟩ =>
      show win0_3.index t 1 * 512 ≤ (i 1 : Nat) ∧ (i 1 : Nat) < win0_3.index t 1 * 512 + win0_3.xsize (grid0.coords t) 1
      rw [hi.2, hx.2]
      omega

/-- The block by columns at a write-back. -/
theorem flushed4 (_ : (cfg0.win 4).flush t = true) :
    (dats m 0 c).flushed 4 t = ((cfg0.win 4).blk t).view.read (Elt Ideal) (G4 (X m c) (Wt m c) (Bi m c)) := by
  have hi := index4 t
  have ht : t.val < 32 := lt_of_lt_of_eq t.isLt N_0
  refine funext fun (j : (⟨2, ![512, 2176]⟩ : Shape).Idx) => ?_
  rw [View.read_apply]
  obtain ⟨l, r, rfl⟩ : ∃ (l : Fin 512) (r : Fin 2176), j = ix2 l r := ⟨j 0, j 1, eq_ix2 j⟩
  refine Eq.trans (b := k0_pay3 (F := Ideal) (iblk m c 0 t) (iblk m c 1 t) (iblk m c 2 t) (ix2 l r)) ?_
    (((pay3 _ _ _ r l).trans (step m c t r l ⟨2176 * (t.val / 8) + r.val, by omega⟩ rfl ⟨512 * (t.val % 8) + l.val, by omega⟩ rfl)).trans ?_)
  · rw [Value.flushed4, wrote4]
    rfl
  · show G4 (X m c) (Wt m c) (Bi m c) (ix2 (⟨512 * (t.val % 8) + l.val, by omega⟩ : Fin 4096) (⟨2176 * (t.val / 8) + r.val, by omega⟩ : Fin 8704)) = _
    generalize G4 (X m c) (Wt m c) (Bi m c) = g
    refine congrArg g (at2 (((cfg0.win 4).blk t).view.emb (ix2 l r)) _ _ ?_ ?_).symm
    · show win0_4.index t 0 * 512 + 1 * l.val = 512 * (t.val % 8) + l.val
      rw [hi.1]
      omega
    · show win0_4.index t 1 * 2176 + 1 * r.val = 2176 * (t.val / 8) + r.val
      rw [hi.2]
      omega

theorem answer4 : (dats m 0 c).arrAt 4 cfg0.N = G4 (X m c) (Wt m c) (Bi m c) :=
  (dats m 0 c).arrAt_eq_of_cover 4 (G4 (X m c) (Wt m c) (Bi m c)) (flushed4 m c) fun i => by
    have h0 : (i 0 : Nat) < 4096 := (i 0).isLt
    have h1 : (i 1 : Nat) < 8704 := (i 1).isLt
    obtain ⟨t, ht⟩ : ∃ t : Fin cfg0.N, t.val = 8 * ((i 1).val / 2176) + (i 0).val / 512 :=
      ⟨⟨8 * ((i 1).val / 2176) + (i 0).val / 512, lt_of_lt_of_eq (by omega) N_0.symm⟩, rfl⟩
    have hi := index4 t
    have hx := xsize4 t
    refine ⟨t, flush0_4 t, ?_⟩
    show i ∈ ((View.whole main_v5_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + win0_4.xsize (grid0.coords t) 0
      rw [hi.1, hx.1]
      omega
    | ⟨1, _⟩ =>
      show win0_4.index t 1 * 2176 ≤ (i 1 : Nat) ∧ (i 1 : Nat) < win0_4.index t 1 * 2176 + win0_4.xsize (grid0.coords t) 1
      rw [hi.2, hx.2]
      omega

end Cert.Mlp1Ideal.Answer

namespace Cert.Mlp1ReferenceIdeal.Answer

open Idealize.ShloMosaic Idealize.ShloMosaic.TcCoe Idealize.ShloMosaic.Tactic
open Cert.Mlp1ReferenceIdeal Cert.Mlp1ReferenceIdeal.Gen Cert.Sums

variable (x : Vec Ideal S2x4352x1024 .bf16) (w : Vec Ideal S1024x4096 .f32) (b : Vec Ideal S4096 .f32)

/-- The reference's results as the program composes them. -/
abbrev out3 : Vec Ideal S8704x4096 .bf16 :=
  truncf (F := Ideal) .bf16 (shapeCast _ (maximumf (F := Ideal) (φ := .f32) (addf (F := Ideal) (φ := .f32) (Host.dotGeneral (φ₁ := .f32)
    (φ₂ := .f32) dot_S2x4352x1024_S1024x4096_S2x4352x4096_2_0_01_1_n_n none (extf .f32 x bitsLt_bf16_f32) w)
    (broadcastInDim S2x4352x4096 ![0, 1, 2] bcast_S1x1x4096_S2x4352x4096_0_1_2 (broadcastInDim S1x1x4096 ![2] bcast_S4096_S1x1x4096_2 b)))
    (broadcastInDim S2x4352x4096 ![] bcast_S_S2x4352x4096 (constant (F := Ideal) S_ .f32 0x00000000#32)))
    shapeCasts_S2x4352x4096_S8704x4096) bitsLt_bf16_f32

abbrev out4 : Vec Ideal S4096x8704 .bf16 := transpose S4096x8704 [1, 0] (out3 x w b) transposes_S8704x4096_S4096x8704_1_0

theorem value3 (n : Fin 8704) (l : Fin 4096) : out3 x w b (ix2 n l) = Cert.Mlp1Ideal.Answer.cell x w b n l := by
  unfold out3 Cert.Mlp1Ideal.Answer.cell
  rw [half_eq n n.isLt]
  simp [pointwise]

theorem value4 (n : Fin 8704) (l : Fin 4096) : out4 x w b (ix2 l n) = Cert.Mlp1Ideal.Answer.cell x w b n l := by
  rw [← value3]
  unfold out4
  generalize out3 x w b = g
  simp [pointwise]

end Cert.Mlp1ReferenceIdeal.Answer

namespace Cert.Mlp1.Answer

open Idealize.ShloMosaic Idealize.ShloMosaic.TcCoe Idealize.SL.Sem

/-- The reference ends, changes no argument, and has no semaphore. -/
theorem frame_reference : Cert.quiescent_Mlp1ReferenceIdeal := fun m ρ _ =>
  (θ_run Cert.Mlp1ReferenceIdeal.defs _ _).mono (fun r h => ⟨fun c => (h c).2.2,
      Idealize.ShloMosaic.sem_eq_zero_of_no_sems (by decide) r.2⟩)
    (Cert.Mlp1ReferenceIdeal.Value.run (F := Ideal) m ρ)

open Cert.Mlp1Ideal.Answer in
/-- From equal arguments the kernel and the reference end with equal results. -/
theorem algebraic : Cert.algebraic_Mlp1Ideal_Mlp1ReferenceIdeal := by
  intro m g m' g' _ hagree
  refine ⟨fun c => G3 (X m c) (Wt m c) (Bi m c), fun c => G4 (X m c) (Wt m c) (Bi m c),
    (θ_run Cert.Mlp1Ideal.defs _ _).mono (fun r h c => ⟨(h c).1.trans (answer3 m c), (h c).2.1.trans (answer4 m c), (h c).2.2⟩)
      (Cert.Mlp1Ideal.Value.run_blocks (F := Ideal) m g), ?_⟩
  refine (θ_run Cert.Mlp1ReferenceIdeal.defs _ _).mono (fun r h c => ⟨(h c).1.trans ?_, (h c).2.1.trans ?_, (h c).2.2⟩)
    (Cert.Mlp1ReferenceIdeal.Value.run (F := Ideal) m' g')
  all_goals
    obtain ⟨a0, a1, a2⟩ := hagree c
    rw [a0, a1, a2]
    funext y
    rw [eq_ix2 y]
  · exact Cert.Mlp1ReferenceIdeal.Answer.value3 _ _ _ _ _
  · exact Cert.Mlp1ReferenceIdeal.Answer.value4 _ _ _ _ _

end Cert.Mlp1.Answer

end
-- ==== Proof.Mlp2.lean ====
module

public import proofs.«01_k».proof.Defs
public import proofs.«01_k».proof.Proof.Sums
public import proofs.«01_k».proof.Proof.Tiles
public import proofs.«01_k».proof.Proof.Gen.Mlp2Ideal.Value
public import proofs.«01_k».proof.Proof.Gen.Mlp2ReferenceIdeal.Run
public import Idealize.ShloMosaic.Lib.StableHlo.ReadAt

@[expose] public section

/-!
The MLP's second product: what the tiled product leaves, element by element, is the sum over all hidden features of the
squared activation times the weight, and the bias; and so is the reference's.
-/

set_option maxRecDepth 16384

noncomputable section

namespace Cert.Mlp2Ideal.Answer

open Idealize.ShloMosaic Idealize.ShloMosaic.TcCoe Idealize.ShloMosaic.Tactic
open Cert.Mlp2Ideal Cert.Mlp2Ideal.Gen Cert.Sums Cert.Tiles

variable (m : (ℓ : Loc nD τ sig) → Buf (Elt Ideal) ℓ) (c : Dev nD)

theorem hz2 : (![0, 0] : Fin 2 → Nat) = fun _ => 0 := funext fun a => by fin_cases a <;> rfl

section Cases

variable (i : grid0.Coords) (a3 : Memref sig .tc .vmem S1088x1024 .bf16) (h3 : a3.IsWhole)
  (a4 : Memref sig .tc .vmem S1024x1024 .bf16) (h4 : a4.IsWhole) (a5 : Memref sig .tc .vmem S1x1024 .f32) (h5 : a5.IsWhole)
  (a6 : Memref sig .tc .vmem S1088x1024 .f32) (h6 : a6.IsWhole) (a7 : Memref sig .tc .vmem S1088x1024 .f32) (h7 : a7.IsWhole)
  (x : Vec Ideal S1088x1024 .bf16) (y : Vec Ideal S1024x1024 .bf16) (z : Vec Ideal S1x1024 .f32) (s : Vec Ideal S1088x1024 .f32)

/-- The first step of a tile leaves the first product. -/
theorem sA (h0 : cond0_0 i) (h1 : ¬cond0_1 i) (h2 : ¬cond0_2 i) :
    sout0_A_0 c i a3 h3 a4 h4 a5 h5 a6 h6 a7 h7 h0 h1 h2 x y z = k0_pay1 x y := by
  unfold sout0_A_0
  rw [View.read_writes_eq_canon _ _ _ (scover0_A_0 c i a3 h3 a4 h4 a5 h5 a6 h6 a7 h7 h0 h1 h2 x y z)]
  unfold kernelRun0_A
  dsimp only
  rw [View.canon_unit_zero hz2]
  unfold k0_pay2
  simp only [View.readAt_eq_ld, h3.read_unread, h4.read_unread, View.ld_unit_zero (S := S1088x1024) hz2,
    View.ld_unit_zero (S := S1024x1024) hz2, shapeCast_self]

/-- A middle step adds its product. -/
theorem sB (h0 : ¬cond0_0 i) (h1 : cond0_1 i) (h2 : ¬cond0_2 i) :
    sout0_B_0 c i a3 h3 a4 h4 a5 h5 a6 h6 a7 h7 h0 h1 h2 x y z s = addf s (k0_pay1 x y) := by
  unfold sout0_B_0
  rw [View.read_writes_eq_canon _ _ _ (scover0_B_0 c i a3 h3 a4 h4 a5 h5 a6 h6 a7 h7 h0 h1 h2 x y z s)]
  unfold kernelRun0_B
  dsimp only
  rw [View.canon_unit_zero hz2]
  unfold k0_pay3
  simp only [View.readAt_eq_ld, h3.read_unread, h4.read_unread, h7.read_unread, View.ld_unit_zero (S := S1088x1024) hz2,
    View.ld_unit_zero (S := S1024x1024) hz2, shapeCast_self]

/-- The last step adds its product and hands over the sum with the bias. -/
theorem oL (h0 : ¬cond0_0 i) (h1 : cond0_1 i) (h2 : cond0_2 i) :
    out0_C_3 c i a3 h3 a4 h4 a5 h5 a6 h6 a7 h7 h0 h1 h2 x y z s = k0_pay4 (addf s (k0_pay1 x y)) z := by
  unfold out0_C_3
  rw [View.read_writes_eq_canon _ _ _ (cover0_C_3 c i a3 h3 a4 h4 a5 h5 a6 h6 a7 h7 h0 h1 h2 x y z s)]
  unfold kernelRun0_C
  dsimp only
  sl_unfold_words
  rw [View.canon_unit_zero hz2, View.readCov_unit_zero (S := S1088x1024) _ hz2]
  unfold k0_pay3
  simp only [View.readAt_eq_ld, h3.read_unread, h4.read_unread, h5.read_unread, h7.read_unread,
    View.ld_unit_zero (S := S1088x1024) hz2, View.ld_unit_zero (S := S1024x1024) hz2, View.ld_unit_zero (S := S1x1024) hz2, shapeCast_self]

end Cases

/-- The product of step `t`'s blocks. -/
abbrev prod (t : Fin cfg0.N) : FVec Ideal S1088x1024 .f32 := k0_pay1 (F := Ideal) (iblk m c 0 t) (iblk m c 1 t)

/-- After the four steps of tile `r`: the products added in order, and the bias. -/
theorem tile (r : ℕ) (h : 4 * r + 3 < cfg0.N) :
    (outsAt0 m c (4 * r + 3) h).1
      = k0_pay4 (addf (addf (addf (prod m c ⟨4 * r + 0, by omega⟩) (prod m c ⟨4 * r + 1, by omega⟩))
        (prod m c ⟨4 * r + 2, by omega⟩)) (prod m c ⟨4 * r + 3, h⟩)) (iblk m c 2 ⟨4 * r + 3, h⟩) := by
  rw [outsAt0_C m c ⟨4 * r + 3, h⟩ (by dsimp only; omega) (by dsimp only; omega) (by dsimp only; omega)]
  dsimp only
  rw [oL]
  have e2 := outsAt0_B m c ⟨4 * r + 2, by omega⟩ (by dsimp only; omega) (by dsimp only; omega) (by dsimp only; omega)
  have e1 := outsAt0_B m c ⟨4 * r + 1, by omega⟩ (by dsimp only; omega) (by dsimp only; omega) (by dsimp only; omega)
  have e0 := outsAt0_A m c ⟨4 * r + 0, by omega⟩ (by dsimp only; omega) (by dsimp only; omega) (by dsimp only; omega)
  rw [sB] at e1 e2
  rw [sA] at e0
  dsimp only at e0 e1 e2
  rw [show (outsAt0 m c (4 * r + 3 - 1) (by omega)).2 = _ from congrArg Prod.snd e2]
  dsimp only
  rw [show (outsAt0 m c (4 * r + 2 - 1) (by omega)).2 = _ from congrArg Prod.snd e1]
  dsimp only
  rw [show (outsAt0 m c (4 * r + 1 - 1) (by omega)).2 = _ from congrArg Prod.snd e0]

/-- The left factor, the weight and the bias, as launched. -/
abbrev X : Vec Ideal S2x4352x4096 .bf16 := m ((c : Thread nD τ).loc main_arg0)
abbrev Wt : Vec Ideal S4096x1024 .f32 := m ((c : Thread nD τ).loc main_arg1)
abbrev Bi : Vec Ideal S1024 .f32 := m ((c : Thread nD τ).loc main_arg2)

/-- The square of the activation at feature `k` of token `n`. -/
abbrev act (x : Vec Ideal S2x4352x4096 .bf16) (n : ℕ) (k : Fin 4096) : EReal := x (ix3 (half n) (place n) k) * x (ix3 (half n) (place n) k)

/-- Feature `k`'s contribution to the product at token `n` and column `l`. -/
abbrev term (x : Vec Ideal S2x4352x4096 .bf16) (w : Vec Ideal S4096x1024 .f32) (n : Fin 8704) (l : Fin 1024) (k : ℕ) : EReal :=
  act x n ⟨k % 4096, Nat.mod_lt _ (by decide)⟩ * w (ix2 ⟨k % 4096, Nat.mod_lt _ (by decide)⟩ l)

/-- The product with its bias. -/
def G (x : Vec Ideal S2x4352x4096 .bf16) (w : Vec Ideal S4096x1024 .f32) (b : Vec Ideal S1024 .f32) : Vec Ideal S8704x1024 .f32 := fun y =>
  (∑ k ∈ Finset.range 4096, term x w (y 0) (y 1) k) + b (ix1 (y 1))

theorem op0 (n : Fin 8704) (k : Fin 4096) : V m c main_v0 (ix2 n k) = X m c (ix3 (half n) (place n) k) := by
  rw [half_eq n n.isLt]
  unfold V
  after_reads_at

theorem op1 (k : Fin 4096) (l : Fin 1024) : V m c main_v1 (ix2 k l) = Wt m c (ix2 k l) := by
  unfold V
  after_reads_at

theorem op2 (l : Fin 1024) : V m c main_v2 (ix2 (0 : Fin 1) l) = Bi m c (ix1 l) := by
  unfold V
  after_reads_at

variable (t : Fin cfg0.N)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

/-- Step `t`'s block of the left factor. -/
theorem blk0 (r : Fin 1088) (j : Fin 1024) (n : Fin 8704) (hn : n.val = 1088 * (t.val / 4) + r.val) (k : Fin 4096)
    (hk : k.val = 1024 * (t.val % 4) + j.val) :
    (iblk m c 0 t : Vec Ideal S1088x1024 .bf16) (ix2 r j) = X m c (ix3 (half n) (place n) k) := by
  have hi := index0 t
  unfold iblk
  rw [View.read_apply]
  refine Eq.trans (b := V m c main_v0 (ix2 n k)) (congrArg (V m c main_v0) (at2 _ n k ?_ ?_)) (op0 m c n k)
  · show win0_0.index t 0 * 1088 + 1 * r.val = n.val
    rw [hi.1]
    omega
  · show win0_0.index t 1 * 1024 + 1 * j.val = k.val
    rw [hi.2]
    omega

/-- Step `t`'s block of the weight. -/
theorem blk1 (j : Fin 1024) (l : Fin 1024) (k : Fin 4096) (hk : k.val = 1024 * (t.val % 4) + j.val) :
    (iblk m c 1 t : Vec Ideal S1024x1024 .bf16) (ix2 j l) = Wt m c (ix2 k l) := by
  have hi := index1 t
  unfold iblk
  rw [View.read_apply]
  refine Eq.trans (b := V m c main_v1 (ix2 k l)) (congrArg (V m c main_v1) (at2 _ k l ?_ ?_)) (op1 m c k l)
  · show win0_1.index t 0 * 1024 + 1 * j.val = k.val
    rw [hi.1]
    omega
  · show win0_1.index t 1 * 1024 + 1 * l.val = l.val
    rw [hi.2]
    omega

/-- Every step's bias. -/
theorem blk2 (l : Fin 1024) : (iblk m c 2 t : Vec Ideal S1x1024 .f32) (ix2 (0 : Fin 1) l) = Bi m c (ix1 l) := by
  have hi := index2 t
  unfold iblk
  rw [View.read_apply]
  refine Eq.trans (b := V m c main_v2 (ix2 (0 : Fin 1) l)) (congrArg (V m c main_v2) (at2 _ (0 : Fin 1) l ?_ ?_)) (op2 m c l)
  · show win0_2.index t 0 * 1 + 1 * 0 = 0
    rw [hi.1]
  · show win0_2.index t 1 * 1024 + 1 * l.val = l.val
    rw [hi.2]
    omega

theorem pay1 (x : Vec Ideal S1088x1024 .bf16) (y : Vec Ideal S1024x1024 .bf16) (r : Fin 1088) (l : Fin 1024) :
    k0_pay1 (F := Ideal) x y (ix2 r l) = ∑ j : Fin 1024, x (ix2 r j) * x (ix2 r j) * y (ix2 j l) := by
  simp [k0_pay1, pointwise]

theorem pay4 (s : Vec Ideal S1088x1024 .f32) (z : Vec Ideal S1x1024 .f32) (r : Fin 1088) (l : Fin 1024) :
    k0_pay4 (F := Ideal) s z (ix2 r l) = s (ix2 r l) + z (ix2 (0 : Fin 1) l) := by
  simp [k0_pay4, pointwise]

/-- Step `t`'s product: its features' contributions. -/
theorem step (s : ℕ) (hs : t.val % 4 = s) (r : Fin 1088) (l : Fin 1024) (n : Fin 8704) (hn : n.val = 1088 * (t.val / 4) + r.val) :
    prod m c t (ix2 r l) = ∑ j : Fin 1024, term (X m c) (Wt m c) n l (1024 * s + j.val) := by
  have hlt := Nat.mod_lt t.val (show 0 < 4 by decide)
  unfold prod
  rw [pay1]
  refine Finset.sum_congr rfl fun j _ => ?_
  have hm : (1024 * s + j.val) % 4096 = 1024 * (t.val % 4) + j.val := by omega
  rw [blk0 m c t r j n hn ⟨(1024 * s + j.val) % 4096, Nat.mod_lt _ (by decide)⟩ hm,
    blk1 m c t j l ⟨(1024 * s + j.val) % 4096, Nat.mod_lt _ (by decide)⟩ hm]

/-- One tile of the result: the sum over all features. -/
theorem sum (q : ℕ) (h : 4 * q + 3 < cfg0.N) (r : Fin 1088) (l : Fin 1024) (n : Fin 8704) (hn : n.val = 1088 * q + r.val) :
    (addf (addf (addf (prod m c ⟨4 * q + 0, by omega⟩) (prod m c ⟨4 * q + 1, by omega⟩))
        (prod m c ⟨4 * q + 2, by omega⟩)) (prod m c ⟨4 * q + 3, h⟩)) (ix2 r l)
      = ∑ k ∈ Finset.range 4096, term (X m c) (Wt m c) n l k := by
  show ((prod m c _ (ix2 r l) + prod m c _ (ix2 r l)) + prod m c _ (ix2 r l)) + prod m c _ (ix2 r l) = _
  rw [step m c ⟨4 * q + 0, by omega⟩ 0 (by dsimp only; omega) r l n (by dsimp only; omega),
    step m c ⟨4 * q + 1, by omega⟩ 1 (by dsimp only; omega) r l n (by dsimp only; omega),
    step m c ⟨4 * q + 2, by omega⟩ 2 (by dsimp only; omega) r l n (by dsimp only; omega),
    step m c ⟨4 * q + 3, h⟩ 3 (by dsimp only; omega) r l n (by dsimp only; omega)]
  exact four 1024 _

/-- The kernel's result is the product with its bias. -/
theorem answer : Value.G3 m c = G (X m c) (Wt m c) (Bi m c) := by
  funext y
  have h0 : (y 0).val < 8704 := (y 0).isLt
  have h1 : (y 1).val < 1024 := (y 1).isLt
  have hp : Value.pt3Of y = 4 * ((y 0).val / 1088) + 3 := by
    show 4 * (1 * ((y 0).val / 1088 - 0) + 1 * ((y 1).val / 1024 - 0)) + 3 = _
    omega
  have hN : 4 * ((y 0).val / 1088) + 3 < cfg0.N := by rw [show cfg0.N = 32 from N_0]; omega
  unfold Value.G3
  rw [dif_pos (by rw [hp]; exact hN), Value.fold0_congr m c _ _ (4 * ((y 0).val / 1088) + 3) (by omega) hp,
    ← Value.outsAt0_sweep m c _ hN, tile m c _ hN]
  rw [show Value.loc3Of y = ix2 (⟨(y 0).val % 1088, Nat.mod_lt _ (by decide)⟩ : Fin 1088) (y 1) from
    at2 _ _ _ rfl (show (y 1).val % 1024 = (y 1).val by omega)]
  refine (pay4 _ _ _ (y 1)).trans ?_
  exact congrArg₂ (· + ·) (sum m c _ hN _ (y 1) (y 0) (by dsimp only; omega)) (blk2 m c _ (y 1))

end Cert.Mlp2Ideal.Answer

namespace Cert.Mlp2ReferenceIdeal.Answer

open Idealize.ShloMosaic Idealize.ShloMosaic.TcCoe Idealize.ShloMosaic.Tactic
open Cert.Mlp2ReferenceIdeal Cert.Mlp2ReferenceIdeal.Gen Cert.Sums

/-- The squared activation, as the reference composes it. -/
abbrev hid (x : Vec Ideal S2x4352x4096 .bf16) : Vec Ideal S2x4352x4096 .f32 :=
  mulf (F := Ideal) (φ := .f32) (extf .f32 x bitsLt_bf16_f32) (extf .f32 x bitsLt_bf16_f32)

/-- The reference's result as the program composes it. -/
abbrev out (x : Vec Ideal S2x4352x4096 .bf16) (w : Vec Ideal S4096x1024 .f32) (b : Vec Ideal S1024 .f32) : Vec Ideal S8704x1024 .f32 :=
  shapeCast _ (addf (F := Ideal) (φ := .f32) (Host.dotGeneral (φ₁ := .f32) (φ₂ := .f32)
    dot_S2x4352x4096_S4096x1024_S2x4352x1024_2_0_01_1_n_n none (hid x) w)
    (broadcastInDim S2x4352x1024 ![0, 1, 2] bcast_S1x1x1024_S2x4352x1024_0_1_2
      (broadcastInDim S1x1x1024 ![2] bcast_S1024_S1x1x1024_2 b))) shapeCasts_S2x4352x1024_S8704x1024

theorem value (x : Vec Ideal S2x4352x4096 .bf16) (w : Vec Ideal S4096x1024 .f32) (b : Vec Ideal S1024 .f32) (n : Fin 8704) (l : Fin 1024) :
    out x w b (ix2 n l) = (∑ k ∈ Finset.range 4096, Cert.Mlp2Ideal.Answer.term x w n l k) + b (ix1 l) := by
  unfold out hid Cert.Mlp2Ideal.Answer.term Cert.Mlp2Ideal.Answer.act
  rw [half_eq n n.isLt, Finset.sum_range]
  simp [pointwise, Nat.mod_eq_of_lt (Fin.isLt _)]

end Cert.Mlp2ReferenceIdeal.Answer

namespace Cert.Mlp2.Answer

open Idealize.ShloMosaic Idealize.ShloMosaic.TcCoe Idealize.SL.Sem

/-- The reference ends, changes no argument, and has no semaphore. -/
theorem frame_reference : Cert.quiescent_Mlp2ReferenceIdeal := fun m ρ _ =>
  (θ_run Cert.Mlp2ReferenceIdeal.defs _ _).mono (fun r h => ⟨fun c => (h c).2,
      Idealize.ShloMosaic.sem_eq_zero_of_no_sems (by decide) r.2⟩)
    (Cert.Mlp2ReferenceIdeal.Value.run (F := Ideal) m ρ)

open Cert.Mlp2Ideal.Answer in
/-- From equal arguments the kernel and the reference end with equal results. -/
theorem algebraic : Cert.algebraic_Mlp2Ideal_Mlp2ReferenceIdeal := by
  intro m g m' g' _ hagree
  refine ⟨fun c => G (X m c) (Wt m c) (Bi m c),
    (θ_run Cert.Mlp2Ideal.defs _ _).mono (fun r h c => ⟨(h c).1.trans (answer m c), (h c).2⟩)
      (Cert.Mlp2Ideal.Value.run (F := Ideal) m g), ?_⟩
  refine (θ_run Cert.Mlp2ReferenceIdeal.defs _ _).mono (fun r h c => ⟨(h c).1.trans ?_, (h c).2⟩)
    (Cert.Mlp2ReferenceIdeal.Value.run (F := Ideal) m' g')
  obtain ⟨a0, a1, a2⟩ := hagree c
  rw [a0, a1, a2]
  funext y
  rw [eq_ix2 y]
  exact Cert.Mlp2ReferenceIdeal.Answer.value _ _ _ _ _

end Cert.Mlp2.Answer

end
-- ==== Proof.Taps.lean ====
module

public import Idealize.ShloMosaic.Lib.Pointwise

@[expose] public section

/-!
The neighbours of a token in its own sequence: the first 256 tokens are one sequence and the other 4096 another, and a
neighbour outside the token's own sequence is zero. A tile of 256 tokens finds them in itself and in the eight tokens before
and after it.
-/

namespace Cert.Taps

open Idealize.ShloMosaic

/-- The value `d` tokens later. -/
noncomputable def later (f : Fin 4352 → EReal) (d : ℕ) (n : Fin 4352) : EReal :=
  if h : n.val + d < 4352 ∧ (n.val < 256 → n.val + d < 256) then f ⟨n.val + d, h.1⟩ else 0

/-- The value `d` tokens earlier. -/
noncomputable def earlier (f : Fin 4352 → EReal) (d : ℕ) (n : Fin 4352) : EReal :=
  if _h : d ≤ n.val ∧ (256 ≤ n.val → 256 + d ≤ n.val) then f ⟨n.val - d, by omega⟩ else 0

theorem later_zero (f : Fin 4352 → EReal) (d : ℕ) (n : Fin 4352) (h : ¬(n.val + d < 4352 ∧ (n.val < 256 → n.val + d < 256))) :
    later f d n = 0 := dif_neg h

theorem later_eq (f : Fin 4352 → EReal) (d : ℕ) (n k : Fin 4352) (h : n.val < 256 → n.val + d < 256) (e : k.val = n.val + d) :
    later f d n = f k :=
  (dif_pos ⟨e ▸ k.isLt, h⟩).trans (congrArg f (Fin.ext e.symm))

theorem earlier_zero (f : Fin 4352 → EReal) (d : ℕ) (n : Fin 4352) (h : ¬(d ≤ n.val ∧ (256 ≤ n.val → 256 + d ≤ n.val))) :
    earlier f d n = 0 := dif_neg h

theorem earlier_eq (f : Fin 4352 → EReal) (d : ℕ) (n k : Fin 4352) (h : 256 ≤ n.val → 256 + d ≤ n.val) (e : k.val + d = n.val) :
    earlier f d n = f k :=
  (dif_pos ⟨by omega, h⟩).trans (congrArg f (Fin.ext (by show n.val - d = k.val; omega)))

theorem pick (r : ℕ) (hr : r < 256) (k : ℕ) (hk : k < 256) {α : Type} (a b : α) :
    Scalar.select (IntOp.cmpi CmpIPredicate.eq (BitVec.ofNat 32 r) (BitVec.ofNat 32 k)) a b = if r = k then a else b := by
  have e : BitVec.ofNat 32 r = BitVec.ofNat 32 k ↔ r = k := by
    constructor
    · intro h
      have := congrArg BitVec.toNat h
      simp only [BitVec.toNat_ofNat] at this
      omega
    · rintro rfl; rfl
  by_cases h : r = k
  · simp [Scalar.select, IntOp.cmpi, h]
  · have e' : (BitVec.ofNat 32 r == BitVec.ofNat 32 k) = false := by simpa using mt e.mp h
    simp [Scalar.select, IntOp.cmpi, e', h]

/-- Whether a tile is the first, or the last, of its sequence. -/
def first (τ : ℕ) : BitVec 1 := Scalar.ori (Scalar.cmpi CmpIPredicate.eq (BitVec.ofNat 32 τ) 0#32) (Scalar.cmpi CmpIPredicate.eq (BitVec.ofNat 32 τ) 1#32)
def last (τ : ℕ) : BitVec 1 := Scalar.ori (Scalar.cmpi CmpIPredicate.eq (BitVec.ofNat 32 τ) 0#32) (Scalar.cmpi CmpIPredicate.eq (BitVec.ofNat 32 τ) 16#32)

theorem pick_first (τ : ℕ) (h : τ < 17) {α : Type} (a b : α) : Scalar.select (first τ) a b = if τ = 0 ∨ τ = 1 then a else b := by
  interval_cases τ <;> rfl

theorem pick_last (τ : ℕ) (h : τ < 17) {α : Type} (a b : α) : Scalar.select (last τ) a b = if τ = 0 ∨ τ = 16 then a else b := by
  interval_cases τ <;> rfl

variable (f : Fin 4352 → EReal) (X : Fin 256 → EReal) (N P : Fin 8 → EReal) (τ : ℕ) (hτ : τ < 17)
  (hX : ∀ (r : Fin 256) (n : Fin 4352), n.val = 256 * τ + r.val → X r = f n)
  (hN : ∀ (j : Fin 8) (n : Fin 4352), n.val = 256 * (τ + 1) + j.val → N j = f n)
  (hP : ∀ (j : Fin 8) (n : Fin 4352), n.val + 8 = 256 * τ + j.val → P j = f n)
  (r : Fin 256) (n : Fin 4352) (hn : n.val = 256 * τ + r.val)
include hτ hn

include hX hN in
theorem later1 (h : (r.val + 1) % 256 < 256) :
    Scalar.select (IntOp.cmpi CmpIPredicate.eq (BitVec.ofNat 32 r.val) 255#32) (Scalar.select (last τ) 0 (N 0)) (X ⟨(r.val + 1) % 256, h⟩)
      = later f 1 n := by
  rw [pick r.val r.isLt 255 (by decide), pick_last τ hτ]
  split_ifs with h1 h2
  · exact (later_zero f 1 n (by omega)).symm
  · exact (hN 0 ⟨n.val + 1, by omega⟩ (by show n.val + 1 = 256 * (τ + 1) + 0; omega)).trans (later_eq f 1 n _ (by omega) rfl).symm
  · exact (hX _ ⟨n.val + 1, by omega⟩ (by show n.val + 1 = 256 * τ + (r.val + 1) % 256; omega)).trans (later_eq f 1 n _ (by omega) rfl).symm

include hX hN in
theorem later2 (h : (r.val + 2) % 256 < 256) :
    Scalar.select (IntOp.cmpi CmpIPredicate.eq (BitVec.ofNat 32 r.val) 255#32) (Scalar.select (last τ) 0 (N 1))
      (Scalar.select (IntOp.cmpi CmpIPredicate.eq (BitVec.ofNat 32 r.val) 254#32) (Scalar.select (last τ) 0 (N 0)) (X ⟨(r.val + 2) % 256, h⟩))
      = later f 2 n := by
  rw [pick r.val r.isLt 255 (by decide), pick r.val r.isLt 254 (by decide), pick_last τ hτ, pick_last τ hτ]
  split_ifs with h1 h2 h3 h4
  · exact (later_zero f 2 n (by omega)).symm
  · exact (hN 1 ⟨n.val + 2, by omega⟩ (by show n.val + 2 = 256 * (τ + 1) + 1; omega)).trans (later_eq f 2 n _ (by omega) rfl).symm
  · exact (later_zero f 2 n (by omega)).symm
  · exact (hN 0 ⟨n.val + 2, by omega⟩ (by show n.val + 2 = 256 * (τ + 1) + 0; omega)).trans (later_eq f 2 n _ (by omega) rfl).symm
  · exact (hX _ ⟨n.val + 2, by omega⟩ (by show n.val + 2 = 256 * τ + (r.val + 2) % 256; omega)).trans (later_eq f 2 n _ (by omega) rfl).symm

include hX hP in
theorem earlier1 (h : (r.val + 255) % 256 < 256) :
    Scalar.select (IntOp.cmpi CmpIPredicate.eq (BitVec.ofNat 32 r.val) 0#32) (Scalar.select (first τ) 0 (P 7)) (X ⟨(r.val + 255) % 256, h⟩)
      = earlier f 1 n := by
  rw [pick r.val r.isLt 0 (by decide), pick_first τ hτ]
  split_ifs with h1 h2
  · exact (earlier_zero f 1 n (by omega)).symm
  · exact (hP 7 ⟨n.val - 1, by omega⟩ (by show n.val - 1 + 8 = 256 * τ + 7; omega)).trans (earlier_eq f 1 n _ (by omega) (by show n.val - 1 + 1 = _; omega)).symm
  · exact (hX _ ⟨n.val - 1, by omega⟩ (by show n.val - 1 = 256 * τ + (r.val + 255) % 256; omega)).trans (earlier_eq f 1 n _ (by omega) (by show n.val - 1 + 1 = _; omega)).symm

include hX hP in
theorem earlier2 (h : (r.val + 254) % 256 < 256) :
    Scalar.select (IntOp.cmpi CmpIPredicate.eq (BitVec.ofNat 32 r.val) 0#32) (Scalar.select (first τ) 0 (P 6))
      (Scalar.select (IntOp.cmpi CmpIPredicate.eq (BitVec.ofNat 32 r.val) 1#32) (Scalar.select (first τ) 0 (P 7)) (X ⟨(r.val + 254) % 256, h⟩))
      = earlier f 2 n := by
  rw [pick r.val r.isLt 0 (by decide), pick r.val r.isLt 1 (by decide), pick_first τ hτ, pick_first τ hτ]
  split_ifs with h1 h2 h3 h4
  · exact (earlier_zero f 2 n (by omega)).symm
  · exact (hP 6 ⟨n.val - 2, by omega⟩ (by show n.val - 2 + 8 = 256 * τ + 6; omega)).trans (earlier_eq f 2 n _ (by omega) (by show n.val - 2 + 2 = _; omega)).symm
  · exact (earlier_zero f 2 n (by omega)).symm
  · exact (hP 7 ⟨n.val - 2, by omega⟩ (by show n.val - 2 + 8 = 256 * τ + 7; omega)).trans (earlier_eq f 2 n _ (by omega) (by show n.val - 2 + 2 = _; omega)).symm
  · exact (hX _ ⟨n.val - 2, by omega⟩ (by show n.val - 2 = 256 * τ + (r.val + 254) % 256; omega)).trans (earlier_eq f 2 n _ (by omega) (by show n.val - 2 + 2 = _; omega)).symm

end Cert.Taps

end
-- ==== Proof.Conv.lean ====
module

public import proofs.«01_k».proof.Defs
public import proofs.«01_k».proof.Proof.Sums
public import proofs.«01_k».proof.Proof.Tiles
public import proofs.«01_k».proof.Proof.Taps
public import proofs.«01_k».proof.Proof.Gen.ConvIdeal.Value
public import proofs.«01_k».proof.Proof.Gen.ConvReferenceIdeal.Run
public import Idealize.ShloMosaic.Lib.StableHlo.ReadAt

@[expose] public section

/-!
The short convolution over the tokens: each result is the bias and four weighted tokens, the one before, the token itself and
the two after it, within the token's own sequence; so is the reference's.
-/

noncomputable section

namespace Cert.ConvIdeal.Answer

open Idealize.ShloMosaic Idealize.ShloMosaic.TcCoe Idealize.ShloMosaic.Tactic
open Cert.ConvIdeal Cert.ConvIdeal.Gen Cert.Sums Cert.Tiles Cert.Taps

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The tokens, the weights and the bias, as launched. -/
abbrev X : Vec Ideal S2x4352x3072 .f32 := m ((c : Thread nD τ).loc main_arg0)
abbrev Wt : Vec Ideal S4x1024 .f32 := m ((c : Thread nD τ).loc main_arg1)
abbrev Bi : Vec Ideal S1024 .f32 := m ((c : Thread nD τ).loc main_arg2)

/-- One channel of one example. -/
abbrev chan (x : Vec Ideal S2x4352x3072 .f32) (b : Fin 2) (l : Fin 1024) (n : Fin 4352) : EReal := x (ix3 b n ⟨l.val, by omega⟩)

/-- The convolution of a channel at token `n`. -/
def cell (f : Fin 4352 → EReal) (w : Vec Ideal S4x1024 .f32) (b : EReal) (n : Fin 4352) (l : Fin 1024) : EReal :=
  b + w (ix2 0 l) * earlier f 1 n + w (ix2 1 l) * f n + w (ix2 2 l) * later f 1 n + w (ix2 3 l) * later f 2 n

/-- The convolution. -/
def G (x : Vec Ideal S2x4352x3072 .f32) (w : Vec Ideal S4x1024 .f32) (b : Vec Ideal S1024 .f32) : Vec Ideal S2x4352x1024 .f32 := fun y =>
  cell (chan x (y 0) (y 2)) w (b (ix1 (y 2))) (y 1) (y 2)

theorem op4 (l : Fin 1024) : V m c main_v0 (ix2 (0 : Fin 1) l) = Bi m c (ix1 l) := by
  unfold V
  after_reads_at

variable (t : Fin cfg0.N)

theorem index0 : ∀ t : Fin cfg0.N, win0_0.index t 0 = t.val / 17 ∧ win0_0.index t 1 = t.val % 17 ∧ win0_0.index t 2 = 0 :=
  (by decide +kernel : ∀ t : Fin grid0.N, win0_0.index t 0 = t.val / 17 ∧ win0_0.index t 1 = t.val % 17 ∧ win0_0.index t 2 = 0)

theorem index1 : ∀ t : Fin cfg0.N, win0_1.index t 0 = t.val / 17 ∧ win0_1.index t 1 = 32 * (t.val % 17) - 1 ∧ win0_1.index t 2 = 0 :=
  (by decide +kernel : ∀ t : Fin grid0.N, win0_1.index t 0 = t.val / 17 ∧ win0_1.index t 1 = 32 * (t.val % 17) - 1 ∧ win0_1.index t 2 = 0)

theorem index2 : ∀ t : Fin cfg0.N, win0_2.index t 0 = t.val / 17 ∧ win0_2.index t 1 = min (32 * (t.val % 17) + 32) 543 ∧ win0_2.index t 2 = 0 :=
  (by decide +kernel : ∀ t : Fin grid0.N, win0_2.index t 0 = t.val / 17 ∧ win0_2.index t 1 = min (32 * (t.val % 17) + 32) 543 ∧ win0_2.index t 2 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = t.val / 17 ∧ win0_5.index t 1 = t.val % 17 ∧ win0_5.index t 2 = 0 :=
  (by decide +kernel : ∀ t : Fin grid0.N, win0_5.index t 0 = t.val / 17 ∧ win0_5.index t 1 = t.val % 17 ∧ win0_5.index t 2 = 0)

theorem xsize5 : ∀ t : Fin cfg0.N, win0_5.xsize (grid0.coords t) 0 = 1 ∧ win0_5.xsize (grid0.coords t) 1 = 256 ∧ win0_5.xsize (grid0.coords t) 2 = 1024 :=
  (by decide +kernel : ∀ t : Fin grid0.N, win0_5.xsize (grid0.coords t) 0 = 1 ∧ win0_5.xsize (grid0.coords t) 1 = 256 ∧ win0_5.xsize (grid0.coords t) 2 = 1024)

theorem coord : ∀ t : Fin cfg0.N, (grid0.coords t 1).val = t.val % 17 :=
  (by decide +kernel : ∀ t : Fin grid0.N, (grid0.coords t 1).val = t.val % 17)

/-- Step `t`'s block of 256 tokens. -/
theorem blk0 (b : Fin 2) (hb : b.val = t.val / 17) (l : Fin 1024) (r : Fin 256) (n : Fin 4352) (hn : n.val = 256 * (t.val % 17) + r.val) :
    (iblk m c 0 t : Vec Ideal S1x256x1024 .f32) (ix3 (0 : Fin 1) r l) = chan (X m c) b l n := by
  have hi := index0 t
  unfold iblk
  rw [View.read_apply]
  refine Eq.trans (b := V m c main_arg0 (ix3 b n ⟨l.val, by omega⟩)) (congrArg (V m c main_arg0) (at3 _ b n ⟨l.val, by omega⟩ ?_ ?_ ?_))
    (congrFun (V_main_arg0 m c) _)
  · show win0_0.index t 0 * 1 + 1 * 0 = b.val
    omega
  · show win0_0.index t 1 * 256 + 1 * r.val = n.val
    omega
  · show win0_0.index t 2 * 1024 + 1 * l.val = l.val
    omega

/-- The eight tokens before it. -/
theorem blk1 (b : Fin 2) (hb : b.val = t.val / 17) (l : Fin 1024) (r : Fin 8) (n : Fin 4352) (hn : n.val + 8 = 256 * (t.val % 17) + r.val) :
    (iblk m c 1 t : Vec Ideal S1x8x1024 .f32) (ix3 (0 : Fin 1) r l) = chan (X m c) b l n := by
  have hi := index1 t
  unfold iblk
  rw [View.read_apply]
  refine Eq.trans (b := V m c main_arg0 (ix3 b n ⟨l.val, by omega⟩)) (congrArg (V m c main_arg0) (at3 _ b n ⟨l.val, by omega⟩ ?_ ?_ ?_))
    (congrFun (V_main_arg0 m c) _)
  · show win0_1.index t 0 * 1 + 1 * 0 = b.val
    omega
  · show win0_1.index t 1 * 8 + 1 * r.val = n.val
    omega
  · show win0_1.index t 2 * 1024 + 1 * l.val = l.val
    omega

/-- The eight tokens after it. -/
theorem blk2 (b : Fin 2) (hb : b.val = t.val / 17) (l : Fin 1024) (r : Fin 8) (n : Fin 4352) (hn : n.val = 256 * (t.val % 17 + 1) + r.val) :
    (iblk m c 2 t : Vec Ideal S1x8x1024 .f32) (ix3 (0 : Fin 1) r l) = chan (X m c) b l n := by
  have hi := index2 t
  unfold iblk
  rw [View.read_apply]
  refine Eq.trans (b := V m c main_arg0 (ix3 b n ⟨l.val, by omega⟩)) (congrArg (V m c main_arg0) (at3 _ b n ⟨l.val, by omega⟩ ?_ ?_ ?_))
    (congrFun (V_main_arg0 m c) _)
  · show win0_2.index t 0 * 1 + 1 * 0 = b.val
    omega
  · show win0_2.index t 1 * 8 + 1 * r.val = n.val
    omega
  · show win0_2.index t 2 * 1024 + 1 * l.val = l.val
    omega

/-- Every step's weights. -/
theorem blk3 (k : Fin 4) (l : Fin 1024) : (iblk m c 3 t : Vec Ideal S4x1024 .f32) (ix2 k l) = Wt m c (ix2 k l) := by
  have hi := index3 t
  unfold iblk
  rw [View.read_apply]
  refine Eq.trans (b := V m c main_arg1 (ix2 k l)) (congrArg (V m c main_arg1) (at2 _ k l ?_ ?_)) (congrFun (V_main_arg1 m c) _)
  · show win0_3.index t 0 * 4 + 1 * k.val = k.val
    omega
  · show win0_3.index t 1 * 1024 + 1 * l.val = l.val
    omega

/-- Every step's bias. -/
theorem blk4 (l : Fin 1024) : (iblk m c 4 t : Vec Ideal S1x1024 .f32) (ix2 (0 : Fin 1) l) = Bi m c (ix1 l) := by
  have hi := index4 t
  unfold iblk
  rw [View.read_apply]
  refine Eq.trans (b := V m c main_v0 (ix2 (0 : Fin 1) l)) (congrArg (V m c main_v0) (at2 _ (0 : Fin 1) l ?_ ?_)) (op4 m c l)
  · show win0_4.index t 0 * 1 + 1 * 0 = 0
    omega
  · show win0_4.index t 1 * 1024 + 1 * l.val = l.val
    omega

/-- What a step writes, as a function of its blocks. -/
def body (i : grid0.Coords) (x : Vec Ideal S1x256x1024 .f32) (p n : Vec Ideal S1x8x1024 .f32) (w : Vec Ideal S4x1024 .f32)
    (b : Vec Ideal S1x1024 .f32) : Vec Ideal S1x256x1024 .f32 :=
  k0_pay1 (F := Ideal) (last (i 1).val) (k0_pay2 x) (k0_pay3 n) w (k0_pay4 i x p w b) (k0_pay5 w)
    (iota .tc S256x1024 32 [0] iota_S256x1024_d0_w32)

theorem body_apply (i : grid0.Coords) (x : Vec Ideal S1x256x1024 .f32) (p n : Vec Ideal S1x8x1024 .f32) (w : Vec Ideal S4x1024 .f32)
    (b : Vec Ideal S1x1024 .f32) (r : Fin 256) (j : Fin 1024) :
    body i x p n w b (ix3 (0 : Fin 1) r j) = b (ix2 0 j)
      + w (ix2 0 j) * Scalar.select (IntOp.cmpi CmpIPredicate.eq (BitVec.ofNat 32 r.val) 0#32)
          (Scalar.select (first (i 1).val) 0 (p (ix3 0 7 j))) (x (ix3 0 ⟨(r.val + 255) % 256, by omega⟩ j))
      + w (ix2 1 j) * x (ix3 0 r j)
      + w (ix2 2 j) * Scalar.select (IntOp.cmpi CmpIPredicate.eq (BitVec.ofNat 32 r.val) 255#32)
          (Scalar.select (last (i 1).val) 0 (n (ix3 0 0 j))) (x (ix3 0 ⟨(r.val + 1) % 256, by omega⟩ j))
      + w (ix2 3 j) * Scalar.select (IntOp.cmpi CmpIPredicate.eq (BitVec.ofNat 32 r.val) 255#32)
          (Scalar.select (last (i 1).val) 0 (n (ix3 0 1 j)))
          (Scalar.select (IntOp.cmpi CmpIPredicate.eq (BitVec.ofNat 32 r.val) 254#32)
            (Scalar.select (last (i 1).val) 0 (n (ix3 0 0 j))) (x (ix3 0 ⟨(r.val + 2) % 256, by omega⟩ j))) := by
  unfold body first
  generalize last (i 1).val = v
  simp [k0_pay1, k0_pay2, k0_pay3, k0_pay4, k0_pay5, pointwise]

theorem wrote (i : grid0.Coords) (x : Vec Ideal S1x256x1024 .f32) (p n : Vec Ideal S1x8x1024 .f32) (w : Vec Ideal S4x1024 .f32)
    (b : Vec Ideal S1x1024 .f32) : out0_5 i x p n w b = body i x p n w b := by
  unfold out0_5
  rw [View.canon_unit_zero hz3, View.ld_unit_zero (S := S1x256x1024) hz3, View.ld_unit_zero (S := S1x8x1024) hz3,
    View.ld_unit_zero (S := S1x8x1024) hz3, View.ld_unit_zero (S := S4x1024) hz2, View.ld_unit_zero (S := S1x1024) hz2]
  rfl

/-- Step `t`'s tokens: their convolution. -/
theorem step (b : Fin 2) (hb : b.val = t.val / 17) (r : Fin 256) (l : Fin 1024) (n : Fin 4352) (hn : n.val = 256 * (t.val % 17) + r.val) :
    body (grid0.coords t) (iblk m c 0 t) (iblk m c 1 t) (iblk m c 2 t) (iblk m c 3 t) (iblk m c 4 t) (ix3 (0 : Fin 1) r l)
      = cell (chan (X m c) b l) (Wt m c) (Bi m c (ix1 l)) n l := by
  have hτ : t.val % 17 < 17 := by omega
  have hX := blk0 m c t b hb l
  have hP := blk1 m c t b hb l
  have hN := blk2 m c t b hb l
  rw [body_apply, coord t, blk4, blk3, blk3, blk3, blk3, hX r n hn]
  unfold cell
  rw [← earlier1 _ (fun r => (iblk m c 0 t : Vec Ideal S1x256x1024 .f32) (ix3 0 r l)) (fun r => (iblk m c 1 t : Vec Ideal S1x8x1024 .f32) (ix3 0 r l)) _ hτ hX hP r n hn (by omega),
    ← later1 _ (fun r => (iblk m c 0 t : Vec Ideal S1x256x1024 .f32) (ix3 0 r l)) (fun r => (iblk m c 2 t : Vec Ideal S1x8x1024 .f32) (ix3 0 r l)) _ hτ hX hN r n hn (by omega),
    ← later2 _ (fun r => (iblk m c 0 t : Vec Ideal S1x256x1024 .f32) (ix3 0 r l)) (fun r => (iblk m c 2 t : Vec Ideal S1x8x1024 .f32) (ix3 0 r l)) _ hτ hX hN r n hn (by omega)]

/-- The block at a write-back is its block of the convolution. -/
theorem flushed (_ : (cfg0.win 5).flush t = true) :
    (dats m 0 c).flushed 5 t = ((cfg0.win 5).blk t).view.read (Elt Ideal) (G (X m c) (Wt m c) (Bi m c)) := by
  have hi := index5 t
  have ht : t.val < 34 := lt_of_lt_of_eq t.isLt N_0
  refine funext fun (j : (⟨3, ![1, 256, 1024]⟩ : Shape).Idx) => ?_
  rw [View.read_apply]
  obtain ⟨z, r, l, rfl⟩ : ∃ (z : Fin 1) (r : Fin 256) (l : Fin 1024), j = ix3 z r l := ⟨j 0, j 1, j 2, eq_ix3 j⟩
  obtain rfl : z = 0 := Subsingleton.elim _ _
  refine Eq.trans (b := body (grid0.coords t) (iblk m c 0 t) (iblk m c 1 t) (iblk m c 2 t) (iblk m c 3 t) (iblk m c 4 t) (ix3 (0 : Fin 1) r l)) ?_
    ((step m c t ⟨t.val / 17, by omega⟩ rfl r l ⟨256 * (t.val % 17) + r.val, by omega⟩ rfl).trans ?_)
  · rw [Value.flushed5, wrote]
    rfl
  · show G (X m c) (Wt m c) (Bi m c) (ix3 (⟨t.val / 17, by omega⟩ : Fin 2) (⟨256 * (t.val % 17) + r.val, by omega⟩ : Fin 4352) l) = _
    generalize G (X m c) (Wt m c) (Bi m c) = g
    refine congrArg g (at3 (((cfg0.win 5).blk t).view.emb (ix3 (0 : Fin 1) r l)) _ _ _ ?_ ?_ ?_).symm
    · show win0_5.index t 0 * 1 + 1 * 0 = t.val / 17
      omega
    · show win0_5.index t 1 * 256 + 1 * r.val = 256 * (t.val % 17) + r.val
      omega
    · show win0_5.index t 2 * 1024 + 1 * l.val = l.val
      omega

/-- The kernel's result is the convolution. -/
theorem answer : (dats m 0 c).arrAt 5 cfg0.N = G (X m c) (Wt m c) (Bi m c) :=
  (dats m 0 c).arrAt_eq_of_cover 5 (G (X m c) (Wt m c) (Bi m c)) (flushed m c) fun i => by
    have h0 : (i 0 : Nat) < 2 := (i 0).isLt
    have h1 : (i 1 : Nat) < 4352 := (i 1).isLt
    have h2 : (i 2 : Nat) < 1024 := (i 2).isLt
    obtain ⟨t, ht⟩ : ∃ t : Fin cfg0.N, t.val = 17 * (i 0).val + (i 1).val / 256 :=
      ⟨⟨17 * (i 0).val + (i 1).val / 256, lt_of_lt_of_eq (by omega) N_0.symm⟩, rfl⟩
    have hi := index5 t
    have hx := xsize5 t
    refine ⟨t, flush0_5 t, ?_⟩
    show i ∈ ((View.whole main_v1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + win0_5.xsize (grid0.coords t) 0
      omega
    | ⟨1, _⟩ =>
      show win0_5.index t 1 * 256 ≤ (i 1 : Nat) ∧ (i 1 : Nat) < win0_5.index t 1 * 256 + win0_5.xsize (grid0.coords t) 1
      omega
    | ⟨2, _⟩ =>
      show win0_5.index t 2 * 1024 ≤ (i 2 : Nat) ∧ (i 2 : Nat) < win0_5.index t 2 * 1024 + win0_5.xsize (grid0.coords t) 2
      omega

end Cert.ConvIdeal.Answer

namespace Cert.ConvReferenceIdeal.Answer

open Idealize.ShloMosaic Idealize.ShloMosaic.TcCoe Idealize.ShloMosaic.Tactic
open Cert.ConvReferenceIdeal Cert.ConvReferenceIdeal.Gen Cert.Taps

set_option maxHeartbeats 1000000

theorem value (m : (ℓ : Loc nD τ sig) → Buf (Elt Ideal) ℓ) (c : Dev nD) (x : Vec Ideal S2x4352x3072 .f32) (w : Vec Ideal S4x1024 .f32)
    (bb : Vec Ideal S1024 .f32) (hx : m ((c.tc : Thread nD τ).loc main_arg0) = x) (hw : m ((c.tc : Thread nD τ).loc main_arg1) = w)
    (hb : m ((c.tc : Thread nD τ).loc main_arg2) = bb) (b : Fin 2) (n : Fin 4352) (l : Fin 1024) :
    (Value.res_main_v55 (F := Ideal) m c : Vec Ideal S2x4352x1024 .f32) (ix3 b n l)
      = Cert.ConvIdeal.Answer.cell (Cert.ConvIdeal.Answer.chan x b l) w (bb (ix1 l)) n l := by
  unfold Value.res_main_v55
  rw [hx, hw, hb]
  have tap : ∀ (k : Fin 4) (p q : Fin 4352), p.val = q.val →
      x (ix3 b p ⟨l.val, by omega⟩) * w (ix2 k l) = w (ix2 k l) * x (ix3 b q ⟨l.val, by omega⟩) := fun k p q h => by
    rw [Fin.ext h, mul_comm]
  unfold Cert.ConvIdeal.Answer.cell Cert.ConvIdeal.Answer.chan later earlier
  simp [pointwise]
  simp only [Fin.ext_iff, Fin.val_zero]
  by_cases h : n.val < 256
  all_goals
    first | rw [dif_pos h] | rw [dif_neg h]
    refine congrArg₂ (· + ·) (congrArg₂ (· + ·) (congrArg₂ (· + ·) (congrArg (bb (ix1 l) + ·) ?_) ?_) ?_) ?_
    all_goals
      split_ifs
      all_goals
        first
        | rfl
        | (exfalso; omega)
        | exact tap _ _ _ rfl
        | (refine Eq.trans ?_ (dif_pos (by constructor <;> omega)).symm
           exact tap _ _ _ (by dsimp only <;> omega))
        | exact tap _ _ _ (by dsimp only <;> omega)

end Cert.ConvReferenceIdeal.Answer

namespace Cert.Conv.Answer

open Idealize.ShloMosaic Idealize.ShloMosaic.TcCoe Idealize.SL.Sem

/-- The reference ends, changes no argument, and has no semaphore. -/
theorem frame_reference : Cert.quiescent_ConvReferenceIdeal := fun m ρ _ =>
  (θ_run Cert.ConvReferenceIdeal.defs _ _).mono (fun r h => ⟨fun c => (h c).2,
      Idealize.ShloMosaic.sem_eq_zero_of_no_sems (by decide) r.2⟩)
    (Cert.ConvReferenceIdeal.Value.run (F := Ideal) m ρ)

open Cert.ConvIdeal.Answer in
/-- From equal arguments the kernel and the reference end with equal results. -/
theorem algebraic : Cert.algebraic_ConvIdeal_ConvReferenceIdeal := by
  intro m g m' g' _ hagree
  refine ⟨fun c => G (X m c) (Wt m c) (Bi m c),
    (θ_run Cert.ConvIdeal.defs _ _).mono (fun r h c => ⟨(h c).1.trans (answer m c), (h c).2⟩)
      (Cert.ConvIdeal.Value.run_blocks (F := Ideal) m g), ?_⟩
  refine (θ_run Cert.ConvReferenceIdeal.defs _ _).mono (fun r h c => ⟨(h c).1.trans ?_, (h c).2⟩)
    (Cert.ConvReferenceIdeal.Value.run (F := Ideal) m' g')
  obtain ⟨a0, a1, a2⟩ := hagree c
  funext y
  rw [eq_ix3 y]
  exact Cert.ConvReferenceIdeal.Answer.value m' c _ _ _ a0 a1 a2 _ _ _

end Cert.Conv.Answer

end
-- ==== Proof.ConvBwdSteps.lean ====
module

public import proofs.«01_k».proof.Defs
public import proofs.«01_k».proof.Proof.Taps
public import proofs.«01_k».proof.Proof.Tiles
public import proofs.«01_k».proof.Proof.Sums
public import proofs.«01_k».proof.Proof.Gen.ConvBwdIdeal.Value
public import Idealize.ShloMosaic.Lib.WritesUnit

@[expose] public section

/-!
The backward call of the causal convolution: what a step writes from its blocks, which tokens the blocks hold, and so what the call's
two results are: the gradient of the convolved columns, and per example the gradients of the weights and of the bias.
-/

noncomputable section

namespace Cert.ConvBwdIdeal.Answer

open Idealize.ShloMosaic Idealize.ShloMosaic.TcCoe Idealize.ShloMosaic.Tactic
open Cert.ConvBwdIdeal Cert.ConvBwdIdeal.Gen Cert.Taps Cert.Tiles Cert.Sums

variable (c : Dev nD) (i : grid0.Coords) (a0 : Memref sig .tc .vmem S1x256x1024 .f32) (h0 : a0.IsWhole)
  (a1 : Memref sig .tc .vmem S1x8x1024 .f32) (h1 : a1.IsWhole) (a2 : Memref sig .tc .vmem S1x8x1024 .f32) (h2 : a2.IsWhole)
  (a3 : Memref sig .tc .vmem S1x256x1024 .f32) (h3 : a3.IsWhole)
  (a4 : Memref sig .tc .vmem S1x8x1024 .f32) (h4 : a4.IsWhole) (a5 : Memref sig .tc .vmem S1x8x1024 .f32) (h5 : a5.IsWhole)
  (a6 : Memref sig .tc .vmem S4x1024 .f32) (h6 : a6.IsWhole)
  (a7 : Memref sig .tc .vmem S1x256x1024 .f32) (h7 : a7.IsWhole) (a8 : Memref sig .tc .vmem S1x8x1024 .f32) (h8 : a8.IsWhole)
  (g : Vec Ideal S1x256x1024 .f32) (gp gn : Vec Ideal S1x8x1024 .f32) (x : Vec Ideal S1x256x1024 .f32) (xp xn : Vec Ideal S1x8x1024 .f32)
  (w : Vec Ideal S4x1024 .f32) (s : Vec Ideal S1x8x1024 .f32)

/-- What a step writes for its token `r`, from its blocks. -/
def dxAt (q : ℕ) (g : Vec Ideal S1x256x1024 .f32) (gp gn : Vec Ideal S1x8x1024 .f32) (w : Vec Ideal S4x1024 .f32) (r : Fin 256) (l : Fin 1024) : EReal :=
  w (ix2 0 l) * Scalar.select (IntOp.cmpi CmpIPredicate.eq (BitVec.ofNat 32 r.val) 255#32)
          (Scalar.select (last q) 0 (gn (ix3 0 0 l))) (g (ix3 0 ⟨(r.val + 1) % 256, by omega⟩ l))
    + w (ix2 1 l) * g (ix3 0 r l)
    + w (ix2 2 l) * Scalar.select (IntOp.cmpi CmpIPredicate.eq (BitVec.ofNat 32 r.val) 0#32)
          (Scalar.select (first q) 0 (gp (ix3 0 7 l))) (g (ix3 0 ⟨(r.val + 255) % 256, by omega⟩ l))
    + w (ix2 3 l) * Scalar.select (IntOp.cmpi CmpIPredicate.eq (BitVec.ofNat 32 r.val) 0#32)
          (Scalar.select (first q) 0 (gp (ix3 0 6 l)))
          (Scalar.select (IntOp.cmpi CmpIPredicate.eq (BitVec.ofNat 32 r.val) 1#32)
            (Scalar.select (first q) 0 (gp (ix3 0 7 l))) (g (ix3 0 ⟨(r.val + 254) % 256, by omega⟩ l)))

/-- The neighbour that output row `k` pairs with token `r`. -/
def nb (q : ℕ) (x : Vec Ideal S1x256x1024 .f32) (xp xn : Vec Ideal S1x8x1024 .f32) (k : Fin 8) (r : Fin 256) (l : Fin 1024) : EReal :=
  (![Scalar.select (IntOp.cmpi CmpIPredicate.eq (BitVec.ofNat 32 r.val) 0#32)
        (Scalar.select (first q) 0 (xp (ix3 0 7 l))) (x (ix3 0 ⟨(r.val + 255) % 256, by omega⟩ l)),
    x (ix3 0 r l),
    Scalar.select (IntOp.cmpi CmpIPredicate.eq (BitVec.ofNat 32 r.val) 255#32)
        (Scalar.select (last q) 0 (xn (ix3 0 0 l))) (x (ix3 0 ⟨(r.val + 1) % 256, by omega⟩ l)),
    Scalar.select (IntOp.cmpi CmpIPredicate.eq (BitVec.ofNat 32 r.val) 255#32)
        (Scalar.select (last q) 0 (xn (ix3 0 1 l)))
        (Scalar.select (IntOp.cmpi CmpIPredicate.eq (BitVec.ofNat 32 r.val) 254#32)
          (Scalar.select (last q) 0 (xn (ix3 0 0 l))) (x (ix3 0 ⟨(r.val + 2) % 256, by omega⟩ l))),
    1, 0, 0, 0] : Fin 8 → EReal) k

variable (u : Vec Ideal S1x1x1024 .f32) (q : ℕ)

theorem pay12 (r : Fin 256) (l : Fin 1024) :
    k0_pay12 (first (i 1).val) (k0_pay3 g) (k0_pay4 gp) w (k0_pay8 w) k0_pay9 (k0_pay10 g) (k0_pay11 i gn) (ix3 (0 : Fin 1) r l)
      = dxAt (i 1).val g gp gn w r l := by
  unfold dxAt
  generalize first (i 1).val = v
  unfold last
  simp [k0_pay12, k0_pay3, k0_pay4, k0_pay8, k0_pay9, k0_pay10, k0_pay11, pointwise]

theorem row0 (l : Fin 1024) : k0_pay14 (first q) (k0_pay3 g) (k0_pay5 x) (k0_pay6 xp) u (ix3 (0 : Fin 1) (0 : Fin 1) l)
    = u (ix3 0 0 l) + ∑ r : Fin 256, g (ix3 0 r l) * nb q x xp xn 0 r l := by
  unfold nb
  generalize first q = z
  simp [k0_pay14, k0_pay3, k0_pay5, k0_pay6, pointwise]

theorem row1 (l : Fin 1024) : k0_pay15 (k0_pay3 g) (k0_pay5 x) u (ix3 (0 : Fin 1) (0 : Fin 1) l)
    = u (ix3 0 0 l) + ∑ r : Fin 256, g (ix3 0 r l) * nb q x xp xn 1 r l := by
  unfold nb
  simp [k0_pay15, k0_pay3, k0_pay5, pointwise]

theorem row2 (l : Fin 1024) : k0_pay16 (last q) (k0_pay3 g) (k0_pay5 x) (k0_pay7 xn) u (ix3 (0 : Fin 1) (0 : Fin 1) l)
    = u (ix3 0 0 l) + ∑ r : Fin 256, g (ix3 0 r l) * nb q x xp xn 2 r l := by
  unfold nb
  generalize last q = z
  simp [k0_pay16, k0_pay3, k0_pay5, k0_pay7, pointwise]

theorem row3 (l : Fin 1024) : k0_pay1 (k0_pay17 u) (k0_pay18 (last q) (k0_pay3 g) (k0_pay5 x) (k0_pay7 xn)) (ix3 (0 : Fin 1) (0 : Fin 1) l)
    = u (ix3 0 0 l) + ∑ r : Fin 256, g (ix3 0 r l) * nb q x xp xn 3 r l := by
  unfold nb
  generalize last q = z
  simp [k0_pay1, k0_pay17, k0_pay18, k0_pay3, k0_pay5, k0_pay7, pointwise]

theorem row4 (l : Fin 1024) : k0_pay2 (k0_pay3 g) u (ix3 (0 : Fin 1) (0 : Fin 1) l)
    = u (ix3 0 0 l) + ∑ r : Fin 256, g (ix3 0 r l) * nb q x xp xn 4 r l := by
  unfold nb
  simp [k0_pay2, k0_pay3, pointwise]

/-- The rows past the fifth take nothing. -/
theorem row5 (k : Fin 8) (hk : 5 ≤ k.val) (l : Fin 1024) (e : EReal) : e + ∑ r : Fin 256, g (ix3 0 r l) * nb q x xp xn k r l = e := by
  obtain rfl | rfl | rfl : k = 5 ∨ k = 6 ∨ k = 7 := by omega
  all_goals
    unfold nb
    simp

/-- What the rows written so far hold: the row written last. -/
theorem same (v : View sig .tc .vmem S1x8x1024 .f32) (f : v.ty.Contents (Elt Ideal)) (k : ℕ) (inb : ∀ a, ![0, k, 0] a + ![1, 1, 1024] a ≤ S1x8x1024.size a)
    (p : Vec Ideal S1x1x1024 .f32) (L : List (View.Piece (Elt Ideal) S1x8x1024 .f32)) (j : Fin 8) (h : j.val = k) (l : Fin 1024) :
    v.read (Elt Ideal) (v.writes (Elt Ideal) f (⟨Rect.unit ![0, k, 0] ![1, 1, 1024] inb, p⟩ :: L)) (ix3 0 j l) = p (ix3 0 0 l) :=
  View.read_writes_cons_unit_of_mem v f inb p L (ix3 0 j l) (ix3 0 0 l) rfl fun a => by
    match a with
    | ⟨0, _⟩ => rfl
    | ⟨1, _⟩ => exact h
    | ⟨2, _⟩ => exact (Nat.zero_add _).symm

/-- And the others as before. -/
theorem other (v : View sig .tc .vmem S1x8x1024 .f32) (f : v.ty.Contents (Elt Ideal)) (k : ℕ) (inb : ∀ a, ![0, k, 0] a + ![1, 1, 1024] a ≤ S1x8x1024.size a)
    (p : Vec Ideal S1x1x1024 .f32) (L : List (View.Piece (Elt Ideal) S1x8x1024 .f32)) (j : Fin 8) (h : j.val ≠ k) (l : Fin 1024) :
    v.read (Elt Ideal) (v.writes (Elt Ideal) f (⟨Rect.unit ![0, k, 0] ![1, 1, 1024] inb, p⟩ :: L)) (ix3 0 j l)
      = v.read (Elt Ideal) (v.writes (Elt Ideal) f L) (ix3 0 j l) :=
  View.read_writes_cons_unit_of_not_mem v f inb p L (ix3 0 j l) rfl 1 (by show j.val < k ∨ k + 1 ≤ j.val; omega)

theorem loaded (v : View sig .tc .vmem S1x8x1024 .f32) (f : v.ty.Contents (Elt Ideal)) (k : ℕ) (inb : ∀ a, ![0, k, 0] a + ![1, 1, 1024] a ≤ S1x8x1024.size a)
    (j : Fin 8) (h : j.val = k) (l : Fin 1024) :
    (View.readAt (Elt Ideal) v (Rect.unit (s := S1x8x1024) (![0, k, 0] : Fin 3 → ℕ) (![1, 1, 1024] : Fin 3 → ℕ) inb).toLoadRect f : Vec Ideal S1x1x1024 .f32) (ix3 0 0 l) = v.read
        (Elt Ideal) f (ix3 0 j l) :=
  congrArg (v.read (Elt Ideal) f) (at3 _ 0 j l rfl (by show k + 1 * 0 = j.val; omega) (by show 0 + 1 * l.val = l.val; omega))

/-- The first `k` rows hold their sums and the others zero. -/
def Holds (G : Fin 8 → Fin 1024 → EReal) (L : List (View.Piece (Elt Ideal) S1x8x1024 .f32)) (k : ℕ) : Prop :=
  ∀ (v : View sig .tc .vmem S1x8x1024 .f32) (f : v.ty.Contents (Elt Ideal)) (j : Fin 8) (l : Fin 1024),
    v.read (Elt Ideal) (v.writes (Elt Ideal) f L) (ix3 0 j l) = if j.val < k then G j l else 0

theorem holds_next (G : Fin 8 → Fin 1024 → EReal) (L : List (View.Piece (Elt Ideal) S1x8x1024 .f32)) (k : ℕ) (hk : k < 8)
    (inb : ∀ a, ![0, k, 0] a + ![1, 1, 1024] a ≤ S1x8x1024.size a) (p : Vec Ideal S1x1x1024 .f32) (hL : Holds G L k)
    (hp : ∀ l, p (ix3 0 0 l) = G ⟨k, hk⟩ l) : Holds G (⟨Rect.unit ![0, k, 0] ![1, 1, 1024] inb, p⟩ :: L) (k + 1) := fun v f j l => by
  by_cases h : j.val = k
  · rw [same v f k inb p L j h, hp, if_pos (by omega)]
    exact congrArg (G · l) (Fin.ext h.symm)
  · rw [other v f k inb p L j h, hL v f j l]
    exact if_congr (by omega) rfl rfl

theorem covered (G : Fin 8 → Fin 1024 → EReal) (L : List (View.Piece (Elt Ideal) S1x8x1024 .f32)) (k : ℕ) (hk : k < 8)
    (inb : ∀ a, ![0, k, 0] a + ![1, 1, 1024] a ≤ S1x8x1024.size a) (v : View sig .tc .vmem S1x8x1024 .f32) (hL : Holds G L k) (l : Fin 1024) :
    (v.readCov L (Rect.unit (s := S1x8x1024) (![0, k, 0] : Fin 3 → ℕ) (![1, 1, 1024] : Fin 3 → ℕ) inb).toLoadRect : Vec Ideal S1x1x1024 .f32)
      (ix3 0 0 l) = 0 :=
  (loaded v _ k inb ⟨k, hk⟩ rfl l).trans ((hL v _ ⟨k, hk⟩ l).trans (if_neg (lt_irrefl k)))

theorem hz2 : (![0, 0] : Fin 2 → Nat) = fun _ => 0 := funext fun a => by fin_cases a <;> rfl
theorem hz3 : (![0, 0, 0] : Fin 3 → Nat) = fun _ => 0 := funext fun a => by fin_cases a <;> rfl

theorem oA7 (hc : cond0_0 i) (r : Fin 256) (l : Fin 1024) :
    out0_A_7 (F := Ideal) c i a0 h0 a1 h1 a2 h2 a3 h3 a4 h4 a5 h5 a6 h6 a7 h7 a8 h8 hc g gp gn x xp xn w (ix3 (0 : Fin 1) r l)
      = dxAt (i 1).val g gp gn w r l := by
  rw [← pay12]
  refine congrFun ?_ (ix3 (0 : Fin 1) r l)
  unfold out0_A_7
  rw [View.read_writes_eq_canon _ _ _ (cover0_A_7 c i a0 h0 a1 h1 a2 h2 a3 h3 a4 h4 a5 h5 a6 h6 a7 h7 a8 h8 hc g gp gn x xp xn w)]
  unfold kernelRun0_A
  dsimp only
  rw [View.canon_unit_zero hz3]
  unfold kernelRun0_A.sl.r_9 kernelRun0_A.sl.r kernelRun0_A.sl.r_1 kernelRun0_A.sl.r_5 kernelRun0_A.sl.r_6 kernelRun0_A.sl.r_7 kernelRun0_A.sl.r_8
  simp only [View.readAt_eq_ld, h0.read_unread, h1.read_unread, h2.read_unread, h6.read_unread, View.ld_unit_zero (S := S1x256x1024) hz3,
    View.ld_unit_zero (S := S1x8x1024) hz3, View.ld_unit_zero (S := S4x1024) hz2]
  rfl

theorem oB7 (hc : ¬cond0_0 i) (r : Fin 256) (l : Fin 1024) :
    out0_B_7 (F := Ideal) c i a0 h0 a1 h1 a2 h2 a3 h3 a4 h4 a5 h5 a6 h6 a7 h7 a8 h8 hc g gp gn x xp xn w s (ix3 (0 : Fin 1) r l)
      = dxAt (i 1).val g gp gn w r l := by
  rw [← pay12]
  refine congrFun ?_ (ix3 (0 : Fin 1) r l)
  unfold out0_B_7
  rw [View.read_writes_eq_canon _ _ _ (cover0_B_7 c i a0 h0 a1 h1 a2 h2 a3 h3 a4 h4 a5 h5 a6 h6 a7 h7 a8 h8 hc g gp gn x xp xn w s)]
  unfold kernelRun0_B
  dsimp only
  rw [View.canon_unit_zero hz3]
  unfold kernelRun0_B.sl.r_9 kernelRun0_B.sl.r kernelRun0_B.sl.r_1 kernelRun0_B.sl.r_5 kernelRun0_B.sl.r_6 kernelRun0_B.sl.r_7 kernelRun0_B.sl.r_8
  simp only [View.readAt_eq_ld, h0.read_unread, h1.read_unread, h2.read_unread, h6.read_unread, View.ld_unit_zero (S := S1x256x1024) hz3,
    View.ld_unit_zero (S := S1x8x1024) hz3, View.ld_unit_zero (S := S4x1024) hz2]
  rfl

theorem oB8 (hc : ¬cond0_0 i) (k : Fin 8) (l : Fin 1024) :
    out0_B_8 (F := Ideal) c i a0 h0 a1 h1 a2 h2 a3 h3 a4 h4 a5 h5 a6 h6 a7 h7 a8 h8 hc g gp gn x xp xn w s (ix3 (0 : Fin 1) k l)
      = s (ix3 0 k l) + ∑ r : Fin 256, g (ix3 0 r l) * nb (i 1).val x xp xn k r l := by
  have hr : kernelRun0_B.sl.r (F := Ideal) c a0 h0 g = k0_pay3 g := by
    unfold kernelRun0_B.sl.r
    rw [View.readAt_eq_ld, h0.read_unread, View.ld_unit_zero (S := S1x256x1024) hz3]
  have hr2 : kernelRun0_B.sl.r_2 (F := Ideal) c a3 h3 x = k0_pay5 x := by
    unfold kernelRun0_B.sl.r_2
    rw [View.readAt_eq_ld, h3.read_unread, View.ld_unit_zero (S := S1x256x1024) hz3]
  have hr3 : kernelRun0_B.sl.r_3 (F := Ideal) c a4 h4 xp = k0_pay6 xp := by
    unfold kernelRun0_B.sl.r_3
    rw [View.readAt_eq_ld, h4.read_unread, View.ld_unit_zero (S := S1x8x1024) hz3]
  have hr4 : kernelRun0_B.sl.r_4 (F := Ideal) c a5 h5 xn = k0_pay7 xn := by
    unfold kernelRun0_B.sl.r_4
    rw [View.readAt_eq_ld, h5.read_unread, View.ld_unit_zero (S := S1x8x1024) hz3]
  have hs : ∀ (k : ℕ) (inb : ∀ a, ![0, k, 0] a + ![1, 1, 1024] a ≤ S1x8x1024.size a) (j : Fin 8) (_ : j.val = k) (l : Fin 1024),
      (View.readAt (Elt Ideal) a8.view (Rect.unit (s := S1x8x1024) (![0, k, 0] : Fin 3 → ℕ) (![1, 1, 1024] : Fin 3 → ℕ) inb).toLoadRect (h8.unread s) : Vec Ideal S1x1x1024 .f32)
          (ix3 0 0 l) = s (ix3 0 j l) :=
    fun k inb j h l => (loaded a8.view _ k inb j h l).trans (congrFun (h8.read_unread s) _)
  unfold out0_B_8 kernelRun0_B
  dsimp only
  unfold kernelRun0_B.sl.r_11 kernelRun0_B.sl.r_10
  rw [hr, hr2, hr3, hr4, show kernelRun0_B.sl.v2 i = first (i 1).val from rfl, show kernelRun0_B.sl.v5 i = last (i 1).val from rfl]
  obtain rfl | rfl | rfl | rfl | rfl | h : k = 0 ∨ k = 1 ∨ k = 2 ∨ k = 3 ∨ k = 4 ∨ 5 ≤ k.val := by omega
  · rw [other _ _ 4 _ _ _ _ (by decide), other _ _ 3 _ _ _ _ (by decide), other _ _ 2 _ _ _ _ (by decide), other _ _ 1 _ _ _ _ (by decide),
      same _ _ 0 _ _ _ _ rfl, row0, hs 0 _ 0 rfl]
  · rw [other _ _ 4 _ _ _ _ (by decide), other _ _ 3 _ _ _ _ (by decide), other _ _ 2 _ _ _ _ (by decide),
      same _ _ 1 _ _ _ _ rfl, row1 (q := (i 1).val) (xp := xp) (xn := xn)]
    exact congrArg (· + _) (hs 1 _ 1 rfl l)
  · rw [other _ _ 4 _ _ _ _ (by decide), other _ _ 3 _ _ _ _ (by decide), same _ _ 2 _ _ _ _ rfl, row2 (xp := xp)]
    exact congrArg (· + _) (hs 2 _ 2 rfl l)
  · rw [other _ _ 4 _ _ _ _ (by decide), same _ _ 3 _ _ _ _ rfl, row3 (xp := xp)]
    exact congrArg (· + _) (hs 3 _ 3 rfl l)
  · rw [same _ _ 4 _ _ _ _ rfl, row4 (q := (i 1).val) (x := x) (xp := xp) (xn := xn)]
    exact congrArg (· + _) (hs 4 _ 4 rfl l)
  · rw [other _ _ 4 _ _ _ _ (by omega), other _ _ 3 _ _ _ _ (by omega), other _ _ 2 _ _ _ _ (by omega), other _ _ 1 _ _ _ _ (by omega),
      other _ _ 0 _ _ _ _ (by omega), row5 _ _ _ _ _ _ h]
    exact congrFun (h8.read_unread s) _

theorem oA8 (hc : cond0_0 i) (k : Fin 8) (l : Fin 1024) :
    out0_A_8 (F := Ideal) c i a0 h0 a1 h1 a2 h2 a3 h3 a4 h4 a5 h5 a6 h6 a7 h7 a8 h8 hc g gp gn x xp xn w (ix3 (0 : Fin 1) k l)
      = ∑ r : Fin 256, g (ix3 0 r l) * nb (i 1).val x xp xn k r l := by
  have hr : kernelRun0_A.sl.r (F := Ideal) c a0 h0 g = k0_pay3 g := by
    unfold kernelRun0_A.sl.r
    rw [View.readAt_eq_ld, h0.read_unread, View.ld_unit_zero (S := S1x256x1024) hz3]
  have hr2 : kernelRun0_A.sl.r_2 (F := Ideal) c a3 h3 x = k0_pay5 x := by
    unfold kernelRun0_A.sl.r_2
    rw [View.readAt_eq_ld, h3.read_unread, View.ld_unit_zero (S := S1x256x1024) hz3]
  have hr3 : kernelRun0_A.sl.r_3 (F := Ideal) c a4 h4 xp = k0_pay6 xp := by
    unfold kernelRun0_A.sl.r_3
    rw [View.readAt_eq_ld, h4.read_unread, View.ld_unit_zero (S := S1x8x1024) hz3]
  have hr4 : kernelRun0_A.sl.r_4 (F := Ideal) c a5 h5 xn = k0_pay7 xn := by
    unfold kernelRun0_A.sl.r_4
    rw [View.readAt_eq_ld, h5.read_unread, View.ld_unit_zero (S := S1x8x1024) hz3]
  let G : Fin 8 → Fin 1024 → EReal := fun k l => ∑ r : Fin 256, g (ix3 0 r l) * nb (i 1).val x xp xn k r l
  have e1 : Holds G (kernelRun0_A.sl.H8_1 (F := Ideal)) 0 := fun v f j l => by
    unfold kernelRun0_A.sl.H8_1
    refine (View.read_writes_cons_unit_of_mem (off' := fun _ => 0) v f _ _ _ (ix3 0 j l) (ix3 0 j l) hz3 fun a => (Nat.zero_add _).symm).trans ?_
    rw [if_neg (by omega)]
    show k0_pay13 (F := Ideal) (ix3 0 j l) = (0 : EReal)
    simp [k0_pay13, pointwise]
  have e2 : Holds G (kernelRun0_A.sl.H8_2 (F := Ideal) c i a0 h0 a3 h3 a4 h4 a8 g x xp) 1 := by
    unfold kernelRun0_A.sl.H8_2
    refine holds_next G _ 0 (by omega) _ _ e1 fun l => ?_
    rw [hr, hr2, hr3]
    exact (row0 g x xp xn _ (i 1).val l).trans ((congrArg (· + _) (covered G _ 0 (by omega) _ a8.view e1 l)).trans (zero_add _))
  have e3 : Holds G (kernelRun0_A.sl.H8_3 (F := Ideal) c i a0 h0 a3 h3 a4 h4 a8 g x xp) 2 := by
    unfold kernelRun0_A.sl.H8_3
    refine holds_next G _ 1 (by omega) _ _ e2 fun l => ?_
    rw [hr, hr2]
    exact (row1 g x xp xn _ (i 1).val l).trans ((congrArg (· + _) (covered G _ 1 (by omega) _ a8.view e2 l)).trans (zero_add _))
  have e4 : Holds G (kernelRun0_A.sl.H8_4 (F := Ideal) c i a0 h0 a3 h3 a4 h4 a5 h5 a8 g x xp xn) 3 := by
    unfold kernelRun0_A.sl.H8_4
    refine holds_next G _ 2 (by omega) _ _ e3 fun l => ?_
    rw [hr, hr2, hr4]
    exact (row2 g x xp xn _ (i 1).val l).trans ((congrArg (· + _) (covered G _ 2 (by omega) _ a8.view e3 l)).trans (zero_add _))
  have e5 : Holds G (kernelRun0_A.sl.H8_5 (F := Ideal) c i a0 h0 a3 h3 a4 h4 a5 h5 a8 g x xp xn) 4 := by
    unfold kernelRun0_A.sl.H8_5
    refine holds_next G _ 3 (by omega) _ _ e4 fun l => ?_
    unfold kernelRun0_A.sl.r_10 kernelRun0_A.sl.r_11
    rw [hr, hr2, hr4]
    exact (row3 g x xp xn _ (i 1).val l).trans ((congrArg (· + _) (covered G _ 3 (by omega) _ a8.view e4 l)).trans (zero_add _))
  unfold out0_A_8 kernelRun0_A
  dsimp only
  rw [hr]
  refine (holds_next G _ 4 (by omega) _ _ e5 (fun l => ?_) VO0_8 _ k l).trans ?_
  · exact (row4 g x xp xn _ (i 1).val l).trans ((congrArg (· + _) (covered G _ 4 (by omega) _ a8.view e5 l)).trans (zero_add _))
  · split_ifs with h
    · rfl
    · exact ((zero_add _).symm.trans (row5 g x xp xn (i 1).val k (by omega) l 0)).symm

/-- A token's term of the second result. -/
abbrev term (q : ℕ) (g x : Vec Ideal S1x256x1024 .f32) (xp xn : Vec Ideal S1x8x1024 .f32) (k : Fin 8) (l : Fin 1024) (r : Fin 256) : EReal :=
  g (ix3 0 r l) * nb q x xp xn k r l

variable (m : (ℓ : Loc nD τ sig) → Buf (Elt Ideal) ℓ) (t : Fin cfg0.N)

/-- The array whose first 1024 columns are convolved, the weights, and the gradient that arrives. -/
abbrev X (c : Dev nD) : Vec Ideal S2x4352x3072 .f32 := m ((c.tc : Thread nD τ).loc main_arg0)
abbrev Wt (c : Dev nD) : Vec Ideal S4x1024 .f32 := m ((c.tc : Thread nD τ).loc main_arg1)
abbrev Ct (c : Dev nD) : Vec Ideal S2x4352x1024 .f32 := m ((c.tc : Thread nD τ).loc main_arg3)

/-- Channel `l` of example `b`. -/
abbrev chan (x : Vec Ideal S2x4352x3072 .f32) (b : Fin 2) (l : Fin 1024) (n : Fin 4352) : EReal := x (ix3 b n ⟨l.val, by omega⟩)
abbrev grad (x : Vec Ideal S2x4352x1024 .f32) (b : Fin 2) (l : Fin 1024) (n : Fin 4352) : EReal := x (ix3 b n l)

/-- The gradient of a channel at token `n`, from the gradient `f` of its convolution. -/
def cell (f : Fin 4352 → EReal) (w : Vec Ideal S4x1024 .f32) (n : Fin 4352) (l : Fin 1024) : EReal :=
  w (ix2 0 l) * later f 1 n + w (ix2 1 l) * f n + w (ix2 2 l) * earlier f 1 n + w (ix2 3 l) * earlier f 2 n

/-- What row `k` of the second result multiplies the gradient at token `n` with: a neighbour for a weight's row, one for the bias's. -/
def pair (f : Fin 4352 → EReal) (k : Fin 8) (n : Fin 4352) : EReal :=
  (![earlier f 1 n, f n, later f 1 n, later f 2 n, 1, 0, 0, 0] : Fin 8 → EReal) k

/-- The gradient of the convolved columns. -/
def G7 (w : Vec Ideal S4x1024 .f32) (g : Vec Ideal S2x4352x1024 .f32) : Vec Ideal S2x4352x1024 .f32 := fun y =>
  cell (grad g (y 0) (y 2)) w (y 1) (y 2)

/-- The gradients of the weights and of the bias, per example. -/
def G8 (x : Vec Ideal S2x4352x3072 .f32) (g : Vec Ideal S2x4352x1024 .f32) : Vec Ideal S2x8x1024 .f32 := fun y =>
  ∑ n : Fin 4352, grad g (y 0) (y 2) n * pair (chan x (y 0) (y 2)) (y 1) n

theorem index0 : ∀ t : Fin cfg0.N, win0_0.index t 0 = t.val / 17 ∧ win0_0.index t 1 = t.val % 17 ∧ win0_0.index t 2 = 0 :=
  (by decide +kernel : ∀ t : Fin grid0.N, win0_0.index t 0 = t.val / 17 ∧ win0_0.index t 1 = t.val % 17 ∧ win0_0.index t 2 = 0)

theorem index1 : ∀ t : Fin cfg0.N, win0_1.index t 0 = t.val / 17 ∧ win0_1.index t 1 = 32 * (t.val % 17) - 1 ∧ win0_1.index t 2 = 0 :=
  (by decide +kernel : ∀ t : Fin grid0.N, win0_1.index t 0 = t.val / 17 ∧ win0_1.index t 1 = 32 * (t.val % 17) - 1 ∧ win0_1.index t 2 = 0)

theorem index2 : ∀ t : Fin cfg0.N, win0_2.index t 0 = t.val / 17 ∧ win0_2.index t 1 = min (32 * (t.val % 17) + 32) 543 ∧ win0_2.index t 2 = 0 :=
  (by decide +kernel : ∀ t : Fin grid0.N, win0_2.index t 0 = t.val / 17 ∧ win0_2.index t 1 = min (32 * (t.val % 17) + 32) 543 ∧ win0_2.index t 2 = 0)

theorem index3 : ∀ t : Fin cfg0.N, win0_3.index t 0 = t.val / 17 ∧ win0_3.index t 1 = t.val % 17 ∧ win0_3.index t 2 = 0 :=
  (by decide +kernel : ∀ t : Fin grid0.N, win0_3.index t 0 = t.val / 17 ∧ win0_3.index t 1 = t.val % 17 ∧ win0_3.index t 2 = 0)

theorem index4 : ∀ t : Fin cfg0.N, win0_4.index t 0 = t.val / 17 ∧ win0_4.index t 1 = 32 * (t.val % 17) - 1 ∧ win0_4.index t 2 = 0 :=
  (by decide +kernel : ∀ t : Fin grid0.N, win0_4.index t 0 = t.val / 17 ∧ win0_4.index t 1 = 32 * (t.val % 17) - 1 ∧ win0_4.index t 2 = 0)

theorem index5 : ∀ t : Fin cfg0.N, win0_5.index t 0 = t.val / 17 ∧ win0_5.index t 1 = min (32 * (t.val % 17) + 32) 543 ∧ win0_5.index t 2 = 0 :=
  (by decide +kernel : ∀ t : Fin grid0.N, win0_5.index t 0 = t.val / 17 ∧ win0_5.index t 1 = min (32 * (t.val % 17) + 32) 543 ∧ win0_5.index t 2 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = t.val / 17 ∧ win0_7.index t 1 = t.val % 17 ∧ win0_7.index t 2 = 0 :=
  (by decide +kernel : ∀ t : Fin grid0.N, win0_7.index t 0 = t.val / 17 ∧ win0_7.index t 1 = t.val % 17 ∧ win0_7.index t 2 = 0)

theorem index8 : ∀ t : Fin cfg0.N, win0_8.index t 0 = t.val / 17 ∧ win0_8.index t 1 = 0 ∧ win0_8.index t 2 = 0 :=
  (by decide +kernel : ∀ t : Fin grid0.N, win0_8.index t 0 = t.val / 17 ∧ win0_8.index t 1 = 0 ∧ win0_8.index t 2 = 0)

theorem xsize7 : ∀ t : Fin cfg0.N, win0_7.xsize (grid0.coords t) 0 = 1 ∧ win0_7.xsize (grid0.coords t) 1 = 256 ∧ win0_7.xsize (grid0.coords t) 2 = 1024 :=
  (by decide +kernel : ∀ t : Fin grid0.N, win0_7.xsize (grid0.coords t) 0 = 1 ∧ win0_7.xsize (grid0.coords t) 1 = 256 ∧ win0_7.xsize (grid0.coords t) 2 = 1024)

theorem xsize8 : ∀ t : Fin cfg0.N, win0_8.xsize (grid0.coords t) 0 = 1 ∧ win0_8.xsize (grid0.coords t) 1 = 8 ∧ win0_8.xsize (grid0.coords t) 2 = 1024 :=
  (by decide +kernel : ∀ t : Fin grid0.N, win0_8.xsize (grid0.coords t) 0 = 1 ∧ win0_8.xsize (grid0.coords t) 1 = 8 ∧ win0_8.xsize (grid0.coords t) 2 = 1024)

theorem coord : ∀ t : Fin cfg0.N, (grid0.coords t 1).val = t.val % 17 :=
  (by decide +kernel : ∀ t : Fin grid0.N, (grid0.coords t 1).val = t.val % 17)

/-- Step `t`'s block of 256 tokens of the gradient. -/
theorem blk0 (b : Fin 2) (hb : b.val = t.val / 17) (l : Fin 1024) (r : Fin 256) (n : Fin 4352) (hn : n.val = 256 * (t.val % 17) + r.val) :
    (iblk m c 0 t : Vec Ideal S1x256x1024 .f32) (ix3 (0 : Fin 1) r l) = grad (Ct m c) b l n := by
  have hi := index0 t
  unfold iblk
  rw [View.read_apply]
  refine Eq.trans (b := V m c main_arg3 (ix3 b n l)) (congrArg (V m c main_arg3) (at3 _ b n l ?_ ?_ ?_)) (congrFun (V_main_arg3 m c) _)
  · show win0_0.index t 0 * 1 + 1 * 0 = b.val
    omega
  · show win0_0.index t 1 * 256 + 1 * r.val = n.val
    omega
  · show win0_0.index t 2 * 1024 + 1 * l.val = l.val
    omega

/-- The eight tokens before it. -/
theorem blk1 (b : Fin 2) (hb : b.val = t.val / 17) (l : Fin 1024) (r : Fin 8) (n : Fin 4352) (hn : n.val + 8 = 256 * (t.val % 17) + r.val) :
    (iblk m c 1 t : Vec Ideal S1x8x1024 .f32) (ix3 (0 : Fin 1) r l) = grad (Ct m c) b l n := by
  have hi := index1 t
  unfold iblk
  rw [View.read_apply]
  refine Eq.trans (b := V m c main_arg3 (ix3 b n l)) (congrArg (V m c main_arg3) (at3 _ b n l ?_ ?_ ?_)) (congrFun (V_main_arg3 m c) _)
  · show win0_1.index t 0 * 1 + 1 * 0 = b.val
    omega
  · show win0_1.index t 1 * 8 + 1 * r.val = n.val
    omega
  · show win0_1.index t 2 * 1024 + 1 * l.val = l.val
    omega

/-- The eight tokens after it. -/
theorem blk2 (b : Fin 2) (hb : b.val = t.val / 17) (l : Fin 1024) (r : Fin 8) (n : Fin 4352) (hn : n.val = 256 * (t.val % 17 + 1) + r.val) :
    (iblk m c 2 t : Vec Ideal S1x8x1024 .f32) (ix3 (0 : Fin 1) r l) = grad (Ct m c) b l n := by
  have hi := index2 t
  unfold iblk
  rw [View.read_apply]
  refine Eq.trans (b := V m c main_arg3 (ix3 b n l)) (congrArg (V m c main_arg3) (at3 _ b n l ?_ ?_ ?_)) (congrFun (V_main_arg3 m c) _)
  · show win0_2.index t 0 * 1 + 1 * 0 = b.val
    omega
  · show win0_2.index t 1 * 8 + 1 * r.val = n.val
    omega
  · show win0_2.index t 2 * 1024 + 1 * l.val = l.val
    omega

/-- Its block of the convolved columns. -/
theorem blk3 (b : Fin 2) (hb : b.val = t.val / 17) (l : Fin 1024) (r : Fin 256) (n : Fin 4352) (hn : n.val = 256 * (t.val % 17) + r.val) :
    (iblk m c 3 t : Vec Ideal S1x256x1024 .f32) (ix3 (0 : Fin 1) r l) = chan (X m c) b l n := by
  have hi := index3 t
  unfold iblk
  rw [View.read_apply]
  refine Eq.trans (b := V m c main_arg0 (ix3 b n ⟨l.val, by omega⟩)) (congrArg (V m c main_arg0) (at3 _ b n ⟨l.val, by omega⟩ ?_ ?_ ?_)) (congrFun (V_main_arg0 m c) _)
  · show win0_3.index t 0 * 1 + 1 * 0 = b.val
    omega
  · show win0_3.index t 1 * 256 + 1 * r.val = n.val
    omega
  · show win0_3.index t 2 * 1024 + 1 * l.val = l.val
    omega

/-- The eight tokens before it. -/
theorem blk4 (b : Fin 2) (hb : b.val = t.val / 17) (l : Fin 1024) (r : Fin 8) (n : Fin 4352) (hn : n.val + 8 = 256 * (t.val % 17) + r.val) :
    (iblk m c 4 t : Vec Ideal S1x8x1024 .f32) (ix3 (0 : Fin 1) r l) = chan (X m c) b l n := by
  have hi := index4 t
  unfold iblk
  rw [View.read_apply]
  refine Eq.trans (b := V m c main_arg0 (ix3 b n ⟨l.val, by omega⟩)) (congrArg (V m c main_arg0) (at3 _ b n ⟨l.val, by omega⟩ ?_ ?_ ?_)) (congrFun (V_main_arg0 m c) _)
  · show win0_4.index t 0 * 1 + 1 * 0 = b.val
    omega
  · show win0_4.index t 1 * 8 + 1 * r.val = n.val
    omega
  · show win0_4.index t 2 * 1024 + 1 * l.val = l.val
    omega

/-- The eight tokens after it. -/
theorem blk5 (b : Fin 2) (hb : b.val = t.val / 17) (l : Fin 1024) (r : Fin 8) (n : Fin 4352) (hn : n.val = 256 * (t.val % 17 + 1) + r.val) :
    (iblk m c 5 t : Vec Ideal S1x8x1024 .f32) (ix3 (0 : Fin 1) r l) = chan (X m c) b l n := by
  have hi := index5 t
  unfold iblk
  rw [View.read_apply]
  refine Eq.trans (b := V m c main_arg0 (ix3 b n ⟨l.val, by omega⟩)) (congrArg (V m c main_arg0) (at3 _ b n ⟨l.val, by omega⟩ ?_ ?_ ?_)) (congrFun (V_main_arg0 m c) _)
  · show win0_5.index t 0 * 1 + 1 * 0 = b.val
    omega
  · show win0_5.index t 1 * 8 + 1 * r.val = n.val
    omega
  · show win0_5.index t 2 * 1024 + 1 * l.val = l.val
    omega

/-- Every step's weights. -/
theorem blk6 (k : Fin 4) (l : Fin 1024) : (iblk m c 6 t : Vec Ideal S4x1024 .f32) (ix2 k l) = Wt m c (ix2 k l) := by
  have hi := index6 t
  unfold iblk
  rw [View.read_apply]
  refine Eq.trans (b := V m c main_arg1 (ix2 k l)) (congrArg (V m c main_arg1) (at2 _ k l ?_ ?_)) (congrFun (V_main_arg1 m c) _)
  · show win0_6.index t 0 * 4 + 1 * k.val = k.val
    omega
  · show win0_6.index t 1 * 1024 + 1 * l.val = l.val
    omega

/-- Step `t`'s tokens: their gradient. -/
theorem step7 (b : Fin 2) (hb : b.val = t.val / 17) (r : Fin 256) (l : Fin 1024) (n : Fin 4352) (hn : n.val = 256 * (t.val % 17) + r.val) :
    dxAt (grid0.coords t 1).val (iblk m c 0 t) (iblk m c 1 t) (iblk m c 2 t) (iblk m c 6 t) r l = cell (grad (Ct m c) b l) (Wt m c) n l := by
  have hτ : t.val % 17 < 17 := by omega
  have hX := blk0 c m t b hb l
  have hP := blk1 c m t b hb l
  have hN := blk2 c m t b hb l
  unfold dxAt cell
  rw [coord t, blk6, blk6, blk6, blk6, hX r n hn,
    ← earlier1 _ (fun r => (iblk m c 0 t : Vec Ideal S1x256x1024 .f32) (ix3 0 r l)) (fun r => (iblk m c 1 t : Vec Ideal S1x8x1024 .f32) (ix3 0 r l)) _ hτ hX hP r n hn (by omega),
    ← earlier2 _ (fun r => (iblk m c 0 t : Vec Ideal S1x256x1024 .f32) (ix3 0 r l)) (fun r => (iblk m c 1 t : Vec Ideal S1x8x1024 .f32) (ix3 0 r l)) _ hτ hX hP r n hn (by omega),
    ← later1 _ (fun r => (iblk m c 0 t : Vec Ideal S1x256x1024 .f32) (ix3 0 r l)) (fun r => (iblk m c 2 t : Vec Ideal S1x8x1024 .f32) (ix3 0 r l)) _ hτ hX hN r n hn (by omega)]

/-- Its terms of the second result. -/
theorem step8 (b : Fin 2) (hb : b.val = t.val / 17) (k : Fin 8) (r : Fin 256) (l : Fin 1024) (n : Fin 4352) (hn : n.val = 256 * (t.val % 17) + r.val) :
    term (grid0.coords t 1).val (iblk m c 0 t) (iblk m c 3 t) (iblk m c 4 t) (iblk m c 5 t) k l r
      = grad (Ct m c) b l n * pair (chan (X m c) b l) k n := by
  have hτ : t.val % 17 < 17 := by omega
  have hX := blk3 c m t b hb l
  have hP := blk4 c m t b hb l
  have hN := blk5 c m t b hb l
  refine congrArg₂ (· * ·) (blk0 c m t b hb l r n hn) ?_
  unfold nb pair
  rw [coord t, hX r n hn,
    ← earlier1 _ (fun r => (iblk m c 3 t : Vec Ideal S1x256x1024 .f32) (ix3 0 r l)) (fun r => (iblk m c 4 t : Vec Ideal S1x8x1024 .f32) (ix3 0 r l)) _ hτ hX hP r n hn (by omega),
    ← later1 _ (fun r => (iblk m c 3 t : Vec Ideal S1x256x1024 .f32) (ix3 0 r l)) (fun r => (iblk m c 5 t : Vec Ideal S1x8x1024 .f32) (ix3 0 r l)) _ hτ hX hN r n hn (by omega),
    ← later2 _ (fun r => (iblk m c 3 t : Vec Ideal S1x256x1024 .f32) (ix3 0 r l)) (fun r => (iblk m c 5 t : Vec Ideal S1x8x1024 .f32) (ix3 0 r l)) _ hτ hX hN r n hn (by omega)]

theorem outs7 (r : Fin 256) (l : Fin 1024) : (outsAt0 m c t.val t.isLt).1 (ix3 (0 : Fin 1) r l)
    = dxAt (grid0.coords t 1).val (iblk m c 0 t) (iblk m c 1 t) (iblk m c 2 t) (iblk m c 6 t) r l := by
  by_cases h : t.val % 17 = 0
  · rw [show (outsAt0 m c t.val t.isLt).1 = _ from congrArg Prod.fst (outsAt0_A m c t h)]
    dsimp only
    rw [oA7]
  · rw [show (outsAt0 m c t.val t.isLt).1 = _ from congrArg Prod.fst (outsAt0_B m c t h)]
    dsimp only
    rw [oB7]

/-- After step `τ` of example `b` the second output holds the sums over the tokens so far. -/
theorem outs8 (b : Fin 2) (k : Fin 8) (l : Fin 1024) (τ : ℕ) (hτ : τ < 17) (h : 17 * b.val + τ < cfg0.N) :
    (outsAt0 m c (17 * b.val + τ) h).2 (ix3 (0 : Fin 1) k l)
      = ∑ n ∈ Finset.range (256 * (τ + 1)), grad (Ct m c) b l (place n) * pair (chan (X m c) b l) k (place n) := by
  have hsum : ∀ (τ : ℕ) (_ : τ < 17) (h : 17 * b.val + τ < cfg0.N),
      ∑ r : Fin 256, term (grid0.coords ⟨17 * b.val + τ, h⟩ 1).val (iblk m c 0 ⟨17 * b.val + τ, h⟩) (iblk m c 3 ⟨17 * b.val + τ, h⟩)
          (iblk m c 4 ⟨17 * b.val + τ, h⟩) (iblk m c 5 ⟨17 * b.val + τ, h⟩) k l r
        = ∑ j ∈ Finset.range 256, grad (Ct m c) b l (place (256 * τ + j)) * pair (chan (X m c) b l) k (place (256 * τ + j)) := by
    intro τ hτ h
    rw [← Fin.sum_univ_eq_sum_range (fun j => grad (Ct m c) b l (place (256 * τ + j)) * pair (chan (X m c) b l) k (place (256 * τ + j))) 256]
    exact Finset.sum_congr rfl fun r _ => step8 c m ⟨17 * b.val + τ, h⟩ b (by dsimp only; omega) k r l _ (by dsimp only; omega)
  induction τ with
  | zero =>
    rw [show (outsAt0 m c (17 * b.val + 0) h).2 = _ from congrArg Prod.snd (outsAt0_A m c ⟨17 * b.val + 0, h⟩ (by dsimp only; omega))]
    dsimp only
    rw [oA8]
    refine (hsum 0 hτ h).trans ?_
    simp only [Nat.mul_zero, Nat.zero_add, Nat.mul_one]
  | succ τ ih =>
    rw [show (outsAt0 m c (17 * b.val + (τ + 1)) h).2 = _ from congrArg Prod.snd (outsAt0_B m c ⟨17 * b.val + (τ + 1), h⟩ (by dsimp only; omega))]
    dsimp only
    rw [oB8, show 256 * (τ + 1 + 1) = 256 * (τ + 1) + 256 from by omega, Finset.sum_range_add]
    exact congrArg₂ (· + ·) (ih (by omega) (by omega)) (hsum (τ + 1) hτ h)

/-- The first output's block at a write-back is its block of the gradient. -/
theorem flushed7 (_ : (cfg0.win 7).flush t = true) :
    (dats m 0 c).flushed 7 t = ((cfg0.win 7).blk t).view.read (Elt Ideal) (G7 (Wt m c) (Ct m c)) := by
  have hi := index7 t
  have ht : t.val < 34 := lt_of_lt_of_eq t.isLt N_0
  refine funext fun (j : (⟨3, ![1, 256, 1024]⟩ : Shape).Idx) => ?_
  rw [View.read_apply]
  obtain ⟨z, r, l, rfl⟩ : ∃ (z : Fin 1) (r : Fin 256) (l : Fin 1024), j = ix3 z r l := ⟨j 0, j 1, j 2, eq_ix3 j⟩
  obtain rfl : z = 0 := Subsingleton.elim _ _
  refine Eq.trans (b := (outsAt0 m c t.val t.isLt).1 (ix3 (0 : Fin 1) r l)) ?_ ((outs7 c m t r l).trans
    ((step7 c m t ⟨t.val / 17, by omega⟩ rfl r l ⟨256 * (t.val % 17) + r.val, by omega⟩ rfl).trans ?_))
  · rw [Value.flushed7]
    rfl
  · show G7 (Wt m c) (Ct m c) (ix3 (⟨t.val / 17, by omega⟩ : Fin 2) (⟨256 * (t.val % 17) + r.val, by omega⟩ : Fin 4352) l) = _
    generalize G7 (Wt m c) (Ct m c) = g
    refine congrArg g (at3 (((cfg0.win 7).blk t).view.emb (ix3 (0 : Fin 1) r l)) _ _ _ ?_ ?_ ?_).symm
    · show win0_7.index t 0 * 1 + 1 * 0 = t.val / 17
      omega
    · show win0_7.index t 1 * 256 + 1 * r.val = 256 * (t.val % 17) + r.val
      omega
    · show win0_7.index t 2 * 1024 + 1 * l.val = l.val
      omega

theorem final7 : (dats m 0 c).arrAt 7 cfg0.N = G7 (Wt m c) (Ct m c) :=
  (dats m 0 c).arrAt_eq_of_cover 7 (G7 (Wt m c) (Ct m c)) (flushed7 c m) fun i => by
    have h0 : (i 0 : Nat) < 2 := (i 0).isLt
    have h1 : (i 1 : Nat) < 4352 := (i 1).isLt
    have h2 : (i 2 : Nat) < 1024 := (i 2).isLt
    obtain ⟨t, ht⟩ : ∃ t : Fin cfg0.N, t.val = 17 * (i 0).val + (i 1).val / 256 :=
      ⟨⟨17 * (i 0).val + (i 1).val / 256, lt_of_lt_of_eq (by omega) N_0.symm⟩, rfl⟩
    have hi := index7 t
    have hx := xsize7 t
    refine ⟨t, flush0_7 t, ?_⟩
    show i ∈ ((View.whole main_v0_0).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + win0_7.xsize (grid0.coords t) 0
      omega
    | ⟨1, _⟩ =>
      show win0_7.index t 1 * 256 ≤ (i 1 : Nat) ∧ (i 1 : Nat) < win0_7.index t 1 * 256 + win0_7.xsize (grid0.coords t) 1
      omega
    | ⟨2, _⟩ =>
      show win0_7.index t 2 * 1024 ≤ (i 2 : Nat) ∧ (i 2 : Nat) < win0_7.index t 2 * 1024 + win0_7.xsize (grid0.coords t) 2
      omega

/-- The second output's block at a write-back holds an example's sums. -/
theorem flushed8 (hf : (cfg0.win 8).flush t = true) :
    (dats m 0 c).flushed 8 t = ((cfg0.win 8).blk t).view.read (Elt Ideal) (G8 (X m c) (Ct m c)) := by
  have hi := index8 t
  have ht : t.val < 34 := lt_of_lt_of_eq t.isLt N_0
  have h16 := (flush0_8 t).mp hf
  obtain ⟨v, hv⟩ := t
  dsimp only at h16 ht hi
  obtain ⟨b, rfl⟩ : ∃ b : Fin 2, v = 17 * b.val + 16 := ⟨⟨v / 17, by omega⟩, by dsimp only; omega⟩
  refine funext fun (j : (⟨3, ![1, 8, 1024]⟩ : Shape).Idx) => ?_
  rw [View.read_apply]
  obtain ⟨z, k, l, rfl⟩ : ∃ (z : Fin 1) (k : Fin 8) (l : Fin 1024), j = ix3 z k l := ⟨j 0, j 1, j 2, eq_ix3 j⟩
  obtain rfl : z = 0 := Subsingleton.elim _ _
  refine Eq.trans (b := (outsAt0 m c (17 * b.val + 16) hv).2 (ix3 (0 : Fin 1) k l)) ?_ ((outs8 c m b k l 16 (by omega) hv).trans ?_)
  · rw [Value.flushed8]
    rfl
  · refine Eq.trans (b := G8 (X m c) (Ct m c) (ix3 b k l)) ?_ ?_
    · rw [show 256 * (16 + 1) = 4352 from rfl, ← Fin.sum_univ_eq_sum_range (fun n => grad (Ct m c) b l (place n) * pair (chan (X m c) b l) k (place n)) 4352]
      exact Finset.sum_congr rfl fun n _ => by
        rw [show place n.val = n from Fin.ext (Nat.mod_eq_of_lt n.isLt)]
        rfl
    · generalize G8 (X m c) (Ct m c) = g
      refine congrArg g (at3 (((cfg0.win 8).blk ⟨17 * b.val + 16, hv⟩).view.emb (ix3 (0 : Fin 1) k l)) _ _ _ ?_ ?_ ?_).symm
      · show win0_8.index ⟨17 * b.val + 16, hv⟩ 0 * 1 + 1 * 0 = b.val
        omega
      · show win0_8.index ⟨17 * b.val + 16, hv⟩ 1 * 8 + 1 * k.val = k.val
        omega
      · show win0_8.index ⟨17 * b.val + 16, hv⟩ 2 * 1024 + 1 * l.val = l.val
        omega

theorem final8 : (dats m 0 c).arrAt 8 cfg0.N = G8 (X m c) (Ct m c) :=
  (dats m 0 c).arrAt_eq_of_cover 8 (G8 (X m c) (Ct m c)) (flushed8 c m) fun i => by
    have h0 : (i 0 : Nat) < 2 := (i 0).isLt
    have h1 : (i 1 : Nat) < 8 := (i 1).isLt
    have h2 : (i 2 : Nat) < 1024 := (i 2).isLt
    obtain ⟨t, ht⟩ : ∃ t : Fin cfg0.N, t.val = 17 * (i 0).val + 16 :=
      ⟨⟨17 * (i 0).val + 16, lt_of_lt_of_eq (by omega) N_0.symm⟩, rfl⟩
    have hi := index8 t
    have hx := xsize8 t
    refine ⟨t, (flush0_8 t).mpr (by omega), ?_⟩
    show i ∈ ((View.whole main_v0_1).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + win0_8.xsize (grid0.coords t) 0
      omega
    | ⟨1, _⟩ =>
      show win0_8.index t 1 * 8 ≤ (i 1 : Nat) ∧ (i 1 : Nat) < win0_8.index t 1 * 8 + win0_8.xsize (grid0.coords t) 1
      omega
    | ⟨2, _⟩ =>
      show win0_8.index t 2 * 1024 ≤ (i 2 : Nat) ∧ (i 2 : Nat) < win0_8.index t 2 * 1024 + win0_8.xsize (grid0.coords t) 2
      omega

end Cert.ConvBwdIdeal.Answer

end
-- ==== Proof.ConvBwd.lean ====
module

public import proofs.«01_k».proof.Proof.ConvBwdSteps
public import proofs.«01_k».proof.Proof.Gen.ConvBwdReferenceIdeal.Run
public import Idealize.ShloMosaic.Lib.StableHlo.ReadAt

@[expose] public section

/-!
The reference of the convolution's backward call, element by element, and that the call computes the same.
-/

noncomputable section

namespace Cert.ConvBwdReferenceIdeal.Answer

open Idealize.ShloMosaic Idealize.ShloMosaic.TcCoe Idealize.ShloMosaic.Tactic Idealize.ShloMosaic.StableHlo
open Cert.ConvBwdReferenceIdeal Cert.ConvBwdReferenceIdeal.Gen Cert.Taps
open Cert.ConvBwdIdeal.Answer (cell pair chan grad)

set_option maxHeartbeats 4000000

/-- A zero of the host. -/
abbrev O : Vec Ideal S_ .f32 := constant (F := Ideal) S_ .f32 0x00000000#32

abbrev plus {s : Shape} (u v : Vec Ideal s .f32) : Vec Ideal s .f32 := addf (F := Ideal) (φ := .f32) u v
def times {s : Shape} (u v : Vec Ideal s .f32) : Vec Ideal s .f32 := mulf (F := Ideal) (φ := .f32) u v

/-- The weights, once per example. -/
abbrev weights (w : Vec Ideal S4x1024 .f32) : Vec Ideal S2x4x1024 .f32 := broadcastInDim S2x4x1024 ![1, 2] bcast_S4x1024_S2x4x1024_1_2 w

/-- The convolved columns. -/
def columns (x : Vec Ideal S2x4352x3072 .f32) : Vec Ideal S2x4352x1024 .f32 :=
  extractStridedSlice S2x4352x1024 ![0, 0, 0] x slices_S2x4352x3072_S2x4352x1024_0_0_0

/-- The context tokens of an array, the same with zeros around them, and the array's `k`-th part, which pairs with weight `k`. -/
def part256 (g : Vec Ideal S2x4352x1024 .f32) : Vec Ideal S2x256x1024 .f32 :=
  extractStridedSlice S2x256x1024 ![0, 0, 0] g slices_S2x4352x1024_S2x256x1024_0_0_0
abbrev around256 (y : Vec Ideal S2x4352x1024 .f32) : Vec Ideal S2x259x1024 .f32 :=
  (concatenate S2x259x1024 1 [⟨S2x1x1024, ((broadcastInDim S2x1x1024 ![] bcast_S_S2x1x1024 O) : (⟨S2x1x1024, .f32⟩ : BufTy).Contents (Elt Ideal))⟩, ⟨S2x256x1024, ((part256 y) :
      (⟨S2x256x1024, .f32⟩ : BufTy).Contents (Elt Ideal))⟩, ⟨S2x2x1024, ((broadcastInDim S2x2x1024 ![] bcast_S_S2x2x1024 O) : (⟨S2x2x1024, .f32⟩ : BufTy).Contents (Elt Ideal))⟩]
      concatenates_S2x1x1024_S2x256x1024_S2x2x1024_S2x259x1024_d1 : (⟨S2x259x1024, .f32⟩ : BufTy).Contents (Elt Ideal))

def tap256_0 (y : Vec Ideal S2x4352x1024 .f32) : Vec Ideal S2x256x1024 .f32 :=
  extractStridedSlice S2x256x1024 ![0, 0, 0] (around256 y) slices_S2x259x1024_S2x256x1024_0_0_0
def tap256_1 (y : Vec Ideal S2x4352x1024 .f32) : Vec Ideal S2x256x1024 .f32 :=
  extractStridedSlice S2x256x1024 ![0, 1, 0] (around256 y) slices_S2x259x1024_S2x256x1024_0_1_0
def tap256_2 (y : Vec Ideal S2x4352x1024 .f32) : Vec Ideal S2x256x1024 .f32 :=
  extractStridedSlice S2x256x1024 ![0, 2, 0] (around256 y) slices_S2x259x1024_S2x256x1024_0_2_0
def tap256_3 (y : Vec Ideal S2x4352x1024 .f32) : Vec Ideal S2x256x1024 .f32 :=
  extractStridedSlice S2x256x1024 ![0, 3, 0] (around256 y) slices_S2x259x1024_S2x256x1024_0_3_0

/-- The gradient through the context tokens' convolution, with the zeros around them. -/
abbrev back256 (g : Vec Ideal S2x256x1024 .f32) (w : Vec Ideal S2x4x1024 .f32) : Vec Ideal S2x259x1024 .f32 :=
  plus (plus (plus (pad S2x259x1024 ![0, 3, 0] ![0, 0, 0] ![0, 0, 0] (times g (broadcastInDim S2x256x1024 ![0, 1, 2] bcast_S2x1x1024_S2x256x1024_0_1_2 (extractStridedSlice
      S2x1x1024 ![0, 3, 0] w slices_S2x4x1024_S2x1x1024_0_3_0))) O pads_S2x256x1024_S2x259x1024_000_300_000 h_S_) (pad S2x259x1024 ![0, 2, 0] ![0, 1, 0] ![0, 0, 0] (times g
      (broadcastInDim S2x256x1024 ![0, 1, 2] bcast_S2x1x1024_S2x256x1024_0_1_2 (extractStridedSlice S2x1x1024 ![0, 2, 0] w slices_S2x4x1024_S2x1x1024_0_2_0))) O
      pads_S2x256x1024_S2x259x1024_000_210_000 h_S_)) (pad S2x259x1024 ![0, 1, 0] ![0, 2, 0] ![0, 0, 0] (times g (broadcastInDim S2x256x1024 ![0, 1, 2]
      bcast_S2x1x1024_S2x256x1024_0_1_2 (extractStridedSlice S2x1x1024 ![0, 1, 0] w slices_S2x4x1024_S2x1x1024_0_1_0))) O pads_S2x256x1024_S2x259x1024_000_120_000 h_S_)) (pad
      S2x259x1024 ![0, 0, 0] ![0, 3, 0] ![0, 0, 0] (times g (broadcastInDim S2x256x1024 ![0, 1, 2] bcast_S2x1x1024_S2x256x1024_0_1_2 (extractStridedSlice S2x1x1024 ![0, 0, 0] w
      slices_S2x4x1024_S2x1x1024_0_0_0))) O pads_S2x256x1024_S2x259x1024_000_030_000 h_S_)

/-- A sum over the context tokens. -/
def sum256 (g : Vec Ideal S2x256x1024 .f32) : Vec Ideal S2x1x1024 .f32 :=
  shapeCast _ (Host.reduceAdd (F := Ideal) (φ := .f32) g O reducesTo_S2x256x1024_S2x1024_d1 h_S_) shapeCasts_S2x1024_S2x1x1024

/-- The latent tokens of an array, the same with zeros around them, and the array's `k`-th part, which pairs with weight `k`. -/
def part4096 (g : Vec Ideal S2x4352x1024 .f32) : Vec Ideal S2x4096x1024 .f32 :=
  extractStridedSlice S2x4096x1024 ![0, 256, 0] g slices_S2x4352x1024_S2x4096x1024_0_256_0
abbrev around4096 (y : Vec Ideal S2x4352x1024 .f32) : Vec Ideal S2x4099x1024 .f32 :=
  (concatenate S2x4099x1024 1 [⟨S2x1x1024, ((broadcastInDim S2x1x1024 ![] bcast_S_S2x1x1024 O) : (⟨S2x1x1024, .f32⟩ : BufTy).Contents (Elt Ideal))⟩, ⟨S2x4096x1024, ((part4096 y) :
      (⟨S2x4096x1024, .f32⟩ : BufTy).Contents (Elt Ideal))⟩, ⟨S2x2x1024, ((broadcastInDim S2x2x1024 ![] bcast_S_S2x2x1024 O) : (⟨S2x2x1024, .f32⟩ : BufTy).Contents (Elt Ideal))⟩]
      concatenates_S2x1x1024_S2x4096x1024_S2x2x1024_S2x4099x1024_d1 : (⟨S2x4099x1024, .f32⟩ : BufTy).Contents (Elt Ideal))

def tap4096_0 (y : Vec Ideal S2x4352x1024 .f32) : Vec Ideal S2x4096x1024 .f32 :=
  extractStridedSlice S2x4096x1024 ![0, 0, 0] (around4096 y) slices_S2x4099x1024_S2x4096x1024_0_0_0
def tap4096_1 (y : Vec Ideal S2x4352x1024 .f32) : Vec Ideal S2x4096x1024 .f32 :=
  extractStridedSlice S2x4096x1024 ![0, 1, 0] (around4096 y) slices_S2x4099x1024_S2x4096x1024_0_1_0
def tap4096_2 (y : Vec Ideal S2x4352x1024 .f32) : Vec Ideal S2x4096x1024 .f32 :=
  extractStridedSlice S2x4096x1024 ![0, 2, 0] (around4096 y) slices_S2x4099x1024_S2x4096x1024_0_2_0
def tap4096_3 (y : Vec Ideal S2x4352x1024 .f32) : Vec Ideal S2x4096x1024 .f32 :=
  extractStridedSlice S2x4096x1024 ![0, 3, 0] (around4096 y) slices_S2x4099x1024_S2x4096x1024_0_3_0

/-- The gradient through the latent tokens' convolution, with the zeros around them. -/
abbrev back4096 (g : Vec Ideal S2x4096x1024 .f32) (w : Vec Ideal S2x4x1024 .f32) : Vec Ideal S2x4099x1024 .f32 :=
  plus (plus (plus (pad S2x4099x1024 ![0, 3, 0] ![0, 0, 0] ![0, 0, 0] (times g (broadcastInDim S2x4096x1024 ![0, 1, 2] bcast_S2x1x1024_S2x4096x1024_0_1_2 (extractStridedSlice
      S2x1x1024 ![0, 3, 0] w slices_S2x4x1024_S2x1x1024_0_3_0))) O pads_S2x4096x1024_S2x4099x1024_000_300_000 h_S_) (pad S2x4099x1024 ![0, 2, 0] ![0, 1, 0] ![0, 0, 0] (times g
      (broadcastInDim S2x4096x1024 ![0, 1, 2] bcast_S2x1x1024_S2x4096x1024_0_1_2 (extractStridedSlice S2x1x1024 ![0, 2, 0] w slices_S2x4x1024_S2x1x1024_0_2_0))) O
      pads_S2x4096x1024_S2x4099x1024_000_210_000 h_S_)) (pad S2x4099x1024 ![0, 1, 0] ![0, 2, 0] ![0, 0, 0] (times g (broadcastInDim S2x4096x1024 ![0, 1, 2]
      bcast_S2x1x1024_S2x4096x1024_0_1_2 (extractStridedSlice S2x1x1024 ![0, 1, 0] w slices_S2x4x1024_S2x1x1024_0_1_0))) O pads_S2x4096x1024_S2x4099x1024_000_120_000 h_S_)) (pad
      S2x4099x1024 ![0, 0, 0] ![0, 3, 0] ![0, 0, 0] (times g (broadcastInDim S2x4096x1024 ![0, 1, 2] bcast_S2x1x1024_S2x4096x1024_0_1_2 (extractStridedSlice S2x1x1024 ![0, 0, 0] w
      slices_S2x4x1024_S2x1x1024_0_0_0))) O pads_S2x4096x1024_S2x4099x1024_000_030_000 h_S_)

/-- A sum over the latent tokens. -/
def sum4096 (g : Vec Ideal S2x4096x1024 .f32) : Vec Ideal S2x1x1024 .f32 :=
  shapeCast _ (Host.reduceAdd (F := Ideal) (φ := .f32) g O reducesTo_S2x4096x1024_S2x1024_d1 h_S_) shapeCasts_S2x1024_S2x1x1024

/-- The gradient of the convolved columns. -/
def out7 (w : Vec Ideal S4x1024 .f32) (g : Vec Ideal S2x4352x1024 .f32) : Vec Ideal S2x4352x1024 .f32 :=
  plus (pad S2x4352x1024 ![0, 256, 0] ![0, 0, 0] ![0, 0, 0] (extractStridedSlice S2x4096x1024 ![0, 1, 0] (back4096 (part4096 g) (weights w)) slices_S2x4099x1024_S2x4096x1024_0_1_0)
      O pads_S2x4096x1024_S2x4352x1024_000_25600_000 h_S_) (pad S2x4352x1024 ![0, 0, 0] ![0, 4096, 0] ![0, 0, 0] (extractStridedSlice S2x256x1024 ![0, 1, 0] (back256 (part256 g)
      (weights w)) slices_S2x259x1024_S2x256x1024_0_1_0) O pads_S2x256x1024_S2x4352x1024_000_040960_000 h_S_)

/-- The second result's rows from the sums over the latent and the context tokens. -/
def rows (p0 p1 p2 p3 p4 q0 q1 q2 q3 q4 : Vec Ideal S2x1x1024 .f32) : Vec Ideal S2x8x1024 .f32 :=
  concatenate S2x8x1024 1 [⟨S2x4x1024, ((plus (plus (plus (plus (plus (plus (plus (pad S2x4x1024 ![0, 3, 0] ![0, 0, 0] ![0, 0, 0] p3 O pads_S2x1x1024_S2x4x1024_000_300_000 h_S_)
      (pad S2x4x1024 ![0, 2, 0] ![0, 1, 0] ![0, 0, 0] p2 O pads_S2x1x1024_S2x4x1024_000_210_000 h_S_)) (pad S2x4x1024 ![0, 1, 0] ![0, 2, 0] ![0, 0, 0] p1 O
      pads_S2x1x1024_S2x4x1024_000_120_000 h_S_)) (pad S2x4x1024 ![0, 0, 0] ![0, 3, 0] ![0, 0, 0] p0 O pads_S2x1x1024_S2x4x1024_000_030_000 h_S_)) (pad S2x4x1024 ![0, 3, 0] ![0, 0, 0]
      ![0, 0, 0] q3 O pads_S2x1x1024_S2x4x1024_000_300_000 h_S_)) (pad S2x4x1024 ![0, 2, 0] ![0, 1, 0] ![0, 0, 0] q2 O pads_S2x1x1024_S2x4x1024_000_210_000 h_S_)) (pad S2x4x1024 ![0,
      1, 0] ![0, 2, 0] ![0, 0, 0] q1 O pads_S2x1x1024_S2x4x1024_000_120_000 h_S_)) (pad S2x4x1024 ![0, 0, 0] ![0, 3, 0] ![0, 0, 0] q0 O pads_S2x1x1024_S2x4x1024_000_030_000 h_S_)) :
      (⟨S2x4x1024, .f32⟩ : BufTy).Contents (Elt Ideal))⟩, ⟨S2x1x1024, ((broadcastInDim S2x1x1024 ![0, 2] bcast_S2x1024_S2x1x1024_0_2 (plus (Host.reduceAdd (F := Ideal) (φ := .f32) p4 O
      reducesTo_S2x1x1024_S2x1024_d1 h_S_) (Host.reduceAdd (F := Ideal) (φ := .f32) q4 O reducesTo_S2x1x1024_S2x1024_d1 h_S_))) : (⟨S2x1x1024, .f32⟩ : BufTy).Contents (Elt Ideal))⟩,
      ⟨S2x3x1024, ((broadcastInDim S2x3x1024 ![] bcast_S_S2x3x1024 O) : (⟨S2x3x1024, .f32⟩ : BufTy).Contents (Elt Ideal))⟩] concatenates_S2x4x1024_S2x1x1024_S2x3x1024_S2x8x1024_d1

/-- The gradients of the weights and of the bias, per example. -/
def out8 (y g : Vec Ideal S2x4352x1024 .f32) : Vec Ideal S2x8x1024 .f32 :=
  rows (sum4096 (times (tap4096_0 y) (part4096 g))) (sum4096 (times (tap4096_1 y) (part4096 g))) (sum4096 (times (tap4096_2 y) (part4096 g))) (sum4096 (times (tap4096_3 y)
      (part4096 g))) (sum4096 (part4096 g))
    (sum256 (times (tap256_0 y) (part256 g))) (sum256 (times (tap256_1 y) (part256 g))) (sum256 (times (tap256_2 y) (part256 g))) (sum256 (times (tap256_3 y) (part256 g))) (sum256
        (part256 g))

theorem sum256_apply (g : Vec Ideal S2x256x1024 .f32) (b : Fin 2) (l : Fin 1024) : sum256 g (ix3 b (0 : Fin 1) l) = ∑ r : Fin 256, g (ix3 b r l) := by
  unfold sum256
  simp [pointwise]

theorem sum4096_apply (g : Vec Ideal S2x4096x1024 .f32) (b : Fin 2) (l : Fin 1024) : sum4096 g (ix3 b (0 : Fin 1) l) = ∑ r : Fin 4096, g (ix3 b r l) := by
  unfold sum4096
  simp [pointwise]

section
variable (p0 p1 p2 p3 p4 q0 q1 q2 q3 q4 : Vec Ideal S2x1x1024 .f32) (b : Fin 2) (l : Fin 1024)

theorem rows_apply (k : Fin 8) : rows p0 p1 p2 p3 p4 q0 q1 q2 q3 q4 (ix3 b k l)
    = (![p0 (ix3 b 0 l) + q0 (ix3 b 0 l), p1 (ix3 b 0 l) + q1 (ix3 b 0 l), p2 (ix3 b 0 l) + q2 (ix3 b 0 l), p3 (ix3 b 0 l) + q3 (ix3 b 0 l),
      p4 (ix3 b 0 l) + q4 (ix3 b 0 l), 0, 0, 0] : Fin 8 → EReal) k := by
  have h : (b.val % 1 = 0 ∧ b.val ≤ 1) ∧ l.val % 1 = 0 := by omega
  obtain rfl | rfl | rfl | rfl | rfl | rfl | rfl | rfl : k = 0 ∨ k = 1 ∨ k = 2 ∨ k = 3 ∨ k = 4 ∨ k = 5 ∨ k = 6 ∨ k = 7 := by omega
  all_goals
    unfold rows
    simp [pointwise]
    try rw [if_pos h, if_pos h]
end

theorem tap256_0_apply (x : Vec Ideal S2x4352x3072 .f32) (b : Fin 2) (r : Fin 256) (l : Fin 1024) :
    tap256_0 (columns x) (ix3 b r l) = pair (chan x b l) 0 ⟨0 + r.val, by omega⟩ := by
  have e : ∀ p q : Fin 4352, p.val = q.val → x (ix3 b p ⟨l.val, by omega⟩) = x (ix3 b q ⟨l.val, by omega⟩) := fun p q h => by rw [Fin.ext h]
  unfold tap256_0 columns around256 part256 pair chan later earlier
  simp [pointwise]
  simp only [Fin.ext_iff, Fin.val_zero]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem tap256_1_apply (x : Vec Ideal S2x4352x3072 .f32) (b : Fin 2) (r : Fin 256) (l : Fin 1024) :
    tap256_1 (columns x) (ix3 b r l) = pair (chan x b l) 1 ⟨0 + r.val, by omega⟩ := by
  have e : ∀ p q : Fin 4352, p.val = q.val → x (ix3 b p ⟨l.val, by omega⟩) = x (ix3 b q ⟨l.val, by omega⟩) := fun p q h => by rw [Fin.ext h]
  unfold tap256_1 columns around256 part256 pair chan later earlier
  simp [pointwise]

theorem tap256_2_apply (x : Vec Ideal S2x4352x3072 .f32) (b : Fin 2) (r : Fin 256) (l : Fin 1024) :
    tap256_2 (columns x) (ix3 b r l) = pair (chan x b l) 2 ⟨0 + r.val, by omega⟩ := by
  have e : ∀ p q : Fin 4352, p.val = q.val → x (ix3 b p ⟨l.val, by omega⟩) = x (ix3 b q ⟨l.val, by omega⟩) := fun p q h => by rw [Fin.ext h]
  unfold tap256_2 columns around256 part256 pair chan later earlier
  simp [pointwise]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem tap256_3_apply (x : Vec Ideal S2x4352x3072 .f32) (b : Fin 2) (r : Fin 256) (l : Fin 1024) :
    tap256_3 (columns x) (ix3 b r l) = pair (chan x b l) 3 ⟨0 + r.val, by omega⟩ := by
  have e : ∀ p q : Fin 4352, p.val = q.val → x (ix3 b p ⟨l.val, by omega⟩) = x (ix3 b q ⟨l.val, by omega⟩) := fun p q h => by rw [Fin.ext h]
  unfold tap256_3 columns around256 part256 pair chan later earlier
  simp [pointwise]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem tap4096_0_apply (x : Vec Ideal S2x4352x3072 .f32) (b : Fin 2) (r : Fin 4096) (l : Fin 1024) :
    tap4096_0 (columns x) (ix3 b r l) = pair (chan x b l) 0 ⟨256 + r.val, by omega⟩ := by
  have e : ∀ p q : Fin 4352, p.val = q.val → x (ix3 b p ⟨l.val, by omega⟩) = x (ix3 b q ⟨l.val, by omega⟩) := fun p q h => by rw [Fin.ext h]
  unfold tap4096_0 columns around4096 part4096 pair chan later earlier
  simp [pointwise]
  simp only [Fin.ext_iff, Fin.val_zero]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem tap4096_1_apply (x : Vec Ideal S2x4352x3072 .f32) (b : Fin 2) (r : Fin 4096) (l : Fin 1024) :
    tap4096_1 (columns x) (ix3 b r l) = pair (chan x b l) 1 ⟨256 + r.val, by omega⟩ := by
  have e : ∀ p q : Fin 4352, p.val = q.val → x (ix3 b p ⟨l.val, by omega⟩) = x (ix3 b q ⟨l.val, by omega⟩) := fun p q h => by rw [Fin.ext h]
  unfold tap4096_1 columns around4096 part4096 pair chan later earlier
  simp [pointwise]

theorem tap4096_2_apply (x : Vec Ideal S2x4352x3072 .f32) (b : Fin 2) (r : Fin 4096) (l : Fin 1024) :
    tap4096_2 (columns x) (ix3 b r l) = pair (chan x b l) 2 ⟨256 + r.val, by omega⟩ := by
  have e : ∀ p q : Fin 4352, p.val = q.val → x (ix3 b p ⟨l.val, by omega⟩) = x (ix3 b q ⟨l.val, by omega⟩) := fun p q h => by rw [Fin.ext h]
  unfold tap4096_2 columns around4096 part4096 pair chan later earlier
  simp [pointwise]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem tap4096_3_apply (x : Vec Ideal S2x4352x3072 .f32) (b : Fin 2) (r : Fin 4096) (l : Fin 1024) :
    tap4096_3 (columns x) (ix3 b r l) = pair (chan x b l) 3 ⟨256 + r.val, by omega⟩ := by
  have e : ∀ p q : Fin 4352, p.val = q.val → x (ix3 b p ⟨l.val, by omega⟩) = x (ix3 b q ⟨l.val, by omega⟩) := fun p q h => by rw [Fin.ext h]
  unfold tap4096_3 columns around4096 part4096 pair chan later earlier
  simp [pointwise]
  split_ifs
  all_goals
    first
    | rfl
    | (exfalso; omega)
    | (refine Eq.trans ?_ (dif_pos (by first | omega | (constructor <;> omega))).symm
       exact e _ _ (by dsimp only <;> omega))
    | exact e _ _ (by dsimp only <;> omega)

theorem flip4 (a b d e : EReal) : a + b + d + e = e + d + b + a := by
  rw [add_comm (a + b + d) e, add_comm (a + b) d, add_comm a b, ← add_assoc, ← add_assoc]

theorem value7 (w : Vec Ideal S4x1024 .f32) (g : Vec Ideal S2x4352x1024 .f32) (b : Fin 2) (n : Fin 4352) (l : Fin 1024) :
    out7 w g (ix3 b n l) = cell (grad g b l) w n l := by
  have e : ∀ (k : Fin 4) (p q : Fin 4352), p.val = q.val → g (ix3 b p l) * w (ix2 k l) = w (ix2 k l) * g (ix3 b q l) := fun k p q h => by
    rw [Fin.ext h, mul_comm]
  unfold out7 cell grad later earlier part256 part4096
  simp [pointwise, times]
  by_cases h : n.val < 256
  · rw [dif_neg (show ¬((b.val % 1 = 0 ∧ b.val ≤ 1) ∧ (256 ≤ n.val ∧ (n.val - 256) % 1 = 0 ∧ n.val - 256 < 4096) ∧ l.val % 1 = 0) by omega),
      dif_pos (show (b.val % 1 = 0 ∧ b.val ≤ 1) ∧ (n.val % 1 = 0 ∧ n.val < 256) ∧ l.val % 1 = 0 by omega), zero_add, flip4]
    refine congrArg₂ (· + ·) (congrArg₂ (· + ·) (congrArg₂ (· + ·) ?_ ?_) ?_) ?_
    all_goals
      split_ifs
      all_goals
        first
        | rfl
        | (exfalso; omega)
        | exact e _ _ _ rfl
        | exact e _ _ _ (by dsimp only <;> omega)
  · refine (congrArg₂ HAdd.hAdd (dif_pos (show (b.val % 1 = 0 ∧ b.val ≤ 1) ∧ (256 ≤ n.val ∧ (n.val - 256) % 1 = 0 ∧ n.val - 256 < 4096) ∧ l.val % 1 = 0 by omega))
      (dif_neg (show ¬((b.val % 1 = 0 ∧ b.val ≤ 1) ∧ (n.val % 1 = 0 ∧ n.val < 256) ∧ l.val % 1 = 0) by omega))).trans ?_
    rw [add_zero, flip4]
    refine congrArg₂ (· + ·) (congrArg₂ (· + ·) (congrArg₂ (· + ·) ?_ ?_) ?_) ?_
    all_goals
      split_ifs
      all_goals
        first
        | rfl
        | (exfalso; omega)
        | exact e _ _ _ rfl
        | exact e _ _ _ (by dsimp only <;> omega)

theorem value8 (x : Vec Ideal S2x4352x3072 .f32) (g : Vec Ideal S2x4352x1024 .f32) (b : Fin 2) (k : Fin 8) (l : Fin 1024) :
    out8 (columns x) g (ix3 b k l) = ∑ n : Fin 4352, grad g b l n * pair (chan x b l) k n := by
  have p256 : ∀ (r : Fin 256), part256 g (ix3 b r l) = grad g b l ⟨0 + r.val, by omega⟩ := fun r => by
    unfold part256
    simp [pointwise]
  have p4096 : ∀ (r : Fin 4096), part4096 g (ix3 b r l) = grad g b l ⟨256 + r.val, by omega⟩ := fun r => by
    unfold part4096
    simp [pointwise]
  have t256 : ∀ (u : Vec Ideal S2x256x1024 .f32) (r : Fin 256), times u (part256 g) (ix3 b r l) = part256 g (ix3 b r l) * u (ix3 b r l) :=
    fun u r => mul_comm (u (ix3 b r l) : EReal) (part256 g (ix3 b r l))
  have t4096 : ∀ (u : Vec Ideal S2x4096x1024 .f32) (r : Fin 4096), times u (part4096 g) (ix3 b r l) = part4096 g (ix3 b r l) * u (ix3 b r l) :=
    fun u r => mul_comm (u (ix3 b r l) : EReal) (part4096 g (ix3 b r l))
  have split : ∀ f : Fin 4352 → EReal, ∑ n : Fin 4352, f n = ∑ r : Fin 4096, f ⟨256 + r.val, by omega⟩ + ∑ r : Fin 256, f ⟨0 + r.val, by omega⟩ := fun f => by
    refine (Fin.sum_univ_add (a := 256) (b := 4096) f).trans ((add_comm _ _).trans (congrArg (_ + ·) ?_))
    exact Finset.sum_congr rfl fun r _ => congrArg f (Fin.ext (Nat.zero_add _).symm)
  unfold out8
  rw [split, rows_apply]
  simp only [sum256_apply, sum4096_apply, t256, t4096, tap256_0_apply, tap256_1_apply, tap256_2_apply, tap256_3_apply,
    tap4096_0_apply, tap4096_1_apply, tap4096_2_apply, tap4096_3_apply, p256, p4096]
  obtain rfl | rfl | rfl | rfl | rfl | h : k = 0 ∨ k = 1 ∨ k = 2 ∨ k = 3 ∨ k = 4 ∨ 5 ≤ k.val := by omega
  · rfl
  · rfl
  · rfl
  · rfl
  · unfold pair
    simp
  · obtain rfl | rfl | rfl : k = 5 ∨ k = 6 ∨ k = 7 := by omega
    all_goals
      unfold pair
      simp

end Cert.ConvBwdReferenceIdeal.Answer

namespace Cert.ConvBwd.Answer

open Idealize.ShloMosaic Idealize.ShloMosaic.TcCoe Idealize.SL.Sem

/-- The reference ends, changes no argument, and has no semaphore. -/
theorem frame_reference : Cert.quiescent_ConvBwdReferenceIdeal := fun m ρ _ =>
  (θ_run Cert.ConvBwdReferenceIdeal.defs _ _).mono (fun r h => ⟨fun c => (h c).2.2,
      Idealize.ShloMosaic.sem_eq_zero_of_no_sems (by decide) r.2⟩)
    (Cert.ConvBwdReferenceIdeal.Value.run (F := Ideal) m ρ)

open Cert.ConvBwdIdeal.Answer in
/-- From equal arguments the kernel and the reference end with equal results. -/
theorem algebraic : Cert.algebraic_ConvBwdIdeal_ConvBwdReferenceIdeal := by
  intro m g m' g' _ hagree
  refine ⟨fun c => G7 (Wt m c) (Ct m c), fun c => G8 (X m c) (Ct m c),
    (θ_run Cert.ConvBwdIdeal.defs _ _).mono (fun r h c => ⟨(h c).1.trans (final7 c m), (h c).2.1.trans (final8 c m), (h c).2.2⟩)
      (Cert.ConvBwdIdeal.Value.run_blocks (F := Ideal) m g), ?_⟩
  refine (θ_run Cert.ConvBwdReferenceIdeal.defs _ _).mono (fun r h c => ⟨(h c).1.trans ?_, (h c).2.1.trans ?_, (h c).2.2⟩)
    (Cert.ConvBwdReferenceIdeal.Value.run (F := Ideal) m' g')
  all_goals
    obtain ⟨a0, a1, a2, a3⟩ := hagree c
  · refine Eq.trans (b := Cert.ConvBwdReferenceIdeal.Answer.out7 (m' ((c.tc : Thread Cert.ConvBwdReferenceIdeal.nD Cert.ConvBwdReferenceIdeal.τ).loc Cert.ConvBwdReferenceIdeal.main_arg1))
      (m' ((c.tc : Thread Cert.ConvBwdReferenceIdeal.nD Cert.ConvBwdReferenceIdeal.τ).loc Cert.ConvBwdReferenceIdeal.main_arg3))) rfl ?_
    rw [a1, a3]
    funext y
    rw [eq_ix3 y]
    exact Cert.ConvBwdReferenceIdeal.Answer.value7 _ _ _ _ _
  · refine Eq.trans (b := Cert.ConvBwdReferenceIdeal.Answer.out8 (Cert.ConvBwdReferenceIdeal.Answer.columns
      (m' ((c.tc : Thread Cert.ConvBwdReferenceIdeal.nD Cert.ConvBwdReferenceIdeal.τ).loc Cert.ConvBwdReferenceIdeal.main_arg0)))
      (m' ((c.tc : Thread Cert.ConvBwdReferenceIdeal.nD Cert.ConvBwdReferenceIdeal.τ).loc Cert.ConvBwdReferenceIdeal.main_arg3))) rfl ?_
    rw [a0, a3]
    funext y
    rw [eq_ix3 y]
    exact Cert.ConvBwdReferenceIdeal.Answer.value8 _ _ _ _ _

end Cert.ConvBwd.Answer

end
-- ==== Proof.lean ====
module

public import proofs.«01_k».proof.Defs
public import proofs.«01_k».proof.Proof.Final
public import proofs.«01_k».proof.Proof.RefRun
public import proofs.«01_k».proof.Proof.RefEnd
public import proofs.«01_k».proof.Proof.Gen.ReferenceIdeal.Step
public import proofs.«01_k».proof.Proof.Gen.KernelIdeal.Value
public import proofs.«01_k».proof.Proof.Gen.Kernel.Frame
public import Idealize.ShloMosaic.Lib.Quiescent
public import proofs.«01_k».proof.Proof.Gen.Mlp2Dx.Frame
public import proofs.«01_k».proof.Proof.Gen.Mlp2DxIdeal.Value
public import proofs.«01_k».proof.Proof.Gen.Mlp2DxReferenceIdeal.Run
public import proofs.«01_k».proof.Proof.Mlp2Dx
public import proofs.«01_k».proof.Proof.Gen.Mlp2Dw.Frame
public import proofs.«01_k».proof.Proof.Gen.Mlp2DwIdeal.Value
public import proofs.«01_k».proof.Proof.Gen.Mlp2DwReferenceIdeal.Run
public import proofs.«01_k».proof.Proof.Mlp2Dw
public import proofs.«01_k».proof.Proof.Gen.Mlp1Dx.Frame
public import proofs.«01_k».proof.Proof.Gen.Mlp1DxIdeal.Value
public import proofs.«01_k».proof.Proof.Gen.Mlp1DxReferenceIdeal.Run
public import proofs.«01_k».proof.Proof.Mlp1Dx
public import proofs.«01_k».proof.Proof.Gen.Mlp1Dw.Frame
public import proofs.«01_k».proof.Proof.Gen.Mlp1DwIdeal.Value
public import proofs.«01_k».proof.Proof.Gen.Mlp1DwReferenceIdeal.Run
public import proofs.«01_k».proof.Proof.Mlp1Dw
public import proofs.«01_k».proof.Proof.Gen.WInDx.Frame
public import proofs.«01_k».proof.Proof.Gen.WInDxIdeal.Value
public import proofs.«01_k».proof.Proof.Gen.WInDxReferenceIdeal.Run
public import proofs.«01_k».proof.Proof.WInDx
public import proofs.«01_k».proof.Proof.Gen.WInDw.Frame
public import proofs.«01_k».proof.Proof.Gen.WInDwIdeal.Value
public import proofs.«01_k».proof.Proof.Gen.WInDwReferenceIdeal.Run
public import proofs.«01_k».proof.Proof.WInDw
public import proofs.«01_k».proof.Proof.Gen.WOutDx.Frame
public import proofs.«01_k».proof.Proof.Gen.WOutDxIdeal.Value
public import proofs.«01_k».proof.Proof.Gen.WOutDxReferenceIdeal.Run
public import proofs.«01_k».proof.Proof.WOutDx
public import proofs.«01_k».proof.Proof.Gen.WOutDw.Frame
public import proofs.«01_k».proof.Proof.Gen.WOutDwIdeal.Value
public import proofs.«01_k».proof.Proof.Gen.WOutDwReferenceIdeal.Run
public import proofs.«01_k».proof.Proof.WOutDw
public import proofs.«01_k».proof.Proof.Gen.GluDw.Frame
public import proofs.«01_k».proof.Proof.Gen.GluDwIdeal.Value
public import proofs.«01_k».proof.Proof.Gen.GluDwReferenceIdeal.Run
public import proofs.«01_k».proof.Proof.GluDw
public import proofs.«01_k».proof.Proof.Gen.WIn.Frame
public import proofs.«01_k».proof.Proof.Gen.WInIdeal.Value
public import proofs.«01_k».proof.Proof.Gen.WInReferenceIdeal.Run
public import proofs.«01_k».proof.Proof.WIn
public import proofs.«01_k».proof.Proof.Gen.Glu.Frame
public import proofs.«01_k».proof.Proof.Gen.GluIdeal.Value
public import proofs.«01_k».proof.Proof.Gen.GluReferenceIdeal.Run
public import proofs.«01_k».proof.Proof.Glu
public import proofs.«01_k».proof.Proof.Gen.WOut.Frame
public import proofs.«01_k».proof.Proof.Gen.WOutIdeal.Value
public import proofs.«01_k».proof.Proof.Gen.WOutReferenceIdeal.Run
public import proofs.«01_k».proof.Proof.WOut
public import proofs.«01_k».proof.Proof.Gen.Mlp1.Frame
public import proofs.«01_k».proof.Proof.Gen.Mlp1Ideal.Value
public import proofs.«01_k».proof.Proof.Gen.Mlp1ReferenceIdeal.Run
public import proofs.«01_k».proof.Proof.Mlp1
public import proofs.«01_k».proof.Proof.Gen.Mlp2.Frame
public import proofs.«01_k».proof.Proof.Gen.Mlp2Ideal.Value
public import proofs.«01_k».proof.Proof.Gen.Mlp2ReferenceIdeal.Run
public import proofs.«01_k».proof.Proof.Mlp2
public import proofs.«01_k».proof.Proof.Gen.Conv.Frame
public import proofs.«01_k».proof.Proof.Gen.ConvIdeal.Value
public import proofs.«01_k».proof.Proof.Gen.ConvReferenceIdeal.Run
public import proofs.«01_k».proof.Proof.Conv
public import proofs.«01_k».proof.Proof.Gen.ConvBwd.Frame
public import proofs.«01_k».proof.Proof.Gen.ConvBwdIdeal.Value
public import proofs.«01_k».proof.Proof.Gen.ConvBwdReferenceIdeal.Run
public import proofs.«01_k».proof.Proof.ConvBwd

@[expose] public section

/-!
The five claims for each of the programs.
-/

noncomputable section

namespace Cert.Proof

open Idealize.ShloMosaic Idealize.ShloMosaic.TcCoe Idealize.SL.Sem

/-- The reference ends, changes no argument, and has no semaphore. -/
theorem frame_reference : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The state that the reference's loop leaves on a device, from its arguments. -/
abbrev refState (m : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  Cert.ReferenceIdeal.Trip.it
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10)) n

open Cert.KernelIdeal.Final Cert.ReferenceIdeal.Trip in
/-- From equal arguments the kernel and the reference end with equal results. -/
theorem algebraic : Cert.algebraic_KernelIdeal_ReferenceIdeal := by
  intro m g m' g' _ hagree
  refine ⟨res10 m, res11 m, res12 m, res13 m, res14 m, res15 m, res16 m, Cert.KernelIdeal.Final.run m g, ?_⟩
  refine (θ_run Cert.ReferenceIdeal.defs _ _).mono (fun r h c => ?_)
    (Cert.ReferenceIdeal.RefRun.run_iter m' g' (refState m') (fun _ => rfl) (fun _ _ => rfl))
  obtain ⟨r0, r1, r2, r3, r4, r5, r6, rest⟩ := h c
  obtain ⟨a0, a1, a2, a3, a4, a5, a6, a7, a8, a9, a10⟩ := hagree c
  refine ⟨r0.trans ?_, r1.trans ?_, r2.trans ?_, r3.trans ?_, r4.trans ?_, r5.trans ?_, r6.trans ?_, rest⟩
  all_goals
    unfold refState
    rw [a0, a2, a3, a7, a8, a9, a10]
  · rw [a4, a5, a6]
    funext y
    exact (congrArg _ (eq_ix3 y (y 0) (y 1) (y 2) rfl rfl rfl)).trans (val_du _ (m ((c.tc : Thread Cert.KernelIdeal.nD Cert.KernelIdeal.τ).loc Cert.KernelIdeal.main_arg1)) _ _ _ _ _ _ _ _ _ (y 0) (y 1) (y 2))
  · rw [a1]
    funext y
    exact (congrArg _ (eq_ix3 y (y 0) (y 1) (y 2) rfl rfl rfl)).trans (val_dtz _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))
  · rw [a1]
    funext y
    exact (congrArg _ (eq_ix3 y (y 0) (y 1) (y 2) rfl rfl rfl)).trans (val_dwf _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))
  · rw [a1]
    funext y
    exact (congrArg _ (eq_ix3 y (y 0) (y 1) (y 2) rfl rfl rfl)).trans (val_dwb _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))
  · funext y
    exact (congrArg _ (eq_ix3 y (y 0) (y 1) (y 2) rfl rfl rfl)).trans (val_dvf _ (m ((c.tc : Thread Cert.KernelIdeal.nD Cert.KernelIdeal.τ).loc Cert.KernelIdeal.main_arg1)) _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))
  · funext y
    exact (congrArg _ (eq_ix3 y (y 0) (y 1) (y 2) rfl rfl rfl)).trans (val_dvb _ (m ((c.tc : Thread Cert.KernelIdeal.nD Cert.KernelIdeal.τ).loc Cert.KernelIdeal.main_arg1)) _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))
  · funext y
    exact (congrArg _ (eq_ix3 y (y 0) (y 1) (y 2) rfl rfl rfl)).trans (val_dl _ (m ((c.tc : Thread Cert.KernelIdeal.nD Cert.KernelIdeal.τ).loc Cert.KernelIdeal.main_arg1)) _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _ _ (y 0) (y 1) (y 2))

/-- Every claim: the programs' side conditions, the frames, and for each kernel that it is its ideal program and computes
its reference's function. -/
theorem claim : Cert.Claim :=
  ⟨Cert.Kernel.Gen.facts, Cert.KernelIdeal.Gen.facts, Cert.ReferenceIdeal.Gen.facts,
    Cert.Mlp2Dx.Gen.facts, Cert.Mlp2DxIdeal.Gen.facts, Cert.Mlp2DxReferenceIdeal.Gen.facts,
    Cert.Mlp2Dw.Gen.facts, Cert.Mlp2DwIdeal.Gen.facts, Cert.Mlp2DwReferenceIdeal.Gen.facts,
    Cert.Mlp1Dx.Gen.facts, Cert.Mlp1DxIdeal.Gen.facts, Cert.Mlp1DxReferenceIdeal.Gen.facts,
    Cert.Mlp1Dw.Gen.facts, Cert.Mlp1DwIdeal.Gen.facts, Cert.Mlp1DwReferenceIdeal.Gen.facts,
    Cert.WInDx.Gen.facts, Cert.WInDxIdeal.Gen.facts, Cert.WInDxReferenceIdeal.Gen.facts,
    Cert.WInDw.Gen.facts, Cert.WInDwIdeal.Gen.facts, Cert.WInDwReferenceIdeal.Gen.facts,
    Cert.WOutDx.Gen.facts, Cert.WOutDxIdeal.Gen.facts, Cert.WOutDxReferenceIdeal.Gen.facts,
    Cert.WOutDw.Gen.facts, Cert.WOutDwIdeal.Gen.facts, Cert.WOutDwReferenceIdeal.Gen.facts,
    Cert.GluDw.Gen.facts, Cert.GluDwIdeal.Gen.facts, Cert.GluDwReferenceIdeal.Gen.facts,
    Cert.WIn.Gen.facts, Cert.WInIdeal.Gen.facts, Cert.WInReferenceIdeal.Gen.facts,
    Cert.Glu.Gen.facts, Cert.GluIdeal.Gen.facts, Cert.GluReferenceIdeal.Gen.facts,
    Cert.WOut.Gen.facts, Cert.WOutIdeal.Gen.facts, Cert.WOutReferenceIdeal.Gen.facts,
    Cert.Mlp1.Gen.facts, Cert.Mlp1Ideal.Gen.facts, Cert.Mlp1ReferenceIdeal.Gen.facts,
    Cert.Mlp2.Gen.facts, Cert.Mlp2Ideal.Gen.facts, Cert.Mlp2ReferenceIdeal.Gen.facts,
    Cert.Conv.Gen.facts, Cert.ConvIdeal.Gen.facts, Cert.ConvReferenceIdeal.Gen.facts,
    Cert.ConvBwd.Gen.facts, Cert.ConvBwdIdeal.Gen.facts, Cert.ConvBwdReferenceIdeal.Gen.facts,
    fun m ρ _ => Cert.Kernel.Gen.frame m ρ, fun m ρ _ => Cert.KernelIdeal.Gen.frame m ρ, frame_reference,
    fun m ρ _ => Cert.Mlp2Dx.Gen.frame m ρ, fun m ρ _ => Cert.Mlp2DxIdeal.Gen.frame m ρ, Cert.Mlp2Dx.Answer.frame_reference,
    fun m ρ _ => Cert.Mlp2Dw.Gen.frame m ρ, fun m ρ _ => Cert.Mlp2DwIdeal.Gen.frame m ρ, Cert.Mlp2Dw.Answer.frame_reference,
    fun m ρ _ => Cert.Mlp1Dx.Gen.frame m ρ, fun m ρ _ => Cert.Mlp1DxIdeal.Gen.frame m ρ, Cert.Mlp1Dx.Answer.frame_reference,
    fun m ρ _ => Cert.Mlp1Dw.Gen.frame m ρ, fun m ρ _ => Cert.Mlp1DwIdeal.Gen.frame m ρ, Cert.Mlp1Dw.Answer.frame_reference,
    fun m ρ _ => Cert.WInDx.Gen.frame m ρ, fun m ρ _ => Cert.WInDxIdeal.Gen.frame m ρ, Cert.WInDx.Answer.frame_reference,
    fun m ρ _ => Cert.WInDw.Gen.frame m ρ, fun m ρ _ => Cert.WInDwIdeal.Gen.frame m ρ, Cert.WInDw.Answer.frame_reference,
    fun m ρ _ => Cert.WOutDx.Gen.frame m ρ, fun m ρ _ => Cert.WOutDxIdeal.Gen.frame m ρ, Cert.WOutDx.Answer.frame_reference,
    fun m ρ _ => Cert.WOutDw.Gen.frame m ρ, fun m ρ _ => Cert.WOutDwIdeal.Gen.frame m ρ, Cert.WOutDw.Answer.frame_reference,
    fun m ρ _ => Cert.GluDw.Gen.frame m ρ, fun m ρ _ => Cert.GluDwIdeal.Gen.frame m ρ, Cert.GluDw.Answer.frame_reference,
    fun m ρ _ => Cert.WIn.Gen.frame m ρ, fun m ρ _ => Cert.WInIdeal.Gen.frame m ρ, Cert.WIn.Answer.frame_reference,
    fun m ρ _ => Cert.Glu.Gen.frame m ρ, fun m ρ _ => Cert.GluIdeal.Gen.frame m ρ, Cert.Glu.Answer.frame_reference,
    fun m ρ _ => Cert.WOut.Gen.frame m ρ, fun m ρ _ => Cert.WOutIdeal.Gen.frame m ρ, Cert.WOut.Answer.frame_reference,
    fun m ρ _ => Cert.Mlp1.Gen.frame m ρ, fun m ρ _ => Cert.Mlp1Ideal.Gen.frame m ρ, Cert.Mlp1.Answer.frame_reference,
    fun m ρ _ => Cert.Mlp2.Gen.frame m ρ, fun m ρ _ => Cert.Mlp2Ideal.Gen.frame m ρ, Cert.Mlp2.Answer.frame_reference,
    fun m ρ _ => Cert.Conv.Gen.frame m ρ, fun m ρ _ => Cert.ConvIdeal.Gen.frame m ρ, Cert.Conv.Answer.frame_reference,
    fun m ρ _ => Cert.ConvBwd.Gen.frame m ρ, fun m ρ _ => Cert.ConvBwdIdeal.Gen.frame m ρ, Cert.ConvBwd.Answer.frame_reference,
    trivial, algebraic,
    trivial, Cert.Mlp2Dx.Answer.algebraic,
    trivial, Cert.Mlp2Dw.Answer.algebraic,
    trivial, Cert.Mlp1Dx.Answer.algebraic,
    trivial, Cert.Mlp1Dw.Answer.algebraic,
    trivial, Cert.WInDx.Answer.algebraic,
    trivial, Cert.WInDw.Answer.algebraic,
    trivial, Cert.WOutDx.Answer.algebraic,
    trivial, Cert.WOutDw.Answer.algebraic,
    trivial, Cert.GluDw.Answer.algebraic,
    trivial, Cert.WIn.Answer.algebraic,
    trivial, Cert.Glu.Answer.algebraic,
    trivial, Cert.WOut.Answer.algebraic,
    trivial, Cert.Mlp1.Answer.algebraic,
    trivial, Cert.Mlp2.Answer.algebraic,
    trivial, Cert.Conv.Answer.algebraic,
    trivial, Cert.ConvBwd.Answer.algebraic⟩

end Cert.Proof

end
